-- ==== Defs.lean ====
def Pre_KernelIdeal [hPre_fits : Cert.Pre_fits.Facts] (m : (ℓ : Loc Cert.KernelIdeal.nD Cert.KernelIdeal.τ Cert.KernelIdeal.sig) → Buf (Elt Ideal) ℓ) : Prop :=
  ∀ c : Dev Cert.KernelIdeal.nD,
    (Cert.Pre_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fits [hPre_fits : Cert.Pre_fits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_KernelIdeal [hKernelIdeal : Cert.KernelIdeal.Facts] [hPre_fits : Cert.Pre_fits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_fits [hReferenceIdeal : Cert.ReferenceIdeal.Facts] [hPre_fits : Cert.Pre_fits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def algebraic_KernelIdeal_ReferenceIdeal [hKernelIdeal : Cert.KernelIdeal.Facts] [hReferenceIdeal : Cert.ReferenceIdeal.Facts] [hPre_fits : Cert.Pre_fits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_values) = v2 c
          ∧ r.2.mem ((c.tc : Thread Cert.ReferenceIdeal.nD Cert.ReferenceIdeal.τ).loc Cert.ReferenceIdeal.main_v24) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernelIdeal : Cert.KernelIdeal.Facts) (hReferenceIdeal : Cert.ReferenceIdeal.Facts) (hPre_fits : Cert.Pre_fits.Facts),
    quiescent_KernelIdeal (hKernelIdeal := hKernelIdeal) (hPre_fits := hPre_fits)
    ∧ quiescent_ReferenceIdeal (hReferenceIdeal := hReferenceIdeal)
    ∧ quiescent_ReferenceIdeal_pre_fits (hReferenceIdeal := hReferenceIdeal) (hPre_fits := hPre_fits)
    ∧ algebraic_KernelIdeal_ReferenceIdeal (hKernelIdeal := hKernelIdeal) (hReferenceIdeal := hReferenceIdeal) (hPre_fits := hPre_fits)
-- ==== Pre_fits.lean ====
abbrev S16x20000x80 : Shape := ⟨3, ![16, 20000, 80]⟩
abbrev S16x20000x4 : Shape := ⟨3, ![16, 20000, 4]⟩
abbrev S16x20000x17x2 : Shape := ⟨4, ![16, 20000, 17, 2]⟩
abbrev S_ : Shape := ⟨0, ![]⟩
abbrev S16 : Shape := ⟨1, ![16]⟩
abbrev S16x100000x16 : Shape := ⟨3, ![16, 100000, 16]⟩
abbrev S16x16 : Shape := ⟨2, ![16, 16]⟩
abbrev S16x20000 : Shape := ⟨2, ![16, 20000]⟩
abbrev S16x1250x16 : Shape := ⟨3, ![16, 1250, 16]⟩
abbrev S1x3x80 : Shape := ⟨3, ![1, 3, 80]⟩
abbrev S3x80 : Shape := ⟨2, ![3, 80]⟩
abbrev S1x19997x80 : Shape := ⟨3, ![1, 19997, 80]⟩
abbrev S19997x80 : Shape := ⟨2, ![19997, 80]⟩

class Facts : Prop where
  bcast_S_S16x20000x80 : S_.BroadcastsInDim S16x20000x80 (![] : Fin 0 → Fin S16x20000x80.rank)
  natLt_1_32 : 1 < 32
  reducesTo_S16x20000x80_S16_d1_2 : S16x20000x80.ReducesTo [1, 2] S16
  h_S_ : 0 < S_.numel
  shapeCasts_S16x20000x80_S16x100000x16 : S16x20000x80.ShapeCasts S16x100000x16
  reducesTo_S16x100000x16_S16x16_d1 : S16x100000x16.ReducesTo [1] S16x16
  reducesTo_S16x20000x80_S16x20000_d2 : S16x20000x80.ReducesTo [2] S16x20000
  shapeCasts_S16x20000_S16x1250x16 : S16x20000.ShapeCasts S16x1250x16
  reducesTo_S16x1250x16_S16x16_d1 : S16x1250x16.ReducesTo [1] S16x16
  slices_S16x20000x80_S1x3x80_15_19997_0 : S16x20000x80.Slices ![15, 19997, 0] S1x3x80
  shapeCasts_S1x3x80_S3x80 : S1x3x80.ShapeCasts S3x80
  reducesTo_S3x80_S_d0_1 : S3x80.ReducesTo [0, 1] S_
  slices_S16x20000x80_S1x19997x80_15_0_0 : S16x20000x80.Slices ![15, 0, 0] S1x19997x80
  shapeCasts_S1x19997x80_S19997x80 : S1x19997x80.ShapeCasts S19997x80
  bcast_S_S19997x80 : S_.BroadcastsInDim S19997x80 (![] : Fin 0 → Fin S19997x80.rank)
  reducesTo_S19997x80_S_d0_1 : S19997x80.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part1 {F : FTy → Type} [FloatOps F] (main_v3 : IVec S16 32) (main_v5 : IVec S16x16 32) (main_v8 : IVec S16x16 32) (main_v16 : IVec S19997x80 1) : IVec S_ 1 :=
  let main_v17 : IVec S19997x80 32 := (extui 32 · natLt_1_32) main_v16
  let main_c_5 : IVec S_ 32 := constantI S_ 32 0#32
  let main_v18 : IVec S_ 32 := (fun x v => Host.reduce IntOp.addi x v reducesTo_S19997x80_S_d0_1 h_S_) main_v17 main_c_5
  let main_c_6 : IVec S_ 32 := constantI S_ 32 300#32
  let main_v19 : IVec S16 32 := broadcastInDim S16 ![] bcast_S_S16 main_c_6
  let main_v20 : IVec S16 1 := cmpi .sge main_v3 main_v19
  let main_c_7 : IVec S_ 1 := constantI S_ 1 1#1
  let main_v21 : IVec S_ 1 := (fun x v => Host.reduce IntOp.andi x v reducesTo_S16_S_d0 h_S_) main_v20 main_c_7
  let main_c_8 : IVec S_ 32 := constantI S_ 32 128#32
  let main_v22 : IVec S16x16 32 := broadcastInDim S16x16 ![] bcast_S_S16x16 main_c_8
  let main_v23 : IVec S16x16 1 := cmpi .sle main_v5 main_v22
  let main_c_9 : IVec S_ 1 := constantI S_ 1 1#1
  let main_v24 : IVec S_ 1 := (fun x v => Host.reduce IntOp.andi x v reducesTo_S16x16_S_d0_1 h_S_) main_v23 main_c_9
  let main_v25 : IVec S_ 1 := andi main_v21 main_v24
  let main_c_10 : IVec S_ 32 := constantI S_ 32 128#32
  let main_v26 : IVec S16x16 32 := broadcastInDim S16x16 ![] bcast_S_S16x16 main_c_10
  let main_v27 : IVec S16x16 1 := cmpi .sle main_v8 main_v26
  let main_c_11 : IVec S_ 1 := constantI S_ 1 1#1
  let main_v28 : IVec S_ 1 := (fun x v => Host.reduce IntOp.andi x v reducesTo_S16x16_S_d0_1 h_S_) main_v27 main_c_11
  let main_v29 : IVec S_ 1 := andi main_v25 main_v28
  let main_c_12 : IVec S_ 32 := constantI S_ 32 384#32
  let main_v30 : IVec S_ 1 := cmpi .sge main_v18 main_c_12
  let main_v31 : IVec S_ 1 := andi main_v29 main_v30
  main_v31

def fn {F : FTy → Type} [FloatOps F] (main_arg0 : FVec F S16x20000x80 .f32) (main_arg1 : FVec F S16x20000x4 .f32) (main_arg2 : FVec F S16x20000x17x2 .f32) : IVec S_ 1 :=
  let main_cst : FVec F S_ .f32 := constant S_ .f32 0x4059999A#32
  let main_v0 : FVec F S16x20000x80 .f32 := broadcastInDim S16x20000x80 ![] bcast_S_S16x20000x80 main_cst
  let main_v1 : IVec S16x20000x80 1 := cmpf .oge main_arg0 main_v0
  let main_v2 : IVec S16x20000x80 32 := (extui 32 · natLt_1_32) main_v1
  let main_c : IVec S_ 32 := constantI S_ 32 0#32
  let main_v3 : IVec S16 32 := (fun x v => Host.reduce IntOp.addi x v reducesTo_S16x20000x80_S16_d1_2 h_S_) main_v2 main_c
  let main_v4 : IVec S16x100000x16 32 := shapeCast S16x100000x16 main_v2 shapeCasts_S16x20000x80_S16x100000x16
  let main_c_0 : IVec S_ 32 := constantI S_ 32 0#32
  let main_v5 : IVec S16x16 32 := (fun x v => Host.reduce IntOp.addi x v reducesTo_S16x100000x16_S16x16_d1 h_S_) main_v4 main_c_0
  let main_c_1 : IVec S_ 32 := constantI S_ 32 2147483648#32
  let main_v6 : IVec S16x20000 32 := (fun x v => Host.reduce IntOp.maxsi x v reducesTo_S16x20000x80_S16x20000_d2 h_S_) main_v2 main_c_1
  let main_v7 : IVec S16x1250x16 32 := shapeCast S16x1250x16 main_v6 shapeCasts_S16x20000_S16x1250x16
  let main_c_2 : IVec S_ 32 := constantI S_ 32 0#32
  let main_v8 : IVec S16x16 32 := (fun x v => Host.reduce IntOp.addi x v reducesTo_S16x1250x16_S16x16_d1 h_S_) main_v7 main_c_2
  let main_v9 : FVec F S1x3x80 .f32 := (extractStridedSlice S1x3x80 ![15, 19997, 0] · slices_S16x20000x80_S1x3x80_15_19997_0) main_arg0
  let main_v10 : FVec F S3x80 .f32 := shapeCast S3x80 main_v9 shapeCasts_S1x3x80_S3x80
  let main_cst_3 : FVec F S_ .f32 := constant S_ .f32 0xFF800000#32
  let main_v11 : FVec F S_ .f32 := (fun x v => Host.reduce FloatOps.maximumf x v reducesTo_S3x80_S_d0_1 h_S_) main_v10 main_cst_3
  let main_cst_4 : FVec F S_ .f32 := constant S_ .f32 0x4059999A#32
  let main_v12 : FVec F S_ .f32 := maximumf main_v11 main_cst_4
  let main_v13 : FVec F S1x19997x80 .f32 := (extractStridedSlice S1x19997x80 ![15, 0, 0] · slices_S16x20000x80_S1x19997x80_15_0_0) main_arg0
  let main_v14 : FVec F S19997x80 .f32 := shapeCast S19997x80 main_v13 shapeCasts_S1x19997x80_S19997x80
  let main_v15 : FVec F S19997x80 .f32 := broadcastInDim S19997x80 ![] bcast_S_S19997x80 main_v12
  let main_v16 : IVec S19997x80 1 := cmpf .oge main_v14 main_v15
  fn_part1 (F := F) main_v3 main_v5 main_v8 main_v16
-- ==== KernelIdeal.lean ====
abbrev S16x20000x80 : Shape := ⟨3, ![16, 20000, 80]⟩
abbrev S16x20000x4 : Shape := ⟨3, ![16, 20000, 4]⟩
abbrev S16x20000x17x2 : Shape := ⟨4, ![16, 20000, 17, 2]⟩
abbrev S16x20000x128 : Shape := ⟨3, ![16, 20000, 128]⟩
abbrev S16x160x128 : Shape := ⟨3, ![16, 160, 128]⟩
abbrev S1x20000x80 : Shape := ⟨3, ![1, 20000, 80]⟩
abbrev S1x20000x128 : Shape := ⟨3, ![1, 20000, 128]⟩
abbrev S1x160x128 : Shape := ⟨3, ![1, 160, 128]⟩
abbrev S20000x80 : Shape := ⟨2, ![20000, 80]⟩
abbrev S20000 : Shape := ⟨1, ![20000]⟩
abbrev S480 : Shape := ⟨1, ![480]⟩
abbrev S20480 : Shape := ⟨1, ![20480]⟩
abbrev S160x128 : Shape := ⟨2, ![160, 128]⟩
abbrev S10000x128 : Shape := ⟨2, ![10000, 128]⟩
abbrev S1x400x17x2 : Shape := ⟨4, ![1, 400, 17, 2]⟩
abbrev S85000x128 : Shape := ⟨2, ![85000, 128]⟩
abbrev S16x384 : Shape := ⟨2, ![16, 384]⟩
abbrev S16x1536 : Shape := ⟨2, ![16, 1536]⟩
abbrev S16x13056 : Shape := ⟨2, ![16, 13056]⟩
abbrev S2064 : Shape := ⟨1, ![2064]⟩
abbrev S16 : Shape := ⟨1, ![16]⟩
abbrev S2048 : Shape := ⟨1, ![2048]⟩
abbrev S128x128 : Shape := ⟨2, ![128, 128]⟩
abbrev S384 : Shape := ⟨1, ![384]⟩
abbrev S768 : Shape := ⟨1, ![768]⟩
abbrev S1536 : Shape := ⟨1, ![1536]⟩
abbrev S13056 : Shape := ⟨1, ![13056]⟩
abbrev S_ : Shape := ⟨0, ![]⟩
abbrev S1x16 : Shape := ⟨2, ![1, 16]⟩
abbrev S1 : Shape := ⟨1, ![1]⟩
abbrev S128 : Shape := ⟨1, ![128]⟩
abbrev S20000x128 : Shape := ⟨2, ![20000, 128]⟩
abbrev S1x384 : Shape := ⟨2, ![1, 384]⟩
abbrev S1x1536 : Shape := ⟨2, ![1, 1536]⟩
abbrev S1x13056 : Shape := ⟨2, ![1, 13056]⟩
abbrev S16x300 : Shape := ⟨2, ![16, 300]⟩
abbrev S16x1200 : Shape := ⟨2, ![16, 1200]⟩
abbrev S16x300x4 : Shape := ⟨3, ![16, 300, 4]⟩
abbrev S16x10200 : Shape := ⟨2, ![16, 10200]⟩
abbrev S16x300x17x2 : Shape := ⟨4, ![16, 300, 17, 2]⟩

abbrev nBuf : Table → Nat
  | .hbm => 18
  | .local .tc .vmem => 10
  | .local .scVector .vmem => 13
  | _ => 0

abbrev bufTy : (tb : Table) → Fin (nBuf tb) → BufTy
  | .hbm, ⟨0, _⟩ => ⟨S16x20000x80, .f32⟩
  | .hbm, ⟨1, _⟩ => ⟨S16x20000x4, .f32⟩
  | .hbm, ⟨2, _⟩ => ⟨S16x20000x17x2, .f32⟩
  | .hbm, ⟨3, _⟩ => ⟨S16x20000x128, .f32⟩
  | .hbm, ⟨4, _⟩ => ⟨S16x160x128, .f32⟩
  | .hbm, ⟨5, _⟩ => ⟨S10000x128, .f32⟩
  | .hbm, ⟨6, _⟩ => ⟨S16x20000x17x2, .f32⟩
  | .hbm, ⟨7, _⟩ => ⟨S85000x128, .f32⟩
  | .hbm, ⟨8, _⟩ => ⟨S16x384, .i32⟩
  | .hbm, ⟨9, _⟩ => ⟨S16x1536, .f32⟩
  | .hbm, ⟨10, _⟩ => ⟨S16x384, .f32⟩
  | .hbm, ⟨11, _⟩ => ⟨S16x13056, .f32⟩
  | .hbm, ⟨12, _⟩ => ⟨S16x300, .i32⟩
  | .hbm, ⟨13, _⟩ => ⟨S16x1200, .f32⟩
  | .hbm, ⟨14, _⟩ => ⟨S16x300x4, .f32⟩
  | .hbm, ⟨15, _⟩ => ⟨S16x300, .f32⟩
  | .hbm, ⟨16, _⟩ => ⟨S16x10200, .f32⟩
  | .hbm, ⟨17, _⟩ => ⟨S16x300x17x2, .f32⟩
  | .local .tc .vmem, ⟨0, _⟩ => ⟨S1x20000x80, .f32⟩
  | .local .tc .vmem, ⟨1, _⟩ => ⟨S1x20000x80, .f32⟩
  | .local .tc .vmem, ⟨2, _⟩ => ⟨S1x20000x128, .f32⟩
  | .local .tc .vmem, ⟨3, _⟩ => ⟨S1x20000x128, .f32⟩
  | .local .tc .vmem, ⟨4, _⟩ => ⟨S1x160x128, .f32⟩
  | .local .tc .vmem, ⟨5, _⟩ => ⟨S1x160x128, .f32⟩
  | .local .tc .vmem, ⟨6, _⟩ => ⟨S1x400x17x2, .f32⟩
  | .local .tc .vmem, ⟨7, _⟩ => ⟨S1x400x17x2, .f32⟩
  | .local .tc .vmem, ⟨8, _⟩ => ⟨S1x400x17x2, .f32⟩
  | .local .tc .vmem, ⟨9, _⟩ => ⟨S1x400x17x2, .f32⟩
  | .local .scVector .vmem, ⟨0, _⟩ => ⟨S160x128, .f32⟩
  | .local .scVector .vmem, ⟨1, _⟩ => ⟨S2064, .i32⟩
  | .local .scVector .vmem, ⟨2, _⟩ => ⟨S16, .i32⟩
  | .local .scVector .vmem, ⟨3, _⟩ => ⟨S2048, .i32⟩
  | .local .scVector .vmem, ⟨4, _⟩ => ⟨S128x128, .f32⟩
  | .local .scVector .vmem, ⟨5, _⟩ => ⟨S2064, .f32⟩
  | .local .scVector .vmem, ⟨6, _⟩ => ⟨S2064, .i32⟩
  | .local .scVector .vmem, ⟨7, _⟩ => ⟨S384, .i32⟩
  | .local .scVector .vmem, ⟨8, _⟩ => ⟨S384, .i32⟩
  | .local .scVector .vmem, ⟨9, _⟩ => ⟨S384, .i32⟩
  | .local .scVector .vmem, ⟨10, _⟩ => ⟨S768, .i32⟩
  | .local .scVector .vmem, ⟨11, _⟩ => ⟨S1536, .f32⟩
  | .local .scVector .vmem, ⟨12, _⟩ => ⟨S13056, .f32⟩
  | _, _ => ⟨S16x20000x80, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | ⟨13, _⟩ => false
  | ⟨14, _⟩ => false
  | ⟨15, _⟩ => false
  | ⟨16, _⟩ => false
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v0_0_scv : Ref sig .scVector := ⟨.hbm, 3, rfl⟩
abbrev main_v0_1_scv : Ref sig .scVector := ⟨.hbm, 4, rfl⟩
abbrev main_v1_scv : Ref sig .scVector := ⟨.hbm, 5, rfl⟩
abbrev main_v3_scv : Ref sig .scVector := ⟨.hbm, 7, rfl⟩
abbrev main_v4_0_scv : Ref sig .scVector := ⟨.hbm, 8, rfl⟩
abbrev main_v4_1_scv : Ref sig .scVector := ⟨.hbm, 9, rfl⟩
abbrev main_v4_2_scv : Ref sig .scVector := ⟨.hbm, 10, rfl⟩
abbrev main_v4_3_scv : Ref sig .scVector := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc2_scratch3 : Ref sig .scVector := ⟨.vmem, 3, rfl⟩
abbrev cc2_scratch4 : Ref sig .scVector := ⟨.vmem, 4, rfl⟩
abbrev cc2_scratch5 : Ref sig .scVector := ⟨.vmem, 5, rfl⟩
abbrev cc2_scratch6 : Ref sig .scVector := ⟨.vmem, 6, rfl⟩
abbrev cc2_scratch7 : Ref sig .scVector := ⟨.vmem, 7, rfl⟩
abbrev cc2_scratch8 : Ref sig .scVector := ⟨.vmem, 8, rfl⟩
abbrev cc2_scratch9 : Ref sig .scVector := ⟨.vmem, 9, rfl⟩
abbrev cc2_scratch10 : Ref sig .scVector := ⟨.vmem, 10, rfl⟩
abbrev cc2_scratch11 : Ref sig .scVector := ⟨.vmem, 11, rfl⟩
abbrev cc2_scratch12 : Ref sig .scVector := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x20000x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x20000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x160x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 50], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x400x17x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x400x17x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev grid2 : Pipeline.Grid := ⟨2, ![2, 16], ![false, false]⟩

def k2_cond1 (i : grid2.Coords) : BitVec 1 :=
  let arg0 : BitVec 32 := BitVec.ofNat 32 (i 0).val
  let c0_i32_0 : BitVec 32 := 0#32
  let v5 : BitVec 1 := Scalar.cmpi .eq arg0 c0_i32_0
  let v6 : BitVec 32 := Scalar.extui v5
  let c0_i32_1 : BitVec 32 := 0#32
  let v7 : BitVec 1 := Scalar.cmpi .ne v6 c0_i32_1
  v7

def k2_off1 (i : grid2.Coords) : Fin 3 → Nat :=
  let arg1 : BitVec 32 := BitVec.ofNat 32 (i 1).val
  let c0_i32_1228_r0 : BitVec 32 := 0#32
  let c0_i32_1229_r0 : BitVec 32 := 0#32
  ![arg1.toNat, 0, 0]
@[reducible] def k2_t1_loop : Scf.Loop 32 :=
  let c0_i32_2 : BitVec 32 := 0#32
  let c160_i32 : BitVec 32 := 160#32
  let v136 : BitVec 32 := Scalar.addi c0_i32_2 c160_i32
  let c1_i32_3 : BitVec 32 := 1#32
  ⟨c0_i32_2, v136, c1_i32_3⟩
def k2_off2 (k2_t1 : Fin k2_t1_loop.trips) : Fin 2 → Nat :=
  let c0_i32_2 : BitVec 32 := 0#32
  let c1_i32_3 : BitVec 32 := 1#32
  let arg25 : BitVec 32 := Scf.iv c0_i32_2 c1_i32_3 k2_t1
  let v1904 : Index := Scalar.indexCast arg25
  let c0_1228 : Index := 0#32
  ![v1904.toNat, 0]

def k2_chk1 (i : grid2.Coords) (v1916 : IVec S16 32) : Prop :=
  (∀ (k2_h1 : k2_cond1 i = 1#1), ∀ a x, ((![v1916] : Fin 1 → IVec S16 32) a x).toNat < S2064.size a)
theorem k2_idx1_inb : ∀ (i : grid2.Coords) (v1916 : IVec S16 32) (k2_hw1 : k2_chk1 i v1916), ∀ (k2_h1 : k2_cond1 i = 1#1), ∀ a x, ((![v1916] : Fin 1 → IVec S16 32) a x).toNat < S2064.size a := fun i v1916 k2_hw1 k2_h1 => k2_hw1 k2_h1
def k2_off3 (k2_t1 : Fin k2_t1_loop.trips) : Fin 2 → Nat :=
  let c0_i32_2 : BitVec 32 := 0#32
  let c1_i32_3 : BitVec 32 := 1#32
  let arg25 : BitVec 32 := Scf.iv c0_i32_2 c1_i32_3 k2_t1
  let v1923 : Index := Scalar.indexCast arg25
  let c16_1234 : Index := 16#32
  ![v1923.toNat, 16]

def k2_chk2 (i : grid2.Coords) (v1935 : IVec S16 32) : Prop :=
  (∀ (k2_h1 : k2_cond1 i = 1#1), ∀ a x, ((![v1935] : Fin 1 → IVec S16 32) a x).toNat < S2064.size a)
theorem k2_idx2_inb : ∀ (i : grid2.Coords) (v1935 : IVec S16 32) (k2_hw2 : k2_chk2 i v1935), ∀ (k2_h1 : k2_cond1 i = 1#1), ∀ a x, ((![v1935] : Fin 1 → IVec S16 32) a x).toNat < S2064.size a := fun i v1935 k2_hw2 k2_h1 => k2_hw2 k2_h1
def k2_off4 (k2_t1 : Fin k2_t1_loop.trips) : Fin 2 → Nat :=
  let c0_i32_2 : BitVec 32 := 0#32
  let c1_i32_3 : BitVec 32 := 1#32
  let arg25 : BitVec 32 := Scf.iv c0_i32_2 c1_i32_3 k2_t1
  let v1942 : Index := Scalar.indexCast arg25
  let c32_1241 : Index := 32#32
  ![v1942.toNat, 32]

def k2_chk3 (i : grid2.Coords) (v1954 : IVec S16 32) : Prop :=
  (∀ (k2_h1 : k2_cond1 i = 1#1), ∀ a x, ((![v1954] : Fin 1 → IVec S16 32) a x).toNat < S2064.size a)
theorem k2_idx3_inb : ∀ (i : grid2.Coords) (v1954 : IVec S16 32) (k2_hw3 : k2_chk3 i v1954), ∀ (k2_h1 : k2_cond1 i = 1#1), ∀ a x, ((![v1954] : Fin 1 → IVec S16 32) a x).toNat < S2064.size a := fun i v1954 k2_hw3 k2_h1 => k2_hw3 k2_h1
def k2_off5 (k2_t1 : Fin k2_t1_loop.trips) : Fin 2 → Nat :=
  let c0_i32_2 : BitVec 32 := 0#32
  let c1_i32_3 : BitVec 32 := 1#32
  let arg25 : BitVec 32 := Scf.iv c0_i32_2 c1_i32_3 k2_t1
  let v1961 : Index := Scalar.indexCast arg25
  let c48_1248 : Index := 48#32
  ![v1961.toNat, 48]

def k2_chk4 (i : grid2.Coords) (v1973 : IVec S16 32) : Prop :=
  (∀ (k2_h1 : k2_cond1 i = 1#1), ∀ a x, ((![v1973] : Fin 1 → IVec S16 32) a x).toNat < S2064.size a)
theorem k2_idx4_inb : ∀ (i : grid2.Coords) (v1973 : IVec S16 32) (k2_hw4 : k2_chk4 i v1973), ∀ (k2_h1 : k2_cond1 i = 1#1), ∀ a x, ((![v1973] : Fin 1 → IVec S16 32) a x).toNat < S2064.size a := fun i v1973 k2_hw4 k2_h1 => k2_hw4 k2_h1
def k2_off6 (k2_t1 : Fin k2_t1_loop.trips) : Fin 2 → Nat :=
  let c0_i32_2 : BitVec 32 := 0#32
  let c1_i32_3 : BitVec 32 := 1#32
  let arg25 : BitVec 32 := Scf.iv c0_i32_2 c1_i32_3 k2_t1
  let v1980 : Index := Scalar.indexCast arg25
  let c64_1255 : Index := 64#32
  ![v1980.toNat, 64]

def k2_chk5 (i : grid2.Coords) (v1992 : IVec S16 32) : Prop :=
  (∀ (k2_h1 : k2_cond1 i = 1#1), ∀ a x, ((![v1992] : Fin 1 → IVec S16 32) a x).toNat < S2064.size a)
theorem k2_idx5_inb : ∀ (i : grid2.Coords) (v1992 : IVec S16 32) (k2_hw5 : k2_chk5 i v1992), ∀ (k2_h1 : k2_cond1 i = 1#1), ∀ a x, ((![v1992] : Fin 1 → IVec S16 32) a x).toNat < S2064.size a := fun i v1992 k2_hw5 k2_h1 => k2_hw5 k2_h1
def k2_off7 (k2_t1 : Fin k2_t1_loop.trips) : Fin 2 → Nat :=
  let c0_i32_2 : BitVec 32 := 0#32
  let c1_i32_3 : BitVec 32 := 1#32
  let arg25 : BitVec 32 := Scf.iv c0_i32_2 c1_i32_3 k2_t1
  let v1999 : Index := Scalar.indexCast arg25
  let c80_1262 : Index := 80#32
  ![v1999.toNat, 80]

def k2_chk6 (i : grid2.Coords) (v2011 : IVec S16 32) : Prop :=
  (∀ (k2_h1 : k2_cond1 i = 1#1), ∀ a x, ((![v2011] : Fin 1 → IVec S16 32) a x).toNat < S2064.size a)
theorem k2_idx6_inb : ∀ (i : grid2.Coords) (v2011 : IVec S16 32) (k2_hw6 : k2_chk6 i v2011), ∀ (k2_h1 : k2_cond1 i = 1#1), ∀ a x, ((![v2011] : Fin 1 → IVec S16 32) a x).toNat < S2064.size a := fun i v2011 k2_hw6 k2_h1 => k2_hw6 k2_h1
def k2_off8 (k2_t1 : Fin k2_t1_loop.trips) : Fin 2 → Nat :=
  let c0_i32_2 : BitVec 32 := 0#32
  let c1_i32_3 : BitVec 32 := 1#32
  let arg25 : BitVec 32 := Scf.iv c0_i32_2 c1_i32_3 k2_t1
  let v2018 : Index := Scalar.indexCast arg25
  let c96_1269 : Index := 96#32
  ![v2018.toNat, 96]

def k2_chk7 (i : grid2.Coords) (v2030 : IVec S16 32) : Prop :=
  (∀ (k2_h1 : k2_cond1 i = 1#1), ∀ a x, ((![v2030] : Fin 1 → IVec S16 32) a x).toNat < S2064.size a)
theorem k2_idx7_inb : ∀ (i : grid2.Coords) (v2030 : IVec S16 32) (k2_hw7 : k2_chk7 i v2030), ∀ (k2_h1 : k2_cond1 i = 1#1), ∀ a x, ((![v2030] : Fin 1 → IVec S16 32) a x).toNat < S2064.size a := fun i v2030 k2_hw7 k2_h1 => k2_hw7 k2_h1
def k2_off9 (k2_t1 : Fin k2_t1_loop.trips) : Fin 2 → Nat :=
  let c0_i32_2 : BitVec 32 := 0#32
  let c1_i32_3 : BitVec 32 := 1#32
  let arg25 : BitVec 32 := Scf.iv c0_i32_2 c1_i32_3 k2_t1
  let v2037 : Index := Scalar.indexCast arg25
  let c112_1276 : Index := 112#32
  ![v2037.toNat, 112]

def k2_chk8 (i : grid2.Coords) (v2049 : IVec S16 32) : Prop :=
  (∀ (k2_h1 : k2_cond1 i = 1#1), ∀ a x, ((![v2049] : Fin 1 → IVec S16 32) a x).toNat < S2064.size a)
theorem k2_idx8_inb : ∀ (i : grid2.Coords) (v2049 : IVec S16 32) (k2_hw8 : k2_chk8 i v2049), ∀ (k2_h1 : k2_cond1 i = 1#1), ∀ a x, ((![v2049] : Fin 1 → IVec S16 32) a x).toNat < S2064.size a := fun i v2049 k2_hw8 k2_h1 => k2_hw8 k2_h1

def k2_chk9 (i : grid2.Coords) (v654 : IVec S16 32) : Prop :=
  (∀ (k2_h1 : k2_cond1 i = 1#1), ∀ a x, ((![v654] : Fin 1 → IVec S16 32) a x).toNat < S16.size a)
theorem k2_idx9_inb : ∀ (i : grid2.Coords) (v654 : IVec S16 32) (k2_hw9 : k2_chk9 i v654), ∀ (k2_h1 : k2_cond1 i = 1#1), ∀ a x, ((![v654] : Fin 1 → IVec S16 32) a x).toNat < S16.size a := fun i v654 k2_hw9 k2_h1 => k2_hw9 k2_h1

def k2_chk10 (i : grid2.Coords) (v661 : IVec S16 32) : Prop :=
  (∀ (k2_h1 : k2_cond1 i = 1#1), ∀ a x, ((![v661] : Fin 1 → IVec S16 32) a x).toNat < S16.size a)
theorem k2_idx10_inb : ∀ (i : grid2.Coords) (v661 : IVec S16 32) (k2_hw10 : k2_chk10 i v661), ∀ (k2_h1 : k2_cond1 i = 1#1), ∀ a x, ((![v661] : Fin 1 → IVec S16 32) a x).toNat < S16.size a := fun i v661 k2_hw10 k2_h1 => k2_hw10 k2_h1

def k2_chk11 (i : grid2.Coords) (v668 : IVec S16 32) : Prop :=
  (∀ (k2_h1 : k2_cond1 i = 1#1), ∀ a x, ((![v668] : Fin 1 → IVec S16 32) a x).toNat < S16.size a)
theorem k2_idx11_inb : ∀ (i : grid2.Coords) (v668 : IVec S16 32) (k2_hw11 : k2_chk11 i v668), ∀ (k2_h1 : k2_cond1 i = 1#1), ∀ a x, ((![v668] : Fin 1 → IVec S16 32) a x).toNat < S16.size a := fun i v668 k2_hw11 k2_h1 => k2_hw11 k2_h1

def k2_chk12 (i : grid2.Coords) (v675 : IVec S16 32) : Prop :=
  (∀ (k2_h1 : k2_cond1 i = 1#1), ∀ a x, ((![v675] : Fin 1 → IVec S16 32) a x).toNat < S16.size a)
theorem k2_idx12_inb : ∀ (i : grid2.Coords) (v675 : IVec S16 32) (k2_hw12 : k2_chk12 i v675), ∀ (k2_h1 : k2_cond1 i = 1#1), ∀ a x, ((![v675] : Fin 1 → IVec S16 32) a x).toNat < S16.size a := fun i v675 k2_hw12 k2_h1 => k2_hw12 k2_h1
@[reducible] def k2_t2_loop (v681 : BitVec 32) : Scf.Loop 32 :=
  let c0_i32_409 : BitVec 32 := 0#32
  let c7_i32_149 : BitVec 32 := 7#32
  let v682 : BitVec 32 := Scalar.addi v681 c7_i32_149
  let c3_i32_150 : BitVec 32 := 3#32
  let v683 : BitVec 32 := Scalar.shrsi v682 c3_i32_150
  let c16_i32_151 : BitVec 32 := 16#32
  let v684 : BitVec 32 := Scalar.minsi v683 c16_i32_151
  let v946 : BitVec 32 := Scalar.subi v684 c0_i32_409
  let c1_i32_410 : BitVec 32 := 1#32
  let v948 : BitVec 32 := Scalar.divsi v946 c1_i32_410
  let v949 : BitVec 32 := Scalar.muli v948 c1_i32_410
  let v950 : BitVec 32 := Scalar.addi c0_i32_409 v949
  let c1_i32_411 : BitVec 32 := 1#32
  ⟨c0_i32_409, v950, c1_i32_411⟩

def k2_off10 (v681 : BitVec 32) (k2_t2 : Fin (k2_t2_loop v681).trips) : Fin 1 → Nat :=
  let c0_i32_409 : BitVec 32 := 0#32
  let c1_i32_411 : BitVec 32 := 1#32
  let arg25 : BitVec 32 := Scf.iv c0_i32_409 c1_i32_411 k2_t2
  let c128_i32_1228 : BitVec 32 := 128#32
  let v1904 : BitVec 32 := Scalar.muli arg25 c128_i32_1228
  ![v1904.toNat]
def k2_off11 (i : grid2.Coords) : Fin 3 → Nat :=
  let arg1 : BitVec 32 := BitVec.ofNat 32 (i 1).val
  let c0_i32_1229 : BitVec 32 := 0#32
  let c0_i32_1230 : BitVec 32 := 0#32
  ![arg1.toNat, 0, 0]
@[reducible] def k2_t3_loop : Scf.Loop 32 :=
  let c0_i32_1237 : BitVec 32 := 0#32
  let c128_i32_1238 : BitVec 32 := 128#32
  let v1913 : BitVec 32 := Scalar.addi c0_i32_1237 c128_i32_1238
  let c1_i32_1239 : BitVec 32 := 1#32
  ⟨c0_i32_1237, v1913, c1_i32_1239⟩

def k2_chk14 (i : grid2.Coords) (v1918 : IVec S16 32) : Prop :=
  (∀ (k2_h1 : k2_cond1 i = 1#1), ∀ a x, ((![v1918] : Fin 1 → IVec S16 32) a x).toNat < S2064.size a) ∧
  (∀ (k2_h1 : k2_cond1 i = 1#1), ∀ a x, ((![v1918] : Fin 1 → IVec S16 32) a x).toNat < S2048.size a)
theorem k2_idx13_inb : ∀ (i : grid2.Coords) (v1918 : IVec S16 32) (k2_hw14 : k2_chk14 i v1918), ∀ (k2_h1 : k2_cond1 i = 1#1), ∀ a x, ((![v1918] : Fin 1 → IVec S16 32) a x).toNat < S2064.size a := fun i v1918 k2_hw14 k2_h1 => k2_hw14.1 k2_h1
theorem k2_idx14_inb : ∀ (i : grid2.Coords) (v1918 : IVec S16 32) (k2_hw14 : k2_chk14 i v1918), ∀ (k2_h1 : k2_cond1 i = 1#1), ∀ a x, ((![v1918] : Fin 1 → IVec S16 32) a x).toNat < S2048.size a := fun i v1918 k2_hw14 k2_h1 => k2_hw14.2 k2_h1
def k2_off12 (k2_t3 : Fin k2_t3_loop.trips) : Fin 2 → Nat :=
  let c0_i32_1237 : BitVec 32 := 0#32
  let c1_i32_1239 : BitVec 32 := 1#32
  let arg27 : BitVec 32 := Scf.iv c0_i32_1237 c1_i32_1239 k2_t3
  let v1925 : Index := Scalar.indexCast arg27
  let c0_1244 : Index := 0#32
  ![v1925.toNat, 0]

def k2_chk15 (i : grid2.Coords) (v1945 : IVec S16 32) : Prop :=
  (∀ (k2_h1 : k2_cond1 i = 1#1), ∀ a x, ((![v1945] : Fin 1 → IVec S16 32) a x).toNat < S2064.size a) ∧
  (∀ (k2_h1 : k2_cond1 i = 1#1), ∀ a x, ((![v1945] : Fin 1 → IVec S16 32) a x).toNat < S2064.size a)
theorem k2_idx15_inb : ∀ (i : grid2.Coords) (v1945 : IVec S16 32) (k2_hw15 : k2_chk15 i v1945), ∀ (k2_h1 : k2_cond1 i = 1#1), ∀ a x, ((![v1945] : Fin 1 → IVec S16 32) a x).toNat < S2064.size a := fun i v1945 k2_hw15 k2_h1 => k2_hw15.1 k2_h1
theorem k2_idx16_inb : ∀ (i : grid2.Coords) (v1945 : IVec S16 32) (k2_hw15 : k2_chk15 i v1945), ∀ (k2_h1 : k2_cond1 i = 1#1), ∀ a x, ((![v1945] : Fin 1 → IVec S16 32) a x).toNat < S2064.size a := fun i v1945 k2_hw15 k2_h1 => k2_hw15.2 k2_h1
def k2_off13 (k2_t3 : Fin k2_t3_loop.trips) : Fin 2 → Nat :=
  let c0_i32_1237 : BitVec 32 := 0#32
  let c1_i32_1239 : BitVec 32 := 1#32
  let arg27 : BitVec 32 := Scf.iv c0_i32_1237 c1_i32_1239 k2_t3
  let v1951 : Index := Scalar.indexCast arg27
  let c16_1252 : Index := 16#32
  ![v1951.toNat, 16]

def k2_chk16 (i : grid2.Coords) (v1971 : IVec S16 32) : Prop :=
  (∀ (k2_h1 : k2_cond1 i = 1#1), ∀ a x, ((![v1971] : Fin 1 → IVec S16 32) a x).toNat < S2064.size a) ∧
  (∀ (k2_h1 : k2_cond1 i = 1#1), ∀ a x, ((![v1971] : Fin 1 → IVec S16 32) a x).toNat < S2064.size a)
theorem k2_idx17_inb : ∀ (i : grid2.Coords) (v1971 : IVec S16 32) (k2_hw16 : k2_chk16 i v1971), ∀ (k2_h1 : k2_cond1 i = 1#1), ∀ a x, ((![v1971] : Fin 1 → IVec S16 32) a x).toNat < S2064.size a := fun i v1971 k2_hw16 k2_h1 => k2_hw16.1 k2_h1
theorem k2_idx18_inb : ∀ (i : grid2.Coords) (v1971 : IVec S16 32) (k2_hw16 : k2_chk16 i v1971), ∀ (k2_h1 : k2_cond1 i = 1#1), ∀ a x, ((![v1971] : Fin 1 → IVec S16 32) a x).toNat < S2064.size a := fun i v1971 k2_hw16 k2_h1 => k2_hw16.2 k2_h1
def k2_off14 (k2_t3 : Fin k2_t3_loop.trips) : Fin 2 → Nat :=
  let c0_i32_1237 : BitVec 32 := 0#32
  let c1_i32_1239 : BitVec 32 := 1#32
  let arg27 : BitVec 32 := Scf.iv c0_i32_1237 c1_i32_1239 k2_t3
  let v1977 : Index := Scalar.indexCast arg27
  let c32_1261 : Index := 32#32
  ![v1977.toNat, 32]

def k2_chk17 (i : grid2.Coords) (v1997 : IVec S16 32) : Prop :=
  (∀ (k2_h1 : k2_cond1 i = 1#1), ∀ a x, ((![v1997] : Fin 1 → IVec S16 32) a x).toNat < S2064.size a) ∧
  (∀ (k2_h1 : k2_cond1 i = 1#1), ∀ a x, ((![v1997] : Fin 1 → IVec S16 32) a x).toNat < S2064.size a)
theorem k2_idx19_inb : ∀ (i : grid2.Coords) (v1997 : IVec S16 32) (k2_hw17 : k2_chk17 i v1997), ∀ (k2_h1 : k2_cond1 i = 1#1), ∀ a x, ((![v1997] : Fin 1 → IVec S16 32) a x).toNat < S2064.size a := fun i v1997 k2_hw17 k2_h1 => k2_hw17.1 k2_h1
theorem k2_idx20_inb : ∀ (i : grid2.Coords) (v1997 : IVec S16 32) (k2_hw17 : k2_chk17 i v1997), ∀ (k2_h1 : k2_cond1 i = 1#1), ∀ a x, ((![v1997] : Fin 1 → IVec S16 32) a x).toNat < S2064.size a := fun i v1997 k2_hw17 k2_h1 => k2_hw17.2 k2_h1
def k2_off15 (k2_t3 : Fin k2_t3_loop.trips) : Fin 2 → Nat :=
  let c0_i32_1237 : BitVec 32 := 0#32
  let c1_i32_1239 : BitVec 32 := 1#32
  let arg27 : BitVec 32 := Scf.iv c0_i32_1237 c1_i32_1239 k2_t3
  let v2003 : Index := Scalar.indexCast arg27
  let c48_1270 : Index := 48#32
  ![v2003.toNat, 48]

def k2_chk18 (i : grid2.Coords) (v2023 : IVec S16 32) : Prop :=
  (∀ (k2_h1 : k2_cond1 i = 1#1), ∀ a x, ((![v2023] : Fin 1 → IVec S16 32) a x).toNat < S2064.size a) ∧
  (∀ (k2_h1 : k2_cond1 i = 1#1), ∀ a x, ((![v2023] : Fin 1 → IVec S16 32) a x).toNat < S2064.size a)
theorem k2_idx21_inb : ∀ (i : grid2.Coords) (v2023 : IVec S16 32) (k2_hw18 : k2_chk18 i v2023), ∀ (k2_h1 : k2_cond1 i = 1#1), ∀ a x, ((![v2023] : Fin 1 → IVec S16 32) a x).toNat < S2064.size a := fun i v2023 k2_hw18 k2_h1 => k2_hw18.1 k2_h1
theorem k2_idx22_inb : ∀ (i : grid2.Coords) (v2023 : IVec S16 32) (k2_hw18 : k2_chk18 i v2023), ∀ (k2_h1 : k2_cond1 i = 1#1), ∀ a x, ((![v2023] : Fin 1 → IVec S16 32) a x).toNat < S2064.size a := fun i v2023 k2_hw18 k2_h1 => k2_hw18.2 k2_h1
def k2_off16 (k2_t3 : Fin k2_t3_loop.trips) : Fin 2 → Nat :=
  let c0_i32_1237 : BitVec 32 := 0#32
  let c1_i32_1239 : BitVec 32 := 1#32
  let arg27 : BitVec 32 := Scf.iv c0_i32_1237 c1_i32_1239 k2_t3
  let v2029 : Index := Scalar.indexCast arg27
  let c64_1279 : Index := 64#32
  ![v2029.toNat, 64]

def k2_chk19 (i : grid2.Coords) (v2049 : IVec S16 32) : Prop :=
  (∀ (k2_h1 : k2_cond1 i = 1#1), ∀ a x, ((![v2049] : Fin 1 → IVec S16 32) a x).toNat < S2064.size a) ∧
  (∀ (k2_h1 : k2_cond1 i = 1#1), ∀ a x, ((![v2049] : Fin 1 → IVec S16 32) a x).toNat < S2064.size a)
theorem k2_idx23_inb : ∀ (i : grid2.Coords) (v2049 : IVec S16 32) (k2_hw19 : k2_chk19 i v2049), ∀ (k2_h1 : k2_cond1 i = 1#1), ∀ a x, ((![v2049] : Fin 1 → IVec S16 32) a x).toNat < S2064.size a := fun i v2049 k2_hw19 k2_h1 => k2_hw19.1 k2_h1
theorem k2_idx24_inb : ∀ (i : grid2.Coords) (v2049 : IVec S16 32) (k2_hw19 : k2_chk19 i v2049), ∀ (k2_h1 : k2_cond1 i = 1#1), ∀ a x, ((![v2049] : Fin 1 → IVec S16 32) a x).toNat < S2064.size a := fun i v2049 k2_hw19 k2_h1 => k2_hw19.2 k2_h1
@[reducible] def k2_t4_loop (v681 : BitVec 32) : Scf.Loop 32 :=
  let c0_i32_409 : BitVec 32 := 0#32
  let c7_i32_149 : BitVec 32 := 7#32
  let v682 : BitVec 32 := Scalar.addi v681 c7_i32_149
  let c3_i32_150 : BitVec 32 := 3#32
  let v683 : BitVec 32 := Scalar.shrsi v682 c3_i32_150
  let c16_i32_151 : BitVec 32 := 16#32
  let v684 : BitVec 32 := Scalar.minsi v683 c16_i32_151
  let v946 : BitVec 32 := Scalar.subi v684 c0_i32_409
  let c1_i32_410 : BitVec 32 := 1#32
  let v948 : BitVec 32 := Scalar.divsi v946 c1_i32_410
  let v949 : BitVec 32 := Scalar.muli v948 c1_i32_410
  let v950 : BitVec 32 := Scalar.addi c0_i32_409 v949
  let v947 : BitVec 32 := Scalar.addi c0_i32_409 v946
  let c1_i32_412 : BitVec 32 := 1#32
  ⟨v950, v947, c1_i32_412⟩
def k2_off17 (v681 : BitVec 32) (k2_t4 : Fin (k2_t4_loop v681).trips) : Fin 1 → Nat :=
  let c0_i32_409 : BitVec 32 := 0#32
  let c7_i32_149 : BitVec 32 := 7#32
  let v682 : BitVec 32 := Scalar.addi v681 c7_i32_149
  let c3_i32_150 : BitVec 32 := 3#32
  let v683 : BitVec 32 := Scalar.shrsi v682 c3_i32_150
  let c16_i32_151 : BitVec 32 := 16#32
  let v684 : BitVec 32 := Scalar.minsi v683 c16_i32_151
  let v946 : BitVec 32 := Scalar.subi v684 c0_i32_409
  let c1_i32_410 : BitVec 32 := 1#32
  let v948 : BitVec 32 := Scalar.divsi v946 c1_i32_410
  let v949 : BitVec 32 := Scalar.muli v948 c1_i32_410
  let v950 : BitVec 32 := Scalar.addi c0_i32_409 v949
  let c1_i32_412 : BitVec 32 := 1#32
  let arg25 : BitVec 32 := Scf.iv v950 c1_i32_412 k2_t4
  let c128_i32_1228 : BitVec 32 := 128#32
  let v1904 : BitVec 32 := Scalar.muli arg25 c128_i32_1228
  ![v1904.toNat]

def k2_chk13 (i : grid2.Coords) (v681 : BitVec 32) : Prop :=
  (∀ (k2_h1 : k2_cond1 i = 1#1), (k2_t2_loop v681).OK) ∧
  (∀ k2_t2 : Fin (k2_t2_loop v681).trips, ∀ (k2_h1 : k2_cond1 i = 1#1), ∀ a, (k2_off10 v681 k2_t2) a + S128.size a ≤ S2064.size a) ∧
  (∀ (k2_h1 : k2_cond1 i = 1#1), (k2_t4_loop v681).OK) ∧
  (∀ k2_t4 : Fin (k2_t4_loop v681).trips, ∀ (k2_h1 : k2_cond1 i = 1#1), ∀ a, (k2_off17 v681 k2_t4) a + S128.size a ≤ S2064.size a)
theorem k2_t2_ok : ∀ (i : grid2.Coords) (v681 : BitVec 32) (k2_hw13 : k2_chk13 i v681), ∀ (k2_h1 : k2_cond1 i = 1#1), (k2_t2_loop v681).OK := fun i v681 k2_hw13 k2_h1 => k2_hw13.1 k2_h1
theorem k2_off10_inb : ∀ (i : grid2.Coords) (v681 : BitVec 32) (k2_hw13 : k2_chk13 i v681) (k2_t2 : Fin (k2_t2_loop v681).trips), ∀ (k2_h1 : k2_cond1 i = 1#1), ∀ a, (k2_off10 v681 k2_t2) a + S128.size a ≤ S2064.size a := fun i v681 k2_hw13 k2_t2 k2_h1 => k2_hw13.2.1 k2_t2 k2_h1
theorem k2_t4_ok : ∀ (i : grid2.Coords) (v681 : BitVec 32) (k2_hw13 : k2_chk13 i v681), ∀ (k2_h1 : k2_cond1 i = 1#1), (k2_t4_loop v681).OK := fun i v681 k2_hw13 k2_h1 => k2_hw13.2.2.1 k2_h1
theorem k2_off17_inb : ∀ (i : grid2.Coords) (v681 : BitVec 32) (k2_hw13 : k2_chk13 i v681) (k2_t4 : Fin (k2_t4_loop v681).trips), ∀ (k2_h1 : k2_cond1 i = 1#1), ∀ a, (k2_off17 v681 k2_t4) a + S128.size a ≤ S2064.size a := fun i v681 k2_hw13 k2_t4 k2_h1 => k2_hw13.2.2.2 k2_t4 k2_h1

def k2_off18 (i : grid2.Coords) : Fin 3 → Nat :=
  let arg1 : BitVec 32 := BitVec.ofNat 32 (i 1).val
  let c0_i32_1229 : BitVec 32 := 0#32
  let c0_i32_1230 : BitVec 32 := 0#32
  ![arg1.toNat, 0, 0]
@[reducible] def k2_t5_loop : Scf.Loop 32 :=
  let c0_i32_1237 : BitVec 32 := 0#32
  let c128_i32_1238 : BitVec 32 := 128#32
  let v1913 : BitVec 32 := Scalar.addi c0_i32_1237 c128_i32_1238
  let c1_i32_1239 : BitVec 32 := 1#32
  ⟨c0_i32_1237, v1913, c1_i32_1239⟩

def k2_chk20 (i : grid2.Coords) (v1918 : IVec S16 32) : Prop :=
  (∀ (k2_h1 : k2_cond1 i = 1#1), ∀ a x, ((![v1918] : Fin 1 → IVec S16 32) a x).toNat < S2064.size a) ∧
  (∀ (k2_h1 : k2_cond1 i = 1#1), ∀ a x, ((![v1918] : Fin 1 → IVec S16 32) a x).toNat < S2048.size a)
theorem k2_idx25_inb : ∀ (i : grid2.Coords) (v1918 : IVec S16 32) (k2_hw20 : k2_chk20 i v1918), ∀ (k2_h1 : k2_cond1 i = 1#1), ∀ a x, ((![v1918] : Fin 1 → IVec S16 32) a x).toNat < S2064.size a := fun i v1918 k2_hw20 k2_h1 => k2_hw20.1 k2_h1
theorem k2_idx26_inb : ∀ (i : grid2.Coords) (v1918 : IVec S16 32) (k2_hw20 : k2_chk20 i v1918), ∀ (k2_h1 : k2_cond1 i = 1#1), ∀ a x, ((![v1918] : Fin 1 → IVec S16 32) a x).toNat < S2048.size a := fun i v1918 k2_hw20 k2_h1 => k2_hw20.2 k2_h1
def k2_off19 (k2_t5 : Fin k2_t5_loop.trips) : Fin 2 → Nat :=
  let c0_i32_1237 : BitVec 32 := 0#32
  let c1_i32_1239 : BitVec 32 := 1#32
  let arg27 : BitVec 32 := Scf.iv c0_i32_1237 c1_i32_1239 k2_t5
  let v1925 : Index := Scalar.indexCast arg27
  let c0_1244 : Index := 0#32
  ![v1925.toNat, 0]

def k2_chk21 (i : grid2.Coords) (v1945 : IVec S16 32) : Prop :=
  (∀ (k2_h1 : k2_cond1 i = 1#1), ∀ a x, ((![v1945] : Fin 1 → IVec S16 32) a x).toNat < S2064.size a) ∧
  (∀ (k2_h1 : k2_cond1 i = 1#1), ∀ a x, ((![v1945] : Fin 1 → IVec S16 32) a x).toNat < S2064.size a)
theorem k2_idx27_inb : ∀ (i : grid2.Coords) (v1945 : IVec S16 32) (k2_hw21 : k2_chk21 i v1945), ∀ (k2_h1 : k2_cond1 i = 1#1), ∀ a x, ((![v1945] : Fin 1 → IVec S16 32) a x).toNat < S2064.size a := fun i v1945 k2_hw21 k2_h1 => k2_hw21.1 k2_h1
theorem k2_idx28_inb : ∀ (i : grid2.Coords) (v1945 : IVec S16 32) (k2_hw21 : k2_chk21 i v1945), ∀ (k2_h1 : k2_cond1 i = 1#1), ∀ a x, ((![v1945] : Fin 1 → IVec S16 32) a x).toNat < S2064.size a := fun i v1945 k2_hw21 k2_h1 => k2_hw21.2 k2_h1
def k2_off20 (k2_t5 : Fin k2_t5_loop.trips) : Fin 2 → Nat :=
  let c0_i32_1237 : BitVec 32 := 0#32
  let c1_i32_1239 : BitVec 32 := 1#32
  let arg27 : BitVec 32 := Scf.iv c0_i32_1237 c1_i32_1239 k2_t5
  let v1951 : Index := Scalar.indexCast arg27
  let c16_1252 : Index := 16#32
  ![v1951.toNat, 16]

def k2_chk22 (i : grid2.Coords) (v1971 : IVec S16 32) : Prop :=
  (∀ (k2_h1 : k2_cond1 i = 1#1), ∀ a x, ((![v1971] : Fin 1 → IVec S16 32) a x).toNat < S2064.size a) ∧
  (∀ (k2_h1 : k2_cond1 i = 1#1), ∀ a x, ((![v1971] : Fin 1 → IVec S16 32) a x).toNat < S2064.size a)
theorem k2_idx29_inb : ∀ (i : grid2.Coords) (v1971 : IVec S16 32) (k2_hw22 : k2_chk22 i v1971), ∀ (k2_h1 : k2_cond1 i = 1#1), ∀ a x, ((![v1971] : Fin 1 → IVec S16 32) a x).toNat < S2064.size a := fun i v1971 k2_hw22 k2_h1 => k2_hw22.1 k2_h1
theorem k2_idx30_inb : ∀ (i : grid2.Coords) (v1971 : IVec S16 32) (k2_hw22 : k2_chk22 i v1971), ∀ (k2_h1 : k2_cond1 i = 1#1), ∀ a x, ((![v1971] : Fin 1 → IVec S16 32) a x).toNat < S2064.size a := fun i v1971 k2_hw22 k2_h1 => k2_hw22.2 k2_h1
def k2_off21 (k2_t5 : Fin k2_t5_loop.trips) : Fin 2 → Nat :=
  let c0_i32_1237 : BitVec 32 := 0#32
  let c1_i32_1239 : BitVec 32 := 1#32
  let arg27 : BitVec 32 := Scf.iv c0_i32_1237 c1_i32_1239 k2_t5
  let v1977 : Index := Scalar.indexCast arg27
  let c32_1261 : Index := 32#32
  ![v1977.toNat, 32]

def k2_chk23 (i : grid2.Coords) (v1997 : IVec S16 32) : Prop :=
  (∀ (k2_h1 : k2_cond1 i = 1#1), ∀ a x, ((![v1997] : Fin 1 → IVec S16 32) a x).toNat < S2064.size a) ∧
  (∀ (k2_h1 : k2_cond1 i = 1#1), ∀ a x, ((![v1997] : Fin 1 → IVec S16 32) a x).toNat < S2064.size a)
theorem k2_idx31_inb : ∀ (i : grid2.Coords) (v1997 : IVec S16 32) (k2_hw23 : k2_chk23 i v1997), ∀ (k2_h1 : k2_cond1 i = 1#1), ∀ a x, ((![v1997] : Fin 1 → IVec S16 32) a x).toNat < S2064.size a := fun i v1997 k2_hw23 k2_h1 => k2_hw23.1 k2_h1
theorem k2_idx32_inb : ∀ (i : grid2.Coords) (v1997 : IVec S16 32) (k2_hw23 : k2_chk23 i v1997), ∀ (k2_h1 : k2_cond1 i = 1#1), ∀ a x, ((![v1997] : Fin 1 → IVec S16 32) a x).toNat < S2064.size a := fun i v1997 k2_hw23 k2_h1 => k2_hw23.2 k2_h1
def k2_off22 (k2_t5 : Fin k2_t5_loop.trips) : Fin 2 → Nat :=
  let c0_i32_1237 : BitVec 32 := 0#32
  let c1_i32_1239 : BitVec 32 := 1#32
  let arg27 : BitVec 32 := Scf.iv c0_i32_1237 c1_i32_1239 k2_t5
  let v2003 : Index := Scalar.indexCast arg27
  let c48_1270 : Index := 48#32
  ![v2003.toNat, 48]

def k2_chk24 (i : grid2.Coords) (v2023 : IVec S16 32) : Prop :=
  (∀ (k2_h1 : k2_cond1 i = 1#1), ∀ a x, ((![v2023] : Fin 1 → IVec S16 32) a x).toNat < S2064.size a) ∧
  (∀ (k2_h1 : k2_cond1 i = 1#1), ∀ a x, ((![v2023] : Fin 1 → IVec S16 32) a x).toNat < S2064.size a)
theorem k2_idx33_inb : ∀ (i : grid2.Coords) (v2023 : IVec S16 32) (k2_hw24 : k2_chk24 i v2023), ∀ (k2_h1 : k2_cond1 i = 1#1), ∀ a x, ((![v2023] : Fin 1 → IVec S16 32) a x).toNat < S2064.size a := fun i v2023 k2_hw24 k2_h1 => k2_hw24.1 k2_h1
theorem k2_idx34_inb : ∀ (i : grid2.Coords) (v2023 : IVec S16 32) (k2_hw24 : k2_chk24 i v2023), ∀ (k2_h1 : k2_cond1 i = 1#1), ∀ a x, ((![v2023] : Fin 1 → IVec S16 32) a x).toNat < S2064.size a := fun i v2023 k2_hw24 k2_h1 => k2_hw24.2 k2_h1
def k2_off23 (k2_t5 : Fin k2_t5_loop.trips) : Fin 2 → Nat :=
  let c0_i32_1237 : BitVec 32 := 0#32
  let c1_i32_1239 : BitVec 32 := 1#32
  let arg27 : BitVec 32 := Scf.iv c0_i32_1237 c1_i32_1239 k2_t5
  let v2029 : Index := Scalar.indexCast arg27
  let c64_1279 : Index := 64#32
  ![v2029.toNat, 64]

def k2_chk25 (i : grid2.Coords) (v2049 : IVec S16 32) : Prop :=
  (∀ (k2_h1 : k2_cond1 i = 1#1), ∀ a x, ((![v2049] : Fin 1 → IVec S16 32) a x).toNat < S2064.size a) ∧
  (∀ (k2_h1 : k2_cond1 i = 1#1), ∀ a x, ((![v2049] : Fin 1 → IVec S16 32) a x).toNat < S2064.size a)
theorem k2_idx35_inb : ∀ (i : grid2.Coords) (v2049 : IVec S16 32) (k2_hw25 : k2_chk25 i v2049), ∀ (k2_h1 : k2_cond1 i = 1#1), ∀ a x, ((![v2049] : Fin 1 → IVec S16 32) a x).toNat < S2064.size a := fun i v2049 k2_hw25 k2_h1 => k2_hw25.1 k2_h1
theorem k2_idx36_inb : ∀ (i : grid2.Coords) (v2049 : IVec S16 32) (k2_hw25 : k2_chk25 i v2049), ∀ (k2_h1 : k2_cond1 i = 1#1), ∀ a x, ((![v2049] : Fin 1 → IVec S16 32) a x).toNat < S2064.size a := fun i v2049 k2_hw25 k2_h1 => k2_hw25.2 k2_h1
@[reducible] def k2_t6_loop : Scf.Loop 32 :=
  let c0_i32_414 : BitVec 32 := 0#32
  let c128_i32 : BitVec 32 := 128#32
  let v953 : BitVec 32 := Scalar.addi c0_i32_414 c128_i32
  let c1_i32_415 : BitVec 32 := 1#32
  ⟨c0_i32_414, v953, c1_i32_415⟩
def k2_off24 (k2_t6 : Fin k2_t6_loop.trips) : Fin 1 → Nat :=
  let c0_i32_414 : BitVec 32 := 0#32
  let c1_i32_415 : BitVec 32 := 1#32
  let arg25 : BitVec 32 := Scf.iv c0_i32_414 c1_i32_415 k2_t6
  let c16_i32_1230 : BitVec 32 := 16#32
  let v1909 : BitVec 32 := Scalar.muli arg25 c16_i32_1230
  let v1910 : Index := Scalar.indexCast v1909
  ![v1910.toNat]

def k2_chk26 (i : grid2.Coords) (v1908 : IVec S16 32) : Prop :=
  (∀ (k2_h1 : k2_cond1 i = 1#1), ∀ a x, ((![v1908] : Fin 1 → IVec S16 32) a x).toNat < S2064.size a) ∧
  (∀ (k2_h1 : k2_cond1 i = 1#1), ∀ a x, ((![v1908] : Fin 1 → IVec S16 32) a x).toNat < S2064.size a)
theorem k2_idx37_inb : ∀ (i : grid2.Coords) (v1908 : IVec S16 32) (k2_hw26 : k2_chk26 i v1908), ∀ (k2_h1 : k2_cond1 i = 1#1), ∀ a x, ((![v1908] : Fin 1 → IVec S16 32) a x).toNat < S2064.size a := fun i v1908 k2_hw26 k2_h1 => k2_hw26.1 k2_h1
theorem k2_idx38_inb : ∀ (i : grid2.Coords) (v1908 : IVec S16 32) (k2_hw26 : k2_chk26 i v1908), ∀ (k2_h1 : k2_cond1 i = 1#1), ∀ a x, ((![v1908] : Fin 1 → IVec S16 32) a x).toNat < S2064.size a := fun i v1908 k2_hw26 k2_h1 => k2_hw26.2 k2_h1
def k2_off25 (k2_t6 : Fin k2_t6_loop.trips) : Fin 1 → Nat :=
  let c0_i32_414 : BitVec 32 := 0#32
  let c1_i32_415 : BitVec 32 := 1#32
  let arg25 : BitVec 32 := Scf.iv c0_i32_414 c1_i32_415 k2_t6
  let c16_i32_1238 : BitVec 32 := 16#32
  let v1939 : BitVec 32 := Scalar.muli arg25 c16_i32_1238
  let v1940 : Index := Scalar.indexCast v1939
  ![v1940.toNat]
@[reducible] def k2_t7_loop : Scf.Loop 32 :=
  let c0_i32_418 : BitVec 32 := 0#32
  let c128_i32_419 : BitVec 32 := 128#32
  let v954 : BitVec 32 := Scalar.addi c0_i32_418 c128_i32_419
  let c1_i32_420 : BitVec 32 := 1#32
  ⟨c0_i32_418, v954, c1_i32_420⟩
def k2_off26 (k2_t7 : Fin k2_t7_loop.trips) : Fin 1 → Nat :=
  let c0_i32_418 : BitVec 32 := 0#32
  let c1_i32_420 : BitVec 32 := 1#32
  let arg25 : BitVec 32 := Scf.iv c0_i32_418 c1_i32_420 k2_t7
  let c16_i32_1230 : BitVec 32 := 16#32
  let v1909 : BitVec 32 := Scalar.muli arg25 c16_i32_1230
  let v1910 : Index := Scalar.indexCast v1909
  ![v1910.toNat]

def k2_chk27 (i : grid2.Coords) (v1908 : IVec S16 32) : Prop :=
  (∀ (k2_h1 : k2_cond1 i = 1#1), ∀ a x, ((![v1908] : Fin 1 → IVec S16 32) a x).toNat < S2064.size a) ∧
  (∀ (k2_h1 : k2_cond1 i = 1#1), ∀ a x, ((![v1908] : Fin 1 → IVec S16 32) a x).toNat < S2064.size a)
theorem k2_idx39_inb : ∀ (i : grid2.Coords) (v1908 : IVec S16 32) (k2_hw27 : k2_chk27 i v1908), ∀ (k2_h1 : k2_cond1 i = 1#1), ∀ a x, ((![v1908] : Fin 1 → IVec S16 32) a x).toNat < S2064.size a := fun i v1908 k2_hw27 k2_h1 => k2_hw27.1 k2_h1
theorem k2_idx40_inb : ∀ (i : grid2.Coords) (v1908 : IVec S16 32) (k2_hw27 : k2_chk27 i v1908), ∀ (k2_h1 : k2_cond1 i = 1#1), ∀ a x, ((![v1908] : Fin 1 → IVec S16 32) a x).toNat < S2064.size a := fun i v1908 k2_hw27 k2_h1 => k2_hw27.2 k2_h1
def k2_off27 (k2_t7 : Fin k2_t7_loop.trips) : Fin 1 → Nat :=
  let c0_i32_418 : BitVec 32 := 0#32
  let c1_i32_420 : BitVec 32 := 1#32
  let arg25 : BitVec 32 := Scf.iv c0_i32_418 c1_i32_420 k2_t7
  let c16_i32_1238 : BitVec 32 := 16#32
  let v1939 : BitVec 32 := Scalar.muli arg25 c16_i32_1238
  let v1940 : Index := Scalar.indexCast v1939
  ![v1940.toNat]
@[reducible] def k2_t8_loop : Scf.Loop 32 :=
  let c0_i32_423 : BitVec 32 := 0#32
  let c128_i32_424 : BitVec 32 := 128#32
  let v955 : BitVec 32 := Scalar.addi c0_i32_423 c128_i32_424
  let c1_i32_425 : BitVec 32 := 1#32
  ⟨c0_i32_423, v955, c1_i32_425⟩
def k2_off28 (k2_t8 : Fin k2_t8_loop.trips) : Fin 1 → Nat :=
  let c0_i32_423 : BitVec 32 := 0#32
  let c1_i32_425 : BitVec 32 := 1#32
  let arg25 : BitVec 32 := Scf.iv c0_i32_423 c1_i32_425 k2_t8
  let c16_i32_1230 : BitVec 32 := 16#32
  let v1909 : BitVec 32 := Scalar.muli arg25 c16_i32_1230
  let v1910 : Index := Scalar.indexCast v1909
  ![v1910.toNat]

def k2_chk28 (i : grid2.Coords) (v1908 : IVec S16 32) : Prop :=
  (∀ (k2_h1 : k2_cond1 i = 1#1), ∀ a x, ((![v1908] : Fin 1 → IVec S16 32) a x).toNat < S2064.size a) ∧
  (∀ (k2_h1 : k2_cond1 i = 1#1), ∀ a x, ((![v1908] : Fin 1 → IVec S16 32) a x).toNat < S2064.size a)
theorem k2_idx41_inb : ∀ (i : grid2.Coords) (v1908 : IVec S16 32) (k2_hw28 : k2_chk28 i v1908), ∀ (k2_h1 : k2_cond1 i = 1#1), ∀ a x, ((![v1908] : Fin 1 → IVec S16 32) a x).toNat < S2064.size a := fun i v1908 k2_hw28 k2_h1 => k2_hw28.1 k2_h1
theorem k2_idx42_inb : ∀ (i : grid2.Coords) (v1908 : IVec S16 32) (k2_hw28 : k2_chk28 i v1908), ∀ (k2_h1 : k2_cond1 i = 1#1), ∀ a x, ((![v1908] : Fin 1 → IVec S16 32) a x).toNat < S2064.size a := fun i v1908 k2_hw28 k2_h1 => k2_hw28.2 k2_h1
def k2_off29 (k2_t8 : Fin k2_t8_loop.trips) : Fin 1 → Nat :=
  let c0_i32_423 : BitVec 32 := 0#32
  let c1_i32_425 : BitVec 32 := 1#32
  let arg25 : BitVec 32 := Scf.iv c0_i32_423 c1_i32_425 k2_t8
  let c16_i32_1238 : BitVec 32 := 16#32
  let v1939 : BitVec 32 := Scalar.muli arg25 c16_i32_1238
  let v1940 : Index := Scalar.indexCast v1939
  ![v1940.toNat]
@[reducible] def k2_t9_loop : Scf.Loop 32 :=
  let c0_i32_428 : BitVec 32 := 0#32
  let c128_i32_429 : BitVec 32 := 128#32
  let v956 : BitVec 32 := Scalar.addi c0_i32_428 c128_i32_429
  let c1_i32_430 : BitVec 32 := 1#32
  ⟨c0_i32_428, v956, c1_i32_430⟩
def k2_off30 (k2_t9 : Fin k2_t9_loop.trips) : Fin 1 → Nat :=
  let c0_i32_428 : BitVec 32 := 0#32
  let c1_i32_430 : BitVec 32 := 1#32
  let arg25 : BitVec 32 := Scf.iv c0_i32_428 c1_i32_430 k2_t9
  let c16_i32_1230 : BitVec 32 := 16#32
  let v1909 : BitVec 32 := Scalar.muli arg25 c16_i32_1230
  let v1910 : Index := Scalar.indexCast v1909
  ![v1910.toNat]

def k2_chk29 (i : grid2.Coords) (v1908 : IVec S16 32) : Prop :=
  (∀ (k2_h1 : k2_cond1 i = 1#1), ∀ a x, ((![v1908] : Fin 1 → IVec S16 32) a x).toNat < S2064.size a) ∧
  (∀ (k2_h1 : k2_cond1 i = 1#1), ∀ a x, ((![v1908] : Fin 1 → IVec S16 32) a x).toNat < S2064.size a)
theorem k2_idx43_inb : ∀ (i : grid2.Coords) (v1908 : IVec S16 32) (k2_hw29 : k2_chk29 i v1908), ∀ (k2_h1 : k2_cond1 i = 1#1), ∀ a x, ((![v1908] : Fin 1 → IVec S16 32) a x).toNat < S2064.size a := fun i v1908 k2_hw29 k2_h1 => k2_hw29.1 k2_h1
theorem k2_idx44_inb : ∀ (i : grid2.Coords) (v1908 : IVec S16 32) (k2_hw29 : k2_chk29 i v1908), ∀ (k2_h1 : k2_cond1 i = 1#1), ∀ a x, ((![v1908] : Fin 1 → IVec S16 32) a x).toNat < S2064.size a := fun i v1908 k2_hw29 k2_h1 => k2_hw29.2 k2_h1
def k2_off31 (k2_t9 : Fin k2_t9_loop.trips) : Fin 1 → Nat :=
  let c0_i32_428 : BitVec 32 := 0#32
  let c1_i32_430 : BitVec 32 := 1#32
  let arg25 : BitVec 32 := Scf.iv c0_i32_428 c1_i32_430 k2_t9
  let c16_i32_1238 : BitVec 32 := 16#32
  let v1939 : BitVec 32 := Scalar.muli arg25 c16_i32_1238
  let v1940 : Index := Scalar.indexCast v1939
  ![v1940.toNat]
@[reducible] def k2_t10_loop : Scf.Loop 32 :=
  let c0_i32_433 : BitVec 32 := 0#32
  let c128_i32_434 : BitVec 32 := 128#32
  let v957 : BitVec 32 := Scalar.addi c0_i32_433 c128_i32_434
  let c1_i32_435 : BitVec 32 := 1#32
  ⟨c0_i32_433, v957, c1_i32_435⟩
def k2_off32 (k2_t10 : Fin k2_t10_loop.trips) : Fin 1 → Nat :=
  let c0_i32_433 : BitVec 32 := 0#32
  let c1_i32_435 : BitVec 32 := 1#32
  let arg25 : BitVec 32 := Scf.iv c0_i32_433 c1_i32_435 k2_t10
  let c16_i32_1230 : BitVec 32 := 16#32
  let v1909 : BitVec 32 := Scalar.muli arg25 c16_i32_1230
  let v1910 : Index := Scalar.indexCast v1909
  ![v1910.toNat]

def k2_chk30 (i : grid2.Coords) (v1908 : IVec S16 32) : Prop :=
  (∀ (k2_h1 : k2_cond1 i = 1#1), ∀ a x, ((![v1908] : Fin 1 → IVec S16 32) a x).toNat < S2064.size a) ∧
  (∀ (k2_h1 : k2_cond1 i = 1#1), ∀ a x, ((![v1908] : Fin 1 → IVec S16 32) a x).toNat < S2064.size a)
theorem k2_idx45_inb : ∀ (i : grid2.Coords) (v1908 : IVec S16 32) (k2_hw30 : k2_chk30 i v1908), ∀ (k2_h1 : k2_cond1 i = 1#1), ∀ a x, ((![v1908] : Fin 1 → IVec S16 32) a x).toNat < S2064.size a := fun i v1908 k2_hw30 k2_h1 => k2_hw30.1 k2_h1
theorem k2_idx46_inb : ∀ (i : grid2.Coords) (v1908 : IVec S16 32) (k2_hw30 : k2_chk30 i v1908), ∀ (k2_h1 : k2_cond1 i = 1#1), ∀ a x, ((![v1908] : Fin 1 → IVec S16 32) a x).toNat < S2064.size a := fun i v1908 k2_hw30 k2_h1 => k2_hw30.2 k2_h1
def k2_off33 (k2_t10 : Fin k2_t10_loop.trips) : Fin 1 → Nat :=
  let c0_i32_433 : BitVec 32 := 0#32
  let c1_i32_435 : BitVec 32 := 1#32
  let arg25 : BitVec 32 := Scf.iv c0_i32_433 c1_i32_435 k2_t10
  let c16_i32_1238 : BitVec 32 := 16#32
  let v1939 : BitVec 32 := Scalar.muli arg25 c16_i32_1238
  let v1940 : Index := Scalar.indexCast v1939
  ![v1940.toNat]
@[reducible] def k2_t11_loop : Scf.Loop 32 :=
  let c0_i32_438 : BitVec 32 := 0#32
  let c128_i32_439 : BitVec 32 := 128#32
  let v958 : BitVec 32 := Scalar.addi c0_i32_438 c128_i32_439
  let c1_i32_440 : BitVec 32 := 1#32
  ⟨c0_i32_438, v958, c1_i32_440⟩
def k2_off34 (k2_t11 : Fin k2_t11_loop.trips) : Fin 1 → Nat :=
  let c0_i32_438 : BitVec 32 := 0#32
  let c1_i32_440 : BitVec 32 := 1#32
  let arg25 : BitVec 32 := Scf.iv c0_i32_438 c1_i32_440 k2_t11
  let c16_i32_1230 : BitVec 32 := 16#32
  let v1909 : BitVec 32 := Scalar.muli arg25 c16_i32_1230
  let v1910 : Index := Scalar.indexCast v1909
  ![v1910.toNat]

def k2_chk31 (i : grid2.Coords) (v1908 : IVec S16 32) : Prop :=
  (∀ (k2_h1 : k2_cond1 i = 1#1), ∀ a x, ((![v1908] : Fin 1 → IVec S16 32) a x).toNat < S2064.size a) ∧
  (∀ (k2_h1 : k2_cond1 i = 1#1), ∀ a x, ((![v1908] : Fin 1 → IVec S16 32) a x).toNat < S2064.size a)
theorem k2_idx47_inb : ∀ (i : grid2.Coords) (v1908 : IVec S16 32) (k2_hw31 : k2_chk31 i v1908), ∀ (k2_h1 : k2_cond1 i = 1#1), ∀ a x, ((![v1908] : Fin 1 → IVec S16 32) a x).toNat < S2064.size a := fun i v1908 k2_hw31 k2_h1 => k2_hw31.1 k2_h1
theorem k2_idx48_inb : ∀ (i : grid2.Coords) (v1908 : IVec S16 32) (k2_hw31 : k2_chk31 i v1908), ∀ (k2_h1 : k2_cond1 i = 1#1), ∀ a x, ((![v1908] : Fin 1 → IVec S16 32) a x).toNat < S2064.size a := fun i v1908 k2_hw31 k2_h1 => k2_hw31.2 k2_h1
def k2_off35 (k2_t11 : Fin k2_t11_loop.trips) : Fin 1 → Nat :=
  let c0_i32_438 : BitVec 32 := 0#32
  let c1_i32_440 : BitVec 32 := 1#32
  let arg25 : BitVec 32 := Scf.iv c0_i32_438 c1_i32_440 k2_t11
  let c16_i32_1238 : BitVec 32 := 16#32
  let v1939 : BitVec 32 := Scalar.muli arg25 c16_i32_1238
  let v1940 : Index := Scalar.indexCast v1939
  ![v1940.toNat]
@[reducible] def k2_t12_loop : Scf.Loop 32 :=
  let c0_i32_443 : BitVec 32 := 0#32
  let c128_i32_444 : BitVec 32 := 128#32
  let v959 : BitVec 32 := Scalar.addi c0_i32_443 c128_i32_444
  let c1_i32_445 : BitVec 32 := 1#32
  ⟨c0_i32_443, v959, c1_i32_445⟩
def k2_off36 (k2_t12 : Fin k2_t12_loop.trips) : Fin 1 → Nat :=
  let c0_i32_443 : BitVec 32 := 0#32
  let c1_i32_445 : BitVec 32 := 1#32
  let arg25 : BitVec 32 := Scf.iv c0_i32_443 c1_i32_445 k2_t12
  let c16_i32_1230 : BitVec 32 := 16#32
  let v1909 : BitVec 32 := Scalar.muli arg25 c16_i32_1230
  let v1910 : Index := Scalar.indexCast v1909
  ![v1910.toNat]

def k2_chk32 (i : grid2.Coords) (v1908 : IVec S16 32) : Prop :=
  (∀ (k2_h1 : k2_cond1 i = 1#1), ∀ a x, ((![v1908] : Fin 1 → IVec S16 32) a x).toNat < S2064.size a) ∧
  (∀ (k2_h1 : k2_cond1 i = 1#1), ∀ a x, ((![v1908] : Fin 1 → IVec S16 32) a x).toNat < S2064.size a)
theorem k2_idx49_inb : ∀ (i : grid2.Coords) (v1908 : IVec S16 32) (k2_hw32 : k2_chk32 i v1908), ∀ (k2_h1 : k2_cond1 i = 1#1), ∀ a x, ((![v1908] : Fin 1 → IVec S16 32) a x).toNat < S2064.size a := fun i v1908 k2_hw32 k2_h1 => k2_hw32.1 k2_h1
theorem k2_idx50_inb : ∀ (i : grid2.Coords) (v1908 : IVec S16 32) (k2_hw32 : k2_chk32 i v1908), ∀ (k2_h1 : k2_cond1 i = 1#1), ∀ a x, ((![v1908] : Fin 1 → IVec S16 32) a x).toNat < S2064.size a := fun i v1908 k2_hw32 k2_h1 => k2_hw32.2 k2_h1
def k2_off37 (k2_t12 : Fin k2_t12_loop.trips) : Fin 1 → Nat :=
  let c0_i32_443 : BitVec 32 := 0#32
  let c1_i32_445 : BitVec 32 := 1#32
  let arg25 : BitVec 32 := Scf.iv c0_i32_443 c1_i32_445 k2_t12
  let c16_i32_1238 : BitVec 32 := 16#32
  let v1939 : BitVec 32 := Scalar.muli arg25 c16_i32_1238
  let v1940 : Index := Scalar.indexCast v1939
  ![v1940.toNat]
@[reducible] def k2_t13_loop : Scf.Loop 32 :=
  let c0_i32_448 : BitVec 32 := 0#32
  let c128_i32_449 : BitVec 32 := 128#32
  let v960 : BitVec 32 := Scalar.addi c0_i32_448 c128_i32_449
  let c1_i32_450 : BitVec 32 := 1#32
  ⟨c0_i32_448, v960, c1_i32_450⟩
def k2_off38 (k2_t13 : Fin k2_t13_loop.trips) : Fin 1 → Nat :=
  let c0_i32_448 : BitVec 32 := 0#32
  let c1_i32_450 : BitVec 32 := 1#32
  let arg25 : BitVec 32 := Scf.iv c0_i32_448 c1_i32_450 k2_t13
  let c16_i32_1230 : BitVec 32 := 16#32
  let v1909 : BitVec 32 := Scalar.muli arg25 c16_i32_1230
  let v1910 : Index := Scalar.indexCast v1909
  ![v1910.toNat]

def k2_chk33 (i : grid2.Coords) (v1908 : IVec S16 32) : Prop :=
  (∀ (k2_h1 : k2_cond1 i = 1#1), ∀ a x, ((![v1908] : Fin 1 → IVec S16 32) a x).toNat < S2064.size a) ∧
  (∀ (k2_h1 : k2_cond1 i = 1#1), ∀ a x, ((![v1908] : Fin 1 → IVec S16 32) a x).toNat < S2064.size a)
theorem k2_idx51_inb : ∀ (i : grid2.Coords) (v1908 : IVec S16 32) (k2_hw33 : k2_chk33 i v1908), ∀ (k2_h1 : k2_cond1 i = 1#1), ∀ a x, ((![v1908] : Fin 1 → IVec S16 32) a x).toNat < S2064.size a := fun i v1908 k2_hw33 k2_h1 => k2_hw33.1 k2_h1
theorem k2_idx52_inb : ∀ (i : grid2.Coords) (v1908 : IVec S16 32) (k2_hw33 : k2_chk33 i v1908), ∀ (k2_h1 : k2_cond1 i = 1#1), ∀ a x, ((![v1908] : Fin 1 → IVec S16 32) a x).toNat < S2064.size a := fun i v1908 k2_hw33 k2_h1 => k2_hw33.2 k2_h1
def k2_off39 (k2_t13 : Fin k2_t13_loop.trips) : Fin 1 → Nat :=
  let c0_i32_448 : BitVec 32 := 0#32
  let c1_i32_450 : BitVec 32 := 1#32
  let arg25 : BitVec 32 := Scf.iv c0_i32_448 c1_i32_450 k2_t13
  let c16_i32_1238 : BitVec 32 := 16#32
  let v1939 : BitVec 32 := Scalar.muli arg25 c16_i32_1238
  let v1940 : Index := Scalar.indexCast v1939
  ![v1940.toNat]
@[reducible] def k2_t14_loop : Scf.Loop 32 :=
  let c0_i32_453 : BitVec 32 := 0#32
  let c128_i32_454 : BitVec 32 := 128#32
  let v961 : BitVec 32 := Scalar.addi c0_i32_453 c128_i32_454
  let c1_i32_455 : BitVec 32 := 1#32
  ⟨c0_i32_453, v961, c1_i32_455⟩
def k2_off40 (k2_t14 : Fin k2_t14_loop.trips) : Fin 1 → Nat :=
  let c0_i32_453 : BitVec 32 := 0#32
  let c1_i32_455 : BitVec 32 := 1#32
  let arg25 : BitVec 32 := Scf.iv c0_i32_453 c1_i32_455 k2_t14
  let c16_i32_1230 : BitVec 32 := 16#32
  let v1909 : BitVec 32 := Scalar.muli arg25 c16_i32_1230
  let v1910 : Index := Scalar.indexCast v1909
  ![v1910.toNat]

def k2_chk34 (i : grid2.Coords) (v1908 : IVec S16 32) : Prop :=
  (∀ (k2_h1 : k2_cond1 i = 1#1), ∀ a x, ((![v1908] : Fin 1 → IVec S16 32) a x).toNat < S2064.size a) ∧
  (∀ (k2_h1 : k2_cond1 i = 1#1), ∀ a x, ((![v1908] : Fin 1 → IVec S16 32) a x).toNat < S2064.size a)
theorem k2_idx53_inb : ∀ (i : grid2.Coords) (v1908 : IVec S16 32) (k2_hw34 : k2_chk34 i v1908), ∀ (k2_h1 : k2_cond1 i = 1#1), ∀ a x, ((![v1908] : Fin 1 → IVec S16 32) a x).toNat < S2064.size a := fun i v1908 k2_hw34 k2_h1 => k2_hw34.1 k2_h1
theorem k2_idx54_inb : ∀ (i : grid2.Coords) (v1908 : IVec S16 32) (k2_hw34 : k2_chk34 i v1908), ∀ (k2_h1 : k2_cond1 i = 1#1), ∀ a x, ((![v1908] : Fin 1 → IVec S16 32) a x).toNat < S2064.size a := fun i v1908 k2_hw34 k2_h1 => k2_hw34.2 k2_h1
def k2_off41 (k2_t14 : Fin k2_t14_loop.trips) : Fin 1 → Nat :=
  let c0_i32_453 : BitVec 32 := 0#32
  let c1_i32_455 : BitVec 32 := 1#32
  let arg25 : BitVec 32 := Scf.iv c0_i32_453 c1_i32_455 k2_t14
  let c16_i32_1238 : BitVec 32 := 16#32
  let v1939 : BitVec 32 := Scalar.muli arg25 c16_i32_1238
  let v1940 : Index := Scalar.indexCast v1939
  ![v1940.toNat]
@[reducible] def k2_t15_loop : Scf.Loop 32 :=
  let c0_i32_458 : BitVec 32 := 0#32
  let c128_i32_459 : BitVec 32 := 128#32
  let v962 : BitVec 32 := Scalar.addi c0_i32_458 c128_i32_459
  let c1_i32_460 : BitVec 32 := 1#32
  ⟨c0_i32_458, v962, c1_i32_460⟩
def k2_off42 (k2_t15 : Fin k2_t15_loop.trips) : Fin 1 → Nat :=
  let c0_i32_458 : BitVec 32 := 0#32
  let c1_i32_460 : BitVec 32 := 1#32
  let arg25 : BitVec 32 := Scf.iv c0_i32_458 c1_i32_460 k2_t15
  let c16_i32_1230 : BitVec 32 := 16#32
  let v1909 : BitVec 32 := Scalar.muli arg25 c16_i32_1230
  let v1910 : Index := Scalar.indexCast v1909
  ![v1910.toNat]

def k2_chk35 (i : grid2.Coords) (v1908 : IVec S16 32) : Prop :=
  (∀ (k2_h1 : k2_cond1 i = 1#1), ∀ a x, ((![v1908] : Fin 1 → IVec S16 32) a x).toNat < S2064.size a) ∧
  (∀ (k2_h1 : k2_cond1 i = 1#1), ∀ a x, ((![v1908] : Fin 1 → IVec S16 32) a x).toNat < S2064.size a)
theorem k2_idx55_inb : ∀ (i : grid2.Coords) (v1908 : IVec S16 32) (k2_hw35 : k2_chk35 i v1908), ∀ (k2_h1 : k2_cond1 i = 1#1), ∀ a x, ((![v1908] : Fin 1 → IVec S16 32) a x).toNat < S2064.size a := fun i v1908 k2_hw35 k2_h1 => k2_hw35.1 k2_h1
theorem k2_idx56_inb : ∀ (i : grid2.Coords) (v1908 : IVec S16 32) (k2_hw35 : k2_chk35 i v1908), ∀ (k2_h1 : k2_cond1 i = 1#1), ∀ a x, ((![v1908] : Fin 1 → IVec S16 32) a x).toNat < S2064.size a := fun i v1908 k2_hw35 k2_h1 => k2_hw35.2 k2_h1
def k2_off43 (k2_t15 : Fin k2_t15_loop.trips) : Fin 1 → Nat :=
  let c0_i32_458 : BitVec 32 := 0#32
  let c1_i32_460 : BitVec 32 := 1#32
  let arg25 : BitVec 32 := Scf.iv c0_i32_458 c1_i32_460 k2_t15
  let c16_i32_1238 : BitVec 32 := 16#32
  let v1939 : BitVec 32 := Scalar.muli arg25 c16_i32_1238
  let v1940 : Index := Scalar.indexCast v1939
  ![v1940.toNat]
@[reducible] def k2_t16_loop : Scf.Loop 32 :=
  let c0_i32_463 : BitVec 32 := 0#32
  let c64_i32_464 : BitVec 32 := 64#32
  let v963 : BitVec 32 := Scalar.addi c0_i32_463 c64_i32_464
  let c1_i32_465 : BitVec 32 := 1#32
  ⟨c0_i32_463, v963, c1_i32_465⟩
def k2_off44 (k2_t16 : Fin k2_t16_loop.trips) : Fin 1 → Nat :=
  let c0_i32_463 : BitVec 32 := 0#32
  let c1_i32_465 : BitVec 32 := 1#32
  let arg25 : BitVec 32 := Scf.iv c0_i32_463 c1_i32_465 k2_t16
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c1_i32_1228 : BitVec 32 := 1#32
  let c0_i32_1231 : BitVec 32 := 0#32
  let v1910 : BitVec 1 := Scalar.cmpi .sgt c1_i32_1228 c0_i32_1231
  let v1911 : BitVec 32 := Scalar.extui v1910
  let c0_i32_1232 : BitVec 32 := 0#32
  let v1912 : BitVec 1 := Scalar.cmpi .slt c1_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c1_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c1_i32_1228
  let c1_i32_1234 : BitVec 32 := 1#32
  let v1919 : BitVec 32 := Scalar.subi v1904 c1_i32_1234
  let v1920 : BitVec 32 := Scalar.select v1918 v1919 v1904
  let c2_i32_1235 : BitVec 32 := 2#32
  let v1921 : BitVec 32 := Scalar.muli v1920 c2_i32_1235
  let c1_i32_1236 : BitVec 32 := 1#32
  let c0_i32_1237 : BitVec 32 := 0#32
  let v1922 : BitVec 1 := Scalar.cmpi .eq c1_i32_1236 c0_i32_1237
  let c1_i32_1238 : BitVec 32 := 1#32
  let v1923 : BitVec 32 := Scalar.select v1922 c1_i32_1238 c1_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c16_i32_1243 : BitVec 32 := 16#32
  let v1934 : BitVec 32 := Scalar.muli v1932 c16_i32_1243
  let v1935 : Index := Scalar.indexCast v1934
  ![v1935.toNat]
def k2_off45 (k2_t16 : Fin k2_t16_loop.trips) : Fin 1 → Nat :=
  let c0_i32_463 : BitVec 32 := 0#32
  let c1_i32_465 : BitVec 32 := 1#32
  let arg25 : BitVec 32 := Scf.iv c0_i32_463 c1_i32_465 k2_t16
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c1_i32_1228 : BitVec 32 := 1#32
  let c0_i32_1231 : BitVec 32 := 0#32
  let v1910 : BitVec 1 := Scalar.cmpi .sgt c1_i32_1228 c0_i32_1231
  let v1911 : BitVec 32 := Scalar.extui v1910
  let c0_i32_1232 : BitVec 32 := 0#32
  let v1912 : BitVec 1 := Scalar.cmpi .slt c1_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c1_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c1_i32_1228
  let c1_i32_1234 : BitVec 32 := 1#32
  let v1919 : BitVec 32 := Scalar.subi v1904 c1_i32_1234
  let v1920 : BitVec 32 := Scalar.select v1918 v1919 v1904
  let c2_i32_1235 : BitVec 32 := 2#32
  let v1921 : BitVec 32 := Scalar.muli v1920 c2_i32_1235
  let c1_i32_1236 : BitVec 32 := 1#32
  let c0_i32_1237 : BitVec 32 := 0#32
  let v1922 : BitVec 1 := Scalar.cmpi .eq c1_i32_1236 c0_i32_1237
  let c1_i32_1238 : BitVec 32 := 1#32
  let v1923 : BitVec 32 := Scalar.select v1922 c1_i32_1238 c1_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c1_i32_1242 : BitVec 32 := 1#32
  let v1933 : BitVec 32 := Scalar.addi v1932 c1_i32_1242
  let c16_i32_1244 : BitVec 32 := 16#32
  let v1937 : BitVec 32 := Scalar.muli v1933 c16_i32_1244
  let v1938 : Index := Scalar.indexCast v1937
  ![v1938.toNat]
@[reducible] def k2_t17_loop : Scf.Loop 32 :=
  let c0_i32_468 : BitVec 32 := 0#32
  let c128_i32_469 : BitVec 32 := 128#32
  let v964 : BitVec 32 := Scalar.addi c0_i32_468 c128_i32_469
  let c1_i32_470 : BitVec 32 := 1#32
  ⟨c0_i32_468, v964, c1_i32_470⟩
def k2_off46 (k2_t17 : Fin k2_t17_loop.trips) : Fin 1 → Nat :=
  let c0_i32_468 : BitVec 32 := 0#32
  let c1_i32_470 : BitVec 32 := 1#32
  let arg25 : BitVec 32 := Scf.iv c0_i32_468 c1_i32_470 k2_t17
  let c16_i32_1230 : BitVec 32 := 16#32
  let v1909 : BitVec 32 := Scalar.muli arg25 c16_i32_1230
  let v1910 : Index := Scalar.indexCast v1909
  ![v1910.toNat]

def k2_chk36 (i : grid2.Coords) (v1908 : IVec S16 32) : Prop :=
  (∀ (k2_h1 : k2_cond1 i = 1#1), ∀ a x, ((![v1908] : Fin 1 → IVec S16 32) a x).toNat < S2064.size a) ∧
  (∀ (k2_h1 : k2_cond1 i = 1#1), ∀ a x, ((![v1908] : Fin 1 → IVec S16 32) a x).toNat < S2064.size a)
theorem k2_idx57_inb : ∀ (i : grid2.Coords) (v1908 : IVec S16 32) (k2_hw36 : k2_chk36 i v1908), ∀ (k2_h1 : k2_cond1 i = 1#1), ∀ a x, ((![v1908] : Fin 1 → IVec S16 32) a x).toNat < S2064.size a := fun i v1908 k2_hw36 k2_h1 => k2_hw36.1 k2_h1
theorem k2_idx58_inb : ∀ (i : grid2.Coords) (v1908 : IVec S16 32) (k2_hw36 : k2_chk36 i v1908), ∀ (k2_h1 : k2_cond1 i = 1#1), ∀ a x, ((![v1908] : Fin 1 → IVec S16 32) a x).toNat < S2064.size a := fun i v1908 k2_hw36 k2_h1 => k2_hw36.2 k2_h1
def k2_off47 (k2_t17 : Fin k2_t17_loop.trips) : Fin 1 → Nat :=
  let c0_i32_468 : BitVec 32 := 0#32
  let c1_i32_470 : BitVec 32 := 1#32
  let arg25 : BitVec 32 := Scf.iv c0_i32_468 c1_i32_470 k2_t17
  let c16_i32_1238 : BitVec 32 := 16#32
  let v1939 : BitVec 32 := Scalar.muli arg25 c16_i32_1238
  let v1940 : Index := Scalar.indexCast v1939
  ![v1940.toNat]
@[reducible] def k2_t18_loop : Scf.Loop 32 :=
  let c0_i32_473 : BitVec 32 := 0#32
  let c128_i32_474 : BitVec 32 := 128#32
  let v965 : BitVec 32 := Scalar.addi c0_i32_473 c128_i32_474
  let c1_i32_475 : BitVec 32 := 1#32
  ⟨c0_i32_473, v965, c1_i32_475⟩
def k2_off48 (k2_t18 : Fin k2_t18_loop.trips) : Fin 1 → Nat :=
  let c0_i32_473 : BitVec 32 := 0#32
  let c1_i32_475 : BitVec 32 := 1#32
  let arg25 : BitVec 32 := Scf.iv c0_i32_473 c1_i32_475 k2_t18
  let c16_i32_1230 : BitVec 32 := 16#32
  let v1909 : BitVec 32 := Scalar.muli arg25 c16_i32_1230
  let v1910 : Index := Scalar.indexCast v1909
  ![v1910.toNat]

def k2_chk37 (i : grid2.Coords) (v1908 : IVec S16 32) : Prop :=
  (∀ (k2_h1 : k2_cond1 i = 1#1), ∀ a x, ((![v1908] : Fin 1 → IVec S16 32) a x).toNat < S2064.size a) ∧
  (∀ (k2_h1 : k2_cond1 i = 1#1), ∀ a x, ((![v1908] : Fin 1 → IVec S16 32) a x).toNat < S2064.size a)
theorem k2_idx59_inb : ∀ (i : grid2.Coords) (v1908 : IVec S16 32) (k2_hw37 : k2_chk37 i v1908), ∀ (k2_h1 : k2_cond1 i = 1#1), ∀ a x, ((![v1908] : Fin 1 → IVec S16 32) a x).toNat < S2064.size a := fun i v1908 k2_hw37 k2_h1 => k2_hw37.1 k2_h1
theorem k2_idx60_inb : ∀ (i : grid2.Coords) (v1908 : IVec S16 32) (k2_hw37 : k2_chk37 i v1908), ∀ (k2_h1 : k2_cond1 i = 1#1), ∀ a x, ((![v1908] : Fin 1 → IVec S16 32) a x).toNat < S2064.size a := fun i v1908 k2_hw37 k2_h1 => k2_hw37.2 k2_h1
def k2_off49 (k2_t18 : Fin k2_t18_loop.trips) : Fin 1 → Nat :=
  let c0_i32_473 : BitVec 32 := 0#32
  let c1_i32_475 : BitVec 32 := 1#32
  let arg25 : BitVec 32 := Scf.iv c0_i32_473 c1_i32_475 k2_t18
  let c16_i32_1238 : BitVec 32 := 16#32
  let v1939 : BitVec 32 := Scalar.muli arg25 c16_i32_1238
  let v1940 : Index := Scalar.indexCast v1939
  ![v1940.toNat]
@[reducible] def k2_t19_loop : Scf.Loop 32 :=
  let c0_i32_478 : BitVec 32 := 0#32
  let c128_i32_479 : BitVec 32 := 128#32
  let v966 : BitVec 32 := Scalar.addi c0_i32_478 c128_i32_479
  let c1_i32_480 : BitVec 32 := 1#32
  ⟨c0_i32_478, v966, c1_i32_480⟩
def k2_off50 (k2_t19 : Fin k2_t19_loop.trips) : Fin 1 → Nat :=
  let c0_i32_478 : BitVec 32 := 0#32
  let c1_i32_480 : BitVec 32 := 1#32
  let arg25 : BitVec 32 := Scf.iv c0_i32_478 c1_i32_480 k2_t19
  let c16_i32_1230 : BitVec 32 := 16#32
  let v1909 : BitVec 32 := Scalar.muli arg25 c16_i32_1230
  let v1910 : Index := Scalar.indexCast v1909
  ![v1910.toNat]

def k2_chk38 (i : grid2.Coords) (v1908 : IVec S16 32) : Prop :=
  (∀ (k2_h1 : k2_cond1 i = 1#1), ∀ a x, ((![v1908] : Fin 1 → IVec S16 32) a x).toNat < S2064.size a) ∧
  (∀ (k2_h1 : k2_cond1 i = 1#1), ∀ a x, ((![v1908] : Fin 1 → IVec S16 32) a x).toNat < S2064.size a)
theorem k2_idx61_inb : ∀ (i : grid2.Coords) (v1908 : IVec S16 32) (k2_hw38 : k2_chk38 i v1908), ∀ (k2_h1 : k2_cond1 i = 1#1), ∀ a x, ((![v1908] : Fin 1 → IVec S16 32) a x).toNat < S2064.size a := fun i v1908 k2_hw38 k2_h1 => k2_hw38.1 k2_h1
theorem k2_idx62_inb : ∀ (i : grid2.Coords) (v1908 : IVec S16 32) (k2_hw38 : k2_chk38 i v1908), ∀ (k2_h1 : k2_cond1 i = 1#1), ∀ a x, ((![v1908] : Fin 1 → IVec S16 32) a x).toNat < S2064.size a := fun i v1908 k2_hw38 k2_h1 => k2_hw38.2 k2_h1
def k2_off51 (k2_t19 : Fin k2_t19_loop.trips) : Fin 1 → Nat :=
  let c0_i32_478 : BitVec 32 := 0#32
  let c1_i32_480 : BitVec 32 := 1#32
  let arg25 : BitVec 32 := Scf.iv c0_i32_478 c1_i32_480 k2_t19
  let c16_i32_1238 : BitVec 32 := 16#32
  let v1939 : BitVec 32 := Scalar.muli arg25 c16_i32_1238
  let v1940 : Index := Scalar.indexCast v1939
  ![v1940.toNat]
@[reducible] def k2_t20_loop : Scf.Loop 32 :=
  let c0_i32_483 : BitVec 32 := 0#32
  let c128_i32_484 : BitVec 32 := 128#32
  let v967 : BitVec 32 := Scalar.addi c0_i32_483 c128_i32_484
  let c1_i32_485 : BitVec 32 := 1#32
  ⟨c0_i32_483, v967, c1_i32_485⟩
def k2_off52 (k2_t20 : Fin k2_t20_loop.trips) : Fin 1 → Nat :=
  let c0_i32_483 : BitVec 32 := 0#32
  let c1_i32_485 : BitVec 32 := 1#32
  let arg25 : BitVec 32 := Scf.iv c0_i32_483 c1_i32_485 k2_t20
  let c16_i32_1230 : BitVec 32 := 16#32
  let v1909 : BitVec 32 := Scalar.muli arg25 c16_i32_1230
  let v1910 : Index := Scalar.indexCast v1909
  ![v1910.toNat]

def k2_chk39 (i : grid2.Coords) (v1908 : IVec S16 32) : Prop :=
  (∀ (k2_h1 : k2_cond1 i = 1#1), ∀ a x, ((![v1908] : Fin 1 → IVec S16 32) a x).toNat < S2064.size a) ∧
  (∀ (k2_h1 : k2_cond1 i = 1#1), ∀ a x, ((![v1908] : Fin 1 → IVec S16 32) a x).toNat < S2064.size a)
theorem k2_idx63_inb : ∀ (i : grid2.Coords) (v1908 : IVec S16 32) (k2_hw39 : k2_chk39 i v1908), ∀ (k2_h1 : k2_cond1 i = 1#1), ∀ a x, ((![v1908] : Fin 1 → IVec S16 32) a x).toNat < S2064.size a := fun i v1908 k2_hw39 k2_h1 => k2_hw39.1 k2_h1
theorem k2_idx64_inb : ∀ (i : grid2.Coords) (v1908 : IVec S16 32) (k2_hw39 : k2_chk39 i v1908), ∀ (k2_h1 : k2_cond1 i = 1#1), ∀ a x, ((![v1908] : Fin 1 → IVec S16 32) a x).toNat < S2064.size a := fun i v1908 k2_hw39 k2_h1 => k2_hw39.2 k2_h1
def k2_off53 (k2_t20 : Fin k2_t20_loop.trips) : Fin 1 → Nat :=
  let c0_i32_483 : BitVec 32 := 0#32
  let c1_i32_485 : BitVec 32 := 1#32
  let arg25 : BitVec 32 := Scf.iv c0_i32_483 c1_i32_485 k2_t20
  let c16_i32_1238 : BitVec 32 := 16#32
  let v1939 : BitVec 32 := Scalar.muli arg25 c16_i32_1238
  let v1940 : Index := Scalar.indexCast v1939
  ![v1940.toNat]
@[reducible] def k2_t21_loop : Scf.Loop 32 :=
  let c0_i32_488 : BitVec 32 := 0#32
  let c64_i32_489 : BitVec 32 := 64#32
  let v968 : BitVec 32 := Scalar.addi c0_i32_488 c64_i32_489
  let c1_i32_490 : BitVec 32 := 1#32
  ⟨c0_i32_488, v968, c1_i32_490⟩
def k2_off54 (k2_t21 : Fin k2_t21_loop.trips) : Fin 1 → Nat :=
  let c0_i32_488 : BitVec 32 := 0#32
  let c1_i32_490 : BitVec 32 := 1#32
  let arg25 : BitVec 32 := Scf.iv c0_i32_488 c1_i32_490 k2_t21
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c2_i32_1228 : BitVec 32 := 2#32
  let c0_i32_1231 : BitVec 32 := 0#32
  let v1910 : BitVec 1 := Scalar.cmpi .sgt c2_i32_1228 c0_i32_1231
  let v1911 : BitVec 32 := Scalar.extui v1910
  let c0_i32_1232 : BitVec 32 := 0#32
  let v1912 : BitVec 1 := Scalar.cmpi .slt c2_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c2_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c2_i32_1228
  let c1_i32_1234 : BitVec 32 := 1#32
  let v1919 : BitVec 32 := Scalar.subi v1904 c1_i32_1234
  let v1920 : BitVec 32 := Scalar.select v1918 v1919 v1904
  let c4_i32_1235 : BitVec 32 := 4#32
  let v1921 : BitVec 32 := Scalar.muli v1920 c4_i32_1235
  let c2_i32_1236 : BitVec 32 := 2#32
  let c0_i32_1237 : BitVec 32 := 0#32
  let v1922 : BitVec 1 := Scalar.cmpi .eq c2_i32_1236 c0_i32_1237
  let c1_i32_1238 : BitVec 32 := 1#32
  let v1923 : BitVec 32 := Scalar.select v1922 c1_i32_1238 c2_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c16_i32_1243 : BitVec 32 := 16#32
  let v1934 : BitVec 32 := Scalar.muli v1932 c16_i32_1243
  let v1935 : Index := Scalar.indexCast v1934
  ![v1935.toNat]
def k2_off55 (k2_t21 : Fin k2_t21_loop.trips) : Fin 1 → Nat :=
  let c0_i32_488 : BitVec 32 := 0#32
  let c1_i32_490 : BitVec 32 := 1#32
  let arg25 : BitVec 32 := Scf.iv c0_i32_488 c1_i32_490 k2_t21
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c2_i32_1228 : BitVec 32 := 2#32
  let c0_i32_1231 : BitVec 32 := 0#32
  let v1910 : BitVec 1 := Scalar.cmpi .sgt c2_i32_1228 c0_i32_1231
  let v1911 : BitVec 32 := Scalar.extui v1910
  let c0_i32_1232 : BitVec 32 := 0#32
  let v1912 : BitVec 1 := Scalar.cmpi .slt c2_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c2_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c2_i32_1228
  let c1_i32_1234 : BitVec 32 := 1#32
  let v1919 : BitVec 32 := Scalar.subi v1904 c1_i32_1234
  let v1920 : BitVec 32 := Scalar.select v1918 v1919 v1904
  let c4_i32_1235 : BitVec 32 := 4#32
  let v1921 : BitVec 32 := Scalar.muli v1920 c4_i32_1235
  let c2_i32_1236 : BitVec 32 := 2#32
  let c0_i32_1237 : BitVec 32 := 0#32
  let v1922 : BitVec 1 := Scalar.cmpi .eq c2_i32_1236 c0_i32_1237
  let c1_i32_1238 : BitVec 32 := 1#32
  let v1923 : BitVec 32 := Scalar.select v1922 c1_i32_1238 c2_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c2_i32_1242 : BitVec 32 := 2#32
  let v1933 : BitVec 32 := Scalar.addi v1932 c2_i32_1242
  let c16_i32_1244 : BitVec 32 := 16#32
  let v1937 : BitVec 32 := Scalar.muli v1933 c16_i32_1244
  let v1938 : Index := Scalar.indexCast v1937
  ![v1938.toNat]
@[reducible] def k2_t22_loop : Scf.Loop 32 :=
  let c0_i32_493 : BitVec 32 := 0#32
  let c64_i32_494 : BitVec 32 := 64#32
  let v969 : BitVec 32 := Scalar.addi c0_i32_493 c64_i32_494
  let c1_i32_495 : BitVec 32 := 1#32
  ⟨c0_i32_493, v969, c1_i32_495⟩
def k2_off56 (k2_t22 : Fin k2_t22_loop.trips) : Fin 1 → Nat :=
  let c0_i32_493 : BitVec 32 := 0#32
  let c1_i32_495 : BitVec 32 := 1#32
  let arg25 : BitVec 32 := Scf.iv c0_i32_493 c1_i32_495 k2_t22
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c1_i32_1228 : BitVec 32 := 1#32
  let c0_i32_1231 : BitVec 32 := 0#32
  let v1910 : BitVec 1 := Scalar.cmpi .sgt c1_i32_1228 c0_i32_1231
  let v1911 : BitVec 32 := Scalar.extui v1910
  let c0_i32_1232 : BitVec 32 := 0#32
  let v1912 : BitVec 1 := Scalar.cmpi .slt c1_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c1_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c1_i32_1228
  let c1_i32_1234 : BitVec 32 := 1#32
  let v1919 : BitVec 32 := Scalar.subi v1904 c1_i32_1234
  let v1920 : BitVec 32 := Scalar.select v1918 v1919 v1904
  let c2_i32_1235 : BitVec 32 := 2#32
  let v1921 : BitVec 32 := Scalar.muli v1920 c2_i32_1235
  let c1_i32_1236 : BitVec 32 := 1#32
  let c0_i32_1237 : BitVec 32 := 0#32
  let v1922 : BitVec 1 := Scalar.cmpi .eq c1_i32_1236 c0_i32_1237
  let c1_i32_1238 : BitVec 32 := 1#32
  let v1923 : BitVec 32 := Scalar.select v1922 c1_i32_1238 c1_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c16_i32_1243 : BitVec 32 := 16#32
  let v1934 : BitVec 32 := Scalar.muli v1932 c16_i32_1243
  let v1935 : Index := Scalar.indexCast v1934
  ![v1935.toNat]
def k2_off57 (k2_t22 : Fin k2_t22_loop.trips) : Fin 1 → Nat :=
  let c0_i32_493 : BitVec 32 := 0#32
  let c1_i32_495 : BitVec 32 := 1#32
  let arg25 : BitVec 32 := Scf.iv c0_i32_493 c1_i32_495 k2_t22
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c1_i32_1228 : BitVec 32 := 1#32
  let c0_i32_1231 : BitVec 32 := 0#32
  let v1910 : BitVec 1 := Scalar.cmpi .sgt c1_i32_1228 c0_i32_1231
  let v1911 : BitVec 32 := Scalar.extui v1910
  let c0_i32_1232 : BitVec 32 := 0#32
  let v1912 : BitVec 1 := Scalar.cmpi .slt c1_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c1_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c1_i32_1228
  let c1_i32_1234 : BitVec 32 := 1#32
  let v1919 : BitVec 32 := Scalar.subi v1904 c1_i32_1234
  let v1920 : BitVec 32 := Scalar.select v1918 v1919 v1904
  let c2_i32_1235 : BitVec 32 := 2#32
  let v1921 : BitVec 32 := Scalar.muli v1920 c2_i32_1235
  let c1_i32_1236 : BitVec 32 := 1#32
  let c0_i32_1237 : BitVec 32 := 0#32
  let v1922 : BitVec 1 := Scalar.cmpi .eq c1_i32_1236 c0_i32_1237
  let c1_i32_1238 : BitVec 32 := 1#32
  let v1923 : BitVec 32 := Scalar.select v1922 c1_i32_1238 c1_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c1_i32_1242 : BitVec 32 := 1#32
  let v1933 : BitVec 32 := Scalar.addi v1932 c1_i32_1242
  let c16_i32_1244 : BitVec 32 := 16#32
  let v1937 : BitVec 32 := Scalar.muli v1933 c16_i32_1244
  let v1938 : Index := Scalar.indexCast v1937
  ![v1938.toNat]
@[reducible] def k2_t23_loop : Scf.Loop 32 :=
  let c0_i32_498 : BitVec 32 := 0#32
  let c128_i32_499 : BitVec 32 := 128#32
  let v970 : BitVec 32 := Scalar.addi c0_i32_498 c128_i32_499
  let c1_i32_500 : BitVec 32 := 1#32
  ⟨c0_i32_498, v970, c1_i32_500⟩
def k2_off58 (k2_t23 : Fin k2_t23_loop.trips) : Fin 1 → Nat :=
  let c0_i32_498 : BitVec 32 := 0#32
  let c1_i32_500 : BitVec 32 := 1#32
  let arg25 : BitVec 32 := Scf.iv c0_i32_498 c1_i32_500 k2_t23
  let c16_i32_1230 : BitVec 32 := 16#32
  let v1909 : BitVec 32 := Scalar.muli arg25 c16_i32_1230
  let v1910 : Index := Scalar.indexCast v1909
  ![v1910.toNat]

def k2_chk40 (i : grid2.Coords) (v1908 : IVec S16 32) : Prop :=
  (∀ (k2_h1 : k2_cond1 i = 1#1), ∀ a x, ((![v1908] : Fin 1 → IVec S16 32) a x).toNat < S2064.size a) ∧
  (∀ (k2_h1 : k2_cond1 i = 1#1), ∀ a x, ((![v1908] : Fin 1 → IVec S16 32) a x).toNat < S2064.size a)
theorem k2_idx65_inb : ∀ (i : grid2.Coords) (v1908 : IVec S16 32) (k2_hw40 : k2_chk40 i v1908), ∀ (k2_h1 : k2_cond1 i = 1#1), ∀ a x, ((![v1908] : Fin 1 → IVec S16 32) a x).toNat < S2064.size a := fun i v1908 k2_hw40 k2_h1 => k2_hw40.1 k2_h1
theorem k2_idx66_inb : ∀ (i : grid2.Coords) (v1908 : IVec S16 32) (k2_hw40 : k2_chk40 i v1908), ∀ (k2_h1 : k2_cond1 i = 1#1), ∀ a x, ((![v1908] : Fin 1 → IVec S16 32) a x).toNat < S2064.size a := fun i v1908 k2_hw40 k2_h1 => k2_hw40.2 k2_h1
def k2_off59 (k2_t23 : Fin k2_t23_loop.trips) : Fin 1 → Nat :=
  let c0_i32_498 : BitVec 32 := 0#32
  let c1_i32_500 : BitVec 32 := 1#32
  let arg25 : BitVec 32 := Scf.iv c0_i32_498 c1_i32_500 k2_t23
  let c16_i32_1238 : BitVec 32 := 16#32
  let v1939 : BitVec 32 := Scalar.muli arg25 c16_i32_1238
  let v1940 : Index := Scalar.indexCast v1939
  ![v1940.toNat]
@[reducible] def k2_t24_loop : Scf.Loop 32 :=
  let c0_i32_503 : BitVec 32 := 0#32
  let c128_i32_504 : BitVec 32 := 128#32
  let v971 : BitVec 32 := Scalar.addi c0_i32_503 c128_i32_504
  let c1_i32_505 : BitVec 32 := 1#32
  ⟨c0_i32_503, v971, c1_i32_505⟩
def k2_off60 (k2_t24 : Fin k2_t24_loop.trips) : Fin 1 → Nat :=
  let c0_i32_503 : BitVec 32 := 0#32
  let c1_i32_505 : BitVec 32 := 1#32
  let arg25 : BitVec 32 := Scf.iv c0_i32_503 c1_i32_505 k2_t24
  let c16_i32_1230 : BitVec 32 := 16#32
  let v1909 : BitVec 32 := Scalar.muli arg25 c16_i32_1230
  let v1910 : Index := Scalar.indexCast v1909
  ![v1910.toNat]

def k2_chk41 (i : grid2.Coords) (v1908 : IVec S16 32) : Prop :=
  (∀ (k2_h1 : k2_cond1 i = 1#1), ∀ a x, ((![v1908] : Fin 1 → IVec S16 32) a x).toNat < S2064.size a) ∧
  (∀ (k2_h1 : k2_cond1 i = 1#1), ∀ a x, ((![v1908] : Fin 1 → IVec S16 32) a x).toNat < S2064.size a)
theorem k2_idx67_inb : ∀ (i : grid2.Coords) (v1908 : IVec S16 32) (k2_hw41 : k2_chk41 i v1908), ∀ (k2_h1 : k2_cond1 i = 1#1), ∀ a x, ((![v1908] : Fin 1 → IVec S16 32) a x).toNat < S2064.size a := fun i v1908 k2_hw41 k2_h1 => k2_hw41.1 k2_h1
theorem k2_idx68_inb : ∀ (i : grid2.Coords) (v1908 : IVec S16 32) (k2_hw41 : k2_chk41 i v1908), ∀ (k2_h1 : k2_cond1 i = 1#1), ∀ a x, ((![v1908] : Fin 1 → IVec S16 32) a x).toNat < S2064.size a := fun i v1908 k2_hw41 k2_h1 => k2_hw41.2 k2_h1
def k2_off61 (k2_t24 : Fin k2_t24_loop.trips) : Fin 1 → Nat :=
  let c0_i32_503 : BitVec 32 := 0#32
  let c1_i32_505 : BitVec 32 := 1#32
  let arg25 : BitVec 32 := Scf.iv c0_i32_503 c1_i32_505 k2_t24
  let c16_i32_1238 : BitVec 32 := 16#32
  let v1939 : BitVec 32 := Scalar.muli arg25 c16_i32_1238
  let v1940 : Index := Scalar.indexCast v1939
  ![v1940.toNat]
@[reducible] def k2_t25_loop : Scf.Loop 32 :=
  let c0_i32_508 : BitVec 32 := 0#32
  let c128_i32_509 : BitVec 32 := 128#32
  let v972 : BitVec 32 := Scalar.addi c0_i32_508 c128_i32_509
  let c1_i32_510 : BitVec 32 := 1#32
  ⟨c0_i32_508, v972, c1_i32_510⟩
def k2_off62 (k2_t25 : Fin k2_t25_loop.trips) : Fin 1 → Nat :=
  let c0_i32_508 : BitVec 32 := 0#32
  let c1_i32_510 : BitVec 32 := 1#32
  let arg25 : BitVec 32 := Scf.iv c0_i32_508 c1_i32_510 k2_t25
  let c16_i32_1230 : BitVec 32 := 16#32
  let v1909 : BitVec 32 := Scalar.muli arg25 c16_i32_1230
  let v1910 : Index := Scalar.indexCast v1909
  ![v1910.toNat]

def k2_chk42 (i : grid2.Coords) (v1908 : IVec S16 32) : Prop :=
  (∀ (k2_h1 : k2_cond1 i = 1#1), ∀ a x, ((![v1908] : Fin 1 → IVec S16 32) a x).toNat < S2064.size a) ∧
  (∀ (k2_h1 : k2_cond1 i = 1#1), ∀ a x, ((![v1908] : Fin 1 → IVec S16 32) a x).toNat < S2064.size a)
theorem k2_idx69_inb : ∀ (i : grid2.Coords) (v1908 : IVec S16 32) (k2_hw42 : k2_chk42 i v1908), ∀ (k2_h1 : k2_cond1 i = 1#1), ∀ a x, ((![v1908] : Fin 1 → IVec S16 32) a x).toNat < S2064.size a := fun i v1908 k2_hw42 k2_h1 => k2_hw42.1 k2_h1
theorem k2_idx70_inb : ∀ (i : grid2.Coords) (v1908 : IVec S16 32) (k2_hw42 : k2_chk42 i v1908), ∀ (k2_h1 : k2_cond1 i = 1#1), ∀ a x, ((![v1908] : Fin 1 → IVec S16 32) a x).toNat < S2064.size a := fun i v1908 k2_hw42 k2_h1 => k2_hw42.2 k2_h1
def k2_off63 (k2_t25 : Fin k2_t25_loop.trips) : Fin 1 → Nat :=
  let c0_i32_508 : BitVec 32 := 0#32
  let c1_i32_510 : BitVec 32 := 1#32
  let arg25 : BitVec 32 := Scf.iv c0_i32_508 c1_i32_510 k2_t25
  let c16_i32_1238 : BitVec 32 := 16#32
  let v1939 : BitVec 32 := Scalar.muli arg25 c16_i32_1238
  let v1940 : Index := Scalar.indexCast v1939
  ![v1940.toNat]
@[reducible] def k2_t26_loop : Scf.Loop 32 :=
  let c0_i32_513 : BitVec 32 := 0#32
  let c128_i32_514 : BitVec 32 := 128#32
  let v973 : BitVec 32 := Scalar.addi c0_i32_513 c128_i32_514
  let c1_i32_515 : BitVec 32 := 1#32
  ⟨c0_i32_513, v973, c1_i32_515⟩
def k2_off64 (k2_t26 : Fin k2_t26_loop.trips) : Fin 1 → Nat :=
  let c0_i32_513 : BitVec 32 := 0#32
  let c1_i32_515 : BitVec 32 := 1#32
  let arg25 : BitVec 32 := Scf.iv c0_i32_513 c1_i32_515 k2_t26
  let c16_i32_1230 : BitVec 32 := 16#32
  let v1909 : BitVec 32 := Scalar.muli arg25 c16_i32_1230
  let v1910 : Index := Scalar.indexCast v1909
  ![v1910.toNat]

def k2_chk43 (i : grid2.Coords) (v1908 : IVec S16 32) : Prop :=
  (∀ (k2_h1 : k2_cond1 i = 1#1), ∀ a x, ((![v1908] : Fin 1 → IVec S16 32) a x).toNat < S2064.size a) ∧
  (∀ (k2_h1 : k2_cond1 i = 1#1), ∀ a x, ((![v1908] : Fin 1 → IVec S16 32) a x).toNat < S2064.size a)
theorem k2_idx71_inb : ∀ (i : grid2.Coords) (v1908 : IVec S16 32) (k2_hw43 : k2_chk43 i v1908), ∀ (k2_h1 : k2_cond1 i = 1#1), ∀ a x, ((![v1908] : Fin 1 → IVec S16 32) a x).toNat < S2064.size a := fun i v1908 k2_hw43 k2_h1 => k2_hw43.1 k2_h1
theorem k2_idx72_inb : ∀ (i : grid2.Coords) (v1908 : IVec S16 32) (k2_hw43 : k2_chk43 i v1908), ∀ (k2_h1 : k2_cond1 i = 1#1), ∀ a x, ((![v1908] : Fin 1 → IVec S16 32) a x).toNat < S2064.size a := fun i v1908 k2_hw43 k2_h1 => k2_hw43.2 k2_h1
def k2_off65 (k2_t26 : Fin k2_t26_loop.trips) : Fin 1 → Nat :=
  let c0_i32_513 : BitVec 32 := 0#32
  let c1_i32_515 : BitVec 32 := 1#32
  let arg25 : BitVec 32 := Scf.iv c0_i32_513 c1_i32_515 k2_t26
  let c16_i32_1238 : BitVec 32 := 16#32
  let v1939 : BitVec 32 := Scalar.muli arg25 c16_i32_1238
  let v1940 : Index := Scalar.indexCast v1939
  ![v1940.toNat]
@[reducible] def k2_t27_loop : Scf.Loop 32 :=
  let c0_i32_518 : BitVec 32 := 0#32
  let c64_i32_519 : BitVec 32 := 64#32
  let v974 : BitVec 32 := Scalar.addi c0_i32_518 c64_i32_519
  let c1_i32_520 : BitVec 32 := 1#32
  ⟨c0_i32_518, v974, c1_i32_520⟩
def k2_off66 (k2_t27 : Fin k2_t27_loop.trips) : Fin 1 → Nat :=
  let c0_i32_518 : BitVec 32 := 0#32
  let c1_i32_520 : BitVec 32 := 1#32
  let arg25 : BitVec 32 := Scf.iv c0_i32_518 c1_i32_520 k2_t27
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c4_i32_1228 : BitVec 32 := 4#32
  let c0_i32_1231 : BitVec 32 := 0#32
  let v1910 : BitVec 1 := Scalar.cmpi .sgt c4_i32_1228 c0_i32_1231
  let v1911 : BitVec 32 := Scalar.extui v1910
  let c0_i32_1232 : BitVec 32 := 0#32
  let v1912 : BitVec 1 := Scalar.cmpi .slt c4_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c4_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c4_i32_1228
  let c1_i32_1234 : BitVec 32 := 1#32
  let v1919 : BitVec 32 := Scalar.subi v1904 c1_i32_1234
  let v1920 : BitVec 32 := Scalar.select v1918 v1919 v1904
  let c8_i32_1235 : BitVec 32 := 8#32
  let v1921 : BitVec 32 := Scalar.muli v1920 c8_i32_1235
  let c4_i32_1236 : BitVec 32 := 4#32
  let c0_i32_1237 : BitVec 32 := 0#32
  let v1922 : BitVec 1 := Scalar.cmpi .eq c4_i32_1236 c0_i32_1237
  let c1_i32_1238 : BitVec 32 := 1#32
  let v1923 : BitVec 32 := Scalar.select v1922 c1_i32_1238 c4_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c16_i32_1243 : BitVec 32 := 16#32
  let v1934 : BitVec 32 := Scalar.muli v1932 c16_i32_1243
  let v1935 : Index := Scalar.indexCast v1934
  ![v1935.toNat]
def k2_off67 (k2_t27 : Fin k2_t27_loop.trips) : Fin 1 → Nat :=
  let c0_i32_518 : BitVec 32 := 0#32
  let c1_i32_520 : BitVec 32 := 1#32
  let arg25 : BitVec 32 := Scf.iv c0_i32_518 c1_i32_520 k2_t27
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c4_i32_1228 : BitVec 32 := 4#32
  let c0_i32_1231 : BitVec 32 := 0#32
  let v1910 : BitVec 1 := Scalar.cmpi .sgt c4_i32_1228 c0_i32_1231
  let v1911 : BitVec 32 := Scalar.extui v1910
  let c0_i32_1232 : BitVec 32 := 0#32
  let v1912 : BitVec 1 := Scalar.cmpi .slt c4_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c4_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c4_i32_1228
  let c1_i32_1234 : BitVec 32 := 1#32
  let v1919 : BitVec 32 := Scalar.subi v1904 c1_i32_1234
  let v1920 : BitVec 32 := Scalar.select v1918 v1919 v1904
  let c8_i32_1235 : BitVec 32 := 8#32
  let v1921 : BitVec 32 := Scalar.muli v1920 c8_i32_1235
  let c4_i32_1236 : BitVec 32 := 4#32
  let c0_i32_1237 : BitVec 32 := 0#32
  let v1922 : BitVec 1 := Scalar.cmpi .eq c4_i32_1236 c0_i32_1237
  let c1_i32_1238 : BitVec 32 := 1#32
  let v1923 : BitVec 32 := Scalar.select v1922 c1_i32_1238 c4_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c4_i32_1242 : BitVec 32 := 4#32
  let v1933 : BitVec 32 := Scalar.addi v1932 c4_i32_1242
  let c16_i32_1244 : BitVec 32 := 16#32
  let v1937 : BitVec 32 := Scalar.muli v1933 c16_i32_1244
  let v1938 : Index := Scalar.indexCast v1937
  ![v1938.toNat]
@[reducible] def k2_t28_loop : Scf.Loop 32 :=
  let c0_i32_523 : BitVec 32 := 0#32
  let c64_i32_524 : BitVec 32 := 64#32
  let v975 : BitVec 32 := Scalar.addi c0_i32_523 c64_i32_524
  let c1_i32_525 : BitVec 32 := 1#32
  ⟨c0_i32_523, v975, c1_i32_525⟩
def k2_off68 (k2_t28 : Fin k2_t28_loop.trips) : Fin 1 → Nat :=
  let c0_i32_523 : BitVec 32 := 0#32
  let c1_i32_525 : BitVec 32 := 1#32
  let arg25 : BitVec 32 := Scf.iv c0_i32_523 c1_i32_525 k2_t28
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c2_i32_1228 : BitVec 32 := 2#32
  let c0_i32_1231 : BitVec 32 := 0#32
  let v1910 : BitVec 1 := Scalar.cmpi .sgt c2_i32_1228 c0_i32_1231
  let v1911 : BitVec 32 := Scalar.extui v1910
  let c0_i32_1232 : BitVec 32 := 0#32
  let v1912 : BitVec 1 := Scalar.cmpi .slt c2_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c2_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c2_i32_1228
  let c1_i32_1234 : BitVec 32 := 1#32
  let v1919 : BitVec 32 := Scalar.subi v1904 c1_i32_1234
  let v1920 : BitVec 32 := Scalar.select v1918 v1919 v1904
  let c4_i32_1235 : BitVec 32 := 4#32
  let v1921 : BitVec 32 := Scalar.muli v1920 c4_i32_1235
  let c2_i32_1236 : BitVec 32 := 2#32
  let c0_i32_1237 : BitVec 32 := 0#32
  let v1922 : BitVec 1 := Scalar.cmpi .eq c2_i32_1236 c0_i32_1237
  let c1_i32_1238 : BitVec 32 := 1#32
  let v1923 : BitVec 32 := Scalar.select v1922 c1_i32_1238 c2_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c16_i32_1243 : BitVec 32 := 16#32
  let v1934 : BitVec 32 := Scalar.muli v1932 c16_i32_1243
  let v1935 : Index := Scalar.indexCast v1934
  ![v1935.toNat]
def k2_off69 (k2_t28 : Fin k2_t28_loop.trips) : Fin 1 → Nat :=
  let c0_i32_523 : BitVec 32 := 0#32
  let c1_i32_525 : BitVec 32 := 1#32
  let arg25 : BitVec 32 := Scf.iv c0_i32_523 c1_i32_525 k2_t28
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c2_i32_1228 : BitVec 32 := 2#32
  let c0_i32_1231 : BitVec 32 := 0#32
  let v1910 : BitVec 1 := Scalar.cmpi .sgt c2_i32_1228 c0_i32_1231
  let v1911 : BitVec 32 := Scalar.extui v1910
  let c0_i32_1232 : BitVec 32 := 0#32
  let v1912 : BitVec 1 := Scalar.cmpi .slt c2_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c2_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c2_i32_1228
  let c1_i32_1234 : BitVec 32 := 1#32
  let v1919 : BitVec 32 := Scalar.subi v1904 c1_i32_1234
  let v1920 : BitVec 32 := Scalar.select v1918 v1919 v1904
  let c4_i32_1235 : BitVec 32 := 4#32
  let v1921 : BitVec 32 := Scalar.muli v1920 c4_i32_1235
  let c2_i32_1236 : BitVec 32 := 2#32
  let c0_i32_1237 : BitVec 32 := 0#32
  let v1922 : BitVec 1 := Scalar.cmpi .eq c2_i32_1236 c0_i32_1237
  let c1_i32_1238 : BitVec 32 := 1#32
  let v1923 : BitVec 32 := Scalar.select v1922 c1_i32_1238 c2_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c2_i32_1242 : BitVec 32 := 2#32
  let v1933 : BitVec 32 := Scalar.addi v1932 c2_i32_1242
  let c16_i32_1244 : BitVec 32 := 16#32
  let v1937 : BitVec 32 := Scalar.muli v1933 c16_i32_1244
  let v1938 : Index := Scalar.indexCast v1937
  ![v1938.toNat]
@[reducible] def k2_t29_loop : Scf.Loop 32 :=
  let c0_i32_528 : BitVec 32 := 0#32
  let c64_i32_529 : BitVec 32 := 64#32
  let v976 : BitVec 32 := Scalar.addi c0_i32_528 c64_i32_529
  let c1_i32_530 : BitVec 32 := 1#32
  ⟨c0_i32_528, v976, c1_i32_530⟩
def k2_off70 (k2_t29 : Fin k2_t29_loop.trips) : Fin 1 → Nat :=
  let c0_i32_528 : BitVec 32 := 0#32
  let c1_i32_530 : BitVec 32 := 1#32
  let arg25 : BitVec 32 := Scf.iv c0_i32_528 c1_i32_530 k2_t29
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c1_i32_1228 : BitVec 32 := 1#32
  let c0_i32_1231 : BitVec 32 := 0#32
  let v1910 : BitVec 1 := Scalar.cmpi .sgt c1_i32_1228 c0_i32_1231
  let v1911 : BitVec 32 := Scalar.extui v1910
  let c0_i32_1232 : BitVec 32 := 0#32
  let v1912 : BitVec 1 := Scalar.cmpi .slt c1_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c1_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c1_i32_1228
  let c1_i32_1234 : BitVec 32 := 1#32
  let v1919 : BitVec 32 := Scalar.subi v1904 c1_i32_1234
  let v1920 : BitVec 32 := Scalar.select v1918 v1919 v1904
  let c2_i32_1235 : BitVec 32 := 2#32
  let v1921 : BitVec 32 := Scalar.muli v1920 c2_i32_1235
  let c1_i32_1236 : BitVec 32 := 1#32
  let c0_i32_1237 : BitVec 32 := 0#32
  let v1922 : BitVec 1 := Scalar.cmpi .eq c1_i32_1236 c0_i32_1237
  let c1_i32_1238 : BitVec 32 := 1#32
  let v1923 : BitVec 32 := Scalar.select v1922 c1_i32_1238 c1_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c16_i32_1243 : BitVec 32 := 16#32
  let v1934 : BitVec 32 := Scalar.muli v1932 c16_i32_1243
  let v1935 : Index := Scalar.indexCast v1934
  ![v1935.toNat]
def k2_off71 (k2_t29 : Fin k2_t29_loop.trips) : Fin 1 → Nat :=
  let c0_i32_528 : BitVec 32 := 0#32
  let c1_i32_530 : BitVec 32 := 1#32
  let arg25 : BitVec 32 := Scf.iv c0_i32_528 c1_i32_530 k2_t29
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c1_i32_1228 : BitVec 32 := 1#32
  let c0_i32_1231 : BitVec 32 := 0#32
  let v1910 : BitVec 1 := Scalar.cmpi .sgt c1_i32_1228 c0_i32_1231
  let v1911 : BitVec 32 := Scalar.extui v1910
  let c0_i32_1232 : BitVec 32 := 0#32
  let v1912 : BitVec 1 := Scalar.cmpi .slt c1_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c1_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c1_i32_1228
  let c1_i32_1234 : BitVec 32 := 1#32
  let v1919 : BitVec 32 := Scalar.subi v1904 c1_i32_1234
  let v1920 : BitVec 32 := Scalar.select v1918 v1919 v1904
  let c2_i32_1235 : BitVec 32 := 2#32
  let v1921 : BitVec 32 := Scalar.muli v1920 c2_i32_1235
  let c1_i32_1236 : BitVec 32 := 1#32
  let c0_i32_1237 : BitVec 32 := 0#32
  let v1922 : BitVec 1 := Scalar.cmpi .eq c1_i32_1236 c0_i32_1237
  let c1_i32_1238 : BitVec 32 := 1#32
  let v1923 : BitVec 32 := Scalar.select v1922 c1_i32_1238 c1_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c1_i32_1242 : BitVec 32 := 1#32
  let v1933 : BitVec 32 := Scalar.addi v1932 c1_i32_1242
  let c16_i32_1244 : BitVec 32 := 16#32
  let v1937 : BitVec 32 := Scalar.muli v1933 c16_i32_1244
  let v1938 : Index := Scalar.indexCast v1937
  ![v1938.toNat]
@[reducible] def k2_t30_loop : Scf.Loop 32 :=
  let c0_i32_533 : BitVec 32 := 0#32
  let c128_i32_534 : BitVec 32 := 128#32
  let v977 : BitVec 32 := Scalar.addi c0_i32_533 c128_i32_534
  let c1_i32_535 : BitVec 32 := 1#32
  ⟨c0_i32_533, v977, c1_i32_535⟩
def k2_off72 (k2_t30 : Fin k2_t30_loop.trips) : Fin 1 → Nat :=
  let c0_i32_533 : BitVec 32 := 0#32
  let c1_i32_535 : BitVec 32 := 1#32
  let arg25 : BitVec 32 := Scf.iv c0_i32_533 c1_i32_535 k2_t30
  let c16_i32_1230 : BitVec 32 := 16#32
  let v1909 : BitVec 32 := Scalar.muli arg25 c16_i32_1230
  let v1910 : Index := Scalar.indexCast v1909
  ![v1910.toNat]

def k2_chk44 (i : grid2.Coords) (v1908 : IVec S16 32) : Prop :=
  (∀ (k2_h1 : k2_cond1 i = 1#1), ∀ a x, ((![v1908] : Fin 1 → IVec S16 32) a x).toNat < S2064.size a) ∧
  (∀ (k2_h1 : k2_cond1 i = 1#1), ∀ a x, ((![v1908] : Fin 1 → IVec S16 32) a x).toNat < S2064.size a)
theorem k2_idx73_inb : ∀ (i : grid2.Coords) (v1908 : IVec S16 32) (k2_hw44 : k2_chk44 i v1908), ∀ (k2_h1 : k2_cond1 i = 1#1), ∀ a x, ((![v1908] : Fin 1 → IVec S16 32) a x).toNat < S2064.size a := fun i v1908 k2_hw44 k2_h1 => k2_hw44.1 k2_h1
theorem k2_idx74_inb : ∀ (i : grid2.Coords) (v1908 : IVec S16 32) (k2_hw44 : k2_chk44 i v1908), ∀ (k2_h1 : k2_cond1 i = 1#1), ∀ a x, ((![v1908] : Fin 1 → IVec S16 32) a x).toNat < S2064.size a := fun i v1908 k2_hw44 k2_h1 => k2_hw44.2 k2_h1
def k2_off73 (k2_t30 : Fin k2_t30_loop.trips) : Fin 1 → Nat :=
  let c0_i32_533 : BitVec 32 := 0#32
  let c1_i32_535 : BitVec 32 := 1#32
  let arg25 : BitVec 32 := Scf.iv c0_i32_533 c1_i32_535 k2_t30
  let c16_i32_1238 : BitVec 32 := 16#32
  let v1939 : BitVec 32 := Scalar.muli arg25 c16_i32_1238
  let v1940 : Index := Scalar.indexCast v1939
  ![v1940.toNat]
@[reducible] def k2_t31_loop : Scf.Loop 32 :=
  let c0_i32_538 : BitVec 32 := 0#32
  let c128_i32_539 : BitVec 32 := 128#32
  let v978 : BitVec 32 := Scalar.addi c0_i32_538 c128_i32_539
  let c1_i32_540 : BitVec 32 := 1#32
  ⟨c0_i32_538, v978, c1_i32_540⟩
def k2_off74 (k2_t31 : Fin k2_t31_loop.trips) : Fin 1 → Nat :=
  let c0_i32_538 : BitVec 32 := 0#32
  let c1_i32_540 : BitVec 32 := 1#32
  let arg25 : BitVec 32 := Scf.iv c0_i32_538 c1_i32_540 k2_t31
  let c16_i32_1230 : BitVec 32 := 16#32
  let v1909 : BitVec 32 := Scalar.muli arg25 c16_i32_1230
  let v1910 : Index := Scalar.indexCast v1909
  ![v1910.toNat]

def k2_chk45 (i : grid2.Coords) (v1908 : IVec S16 32) : Prop :=
  (∀ (k2_h1 : k2_cond1 i = 1#1), ∀ a x, ((![v1908] : Fin 1 → IVec S16 32) a x).toNat < S2064.size a) ∧
  (∀ (k2_h1 : k2_cond1 i = 1#1), ∀ a x, ((![v1908] : Fin 1 → IVec S16 32) a x).toNat < S2064.size a)
theorem k2_idx75_inb : ∀ (i : grid2.Coords) (v1908 : IVec S16 32) (k2_hw45 : k2_chk45 i v1908), ∀ (k2_h1 : k2_cond1 i = 1#1), ∀ a x, ((![v1908] : Fin 1 → IVec S16 32) a x).toNat < S2064.size a := fun i v1908 k2_hw45 k2_h1 => k2_hw45.1 k2_h1
theorem k2_idx76_inb : ∀ (i : grid2.Coords) (v1908 : IVec S16 32) (k2_hw45 : k2_chk45 i v1908), ∀ (k2_h1 : k2_cond1 i = 1#1), ∀ a x, ((![v1908] : Fin 1 → IVec S16 32) a x).toNat < S2064.size a := fun i v1908 k2_hw45 k2_h1 => k2_hw45.2 k2_h1
def k2_off75 (k2_t31 : Fin k2_t31_loop.trips) : Fin 1 → Nat :=
  let c0_i32_538 : BitVec 32 := 0#32
  let c1_i32_540 : BitVec 32 := 1#32
  let arg25 : BitVec 32 := Scf.iv c0_i32_538 c1_i32_540 k2_t31
  let c16_i32_1238 : BitVec 32 := 16#32
  let v1939 : BitVec 32 := Scalar.muli arg25 c16_i32_1238
  let v1940 : Index := Scalar.indexCast v1939
  ![v1940.toNat]
@[reducible] def k2_t32_loop : Scf.Loop 32 :=
  let c0_i32_543 : BitVec 32 := 0#32
  let c128_i32_544 : BitVec 32 := 128#32
  let v979 : BitVec 32 := Scalar.addi c0_i32_543 c128_i32_544
  let c1_i32_545 : BitVec 32 := 1#32
  ⟨c0_i32_543, v979, c1_i32_545⟩
def k2_off76 (k2_t32 : Fin k2_t32_loop.trips) : Fin 1 → Nat :=
  let c0_i32_543 : BitVec 32 := 0#32
  let c1_i32_545 : BitVec 32 := 1#32
  let arg25 : BitVec 32 := Scf.iv c0_i32_543 c1_i32_545 k2_t32
  let c16_i32_1230 : BitVec 32 := 16#32
  let v1909 : BitVec 32 := Scalar.muli arg25 c16_i32_1230
  let v1910 : Index := Scalar.indexCast v1909
  ![v1910.toNat]

def k2_chk46 (i : grid2.Coords) (v1908 : IVec S16 32) : Prop :=
  (∀ (k2_h1 : k2_cond1 i = 1#1), ∀ a x, ((![v1908] : Fin 1 → IVec S16 32) a x).toNat < S2064.size a) ∧
  (∀ (k2_h1 : k2_cond1 i = 1#1), ∀ a x, ((![v1908] : Fin 1 → IVec S16 32) a x).toNat < S2064.size a)
theorem k2_idx77_inb : ∀ (i : grid2.Coords) (v1908 : IVec S16 32) (k2_hw46 : k2_chk46 i v1908), ∀ (k2_h1 : k2_cond1 i = 1#1), ∀ a x, ((![v1908] : Fin 1 → IVec S16 32) a x).toNat < S2064.size a := fun i v1908 k2_hw46 k2_h1 => k2_hw46.1 k2_h1
theorem k2_idx78_inb : ∀ (i : grid2.Coords) (v1908 : IVec S16 32) (k2_hw46 : k2_chk46 i v1908), ∀ (k2_h1 : k2_cond1 i = 1#1), ∀ a x, ((![v1908] : Fin 1 → IVec S16 32) a x).toNat < S2064.size a := fun i v1908 k2_hw46 k2_h1 => k2_hw46.2 k2_h1
def k2_off77 (k2_t32 : Fin k2_t32_loop.trips) : Fin 1 → Nat :=
  let c0_i32_543 : BitVec 32 := 0#32
  let c1_i32_545 : BitVec 32 := 1#32
  let arg25 : BitVec 32 := Scf.iv c0_i32_543 c1_i32_545 k2_t32
  let c16_i32_1238 : BitVec 32 := 16#32
  let v1939 : BitVec 32 := Scalar.muli arg25 c16_i32_1238
  let v1940 : Index := Scalar.indexCast v1939
  ![v1940.toNat]
@[reducible] def k2_t33_loop : Scf.Loop 32 :=
  let c0_i32_548 : BitVec 32 := 0#32
  let c128_i32_549 : BitVec 32 := 128#32
  let v980 : BitVec 32 := Scalar.addi c0_i32_548 c128_i32_549
  let c1_i32_550 : BitVec 32 := 1#32
  ⟨c0_i32_548, v980, c1_i32_550⟩
def k2_off78 (k2_t33 : Fin k2_t33_loop.trips) : Fin 1 → Nat :=
  let c0_i32_548 : BitVec 32 := 0#32
  let c1_i32_550 : BitVec 32 := 1#32
  let arg25 : BitVec 32 := Scf.iv c0_i32_548 c1_i32_550 k2_t33
  let c16_i32_1230 : BitVec 32 := 16#32
  let v1909 : BitVec 32 := Scalar.muli arg25 c16_i32_1230
  let v1910 : Index := Scalar.indexCast v1909
  ![v1910.toNat]

def k2_chk47 (i : grid2.Coords) (v1908 : IVec S16 32) : Prop :=
  (∀ (k2_h1 : k2_cond1 i = 1#1), ∀ a x, ((![v1908] : Fin 1 → IVec S16 32) a x).toNat < S2064.size a) ∧
  (∀ (k2_h1 : k2_cond1 i = 1#1), ∀ a x, ((![v1908] : Fin 1 → IVec S16 32) a x).toNat < S2064.size a)
theorem k2_idx79_inb : ∀ (i : grid2.Coords) (v1908 : IVec S16 32) (k2_hw47 : k2_chk47 i v1908), ∀ (k2_h1 : k2_cond1 i = 1#1), ∀ a x, ((![v1908] : Fin 1 → IVec S16 32) a x).toNat < S2064.size a := fun i v1908 k2_hw47 k2_h1 => k2_hw47.1 k2_h1
theorem k2_idx80_inb : ∀ (i : grid2.Coords) (v1908 : IVec S16 32) (k2_hw47 : k2_chk47 i v1908), ∀ (k2_h1 : k2_cond1 i = 1#1), ∀ a x, ((![v1908] : Fin 1 → IVec S16 32) a x).toNat < S2064.size a := fun i v1908 k2_hw47 k2_h1 => k2_hw47.2 k2_h1
def k2_off79 (k2_t33 : Fin k2_t33_loop.trips) : Fin 1 → Nat :=
  let c0_i32_548 : BitVec 32 := 0#32
  let c1_i32_550 : BitVec 32 := 1#32
  let arg25 : BitVec 32 := Scf.iv c0_i32_548 c1_i32_550 k2_t33
  let c16_i32_1238 : BitVec 32 := 16#32
  let v1939 : BitVec 32 := Scalar.muli arg25 c16_i32_1238
  let v1940 : Index := Scalar.indexCast v1939
  ![v1940.toNat]
@[reducible] def k2_t34_loop : Scf.Loop 32 :=
  let c0_i32_553 : BitVec 32 := 0#32
  let c64_i32_554 : BitVec 32 := 64#32
  let v981 : BitVec 32 := Scalar.addi c0_i32_553 c64_i32_554
  let c1_i32_555 : BitVec 32 := 1#32
  ⟨c0_i32_553, v981, c1_i32_555⟩
def k2_off80 (k2_t34 : Fin k2_t34_loop.trips) : Fin 1 → Nat :=
  let c0_i32_553 : BitVec 32 := 0#32
  let c1_i32_555 : BitVec 32 := 1#32
  let arg25 : BitVec 32 := Scf.iv c0_i32_553 c1_i32_555 k2_t34
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c8_i32_1228 : BitVec 32 := 8#32
  let c0_i32_1231 : BitVec 32 := 0#32
  let v1910 : BitVec 1 := Scalar.cmpi .sgt c8_i32_1228 c0_i32_1231
  let v1911 : BitVec 32 := Scalar.extui v1910
  let c0_i32_1232 : BitVec 32 := 0#32
  let v1912 : BitVec 1 := Scalar.cmpi .slt c8_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c8_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c8_i32_1228
  let c1_i32_1234 : BitVec 32 := 1#32
  let v1919 : BitVec 32 := Scalar.subi v1904 c1_i32_1234
  let v1920 : BitVec 32 := Scalar.select v1918 v1919 v1904
  let c16_i32_1235 : BitVec 32 := 16#32
  let v1921 : BitVec 32 := Scalar.muli v1920 c16_i32_1235
  let c8_i32_1236 : BitVec 32 := 8#32
  let c0_i32_1237 : BitVec 32 := 0#32
  let v1922 : BitVec 1 := Scalar.cmpi .eq c8_i32_1236 c0_i32_1237
  let c1_i32_1238 : BitVec 32 := 1#32
  let v1923 : BitVec 32 := Scalar.select v1922 c1_i32_1238 c8_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c16_i32_1243 : BitVec 32 := 16#32
  let v1934 : BitVec 32 := Scalar.muli v1932 c16_i32_1243
  let v1935 : Index := Scalar.indexCast v1934
  ![v1935.toNat]
def k2_off81 (k2_t34 : Fin k2_t34_loop.trips) : Fin 1 → Nat :=
  let c0_i32_553 : BitVec 32 := 0#32
  let c1_i32_555 : BitVec 32 := 1#32
  let arg25 : BitVec 32 := Scf.iv c0_i32_553 c1_i32_555 k2_t34
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c8_i32_1228 : BitVec 32 := 8#32
  let c0_i32_1231 : BitVec 32 := 0#32
  let v1910 : BitVec 1 := Scalar.cmpi .sgt c8_i32_1228 c0_i32_1231
  let v1911 : BitVec 32 := Scalar.extui v1910
  let c0_i32_1232 : BitVec 32 := 0#32
  let v1912 : BitVec 1 := Scalar.cmpi .slt c8_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c8_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c8_i32_1228
  let c1_i32_1234 : BitVec 32 := 1#32
  let v1919 : BitVec 32 := Scalar.subi v1904 c1_i32_1234
  let v1920 : BitVec 32 := Scalar.select v1918 v1919 v1904
  let c16_i32_1235 : BitVec 32 := 16#32
  let v1921 : BitVec 32 := Scalar.muli v1920 c16_i32_1235
  let c8_i32_1236 : BitVec 32 := 8#32
  let c0_i32_1237 : BitVec 32 := 0#32
  let v1922 : BitVec 1 := Scalar.cmpi .eq c8_i32_1236 c0_i32_1237
  let c1_i32_1238 : BitVec 32 := 1#32
  let v1923 : BitVec 32 := Scalar.select v1922 c1_i32_1238 c8_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c8_i32_1242 : BitVec 32 := 8#32
  let v1933 : BitVec 32 := Scalar.addi v1932 c8_i32_1242
  let c16_i32_1244 : BitVec 32 := 16#32
  let v1937 : BitVec 32 := Scalar.muli v1933 c16_i32_1244
  let v1938 : Index := Scalar.indexCast v1937
  ![v1938.toNat]
@[reducible] def k2_t35_loop : Scf.Loop 32 :=
  let c0_i32_558 : BitVec 32 := 0#32
  let c64_i32_559 : BitVec 32 := 64#32
  let v982 : BitVec 32 := Scalar.addi c0_i32_558 c64_i32_559
  let c1_i32_560 : BitVec 32 := 1#32
  ⟨c0_i32_558, v982, c1_i32_560⟩
def k2_off82 (k2_t35 : Fin k2_t35_loop.trips) : Fin 1 → Nat :=
  let c0_i32_558 : BitVec 32 := 0#32
  let c1_i32_560 : BitVec 32 := 1#32
  let arg25 : BitVec 32 := Scf.iv c0_i32_558 c1_i32_560 k2_t35
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c4_i32_1228 : BitVec 32 := 4#32
  let c0_i32_1231 : BitVec 32 := 0#32
  let v1910 : BitVec 1 := Scalar.cmpi .sgt c4_i32_1228 c0_i32_1231
  let v1911 : BitVec 32 := Scalar.extui v1910
  let c0_i32_1232 : BitVec 32 := 0#32
  let v1912 : BitVec 1 := Scalar.cmpi .slt c4_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c4_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c4_i32_1228
  let c1_i32_1234 : BitVec 32 := 1#32
  let v1919 : BitVec 32 := Scalar.subi v1904 c1_i32_1234
  let v1920 : BitVec 32 := Scalar.select v1918 v1919 v1904
  let c8_i32_1235 : BitVec 32 := 8#32
  let v1921 : BitVec 32 := Scalar.muli v1920 c8_i32_1235
  let c4_i32_1236 : BitVec 32 := 4#32
  let c0_i32_1237 : BitVec 32 := 0#32
  let v1922 : BitVec 1 := Scalar.cmpi .eq c4_i32_1236 c0_i32_1237
  let c1_i32_1238 : BitVec 32 := 1#32
  let v1923 : BitVec 32 := Scalar.select v1922 c1_i32_1238 c4_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c16_i32_1243 : BitVec 32 := 16#32
  let v1934 : BitVec 32 := Scalar.muli v1932 c16_i32_1243
  let v1935 : Index := Scalar.indexCast v1934
  ![v1935.toNat]
def k2_off83 (k2_t35 : Fin k2_t35_loop.trips) : Fin 1 → Nat :=
  let c0_i32_558 : BitVec 32 := 0#32
  let c1_i32_560 : BitVec 32 := 1#32
  let arg25 : BitVec 32 := Scf.iv c0_i32_558 c1_i32_560 k2_t35
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c4_i32_1228 : BitVec 32 := 4#32
  let c0_i32_1231 : BitVec 32 := 0#32
  let v1910 : BitVec 1 := Scalar.cmpi .sgt c4_i32_1228 c0_i32_1231
  let v1911 : BitVec 32 := Scalar.extui v1910
  let c0_i32_1232 : BitVec 32 := 0#32
  let v1912 : BitVec 1 := Scalar.cmpi .slt c4_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c4_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c4_i32_1228
  let c1_i32_1234 : BitVec 32 := 1#32
  let v1919 : BitVec 32 := Scalar.subi v1904 c1_i32_1234
  let v1920 : BitVec 32 := Scalar.select v1918 v1919 v1904
  let c8_i32_1235 : BitVec 32 := 8#32
  let v1921 : BitVec 32 := Scalar.muli v1920 c8_i32_1235
  let c4_i32_1236 : BitVec 32 := 4#32
  let c0_i32_1237 : BitVec 32 := 0#32
  let v1922 : BitVec 1 := Scalar.cmpi .eq c4_i32_1236 c0_i32_1237
  let c1_i32_1238 : BitVec 32 := 1#32
  let v1923 : BitVec 32 := Scalar.select v1922 c1_i32_1238 c4_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c4_i32_1242 : BitVec 32 := 4#32
  let v1933 : BitVec 32 := Scalar.addi v1932 c4_i32_1242
  let c16_i32_1244 : BitVec 32 := 16#32
  let v1937 : BitVec 32 := Scalar.muli v1933 c16_i32_1244
  let v1938 : Index := Scalar.indexCast v1937
  ![v1938.toNat]
@[reducible] def k2_t36_loop : Scf.Loop 32 :=
  let c0_i32_563 : BitVec 32 := 0#32
  let c64_i32_564 : BitVec 32 := 64#32
  let v983 : BitVec 32 := Scalar.addi c0_i32_563 c64_i32_564
  let c1_i32_565 : BitVec 32 := 1#32
  ⟨c0_i32_563, v983, c1_i32_565⟩
def k2_off84 (k2_t36 : Fin k2_t36_loop.trips) : Fin 1 → Nat :=
  let c0_i32_563 : BitVec 32 := 0#32
  let c1_i32_565 : BitVec 32 := 1#32
  let arg25 : BitVec 32 := Scf.iv c0_i32_563 c1_i32_565 k2_t36
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c2_i32_1228 : BitVec 32 := 2#32
  let c0_i32_1231 : BitVec 32 := 0#32
  let v1910 : BitVec 1 := Scalar.cmpi .sgt c2_i32_1228 c0_i32_1231
  let v1911 : BitVec 32 := Scalar.extui v1910
  let c0_i32_1232 : BitVec 32 := 0#32
  let v1912 : BitVec 1 := Scalar.cmpi .slt c2_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c2_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c2_i32_1228
  let c1_i32_1234 : BitVec 32 := 1#32
  let v1919 : BitVec 32 := Scalar.subi v1904 c1_i32_1234
  let v1920 : BitVec 32 := Scalar.select v1918 v1919 v1904
  let c4_i32_1235 : BitVec 32 := 4#32
  let v1921 : BitVec 32 := Scalar.muli v1920 c4_i32_1235
  let c2_i32_1236 : BitVec 32 := 2#32
  let c0_i32_1237 : BitVec 32 := 0#32
  let v1922 : BitVec 1 := Scalar.cmpi .eq c2_i32_1236 c0_i32_1237
  let c1_i32_1238 : BitVec 32 := 1#32
  let v1923 : BitVec 32 := Scalar.select v1922 c1_i32_1238 c2_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c16_i32_1243 : BitVec 32 := 16#32
  let v1934 : BitVec 32 := Scalar.muli v1932 c16_i32_1243
  let v1935 : Index := Scalar.indexCast v1934
  ![v1935.toNat]
def k2_off85 (k2_t36 : Fin k2_t36_loop.trips) : Fin 1 → Nat :=
  let c0_i32_563 : BitVec 32 := 0#32
  let c1_i32_565 : BitVec 32 := 1#32
  let arg25 : BitVec 32 := Scf.iv c0_i32_563 c1_i32_565 k2_t36
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c2_i32_1228 : BitVec 32 := 2#32
  let c0_i32_1231 : BitVec 32 := 0#32
  let v1910 : BitVec 1 := Scalar.cmpi .sgt c2_i32_1228 c0_i32_1231
  let v1911 : BitVec 32 := Scalar.extui v1910
  let c0_i32_1232 : BitVec 32 := 0#32
  let v1912 : BitVec 1 := Scalar.cmpi .slt c2_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c2_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c2_i32_1228
  let c1_i32_1234 : BitVec 32 := 1#32
  let v1919 : BitVec 32 := Scalar.subi v1904 c1_i32_1234
  let v1920 : BitVec 32 := Scalar.select v1918 v1919 v1904
  let c4_i32_1235 : BitVec 32 := 4#32
  let v1921 : BitVec 32 := Scalar.muli v1920 c4_i32_1235
  let c2_i32_1236 : BitVec 32 := 2#32
  let c0_i32_1237 : BitVec 32 := 0#32
  let v1922 : BitVec 1 := Scalar.cmpi .eq c2_i32_1236 c0_i32_1237
  let c1_i32_1238 : BitVec 32 := 1#32
  let v1923 : BitVec 32 := Scalar.select v1922 c1_i32_1238 c2_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c2_i32_1242 : BitVec 32 := 2#32
  let v1933 : BitVec 32 := Scalar.addi v1932 c2_i32_1242
  let c16_i32_1244 : BitVec 32 := 16#32
  let v1937 : BitVec 32 := Scalar.muli v1933 c16_i32_1244
  let v1938 : Index := Scalar.indexCast v1937
  ![v1938.toNat]
@[reducible] def k2_t37_loop : Scf.Loop 32 :=
  let c0_i32_568 : BitVec 32 := 0#32
  let c64_i32_569 : BitVec 32 := 64#32
  let v984 : BitVec 32 := Scalar.addi c0_i32_568 c64_i32_569
  let c1_i32_570 : BitVec 32 := 1#32
  ⟨c0_i32_568, v984, c1_i32_570⟩
def k2_off86 (k2_t37 : Fin k2_t37_loop.trips) : Fin 1 → Nat :=
  let c0_i32_568 : BitVec 32 := 0#32
  let c1_i32_570 : BitVec 32 := 1#32
  let arg25 : BitVec 32 := Scf.iv c0_i32_568 c1_i32_570 k2_t37
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c1_i32_1228 : BitVec 32 := 1#32
  let c0_i32_1231 : BitVec 32 := 0#32
  let v1910 : BitVec 1 := Scalar.cmpi .sgt c1_i32_1228 c0_i32_1231
  let v1911 : BitVec 32 := Scalar.extui v1910
  let c0_i32_1232 : BitVec 32 := 0#32
  let v1912 : BitVec 1 := Scalar.cmpi .slt c1_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c1_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c1_i32_1228
  let c1_i32_1234 : BitVec 32 := 1#32
  let v1919 : BitVec 32 := Scalar.subi v1904 c1_i32_1234
  let v1920 : BitVec 32 := Scalar.select v1918 v1919 v1904
  let c2_i32_1235 : BitVec 32 := 2#32
  let v1921 : BitVec 32 := Scalar.muli v1920 c2_i32_1235
  let c1_i32_1236 : BitVec 32 := 1#32
  let c0_i32_1237 : BitVec 32 := 0#32
  let v1922 : BitVec 1 := Scalar.cmpi .eq c1_i32_1236 c0_i32_1237
  let c1_i32_1238 : BitVec 32 := 1#32
  let v1923 : BitVec 32 := Scalar.select v1922 c1_i32_1238 c1_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c16_i32_1243 : BitVec 32 := 16#32
  let v1934 : BitVec 32 := Scalar.muli v1932 c16_i32_1243
  let v1935 : Index := Scalar.indexCast v1934
  ![v1935.toNat]
def k2_off87 (k2_t37 : Fin k2_t37_loop.trips) : Fin 1 → Nat :=
  let c0_i32_568 : BitVec 32 := 0#32
  let c1_i32_570 : BitVec 32 := 1#32
  let arg25 : BitVec 32 := Scf.iv c0_i32_568 c1_i32_570 k2_t37
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c1_i32_1228 : BitVec 32 := 1#32
  let c0_i32_1231 : BitVec 32 := 0#32
  let v1910 : BitVec 1 := Scalar.cmpi .sgt c1_i32_1228 c0_i32_1231
  let v1911 : BitVec 32 := Scalar.extui v1910
  let c0_i32_1232 : BitVec 32 := 0#32
  let v1912 : BitVec 1 := Scalar.cmpi .slt c1_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c1_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c1_i32_1228
  let c1_i32_1234 : BitVec 32 := 1#32
  let v1919 : BitVec 32 := Scalar.subi v1904 c1_i32_1234
  let v1920 : BitVec 32 := Scalar.select v1918 v1919 v1904
  let c2_i32_1235 : BitVec 32 := 2#32
  let v1921 : BitVec 32 := Scalar.muli v1920 c2_i32_1235
  let c1_i32_1236 : BitVec 32 := 1#32
  let c0_i32_1237 : BitVec 32 := 0#32
  let v1922 : BitVec 1 := Scalar.cmpi .eq c1_i32_1236 c0_i32_1237
  let c1_i32_1238 : BitVec 32 := 1#32
  let v1923 : BitVec 32 := Scalar.select v1922 c1_i32_1238 c1_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c1_i32_1242 : BitVec 32 := 1#32
  let v1933 : BitVec 32 := Scalar.addi v1932 c1_i32_1242
  let c16_i32_1244 : BitVec 32 := 16#32
  let v1937 : BitVec 32 := Scalar.muli v1933 c16_i32_1244
  let v1938 : Index := Scalar.indexCast v1937
  ![v1938.toNat]
@[reducible] def k2_t38_loop : Scf.Loop 32 :=
  let c0_i32_573 : BitVec 32 := 0#32
  let c128_i32_574 : BitVec 32 := 128#32
  let v985 : BitVec 32 := Scalar.addi c0_i32_573 c128_i32_574
  let c1_i32_575 : BitVec 32 := 1#32
  ⟨c0_i32_573, v985, c1_i32_575⟩
def k2_off88 (k2_t38 : Fin k2_t38_loop.trips) : Fin 1 → Nat :=
  let c0_i32_573 : BitVec 32 := 0#32
  let c1_i32_575 : BitVec 32 := 1#32
  let arg25 : BitVec 32 := Scf.iv c0_i32_573 c1_i32_575 k2_t38
  let c16_i32_1230 : BitVec 32 := 16#32
  let v1909 : BitVec 32 := Scalar.muli arg25 c16_i32_1230
  let v1910 : Index := Scalar.indexCast v1909
  ![v1910.toNat]

def k2_chk48 (i : grid2.Coords) (v1908 : IVec S16 32) : Prop :=
  (∀ (k2_h1 : k2_cond1 i = 1#1), ∀ a x, ((![v1908] : Fin 1 → IVec S16 32) a x).toNat < S2064.size a) ∧
  (∀ (k2_h1 : k2_cond1 i = 1#1), ∀ a x, ((![v1908] : Fin 1 → IVec S16 32) a x).toNat < S2064.size a)
theorem k2_idx81_inb : ∀ (i : grid2.Coords) (v1908 : IVec S16 32) (k2_hw48 : k2_chk48 i v1908), ∀ (k2_h1 : k2_cond1 i = 1#1), ∀ a x, ((![v1908] : Fin 1 → IVec S16 32) a x).toNat < S2064.size a := fun i v1908 k2_hw48 k2_h1 => k2_hw48.1 k2_h1
theorem k2_idx82_inb : ∀ (i : grid2.Coords) (v1908 : IVec S16 32) (k2_hw48 : k2_chk48 i v1908), ∀ (k2_h1 : k2_cond1 i = 1#1), ∀ a x, ((![v1908] : Fin 1 → IVec S16 32) a x).toNat < S2064.size a := fun i v1908 k2_hw48 k2_h1 => k2_hw48.2 k2_h1
def k2_off89 (k2_t38 : Fin k2_t38_loop.trips) : Fin 1 → Nat :=
  let c0_i32_573 : BitVec 32 := 0#32
  let c1_i32_575 : BitVec 32 := 1#32
  let arg25 : BitVec 32 := Scf.iv c0_i32_573 c1_i32_575 k2_t38
  let c16_i32_1238 : BitVec 32 := 16#32
  let v1939 : BitVec 32 := Scalar.muli arg25 c16_i32_1238
  let v1940 : Index := Scalar.indexCast v1939
  ![v1940.toNat]
@[reducible] def k2_t39_loop : Scf.Loop 32 :=
  let c0_i32_578 : BitVec 32 := 0#32
  let c128_i32_579 : BitVec 32 := 128#32
  let v986 : BitVec 32 := Scalar.addi c0_i32_578 c128_i32_579
  let c1_i32_580 : BitVec 32 := 1#32
  ⟨c0_i32_578, v986, c1_i32_580⟩
def k2_off90 (k2_t39 : Fin k2_t39_loop.trips) : Fin 1 → Nat :=
  let c0_i32_578 : BitVec 32 := 0#32
  let c1_i32_580 : BitVec 32 := 1#32
  let arg25 : BitVec 32 := Scf.iv c0_i32_578 c1_i32_580 k2_t39
  let c16_i32_1230 : BitVec 32 := 16#32
  let v1909 : BitVec 32 := Scalar.muli arg25 c16_i32_1230
  let v1910 : Index := Scalar.indexCast v1909
  ![v1910.toNat]

def k2_chk49 (i : grid2.Coords) (v1908 : IVec S16 32) : Prop :=
  (∀ (k2_h1 : k2_cond1 i = 1#1), ∀ a x, ((![v1908] : Fin 1 → IVec S16 32) a x).toNat < S2064.size a) ∧
  (∀ (k2_h1 : k2_cond1 i = 1#1), ∀ a x, ((![v1908] : Fin 1 → IVec S16 32) a x).toNat < S2064.size a)
theorem k2_idx83_inb : ∀ (i : grid2.Coords) (v1908 : IVec S16 32) (k2_hw49 : k2_chk49 i v1908), ∀ (k2_h1 : k2_cond1 i = 1#1), ∀ a x, ((![v1908] : Fin 1 → IVec S16 32) a x).toNat < S2064.size a := fun i v1908 k2_hw49 k2_h1 => k2_hw49.1 k2_h1
theorem k2_idx84_inb : ∀ (i : grid2.Coords) (v1908 : IVec S16 32) (k2_hw49 : k2_chk49 i v1908), ∀ (k2_h1 : k2_cond1 i = 1#1), ∀ a x, ((![v1908] : Fin 1 → IVec S16 32) a x).toNat < S2064.size a := fun i v1908 k2_hw49 k2_h1 => k2_hw49.2 k2_h1
def k2_off91 (k2_t39 : Fin k2_t39_loop.trips) : Fin 1 → Nat :=
  let c0_i32_578 : BitVec 32 := 0#32
  let c1_i32_580 : BitVec 32 := 1#32
  let arg25 : BitVec 32 := Scf.iv c0_i32_578 c1_i32_580 k2_t39
  let c16_i32_1238 : BitVec 32 := 16#32
  let v1939 : BitVec 32 := Scalar.muli arg25 c16_i32_1238
  let v1940 : Index := Scalar.indexCast v1939
  ![v1940.toNat]
@[reducible] def k2_t40_loop : Scf.Loop 32 :=
  let c0_i32_583 : BitVec 32 := 0#32
  let c128_i32_584 : BitVec 32 := 128#32
  let v987 : BitVec 32 := Scalar.addi c0_i32_583 c128_i32_584
  let c1_i32_585 : BitVec 32 := 1#32
  ⟨c0_i32_583, v987, c1_i32_585⟩
def k2_off92 (k2_t40 : Fin k2_t40_loop.trips) : Fin 1 → Nat :=
  let c0_i32_583 : BitVec 32 := 0#32
  let c1_i32_585 : BitVec 32 := 1#32
  let arg25 : BitVec 32 := Scf.iv c0_i32_583 c1_i32_585 k2_t40
  let c16_i32_1230 : BitVec 32 := 16#32
  let v1909 : BitVec 32 := Scalar.muli arg25 c16_i32_1230
  let v1910 : Index := Scalar.indexCast v1909
  ![v1910.toNat]

def k2_chk50 (i : grid2.Coords) (v1908 : IVec S16 32) : Prop :=
  (∀ (k2_h1 : k2_cond1 i = 1#1), ∀ a x, ((![v1908] : Fin 1 → IVec S16 32) a x).toNat < S2064.size a) ∧
  (∀ (k2_h1 : k2_cond1 i = 1#1), ∀ a x, ((![v1908] : Fin 1 → IVec S16 32) a x).toNat < S2064.size a)
theorem k2_idx85_inb : ∀ (i : grid2.Coords) (v1908 : IVec S16 32) (k2_hw50 : k2_chk50 i v1908), ∀ (k2_h1 : k2_cond1 i = 1#1), ∀ a x, ((![v1908] : Fin 1 → IVec S16 32) a x).toNat < S2064.size a := fun i v1908 k2_hw50 k2_h1 => k2_hw50.1 k2_h1
theorem k2_idx86_inb : ∀ (i : grid2.Coords) (v1908 : IVec S16 32) (k2_hw50 : k2_chk50 i v1908), ∀ (k2_h1 : k2_cond1 i = 1#1), ∀ a x, ((![v1908] : Fin 1 → IVec S16 32) a x).toNat < S2064.size a := fun i v1908 k2_hw50 k2_h1 => k2_hw50.2 k2_h1
def k2_off93 (k2_t40 : Fin k2_t40_loop.trips) : Fin 1 → Nat :=
  let c0_i32_583 : BitVec 32 := 0#32
  let c1_i32_585 : BitVec 32 := 1#32
  let arg25 : BitVec 32 := Scf.iv c0_i32_583 c1_i32_585 k2_t40
  let c16_i32_1238 : BitVec 32 := 16#32
  let v1939 : BitVec 32 := Scalar.muli arg25 c16_i32_1238
  let v1940 : Index := Scalar.indexCast v1939
  ![v1940.toNat]
@[reducible] def k2_t41_loop : Scf.Loop 32 :=
  let c0_i32_588 : BitVec 32 := 0#32
  let c128_i32_589 : BitVec 32 := 128#32
  let v988 : BitVec 32 := Scalar.addi c0_i32_588 c128_i32_589
  let c1_i32_590 : BitVec 32 := 1#32
  ⟨c0_i32_588, v988, c1_i32_590⟩
def k2_off94 (k2_t41 : Fin k2_t41_loop.trips) : Fin 1 → Nat :=
  let c0_i32_588 : BitVec 32 := 0#32
  let c1_i32_590 : BitVec 32 := 1#32
  let arg25 : BitVec 32 := Scf.iv c0_i32_588 c1_i32_590 k2_t41
  let c16_i32_1230 : BitVec 32 := 16#32
  let v1909 : BitVec 32 := Scalar.muli arg25 c16_i32_1230
  let v1910 : Index := Scalar.indexCast v1909
  ![v1910.toNat]

def k2_chk51 (i : grid2.Coords) (v1908 : IVec S16 32) : Prop :=
  (∀ (k2_h1 : k2_cond1 i = 1#1), ∀ a x, ((![v1908] : Fin 1 → IVec S16 32) a x).toNat < S2064.size a) ∧
  (∀ (k2_h1 : k2_cond1 i = 1#1), ∀ a x, ((![v1908] : Fin 1 → IVec S16 32) a x).toNat < S2064.size a)
theorem k2_idx87_inb : ∀ (i : grid2.Coords) (v1908 : IVec S16 32) (k2_hw51 : k2_chk51 i v1908), ∀ (k2_h1 : k2_cond1 i = 1#1), ∀ a x, ((![v1908] : Fin 1 → IVec S16 32) a x).toNat < S2064.size a := fun i v1908 k2_hw51 k2_h1 => k2_hw51.1 k2_h1
theorem k2_idx88_inb : ∀ (i : grid2.Coords) (v1908 : IVec S16 32) (k2_hw51 : k2_chk51 i v1908), ∀ (k2_h1 : k2_cond1 i = 1#1), ∀ a x, ((![v1908] : Fin 1 → IVec S16 32) a x).toNat < S2064.size a := fun i v1908 k2_hw51 k2_h1 => k2_hw51.2 k2_h1
def k2_off95 (k2_t41 : Fin k2_t41_loop.trips) : Fin 1 → Nat :=
  let c0_i32_588 : BitVec 32 := 0#32
  let c1_i32_590 : BitVec 32 := 1#32
  let arg25 : BitVec 32 := Scf.iv c0_i32_588 c1_i32_590 k2_t41
  let c16_i32_1238 : BitVec 32 := 16#32
  let v1939 : BitVec 32 := Scalar.muli arg25 c16_i32_1238
  let v1940 : Index := Scalar.indexCast v1939
  ![v1940.toNat]
@[reducible] def k2_t42_loop : Scf.Loop 32 :=
  let c0_i32_593 : BitVec 32 := 0#32
  let c64_i32_594 : BitVec 32 := 64#32
  let v989 : BitVec 32 := Scalar.addi c0_i32_593 c64_i32_594
  let c1_i32_595 : BitVec 32 := 1#32
  ⟨c0_i32_593, v989, c1_i32_595⟩
def k2_off96 (k2_t42 : Fin k2_t42_loop.trips) : Fin 1 → Nat :=
  let c0_i32_593 : BitVec 32 := 0#32
  let c1_i32_595 : BitVec 32 := 1#32
  let arg25 : BitVec 32 := Scf.iv c0_i32_593 c1_i32_595 k2_t42
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c16_i32_1228 : BitVec 32 := 16#32
  let c0_i32_1231 : BitVec 32 := 0#32
  let v1910 : BitVec 1 := Scalar.cmpi .sgt c16_i32_1228 c0_i32_1231
  let v1911 : BitVec 32 := Scalar.extui v1910
  let c0_i32_1232 : BitVec 32 := 0#32
  let v1912 : BitVec 1 := Scalar.cmpi .slt c16_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c16_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c16_i32_1228
  let c1_i32_1234 : BitVec 32 := 1#32
  let v1919 : BitVec 32 := Scalar.subi v1904 c1_i32_1234
  let v1920 : BitVec 32 := Scalar.select v1918 v1919 v1904
  let c32_i32_1235 : BitVec 32 := 32#32
  let v1921 : BitVec 32 := Scalar.muli v1920 c32_i32_1235
  let c16_i32_1236 : BitVec 32 := 16#32
  let c0_i32_1237 : BitVec 32 := 0#32
  let v1922 : BitVec 1 := Scalar.cmpi .eq c16_i32_1236 c0_i32_1237
  let c1_i32_1238 : BitVec 32 := 1#32
  let v1923 : BitVec 32 := Scalar.select v1922 c1_i32_1238 c16_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c16_i32_1243 : BitVec 32 := 16#32
  let v1934 : BitVec 32 := Scalar.muli v1932 c16_i32_1243
  let v1935 : Index := Scalar.indexCast v1934
  ![v1935.toNat]
def k2_off97 (k2_t42 : Fin k2_t42_loop.trips) : Fin 1 → Nat :=
  let c0_i32_593 : BitVec 32 := 0#32
  let c1_i32_595 : BitVec 32 := 1#32
  let arg25 : BitVec 32 := Scf.iv c0_i32_593 c1_i32_595 k2_t42
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c16_i32_1228 : BitVec 32 := 16#32
  let c0_i32_1231 : BitVec 32 := 0#32
  let v1910 : BitVec 1 := Scalar.cmpi .sgt c16_i32_1228 c0_i32_1231
  let v1911 : BitVec 32 := Scalar.extui v1910
  let c0_i32_1232 : BitVec 32 := 0#32
  let v1912 : BitVec 1 := Scalar.cmpi .slt c16_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c16_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c16_i32_1228
  let c1_i32_1234 : BitVec 32 := 1#32
  let v1919 : BitVec 32 := Scalar.subi v1904 c1_i32_1234
  let v1920 : BitVec 32 := Scalar.select v1918 v1919 v1904
  let c32_i32_1235 : BitVec 32 := 32#32
  let v1921 : BitVec 32 := Scalar.muli v1920 c32_i32_1235
  let c16_i32_1236 : BitVec 32 := 16#32
  let c0_i32_1237 : BitVec 32 := 0#32
  let v1922 : BitVec 1 := Scalar.cmpi .eq c16_i32_1236 c0_i32_1237
  let c1_i32_1238 : BitVec 32 := 1#32
  let v1923 : BitVec 32 := Scalar.select v1922 c1_i32_1238 c16_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c16_i32_1242 : BitVec 32 := 16#32
  let v1933 : BitVec 32 := Scalar.addi v1932 c16_i32_1242
  let c16_i32_1244 : BitVec 32 := 16#32
  let v1937 : BitVec 32 := Scalar.muli v1933 c16_i32_1244
  let v1938 : Index := Scalar.indexCast v1937
  ![v1938.toNat]
@[reducible] def k2_t43_loop : Scf.Loop 32 :=
  let c0_i32_598 : BitVec 32 := 0#32
  let c64_i32_599 : BitVec 32 := 64#32
  let v990 : BitVec 32 := Scalar.addi c0_i32_598 c64_i32_599
  let c1_i32_600 : BitVec 32 := 1#32
  ⟨c0_i32_598, v990, c1_i32_600⟩
def k2_off98 (k2_t43 : Fin k2_t43_loop.trips) : Fin 1 → Nat :=
  let c0_i32_598 : BitVec 32 := 0#32
  let c1_i32_600 : BitVec 32 := 1#32
  let arg25 : BitVec 32 := Scf.iv c0_i32_598 c1_i32_600 k2_t43
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c8_i32_1228 : BitVec 32 := 8#32
  let c0_i32_1231 : BitVec 32 := 0#32
  let v1910 : BitVec 1 := Scalar.cmpi .sgt c8_i32_1228 c0_i32_1231
  let v1911 : BitVec 32 := Scalar.extui v1910
  let c0_i32_1232 : BitVec 32 := 0#32
  let v1912 : BitVec 1 := Scalar.cmpi .slt c8_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c8_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c8_i32_1228
  let c1_i32_1234 : BitVec 32 := 1#32
  let v1919 : BitVec 32 := Scalar.subi v1904 c1_i32_1234
  let v1920 : BitVec 32 := Scalar.select v1918 v1919 v1904
  let c16_i32_1235 : BitVec 32 := 16#32
  let v1921 : BitVec 32 := Scalar.muli v1920 c16_i32_1235
  let c8_i32_1236 : BitVec 32 := 8#32
  let c0_i32_1237 : BitVec 32 := 0#32
  let v1922 : BitVec 1 := Scalar.cmpi .eq c8_i32_1236 c0_i32_1237
  let c1_i32_1238 : BitVec 32 := 1#32
  let v1923 : BitVec 32 := Scalar.select v1922 c1_i32_1238 c8_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c16_i32_1243 : BitVec 32 := 16#32
  let v1934 : BitVec 32 := Scalar.muli v1932 c16_i32_1243
  let v1935 : Index := Scalar.indexCast v1934
  ![v1935.toNat]
def k2_off99 (k2_t43 : Fin k2_t43_loop.trips) : Fin 1 → Nat :=
  let c0_i32_598 : BitVec 32 := 0#32
  let c1_i32_600 : BitVec 32 := 1#32
  let arg25 : BitVec 32 := Scf.iv c0_i32_598 c1_i32_600 k2_t43
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c8_i32_1228 : BitVec 32 := 8#32
  let c0_i32_1231 : BitVec 32 := 0#32
  let v1910 : BitVec 1 := Scalar.cmpi .sgt c8_i32_1228 c0_i32_1231
  let v1911 : BitVec 32 := Scalar.extui v1910
  let c0_i32_1232 : BitVec 32 := 0#32
  let v1912 : BitVec 1 := Scalar.cmpi .slt c8_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c8_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c8_i32_1228
  let c1_i32_1234 : BitVec 32 := 1#32
  let v1919 : BitVec 32 := Scalar.subi v1904 c1_i32_1234
  let v1920 : BitVec 32 := Scalar.select v1918 v1919 v1904
  let c16_i32_1235 : BitVec 32 := 16#32
  let v1921 : BitVec 32 := Scalar.muli v1920 c16_i32_1235
  let c8_i32_1236 : BitVec 32 := 8#32
  let c0_i32_1237 : BitVec 32 := 0#32
  let v1922 : BitVec 1 := Scalar.cmpi .eq c8_i32_1236 c0_i32_1237
  let c1_i32_1238 : BitVec 32 := 1#32
  let v1923 : BitVec 32 := Scalar.select v1922 c1_i32_1238 c8_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c8_i32_1242 : BitVec 32 := 8#32
  let v1933 : BitVec 32 := Scalar.addi v1932 c8_i32_1242
  let c16_i32_1244 : BitVec 32 := 16#32
  let v1937 : BitVec 32 := Scalar.muli v1933 c16_i32_1244
  let v1938 : Index := Scalar.indexCast v1937
  ![v1938.toNat]
@[reducible] def k2_t44_loop : Scf.Loop 32 :=
  let c0_i32_603 : BitVec 32 := 0#32
  let c64_i32_604 : BitVec 32 := 64#32
  let v991 : BitVec 32 := Scalar.addi c0_i32_603 c64_i32_604
  let c1_i32_605 : BitVec 32 := 1#32
  ⟨c0_i32_603, v991, c1_i32_605⟩
def k2_off100 (k2_t44 : Fin k2_t44_loop.trips) : Fin 1 → Nat :=
  let c0_i32_603 : BitVec 32 := 0#32
  let c1_i32_605 : BitVec 32 := 1#32
  let arg25 : BitVec 32 := Scf.iv c0_i32_603 c1_i32_605 k2_t44
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c4_i32_1228 : BitVec 32 := 4#32
  let c0_i32_1231 : BitVec 32 := 0#32
  let v1910 : BitVec 1 := Scalar.cmpi .sgt c4_i32_1228 c0_i32_1231
  let v1911 : BitVec 32 := Scalar.extui v1910
  let c0_i32_1232 : BitVec 32 := 0#32
  let v1912 : BitVec 1 := Scalar.cmpi .slt c4_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c4_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c4_i32_1228
  let c1_i32_1234 : BitVec 32 := 1#32
  let v1919 : BitVec 32 := Scalar.subi v1904 c1_i32_1234
  let v1920 : BitVec 32 := Scalar.select v1918 v1919 v1904
  let c8_i32_1235 : BitVec 32 := 8#32
  let v1921 : BitVec 32 := Scalar.muli v1920 c8_i32_1235
  let c4_i32_1236 : BitVec 32 := 4#32
  let c0_i32_1237 : BitVec 32 := 0#32
  let v1922 : BitVec 1 := Scalar.cmpi .eq c4_i32_1236 c0_i32_1237
  let c1_i32_1238 : BitVec 32 := 1#32
  let v1923 : BitVec 32 := Scalar.select v1922 c1_i32_1238 c4_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c16_i32_1243 : BitVec 32 := 16#32
  let v1934 : BitVec 32 := Scalar.muli v1932 c16_i32_1243
  let v1935 : Index := Scalar.indexCast v1934
  ![v1935.toNat]
def k2_off101 (k2_t44 : Fin k2_t44_loop.trips) : Fin 1 → Nat :=
  let c0_i32_603 : BitVec 32 := 0#32
  let c1_i32_605 : BitVec 32 := 1#32
  let arg25 : BitVec 32 := Scf.iv c0_i32_603 c1_i32_605 k2_t44
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c4_i32_1228 : BitVec 32 := 4#32
  let c0_i32_1231 : BitVec 32 := 0#32
  let v1910 : BitVec 1 := Scalar.cmpi .sgt c4_i32_1228 c0_i32_1231
  let v1911 : BitVec 32 := Scalar.extui v1910
  let c0_i32_1232 : BitVec 32 := 0#32
  let v1912 : BitVec 1 := Scalar.cmpi .slt c4_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c4_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c4_i32_1228
  let c1_i32_1234 : BitVec 32 := 1#32
  let v1919 : BitVec 32 := Scalar.subi v1904 c1_i32_1234
  let v1920 : BitVec 32 := Scalar.select v1918 v1919 v1904
  let c8_i32_1235 : BitVec 32 := 8#32
  let v1921 : BitVec 32 := Scalar.muli v1920 c8_i32_1235
  let c4_i32_1236 : BitVec 32 := 4#32
  let c0_i32_1237 : BitVec 32 := 0#32
  let v1922 : BitVec 1 := Scalar.cmpi .eq c4_i32_1236 c0_i32_1237
  let c1_i32_1238 : BitVec 32 := 1#32
  let v1923 : BitVec 32 := Scalar.select v1922 c1_i32_1238 c4_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c4_i32_1242 : BitVec 32 := 4#32
  let v1933 : BitVec 32 := Scalar.addi v1932 c4_i32_1242
  let c16_i32_1244 : BitVec 32 := 16#32
  let v1937 : BitVec 32 := Scalar.muli v1933 c16_i32_1244
  let v1938 : Index := Scalar.indexCast v1937
  ![v1938.toNat]
@[reducible] def k2_t45_loop : Scf.Loop 32 :=
  let c0_i32_608 : BitVec 32 := 0#32
  let c64_i32_609 : BitVec 32 := 64#32
  let v992 : BitVec 32 := Scalar.addi c0_i32_608 c64_i32_609
  let c1_i32_610 : BitVec 32 := 1#32
  ⟨c0_i32_608, v992, c1_i32_610⟩
def k2_off102 (k2_t45 : Fin k2_t45_loop.trips) : Fin 1 → Nat :=
  let c0_i32_608 : BitVec 32 := 0#32
  let c1_i32_610 : BitVec 32 := 1#32
  let arg25 : BitVec 32 := Scf.iv c0_i32_608 c1_i32_610 k2_t45
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c2_i32_1228 : BitVec 32 := 2#32
  let c0_i32_1231 : BitVec 32 := 0#32
  let v1910 : BitVec 1 := Scalar.cmpi .sgt c2_i32_1228 c0_i32_1231
  let v1911 : BitVec 32 := Scalar.extui v1910
  let c0_i32_1232 : BitVec 32 := 0#32
  let v1912 : BitVec 1 := Scalar.cmpi .slt c2_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c2_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c2_i32_1228
  let c1_i32_1234 : BitVec 32 := 1#32
  let v1919 : BitVec 32 := Scalar.subi v1904 c1_i32_1234
  let v1920 : BitVec 32 := Scalar.select v1918 v1919 v1904
  let c4_i32_1235 : BitVec 32 := 4#32
  let v1921 : BitVec 32 := Scalar.muli v1920 c4_i32_1235
  let c2_i32_1236 : BitVec 32 := 2#32
  let c0_i32_1237 : BitVec 32 := 0#32
  let v1922 : BitVec 1 := Scalar.cmpi .eq c2_i32_1236 c0_i32_1237
  let c1_i32_1238 : BitVec 32 := 1#32
  let v1923 : BitVec 32 := Scalar.select v1922 c1_i32_1238 c2_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c16_i32_1243 : BitVec 32 := 16#32
  let v1934 : BitVec 32 := Scalar.muli v1932 c16_i32_1243
  let v1935 : Index := Scalar.indexCast v1934
  ![v1935.toNat]
def k2_off103 (k2_t45 : Fin k2_t45_loop.trips) : Fin 1 → Nat :=
  let c0_i32_608 : BitVec 32 := 0#32
  let c1_i32_610 : BitVec 32 := 1#32
  let arg25 : BitVec 32 := Scf.iv c0_i32_608 c1_i32_610 k2_t45
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c2_i32_1228 : BitVec 32 := 2#32
  let c0_i32_1231 : BitVec 32 := 0#32
  let v1910 : BitVec 1 := Scalar.cmpi .sgt c2_i32_1228 c0_i32_1231
  let v1911 : BitVec 32 := Scalar.extui v1910
  let c0_i32_1232 : BitVec 32 := 0#32
  let v1912 : BitVec 1 := Scalar.cmpi .slt c2_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c2_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c2_i32_1228
  let c1_i32_1234 : BitVec 32 := 1#32
  let v1919 : BitVec 32 := Scalar.subi v1904 c1_i32_1234
  let v1920 : BitVec 32 := Scalar.select v1918 v1919 v1904
  let c4_i32_1235 : BitVec 32 := 4#32
  let v1921 : BitVec 32 := Scalar.muli v1920 c4_i32_1235
  let c2_i32_1236 : BitVec 32 := 2#32
  let c0_i32_1237 : BitVec 32 := 0#32
  let v1922 : BitVec 1 := Scalar.cmpi .eq c2_i32_1236 c0_i32_1237
  let c1_i32_1238 : BitVec 32 := 1#32
  let v1923 : BitVec 32 := Scalar.select v1922 c1_i32_1238 c2_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c2_i32_1242 : BitVec 32 := 2#32
  let v1933 : BitVec 32 := Scalar.addi v1932 c2_i32_1242
  let c16_i32_1244 : BitVec 32 := 16#32
  let v1937 : BitVec 32 := Scalar.muli v1933 c16_i32_1244
  let v1938 : Index := Scalar.indexCast v1937
  ![v1938.toNat]
@[reducible] def k2_t46_loop : Scf.Loop 32 :=
  let c0_i32_613 : BitVec 32 := 0#32
  let c64_i32_614 : BitVec 32 := 64#32
  let v993 : BitVec 32 := Scalar.addi c0_i32_613 c64_i32_614
  let c1_i32_615 : BitVec 32 := 1#32
  ⟨c0_i32_613, v993, c1_i32_615⟩
def k2_off104 (k2_t46 : Fin k2_t46_loop.trips) : Fin 1 → Nat :=
  let c0_i32_613 : BitVec 32 := 0#32
  let c1_i32_615 : BitVec 32 := 1#32
  let arg25 : BitVec 32 := Scf.iv c0_i32_613 c1_i32_615 k2_t46
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c1_i32_1228 : BitVec 32 := 1#32
  let c0_i32_1231 : BitVec 32 := 0#32
  let v1910 : BitVec 1 := Scalar.cmpi .sgt c1_i32_1228 c0_i32_1231
  let v1911 : BitVec 32 := Scalar.extui v1910
  let c0_i32_1232 : BitVec 32 := 0#32
  let v1912 : BitVec 1 := Scalar.cmpi .slt c1_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c1_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c1_i32_1228
  let c1_i32_1234 : BitVec 32 := 1#32
  let v1919 : BitVec 32 := Scalar.subi v1904 c1_i32_1234
  let v1920 : BitVec 32 := Scalar.select v1918 v1919 v1904
  let c2_i32_1235 : BitVec 32 := 2#32
  let v1921 : BitVec 32 := Scalar.muli v1920 c2_i32_1235
  let c1_i32_1236 : BitVec 32 := 1#32
  let c0_i32_1237 : BitVec 32 := 0#32
  let v1922 : BitVec 1 := Scalar.cmpi .eq c1_i32_1236 c0_i32_1237
  let c1_i32_1238 : BitVec 32 := 1#32
  let v1923 : BitVec 32 := Scalar.select v1922 c1_i32_1238 c1_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c16_i32_1243 : BitVec 32 := 16#32
  let v1934 : BitVec 32 := Scalar.muli v1932 c16_i32_1243
  let v1935 : Index := Scalar.indexCast v1934
  ![v1935.toNat]
def k2_off105 (k2_t46 : Fin k2_t46_loop.trips) : Fin 1 → Nat :=
  let c0_i32_613 : BitVec 32 := 0#32
  let c1_i32_615 : BitVec 32 := 1#32
  let arg25 : BitVec 32 := Scf.iv c0_i32_613 c1_i32_615 k2_t46
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c1_i32_1228 : BitVec 32 := 1#32
  let c0_i32_1231 : BitVec 32 := 0#32
  let v1910 : BitVec 1 := Scalar.cmpi .sgt c1_i32_1228 c0_i32_1231
  let v1911 : BitVec 32 := Scalar.extui v1910
  let c0_i32_1232 : BitVec 32 := 0#32
  let v1912 : BitVec 1 := Scalar.cmpi .slt c1_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c1_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c1_i32_1228
  let c1_i32_1234 : BitVec 32 := 1#32
  let v1919 : BitVec 32 := Scalar.subi v1904 c1_i32_1234
  let v1920 : BitVec 32 := Scalar.select v1918 v1919 v1904
  let c2_i32_1235 : BitVec 32 := 2#32
  let v1921 : BitVec 32 := Scalar.muli v1920 c2_i32_1235
  let c1_i32_1236 : BitVec 32 := 1#32
  let c0_i32_1237 : BitVec 32 := 0#32
  let v1922 : BitVec 1 := Scalar.cmpi .eq c1_i32_1236 c0_i32_1237
  let c1_i32_1238 : BitVec 32 := 1#32
  let v1923 : BitVec 32 := Scalar.select v1922 c1_i32_1238 c1_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c1_i32_1242 : BitVec 32 := 1#32
  let v1933 : BitVec 32 := Scalar.addi v1932 c1_i32_1242
  let c16_i32_1244 : BitVec 32 := 16#32
  let v1937 : BitVec 32 := Scalar.muli v1933 c16_i32_1244
  let v1938 : Index := Scalar.indexCast v1937
  ![v1938.toNat]
@[reducible] def k2_t47_loop : Scf.Loop 32 :=
  let c0_i32_618 : BitVec 32 := 0#32
  let c128_i32_619 : BitVec 32 := 128#32
  let v994 : BitVec 32 := Scalar.addi c0_i32_618 c128_i32_619
  let c1_i32_620 : BitVec 32 := 1#32
  ⟨c0_i32_618, v994, c1_i32_620⟩
def k2_off106 (k2_t47 : Fin k2_t47_loop.trips) : Fin 1 → Nat :=
  let c0_i32_618 : BitVec 32 := 0#32
  let c1_i32_620 : BitVec 32 := 1#32
  let arg25 : BitVec 32 := Scf.iv c0_i32_618 c1_i32_620 k2_t47
  let c16_i32_1230 : BitVec 32 := 16#32
  let v1909 : BitVec 32 := Scalar.muli arg25 c16_i32_1230
  let v1910 : Index := Scalar.indexCast v1909
  ![v1910.toNat]

def k2_chk52 (i : grid2.Coords) (v1908 : IVec S16 32) : Prop :=
  (∀ (k2_h1 : k2_cond1 i = 1#1), ∀ a x, ((![v1908] : Fin 1 → IVec S16 32) a x).toNat < S2064.size a) ∧
  (∀ (k2_h1 : k2_cond1 i = 1#1), ∀ a x, ((![v1908] : Fin 1 → IVec S16 32) a x).toNat < S2064.size a)
theorem k2_idx89_inb : ∀ (i : grid2.Coords) (v1908 : IVec S16 32) (k2_hw52 : k2_chk52 i v1908), ∀ (k2_h1 : k2_cond1 i = 1#1), ∀ a x, ((![v1908] : Fin 1 → IVec S16 32) a x).toNat < S2064.size a := fun i v1908 k2_hw52 k2_h1 => k2_hw52.1 k2_h1
theorem k2_idx90_inb : ∀ (i : grid2.Coords) (v1908 : IVec S16 32) (k2_hw52 : k2_chk52 i v1908), ∀ (k2_h1 : k2_cond1 i = 1#1), ∀ a x, ((![v1908] : Fin 1 → IVec S16 32) a x).toNat < S2064.size a := fun i v1908 k2_hw52 k2_h1 => k2_hw52.2 k2_h1
def k2_off107 (k2_t47 : Fin k2_t47_loop.trips) : Fin 1 → Nat :=
  let c0_i32_618 : BitVec 32 := 0#32
  let c1_i32_620 : BitVec 32 := 1#32
  let arg25 : BitVec 32 := Scf.iv c0_i32_618 c1_i32_620 k2_t47
  let c16_i32_1238 : BitVec 32 := 16#32
  let v1939 : BitVec 32 := Scalar.muli arg25 c16_i32_1238
  let v1940 : Index := Scalar.indexCast v1939
  ![v1940.toNat]
@[reducible] def k2_t48_loop : Scf.Loop 32 :=
  let c0_i32_623 : BitVec 32 := 0#32
  let c128_i32_624 : BitVec 32 := 128#32
  let v995 : BitVec 32 := Scalar.addi c0_i32_623 c128_i32_624
  let c1_i32_625 : BitVec 32 := 1#32
  ⟨c0_i32_623, v995, c1_i32_625⟩
def k2_off108 (k2_t48 : Fin k2_t48_loop.trips) : Fin 1 → Nat :=
  let c0_i32_623 : BitVec 32 := 0#32
  let c1_i32_625 : BitVec 32 := 1#32
  let arg25 : BitVec 32 := Scf.iv c0_i32_623 c1_i32_625 k2_t48
  let c16_i32_1230 : BitVec 32 := 16#32
  let v1909 : BitVec 32 := Scalar.muli arg25 c16_i32_1230
  let v1910 : Index := Scalar.indexCast v1909
  ![v1910.toNat]

def k2_chk53 (i : grid2.Coords) (v1908 : IVec S16 32) : Prop :=
  (∀ (k2_h1 : k2_cond1 i = 1#1), ∀ a x, ((![v1908] : Fin 1 → IVec S16 32) a x).toNat < S2064.size a) ∧
  (∀ (k2_h1 : k2_cond1 i = 1#1), ∀ a x, ((![v1908] : Fin 1 → IVec S16 32) a x).toNat < S2064.size a)
theorem k2_idx91_inb : ∀ (i : grid2.Coords) (v1908 : IVec S16 32) (k2_hw53 : k2_chk53 i v1908), ∀ (k2_h1 : k2_cond1 i = 1#1), ∀ a x, ((![v1908] : Fin 1 → IVec S16 32) a x).toNat < S2064.size a := fun i v1908 k2_hw53 k2_h1 => k2_hw53.1 k2_h1
theorem k2_idx92_inb : ∀ (i : grid2.Coords) (v1908 : IVec S16 32) (k2_hw53 : k2_chk53 i v1908), ∀ (k2_h1 : k2_cond1 i = 1#1), ∀ a x, ((![v1908] : Fin 1 → IVec S16 32) a x).toNat < S2064.size a := fun i v1908 k2_hw53 k2_h1 => k2_hw53.2 k2_h1
def k2_off109 (k2_t48 : Fin k2_t48_loop.trips) : Fin 1 → Nat :=
  let c0_i32_623 : BitVec 32 := 0#32
  let c1_i32_625 : BitVec 32 := 1#32
  let arg25 : BitVec 32 := Scf.iv c0_i32_623 c1_i32_625 k2_t48
  let c16_i32_1238 : BitVec 32 := 16#32
  let v1939 : BitVec 32 := Scalar.muli arg25 c16_i32_1238
  let v1940 : Index := Scalar.indexCast v1939
  ![v1940.toNat]
@[reducible] def k2_t49_loop : Scf.Loop 32 :=
  let c0_i32_628 : BitVec 32 := 0#32
  let c128_i32_629 : BitVec 32 := 128#32
  let v996 : BitVec 32 := Scalar.addi c0_i32_628 c128_i32_629
  let c1_i32_630 : BitVec 32 := 1#32
  ⟨c0_i32_628, v996, c1_i32_630⟩
def k2_off110 (k2_t49 : Fin k2_t49_loop.trips) : Fin 1 → Nat :=
  let c0_i32_628 : BitVec 32 := 0#32
  let c1_i32_630 : BitVec 32 := 1#32
  let arg25 : BitVec 32 := Scf.iv c0_i32_628 c1_i32_630 k2_t49
  let c16_i32_1230 : BitVec 32 := 16#32
  let v1909 : BitVec 32 := Scalar.muli arg25 c16_i32_1230
  let v1910 : Index := Scalar.indexCast v1909
  ![v1910.toNat]

def k2_chk54 (i : grid2.Coords) (v1908 : IVec S16 32) : Prop :=
  (∀ (k2_h1 : k2_cond1 i = 1#1), ∀ a x, ((![v1908] : Fin 1 → IVec S16 32) a x).toNat < S2064.size a) ∧
  (∀ (k2_h1 : k2_cond1 i = 1#1), ∀ a x, ((![v1908] : Fin 1 → IVec S16 32) a x).toNat < S2064.size a)
theorem k2_idx93_inb : ∀ (i : grid2.Coords) (v1908 : IVec S16 32) (k2_hw54 : k2_chk54 i v1908), ∀ (k2_h1 : k2_cond1 i = 1#1), ∀ a x, ((![v1908] : Fin 1 → IVec S16 32) a x).toNat < S2064.size a := fun i v1908 k2_hw54 k2_h1 => k2_hw54.1 k2_h1
theorem k2_idx94_inb : ∀ (i : grid2.Coords) (v1908 : IVec S16 32) (k2_hw54 : k2_chk54 i v1908), ∀ (k2_h1 : k2_cond1 i = 1#1), ∀ a x, ((![v1908] : Fin 1 → IVec S16 32) a x).toNat < S2064.size a := fun i v1908 k2_hw54 k2_h1 => k2_hw54.2 k2_h1
def k2_off111 (k2_t49 : Fin k2_t49_loop.trips) : Fin 1 → Nat :=
  let c0_i32_628 : BitVec 32 := 0#32
  let c1_i32_630 : BitVec 32 := 1#32
  let arg25 : BitVec 32 := Scf.iv c0_i32_628 c1_i32_630 k2_t49
  let c16_i32_1238 : BitVec 32 := 16#32
  let v1939 : BitVec 32 := Scalar.muli arg25 c16_i32_1238
  let v1940 : Index := Scalar.indexCast v1939
  ![v1940.toNat]
@[reducible] def k2_t50_loop : Scf.Loop 32 :=
  let c0_i32_633 : BitVec 32 := 0#32
  let c128_i32_634 : BitVec 32 := 128#32
  let v997 : BitVec 32 := Scalar.addi c0_i32_633 c128_i32_634
  let c1_i32_635 : BitVec 32 := 1#32
  ⟨c0_i32_633, v997, c1_i32_635⟩
def k2_off112 (k2_t50 : Fin k2_t50_loop.trips) : Fin 1 → Nat :=
  let c0_i32_633 : BitVec 32 := 0#32
  let c1_i32_635 : BitVec 32 := 1#32
  let arg25 : BitVec 32 := Scf.iv c0_i32_633 c1_i32_635 k2_t50
  let c16_i32_1230 : BitVec 32 := 16#32
  let v1909 : BitVec 32 := Scalar.muli arg25 c16_i32_1230
  let v1910 : Index := Scalar.indexCast v1909
  ![v1910.toNat]

def k2_chk55 (i : grid2.Coords) (v1908 : IVec S16 32) : Prop :=
  (∀ (k2_h1 : k2_cond1 i = 1#1), ∀ a x, ((![v1908] : Fin 1 → IVec S16 32) a x).toNat < S2064.size a) ∧
  (∀ (k2_h1 : k2_cond1 i = 1#1), ∀ a x, ((![v1908] : Fin 1 → IVec S16 32) a x).toNat < S2064.size a)
theorem k2_idx95_inb : ∀ (i : grid2.Coords) (v1908 : IVec S16 32) (k2_hw55 : k2_chk55 i v1908), ∀ (k2_h1 : k2_cond1 i = 1#1), ∀ a x, ((![v1908] : Fin 1 → IVec S16 32) a x).toNat < S2064.size a := fun i v1908 k2_hw55 k2_h1 => k2_hw55.1 k2_h1
theorem k2_idx96_inb : ∀ (i : grid2.Coords) (v1908 : IVec S16 32) (k2_hw55 : k2_chk55 i v1908), ∀ (k2_h1 : k2_cond1 i = 1#1), ∀ a x, ((![v1908] : Fin 1 → IVec S16 32) a x).toNat < S2064.size a := fun i v1908 k2_hw55 k2_h1 => k2_hw55.2 k2_h1
def k2_off113 (k2_t50 : Fin k2_t50_loop.trips) : Fin 1 → Nat :=
  let c0_i32_633 : BitVec 32 := 0#32
  let c1_i32_635 : BitVec 32 := 1#32
  let arg25 : BitVec 32 := Scf.iv c0_i32_633 c1_i32_635 k2_t50
  let c16_i32_1238 : BitVec 32 := 16#32
  let v1939 : BitVec 32 := Scalar.muli arg25 c16_i32_1238
  let v1940 : Index := Scalar.indexCast v1939
  ![v1940.toNat]
@[reducible] def k2_t51_loop : Scf.Loop 32 :=
  let c0_i32_638 : BitVec 32 := 0#32
  let c64_i32_639 : BitVec 32 := 64#32
  let v998 : BitVec 32 := Scalar.addi c0_i32_638 c64_i32_639
  let c1_i32_640 : BitVec 32 := 1#32
  ⟨c0_i32_638, v998, c1_i32_640⟩
def k2_off114 (k2_t51 : Fin k2_t51_loop.trips) : Fin 1 → Nat :=
  let c0_i32_638 : BitVec 32 := 0#32
  let c1_i32_640 : BitVec 32 := 1#32
  let arg25 : BitVec 32 := Scf.iv c0_i32_638 c1_i32_640 k2_t51
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c32_i32_1228 : BitVec 32 := 32#32
  let c0_i32_1231 : BitVec 32 := 0#32
  let v1910 : BitVec 1 := Scalar.cmpi .sgt c32_i32_1228 c0_i32_1231
  let v1911 : BitVec 32 := Scalar.extui v1910
  let c0_i32_1232 : BitVec 32 := 0#32
  let v1912 : BitVec 1 := Scalar.cmpi .slt c32_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c32_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c32_i32_1228
  let c1_i32_1234 : BitVec 32 := 1#32
  let v1919 : BitVec 32 := Scalar.subi v1904 c1_i32_1234
  let v1920 : BitVec 32 := Scalar.select v1918 v1919 v1904
  let c64_i32_1235 : BitVec 32 := 64#32
  let v1921 : BitVec 32 := Scalar.muli v1920 c64_i32_1235
  let c32_i32_1236 : BitVec 32 := 32#32
  let c0_i32_1237 : BitVec 32 := 0#32
  let v1922 : BitVec 1 := Scalar.cmpi .eq c32_i32_1236 c0_i32_1237
  let c1_i32_1238 : BitVec 32 := 1#32
  let v1923 : BitVec 32 := Scalar.select v1922 c1_i32_1238 c32_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c16_i32_1243 : BitVec 32 := 16#32
  let v1934 : BitVec 32 := Scalar.muli v1932 c16_i32_1243
  let v1935 : Index := Scalar.indexCast v1934
  ![v1935.toNat]
def k2_off115 (k2_t51 : Fin k2_t51_loop.trips) : Fin 1 → Nat :=
  let c0_i32_638 : BitVec 32 := 0#32
  let c1_i32_640 : BitVec 32 := 1#32
  let arg25 : BitVec 32 := Scf.iv c0_i32_638 c1_i32_640 k2_t51
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c32_i32_1228 : BitVec 32 := 32#32
  let c0_i32_1231 : BitVec 32 := 0#32
  let v1910 : BitVec 1 := Scalar.cmpi .sgt c32_i32_1228 c0_i32_1231
  let v1911 : BitVec 32 := Scalar.extui v1910
  let c0_i32_1232 : BitVec 32 := 0#32
  let v1912 : BitVec 1 := Scalar.cmpi .slt c32_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c32_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c32_i32_1228
  let c1_i32_1234 : BitVec 32 := 1#32
  let v1919 : BitVec 32 := Scalar.subi v1904 c1_i32_1234
  let v1920 : BitVec 32 := Scalar.select v1918 v1919 v1904
  let c64_i32_1235 : BitVec 32 := 64#32
  let v1921 : BitVec 32 := Scalar.muli v1920 c64_i32_1235
  let c32_i32_1236 : BitVec 32 := 32#32
  let c0_i32_1237 : BitVec 32 := 0#32
  let v1922 : BitVec 1 := Scalar.cmpi .eq c32_i32_1236 c0_i32_1237
  let c1_i32_1238 : BitVec 32 := 1#32
  let v1923 : BitVec 32 := Scalar.select v1922 c1_i32_1238 c32_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c32_i32_1242 : BitVec 32 := 32#32
  let v1933 : BitVec 32 := Scalar.addi v1932 c32_i32_1242
  let c16_i32_1244 : BitVec 32 := 16#32
  let v1937 : BitVec 32 := Scalar.muli v1933 c16_i32_1244
  let v1938 : Index := Scalar.indexCast v1937
  ![v1938.toNat]
@[reducible] def k2_t52_loop : Scf.Loop 32 :=
  let c0_i32_643 : BitVec 32 := 0#32
  let c64_i32_644 : BitVec 32 := 64#32
  let v999 : BitVec 32 := Scalar.addi c0_i32_643 c64_i32_644
  let c1_i32_645 : BitVec 32 := 1#32
  ⟨c0_i32_643, v999, c1_i32_645⟩
def k2_off116 (k2_t52 : Fin k2_t52_loop.trips) : Fin 1 → Nat :=
  let c0_i32_643 : BitVec 32 := 0#32
  let c1_i32_645 : BitVec 32 := 1#32
  let arg25 : BitVec 32 := Scf.iv c0_i32_643 c1_i32_645 k2_t52
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c16_i32_1228 : BitVec 32 := 16#32
  let c0_i32_1231 : BitVec 32 := 0#32
  let v1910 : BitVec 1 := Scalar.cmpi .sgt c16_i32_1228 c0_i32_1231
  let v1911 : BitVec 32 := Scalar.extui v1910
  let c0_i32_1232 : BitVec 32 := 0#32
  let v1912 : BitVec 1 := Scalar.cmpi .slt c16_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c16_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c16_i32_1228
  let c1_i32_1234 : BitVec 32 := 1#32
  let v1919 : BitVec 32 := Scalar.subi v1904 c1_i32_1234
  let v1920 : BitVec 32 := Scalar.select v1918 v1919 v1904
  let c32_i32_1235 : BitVec 32 := 32#32
  let v1921 : BitVec 32 := Scalar.muli v1920 c32_i32_1235
  let c16_i32_1236 : BitVec 32 := 16#32
  let c0_i32_1237 : BitVec 32 := 0#32
  let v1922 : BitVec 1 := Scalar.cmpi .eq c16_i32_1236 c0_i32_1237
  let c1_i32_1238 : BitVec 32 := 1#32
  let v1923 : BitVec 32 := Scalar.select v1922 c1_i32_1238 c16_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c16_i32_1243 : BitVec 32 := 16#32
  let v1934 : BitVec 32 := Scalar.muli v1932 c16_i32_1243
  let v1935 : Index := Scalar.indexCast v1934
  ![v1935.toNat]
def k2_off117 (k2_t52 : Fin k2_t52_loop.trips) : Fin 1 → Nat :=
  let c0_i32_643 : BitVec 32 := 0#32
  let c1_i32_645 : BitVec 32 := 1#32
  let arg25 : BitVec 32 := Scf.iv c0_i32_643 c1_i32_645 k2_t52
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c16_i32_1228 : BitVec 32 := 16#32
  let c0_i32_1231 : BitVec 32 := 0#32
  let v1910 : BitVec 1 := Scalar.cmpi .sgt c16_i32_1228 c0_i32_1231
  let v1911 : BitVec 32 := Scalar.extui v1910
  let c0_i32_1232 : BitVec 32 := 0#32
  let v1912 : BitVec 1 := Scalar.cmpi .slt c16_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c16_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c16_i32_1228
  let c1_i32_1234 : BitVec 32 := 1#32
  let v1919 : BitVec 32 := Scalar.subi v1904 c1_i32_1234
  let v1920 : BitVec 32 := Scalar.select v1918 v1919 v1904
  let c32_i32_1235 : BitVec 32 := 32#32
  let v1921 : BitVec 32 := Scalar.muli v1920 c32_i32_1235
  let c16_i32_1236 : BitVec 32 := 16#32
  let c0_i32_1237 : BitVec 32 := 0#32
  let v1922 : BitVec 1 := Scalar.cmpi .eq c16_i32_1236 c0_i32_1237
  let c1_i32_1238 : BitVec 32 := 1#32
  let v1923 : BitVec 32 := Scalar.select v1922 c1_i32_1238 c16_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c16_i32_1242 : BitVec 32 := 16#32
  let v1933 : BitVec 32 := Scalar.addi v1932 c16_i32_1242
  let c16_i32_1244 : BitVec 32 := 16#32
  let v1937 : BitVec 32 := Scalar.muli v1933 c16_i32_1244
  let v1938 : Index := Scalar.indexCast v1937
  ![v1938.toNat]
@[reducible] def k2_t53_loop : Scf.Loop 32 :=
  let c0_i32_648 : BitVec 32 := 0#32
  let c64_i32_649 : BitVec 32 := 64#32
  let v1000 : BitVec 32 := Scalar.addi c0_i32_648 c64_i32_649
  let c1_i32_650 : BitVec 32 := 1#32
  ⟨c0_i32_648, v1000, c1_i32_650⟩
def k2_off118 (k2_t53 : Fin k2_t53_loop.trips) : Fin 1 → Nat :=
  let c0_i32_648 : BitVec 32 := 0#32
  let c1_i32_650 : BitVec 32 := 1#32
  let arg25 : BitVec 32 := Scf.iv c0_i32_648 c1_i32_650 k2_t53
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c8_i32_1228 : BitVec 32 := 8#32
  let c0_i32_1231 : BitVec 32 := 0#32
  let v1910 : BitVec 1 := Scalar.cmpi .sgt c8_i32_1228 c0_i32_1231
  let v1911 : BitVec 32 := Scalar.extui v1910
  let c0_i32_1232 : BitVec 32 := 0#32
  let v1912 : BitVec 1 := Scalar.cmpi .slt c8_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c8_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c8_i32_1228
  let c1_i32_1234 : BitVec 32 := 1#32
  let v1919 : BitVec 32 := Scalar.subi v1904 c1_i32_1234
  let v1920 : BitVec 32 := Scalar.select v1918 v1919 v1904
  let c16_i32_1235 : BitVec 32 := 16#32
  let v1921 : BitVec 32 := Scalar.muli v1920 c16_i32_1235
  let c8_i32_1236 : BitVec 32 := 8#32
  let c0_i32_1237 : BitVec 32 := 0#32
  let v1922 : BitVec 1 := Scalar.cmpi .eq c8_i32_1236 c0_i32_1237
  let c1_i32_1238 : BitVec 32 := 1#32
  let v1923 : BitVec 32 := Scalar.select v1922 c1_i32_1238 c8_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c16_i32_1243 : BitVec 32 := 16#32
  let v1934 : BitVec 32 := Scalar.muli v1932 c16_i32_1243
  let v1935 : Index := Scalar.indexCast v1934
  ![v1935.toNat]
def k2_off119 (k2_t53 : Fin k2_t53_loop.trips) : Fin 1 → Nat :=
  let c0_i32_648 : BitVec 32 := 0#32
  let c1_i32_650 : BitVec 32 := 1#32
  let arg25 : BitVec 32 := Scf.iv c0_i32_648 c1_i32_650 k2_t53
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c8_i32_1228 : BitVec 32 := 8#32
  let c0_i32_1231 : BitVec 32 := 0#32
  let v1910 : BitVec 1 := Scalar.cmpi .sgt c8_i32_1228 c0_i32_1231
  let v1911 : BitVec 32 := Scalar.extui v1910
  let c0_i32_1232 : BitVec 32 := 0#32
  let v1912 : BitVec 1 := Scalar.cmpi .slt c8_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c8_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c8_i32_1228
  let c1_i32_1234 : BitVec 32 := 1#32
  let v1919 : BitVec 32 := Scalar.subi v1904 c1_i32_1234
  let v1920 : BitVec 32 := Scalar.select v1918 v1919 v1904
  let c16_i32_1235 : BitVec 32 := 16#32
  let v1921 : BitVec 32 := Scalar.muli v1920 c16_i32_1235
  let c8_i32_1236 : BitVec 32 := 8#32
  let c0_i32_1237 : BitVec 32 := 0#32
  let v1922 : BitVec 1 := Scalar.cmpi .eq c8_i32_1236 c0_i32_1237
  let c1_i32_1238 : BitVec 32 := 1#32
  let v1923 : BitVec 32 := Scalar.select v1922 c1_i32_1238 c8_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c8_i32_1242 : BitVec 32 := 8#32
  let v1933 : BitVec 32 := Scalar.addi v1932 c8_i32_1242
  let c16_i32_1244 : BitVec 32 := 16#32
  let v1937 : BitVec 32 := Scalar.muli v1933 c16_i32_1244
  let v1938 : Index := Scalar.indexCast v1937
  ![v1938.toNat]
@[reducible] def k2_t54_loop : Scf.Loop 32 :=
  let c0_i32_653 : BitVec 32 := 0#32
  let c64_i32_654 : BitVec 32 := 64#32
  let v1001 : BitVec 32 := Scalar.addi c0_i32_653 c64_i32_654
  let c1_i32_655 : BitVec 32 := 1#32
  ⟨c0_i32_653, v1001, c1_i32_655⟩
def k2_off120 (k2_t54 : Fin k2_t54_loop.trips) : Fin 1 → Nat :=
  let c0_i32_653 : BitVec 32 := 0#32
  let c1_i32_655 : BitVec 32 := 1#32
  let arg25 : BitVec 32 := Scf.iv c0_i32_653 c1_i32_655 k2_t54
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c4_i32_1228 : BitVec 32 := 4#32
  let c0_i32_1231 : BitVec 32 := 0#32
  let v1910 : BitVec 1 := Scalar.cmpi .sgt c4_i32_1228 c0_i32_1231
  let v1911 : BitVec 32 := Scalar.extui v1910
  let c0_i32_1232 : BitVec 32 := 0#32
  let v1912 : BitVec 1 := Scalar.cmpi .slt c4_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c4_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c4_i32_1228
  let c1_i32_1234 : BitVec 32 := 1#32
  let v1919 : BitVec 32 := Scalar.subi v1904 c1_i32_1234
  let v1920 : BitVec 32 := Scalar.select v1918 v1919 v1904
  let c8_i32_1235 : BitVec 32 := 8#32
  let v1921 : BitVec 32 := Scalar.muli v1920 c8_i32_1235
  let c4_i32_1236 : BitVec 32 := 4#32
  let c0_i32_1237 : BitVec 32 := 0#32
  let v1922 : BitVec 1 := Scalar.cmpi .eq c4_i32_1236 c0_i32_1237
  let c1_i32_1238 : BitVec 32 := 1#32
  let v1923 : BitVec 32 := Scalar.select v1922 c1_i32_1238 c4_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c16_i32_1243 : BitVec 32 := 16#32
  let v1934 : BitVec 32 := Scalar.muli v1932 c16_i32_1243
  let v1935 : Index := Scalar.indexCast v1934
  ![v1935.toNat]
def k2_off121 (k2_t54 : Fin k2_t54_loop.trips) : Fin 1 → Nat :=
  let c0_i32_653 : BitVec 32 := 0#32
  let c1_i32_655 : BitVec 32 := 1#32
  let arg25 : BitVec 32 := Scf.iv c0_i32_653 c1_i32_655 k2_t54
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c4_i32_1228 : BitVec 32 := 4#32
  let c0_i32_1231 : BitVec 32 := 0#32
  let v1910 : BitVec 1 := Scalar.cmpi .sgt c4_i32_1228 c0_i32_1231
  let v1911 : BitVec 32 := Scalar.extui v1910
  let c0_i32_1232 : BitVec 32 := 0#32
  let v1912 : BitVec 1 := Scalar.cmpi .slt c4_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c4_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c4_i32_1228
  let c1_i32_1234 : BitVec 32 := 1#32
  let v1919 : BitVec 32 := Scalar.subi v1904 c1_i32_1234
  let v1920 : BitVec 32 := Scalar.select v1918 v1919 v1904
  let c8_i32_1235 : BitVec 32 := 8#32
  let v1921 : BitVec 32 := Scalar.muli v1920 c8_i32_1235
  let c4_i32_1236 : BitVec 32 := 4#32
  let c0_i32_1237 : BitVec 32 := 0#32
  let v1922 : BitVec 1 := Scalar.cmpi .eq c4_i32_1236 c0_i32_1237
  let c1_i32_1238 : BitVec 32 := 1#32
  let v1923 : BitVec 32 := Scalar.select v1922 c1_i32_1238 c4_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c4_i32_1242 : BitVec 32 := 4#32
  let v1933 : BitVec 32 := Scalar.addi v1932 c4_i32_1242
  let c16_i32_1244 : BitVec 32 := 16#32
  let v1937 : BitVec 32 := Scalar.muli v1933 c16_i32_1244
  let v1938 : Index := Scalar.indexCast v1937
  ![v1938.toNat]
@[reducible] def k2_t55_loop : Scf.Loop 32 :=
  let c0_i32_658 : BitVec 32 := 0#32
  let c64_i32_659 : BitVec 32 := 64#32
  let v1002 : BitVec 32 := Scalar.addi c0_i32_658 c64_i32_659
  let c1_i32_660 : BitVec 32 := 1#32
  ⟨c0_i32_658, v1002, c1_i32_660⟩
def k2_off122 (k2_t55 : Fin k2_t55_loop.trips) : Fin 1 → Nat :=
  let c0_i32_658 : BitVec 32 := 0#32
  let c1_i32_660 : BitVec 32 := 1#32
  let arg25 : BitVec 32 := Scf.iv c0_i32_658 c1_i32_660 k2_t55
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c2_i32_1228 : BitVec 32 := 2#32
  let c0_i32_1231 : BitVec 32 := 0#32
  let v1910 : BitVec 1 := Scalar.cmpi .sgt c2_i32_1228 c0_i32_1231
  let v1911 : BitVec 32 := Scalar.extui v1910
  let c0_i32_1232 : BitVec 32 := 0#32
  let v1912 : BitVec 1 := Scalar.cmpi .slt c2_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c2_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c2_i32_1228
  let c1_i32_1234 : BitVec 32 := 1#32
  let v1919 : BitVec 32 := Scalar.subi v1904 c1_i32_1234
  let v1920 : BitVec 32 := Scalar.select v1918 v1919 v1904
  let c4_i32_1235 : BitVec 32 := 4#32
  let v1921 : BitVec 32 := Scalar.muli v1920 c4_i32_1235
  let c2_i32_1236 : BitVec 32 := 2#32
  let c0_i32_1237 : BitVec 32 := 0#32
  let v1922 : BitVec 1 := Scalar.cmpi .eq c2_i32_1236 c0_i32_1237
  let c1_i32_1238 : BitVec 32 := 1#32
  let v1923 : BitVec 32 := Scalar.select v1922 c1_i32_1238 c2_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c16_i32_1243 : BitVec 32 := 16#32
  let v1934 : BitVec 32 := Scalar.muli v1932 c16_i32_1243
  let v1935 : Index := Scalar.indexCast v1934
  ![v1935.toNat]
def k2_off123 (k2_t55 : Fin k2_t55_loop.trips) : Fin 1 → Nat :=
  let c0_i32_658 : BitVec 32 := 0#32
  let c1_i32_660 : BitVec 32 := 1#32
  let arg25 : BitVec 32 := Scf.iv c0_i32_658 c1_i32_660 k2_t55
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c2_i32_1228 : BitVec 32 := 2#32
  let c0_i32_1231 : BitVec 32 := 0#32
  let v1910 : BitVec 1 := Scalar.cmpi .sgt c2_i32_1228 c0_i32_1231
  let v1911 : BitVec 32 := Scalar.extui v1910
  let c0_i32_1232 : BitVec 32 := 0#32
  let v1912 : BitVec 1 := Scalar.cmpi .slt c2_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c2_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c2_i32_1228
  let c1_i32_1234 : BitVec 32 := 1#32
  let v1919 : BitVec 32 := Scalar.subi v1904 c1_i32_1234
  let v1920 : BitVec 32 := Scalar.select v1918 v1919 v1904
  let c4_i32_1235 : BitVec 32 := 4#32
  let v1921 : BitVec 32 := Scalar.muli v1920 c4_i32_1235
  let c2_i32_1236 : BitVec 32 := 2#32
  let c0_i32_1237 : BitVec 32 := 0#32
  let v1922 : BitVec 1 := Scalar.cmpi .eq c2_i32_1236 c0_i32_1237
  let c1_i32_1238 : BitVec 32 := 1#32
  let v1923 : BitVec 32 := Scalar.select v1922 c1_i32_1238 c2_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c2_i32_1242 : BitVec 32 := 2#32
  let v1933 : BitVec 32 := Scalar.addi v1932 c2_i32_1242
  let c16_i32_1244 : BitVec 32 := 16#32
  let v1937 : BitVec 32 := Scalar.muli v1933 c16_i32_1244
  let v1938 : Index := Scalar.indexCast v1937
  ![v1938.toNat]
@[reducible] def k2_t56_loop : Scf.Loop 32 :=
  let c0_i32_663 : BitVec 32 := 0#32
  let c64_i32_664 : BitVec 32 := 64#32
  let v1003 : BitVec 32 := Scalar.addi c0_i32_663 c64_i32_664
  let c1_i32_665 : BitVec 32 := 1#32
  ⟨c0_i32_663, v1003, c1_i32_665⟩
def k2_off124 (k2_t56 : Fin k2_t56_loop.trips) : Fin 1 → Nat :=
  let c0_i32_663 : BitVec 32 := 0#32
  let c1_i32_665 : BitVec 32 := 1#32
  let arg25 : BitVec 32 := Scf.iv c0_i32_663 c1_i32_665 k2_t56
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c1_i32_1228 : BitVec 32 := 1#32
  let c0_i32_1231 : BitVec 32 := 0#32
  let v1910 : BitVec 1 := Scalar.cmpi .sgt c1_i32_1228 c0_i32_1231
  let v1911 : BitVec 32 := Scalar.extui v1910
  let c0_i32_1232 : BitVec 32 := 0#32
  let v1912 : BitVec 1 := Scalar.cmpi .slt c1_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c1_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c1_i32_1228
  let c1_i32_1234 : BitVec 32 := 1#32
  let v1919 : BitVec 32 := Scalar.subi v1904 c1_i32_1234
  let v1920 : BitVec 32 := Scalar.select v1918 v1919 v1904
  let c2_i32_1235 : BitVec 32 := 2#32
  let v1921 : BitVec 32 := Scalar.muli v1920 c2_i32_1235
  let c1_i32_1236 : BitVec 32 := 1#32
  let c0_i32_1237 : BitVec 32 := 0#32
  let v1922 : BitVec 1 := Scalar.cmpi .eq c1_i32_1236 c0_i32_1237
  let c1_i32_1238 : BitVec 32 := 1#32
  let v1923 : BitVec 32 := Scalar.select v1922 c1_i32_1238 c1_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c16_i32_1243 : BitVec 32 := 16#32
  let v1934 : BitVec 32 := Scalar.muli v1932 c16_i32_1243
  let v1935 : Index := Scalar.indexCast v1934
  ![v1935.toNat]
def k2_off125 (k2_t56 : Fin k2_t56_loop.trips) : Fin 1 → Nat :=
  let c0_i32_663 : BitVec 32 := 0#32
  let c1_i32_665 : BitVec 32 := 1#32
  let arg25 : BitVec 32 := Scf.iv c0_i32_663 c1_i32_665 k2_t56
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c1_i32_1228 : BitVec 32 := 1#32
  let c0_i32_1231 : BitVec 32 := 0#32
  let v1910 : BitVec 1 := Scalar.cmpi .sgt c1_i32_1228 c0_i32_1231
  let v1911 : BitVec 32 := Scalar.extui v1910
  let c0_i32_1232 : BitVec 32 := 0#32
  let v1912 : BitVec 1 := Scalar.cmpi .slt c1_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c1_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c1_i32_1228
  let c1_i32_1234 : BitVec 32 := 1#32
  let v1919 : BitVec 32 := Scalar.subi v1904 c1_i32_1234
  let v1920 : BitVec 32 := Scalar.select v1918 v1919 v1904
  let c2_i32_1235 : BitVec 32 := 2#32
  let v1921 : BitVec 32 := Scalar.muli v1920 c2_i32_1235
  let c1_i32_1236 : BitVec 32 := 1#32
  let c0_i32_1237 : BitVec 32 := 0#32
  let v1922 : BitVec 1 := Scalar.cmpi .eq c1_i32_1236 c0_i32_1237
  let c1_i32_1238 : BitVec 32 := 1#32
  let v1923 : BitVec 32 := Scalar.select v1922 c1_i32_1238 c1_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c1_i32_1242 : BitVec 32 := 1#32
  let v1933 : BitVec 32 := Scalar.addi v1932 c1_i32_1242
  let c16_i32_1244 : BitVec 32 := 16#32
  let v1937 : BitVec 32 := Scalar.muli v1933 c16_i32_1244
  let v1938 : Index := Scalar.indexCast v1937
  ![v1938.toNat]
@[reducible] def k2_t57_loop : Scf.Loop 32 :=
  let c0_i32_668 : BitVec 32 := 0#32
  let c128_i32_669 : BitVec 32 := 128#32
  let v1004 : BitVec 32 := Scalar.addi c0_i32_668 c128_i32_669
  let c1_i32_670 : BitVec 32 := 1#32
  ⟨c0_i32_668, v1004, c1_i32_670⟩
def k2_off126 (k2_t57 : Fin k2_t57_loop.trips) : Fin 1 → Nat :=
  let c0_i32_668 : BitVec 32 := 0#32
  let c1_i32_670 : BitVec 32 := 1#32
  let arg25 : BitVec 32 := Scf.iv c0_i32_668 c1_i32_670 k2_t57
  let c16_i32_1230 : BitVec 32 := 16#32
  let v1909 : BitVec 32 := Scalar.muli arg25 c16_i32_1230
  let v1910 : Index := Scalar.indexCast v1909
  ![v1910.toNat]

def k2_chk56 (i : grid2.Coords) (v1908 : IVec S16 32) : Prop :=
  (∀ (k2_h1 : k2_cond1 i = 1#1), ∀ a x, ((![v1908] : Fin 1 → IVec S16 32) a x).toNat < S2064.size a) ∧
  (∀ (k2_h1 : k2_cond1 i = 1#1), ∀ a x, ((![v1908] : Fin 1 → IVec S16 32) a x).toNat < S2064.size a)
theorem k2_idx97_inb : ∀ (i : grid2.Coords) (v1908 : IVec S16 32) (k2_hw56 : k2_chk56 i v1908), ∀ (k2_h1 : k2_cond1 i = 1#1), ∀ a x, ((![v1908] : Fin 1 → IVec S16 32) a x).toNat < S2064.size a := fun i v1908 k2_hw56 k2_h1 => k2_hw56.1 k2_h1
theorem k2_idx98_inb : ∀ (i : grid2.Coords) (v1908 : IVec S16 32) (k2_hw56 : k2_chk56 i v1908), ∀ (k2_h1 : k2_cond1 i = 1#1), ∀ a x, ((![v1908] : Fin 1 → IVec S16 32) a x).toNat < S2064.size a := fun i v1908 k2_hw56 k2_h1 => k2_hw56.2 k2_h1
def k2_off127 (k2_t57 : Fin k2_t57_loop.trips) : Fin 1 → Nat :=
  let c0_i32_668 : BitVec 32 := 0#32
  let c1_i32_670 : BitVec 32 := 1#32
  let arg25 : BitVec 32 := Scf.iv c0_i32_668 c1_i32_670 k2_t57
  let c16_i32_1238 : BitVec 32 := 16#32
  let v1939 : BitVec 32 := Scalar.muli arg25 c16_i32_1238
  let v1940 : Index := Scalar.indexCast v1939
  ![v1940.toNat]
@[reducible] def k2_t58_loop : Scf.Loop 32 :=
  let c0_i32_673 : BitVec 32 := 0#32
  let c128_i32_674 : BitVec 32 := 128#32
  let v1005 : BitVec 32 := Scalar.addi c0_i32_673 c128_i32_674
  let c1_i32_675 : BitVec 32 := 1#32
  ⟨c0_i32_673, v1005, c1_i32_675⟩
def k2_off128 (k2_t58 : Fin k2_t58_loop.trips) : Fin 1 → Nat :=
  let c0_i32_673 : BitVec 32 := 0#32
  let c1_i32_675 : BitVec 32 := 1#32
  let arg25 : BitVec 32 := Scf.iv c0_i32_673 c1_i32_675 k2_t58
  let c16_i32_1230 : BitVec 32 := 16#32
  let v1909 : BitVec 32 := Scalar.muli arg25 c16_i32_1230
  let v1910 : Index := Scalar.indexCast v1909
  ![v1910.toNat]

def k2_chk57 (i : grid2.Coords) (v1908 : IVec S16 32) : Prop :=
  (∀ (k2_h1 : k2_cond1 i = 1#1), ∀ a x, ((![v1908] : Fin 1 → IVec S16 32) a x).toNat < S2064.size a) ∧
  (∀ (k2_h1 : k2_cond1 i = 1#1), ∀ a x, ((![v1908] : Fin 1 → IVec S16 32) a x).toNat < S2064.size a)
theorem k2_idx99_inb : ∀ (i : grid2.Coords) (v1908 : IVec S16 32) (k2_hw57 : k2_chk57 i v1908), ∀ (k2_h1 : k2_cond1 i = 1#1), ∀ a x, ((![v1908] : Fin 1 → IVec S16 32) a x).toNat < S2064.size a := fun i v1908 k2_hw57 k2_h1 => k2_hw57.1 k2_h1
theorem k2_idx100_inb : ∀ (i : grid2.Coords) (v1908 : IVec S16 32) (k2_hw57 : k2_chk57 i v1908), ∀ (k2_h1 : k2_cond1 i = 1#1), ∀ a x, ((![v1908] : Fin 1 → IVec S16 32) a x).toNat < S2064.size a := fun i v1908 k2_hw57 k2_h1 => k2_hw57.2 k2_h1
def k2_off129 (k2_t58 : Fin k2_t58_loop.trips) : Fin 1 → Nat :=
  let c0_i32_673 : BitVec 32 := 0#32
  let c1_i32_675 : BitVec 32 := 1#32
  let arg25 : BitVec 32 := Scf.iv c0_i32_673 c1_i32_675 k2_t58
  let c16_i32_1238 : BitVec 32 := 16#32
  let v1939 : BitVec 32 := Scalar.muli arg25 c16_i32_1238
  let v1940 : Index := Scalar.indexCast v1939
  ![v1940.toNat]
@[reducible] def k2_t59_loop : Scf.Loop 32 :=
  let c0_i32_678 : BitVec 32 := 0#32
  let c128_i32_679 : BitVec 32 := 128#32
  let v1006 : BitVec 32 := Scalar.addi c0_i32_678 c128_i32_679
  let c1_i32_680 : BitVec 32 := 1#32
  ⟨c0_i32_678, v1006, c1_i32_680⟩
def k2_off130 (k2_t59 : Fin k2_t59_loop.trips) : Fin 1 → Nat :=
  let c0_i32_678 : BitVec 32 := 0#32
  let c1_i32_680 : BitVec 32 := 1#32
  let arg25 : BitVec 32 := Scf.iv c0_i32_678 c1_i32_680 k2_t59
  let c16_i32_1230 : BitVec 32 := 16#32
  let v1909 : BitVec 32 := Scalar.muli arg25 c16_i32_1230
  let v1910 : Index := Scalar.indexCast v1909
  ![v1910.toNat]

def k2_chk58 (i : grid2.Coords) (v1908 : IVec S16 32) : Prop :=
  (∀ (k2_h1 : k2_cond1 i = 1#1), ∀ a x, ((![v1908] : Fin 1 → IVec S16 32) a x).toNat < S2064.size a) ∧
  (∀ (k2_h1 : k2_cond1 i = 1#1), ∀ a x, ((![v1908] : Fin 1 → IVec S16 32) a x).toNat < S2064.size a)
theorem k2_idx101_inb : ∀ (i : grid2.Coords) (v1908 : IVec S16 32) (k2_hw58 : k2_chk58 i v1908), ∀ (k2_h1 : k2_cond1 i = 1#1), ∀ a x, ((![v1908] : Fin 1 → IVec S16 32) a x).toNat < S2064.size a := fun i v1908 k2_hw58 k2_h1 => k2_hw58.1 k2_h1
theorem k2_idx102_inb : ∀ (i : grid2.Coords) (v1908 : IVec S16 32) (k2_hw58 : k2_chk58 i v1908), ∀ (k2_h1 : k2_cond1 i = 1#1), ∀ a x, ((![v1908] : Fin 1 → IVec S16 32) a x).toNat < S2064.size a := fun i v1908 k2_hw58 k2_h1 => k2_hw58.2 k2_h1
def k2_off131 (k2_t59 : Fin k2_t59_loop.trips) : Fin 1 → Nat :=
  let c0_i32_678 : BitVec 32 := 0#32
  let c1_i32_680 : BitVec 32 := 1#32
  let arg25 : BitVec 32 := Scf.iv c0_i32_678 c1_i32_680 k2_t59
  let c16_i32_1238 : BitVec 32 := 16#32
  let v1939 : BitVec 32 := Scalar.muli arg25 c16_i32_1238
  let v1940 : Index := Scalar.indexCast v1939
  ![v1940.toNat]
@[reducible] def k2_t60_loop : Scf.Loop 32 :=
  let c0_i32_683 : BitVec 32 := 0#32
  let c128_i32_684 : BitVec 32 := 128#32
  let v1007 : BitVec 32 := Scalar.addi c0_i32_683 c128_i32_684
  let c1_i32_685 : BitVec 32 := 1#32
  ⟨c0_i32_683, v1007, c1_i32_685⟩
def k2_off132 (k2_t60 : Fin k2_t60_loop.trips) : Fin 1 → Nat :=
  let c0_i32_683 : BitVec 32 := 0#32
  let c1_i32_685 : BitVec 32 := 1#32
  let arg25 : BitVec 32 := Scf.iv c0_i32_683 c1_i32_685 k2_t60
  let c16_i32_1230 : BitVec 32 := 16#32
  let v1909 : BitVec 32 := Scalar.muli arg25 c16_i32_1230
  let v1910 : Index := Scalar.indexCast v1909
  ![v1910.toNat]

def k2_chk59 (i : grid2.Coords) (v1908 : IVec S16 32) : Prop :=
  (∀ (k2_h1 : k2_cond1 i = 1#1), ∀ a x, ((![v1908] : Fin 1 → IVec S16 32) a x).toNat < S2064.size a) ∧
  (∀ (k2_h1 : k2_cond1 i = 1#1), ∀ a x, ((![v1908] : Fin 1 → IVec S16 32) a x).toNat < S2064.size a)
theorem k2_idx103_inb : ∀ (i : grid2.Coords) (v1908 : IVec S16 32) (k2_hw59 : k2_chk59 i v1908), ∀ (k2_h1 : k2_cond1 i = 1#1), ∀ a x, ((![v1908] : Fin 1 → IVec S16 32) a x).toNat < S2064.size a := fun i v1908 k2_hw59 k2_h1 => k2_hw59.1 k2_h1
theorem k2_idx104_inb : ∀ (i : grid2.Coords) (v1908 : IVec S16 32) (k2_hw59 : k2_chk59 i v1908), ∀ (k2_h1 : k2_cond1 i = 1#1), ∀ a x, ((![v1908] : Fin 1 → IVec S16 32) a x).toNat < S2064.size a := fun i v1908 k2_hw59 k2_h1 => k2_hw59.2 k2_h1
def k2_off133 (k2_t60 : Fin k2_t60_loop.trips) : Fin 1 → Nat :=
  let c0_i32_683 : BitVec 32 := 0#32
  let c1_i32_685 : BitVec 32 := 1#32
  let arg25 : BitVec 32 := Scf.iv c0_i32_683 c1_i32_685 k2_t60
  let c16_i32_1238 : BitVec 32 := 16#32
  let v1939 : BitVec 32 := Scalar.muli arg25 c16_i32_1238
  let v1940 : Index := Scalar.indexCast v1939
  ![v1940.toNat]
@[reducible] def k2_t61_loop : Scf.Loop 32 :=
  let c0_i32_688 : BitVec 32 := 0#32
  let c64_i32_689 : BitVec 32 := 64#32
  let v1008 : BitVec 32 := Scalar.addi c0_i32_688 c64_i32_689
  let c1_i32_690 : BitVec 32 := 1#32
  ⟨c0_i32_688, v1008, c1_i32_690⟩
def k2_off134 (k2_t61 : Fin k2_t61_loop.trips) : Fin 1 → Nat :=
  let c0_i32_688 : BitVec 32 := 0#32
  let c1_i32_690 : BitVec 32 := 1#32
  let arg25 : BitVec 32 := Scf.iv c0_i32_688 c1_i32_690 k2_t61
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c64_i32_1228 : BitVec 32 := 64#32
  let c0_i32_1231 : BitVec 32 := 0#32
  let v1910 : BitVec 1 := Scalar.cmpi .sgt c64_i32_1228 c0_i32_1231
  let v1911 : BitVec 32 := Scalar.extui v1910
  let c0_i32_1232 : BitVec 32 := 0#32
  let v1912 : BitVec 1 := Scalar.cmpi .slt c64_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c64_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c64_i32_1228
  let c1_i32_1234 : BitVec 32 := 1#32
  let v1919 : BitVec 32 := Scalar.subi v1904 c1_i32_1234
  let v1920 : BitVec 32 := Scalar.select v1918 v1919 v1904
  let c128_i32_1235 : BitVec 32 := 128#32
  let v1921 : BitVec 32 := Scalar.muli v1920 c128_i32_1235
  let c64_i32_1236 : BitVec 32 := 64#32
  let c0_i32_1237 : BitVec 32 := 0#32
  let v1922 : BitVec 1 := Scalar.cmpi .eq c64_i32_1236 c0_i32_1237
  let c1_i32_1238 : BitVec 32 := 1#32
  let v1923 : BitVec 32 := Scalar.select v1922 c1_i32_1238 c64_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c16_i32_1243 : BitVec 32 := 16#32
  let v1934 : BitVec 32 := Scalar.muli v1932 c16_i32_1243
  let v1935 : Index := Scalar.indexCast v1934
  ![v1935.toNat]
def k2_off135 (k2_t61 : Fin k2_t61_loop.trips) : Fin 1 → Nat :=
  let c0_i32_688 : BitVec 32 := 0#32
  let c1_i32_690 : BitVec 32 := 1#32
  let arg25 : BitVec 32 := Scf.iv c0_i32_688 c1_i32_690 k2_t61
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c64_i32_1228 : BitVec 32 := 64#32
  let c0_i32_1231 : BitVec 32 := 0#32
  let v1910 : BitVec 1 := Scalar.cmpi .sgt c64_i32_1228 c0_i32_1231
  let v1911 : BitVec 32 := Scalar.extui v1910
  let c0_i32_1232 : BitVec 32 := 0#32
  let v1912 : BitVec 1 := Scalar.cmpi .slt c64_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c64_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c64_i32_1228
  let c1_i32_1234 : BitVec 32 := 1#32
  let v1919 : BitVec 32 := Scalar.subi v1904 c1_i32_1234
  let v1920 : BitVec 32 := Scalar.select v1918 v1919 v1904
  let c128_i32_1235 : BitVec 32 := 128#32
  let v1921 : BitVec 32 := Scalar.muli v1920 c128_i32_1235
  let c64_i32_1236 : BitVec 32 := 64#32
  let c0_i32_1237 : BitVec 32 := 0#32
  let v1922 : BitVec 1 := Scalar.cmpi .eq c64_i32_1236 c0_i32_1237
  let c1_i32_1238 : BitVec 32 := 1#32
  let v1923 : BitVec 32 := Scalar.select v1922 c1_i32_1238 c64_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c64_i32_1242 : BitVec 32 := 64#32
  let v1933 : BitVec 32 := Scalar.addi v1932 c64_i32_1242
  let c16_i32_1244 : BitVec 32 := 16#32
  let v1937 : BitVec 32 := Scalar.muli v1933 c16_i32_1244
  let v1938 : Index := Scalar.indexCast v1937
  ![v1938.toNat]
@[reducible] def k2_t62_loop : Scf.Loop 32 :=
  let c0_i32_693 : BitVec 32 := 0#32
  let c64_i32_694 : BitVec 32 := 64#32
  let v1009 : BitVec 32 := Scalar.addi c0_i32_693 c64_i32_694
  let c1_i32_695 : BitVec 32 := 1#32
  ⟨c0_i32_693, v1009, c1_i32_695⟩
def k2_off136 (k2_t62 : Fin k2_t62_loop.trips) : Fin 1 → Nat :=
  let c0_i32_693 : BitVec 32 := 0#32
  let c1_i32_695 : BitVec 32 := 1#32
  let arg25 : BitVec 32 := Scf.iv c0_i32_693 c1_i32_695 k2_t62
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c32_i32_1228 : BitVec 32 := 32#32
  let c0_i32_1231 : BitVec 32 := 0#32
  let v1910 : BitVec 1 := Scalar.cmpi .sgt c32_i32_1228 c0_i32_1231
  let v1911 : BitVec 32 := Scalar.extui v1910
  let c0_i32_1232 : BitVec 32 := 0#32
  let v1912 : BitVec 1 := Scalar.cmpi .slt c32_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c32_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c32_i32_1228
  let c1_i32_1234 : BitVec 32 := 1#32
  let v1919 : BitVec 32 := Scalar.subi v1904 c1_i32_1234
  let v1920 : BitVec 32 := Scalar.select v1918 v1919 v1904
  let c64_i32_1235 : BitVec 32 := 64#32
  let v1921 : BitVec 32 := Scalar.muli v1920 c64_i32_1235
  let c32_i32_1236 : BitVec 32 := 32#32
  let c0_i32_1237 : BitVec 32 := 0#32
  let v1922 : BitVec 1 := Scalar.cmpi .eq c32_i32_1236 c0_i32_1237
  let c1_i32_1238 : BitVec 32 := 1#32
  let v1923 : BitVec 32 := Scalar.select v1922 c1_i32_1238 c32_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c16_i32_1243 : BitVec 32 := 16#32
  let v1934 : BitVec 32 := Scalar.muli v1932 c16_i32_1243
  let v1935 : Index := Scalar.indexCast v1934
  ![v1935.toNat]
def k2_off137 (k2_t62 : Fin k2_t62_loop.trips) : Fin 1 → Nat :=
  let c0_i32_693 : BitVec 32 := 0#32
  let c1_i32_695 : BitVec 32 := 1#32
  let arg25 : BitVec 32 := Scf.iv c0_i32_693 c1_i32_695 k2_t62
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c32_i32_1228 : BitVec 32 := 32#32
  let c0_i32_1231 : BitVec 32 := 0#32
  let v1910 : BitVec 1 := Scalar.cmpi .sgt c32_i32_1228 c0_i32_1231
  let v1911 : BitVec 32 := Scalar.extui v1910
  let c0_i32_1232 : BitVec 32 := 0#32
  let v1912 : BitVec 1 := Scalar.cmpi .slt c32_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c32_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c32_i32_1228
  let c1_i32_1234 : BitVec 32 := 1#32
  let v1919 : BitVec 32 := Scalar.subi v1904 c1_i32_1234
  let v1920 : BitVec 32 := Scalar.select v1918 v1919 v1904
  let c64_i32_1235 : BitVec 32 := 64#32
  let v1921 : BitVec 32 := Scalar.muli v1920 c64_i32_1235
  let c32_i32_1236 : BitVec 32 := 32#32
  let c0_i32_1237 : BitVec 32 := 0#32
  let v1922 : BitVec 1 := Scalar.cmpi .eq c32_i32_1236 c0_i32_1237
  let c1_i32_1238 : BitVec 32 := 1#32
  let v1923 : BitVec 32 := Scalar.select v1922 c1_i32_1238 c32_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c32_i32_1242 : BitVec 32 := 32#32
  let v1933 : BitVec 32 := Scalar.addi v1932 c32_i32_1242
  let c16_i32_1244 : BitVec 32 := 16#32
  let v1937 : BitVec 32 := Scalar.muli v1933 c16_i32_1244
  let v1938 : Index := Scalar.indexCast v1937
  ![v1938.toNat]
@[reducible] def k2_t63_loop : Scf.Loop 32 :=
  let c0_i32_698 : BitVec 32 := 0#32
  let c64_i32_699 : BitVec 32 := 64#32
  let v1010 : BitVec 32 := Scalar.addi c0_i32_698 c64_i32_699
  let c1_i32_700 : BitVec 32 := 1#32
  ⟨c0_i32_698, v1010, c1_i32_700⟩
def k2_off138 (k2_t63 : Fin k2_t63_loop.trips) : Fin 1 → Nat :=
  let c0_i32_698 : BitVec 32 := 0#32
  let c1_i32_700 : BitVec 32 := 1#32
  let arg25 : BitVec 32 := Scf.iv c0_i32_698 c1_i32_700 k2_t63
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c16_i32_1228 : BitVec 32 := 16#32
  let c0_i32_1231 : BitVec 32 := 0#32
  let v1910 : BitVec 1 := Scalar.cmpi .sgt c16_i32_1228 c0_i32_1231
  let v1911 : BitVec 32 := Scalar.extui v1910
  let c0_i32_1232 : BitVec 32 := 0#32
  let v1912 : BitVec 1 := Scalar.cmpi .slt c16_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c16_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c16_i32_1228
  let c1_i32_1234 : BitVec 32 := 1#32
  let v1919 : BitVec 32 := Scalar.subi v1904 c1_i32_1234
  let v1920 : BitVec 32 := Scalar.select v1918 v1919 v1904
  let c32_i32_1235 : BitVec 32 := 32#32
  let v1921 : BitVec 32 := Scalar.muli v1920 c32_i32_1235
  let c16_i32_1236 : BitVec 32 := 16#32
  let c0_i32_1237 : BitVec 32 := 0#32
  let v1922 : BitVec 1 := Scalar.cmpi .eq c16_i32_1236 c0_i32_1237
  let c1_i32_1238 : BitVec 32 := 1#32
  let v1923 : BitVec 32 := Scalar.select v1922 c1_i32_1238 c16_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c16_i32_1243 : BitVec 32 := 16#32
  let v1934 : BitVec 32 := Scalar.muli v1932 c16_i32_1243
  let v1935 : Index := Scalar.indexCast v1934
  ![v1935.toNat]
def k2_off139 (k2_t63 : Fin k2_t63_loop.trips) : Fin 1 → Nat :=
  let c0_i32_698 : BitVec 32 := 0#32
  let c1_i32_700 : BitVec 32 := 1#32
  let arg25 : BitVec 32 := Scf.iv c0_i32_698 c1_i32_700 k2_t63
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c16_i32_1228 : BitVec 32 := 16#32
  let c0_i32_1231 : BitVec 32 := 0#32
  let v1910 : BitVec 1 := Scalar.cmpi .sgt c16_i32_1228 c0_i32_1231
  let v1911 : BitVec 32 := Scalar.extui v1910
  let c0_i32_1232 : BitVec 32 := 0#32
  let v1912 : BitVec 1 := Scalar.cmpi .slt c16_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c16_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c16_i32_1228
  let c1_i32_1234 : BitVec 32 := 1#32
  let v1919 : BitVec 32 := Scalar.subi v1904 c1_i32_1234
  let v1920 : BitVec 32 := Scalar.select v1918 v1919 v1904
  let c32_i32_1235 : BitVec 32 := 32#32
  let v1921 : BitVec 32 := Scalar.muli v1920 c32_i32_1235
  let c16_i32_1236 : BitVec 32 := 16#32
  let c0_i32_1237 : BitVec 32 := 0#32
  let v1922 : BitVec 1 := Scalar.cmpi .eq c16_i32_1236 c0_i32_1237
  let c1_i32_1238 : BitVec 32 := 1#32
  let v1923 : BitVec 32 := Scalar.select v1922 c1_i32_1238 c16_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c16_i32_1242 : BitVec 32 := 16#32
  let v1933 : BitVec 32 := Scalar.addi v1932 c16_i32_1242
  let c16_i32_1244 : BitVec 32 := 16#32
  let v1937 : BitVec 32 := Scalar.muli v1933 c16_i32_1244
  let v1938 : Index := Scalar.indexCast v1937
  ![v1938.toNat]
@[reducible] def k2_t64_loop : Scf.Loop 32 :=
  let c0_i32_703 : BitVec 32 := 0#32
  let c64_i32_704 : BitVec 32 := 64#32
  let v1011 : BitVec 32 := Scalar.addi c0_i32_703 c64_i32_704
  let c1_i32_705 : BitVec 32 := 1#32
  ⟨c0_i32_703, v1011, c1_i32_705⟩
def k2_off140 (k2_t64 : Fin k2_t64_loop.trips) : Fin 1 → Nat :=
  let c0_i32_703 : BitVec 32 := 0#32
  let c1_i32_705 : BitVec 32 := 1#32
  let arg25 : BitVec 32 := Scf.iv c0_i32_703 c1_i32_705 k2_t64
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c8_i32_1228 : BitVec 32 := 8#32
  let c0_i32_1231 : BitVec 32 := 0#32
  let v1910 : BitVec 1 := Scalar.cmpi .sgt c8_i32_1228 c0_i32_1231
  let v1911 : BitVec 32 := Scalar.extui v1910
  let c0_i32_1232 : BitVec 32 := 0#32
  let v1912 : BitVec 1 := Scalar.cmpi .slt c8_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c8_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c8_i32_1228
  let c1_i32_1234 : BitVec 32 := 1#32
  let v1919 : BitVec 32 := Scalar.subi v1904 c1_i32_1234
  let v1920 : BitVec 32 := Scalar.select v1918 v1919 v1904
  let c16_i32_1235 : BitVec 32 := 16#32
  let v1921 : BitVec 32 := Scalar.muli v1920 c16_i32_1235
  let c8_i32_1236 : BitVec 32 := 8#32
  let c0_i32_1237 : BitVec 32 := 0#32
  let v1922 : BitVec 1 := Scalar.cmpi .eq c8_i32_1236 c0_i32_1237
  let c1_i32_1238 : BitVec 32 := 1#32
  let v1923 : BitVec 32 := Scalar.select v1922 c1_i32_1238 c8_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c16_i32_1243 : BitVec 32 := 16#32
  let v1934 : BitVec 32 := Scalar.muli v1932 c16_i32_1243
  let v1935 : Index := Scalar.indexCast v1934
  ![v1935.toNat]
def k2_off141 (k2_t64 : Fin k2_t64_loop.trips) : Fin 1 → Nat :=
  let c0_i32_703 : BitVec 32 := 0#32
  let c1_i32_705 : BitVec 32 := 1#32
  let arg25 : BitVec 32 := Scf.iv c0_i32_703 c1_i32_705 k2_t64
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c8_i32_1228 : BitVec 32 := 8#32
  let c0_i32_1231 : BitVec 32 := 0#32
  let v1910 : BitVec 1 := Scalar.cmpi .sgt c8_i32_1228 c0_i32_1231
  let v1911 : BitVec 32 := Scalar.extui v1910
  let c0_i32_1232 : BitVec 32 := 0#32
  let v1912 : BitVec 1 := Scalar.cmpi .slt c8_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c8_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c8_i32_1228
  let c1_i32_1234 : BitVec 32 := 1#32
  let v1919 : BitVec 32 := Scalar.subi v1904 c1_i32_1234
  let v1920 : BitVec 32 := Scalar.select v1918 v1919 v1904
  let c16_i32_1235 : BitVec 32 := 16#32
  let v1921 : BitVec 32 := Scalar.muli v1920 c16_i32_1235
  let c8_i32_1236 : BitVec 32 := 8#32
  let c0_i32_1237 : BitVec 32 := 0#32
  let v1922 : BitVec 1 := Scalar.cmpi .eq c8_i32_1236 c0_i32_1237
  let c1_i32_1238 : BitVec 32 := 1#32
  let v1923 : BitVec 32 := Scalar.select v1922 c1_i32_1238 c8_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c8_i32_1242 : BitVec 32 := 8#32
  let v1933 : BitVec 32 := Scalar.addi v1932 c8_i32_1242
  let c16_i32_1244 : BitVec 32 := 16#32
  let v1937 : BitVec 32 := Scalar.muli v1933 c16_i32_1244
  let v1938 : Index := Scalar.indexCast v1937
  ![v1938.toNat]
@[reducible] def k2_t65_loop : Scf.Loop 32 :=
  let c0_i32_708 : BitVec 32 := 0#32
  let c64_i32_709 : BitVec 32 := 64#32
  let v1012 : BitVec 32 := Scalar.addi c0_i32_708 c64_i32_709
  let c1_i32_710 : BitVec 32 := 1#32
  ⟨c0_i32_708, v1012, c1_i32_710⟩
def k2_off142 (k2_t65 : Fin k2_t65_loop.trips) : Fin 1 → Nat :=
  let c0_i32_708 : BitVec 32 := 0#32
  let c1_i32_710 : BitVec 32 := 1#32
  let arg25 : BitVec 32 := Scf.iv c0_i32_708 c1_i32_710 k2_t65
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c4_i32_1228 : BitVec 32 := 4#32
  let c0_i32_1231 : BitVec 32 := 0#32
  let v1910 : BitVec 1 := Scalar.cmpi .sgt c4_i32_1228 c0_i32_1231
  let v1911 : BitVec 32 := Scalar.extui v1910
  let c0_i32_1232 : BitVec 32 := 0#32
  let v1912 : BitVec 1 := Scalar.cmpi .slt c4_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c4_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c4_i32_1228
  let c1_i32_1234 : BitVec 32 := 1#32
  let v1919 : BitVec 32 := Scalar.subi v1904 c1_i32_1234
  let v1920 : BitVec 32 := Scalar.select v1918 v1919 v1904
  let c8_i32_1235 : BitVec 32 := 8#32
  let v1921 : BitVec 32 := Scalar.muli v1920 c8_i32_1235
  let c4_i32_1236 : BitVec 32 := 4#32
  let c0_i32_1237 : BitVec 32 := 0#32
  let v1922 : BitVec 1 := Scalar.cmpi .eq c4_i32_1236 c0_i32_1237
  let c1_i32_1238 : BitVec 32 := 1#32
  let v1923 : BitVec 32 := Scalar.select v1922 c1_i32_1238 c4_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c16_i32_1243 : BitVec 32 := 16#32
  let v1934 : BitVec 32 := Scalar.muli v1932 c16_i32_1243
  let v1935 : Index := Scalar.indexCast v1934
  ![v1935.toNat]
def k2_off143 (k2_t65 : Fin k2_t65_loop.trips) : Fin 1 → Nat :=
  let c0_i32_708 : BitVec 32 := 0#32
  let c1_i32_710 : BitVec 32 := 1#32
  let arg25 : BitVec 32 := Scf.iv c0_i32_708 c1_i32_710 k2_t65
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c4_i32_1228 : BitVec 32 := 4#32
  let c0_i32_1231 : BitVec 32 := 0#32
  let v1910 : BitVec 1 := Scalar.cmpi .sgt c4_i32_1228 c0_i32_1231
  let v1911 : BitVec 32 := Scalar.extui v1910
  let c0_i32_1232 : BitVec 32 := 0#32
  let v1912 : BitVec 1 := Scalar.cmpi .slt c4_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c4_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c4_i32_1228
  let c1_i32_1234 : BitVec 32 := 1#32
  let v1919 : BitVec 32 := Scalar.subi v1904 c1_i32_1234
  let v1920 : BitVec 32 := Scalar.select v1918 v1919 v1904
  let c8_i32_1235 : BitVec 32 := 8#32
  let v1921 : BitVec 32 := Scalar.muli v1920 c8_i32_1235
  let c4_i32_1236 : BitVec 32 := 4#32
  let c0_i32_1237 : BitVec 32 := 0#32
  let v1922 : BitVec 1 := Scalar.cmpi .eq c4_i32_1236 c0_i32_1237
  let c1_i32_1238 : BitVec 32 := 1#32
  let v1923 : BitVec 32 := Scalar.select v1922 c1_i32_1238 c4_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c4_i32_1242 : BitVec 32 := 4#32
  let v1933 : BitVec 32 := Scalar.addi v1932 c4_i32_1242
  let c16_i32_1244 : BitVec 32 := 16#32
  let v1937 : BitVec 32 := Scalar.muli v1933 c16_i32_1244
  let v1938 : Index := Scalar.indexCast v1937
  ![v1938.toNat]
@[reducible] def k2_t66_loop : Scf.Loop 32 :=
  let c0_i32_713 : BitVec 32 := 0#32
  let c64_i32_714 : BitVec 32 := 64#32
  let v1013 : BitVec 32 := Scalar.addi c0_i32_713 c64_i32_714
  let c1_i32_715 : BitVec 32 := 1#32
  ⟨c0_i32_713, v1013, c1_i32_715⟩
def k2_off144 (k2_t66 : Fin k2_t66_loop.trips) : Fin 1 → Nat :=
  let c0_i32_713 : BitVec 32 := 0#32
  let c1_i32_715 : BitVec 32 := 1#32
  let arg25 : BitVec 32 := Scf.iv c0_i32_713 c1_i32_715 k2_t66
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c2_i32_1228 : BitVec 32 := 2#32
  let c0_i32_1231 : BitVec 32 := 0#32
  let v1910 : BitVec 1 := Scalar.cmpi .sgt c2_i32_1228 c0_i32_1231
  let v1911 : BitVec 32 := Scalar.extui v1910
  let c0_i32_1232 : BitVec 32 := 0#32
  let v1912 : BitVec 1 := Scalar.cmpi .slt c2_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c2_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c2_i32_1228
  let c1_i32_1234 : BitVec 32 := 1#32
  let v1919 : BitVec 32 := Scalar.subi v1904 c1_i32_1234
  let v1920 : BitVec 32 := Scalar.select v1918 v1919 v1904
  let c4_i32_1235 : BitVec 32 := 4#32
  let v1921 : BitVec 32 := Scalar.muli v1920 c4_i32_1235
  let c2_i32_1236 : BitVec 32 := 2#32
  let c0_i32_1237 : BitVec 32 := 0#32
  let v1922 : BitVec 1 := Scalar.cmpi .eq c2_i32_1236 c0_i32_1237
  let c1_i32_1238 : BitVec 32 := 1#32
  let v1923 : BitVec 32 := Scalar.select v1922 c1_i32_1238 c2_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c16_i32_1243 : BitVec 32 := 16#32
  let v1934 : BitVec 32 := Scalar.muli v1932 c16_i32_1243
  let v1935 : Index := Scalar.indexCast v1934
  ![v1935.toNat]
def k2_off145 (k2_t66 : Fin k2_t66_loop.trips) : Fin 1 → Nat :=
  let c0_i32_713 : BitVec 32 := 0#32
  let c1_i32_715 : BitVec 32 := 1#32
  let arg25 : BitVec 32 := Scf.iv c0_i32_713 c1_i32_715 k2_t66
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c2_i32_1228 : BitVec 32 := 2#32
  let c0_i32_1231 : BitVec 32 := 0#32
  let v1910 : BitVec 1 := Scalar.cmpi .sgt c2_i32_1228 c0_i32_1231
  let v1911 : BitVec 32 := Scalar.extui v1910
  let c0_i32_1232 : BitVec 32 := 0#32
  let v1912 : BitVec 1 := Scalar.cmpi .slt c2_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c2_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c2_i32_1228
  let c1_i32_1234 : BitVec 32 := 1#32
  let v1919 : BitVec 32 := Scalar.subi v1904 c1_i32_1234
  let v1920 : BitVec 32 := Scalar.select v1918 v1919 v1904
  let c4_i32_1235 : BitVec 32 := 4#32
  let v1921 : BitVec 32 := Scalar.muli v1920 c4_i32_1235
  let c2_i32_1236 : BitVec 32 := 2#32
  let c0_i32_1237 : BitVec 32 := 0#32
  let v1922 : BitVec 1 := Scalar.cmpi .eq c2_i32_1236 c0_i32_1237
  let c1_i32_1238 : BitVec 32 := 1#32
  let v1923 : BitVec 32 := Scalar.select v1922 c1_i32_1238 c2_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c2_i32_1242 : BitVec 32 := 2#32
  let v1933 : BitVec 32 := Scalar.addi v1932 c2_i32_1242
  let c16_i32_1244 : BitVec 32 := 16#32
  let v1937 : BitVec 32 := Scalar.muli v1933 c16_i32_1244
  let v1938 : Index := Scalar.indexCast v1937
  ![v1938.toNat]
@[reducible] def k2_t67_loop : Scf.Loop 32 :=
  let c0_i32_718 : BitVec 32 := 0#32
  let c64_i32_719 : BitVec 32 := 64#32
  let v1014 : BitVec 32 := Scalar.addi c0_i32_718 c64_i32_719
  let c1_i32_720 : BitVec 32 := 1#32
  ⟨c0_i32_718, v1014, c1_i32_720⟩
def k2_off146 (k2_t67 : Fin k2_t67_loop.trips) : Fin 1 → Nat :=
  let c0_i32_718 : BitVec 32 := 0#32
  let c1_i32_720 : BitVec 32 := 1#32
  let arg25 : BitVec 32 := Scf.iv c0_i32_718 c1_i32_720 k2_t67
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c1_i32_1228 : BitVec 32 := 1#32
  let c0_i32_1231 : BitVec 32 := 0#32
  let v1910 : BitVec 1 := Scalar.cmpi .sgt c1_i32_1228 c0_i32_1231
  let v1911 : BitVec 32 := Scalar.extui v1910
  let c0_i32_1232 : BitVec 32 := 0#32
  let v1912 : BitVec 1 := Scalar.cmpi .slt c1_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c1_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c1_i32_1228
  let c1_i32_1234 : BitVec 32 := 1#32
  let v1919 : BitVec 32 := Scalar.subi v1904 c1_i32_1234
  let v1920 : BitVec 32 := Scalar.select v1918 v1919 v1904
  let c2_i32_1235 : BitVec 32 := 2#32
  let v1921 : BitVec 32 := Scalar.muli v1920 c2_i32_1235
  let c1_i32_1236 : BitVec 32 := 1#32
  let c0_i32_1237 : BitVec 32 := 0#32
  let v1922 : BitVec 1 := Scalar.cmpi .eq c1_i32_1236 c0_i32_1237
  let c1_i32_1238 : BitVec 32 := 1#32
  let v1923 : BitVec 32 := Scalar.select v1922 c1_i32_1238 c1_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c16_i32_1243 : BitVec 32 := 16#32
  let v1934 : BitVec 32 := Scalar.muli v1932 c16_i32_1243
  let v1935 : Index := Scalar.indexCast v1934
  ![v1935.toNat]
def k2_off147 (k2_t67 : Fin k2_t67_loop.trips) : Fin 1 → Nat :=
  let c0_i32_718 : BitVec 32 := 0#32
  let c1_i32_720 : BitVec 32 := 1#32
  let arg25 : BitVec 32 := Scf.iv c0_i32_718 c1_i32_720 k2_t67
  let c0_i32_1229 : BitVec 32 := 0#32
  let v1905 : BitVec 1 := Scalar.cmpi .sgt arg25 c0_i32_1229
  let v1906 : BitVec 32 := Scalar.extui v1905
  let c0_i32_1230 : BitVec 32 := 0#32
  let v1907 : BitVec 1 := Scalar.cmpi .slt arg25 c0_i32_1230
  let v1908 : BitVec 32 := Scalar.extui v1907
  let v1909 : BitVec 32 := Scalar.subi v1906 v1908
  let c1_i32_1228 : BitVec 32 := 1#32
  let c0_i32_1231 : BitVec 32 := 0#32
  let v1910 : BitVec 1 := Scalar.cmpi .sgt c1_i32_1228 c0_i32_1231
  let v1911 : BitVec 32 := Scalar.extui v1910
  let c0_i32_1232 : BitVec 32 := 0#32
  let v1912 : BitVec 1 := Scalar.cmpi .slt c1_i32_1228 c0_i32_1232
  let v1913 : BitVec 32 := Scalar.extui v1912
  let v1914 : BitVec 32 := Scalar.subi v1911 v1913
  let v1915 : BitVec 1 := Scalar.cmpi .ne v1909 v1914
  let v1916 : BitVec 32 := Scalar.remsi arg25 c1_i32_1228
  let c0_i32_1233 : BitVec 32 := 0#32
  let v1917 : BitVec 1 := Scalar.cmpi .ne v1916 c0_i32_1233
  let v1918 : BitVec 1 := Scalar.andi v1915 v1917
  let v1904 : BitVec 32 := Scalar.divsi arg25 c1_i32_1228
  let c1_i32_1234 : BitVec 32 := 1#32
  let v1919 : BitVec 32 := Scalar.subi v1904 c1_i32_1234
  let v1920 : BitVec 32 := Scalar.select v1918 v1919 v1904
  let c2_i32_1235 : BitVec 32 := 2#32
  let v1921 : BitVec 32 := Scalar.muli v1920 c2_i32_1235
  let c1_i32_1236 : BitVec 32 := 1#32
  let c0_i32_1237 : BitVec 32 := 0#32
  let v1922 : BitVec 1 := Scalar.cmpi .eq c1_i32_1236 c0_i32_1237
  let c1_i32_1238 : BitVec 32 := 1#32
  let v1923 : BitVec 32 := Scalar.select v1922 c1_i32_1238 c1_i32_1236
  let v1924 : BitVec 32 := Scalar.remsi arg25 v1923
  let c0_i32_1240 : BitVec 32 := 0#32
  let v1926 : BitVec 1 := Scalar.cmpi .slt v1924 c0_i32_1240
  let c0_i32_1241 : BitVec 32 := 0#32
  let v1927 : BitVec 1 := Scalar.cmpi .slt v1923 c0_i32_1241
  let v1928 : BitVec 1 := Scalar.xori v1926 v1927
  let c0_i32_1239 : BitVec 32 := 0#32
  let v1925 : BitVec 1 := Scalar.cmpi .ne v1924 c0_i32_1239
  let v1929 : BitVec 1 := Scalar.andi v1928 v1925
  let v1930 : BitVec 32 := Scalar.addi v1924 v1923
  let v1931 : BitVec 32 := Scalar.select v1929 v1930 v1924
  let v1932 : BitVec 32 := Scalar.addi v1921 v1931
  let c1_i32_1242 : BitVec 32 := 1#32
  let v1933 : BitVec 32 := Scalar.addi v1932 c1_i32_1242
  let c16_i32_1244 : BitVec 32 := 16#32
  let v1937 : BitVec 32 := Scalar.muli v1933 c16_i32_1244
  let v1938 : Index := Scalar.indexCast v1937
  ![v1938.toNat]
@[reducible] def k2_t68_loop : Scf.Loop 32 :=
  let c0_i32_723 : BitVec 32 := 0#32
  let c128_i32_724 : BitVec 32 := 128#32
  let v1015 : BitVec 32 := Scalar.addi c0_i32_723 c128_i32_724
  let c1_i32_725 : BitVec 32 := 1#32
  ⟨c0_i32_723, v1015, c1_i32_725⟩
def k2_off148 (k2_t68 : Fin k2_t68_loop.trips) : Fin 1 → Nat :=
  let c0_i32_723 : BitVec 32 := 0#32
  let c1_i32_725 : BitVec 32 := 1#32
  let arg25 : BitVec 32 := Scf.iv c0_i32_723 c1_i32_725 k2_t68
  let c16_i32_1230 : BitVec 32 := 16#32
  let v1909 : BitVec 32 := Scalar.muli arg25 c16_i32_1230
  let v1910 : Index := Scalar.indexCast v1909
  ![v1910.toNat]

def k2_chk60 (i : grid2.Coords) (v1908 : IVec S16 32) : Prop :=
  (∀ (k2_h1 : k2_cond1 i = 1#1), ∀ a x, ((![v1908] : Fin 1 → IVec S16 32) a x).toNat < S2064.size a) ∧
  (∀ (k2_h1 : k2_cond1 i = 1#1), ∀ a x, ((![v1908] : Fin 1 → IVec S16 32) a x).toNat < S2064.size a)
theorem k2_idx105_inb : ∀ (i : grid2.Coords) (v1908 : IVec S16 32) (k2_hw60 : k2_chk60 i v1908), ∀ (k2_h1 : k2_cond1 i = 1#1), ∀ a x, ((![v1908] : Fin 1 → IVec S16 32) a x).toNat < S2064.size a := fun i v1908 k2_hw60 k2_h1 => k2_hw60.1 k2_h1
theorem k2_idx106_inb : ∀ (i : grid2.Coords) (v1908 : IVec S16 32) (k2_hw60 : k2_chk60 i v1908), ∀ (k2_h1 : k2_cond1 i = 1#1), ∀ a x, ((![v1908] : Fin 1 → IVec S16 32) a x).toNat < S2064.size a := fun i v1908 k2_hw60 k2_h1 => k2_hw60.2 k2_h1
def k2_off149 (k2_t68 : Fin k2_t68_loop.trips) : Fin 1 → Nat :=
  let c0_i32_723 : BitVec 32 := 0#32
  let c1_i32_725 : BitVec 32 := 1#32
  let arg25 : BitVec 32 := Scf.iv c0_i32_723 c1_i32_725 k2_t68
  let c16_i32_1238 : BitVec 32 := 16#32
  let v1939 : BitVec 32 := Scalar.muli arg25 c16_i32_1238
  let v1940 : Index := Scalar.indexCast v1939
  ![v1940.toNat]
@[reducible] def k2_t69_loop : Scf.Loop 32 :=
  let c0_i32_728 : BitVec 32 := 0#32
  let c128_i32_729 : BitVec 32 := 128#32
  let v1016 : BitVec 32 := Scalar.addi c0_i32_728 c128_i32_729
  let c1_i32_730 : BitVec 32 := 1#32
  ⟨c0_i32_728, v1016, c1_i32_730⟩
def k2_off150 (k2_t69 : Fin k2_t69_loop.trips) : Fin 1 → Nat :=
  let c0_i32_728 : BitVec 32 := 0#32
  let c1_i32_730 : BitVec 32 := 1#32
  let arg25 : BitVec 32 := Scf.iv c0_i32_728 c1_i32_730 k2_t69
  let c16_i32_1230 : BitVec 32 := 16#32
  let v1909 : BitVec 32 := Scalar.muli arg25 c16_i32_1230
  let v1910 : Index := Scalar.indexCast v1909
  ![v1910.toNat]

def k2_chk61 (i : grid2.Coords) (v1908 : IVec S16 32) : Prop :=
  (∀ (k2_h1 : k2_cond1 i = 1#1), ∀ a x, ((![v1908] : Fin 1 → IVec S16 32) a x).toNat < S2064.size a) ∧
  (∀ (k2_h1 : k2_cond1 i = 1#1), ∀ a x, ((![v1908] : Fin 1 → IVec S16 32) a x).toNat < S2064.size a)
theorem k2_idx107_inb : ∀ (i : grid2.Coords) (v1908 : IVec S16 32) (k2_hw61 : k2_chk61 i v1908), ∀ (k2_h1 : k2_cond1 i = 1#1), ∀ a x, ((![v1908] : Fin 1 → IVec S16 32) a x).toNat < S2064.size a := fun i v1908 k2_hw61 k2_h1 => k2_hw61.1 k2_h1
theorem k2_idx108_inb : ∀ (i : grid2.Coords) (v1908 : IVec S16 32) (k2_hw61 : k2_chk61 i v1908), ∀ (k2_h1 : k2_cond1 i = 1#1), ∀ a x, ((![v1908] : Fin 1 → IVec S16 32) a x).toNat < S2064.size a := fun i v1908 k2_hw61 k2_h1 => k2_hw61.2 k2_h1
def k2_off151 (k2_t69 : Fin k2_t69_loop.trips) : Fin 1 → Nat :=
  let c0_i32_728 : BitVec 32 := 0#32
  let c1_i32_730 : BitVec 32 := 1#32
  let arg25 : BitVec 32 := Scf.iv c0_i32_728 c1_i32_730 k2_t69
  let c16_i32_1238 : BitVec 32 := 16#32
  let v1939 : BitVec 32 := Scalar.muli arg25 c16_i32_1238
  let v1940 : Index := Scalar.indexCast v1939
  ![v1940.toNat]
@[reducible] def k2_t70_loop : Scf.Loop 32 :=
  let c0_i32_733 : BitVec 32 := 0#32
  let c128_i32_734 : BitVec 32 := 128#32
  let v1017 : BitVec 32 := Scalar.addi c0_i32_733 c128_i32_734
  let c1_i32_735 : BitVec 32 := 1#32
  ⟨c0_i32_733, v1017, c1_i32_735⟩
def k2_off152 (k2_t70 : Fin k2_t70_loop.trips) : Fin 1 → Nat :=
  let c0_i32_733 : BitVec 32 := 0#32
  let c1_i32_735 : BitVec 32 := 1#32
  let arg25 : BitVec 32 := Scf.iv c0_i32_733 c1_i32_735 k2_t70
  let c16_i32_1230 : BitVec 32 := 16#32
  let v1909 : BitVec 32 := Scalar.muli arg25 c16_i32_1230
  let v1910 : Index := Scalar.indexCast v1909
  ![v1910.toNat]

def k2_chk62 (i : grid2.Coords) (v1908 : IVec S16 32) : Prop :=
  (∀ (k2_h1 : k2_cond1 i = 1#1), ∀ a x, ((![v1908] : Fin 1 → IVec S16 32) a x).toNat < S2064.size a) ∧
  (∀ (k2_h1 : k2_cond1 i = 1#1), ∀ a x, ((![v1908] : Fin 1 → IVec S16 32) a x).toNat < S2064.size a)
theorem k2_idx109_inb : ∀ (i : grid2.Coords) (v1908 : IVec S16 32) (k2_hw62 : k2_chk62 i v1908), ∀ (k2_h1 : k2_cond1 i = 1#1), ∀ a x, ((![v1908] : Fin 1 → IVec S16 32) a x).toNat < S2064.size a := fun i v1908 k2_hw62 k2_h1 => k2_hw62.1 k2_h1
theorem k2_idx110_inb : ∀ (i : grid2.Coords) (v1908 : IVec S16 32) (k2_hw62 : k2_chk62 i v1908), ∀ (k2_h1 : k2_cond1 i = 1#1), ∀ a x, ((![v1908] : Fin 1 → IVec S16 32) a x).toNat < S2064.size a := fun i v1908 k2_hw62 k2_h1 => k2_hw62.2 k2_h1
def k2_off153 (k2_t70 : Fin k2_t70_loop.trips) : Fin 1 → Nat :=
  let c0_i32_733 : BitVec 32 := 0#32
  let c1_i32_735 : BitVec 32 := 1#32
  let arg25 : BitVec 32 := Scf.iv c0_i32_733 c1_i32_735 k2_t70
  let c16_i32_1238 : BitVec 32 := 16#32
  let v1939 : BitVec 32 := Scalar.muli arg25 c16_i32_1238
  let v1940 : Index := Scalar.indexCast v1939
  ![v1940.toNat]
@[reducible] def k2_t71_loop : Scf.Loop 32 :=
  let c0_i32_738 : BitVec 32 := 0#32
  let c128_i32_739 : BitVec 32 := 128#32
  let v1018 : BitVec 32 := Scalar.addi c0_i32_738 c128_i32_739
  let c1_i32_740 : BitVec 32 := 1#32
  ⟨c0_i32_738, v1018, c1_i32_740⟩
def k2_off154 (k2_t71 : Fin k2_t71_loop.trips) : Fin 1 → Nat :=
  let c0_i32_738 : BitVec 32 := 0#32
  let c1_i32_740 : BitVec 32 := 1#32
  let arg25 : BitVec 32 := Scf.iv c0_i32_738 c1_i32_740 k2_t71
  let c16_i32_1230 : BitVec 32 := 16#32
  let v1909 : BitVec 32 := Scalar.muli arg25 c16_i32_1230
  let v1910 : Index := Scalar.indexCast v1909
  ![v1910.toNat]

def k2_chk63 (i : grid2.Coords) (v1908 : IVec S16 32) : Prop :=
  (∀ (k2_h1 : k2_cond1 i = 1#1), ∀ a x, ((![v1908] : Fin 1 → IVec S16 32) a x).toNat < S2064.size a) ∧
  (∀ (k2_h1 : k2_cond1 i = 1#1), ∀ a x, ((![v1908] : Fin 1 → IVec S16 32) a x).toNat < S2064.size a)
theorem k2_idx111_inb : ∀ (i : grid2.Coords) (v1908 : IVec S16 32) (k2_hw63 : k2_chk63 i v1908), ∀ (k2_h1 : k2_cond1 i = 1#1), ∀ a x, ((![v1908] : Fin 1 → IVec S16 32) a x).toNat < S2064.size a := fun i v1908 k2_hw63 k2_h1 => k2_hw63.1 k2_h1
theorem k2_idx112_inb : ∀ (i : grid2.Coords) (v1908 : IVec S16 32) (k2_hw63 : k2_chk63 i v1908), ∀ (k2_h1 : k2_cond1 i = 1#1), ∀ a x, ((![v1908] : Fin 1 → IVec S16 32) a x).toNat < S2064.size a := fun i v1908 k2_hw63 k2_h1 => k2_hw63.2 k2_h1
def k2_off155 (k2_t71 : Fin k2_t71_loop.trips) : Fin 1 → Nat :=
  let c0_i32_738 : BitVec 32 := 0#32
  let c1_i32_740 : BitVec 32 := 1#32
  let arg25 : BitVec 32 := Scf.iv c0_i32_738 c1_i32_740 k2_t71
  let c16_i32_1238 : BitVec 32 := 16#32
  let v1939 : BitVec 32 := Scalar.muli arg25 c16_i32_1238
  let v1940 : Index := Scalar.indexCast v1939
  ![v1940.toNat]

def k2_chk64 (i : grid2.Coords) (v1047 : IVec S16 32) : Prop :=
  (∀ (k2_h1 : k2_cond1 i = 1#1), ∀ a x, ((![v1047] : Fin 1 → IVec S16 32) a x).toNat < S768.size a)
theorem k2_idx113_inb : ∀ (i : grid2.Coords) (v1047 : IVec S16 32) (k2_hw64 : k2_chk64 i v1047), ∀ (k2_h1 : k2_cond1 i = 1#1), ∀ a x, ((![v1047] : Fin 1 → IVec S16 32) a x).toNat < S768.size a := fun i v1047 k2_hw64 k2_h1 => k2_hw64 k2_h1

def k2_chk65 (i : grid2.Coords) (v1051 : IVec S16 32) : Prop :=
  (∀ (k2_h1 : k2_cond1 i = 1#1), ∀ a x, ((![v1051] : Fin 1 → IVec S16 32) a x).toNat < S768.size a)
theorem k2_idx114_inb : ∀ (i : grid2.Coords) (v1051 : IVec S16 32) (k2_hw65 : k2_chk65 i v1051), ∀ (k2_h1 : k2_cond1 i = 1#1), ∀ a x, ((![v1051] : Fin 1 → IVec S16 32) a x).toNat < S768.size a := fun i v1051 k2_hw65 k2_h1 => k2_hw65 k2_h1

def k2_chk66 (i : grid2.Coords) (v1082 : IVec S16 32) : Prop :=
  (∀ (k2_h1 : k2_cond1 i = 1#1), ∀ a x, ((![v1082] : Fin 1 → IVec S16 32) a x).toNat < S768.size a)
theorem k2_idx115_inb : ∀ (i : grid2.Coords) (v1082 : IVec S16 32) (k2_hw66 : k2_chk66 i v1082), ∀ (k2_h1 : k2_cond1 i = 1#1), ∀ a x, ((![v1082] : Fin 1 → IVec S16 32) a x).toNat < S768.size a := fun i v1082 k2_hw66 k2_h1 => k2_hw66 k2_h1

def k2_chk67 (i : grid2.Coords) (v1086 : IVec S16 32) : Prop :=
  (∀ (k2_h1 : k2_cond1 i = 1#1), ∀ a x, ((![v1086] : Fin 1 → IVec S16 32) a x).toNat < S768.size a)
theorem k2_idx116_inb : ∀ (i : grid2.Coords) (v1086 : IVec S16 32) (k2_hw67 : k2_chk67 i v1086), ∀ (k2_h1 : k2_cond1 i = 1#1), ∀ a x, ((![v1086] : Fin 1 → IVec S16 32) a x).toNat < S768.size a := fun i v1086 k2_hw67 k2_h1 => k2_hw67 k2_h1

def k2_chk68 (i : grid2.Coords) (v1117 : IVec S16 32) : Prop :=
  (∀ (k2_h1 : k2_cond1 i = 1#1), ∀ a x, ((![v1117] : Fin 1 → IVec S16 32) a x).toNat < S768.size a)
theorem k2_idx117_inb : ∀ (i : grid2.Coords) (v1117 : IVec S16 32) (k2_hw68 : k2_chk68 i v1117), ∀ (k2_h1 : k2_cond1 i = 1#1), ∀ a x, ((![v1117] : Fin 1 → IVec S16 32) a x).toNat < S768.size a := fun i v1117 k2_hw68 k2_h1 => k2_hw68 k2_h1

def k2_chk69 (i : grid2.Coords) (v1121 : IVec S16 32) : Prop :=
  (∀ (k2_h1 : k2_cond1 i = 1#1), ∀ a x, ((![v1121] : Fin 1 → IVec S16 32) a x).toNat < S768.size a)
theorem k2_idx118_inb : ∀ (i : grid2.Coords) (v1121 : IVec S16 32) (k2_hw69 : k2_chk69 i v1121), ∀ (k2_h1 : k2_cond1 i = 1#1), ∀ a x, ((![v1121] : Fin 1 → IVec S16 32) a x).toNat < S768.size a := fun i v1121 k2_hw69 k2_h1 => k2_hw69 k2_h1

def k2_chk70 (i : grid2.Coords) (v1152 : IVec S16 32) : Prop :=
  (∀ (k2_h1 : k2_cond1 i = 1#1), ∀ a x, ((![v1152] : Fin 1 → IVec S16 32) a x).toNat < S768.size a)
theorem k2_idx119_inb : ∀ (i : grid2.Coords) (v1152 : IVec S16 32) (k2_hw70 : k2_chk70 i v1152), ∀ (k2_h1 : k2_cond1 i = 1#1), ∀ a x, ((![v1152] : Fin 1 → IVec S16 32) a x).toNat < S768.size a := fun i v1152 k2_hw70 k2_h1 => k2_hw70 k2_h1

def k2_chk71 (i : grid2.Coords) (v1156 : IVec S16 32) : Prop :=
  (∀ (k2_h1 : k2_cond1 i = 1#1), ∀ a x, ((![v1156] : Fin 1 → IVec S16 32) a x).toNat < S768.size a)
theorem k2_idx120_inb : ∀ (i : grid2.Coords) (v1156 : IVec S16 32) (k2_hw71 : k2_chk71 i v1156), ∀ (k2_h1 : k2_cond1 i = 1#1), ∀ a x, ((![v1156] : Fin 1 → IVec S16 32) a x).toNat < S768.size a := fun i v1156 k2_hw71 k2_h1 => k2_hw71 k2_h1

def k2_chk72 (i : grid2.Coords) (v1187 : IVec S16 32) : Prop :=
  (∀ (k2_h1 : k2_cond1 i = 1#1), ∀ a x, ((![v1187] : Fin 1 → IVec S16 32) a x).toNat < S768.size a)
theorem k2_idx121_inb : ∀ (i : grid2.Coords) (v1187 : IVec S16 32) (k2_hw72 : k2_chk72 i v1187), ∀ (k2_h1 : k2_cond1 i = 1#1), ∀ a x, ((![v1187] : Fin 1 → IVec S16 32) a x).toNat < S768.size a := fun i v1187 k2_hw72 k2_h1 => k2_hw72 k2_h1

def k2_chk73 (i : grid2.Coords) (v1191 : IVec S16 32) : Prop :=
  (∀ (k2_h1 : k2_cond1 i = 1#1), ∀ a x, ((![v1191] : Fin 1 → IVec S16 32) a x).toNat < S768.size a)
theorem k2_idx122_inb : ∀ (i : grid2.Coords) (v1191 : IVec S16 32) (k2_hw73 : k2_chk73 i v1191), ∀ (k2_h1 : k2_cond1 i = 1#1), ∀ a x, ((![v1191] : Fin 1 → IVec S16 32) a x).toNat < S768.size a := fun i v1191 k2_hw73 k2_h1 => k2_hw73 k2_h1

def k2_chk74 (i : grid2.Coords) (v1222 : IVec S16 32) : Prop :=
  (∀ (k2_h1 : k2_cond1 i = 1#1), ∀ a x, ((![v1222] : Fin 1 → IVec S16 32) a x).toNat < S768.size a)
theorem k2_idx123_inb : ∀ (i : grid2.Coords) (v1222 : IVec S16 32) (k2_hw74 : k2_chk74 i v1222), ∀ (k2_h1 : k2_cond1 i = 1#1), ∀ a x, ((![v1222] : Fin 1 → IVec S16 32) a x).toNat < S768.size a := fun i v1222 k2_hw74 k2_h1 => k2_hw74 k2_h1

def k2_chk75 (i : grid2.Coords) (v1226 : IVec S16 32) : Prop :=
  (∀ (k2_h1 : k2_cond1 i = 1#1), ∀ a x, ((![v1226] : Fin 1 → IVec S16 32) a x).toNat < S768.size a)
theorem k2_idx124_inb : ∀ (i : grid2.Coords) (v1226 : IVec S16 32) (k2_hw75 : k2_chk75 i v1226), ∀ (k2_h1 : k2_cond1 i = 1#1), ∀ a x, ((![v1226] : Fin 1 → IVec S16 32) a x).toNat < S768.size a := fun i v1226 k2_hw75 k2_h1 => k2_hw75 k2_h1

def k2_chk76 (i : grid2.Coords) (v1257 : IVec S16 32) : Prop :=
  (∀ (k2_h1 : k2_cond1 i = 1#1), ∀ a x, ((![v1257] : Fin 1 → IVec S16 32) a x).toNat < S768.size a)
theorem k2_idx125_inb : ∀ (i : grid2.Coords) (v1257 : IVec S16 32) (k2_hw76 : k2_chk76 i v1257), ∀ (k2_h1 : k2_cond1 i = 1#1), ∀ a x, ((![v1257] : Fin 1 → IVec S16 32) a x).toNat < S768.size a := fun i v1257 k2_hw76 k2_h1 => k2_hw76 k2_h1

def k2_chk77 (i : grid2.Coords) (v1261 : IVec S16 32) : Prop :=
  (∀ (k2_h1 : k2_cond1 i = 1#1), ∀ a x, ((![v1261] : Fin 1 → IVec S16 32) a x).toNat < S768.size a)
theorem k2_idx126_inb : ∀ (i : grid2.Coords) (v1261 : IVec S16 32) (k2_hw77 : k2_chk77 i v1261), ∀ (k2_h1 : k2_cond1 i = 1#1), ∀ a x, ((![v1261] : Fin 1 → IVec S16 32) a x).toNat < S768.size a := fun i v1261 k2_hw77 k2_h1 => k2_hw77 k2_h1

def k2_chk78 (i : grid2.Coords) (v1292 : IVec S16 32) : Prop :=
  (∀ (k2_h1 : k2_cond1 i = 1#1), ∀ a x, ((![v1292] : Fin 1 → IVec S16 32) a x).toNat < S768.size a)
theorem k2_idx127_inb : ∀ (i : grid2.Coords) (v1292 : IVec S16 32) (k2_hw78 : k2_chk78 i v1292), ∀ (k2_h1 : k2_cond1 i = 1#1), ∀ a x, ((![v1292] : Fin 1 → IVec S16 32) a x).toNat < S768.size a := fun i v1292 k2_hw78 k2_h1 => k2_hw78 k2_h1

def k2_chk79 (i : grid2.Coords) (v1296 : IVec S16 32) : Prop :=
  (∀ (k2_h1 : k2_cond1 i = 1#1), ∀ a x, ((![v1296] : Fin 1 → IVec S16 32) a x).toNat < S768.size a)
theorem k2_idx128_inb : ∀ (i : grid2.Coords) (v1296 : IVec S16 32) (k2_hw79 : k2_chk79 i v1296), ∀ (k2_h1 : k2_cond1 i = 1#1), ∀ a x, ((![v1296] : Fin 1 → IVec S16 32) a x).toNat < S768.size a := fun i v1296 k2_hw79 k2_h1 => k2_hw79 k2_h1

def k2_chk80 (i : grid2.Coords) (v1327 : IVec S16 32) : Prop :=
  (∀ (k2_h1 : k2_cond1 i = 1#1), ∀ a x, ((![v1327] : Fin 1 → IVec S16 32) a x).toNat < S768.size a)
theorem k2_idx129_inb : ∀ (i : grid2.Coords) (v1327 : IVec S16 32) (k2_hw80 : k2_chk80 i v1327), ∀ (k2_h1 : k2_cond1 i = 1#1), ∀ a x, ((![v1327] : Fin 1 → IVec S16 32) a x).toNat < S768.size a := fun i v1327 k2_hw80 k2_h1 => k2_hw80 k2_h1

def k2_chk81 (i : grid2.Coords) (v1331 : IVec S16 32) : Prop :=
  (∀ (k2_h1 : k2_cond1 i = 1#1), ∀ a x, ((![v1331] : Fin 1 → IVec S16 32) a x).toNat < S768.size a)
theorem k2_idx130_inb : ∀ (i : grid2.Coords) (v1331 : IVec S16 32) (k2_hw81 : k2_chk81 i v1331), ∀ (k2_h1 : k2_cond1 i = 1#1), ∀ a x, ((![v1331] : Fin 1 → IVec S16 32) a x).toNat < S768.size a := fun i v1331 k2_hw81 k2_h1 => k2_hw81 k2_h1

def k2_chk82 (i : grid2.Coords) (v1362 : IVec S16 32) : Prop :=
  (∀ (k2_h1 : k2_cond1 i = 1#1), ∀ a x, ((![v1362] : Fin 1 → IVec S16 32) a x).toNat < S768.size a)
theorem k2_idx131_inb : ∀ (i : grid2.Coords) (v1362 : IVec S16 32) (k2_hw82 : k2_chk82 i v1362), ∀ (k2_h1 : k2_cond1 i = 1#1), ∀ a x, ((![v1362] : Fin 1 → IVec S16 32) a x).toNat < S768.size a := fun i v1362 k2_hw82 k2_h1 => k2_hw82 k2_h1

def k2_chk83 (i : grid2.Coords) (v1366 : IVec S16 32) : Prop :=
  (∀ (k2_h1 : k2_cond1 i = 1#1), ∀ a x, ((![v1366] : Fin 1 → IVec S16 32) a x).toNat < S768.size a)
theorem k2_idx132_inb : ∀ (i : grid2.Coords) (v1366 : IVec S16 32) (k2_hw83 : k2_chk83 i v1366), ∀ (k2_h1 : k2_cond1 i = 1#1), ∀ a x, ((![v1366] : Fin 1 → IVec S16 32) a x).toNat < S768.size a := fun i v1366 k2_hw83 k2_h1 => k2_hw83 k2_h1

def k2_chk84 (i : grid2.Coords) (v1397 : IVec S16 32) : Prop :=
  (∀ (k2_h1 : k2_cond1 i = 1#1), ∀ a x, ((![v1397] : Fin 1 → IVec S16 32) a x).toNat < S768.size a)
theorem k2_idx133_inb : ∀ (i : grid2.Coords) (v1397 : IVec S16 32) (k2_hw84 : k2_chk84 i v1397), ∀ (k2_h1 : k2_cond1 i = 1#1), ∀ a x, ((![v1397] : Fin 1 → IVec S16 32) a x).toNat < S768.size a := fun i v1397 k2_hw84 k2_h1 => k2_hw84 k2_h1

def k2_chk85 (i : grid2.Coords) (v1401 : IVec S16 32) : Prop :=
  (∀ (k2_h1 : k2_cond1 i = 1#1), ∀ a x, ((![v1401] : Fin 1 → IVec S16 32) a x).toNat < S768.size a)
theorem k2_idx134_inb : ∀ (i : grid2.Coords) (v1401 : IVec S16 32) (k2_hw85 : k2_chk85 i v1401), ∀ (k2_h1 : k2_cond1 i = 1#1), ∀ a x, ((![v1401] : Fin 1 → IVec S16 32) a x).toNat < S768.size a := fun i v1401 k2_hw85 k2_h1 => k2_hw85 k2_h1

def k2_chk86 (i : grid2.Coords) (v1432 : IVec S16 32) : Prop :=
  (∀ (k2_h1 : k2_cond1 i = 1#1), ∀ a x, ((![v1432] : Fin 1 → IVec S16 32) a x).toNat < S768.size a)
theorem k2_idx135_inb : ∀ (i : grid2.Coords) (v1432 : IVec S16 32) (k2_hw86 : k2_chk86 i v1432), ∀ (k2_h1 : k2_cond1 i = 1#1), ∀ a x, ((![v1432] : Fin 1 → IVec S16 32) a x).toNat < S768.size a := fun i v1432 k2_hw86 k2_h1 => k2_hw86 k2_h1

def k2_chk87 (i : grid2.Coords) (v1436 : IVec S16 32) : Prop :=
  (∀ (k2_h1 : k2_cond1 i = 1#1), ∀ a x, ((![v1436] : Fin 1 → IVec S16 32) a x).toNat < S768.size a)
theorem k2_idx136_inb : ∀ (i : grid2.Coords) (v1436 : IVec S16 32) (k2_hw87 : k2_chk87 i v1436), ∀ (k2_h1 : k2_cond1 i = 1#1), ∀ a x, ((![v1436] : Fin 1 → IVec S16 32) a x).toNat < S768.size a := fun i v1436 k2_hw87 k2_h1 => k2_hw87 k2_h1

def k2_chk88 (i : grid2.Coords) (v1467 : IVec S16 32) : Prop :=
  (∀ (k2_h1 : k2_cond1 i = 1#1), ∀ a x, ((![v1467] : Fin 1 → IVec S16 32) a x).toNat < S768.size a)
theorem k2_idx137_inb : ∀ (i : grid2.Coords) (v1467 : IVec S16 32) (k2_hw88 : k2_chk88 i v1467), ∀ (k2_h1 : k2_cond1 i = 1#1), ∀ a x, ((![v1467] : Fin 1 → IVec S16 32) a x).toNat < S768.size a := fun i v1467 k2_hw88 k2_h1 => k2_hw88 k2_h1

def k2_chk89 (i : grid2.Coords) (v1471 : IVec S16 32) : Prop :=
  (∀ (k2_h1 : k2_cond1 i = 1#1), ∀ a x, ((![v1471] : Fin 1 → IVec S16 32) a x).toNat < S768.size a)
theorem k2_idx138_inb : ∀ (i : grid2.Coords) (v1471 : IVec S16 32) (k2_hw89 : k2_chk89 i v1471), ∀ (k2_h1 : k2_cond1 i = 1#1), ∀ a x, ((![v1471] : Fin 1 → IVec S16 32) a x).toNat < S768.size a := fun i v1471 k2_hw89 k2_h1 => k2_hw89 k2_h1

def k2_chk90 (i : grid2.Coords) (v1502 : IVec S16 32) : Prop :=
  (∀ (k2_h1 : k2_cond1 i = 1#1), ∀ a x, ((![v1502] : Fin 1 → IVec S16 32) a x).toNat < S768.size a)
theorem k2_idx139_inb : ∀ (i : grid2.Coords) (v1502 : IVec S16 32) (k2_hw90 : k2_chk90 i v1502), ∀ (k2_h1 : k2_cond1 i = 1#1), ∀ a x, ((![v1502] : Fin 1 → IVec S16 32) a x).toNat < S768.size a := fun i v1502 k2_hw90 k2_h1 => k2_hw90 k2_h1

def k2_chk91 (i : grid2.Coords) (v1506 : IVec S16 32) : Prop :=
  (∀ (k2_h1 : k2_cond1 i = 1#1), ∀ a x, ((![v1506] : Fin 1 → IVec S16 32) a x).toNat < S768.size a)
theorem k2_idx140_inb : ∀ (i : grid2.Coords) (v1506 : IVec S16 32) (k2_hw91 : k2_chk91 i v1506), ∀ (k2_h1 : k2_cond1 i = 1#1), ∀ a x, ((![v1506] : Fin 1 → IVec S16 32) a x).toNat < S768.size a := fun i v1506 k2_hw91 k2_h1 => k2_hw91 k2_h1

def k2_chk92 (i : grid2.Coords) (v1537 : IVec S16 32) : Prop :=
  (∀ (k2_h1 : k2_cond1 i = 1#1), ∀ a x, ((![v1537] : Fin 1 → IVec S16 32) a x).toNat < S768.size a)
theorem k2_idx141_inb : ∀ (i : grid2.Coords) (v1537 : IVec S16 32) (k2_hw92 : k2_chk92 i v1537), ∀ (k2_h1 : k2_cond1 i = 1#1), ∀ a x, ((![v1537] : Fin 1 → IVec S16 32) a x).toNat < S768.size a := fun i v1537 k2_hw92 k2_h1 => k2_hw92 k2_h1

def k2_chk93 (i : grid2.Coords) (v1541 : IVec S16 32) : Prop :=
  (∀ (k2_h1 : k2_cond1 i = 1#1), ∀ a x, ((![v1541] : Fin 1 → IVec S16 32) a x).toNat < S768.size a)
theorem k2_idx142_inb : ∀ (i : grid2.Coords) (v1541 : IVec S16 32) (k2_hw93 : k2_chk93 i v1541), ∀ (k2_h1 : k2_cond1 i = 1#1), ∀ a x, ((![v1541] : Fin 1 → IVec S16 32) a x).toNat < S768.size a := fun i v1541 k2_hw93 k2_h1 => k2_hw93 k2_h1

def k2_chk94 (i : grid2.Coords) (v1572 : IVec S16 32) : Prop :=
  (∀ (k2_h1 : k2_cond1 i = 1#1), ∀ a x, ((![v1572] : Fin 1 → IVec S16 32) a x).toNat < S768.size a)
theorem k2_idx143_inb : ∀ (i : grid2.Coords) (v1572 : IVec S16 32) (k2_hw94 : k2_chk94 i v1572), ∀ (k2_h1 : k2_cond1 i = 1#1), ∀ a x, ((![v1572] : Fin 1 → IVec S16 32) a x).toNat < S768.size a := fun i v1572 k2_hw94 k2_h1 => k2_hw94 k2_h1

def k2_chk95 (i : grid2.Coords) (v1576 : IVec S16 32) : Prop :=
  (∀ (k2_h1 : k2_cond1 i = 1#1), ∀ a x, ((![v1576] : Fin 1 → IVec S16 32) a x).toNat < S768.size a)
theorem k2_idx144_inb : ∀ (i : grid2.Coords) (v1576 : IVec S16 32) (k2_hw95 : k2_chk95 i v1576), ∀ (k2_h1 : k2_cond1 i = 1#1), ∀ a x, ((![v1576] : Fin 1 → IVec S16 32) a x).toNat < S768.size a := fun i v1576 k2_hw95 k2_h1 => k2_hw95 k2_h1

def k2_chk96 (i : grid2.Coords) (v1607 : IVec S16 32) : Prop :=
  (∀ (k2_h1 : k2_cond1 i = 1#1), ∀ a x, ((![v1607] : Fin 1 → IVec S16 32) a x).toNat < S768.size a)
theorem k2_idx145_inb : ∀ (i : grid2.Coords) (v1607 : IVec S16 32) (k2_hw96 : k2_chk96 i v1607), ∀ (k2_h1 : k2_cond1 i = 1#1), ∀ a x, ((![v1607] : Fin 1 → IVec S16 32) a x).toNat < S768.size a := fun i v1607 k2_hw96 k2_h1 => k2_hw96 k2_h1

def k2_chk97 (i : grid2.Coords) (v1611 : IVec S16 32) : Prop :=
  (∀ (k2_h1 : k2_cond1 i = 1#1), ∀ a x, ((![v1611] : Fin 1 → IVec S16 32) a x).toNat < S768.size a)
theorem k2_idx146_inb : ∀ (i : grid2.Coords) (v1611 : IVec S16 32) (k2_hw97 : k2_chk97 i v1611), ∀ (k2_h1 : k2_cond1 i = 1#1), ∀ a x, ((![v1611] : Fin 1 → IVec S16 32) a x).toNat < S768.size a := fun i v1611 k2_hw97 k2_h1 => k2_hw97 k2_h1

def k2_chk98 (i : grid2.Coords) (v1642 : IVec S16 32) : Prop :=
  (∀ (k2_h1 : k2_cond1 i = 1#1), ∀ a x, ((![v1642] : Fin 1 → IVec S16 32) a x).toNat < S768.size a)
theorem k2_idx147_inb : ∀ (i : grid2.Coords) (v1642 : IVec S16 32) (k2_hw98 : k2_chk98 i v1642), ∀ (k2_h1 : k2_cond1 i = 1#1), ∀ a x, ((![v1642] : Fin 1 → IVec S16 32) a x).toNat < S768.size a := fun i v1642 k2_hw98 k2_h1 => k2_hw98 k2_h1

def k2_chk99 (i : grid2.Coords) (v1646 : IVec S16 32) : Prop :=
  (∀ (k2_h1 : k2_cond1 i = 1#1), ∀ a x, ((![v1646] : Fin 1 → IVec S16 32) a x).toNat < S768.size a)
theorem k2_idx148_inb : ∀ (i : grid2.Coords) (v1646 : IVec S16 32) (k2_hw99 : k2_chk99 i v1646), ∀ (k2_h1 : k2_cond1 i = 1#1), ∀ a x, ((![v1646] : Fin 1 → IVec S16 32) a x).toNat < S768.size a := fun i v1646 k2_hw99 k2_h1 => k2_hw99 k2_h1

def k2_chk100 (i : grid2.Coords) (v1677 : IVec S16 32) : Prop :=
  (∀ (k2_h1 : k2_cond1 i = 1#1), ∀ a x, ((![v1677] : Fin 1 → IVec S16 32) a x).toNat < S768.size a)
theorem k2_idx149_inb : ∀ (i : grid2.Coords) (v1677 : IVec S16 32) (k2_hw100 : k2_chk100 i v1677), ∀ (k2_h1 : k2_cond1 i = 1#1), ∀ a x, ((![v1677] : Fin 1 → IVec S16 32) a x).toNat < S768.size a := fun i v1677 k2_hw100 k2_h1 => k2_hw100 k2_h1

def k2_chk101 (i : grid2.Coords) (v1681 : IVec S16 32) : Prop :=
  (∀ (k2_h1 : k2_cond1 i = 1#1), ∀ a x, ((![v1681] : Fin 1 → IVec S16 32) a x).toNat < S768.size a)
theorem k2_idx150_inb : ∀ (i : grid2.Coords) (v1681 : IVec S16 32) (k2_hw101 : k2_chk101 i v1681), ∀ (k2_h1 : k2_cond1 i = 1#1), ∀ a x, ((![v1681] : Fin 1 → IVec S16 32) a x).toNat < S768.size a := fun i v1681 k2_hw101 k2_h1 => k2_hw101 k2_h1

def k2_chk102 (i : grid2.Coords) (v1712 : IVec S16 32) : Prop :=
  (∀ (k2_h1 : k2_cond1 i = 1#1), ∀ a x, ((![v1712] : Fin 1 → IVec S16 32) a x).toNat < S768.size a)
theorem k2_idx151_inb : ∀ (i : grid2.Coords) (v1712 : IVec S16 32) (k2_hw102 : k2_chk102 i v1712), ∀ (k2_h1 : k2_cond1 i = 1#1), ∀ a x, ((![v1712] : Fin 1 → IVec S16 32) a x).toNat < S768.size a := fun i v1712 k2_hw102 k2_h1 => k2_hw102 k2_h1

def k2_chk103 (i : grid2.Coords) (v1716 : IVec S16 32) : Prop :=
  (∀ (k2_h1 : k2_cond1 i = 1#1), ∀ a x, ((![v1716] : Fin 1 → IVec S16 32) a x).toNat < S768.size a)
theorem k2_idx152_inb : ∀ (i : grid2.Coords) (v1716 : IVec S16 32) (k2_hw103 : k2_chk103 i v1716), ∀ (k2_h1 : k2_cond1 i = 1#1), ∀ a x, ((![v1716] : Fin 1 → IVec S16 32) a x).toNat < S768.size a := fun i v1716 k2_hw103 k2_h1 => k2_hw103 k2_h1

def k2_chk104 (i : grid2.Coords) (v1747 : IVec S16 32) : Prop :=
  (∀ (k2_h1 : k2_cond1 i = 1#1), ∀ a x, ((![v1747] : Fin 1 → IVec S16 32) a x).toNat < S768.size a)
theorem k2_idx153_inb : ∀ (i : grid2.Coords) (v1747 : IVec S16 32) (k2_hw104 : k2_chk104 i v1747), ∀ (k2_h1 : k2_cond1 i = 1#1), ∀ a x, ((![v1747] : Fin 1 → IVec S16 32) a x).toNat < S768.size a := fun i v1747 k2_hw104 k2_h1 => k2_hw104 k2_h1

def k2_chk105 (i : grid2.Coords) (v1751 : IVec S16 32) : Prop :=
  (∀ (k2_h1 : k2_cond1 i = 1#1), ∀ a x, ((![v1751] : Fin 1 → IVec S16 32) a x).toNat < S768.size a)
theorem k2_idx154_inb : ∀ (i : grid2.Coords) (v1751 : IVec S16 32) (k2_hw105 : k2_chk105 i v1751), ∀ (k2_h1 : k2_cond1 i = 1#1), ∀ a x, ((![v1751] : Fin 1 → IVec S16 32) a x).toNat < S768.size a := fun i v1751 k2_hw105 k2_h1 => k2_hw105 k2_h1

def k2_chk106 (i : grid2.Coords) (v1782 : IVec S16 32) : Prop :=
  (∀ (k2_h1 : k2_cond1 i = 1#1), ∀ a x, ((![v1782] : Fin 1 → IVec S16 32) a x).toNat < S768.size a)
theorem k2_idx155_inb : ∀ (i : grid2.Coords) (v1782 : IVec S16 32) (k2_hw106 : k2_chk106 i v1782), ∀ (k2_h1 : k2_cond1 i = 1#1), ∀ a x, ((![v1782] : Fin 1 → IVec S16 32) a x).toNat < S768.size a := fun i v1782 k2_hw106 k2_h1 => k2_hw106 k2_h1

def k2_chk107 (i : grid2.Coords) (v1786 : IVec S16 32) : Prop :=
  (∀ (k2_h1 : k2_cond1 i = 1#1), ∀ a x, ((![v1786] : Fin 1 → IVec S16 32) a x).toNat < S768.size a)
theorem k2_idx156_inb : ∀ (i : grid2.Coords) (v1786 : IVec S16 32) (k2_hw107 : k2_chk107 i v1786), ∀ (k2_h1 : k2_cond1 i = 1#1), ∀ a x, ((![v1786] : Fin 1 → IVec S16 32) a x).toNat < S768.size a := fun i v1786 k2_hw107 k2_h1 => k2_hw107 k2_h1

def k2_chk108 (i : grid2.Coords) (v1817 : IVec S16 32) : Prop :=
  (∀ (k2_h1 : k2_cond1 i = 1#1), ∀ a x, ((![v1817] : Fin 1 → IVec S16 32) a x).toNat < S768.size a)
theorem k2_idx157_inb : ∀ (i : grid2.Coords) (v1817 : IVec S16 32) (k2_hw108 : k2_chk108 i v1817), ∀ (k2_h1 : k2_cond1 i = 1#1), ∀ a x, ((![v1817] : Fin 1 → IVec S16 32) a x).toNat < S768.size a := fun i v1817 k2_hw108 k2_h1 => k2_hw108 k2_h1

def k2_chk109 (i : grid2.Coords) (v1821 : IVec S16 32) : Prop :=
  (∀ (k2_h1 : k2_cond1 i = 1#1), ∀ a x, ((![v1821] : Fin 1 → IVec S16 32) a x).toNat < S768.size a)
theorem k2_idx158_inb : ∀ (i : grid2.Coords) (v1821 : IVec S16 32) (k2_hw109 : k2_chk109 i v1821), ∀ (k2_h1 : k2_cond1 i = 1#1), ∀ a x, ((![v1821] : Fin 1 → IVec S16 32) a x).toNat < S768.size a := fun i v1821 k2_hw109 k2_h1 => k2_hw109 k2_h1

def k2_chk110 (i : grid2.Coords) (v1852 : IVec S16 32) : Prop :=
  (∀ (k2_h1 : k2_cond1 i = 1#1), ∀ a x, ((![v1852] : Fin 1 → IVec S16 32) a x).toNat < S768.size a)
theorem k2_idx159_inb : ∀ (i : grid2.Coords) (v1852 : IVec S16 32) (k2_hw110 : k2_chk110 i v1852), ∀ (k2_h1 : k2_cond1 i = 1#1), ∀ a x, ((![v1852] : Fin 1 → IVec S16 32) a x).toNat < S768.size a := fun i v1852 k2_hw110 k2_h1 => k2_hw110 k2_h1

def k2_chk111 (i : grid2.Coords) (v1856 : IVec S16 32) : Prop :=
  (∀ (k2_h1 : k2_cond1 i = 1#1), ∀ a x, ((![v1856] : Fin 1 → IVec S16 32) a x).toNat < S768.size a)
theorem k2_idx160_inb : ∀ (i : grid2.Coords) (v1856 : IVec S16 32) (k2_hw111 : k2_chk111 i v1856), ∀ (k2_h1 : k2_cond1 i = 1#1), ∀ a x, ((![v1856] : Fin 1 → IVec S16 32) a x).toNat < S768.size a := fun i v1856 k2_hw111 k2_h1 => k2_hw111 k2_h1
@[reducible] def k2_t72_loop : Scf.Loop 32 :=
  let c0_i32_1140 : BitVec 32 := 0#32
  let c32_i32_1141 : BitVec 32 := 32#32
  let v1863 : BitVec 32 := Scalar.addi c0_i32_1140 c32_i32_1141
  let c1_i32_1142 : BitVec 32 := 1#32
  ⟨c0_i32_1140, v1863, c1_i32_1142⟩

def k2_chk112 (i : grid2.Coords) (v1909 : IVec S16 32) : Prop :=
  (∀ (k2_h1 : k2_cond1 i = 1#1), ∀ a x, ((![v1909] : Fin 1 → IVec S16 32) a x).toNat < S384.size a)
theorem k2_idx161_inb : ∀ (i : grid2.Coords) (v1909 : IVec S16 32) (k2_hw112 : k2_chk112 i v1909), ∀ (k2_h1 : k2_cond1 i = 1#1), ∀ a x, ((![v1909] : Fin 1 → IVec S16 32) a x).toNat < S384.size a := fun i v1909 k2_hw112 k2_h1 => k2_hw112 k2_h1

def k2_chk113 (i : grid2.Coords) (v1916 : IVec S16 32) (v1919 : IVec S16 32) : Prop :=
  (∀ (k2_h1 : k2_cond1 i = 1#1), ∀ a x, ((![v1916, v1919] : Fin 2 → IVec S16 32) a x).toNat < S128x128.size a)
theorem k2_idx162_inb : ∀ (i : grid2.Coords) (v1916 : IVec S16 32) (v1919 : IVec S16 32) (k2_hw113 : k2_chk113 i v1916 v1919), ∀ (k2_h1 : k2_cond1 i = 1#1), ∀ a x, ((![v1916, v1919] : Fin 2 → IVec S16 32) a x).toNat < S128x128.size a := fun i v1916 v1919 k2_hw113 k2_h1 => k2_hw113 k2_h1

def k2_chk114 (i : grid2.Coords) (v1922 : IVec S16 32) (v1927 : IVec S16 32) : Prop :=
  (∀ (k2_h1 : k2_cond1 i = 1#1), ∀ a x, ((![v1922, v1927] : Fin 2 → IVec S16 32) a x).toNat < S128x128.size a)
theorem k2_idx163_inb : ∀ (i : grid2.Coords) (v1922 : IVec S16 32) (v1927 : IVec S16 32) (k2_hw114 : k2_chk114 i v1922 v1927), ∀ (k2_h1 : k2_cond1 i = 1#1), ∀ a x, ((![v1922, v1927] : Fin 2 → IVec S16 32) a x).toNat < S128x128.size a := fun i v1922 v1927 k2_hw114 k2_h1 => k2_hw114 k2_h1
def k2_off156 (k2_t72 : Fin k2_t72_loop.trips) : Fin 1 → Nat :=
  let c0_i32_1242 : BitVec 32 := 0#32
  let c16_i32_1241 : BitVec 32 := 16#32
  let c0_i32_1140 : BitVec 32 := 0#32
  let c1_i32_1142 : BitVec 32 := 1#32
  let arg25 : BitVec 32 := Scf.iv c0_i32_1140 c1_i32_1142 k2_t72
  let v1938 : BitVec 32 := Scalar.muli c16_i32_1241 arg25
  let v1939 : BitVec 32 := Scalar.addi c0_i32_1242 v1938
  let v1940 : Index := Scalar.indexCast v1939
  ![v1940.toNat]
@[reducible] def k2_t73_loop : Scf.Loop 32 :=
  let c0_i32_1151 : BitVec 32 := 0#32
  let c32_i32_1152 : BitVec 32 := 32#32
  let v1868 : BitVec 32 := Scalar.addi c0_i32_1151 c32_i32_1152
  let c1_i32_1153 : BitVec 32 := 1#32
  ⟨c0_i32_1151, v1868, c1_i32_1153⟩

def k2_chk115 (i : grid2.Coords) (v1909 : IVec S16 32) : Prop :=
  (∀ (k2_h1 : k2_cond1 i = 1#1), ∀ a x, ((![v1909] : Fin 1 → IVec S16 32) a x).toNat < S384.size a)
theorem k2_idx164_inb : ∀ (i : grid2.Coords) (v1909 : IVec S16 32) (k2_hw115 : k2_chk115 i v1909), ∀ (k2_h1 : k2_cond1 i = 1#1), ∀ a x, ((![v1909] : Fin 1 → IVec S16 32) a x).toNat < S384.size a := fun i v1909 k2_hw115 k2_h1 => k2_hw115 k2_h1

def k2_chk116 (i : grid2.Coords) (v1916 : IVec S16 32) (v1919 : IVec S16 32) : Prop :=
  (∀ (k2_h1 : k2_cond1 i = 1#1), ∀ a x, ((![v1916, v1919] : Fin 2 → IVec S16 32) a x).toNat < S128x128.size a)
theorem k2_idx165_inb : ∀ (i : grid2.Coords) (v1916 : IVec S16 32) (v1919 : IVec S16 32) (k2_hw116 : k2_chk116 i v1916 v1919), ∀ (k2_h1 : k2_cond1 i = 1#1), ∀ a x, ((![v1916, v1919] : Fin 2 → IVec S16 32) a x).toNat < S128x128.size a := fun i v1916 v1919 k2_hw116 k2_h1 => k2_hw116 k2_h1

def k2_chk117 (i : grid2.Coords) (v1922 : IVec S16 32) (v1927 : IVec S16 32) : Prop :=
  (∀ (k2_h1 : k2_cond1 i = 1#1), ∀ a x, ((![v1922, v1927] : Fin 2 → IVec S16 32) a x).toNat < S128x128.size a)
theorem k2_idx166_inb : ∀ (i : grid2.Coords) (v1922 : IVec S16 32) (v1927 : IVec S16 32) (k2_hw117 : k2_chk117 i v1922 v1927), ∀ (k2_h1 : k2_cond1 i = 1#1), ∀ a x, ((![v1922, v1927] : Fin 2 → IVec S16 32) a x).toNat < S128x128.size a := fun i v1922 v1927 k2_hw117 k2_h1 => k2_hw117 k2_h1
def k2_off157 (k2_t73 : Fin k2_t73_loop.trips) : Fin 1 → Nat :=
  let c512_i32_1242 : BitVec 32 := 512#32
  let c16_i32_1241 : BitVec 32 := 16#32
  let c0_i32_1151 : BitVec 32 := 0#32
  let c1_i32_1153 : BitVec 32 := 1#32
  let arg25 : BitVec 32 := Scf.iv c0_i32_1151 c1_i32_1153 k2_t73
  let v1938 : BitVec 32 := Scalar.muli c16_i32_1241 arg25
  let v1939 : BitVec 32 := Scalar.addi c512_i32_1242 v1938
  let v1940 : Index := Scalar.indexCast v1939
  ![v1940.toNat]
@[reducible] def k2_t74_loop : Scf.Loop 32 :=
  let c0_i32_1162 : BitVec 32 := 0#32
  let c32_i32_1163 : BitVec 32 := 32#32
  let v1873 : BitVec 32 := Scalar.addi c0_i32_1162 c32_i32_1163
  let c1_i32_1164 : BitVec 32 := 1#32
  ⟨c0_i32_1162, v1873, c1_i32_1164⟩

def k2_chk118 (i : grid2.Coords) (v1909 : IVec S16 32) : Prop :=
  (∀ (k2_h1 : k2_cond1 i = 1#1), ∀ a x, ((![v1909] : Fin 1 → IVec S16 32) a x).toNat < S384.size a)
theorem k2_idx167_inb : ∀ (i : grid2.Coords) (v1909 : IVec S16 32) (k2_hw118 : k2_chk118 i v1909), ∀ (k2_h1 : k2_cond1 i = 1#1), ∀ a x, ((![v1909] : Fin 1 → IVec S16 32) a x).toNat < S384.size a := fun i v1909 k2_hw118 k2_h1 => k2_hw118 k2_h1

def k2_chk119 (i : grid2.Coords) (v1916 : IVec S16 32) (v1919 : IVec S16 32) : Prop :=
  (∀ (k2_h1 : k2_cond1 i = 1#1), ∀ a x, ((![v1916, v1919] : Fin 2 → IVec S16 32) a x).toNat < S128x128.size a)
theorem k2_idx168_inb : ∀ (i : grid2.Coords) (v1916 : IVec S16 32) (v1919 : IVec S16 32) (k2_hw119 : k2_chk119 i v1916 v1919), ∀ (k2_h1 : k2_cond1 i = 1#1), ∀ a x, ((![v1916, v1919] : Fin 2 → IVec S16 32) a x).toNat < S128x128.size a := fun i v1916 v1919 k2_hw119 k2_h1 => k2_hw119 k2_h1

def k2_chk120 (i : grid2.Coords) (v1922 : IVec S16 32) (v1927 : IVec S16 32) : Prop :=
  (∀ (k2_h1 : k2_cond1 i = 1#1), ∀ a x, ((![v1922, v1927] : Fin 2 → IVec S16 32) a x).toNat < S128x128.size a)
theorem k2_idx169_inb : ∀ (i : grid2.Coords) (v1922 : IVec S16 32) (v1927 : IVec S16 32) (k2_hw120 : k2_chk120 i v1922 v1927), ∀ (k2_h1 : k2_cond1 i = 1#1), ∀ a x, ((![v1922, v1927] : Fin 2 → IVec S16 32) a x).toNat < S128x128.size a := fun i v1922 v1927 k2_hw120 k2_h1 => k2_hw120 k2_h1
def k2_off158 (k2_t74 : Fin k2_t74_loop.trips) : Fin 1 → Nat :=
  let c1024_i32_1241 : BitVec 32 := 1024#32
  let c16_i32_1240 : BitVec 32 := 16#32
  let c0_i32_1162 : BitVec 32 := 0#32
  let c1_i32_1164 : BitVec 32 := 1#32
  let arg25 : BitVec 32 := Scf.iv c0_i32_1162 c1_i32_1164 k2_t74
  let v1938 : BitVec 32 := Scalar.muli c16_i32_1240 arg25
  let v1939 : BitVec 32 := Scalar.addi c1024_i32_1241 v1938
  let v1940 : Index := Scalar.indexCast v1939
  ![v1940.toNat]
@[reducible] def k2_t75_loop : Scf.Loop 32 :=
  let c0_i32_1173 : BitVec 32 := 0#32
  let c136_i32 : BitVec 32 := 136#32
  let v1878 : BitVec 32 := Scalar.addi c0_i32_1173 c136_i32
  let c1_i32_1174 : BitVec 32 := 1#32
  ⟨c0_i32_1173, v1878, c1_i32_1174⟩

def k2_chk121 (i : grid2.Coords) (v1911 : IVec S16 32) : Prop :=
  (∀ (k2_h1 : k2_cond1 i = 1#1), ∀ a x, ((![v1911] : Fin 1 → IVec S16 32) a x).toNat < S384.size a)
theorem k2_idx170_inb : ∀ (i : grid2.Coords) (v1911 : IVec S16 32) (k2_hw121 : k2_chk121 i v1911), ∀ (k2_h1 : k2_cond1 i = 1#1), ∀ a x, ((![v1911] : Fin 1 → IVec S16 32) a x).toNat < S384.size a := fun i v1911 k2_hw121 k2_h1 => k2_hw121 k2_h1

def k2_chk122 (i : grid2.Coords) (v1931 : IVec S16 32) (v1933 : IVec S16 32) : Prop :=
  (∀ (k2_h1 : k2_cond1 i = 1#1), ∀ a x, ((![v1931, v1933] : Fin 2 → IVec S16 32) a x).toNat < S128x128.size a)
theorem k2_idx171_inb : ∀ (i : grid2.Coords) (v1931 : IVec S16 32) (v1933 : IVec S16 32) (k2_hw122 : k2_chk122 i v1931 v1933), ∀ (k2_h1 : k2_cond1 i = 1#1), ∀ a x, ((![v1931, v1933] : Fin 2 → IVec S16 32) a x).toNat < S128x128.size a := fun i v1931 v1933 k2_hw122 k2_h1 => k2_hw122 k2_h1
def k2_off159 (k2_t75 : Fin k2_t75_loop.trips) : Fin 1 → Nat :=
  let c0_i32_1240 : BitVec 32 := 0#32
  let c16_i32_1239 : BitVec 32 := 16#32
  let c0_i32_1173 : BitVec 32 := 0#32
  let c1_i32_1174 : BitVec 32 := 1#32
  let arg25 : BitVec 32 := Scf.iv c0_i32_1173 c1_i32_1174 k2_t75
  let v1935 : BitVec 32 := Scalar.muli c16_i32_1239 arg25
  let v1936 : BitVec 32 := Scalar.addi c0_i32_1240 v1935
  let v1937 : Index := Scalar.indexCast v1936
  ![v1937.toNat]
@[reducible] def k2_t76_loop : Scf.Loop 32 :=
  let c0_i32_1183 : BitVec 32 := 0#32
  let c136_i32_1184 : BitVec 32 := 136#32
  let v1883 : BitVec 32 := Scalar.addi c0_i32_1183 c136_i32_1184
  let c1_i32_1185 : BitVec 32 := 1#32
  ⟨c0_i32_1183, v1883, c1_i32_1185⟩

def k2_chk123 (i : grid2.Coords) (v1911 : IVec S16 32) : Prop :=
  (∀ (k2_h1 : k2_cond1 i = 1#1), ∀ a x, ((![v1911] : Fin 1 → IVec S16 32) a x).toNat < S384.size a)
theorem k2_idx172_inb : ∀ (i : grid2.Coords) (v1911 : IVec S16 32) (k2_hw123 : k2_chk123 i v1911), ∀ (k2_h1 : k2_cond1 i = 1#1), ∀ a x, ((![v1911] : Fin 1 → IVec S16 32) a x).toNat < S384.size a := fun i v1911 k2_hw123 k2_h1 => k2_hw123 k2_h1

def k2_chk124 (i : grid2.Coords) (v1931 : IVec S16 32) (v1933 : IVec S16 32) : Prop :=
  (∀ (k2_h1 : k2_cond1 i = 1#1), ∀ a x, ((![v1931, v1933] : Fin 2 → IVec S16 32) a x).toNat < S128x128.size a)
theorem k2_idx173_inb : ∀ (i : grid2.Coords) (v1931 : IVec S16 32) (v1933 : IVec S16 32) (k2_hw124 : k2_chk124 i v1931 v1933), ∀ (k2_h1 : k2_cond1 i = 1#1), ∀ a x, ((![v1931, v1933] : Fin 2 → IVec S16 32) a x).toNat < S128x128.size a := fun i v1931 v1933 k2_hw124 k2_h1 => k2_hw124 k2_h1
def k2_off160 (k2_t76 : Fin k2_t76_loop.trips) : Fin 1 → Nat :=
  let c2176_i32_1239 : BitVec 32 := 2176#32
  let c16_i32_1238 : BitVec 32 := 16#32
  let c0_i32_1183 : BitVec 32 := 0#32
  let c1_i32_1185 : BitVec 32 := 1#32
  let arg25 : BitVec 32 := Scf.iv c0_i32_1183 c1_i32_1185 k2_t76
  let v1935 : BitVec 32 := Scalar.muli c16_i32_1238 arg25
  let v1936 : BitVec 32 := Scalar.addi c2176_i32_1239 v1935
  let v1937 : Index := Scalar.indexCast v1936
  ![v1937.toNat]
@[reducible] def k2_t77_loop : Scf.Loop 32 :=
  let c0_i32_1194 : BitVec 32 := 0#32
  let c136_i32_1195 : BitVec 32 := 136#32
  let v1888 : BitVec 32 := Scalar.addi c0_i32_1194 c136_i32_1195
  let c1_i32_1196 : BitVec 32 := 1#32
  ⟨c0_i32_1194, v1888, c1_i32_1196⟩

def k2_chk125 (i : grid2.Coords) (v1911 : IVec S16 32) : Prop :=
  (∀ (k2_h1 : k2_cond1 i = 1#1), ∀ a x, ((![v1911] : Fin 1 → IVec S16 32) a x).toNat < S384.size a)
theorem k2_idx174_inb : ∀ (i : grid2.Coords) (v1911 : IVec S16 32) (k2_hw125 : k2_chk125 i v1911), ∀ (k2_h1 : k2_cond1 i = 1#1), ∀ a x, ((![v1911] : Fin 1 → IVec S16 32) a x).toNat < S384.size a := fun i v1911 k2_hw125 k2_h1 => k2_hw125 k2_h1

def k2_chk126 (i : grid2.Coords) (v1931 : IVec S16 32) (v1933 : IVec S16 32) : Prop :=
  (∀ (k2_h1 : k2_cond1 i = 1#1), ∀ a x, ((![v1931, v1933] : Fin 2 → IVec S16 32) a x).toNat < S128x128.size a)
theorem k2_idx175_inb : ∀ (i : grid2.Coords) (v1931 : IVec S16 32) (v1933 : IVec S16 32) (k2_hw126 : k2_chk126 i v1931 v1933), ∀ (k2_h1 : k2_cond1 i = 1#1), ∀ a x, ((![v1931, v1933] : Fin 2 → IVec S16 32) a x).toNat < S128x128.size a := fun i v1931 v1933 k2_hw126 k2_h1 => k2_hw126 k2_h1
def k2_off161 (k2_t77 : Fin k2_t77_loop.trips) : Fin 1 → Nat :=
  let c4352_i32_1239 : BitVec 32 := 4352#32
  let c16_i32_1238 : BitVec 32 := 16#32
  let c0_i32_1194 : BitVec 32 := 0#32
  let c1_i32_1196 : BitVec 32 := 1#32
  let arg25 : BitVec 32 := Scf.iv c0_i32_1194 c1_i32_1196 k2_t77
  let v1935 : BitVec 32 := Scalar.muli c16_i32_1238 arg25
  let v1936 : BitVec 32 := Scalar.addi c4352_i32_1239 v1935
  let v1937 : Index := Scalar.indexCast v1936
  ![v1937.toNat]
@[reducible] def k2_t78_loop : Scf.Loop 32 :=
  let c0_i32_1204 : BitVec 32 := 0#32
  let c136_i32_1205 : BitVec 32 := 136#32
  let v1893 : BitVec 32 := Scalar.addi c0_i32_1204 c136_i32_1205
  let c1_i32_1206 : BitVec 32 := 1#32
  ⟨c0_i32_1204, v1893, c1_i32_1206⟩

def k2_chk127 (i : grid2.Coords) (v1911 : IVec S16 32) : Prop :=
  (∀ (k2_h1 : k2_cond1 i = 1#1), ∀ a x, ((![v1911] : Fin 1 → IVec S16 32) a x).toNat < S384.size a)
theorem k2_idx176_inb : ∀ (i : grid2.Coords) (v1911 : IVec S16 32) (k2_hw127 : k2_chk127 i v1911), ∀ (k2_h1 : k2_cond1 i = 1#1), ∀ a x, ((![v1911] : Fin 1 → IVec S16 32) a x).toNat < S384.size a := fun i v1911 k2_hw127 k2_h1 => k2_hw127 k2_h1

def k2_chk128 (i : grid2.Coords) (v1931 : IVec S16 32) (v1933 : IVec S16 32) : Prop :=
  (∀ (k2_h1 : k2_cond1 i = 1#1), ∀ a x, ((![v1931, v1933] : Fin 2 → IVec S16 32) a x).toNat < S128x128.size a)
theorem k2_idx177_inb : ∀ (i : grid2.Coords) (v1931 : IVec S16 32) (v1933 : IVec S16 32) (k2_hw128 : k2_chk128 i v1931 v1933), ∀ (k2_h1 : k2_cond1 i = 1#1), ∀ a x, ((![v1931, v1933] : Fin 2 → IVec S16 32) a x).toNat < S128x128.size a := fun i v1931 v1933 k2_hw128 k2_h1 => k2_hw128 k2_h1
def k2_off162 (k2_t78 : Fin k2_t78_loop.trips) : Fin 1 → Nat :=
  let c6528_i32_1239 : BitVec 32 := 6528#32
  let c16_i32_1238 : BitVec 32 := 16#32
  let c0_i32_1204 : BitVec 32 := 0#32
  let c1_i32_1206 : BitVec 32 := 1#32
  let arg25 : BitVec 32 := Scf.iv c0_i32_1204 c1_i32_1206 k2_t78
  let v1935 : BitVec 32 := Scalar.muli c16_i32_1238 arg25
  let v1936 : BitVec 32 := Scalar.addi c6528_i32_1239 v1935
  let v1937 : Index := Scalar.indexCast v1936
  ![v1937.toNat]
@[reducible] def k2_t79_loop : Scf.Loop 32 :=
  let c0_i32_1214 : BitVec 32 := 0#32
  let c136_i32_1215 : BitVec 32 := 136#32
  let v1898 : BitVec 32 := Scalar.addi c0_i32_1214 c136_i32_1215
  let c1_i32_1216 : BitVec 32 := 1#32
  ⟨c0_i32_1214, v1898, c1_i32_1216⟩

def k2_chk129 (i : grid2.Coords) (v1911 : IVec S16 32) : Prop :=
  (∀ (k2_h1 : k2_cond1 i = 1#1), ∀ a x, ((![v1911] : Fin 1 → IVec S16 32) a x).toNat < S384.size a)
theorem k2_idx178_inb : ∀ (i : grid2.Coords) (v1911 : IVec S16 32) (k2_hw129 : k2_chk129 i v1911), ∀ (k2_h1 : k2_cond1 i = 1#1), ∀ a x, ((![v1911] : Fin 1 → IVec S16 32) a x).toNat < S384.size a := fun i v1911 k2_hw129 k2_h1 => k2_hw129 k2_h1

def k2_chk130 (i : grid2.Coords) (v1931 : IVec S16 32) (v1933 : IVec S16 32) : Prop :=
  (∀ (k2_h1 : k2_cond1 i = 1#1), ∀ a x, ((![v1931, v1933] : Fin 2 → IVec S16 32) a x).toNat < S128x128.size a)
theorem k2_idx179_inb : ∀ (i : grid2.Coords) (v1931 : IVec S16 32) (v1933 : IVec S16 32) (k2_hw130 : k2_chk130 i v1931 v1933), ∀ (k2_h1 : k2_cond1 i = 1#1), ∀ a x, ((![v1931, v1933] : Fin 2 → IVec S16 32) a x).toNat < S128x128.size a := fun i v1931 v1933 k2_hw130 k2_h1 => k2_hw130 k2_h1
def k2_off163 (k2_t79 : Fin k2_t79_loop.trips) : Fin 1 → Nat :=
  let c8704_i32_1239 : BitVec 32 := 8704#32
  let c16_i32_1238 : BitVec 32 := 16#32
  let c0_i32_1214 : BitVec 32 := 0#32
  let c1_i32_1216 : BitVec 32 := 1#32
  let arg25 : BitVec 32 := Scf.iv c0_i32_1214 c1_i32_1216 k2_t79
  let v1935 : BitVec 32 := Scalar.muli c16_i32_1238 arg25
  let v1936 : BitVec 32 := Scalar.addi c8704_i32_1239 v1935
  let v1937 : Index := Scalar.indexCast v1936
  ![v1937.toNat]
@[reducible] def k2_t80_loop : Scf.Loop 32 :=
  let c0_i32_1224 : BitVec 32 := 0#32
  let c136_i32_1225 : BitVec 32 := 136#32
  let v1903 : BitVec 32 := Scalar.addi c0_i32_1224 c136_i32_1225
  let c1_i32_1226 : BitVec 32 := 1#32
  ⟨c0_i32_1224, v1903, c1_i32_1226⟩

def k2_chk131 (i : grid2.Coords) (v1911 : IVec S16 32) : Prop :=
  (∀ (k2_h1 : k2_cond1 i = 1#1), ∀ a x, ((![v1911] : Fin 1 → IVec S16 32) a x).toNat < S384.size a)
theorem k2_idx180_inb : ∀ (i : grid2.Coords) (v1911 : IVec S16 32) (k2_hw131 : k2_chk131 i v1911), ∀ (k2_h1 : k2_cond1 i = 1#1), ∀ a x, ((![v1911] : Fin 1 → IVec S16 32) a x).toNat < S384.size a := fun i v1911 k2_hw131 k2_h1 => k2_hw131 k2_h1

def k2_chk132 (i : grid2.Coords) (v1931 : IVec S16 32) (v1933 : IVec S16 32) : Prop :=
  (∀ (k2_h1 : k2_cond1 i = 1#1), ∀ a x, ((![v1931, v1933] : Fin 2 → IVec S16 32) a x).toNat < S128x128.size a)
theorem k2_idx181_inb : ∀ (i : grid2.Coords) (v1931 : IVec S16 32) (v1933 : IVec S16 32) (k2_hw132 : k2_chk132 i v1931 v1933), ∀ (k2_h1 : k2_cond1 i = 1#1), ∀ a x, ((![v1931, v1933] : Fin 2 → IVec S16 32) a x).toNat < S128x128.size a := fun i v1931 v1933 k2_hw132 k2_h1 => k2_hw132 k2_h1
def k2_off164 (k2_t80 : Fin k2_t80_loop.trips) : Fin 1 → Nat :=
  let c10880_i32_1239 : BitVec 32 := 10880#32
  let c16_i32_1238 : BitVec 32 := 16#32
  let c0_i32_1224 : BitVec 32 := 0#32
  let c1_i32_1226 : BitVec 32 := 1#32
  let arg25 : BitVec 32 := Scf.iv c0_i32_1224 c1_i32_1226 k2_t80
  let v1935 : BitVec 32 := Scalar.muli c16_i32_1238 arg25
  let v1936 : BitVec 32 := Scalar.addi c10880_i32_1239 v1935
  let v1937 : Index := Scalar.indexCast v1936
  ![v1937.toNat]
def k2_off165 (i : grid2.Coords) : Fin 2 → Nat :=
  let arg1 : BitVec 32 := BitVec.ofNat 32 (i 1).val
  let c0_i32_1228_r1 : BitVec 32 := 0#32
  ![arg1.toNat, 0]
def k2_off166 (i : grid2.Coords) : Fin 2 → Nat :=
  let arg1 : BitVec 32 := BitVec.ofNat 32 (i 1).val
  let c0_i32_1228_r3 : BitVec 32 := 0#32
  ![arg1.toNat, 0]
def k2_off167 (i : grid2.Coords) : Fin 2 → Nat :=
  let arg1 : BitVec 32 := BitVec.ofNat 32 (i 1).val
  let c0_i32_1228_r4 : BitVec 32 := 0#32
  ![arg1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x20000x80 : Shape := ⟨3, ![16, 20000, 80]⟩
abbrev S16x20000x4 : Shape := ⟨3, ![16, 20000, 4]⟩
abbrev S16x20000x17x2 : Shape := ⟨4, ![16, 20000, 17, 2]⟩
abbrev S16x20000x2 : Shape := ⟨3, ![16, 20000, 2]⟩
abbrev S_ : Shape := ⟨0, ![]⟩
abbrev S16x1600000 : Shape := ⟨2, ![16, 1600000]⟩
abbrev S16x300 : Shape := ⟨2, ![16, 300]⟩
abbrev S16x300x1 : Shape := ⟨3, ![16, 300, 1]⟩
abbrev S1 : Shape := ⟨1, ![1]⟩
abbrev S1x1x1 : Shape := ⟨3, ![1, 1, 1]⟩
abbrev S16x300x4 : Shape := ⟨3, ![16, 300, 4]⟩
abbrev S16x300x1x1 : Shape := ⟨4, ![16, 300, 1, 1]⟩
abbrev S16x300x17x2 : Shape := ⟨4, ![16, 300, 17, 2]⟩

abbrev nBuf : Space → Nat
  | .hbm => 112
  | .vmem => 0
  | .smem => 0
  | _ => 0

abbrev bufTy : (tb : Table) → Fin (tcTables nBuf tb) → BufTy
  | .hbm, ⟨0, _⟩ => ⟨S16x20000x80, .f32⟩
  | .hbm, ⟨1, _⟩ => ⟨S16x20000x4, .f32⟩
  | .hbm, ⟨2, _⟩ => ⟨S16x20000x17x2, .f32⟩
  | .hbm, ⟨3, _⟩ => ⟨S16x20000x2, .f32⟩
  | .hbm, ⟨4, _⟩ => ⟨S16x20000x2, .f32⟩
  | .hbm, ⟨5, _⟩ => ⟨S_, .f32⟩
  | .hbm, ⟨6, _⟩ => ⟨S16x20000x2, .f32⟩
  | .hbm, ⟨7, _⟩ => ⟨S16x20000x2, .f32⟩
  | .hbm, ⟨8, _⟩ => ⟨S16x20000x2, .f32⟩
  | .hbm, ⟨9, _⟩ => ⟨S_, .f32⟩
  | .hbm, ⟨10, _⟩ => ⟨S16x20000x2, .f32⟩
  | .hbm, ⟨11, _⟩ => ⟨S16x20000x2, .f32⟩
  | .hbm, ⟨12, _⟩ => ⟨S16x20000x2, .f32⟩
  | .hbm, ⟨13, _⟩ => ⟨S16x20000x4, .f32⟩
  | .hbm, ⟨14, _⟩ => ⟨S16x20000x80, .f32⟩
  | .hbm, ⟨15, _⟩ => ⟨S16x20000x80, .f32⟩
  | .hbm, ⟨16, _⟩ => ⟨S_, .f32⟩
  | .hbm, ⟨17, _⟩ => ⟨S16x20000x80, .f32⟩
  | .hbm, ⟨18, _⟩ => ⟨S16x20000x80, .f32⟩
  | .hbm, ⟨19, _⟩ => ⟨S_, .f32⟩
  | .hbm, ⟨20, _⟩ => ⟨S16x20000x80, .f32⟩
  | .hbm, ⟨21, _⟩ => ⟨S16x20000x80, .f32⟩
  | .hbm, ⟨22, _⟩ => ⟨S16x1600000, .f32⟩
  | .hbm, ⟨23, _⟩ => ⟨S16x300, .f32⟩
  | .hbm, ⟨24, _⟩ => ⟨S16x300, .i32⟩
  | .hbm, ⟨25, _⟩ => ⟨S_, .i32⟩
  | .hbm, ⟨26, _⟩ => ⟨S_, .i32⟩
  | .hbm, ⟨27, _⟩ => ⟨S16x300, .i32⟩
  | .hbm, ⟨28, _⟩ => ⟨S16x300, .i32⟩
  | .hbm, ⟨29, _⟩ => ⟨S16x300, .i32⟩
  | .hbm, ⟨30, _⟩ => ⟨S_, .i32⟩
  | .hbm, ⟨31, _⟩ => ⟨S16x300, .i32⟩
  | .hbm, ⟨32, _⟩ => ⟨S16x300, .i1⟩
  | .hbm, ⟨33, _⟩ => ⟨S16x300, .i32⟩
  | .hbm, ⟨34, _⟩ => ⟨S16x300, .i32⟩
  | .hbm, ⟨35, _⟩ => ⟨S_, .i32⟩
  | .hbm, ⟨36, _⟩ => ⟨S16x300, .i32⟩
  | .hbm, ⟨37, _⟩ => ⟨S16x300, .i1⟩
  | .hbm, ⟨38, _⟩ => ⟨S16x300, .i1⟩
  | .hbm, ⟨39, _⟩ => ⟨S_, .i32⟩
  | .hbm, ⟨40, _⟩ => ⟨S16x300, .i32⟩
  | .hbm, ⟨41, _⟩ => ⟨S16x300, .i32⟩
  | .hbm, ⟨42, _⟩ => ⟨S16x300, .i32⟩
  | .hbm, ⟨43, _⟩ => ⟨S_, .i32⟩
  | .hbm, ⟨44, _⟩ => ⟨S16x300, .i32⟩
  | .hbm, ⟨45, _⟩ => ⟨S16x300, .i32⟩
  | .hbm, ⟨46, _⟩ => ⟨S16x300, .i32⟩
  | .hbm, ⟨47, _⟩ => ⟨S_, .i32⟩
  | .hbm, ⟨48, _⟩ => ⟨S_, .i32⟩
  | .hbm, ⟨49, _⟩ => ⟨S16x300, .i32⟩
  | .hbm, ⟨50, _⟩ => ⟨S16x300, .i32⟩
  | .hbm, ⟨51, _⟩ => ⟨S16x300, .i32⟩
  | .hbm, ⟨52, _⟩ => ⟨S_, .i32⟩
  | .hbm, ⟨53, _⟩ => ⟨S16x300, .i32⟩
  | .hbm, ⟨54, _⟩ => ⟨S16x300, .i1⟩
  | .hbm, ⟨55, _⟩ => ⟨S16x300, .i32⟩
  | .hbm, ⟨56, _⟩ => ⟨S16x300, .i32⟩
  | .hbm, ⟨57, _⟩ => ⟨S_, .i32⟩
  | .hbm, ⟨58, _⟩ => ⟨S16x300, .i32⟩
  | .hbm, ⟨59, _⟩ => ⟨S16x300, .i1⟩
  | .hbm, ⟨60, _⟩ => ⟨S16x300, .i1⟩
  | .hbm, ⟨61, _⟩ => ⟨S_, .i32⟩
  | .hbm, ⟨62, _⟩ => ⟨S16x300, .i32⟩
  | .hbm, ⟨63, _⟩ => ⟨S16x300, .i32⟩
  | .hbm, ⟨64, _⟩ => ⟨S16x300, .i32⟩
  | .hbm, ⟨65, _⟩ => ⟨S16x300x1, .i32⟩
  | .hbm, ⟨66, _⟩ => ⟨S_, .i32⟩
  | .hbm, ⟨67, _⟩ => ⟨S16x300x1, .i32⟩
  | .hbm, ⟨68, _⟩ => ⟨S16x300x1, .i1⟩
  | .hbm, ⟨69, _⟩ => ⟨S_, .i32⟩
  | .hbm, ⟨70, _⟩ => ⟨S16x300x1, .i32⟩
  | .hbm, ⟨71, _⟩ => ⟨S16x300x1, .i32⟩
  | .hbm, ⟨72, _⟩ => ⟨S16x300x1, .i32⟩
  | .hbm, ⟨73, _⟩ => ⟨S1, .i32⟩
  | .hbm, ⟨74, _⟩ => ⟨S_, .i32⟩
  | .hbm, ⟨75, _⟩ => ⟨S16x300x1, .i32⟩
  | .hbm, ⟨76, _⟩ => ⟨S16x300x1, .i1⟩
  | .hbm, ⟨77, _⟩ => ⟨S1x1x1, .i32⟩
  | .hbm, ⟨78, _⟩ => ⟨S16x300x1, .i32⟩
  | .hbm, ⟨79, _⟩ => ⟨S16x300x1, .i1⟩
  | .hbm, ⟨80, _⟩ => ⟨S16x300x1, .i1⟩
  | .hbm, ⟨81, _⟩ => ⟨S_, .i1⟩
  | .hbm, ⟨82, _⟩ => ⟨S16x300, .i1⟩
  | .hbm, ⟨83, _⟩ => ⟨S16x300x4, .f32⟩
  | .hbm, ⟨84, _⟩ => ⟨S16x300x4, .i1⟩
  | .hbm, ⟨85, _⟩ => ⟨S_, .f32⟩
  | .hbm, ⟨86, _⟩ => ⟨S16x300x4, .f32⟩
  | .hbm, ⟨87, _⟩ => ⟨S16x300x4, .f32⟩
  | .hbm, ⟨88, _⟩ => ⟨S16x300x1x1, .i32⟩
  | .hbm, ⟨89, _⟩ => ⟨S_, .i32⟩
  | .hbm, ⟨90, _⟩ => ⟨S16x300x1x1, .i32⟩
  | .hbm, ⟨91, _⟩ => ⟨S16x300x1x1, .i1⟩
  | .hbm, ⟨92, _⟩ => ⟨S_, .i32⟩
  | .hbm, ⟨93, _⟩ => ⟨S16x300x1x1, .i32⟩
  | .hbm, ⟨94, _⟩ => ⟨S16x300x1x1, .i32⟩
  | .hbm, ⟨95, _⟩ => ⟨S16x300x1x1, .i32⟩
  | .hbm, ⟨96, _⟩ => ⟨S16x300x1, .i32⟩
  | .hbm, ⟨97, _⟩ => ⟨S1, .i32⟩
  | .hbm, ⟨98, _⟩ => ⟨S_, .i32⟩
  | .hbm, ⟨99, _⟩ => ⟨S16x300x1, .i32⟩
  | .hbm, ⟨100, _⟩ => ⟨S16x300x1, .i1⟩
  | .hbm, ⟨101, _⟩ => ⟨S1x1x1, .i32⟩
  | .hbm, ⟨102, _⟩ => ⟨S16x300x1, .i32⟩
  | .hbm, ⟨103, _⟩ => ⟨S16x300x1, .i1⟩
  | .hbm, ⟨104, _⟩ => ⟨S16x300x1, .i1⟩
  | .hbm, ⟨105, _⟩ => ⟨S_, .i1⟩
  | .hbm, ⟨106, _⟩ => ⟨S16x300, .i1⟩
  | .hbm, ⟨107, _⟩ => ⟨S16x300x17x2, .f32⟩
  | .hbm, ⟨108, _⟩ => ⟨S16x300x17x2, .i1⟩
  | .hbm, ⟨109, _⟩ => ⟨S_, .f32⟩
  | .hbm, ⟨110, _⟩ => ⟨S16x300x17x2, .f32⟩
  | .hbm, ⟨111, _⟩ => ⟨S16x300x17x2, .f32⟩
  | _, _ => ⟨S16x20000x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_values : Ref sig .tc := ⟨.hbm, 23, rfl⟩
abbrev main_indices : Ref sig .tc := ⟨.hbm, 24, rfl⟩
abbrev main_c : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_c : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_0 : Ref sig .tc := ⟨.hbm, 39, rfl⟩
abbrev main_call0_v12 : Ref sig .tc := ⟨.hbm, 40, rfl⟩
abbrev main_call0_v13 : Ref sig .tc := ⟨.hbm, 41, rfl⟩
abbrev main_v16 : Ref sig .tc := ⟨.hbm, 42, rfl⟩
abbrev main_c_3 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_c_4 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_c : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_0 : Ref sig .tc := ⟨.hbm, 61, rfl⟩
abbrev main_call1_v12 : Ref sig .tc := ⟨.hbm, 62, rfl⟩
abbrev main_call1_v13 : Ref sig .tc := ⟨.hbm, 63, rfl⟩
abbrev main_v20 : Ref sig .tc := ⟨.hbm, 64, rfl⟩
abbrev main_v21 : Ref sig .tc := ⟨.hbm, 65, rfl⟩
abbrev main_call2_c : Ref sig .tc := ⟨.hbm, 66, rfl⟩
abbrev main_call2_v0 : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_c_1 : Ref sig .tc := ⟨.hbm, 73, rfl⟩
abbrev main_call2_c_2 : Ref sig .tc := ⟨.hbm, 74, rfl⟩
abbrev main_call2_v5 : Ref sig .tc := ⟨.hbm, 75, rfl⟩
abbrev main_call2_v6 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_call2_c_3 : Ref sig .tc := ⟨.hbm, 81, rfl⟩
abbrev main_call2_v11 : Ref sig .tc := ⟨.hbm, 82, rfl⟩
abbrev main_call2_v12 : Ref sig .tc := ⟨.hbm, 83, rfl⟩
abbrev main_call2_v13 : Ref sig .tc := ⟨.hbm, 84, rfl⟩
abbrev main_call2_cst : Ref sig .tc := ⟨.hbm, 85, rfl⟩
abbrev main_call2_v14 : Ref sig .tc := ⟨.hbm, 86, rfl⟩
abbrev main_v22 : Ref sig .tc := ⟨.hbm, 87, rfl⟩
abbrev main_v23 : Ref sig .tc := ⟨.hbm, 88, rfl⟩
abbrev main_call3_c : Ref sig .tc := ⟨.hbm, 89, rfl⟩
abbrev main_call3_v0 : Ref sig .tc := ⟨.hbm, 90, rfl⟩
abbrev main_call3_v1 : Ref sig .tc := ⟨.hbm, 91, rfl⟩
abbrev main_call3_c_0 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_v5 : Ref sig .tc := ⟨.hbm, 96, rfl⟩
abbrev main_call3_c_1 : Ref sig .tc := ⟨.hbm, 97, rfl⟩
abbrev main_call3_c_2 : Ref sig .tc := ⟨.hbm, 98, rfl⟩
abbrev main_call3_v6 : Ref sig .tc := ⟨.hbm, 99, rfl⟩
abbrev main_call3_v7 : Ref sig .tc := ⟨.hbm, 100, rfl⟩
abbrev main_call3_v8 : Ref sig .tc := ⟨.hbm, 101, rfl⟩
abbrev main_call3_v9 : Ref sig .tc := ⟨.hbm, 102, rfl⟩
abbrev main_call3_v10 : Ref sig .tc := ⟨.hbm, 103, rfl⟩
abbrev main_call3_v11 : Ref sig .tc := ⟨.hbm, 104, rfl⟩
abbrev main_call3_c_3 : Ref sig .tc := ⟨.hbm, 105, rfl⟩
abbrev main_call3_v12 : Ref sig .tc := ⟨.hbm, 106, rfl⟩
abbrev main_call3_v13 : Ref sig .tc := ⟨.hbm, 107, rfl⟩
abbrev main_call3_v14 : Ref sig .tc := ⟨.hbm, 108, rfl⟩
abbrev main_call3_cst : Ref sig .tc := ⟨.hbm, 109, rfl⟩
abbrev main_call3_v15 : Ref sig .tc := ⟨.hbm, 110, rfl⟩
abbrev main_v24 : Ref sig .tc := ⟨.hbm, 111, rfl⟩

abbrev nD : Nat := 1
abbrev τ : Topo := Topo.v7x

variable {F : FTy → Type} [FloatOps F]
-- ==== Proof.Setup.lean ====
/-
  The kernel as the launch theorem sees it, and the resources a subcore works with: its scratch buffers, a share of
  every array it reads, its own rows of the arrays it writes, and its transfer semaphores at rest.
-/
module

public import proofs.«01_k».proof.Defs
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev ΛP : Labels := Pipeline.Sig Λ₀ (Fin 2) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The rounds of the launch handshakes, the rounds of the two pipelines, and the copies' counters. -/
abbrev UH : Type := URounds (GSem nD τ sig) ℕ
abbrev UP : Type := URounds (GSem nD τ sig) Unit
abbrev UU : Type := UH × (UP × Counters)

abbrev 𝕄F (F : FTy → Type) : Type := MT nD τ sig (HIx 1) (Elt F) ℕ UU ℕ

abbrev EH (F : FTy → Type) : Emb UH (𝕄F F) := embL

/-- The pipelines' rounds inside the user algebra. -/
def EP (F : FTy → Type) : Emb UP (𝕄F F) :=
  ((Emb.inl : Emb UP (UP × Counters)).trans (Emb.inr : Emb (UP × Counters) UU)).trans
    (uEmb (nD := nD) (τ := τ) (sig := sig) (Ix := HIx 1) (Val := Elt F) (Name := ℕ) (U := UU) (Lvl := ℕ)).toEmb

instance EP_landsIn (F : FTy → Type) : (EP F).LandsIn (upEmb : UEmb _ (𝕄F F)) := by
  unfold EP; infer_instance

end Cert.Proof.Ker

end
-- ==== Proof.Tile.lean ====
/-
  A small program logic for one vector subcore.  The state is the contents of every buffer the subcore works with;
  `T t p σ Q` says that the program `p`, started with the buffers at `σ`, ends with a result and contents in `Q`.
-/
module

public import proofs.«01_k».proof.Proof.Setup

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {d : Dev nD} {c : Fin τ.nSC} {j : Fin τ.nSub}

/-- The contents of a subcore's buffers. -/
abbrev St (F : FTy → Type) (d : Dev nD) (c : Fin τ.nSC) (j : Fin τ.nSub) : Type :=
  (b : Ref sig .scVector) → Buf (Elt F) ((V d c j).loc b)

/-- What a subcore holds: which buffers, which of their elements, at which share, which semaphores, and what it owes. -/
structure Holds (F : FTy → Type) (d : Dev nD) (c : Fin τ.nSC) (j : Fin τ.nSub) where
  bufs : Finset (Ref sig .scVector)
  elems : (b : Ref sig .scVector) → Finset (Idx ((V d c j).loc b))
  share : Ref sig .scVector → PosShare TreeShare
  sems : Finset (SemLoc sig)
  O : CellTallies nD τ sig (HIx 1)
  W : Waits sig (HIx 1)
  hO : ∀ g, O g none = 0

variable (t : Holds F d c j)

/-- The buffers at `σ`, the semaphores at rest, and what is owed. -/
def Own (σ : St F d c j) : sProp (𝕄F F) :=
  iprop(levAts (K (F := F)).L (K (F := F)).lev
    ∗ bigSep t.bufs (fun b => (V d c j).loc b ↦[t.elems b]{t.share b} σ b)
    ∗ bigSep t.sems (fun s => semVal (V d c j, s) 0)
    ∗ ∃ W', ⌜∀ p ∈ W', p ∈ t.W ∨ p.2 = none⌝ ∗ owes (V d c j) t.O W')

abbrev TE (F : FTy → Type) (c : Fin τ.nSC) (j : Fin τ.nSub) := TpuEff nD τ sig (Elt F) Λ₀ (.scVector c j)

/-- From the buffers at `σ`, the program ends at a result and contents in `Q`. -/
def Tr {α : Type} (p : Prog (TE F c j) α) (σ : St F d c j) (Q : α → St F d c j → Prop) : Prop :=
  Own t σ ⊢ wp frame (wpE (defs₀ (F := F)) 𝒱₀ (V d c j) none) Set.univ p
    (fun a => iprop(∃ σ', ⌜Q a σ'⌝ ∗ Own t σ'))

variable {t} {α β : Type}

theorem Tr.ret {a : α} {σ : St F d c j} {Q : α → St F d c j → Prop} (h : Q a σ) : Tr t (.ret a) σ Q := by
  unfold Tr
  rw [wp_ret]
  iintro H
  imodintro
  iexists σ
  isplitr
  · ipureintro; exact h
  · iexact H

theorem Tr.pure {a : α} {σ : St F d c j} {Q : α → St F d c j → Prop} (h : Q a σ) : Tr t (Pure.pure a) σ Q := Tr.ret h

theorem Tr.conv {p p' : Prog (TE F c j) α} (e : p = p') {σ : St F d c j} {Q : α → St F d c j → Prop} (h : Tr t p' σ Q) : Tr t p σ Q :=
  e ▸ h

theorem Tr.mono {p : Prog (TE F c j) α} {σ : St F d c j} {Q Q' : α → St F d c j → Prop} (h : Tr t p σ Q)
    (hQ : ∀ a σ', Q a σ' → Q' a σ') : Tr t p σ Q' := by
  unfold Tr at h ⊢
  refine h.trans (wp_mono frame _ _ fun a => ?_)
  iintro ⟨%σ', %hq, H⟩
  iexists σ'
  isplitr
  · ipureintro; exact hQ _ _ hq
  · iexact H

theorem Tr.bind {p : Prog (TE F c j) α} {k : α → Prog (TE F c j) β} {σ : St F d c j} {R : α → St F d c j → Prop}
    {Q : β → St F d c j → Prop} (h : Tr t p σ R) (hk : ∀ a σ', R a σ' → Tr t (k a) σ' Q) : Tr t (p >>= k) σ Q := by
  unfold Tr at h hk ⊢
  rw [wp_bind]
  refine h.trans (wp_mono frame _ _ fun a => ?_)
  iintro ⟨%σ', %hq, H⟩
  iapply (hk a σ' hq) $$ H

theorem Tr.assume {P : Prop} {dc : Decidable P} {k : PLift P → Prog (TE F c j) α} {σ : St F d c j} {Q : α → St F d c j → Prop}
    (h : P) (hk : ∀ h : P, Tr t (k ⟨h⟩) σ Q) : Tr t (.op (.assume P dc) k) σ Q := by
  unfold Tr at hk ⊢
  exact (hk h).trans (wp_assume 𝒱₀ (V d c j) none Set.univ h)

/-- A held buffer taken out of the others. -/
theorem own_take {σ : St F d c j} {b : Ref sig .scVector} (hb : b ∈ t.bufs) :
    (bigSep t.bufs (fun b => ((V d c j).loc b ↦[t.elems b]{t.share b} σ b : sProp (𝕄F F))))
      = iprop(((V d c j).loc b ↦[t.elems b]{t.share b} σ b)
          ∗ bigSep (t.bufs.erase b) (fun b => (V d c j).loc b ↦[t.elems b]{t.share b} σ b)) :=
  SparseCore.bigSep_erase' hb

theorem own_put {σ : St F d c j} {b : Ref sig .scVector} (hb : b ∈ t.bufs) (v : Buf (Elt F) ((V d c j).loc b)) :
    (bigSep t.bufs (fun b' => ((V d c j).loc b' ↦[t.elems b']{t.share b'} Function.update σ b v b' : sProp (𝕄F F))))
      = iprop(((V d c j).loc b ↦[t.elems b]{t.share b} v)
          ∗ bigSep (t.bufs.erase b) (fun b => (V d c j).loc b ↦[t.elems b]{t.share b} σ b)) := by
  rw [own_take (t := t) (σ := Function.update σ b v) hb, Function.update_self]
  congr 1
  refine bigSep_congr fun b' hb' => ?_
  rw [Function.update_of_ne (Finset.ne_of_mem_erase hb')]

theorem Tr.load {cs : CoreSpace} {s : Shape} {e : EltTy} {m : Memref sig .scVector cs s e} {r : LoadRect s} {hl : m.view.LoadsAt r}
    {k : (r.shape.Idx → Elt F e) → Prog (TE F c j) α} {σ : St F d c j} {Q : α → St F d c j → Prop}
    (hb : m.view.ref ∈ t.bufs) (hS : m.view.setOn r.set ⊆ t.elems m.view.ref)
    (hk : Tr t (k (m.view.readAt (Elt F) r (σ m.view.ref))) σ Q) : Tr t (.op (.load m r hl) k) σ Q := by
  unfold Tr Own at *
  rw [own_take hb] at *
  iintro ⟨Hl, ⟨Hb, Hr⟩, Hs, HO⟩
  iapply (wp_load (defs := defs₀ (F := F)) 𝒱₀ (V d c j) none Set.univ (m := m) (r := r) (hl := hl) (S := t.elems m.view.ref)
    (q := t.share m.view.ref) (f := σ m.view.ref) hS) $$ [Hb]
  · iexact Hb
  iintro Hb
  iapply hk
  isplitl [Hl]; · iexact Hl
  isplitl [Hb Hr]
  · isplitl [Hb] <;> iassumption
  isplitl [Hs] <;> iassumption

theorem Tr.store {cs : CoreSpace} {s : Shape} {e : EltTy} {m : Memref sig .scVector cs s e} {r : Rect s} {w : r.shape.Idx → Elt F e}
    {Mk : Finset r.shape.Idx} {hx : (m.access r).Stores Mk} {hm : Mk = Finset.univ ∨ ∀ a, r.stride a = 1}
    {k : PUnit → Prog (TE F c j) α} {σ : St F d c j} {Q : α → St F d c j → Prop}
    (hb : m.view.ref ∈ t.bufs) (hq : t.share m.view.ref = fullShare) (hS : (m.access r).setOn Mk ⊆ t.elems m.view.ref)
    (hk : Tr t (k ⟨⟩) (Function.update σ m.view.ref ((m.access r).write (Elt F) (σ m.view.ref) w Mk)) Q) :
    Tr t (.op (.store m r w Mk hx hm) k) σ Q := by
  unfold Tr Own at *
  rw [own_put hb] at hk
  rw [own_take hb]
  rw [hq] at *
  iintro ⟨Hl, ⟨Hb, Hr⟩, Hs, HO⟩
  iapply (wp_store (defs := defs₀ (F := F)) 𝒱₀ (V d c j) none Set.univ (m := m) (r := r) (w := w) (Mk := Mk) (hx := hx) (hm := hm)
    (S := t.elems m.view.ref) (f := σ m.view.ref) hS) $$ [Hb]
  · iexact Hb
  iintro Hb
  iapply hk
  isplitl [Hl]; · iexact Hl
  isplitl [Hb Hr]
  · isplitl [Hb] <;> iassumption
  isplitl [Hs] <;> iassumption

/-- A counted loop, by an invariant. -/
theorem Tr.for {w : ℕ} {ρ : Type} (lb ub st : BitVec w) (hok : Scf.OK lb ub st) (init : ρ)
    (body : Fin (Scf.trips lb ub st) → ρ → Prog (TE F c j) ρ) (I : ℕ → ρ → St F d c j → Prop) {σ : St F d c j}
    (h0 : I 0 init σ) (hbody : ∀ (k : Fin (Scf.trips lb ub st)) acc σ', I k acc σ' → Tr t (body k acc) σ' (I (k.val + 1))) :
    Tr t (Scf.for lb ub st hok init body) σ (I (Scf.trips lb ub st)) := by
  unfold Tr at *
  have e0 : Own t σ ⊢ iprop((∃ σ', ⌜I 0 init σ'⌝ ∗ Own t σ')
      ∗ (∀ acc, (∃ σ', ⌜I (Scf.trips lb ub st) acc σ'⌝ ∗ Own t σ') -∗ ∃ σ', ⌜I (Scf.trips lb ub st) acc σ'⌝ ∗ Own t σ')) := by
    iintro H
    isplitl [H]
    · iexists σ
      isplitr
      · ipureintro; exact h0
      · iexact H
    · iintro %acc H
      iexact H
  refine e0.trans (Scf.wp_for _ _ _ lb ub st hok init body (fun n acc => iprop(∃ σ', ⌜I n acc σ'⌝ ∗ Own t σ')) fun k acc => ?_)
  iintro ⟨%σ', %hq, H⟩
  iapply (hbody k acc σ' hq) $$ H

/-- The copies' counters inside the user algebra. -/
abbrev EC (F : FTy → Type) : UEmb Counters (𝕄F F) := countersEmb

/-- A copy between two of the subcore's buffers, and its wait. -/
theorem Tr.dma {sp sp' sp₁ sp₂ : Space} {s₀ s s₁ s₂ : Shape} {e₀ e e₁ e₂ : EltTy} {src : Memref sig .scVector sp s₀ e₀}
    {via : ReadAs (Elt F) s₀ e₀ s e} {dst : Memref sig .scVector sp' s e} {sm : DmaSem sig}
    {hsrc : src.view.WordExact} {hdst : dst.view.WordExact} {hsem : DmaTarget.Typed (nD := nD) (p := (Proc.scVector c j : Proc τ)) sp (.dma sm) (.here (p := (Proc.scVector c j : Proc τ)) dst)}
    {srcw : Memref sig .scVector sp₁ s₁ e₁} {dstw : Memref sig .scVector sp₂ s₂ e₂} {hsrcw : srcw.view.WordExact} {hdstw : dstw.view.WordExact}
    {k : PUnit → Prog (TE F c j) α} {σ : St F d c j} {Q : α → St F d c j → Prop}
    (hne : src.view.ref ≠ dst.view.ref) (hbs : src.view.ref ∈ t.bufs) (hbd : dst.view.ref ∈ t.bufs)
    (hSs : src.view.set ⊆ t.elems src.view.ref) (hSd : dst.view.set ⊆ t.elems dst.view.ref)
    (hq : t.share dst.view.ref = fullShare) (hsm : SemLoc.dma sm ∈ t.sems)
    (hN : dstw.view.dmaCredit = dst.view.dmaCredit) (hN0 : 0 < dst.view.dmaCredit)
    (hk : Tr t (k ⟨⟩) (Function.update σ dst.view.ref
      (dst.view.write (Elt F) (σ dst.view.ref) (via.apply (src.view.read (Elt F) (σ src.view.ref))) Finset.univ)) Q) :
    Tr t (.op (.enqueueDmaAs src (.here dst) via (.dma sm) hsrc hdst hsem) fun _ => .op (.waitDma2 sm srcw dstw hsrcw hdstw) k) σ Q := by
  unfold Tr Own at *
  rw [own_put hbd, SparseCore.bigSep_erase' (Finset.mem_erase.mpr ⟨hne, hbs⟩), SparseCore.bigSep_erase' hsm] at hk
  rw [own_take hbd, SparseCore.bigSep_erase' (Finset.mem_erase.mpr ⟨hne, hbs⟩), SparseCore.bigSep_erase' hsm]
  rw [hq] at *
  iintro ⟨#Hl, ⟨Hd, Hs, Hr⟩, ⟨Hsem, Hsr⟩, %W', %hW, HO⟩
  ihave Hmw := (show levAts (K (F := F)).L (K (F := F)).lev ⊢ Transfers.MayWaits (V d c j) (default : HIx 1) t.O from
    (K (F := F)).mayWaits_none (thr := V d c j) t.hO) $$ Hl
  ihave Hss := (pointsTo_split_subset (q := t.share src.view.ref) (f := σ src.view.ref) hSs).1 $$ Hs
  icases Hss with ⟨Hs, Hs'⟩
  iapply (Transfers.wp_dmaLocal (EC F) 𝒱₀ (V d c j) none (default : HIx 1) dst.view.dmaCredit (View.amount_dma _ _) hN0 hSd) $$ [Hs Hd Hsem]
  · isplitl [Hs]; · iexact Hs
    isplitl [Hd]; · iexact Hd
    iexact Hsem
  iintro Hfl
  iapply (Transfers.wp_waitLocalO (EC F) 𝒱₀ (V d c j) none (default : HIx 1) hN) $$ [Hfl HO]
  · isplitl [Hfl]; · iexact Hfl
    isplitl [HO]; · iexact HO
    iapply (Transfers.MayWaits.elim (SemLoc.dma sm)) $$ Hmw
  iintro ⟨⟨Hd, Hs⟩, Hsem, HO⟩
  iapply hk
  isplitl []; · iexact Hl
  isplitl [Hd Hs Hs' Hr]
  · isplitl [Hd]; · iexact Hd
    isplitl [Hs Hs']
    · iapply (pointsTo_split_subset (q := t.share src.view.ref) (f := σ src.view.ref) hSs).2
      isplitl [Hs] <;> iassumption
    iexact Hr
  isplitl [Hsem Hsr]
  · isplitl [Hsem] <;> iassumption
  iexists _; isplitr
  swap; · iexact HO
  ipureintro; intro p hp
  rcases Finset.mem_insert.mp hp with hp | hp; · exact .inr (hp ▸ rfl)
  exact hW p hp

/-- An indirect gather of rows, the row numbers in a list among the subcore's buffers, and its wait. -/
theorem Tr.gather {sp sp₁ : Space} {s₀ s si s₁ : Shape} {e e₁ : EltTy} {a : ℕ} {src : Memref sig .scVector sp s₀ e}
    {dst : Memref sig .scVector .vmem s e} {hg : s₀.Gathers a s}
    {offs : Memref sig .scVector .vmem si .i32} {hn : si.numel = s.size hg.axis'} {sem : DmaSem sig}
    {hp : (Proc.scVector c j : Proc τ).kind = .scVector} {hsrc : src.view.WordExact} {he : e.bits = 32} {hsp : sp = .hbm ∨ sp = .shared}
    {hr : s₀.StreamRows a}
    {srcw : Memref sig .scVector sp₁ s₁ e₁} {hsrcw : srcw.view.WordExact} {hdstw : dst.view.WordExact}
    {k : PUnit → Prog (TE F c j) α} {σ : St F d c j} {Q : α → St F d c j → Prop}
    (hne : src.view.ref ≠ dst.view.ref) (hno : offs.view.ref ≠ dst.view.ref) (hso : offs.view.ref ≠ src.view.ref)
    (hbs : src.view.ref ∈ t.bufs) (hbd : dst.view.ref ∈ t.bufs) (hbo : offs.view.ref ∈ t.bufs)
    (hSs : src.view.set ⊆ t.elems src.view.ref) (hSd : dst.view.set = t.elems dst.view.ref) (hSo : offs.view.set ⊆ t.elems offs.view.ref)
    (hq : t.share dst.view.ref = fullShare) (hsm : SemLoc.dma sem ∈ t.sems)
    (hN : ∑ j, (dst.slice (s.rowRect hg.axis' j) (s.stride_rowRect hg.axis' j)).view.dmaCredit = dst.view.dmaCredit)
    (hs : 0 < s.numel) (hin : ∀ x, (offs.view.read (Elt F) (σ offs.view.ref) x).toNat < s₀.size hg.axis)
    (hk : Tr t (k ⟨⟩) (Function.update σ dst.view.ref
      (dst.view.write (Elt F) (σ dst.view.ref) (SparseCore.gatherPayload hg (src.view.read (Elt F) (σ src.view.ref))
        (SparseCore.rows (offs.view.read (Elt F) (σ offs.view.ref)) hn hin)) Finset.univ)) Q) :
    Tr t (SparseCore.enqueueIndirectGather hp src dst hg offs hn sem hsrc he hsp hr >>= fun _ => .op (.waitDma2 sem srcw dst hsrcw hdstw) k) σ Q := by
  unfold Tr Own at *
  have m1 := Finset.mem_erase.mpr ⟨hne, hbs⟩
  have m2 := Finset.mem_erase.mpr ⟨hso, Finset.mem_erase.mpr ⟨hno, hbo⟩⟩
  rw [own_put hbd, SparseCore.bigSep_erase' m1, SparseCore.bigSep_erase' m2, SparseCore.bigSep_erase' hsm] at hk
  rw [own_take hbd, SparseCore.bigSep_erase' m1, SparseCore.bigSep_erase' m2, SparseCore.bigSep_erase' hsm]
  rw [hq, ← hSd] at *
  iintro ⟨#Hl, ⟨Hd, Hs, Ho, Hr⟩, ⟨Hsem, Hsr⟩, %W', %hW, HO⟩
  ihave Hmw := (show levAts (K (F := F)).L (K (F := F)).lev ⊢ Transfers.MayWaits (V d c j) (default : HIx 1) t.O from
    (K (F := F)).mayWaits_none (thr := V d c j) t.hO) $$ Hl
  ihave Hss := (pointsTo_split_subset (q := t.share src.view.ref) (f := σ src.view.ref) hSs).1 $$ Hs
  icases Hss with ⟨Hs, Hs'⟩
  ihave Hoo := (pointsTo_split_subset (q := t.share offs.view.ref) (f := σ offs.view.ref) hSo).1 $$ Ho
  icases Hoo with ⟨Ho, Ho'⟩
  iapply (SparseCore.wp_indirectGatherLocal (EC F) 𝒱₀ (V d c j) none (hg := hg) (default : HIx 1) dst.view.dmaCredit hN hs hin) $$ [Hs Hd Ho Hsem]
  · isplitl [Hs]; · iexact Hs
    isplitl [Hd]; · iexact Hd
    isplitl [Ho]; · iexact Ho
    iexact Hsem
  iintro Hfl
  iapply (Transfers.wp_waitLocalO (EC F) 𝒱₀ (V d c j) none (default : HIx 1) rfl) $$ [Hfl HO]
  · isplitl [Hfl]; · iexact Hfl
    isplitl [HO]; · iexact HO
    iapply (Transfers.MayWaits.elim (SemLoc.dma sem)) $$ Hmw
  iintro ⟨⟨Hd, Hs, Ho⟩, Hsem, HO⟩
  iapply hk
  isplitl []; · iexact Hl
  isplitl [Hd Hs Hs' Ho Ho' Hr]
  · isplitl [Hd]; · iexact Hd
    isplitl [Hs Hs']
    · iapply (pointsTo_split_subset (q := t.share src.view.ref) (f := σ src.view.ref) hSs).2
      isplitl [Hs] <;> iassumption
    isplitl [Ho Ho']
    · iapply (pointsTo_split_subset (q := t.share offs.view.ref) (f := σ offs.view.ref) hSo).2
      isplitl [Ho] <;> iassumption
    iexact Hr
  isplitl [Hsem Hsr]
  · isplitl [Hsem] <;> iassumption
  iexists _; isplitr
  swap; · iexact HO
  ipureintro; intro p hp
  rcases Finset.mem_insert.mp hp with hp | hp; · exact .inr (hp ▸ rfl)
  exact hW p hp

end Cert.Proof.Ker

end
-- ==== Proof.Read.lean ====
/-
  Reading the subcore's buffers by number, and what loads, stores and scatters do to such readings.
-/
module

public import proofs.«01_k».proof.Proof.Tile

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {d : Dev nD} {c : Fin τ.nSC} {j : Fin τ.nSub}

/-- The index of element `k` of a row of `n`. -/
def ix (n : ℕ) [NeZero n] (k : ℕ) : (⟨1, ![n]⟩ : Shape).Idx :=
  fun a => ⟨k % n, lt_of_lt_of_eq (Nat.mod_lt _ (NeZero.pos n)) (by rw [Subsingleton.elim a 0]; rfl)⟩

theorem ix_val {n : ℕ} [NeZero n] {k : ℕ} (h : k < n) (a : Fin 1) : (ix n k a).val = k := Nat.mod_eq_of_lt h

theorem eq_ix {n : ℕ} [NeZero n] (x : (⟨1, ![n]⟩ : Shape).Idx) : x = ix n (x 0).val := by
  funext a
  have : a = 0 := Subsingleton.elim _ _
  subst this
  exact Fin.ext (Nat.mod_eq_of_lt (x 0).isLt).symm

theorem ix_lt {n : ℕ} (x : (⟨1, ![n]⟩ : Shape).Idx) : (x 0).val < n := (x 0).isLt

/-- The index of element `(p, q)` of a rectangle. -/
def ix2 (n m : ℕ) [NeZero n] [NeZero m] (p q : ℕ) : (⟨2, ![n, m]⟩ : Shape).Idx :=
  fun a => ⟨if a = 0 then p % n else q % m, by
    refine a.cases ?_ fun b => ?_
    · exact Nat.mod_lt _ (NeZero.pos n)
    · rw [Subsingleton.elim b 0]
      exact Nat.mod_lt _ (NeZero.pos m)⟩

theorem ix2_val0 {n m : ℕ} [NeZero n] [NeZero m] {p q : ℕ} (h : p < n) : (ix2 n m p q (0 : Fin 2)).val = p := Nat.mod_eq_of_lt h
theorem ix2_val1 {n m : ℕ} [NeZero n] [NeZero m] {p q : ℕ} (h : q < m) : (ix2 n m p q (1 : Fin 2)).val = q := Nat.mod_eq_of_lt h

theorem eq_ix2 {n m : ℕ} [NeZero n] [NeZero m] (x : (⟨2, ![n, m]⟩ : Shape).Idx) : x = ix2 n m (x (0 : Fin 2)).val (x (1 : Fin 2)).val := by
  funext a
  refine a.cases ?_ fun b => ?_
  · exact Fin.ext (Nat.mod_eq_of_lt (x (0 : Fin 2)).isLt).symm
  · rw [Subsingleton.elim b 0]
    exact Fin.ext (Nat.mod_eq_of_lt (x (1 : Fin 2)).isLt).symm

/-- Element `k` of a row-shaped buffer. -/
def rd {cs : CoreSpace} {n : ℕ} [NeZero n] {e : EltTy} (M : Memref sig .scVector cs ⟨1, ![n]⟩ e) (σ : St F d c j) (k : ℕ) : Elt F e :=
  M.view.read (Elt F) (σ M.view.ref) (ix n k)

/-- Element `(p, q)` of a rectangular buffer. -/
def rd2 {cs : CoreSpace} {n m : ℕ} [NeZero n] [NeZero m] {e : EltTy} (M : Memref sig .scVector cs ⟨2, ![n, m]⟩ e) (σ : St F d c j)
    (p q : ℕ) : Elt F e :=
  M.view.read (Elt F) (σ M.view.ref) (ix2 n m p q)

theorem read_slice_write {κ : Kind} {sp : Space} {s : Shape} {e : EltTy} (v : View sig κ sp s e) (r : Rect s)
    (f : v.ty.Contents (Elt F)) (w : r.shape.Idx → Elt F e) (y : r.shape.Idx) :
    v.read (Elt F) ((v.slice r).write (Elt F) f w Finset.univ) (r.emb y) = w y := by
  have h := View.read_write_univ (v := v.slice r) (Val := Elt F) f w
  exact congrFun h y

theorem read_slice_write_ne {κ : Kind} {sp : Space} {s : Shape} {e : EltTy} (v : View sig κ sp s e) (r : Rect s)
    (f : v.ty.Contents (Elt F)) (w : r.shape.Idx → Elt F e) (x : s.Idx) (hx : ∀ y, r.emb y ≠ x) :
    v.read (Elt F) ((v.slice r).write (Elt F) f w Finset.univ) x = v.read (Elt F) f x := by
  unfold View.read
  refine congrArg _ (View.write_of_not_mem (v := v.slice r) (Val := Elt F) f w Finset.univ ?_)
  intro h
  obtain ⟨y, _, hy⟩ := Finset.mem_map.mp h
  exact hx y (v.emb.injective hy)

theorem rd_store {cs : CoreSpace} {n : ℕ} [NeZero n] {e : EltTy} (M : Memref sig .scVector cs ⟨1, ![n]⟩ e) (σ : St F d c j)
    (o L : ℕ) [NeZero L] (inb : ∀ a, (![o] : Fin 1 → ℕ) a + (![L] : Fin 1 → ℕ) a ≤ (![n] : Fin 1 → ℕ) a)
    (w : (⟨1, ![L]⟩ : Shape).Idx → Elt F e) (k : ℕ) (hk : k < n) :
    rd M (Function.update σ M.view.ref ((M.access (Rect.unit (s := ⟨1, ![n]⟩) ![o] ![L] inb)).write (Elt F) (σ M.view.ref) w Finset.univ)) k
      = if o ≤ k ∧ k < o + L then w (ix L (k - o)) else rd M σ k := by
  unfold rd
  rw [Function.update_self]
  split
  · next h =>
    have e : ix n k = (Rect.unit (s := ⟨1, ![n]⟩) ![o] ![L] inb).emb (ix L (k - o)) := by
      funext a
      have : a = 0 := Subsingleton.elim _ _
      subst this
      refine Fin.ext ?_
      rw [ix_val hk]
      show k = o + 1 * ((ix L (k - o)) 0).val
      rw [ix_val (by omega)]
      omega
    rw [e]
    exact read_slice_write M.view (Rect.unit (s := ⟨1, ![n]⟩) ![o] ![L] inb) _ w _
  · next h =>
    refine read_slice_write_ne M.view (Rect.unit (s := ⟨1, ![n]⟩) ![o] ![L] inb) _ w _ fun y hy => h ?_
    have h1 : ((Rect.unit (s := ⟨1, ![n]⟩) ![o] ![L] inb).emb y 0).val = (ix n k 0).val := by rw [hy]
    rw [ix_val hk] at h1
    have h2 : o + 1 * (y 0).val = k := h1
    have h3 : (y 0).val < L := (y 0).isLt
    omega

theorem rd_load {cs : CoreSpace} {n : ℕ} [NeZero n] {e : EltTy} (M : Memref sig .scVector cs ⟨1, ![n]⟩ e) (σ : St F d c j)
    (o L : ℕ) [NeZero L] (inb : ∀ a, (![o] : Fin 1 → ℕ) a + (![L] : Fin 1 → ℕ) a ≤ (![n] : Fin 1 → ℕ) a) (k : ℕ) (hk : k < L) :
    M.view.readAt (Elt F) (Rect.unit (s := ⟨1, ![n]⟩) ![o] ![L] inb).toLoadRect (σ M.view.ref) (ix L k) = rd M σ (o + k) := by
  unfold rd
  show M.view.read (Elt F) (σ M.view.ref) ((Rect.unit (s := ⟨1, ![n]⟩) ![o] ![L] inb).emb (ix L k)) = _
  congr 1
  funext a
  have : a = 0 := Subsingleton.elim _ _
  subst this
  have hb : o + L ≤ n := inb 0
  refine Fin.ext ?_
  rw [ix_val (by omega)]
  show o + 1 * ((ix L k) 0).val = o + k
  rw [ix_val hk]
  omega

theorem rd2_load {cs : CoreSpace} {n m : ℕ} [NeZero n] [NeZero m] {e : EltTy} (M : Memref sig .scVector cs ⟨2, ![n, m]⟩ e) (σ : St F d c j)
    (p q : ℕ) (inb : ∀ a, (![p, q] : Fin 2 → ℕ) a + (![1, 16] : Fin 2 → ℕ) a ≤ (![n, m] : Fin 2 → ℕ) a) (k : ℕ) (hk : k < 16) :
    M.view.readAt (Elt F) (Rect.unit (s := ⟨2, ![n, m]⟩) ![p, q] ![1, 16] inb).toLoadRect (σ M.view.ref) (ix2 1 16 0 k) = rd2 M σ p (q + k) := by
  unfold rd2
  show M.view.read (Elt F) (σ M.view.ref) ((Rect.unit (s := ⟨2, ![n, m]⟩) ![p, q] ![1, 16] inb).emb (ix2 1 16 0 k)) = _
  congr 1
  have h0 : p + 1 ≤ n := inb 0
  have h1 : q + 16 ≤ m := inb 1
  rw [eq_ix2 ((Rect.unit (s := ⟨2, ![n, m]⟩) ![p, q] ![1, 16] inb).emb (ix2 1 16 0 k))]
  have e0 : ((Rect.unit (s := ⟨2, ![n, m]⟩) ![p, q] ![1, 16] inb).emb (ix2 1 16 0 k) (0 : Fin 2)).val = p := by
    show p + 1 * (ix2 1 16 0 k (0 : Fin 2)).val = p
    rw [ix2_val0 (by omega)]
    omega
  have e1 : ((Rect.unit (s := ⟨2, ![n, m]⟩) ![p, q] ![1, 16] inb).emb (ix2 1 16 0 k) (1 : Fin 2)).val = q + k := by
    show q + 1 * (ix2 1 16 0 k (1 : Fin 2)).val = q + k
    rw [ix2_val1 hk]
    omega
  rw [e0, e1]

theorem rd_update_ne {cs : CoreSpace} {n : ℕ} [NeZero n] {e : EltTy} (M : Memref sig .scVector cs ⟨1, ![n]⟩ e) (σ : St F d c j)
    {b : Ref sig .scVector} (h : M.view.ref ≠ b) (v) (k : ℕ) : rd M (Function.update σ b v) k = rd M σ k := by
  unfold rd
  rw [Function.update_of_ne h]

theorem rd2_update_ne {cs : CoreSpace} {n m : ℕ} [NeZero n] [NeZero m] {e : EltTy} (M : Memref sig .scVector cs ⟨2, ![n, m]⟩ e)
    (σ : St F d c j) {b : Ref sig .scVector} (h : M.view.ref ≠ b) (v) (p q : ℕ) : rd2 M (Function.update σ b v) p q = rd2 M σ p q := by
  unfold rd2
  rw [Function.update_of_ne h]

/-- Outside the buffers of a list nothing has changed. -/
def Only (bs : List (Ref sig .scVector)) (σ σ' : St F d c j) : Prop := ∀ b, b ∉ bs → σ' b = σ b

theorem Only.refl (bs : List (Ref sig .scVector)) (σ : St F d c j) : Only bs σ σ := fun _ _ => rfl

theorem Only.trans {bs bs' : List (Ref sig .scVector)} {σ σ' σ'' : St F d c j} (h : Only bs σ σ') (h' : Only bs' σ' σ'') :
    Only (bs ++ bs') σ σ'' := fun b hb => by
  rw [List.mem_append, not_or] at hb
  rw [h' b hb.2, h b hb.1]

theorem Only.trans' {bs : List (Ref sig .scVector)} {σ σ' σ'' : St F d c j} (h : Only bs σ σ') (h' : Only bs σ' σ'') :
    Only bs σ σ'' := fun b hb => by rw [h' b hb, h b hb]

theorem Only.mono {bs bs' : List (Ref sig .scVector)} {σ σ' : St F d c j} (h : Only bs σ σ') (hs : bs ⊆ bs') : Only bs' σ σ' :=
  fun b hb => h b fun h' => hb (hs h')

theorem Only.update {bs : List (Ref sig .scVector)} {σ σ' : St F d c j} (h : Only bs σ σ') {b : Ref sig .scVector} (hb : b ∈ bs) (v) :
    Only bs σ (Function.update σ' b v) := fun b' hb' => by
  rw [Function.update_of_ne (by rintro rfl; exact hb' hb), h b' hb']

theorem Only.rd {bs : List (Ref sig .scVector)} {σ σ' : St F d c j} (h : Only bs σ σ') {cs : CoreSpace} {n : ℕ} [NeZero n] {e : EltTy}
    (M : Memref sig .scVector cs ⟨1, ![n]⟩ e) (hM : M.view.ref ∉ bs) (k : ℕ) : rd M σ' k = rd M σ k := by
  unfold Ker.rd
  rw [h _ hM]

theorem Only.rd2 {bs : List (Ref sig .scVector)} {σ σ' : St F d c j} (h : Only bs σ σ') {cs : CoreSpace} {n m : ℕ} [NeZero n] [NeZero m]
    {e : EltTy} (M : Memref sig .scVector cs ⟨2, ![n, m]⟩ e) (hM : M.view.ref ∉ bs) (p q : ℕ) : rd2 M σ' p q = rd2 M σ p q := by
  unfold Ker.rd2
  rw [h _ hM]

/-! ### Scatters and gathers of sixteen lanes -/

/-- Lane `l`. -/
abbrev ln (l : ℕ) : S16.Idx := ix 16 l

/-- One lane of a scatter. -/
def scatStep {s : Shape} {e : EltTy} {d : Fin 1 → ℕ} (idxs : Fin s.rank → IVec ⟨1, d⟩ 32) (h : ∀ a x, (idxs a x).toNat < s.size a)
    (v : Vec F ⟨1, d⟩ e) (g : Vec F s e) (k : Fin (d 0)) : Vec F s e :=
  fun jj => if (∀ a, (jj a).val = (idxAt idxs h (Shape.ofLane k) a).val) then v (Shape.ofLane k) else g jj

theorem storeIdx_eq {s : Shape} {e : EltTy} {d : Fin 1 → ℕ} (f : Vec F s e) (idxs : Fin s.rank → IVec ⟨1, d⟩ 32)
    (h : ∀ a x, (idxs a x).toNat < s.size a) (v : Vec F ⟨1, d⟩ e) :
    storeIdx f idxs v (fun _ => 1#1) false h = (List.finRange (d 0)).foldl (scatStep idxs h v) f := by
  unfold storeIdx
  congr 1
  funext g k
  simp
  rfl

theorem scat_fold {s : Shape} {e : EltTy} {d : Fin 1 → ℕ} (idxs : Fin s.rank → IVec ⟨1, d⟩ 32) (h : ∀ a x, (idxs a x).toNat < s.size a)
    (v : Vec F ⟨1, d⟩ e) (i : s.Idx) (l : List (Fin (d 0))) (f : Vec F s e) :
    ((∀ k ∈ l, idxAt idxs h (Shape.ofLane k) ≠ i) → (l.foldl (scatStep idxs h v) f) i = f i)
    ∧ (∀ k ∈ l, idxAt idxs h (Shape.ofLane k) = i → (∀ k' ∈ l, idxAt idxs h (Shape.ofLane k') = i → k' = k) →
      (l.foldl (scatStep idxs h v) f) i = v (Shape.ofLane k)) := by
  induction l using List.reverseRecOn with
  | nil => simp
  | append_singleton l k₀ ih =>
    rw [List.foldl_append]
    have key : (∀ a, (i a).val = (idxAt idxs h (Shape.ofLane k₀) a).val) ↔ idxAt idxs h (Shape.ofLane k₀) = i :=
      ⟨fun H => funext fun a => Fin.ext (H a).symm, fun H a => by rw [H]⟩
    have st : ∀ g : Vec F s e, ([k₀].foldl (scatStep idxs h v) g) i
        = if (∀ a, (i a).val = (idxAt idxs h (Shape.ofLane k₀) a).val) then v (Shape.ofLane k₀) else g i := fun g => rfl
    rw [st]
    constructor
    · intro H
      rw [if_neg (fun H' => H k₀ (by simp) (key.mp H'))]
      exact ih.1 fun k hk => H k (by simp [hk])
    · intro k hk hki hu
      by_cases h0 : idxAt idxs h (Shape.ofLane k₀) = i
      · rw [if_pos (key.mpr h0), hu k₀ (by simp) h0]
      · rw [if_neg (fun H' => h0 (key.mp H'))]
        rcases List.mem_append.mp hk with hk | hk
        · exact ih.2 k hk hki fun k' hk' => hu k' (by simp [hk'])
        · rw [List.mem_singleton] at hk
          exact absurd (hk ▸ hki) h0

theorem ofLane_eq (k : Fin ((![16] : Fin 1 → ℕ) 0)) : Shape.ofLane (d := ![16]) k = ln k.val := by
  funext a
  have : a = 0 := Subsingleton.elim _ _
  subst this
  exact Fin.ext (Nat.mod_eq_of_lt k.isLt).symm

/-- A scatter whose lanes stay in their own classes modulo sixteen. -/
theorem storeIdx_class {n : ℕ} [NeZero n] {e : EltTy} (f : Vec F ⟨1, ![n]⟩ e) (p : IVec S16 32)
    (h : ∀ a x, ((![p] : Fin 1 → IVec S16 32) a x).toNat < (⟨1, ![n]⟩ : Shape).size a) (v : Vec F S16 e)
    (hp : ∀ l < 16, (p (ln l)).toNat % 16 = l) (k : ℕ) (hk : k < n) :
    storeIdx (d := ![16]) f ![p] v (fun _ => 1#1) false h (ix n k)
      = if (p (ln (k % 16))).toNat = k then v (ln (k % 16)) else f (ix n k) := by
  rw [storeIdx_eq]
  have hi : ∀ (l : Fin ((![16] : Fin 1 → ℕ) 0)), idxAt ![p] h (Shape.ofLane (d := ![16]) l) = ix n k ↔ (p (ln l.val)).toNat = k := by
    intro l
    rw [ofLane_eq]
    constructor
    · intro H
      have := congrArg (fun z => (z 0).val) H
      simp only [ix_val hk] at this
      exact this
    · intro H
      funext a
      have : a = 0 := Subsingleton.elim _ _
      subst this
      refine Fin.ext ?_
      rw [ix_val hk]
      exact H
  have hl : ∀ l : Fin ((![16] : Fin 1 → ℕ) 0), (p (ln l.val)).toNat = k → l.val = k % 16 := fun l hl => by
    have := hp l.val l.isLt
    rw [hl] at this
    exact this.symm
  split
  · next hc =>
    have := (scat_fold (F := F) (d := ![16]) (![p]) h v (ix n k) (List.finRange _) f).2 ⟨k % 16, Nat.mod_lt _ (by omega)⟩
      (List.mem_finRange _) ((hi _).mpr hc) (fun k' _ hk' => Fin.ext (hl k' ((hi k').mp hk')))
    rw [this, ofLane_eq]
  · next hc =>
    exact (scat_fold (F := F) (d := ![16]) (![p]) h v (ix n k) (List.finRange _) f).1 fun l _ H =>
      hc (by rw [← hl l ((hi l).mp H)]; exact (hi l).mp H)

theorem loadIdx_ln {n : ℕ} [NeZero n] {e : EltTy} (f : Vec F ⟨1, ![n]⟩ e) (p : IVec S16 32)
    (h : ∀ a x, ((![p] : Fin 1 → IVec S16 32) a x).toNat < (⟨1, ![n]⟩ : Shape).size a) (x : S16.Idx) :
    loadIdx f ![p] h x = f (ix n (p x).toNat) := by
  unfold loadIdx
  congr 1
  rw [eq_ix (idxAt ![p] h x)]
  rfl

theorem read_access_whole {κ : Kind} {sp : Space} {s : Shape} {e : EltTy} (v : View sig κ sp s e)
    (f : v.ty.Contents (Elt F)) : (v.slice (Rect.whole s)).read (Elt F) f = v.read (Elt F) f := by
  funext x
  show v.read (Elt F) f ((Rect.whole s).emb x) = _
  rw [Rect.emb_whole_apply]

theorem rd_scat {cs : CoreSpace} {n : ℕ} [NeZero n] {e : EltTy} (M : Memref sig .scVector cs ⟨1, ![n]⟩ e) (σ : St F d c j)
    (w : Vec F ⟨1, ![n]⟩ e) (k : ℕ) :
    rd M (Function.update σ M.view.ref ((M.access (Rect.whole ⟨1, ![n]⟩)).write (Elt F) (σ M.view.ref) w Finset.univ)) k = w (ix n k) := by
  unfold rd
  rw [Function.update_self]
  have := read_slice_write (F := F) M.view (Rect.whole ⟨1, ![n]⟩) (σ M.view.ref) w (ix n k)
  rw [Rect.emb_whole_apply] at this
  exact this

end Cert.Proof.Ker

end
-- ==== Proof.Lanes.lean ====
/-
  Appending to sixteen interleaved lists, one per lane.
-/
module

public import proofs.«01_k».proof.Proof.Read

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {d : Dev nD} {c : Fin τ.nSC} {j : Fin τ.nSub} {t : Holds F d c j} {α : Type}

theorem Tr.scat {s : Shape} {e : EltTy} {dd : Fin 1 → ℕ} {M : Memref sig .scVector .vmem s e} {idxs : Fin s.rank → IVec ⟨1, dd⟩ 32}
    {v : Vec F ⟨1, dd⟩ e} {mask : IVec ⟨1, dd⟩ 1} {add : Bool} {h : ∀ a x, (idxs a x).toNat < s.size a}
    {hs : (M.access (.whole s)).Stores Finset.univ} {k : PUnit → Prog (TE F c j) α} {σ : St F d c j} {Q : α → St F d c j → Prop}
    (hb : M.view.ref ∈ t.bufs) (hq : t.share M.view.ref = fullShare) (hS : t.elems M.view.ref = Finset.univ)
    (hk : Tr t (k ⟨⟩) (Function.update σ M.view.ref ((M.access (.whole s)).write (Elt F) (σ M.view.ref)
      (storeIdx (M.view.read (Elt F) (σ M.view.ref)) idxs v mask add h) Finset.univ)) Q) :
    Tr t (SparseCore.vectorStoreIdx M idxs v mask add h hs >>= k) σ Q := by
  rw [SparseCore.vectorStoreIdx_bind (c := V d c j)]
  refine Tr.load hb (by rw [hS]; exact Finset.subset_univ _) (Tr.store hb hq (by rw [hS]; exact Finset.subset_univ _) ?_)
  have e : M.view.readAt (Elt F) (LoadRect.whole s) (σ M.view.ref) = M.view.read (Elt F) (σ M.view.ref) :=
    read_access_whole M.view (σ M.view.ref)
  rw [e]
  exact hk

theorem Tr.gath {s u : Shape} {e : EltTy} {M : Memref sig .scVector .vmem s e} {idxs : Fin s.rank → IVec u 32}
    {h : ∀ a x, (idxs a x).toNat < s.size a} {hl : M.view.Loads} {k : Vec F u e → Prog (TE F c j) α} {σ : St F d c j}
    {Q : α → St F d c j → Prop} (hb : M.view.ref ∈ t.bufs) (hS : t.elems M.view.ref = Finset.univ)
    (hk : Tr t (k (loadIdx (M.view.read (Elt F) (σ M.view.ref)) idxs h)) σ Q) :
    Tr t (SparseCore.vectorLoadIdx M idxs h hl >>= k) σ Q := by
  rw [SparseCore.vectorLoadIdx_bind (c := V d c j)]
  refine Tr.load hb (by rw [hS]; exact Finset.subset_univ _) ?_
  have e : M.view.readAt (Elt F) (LoadRect.whole s) (σ M.view.ref) = M.view.read (Elt F) (σ M.view.ref) :=
    read_access_whole M.view (σ M.view.ref)
  rw [e]
  exact hk

/-! ### Appending to sixteen interleaved lists -/

/-- The buffer holds sixteen lists, list `l` at the positions congruent to `l`, with `z` after its end. -/
def Lists {e : EltTy} (M : Memref sig .scVector .vmem ⟨1, ![2064]⟩ e) (σ : St F d c j) (L : ℕ → List (Elt F e)) (z : Elt F e) : Prop :=
  ∀ l < 16, ∀ k < 128, rd M σ (16 * k + l) = (L l)[k]?.getD z

theorem Lists.scat {e : EltTy} {M : Memref sig .scVector .vmem ⟨1, ![2064]⟩ e} {σ : St F d c j} {L : ℕ → List (Elt F e)} {z : Elt F e}
    (H : Lists M σ L z) (p : IVec S16 32) (h : ∀ a x, ((![p] : Fin 1 → IVec S16 32) a x).toNat < (⟨1, ![2064]⟩ : Shape).size a)
    (v : Vec F S16 e) (m : ℕ → Prop) [DecidablePred m]
    (hp : ∀ l < 16, (p (ln l)).toNat = if m l then 16 * (L l).length + l else 2048 + l)
    (hL : ∀ l < 16, m l → (L l).length < 128) :
    Lists M (Function.update σ M.view.ref ((M.access (.whole ⟨1, ![2064]⟩)).write (Elt F) (σ M.view.ref)
      (storeIdx (d := ![16]) (M.view.read (Elt F) (σ M.view.ref)) ![p] v (fun _ => 1#1) false h) Finset.univ))
      (fun l => if m l then L l ++ [v (ln l)] else L l) z := by
  intro l hl k hk
  have hcl : ∀ l < 16, (p (ln l)).toNat % 16 = l := fun l hl => by
    rw [hp l hl]
    split <;> omega
  rw [rd_scat, storeIdx_class _ _ _ _ hcl _ (by omega)]
  have e1 : (16 * k + l) % 16 = l := by omega
  rw [e1, hp l hl]
  have H' : M.view.read (Elt F) (σ M.view.ref) (ix 2064 (16 * k + l)) = (L l)[k]?.getD z := H l hl k hk
  rw [H']
  by_cases hm : m l
  · simp only [hm, if_true]
    by_cases hk' : (L l).length = k
    · rw [if_pos (by omega)]
      subst hk'
      simp
    · rw [if_neg (by omega)]
      rw [List.getElem?_append]
      split
      · rfl
      · rw [List.getElem?_eq_none (by omega), List.getElem?_eq_none (by simp; omega)]
  · simp only [hm, if_false]
    rw [if_neg (by omega)]

theorem toInt_small {x : BitVec 32} (h : x.toNat < 2 ^ 31) : x.toInt = x.toNat := by
  rw [BitVec.toInt_eq_toNat_cond, if_pos (by omega)]

theorem slt_small {x y : BitVec 32} (hx : x.toNat < 2 ^ 31) (hy : y.toNat < 2 ^ 31) : x.slt y = decide (x.toNat < y.toNat) := by
  unfold BitVec.slt
  rw [toInt_small hx, toInt_small hy]
  simp

theorem minsi_small {x y : BitVec 32} (hx : x.toNat < 2 ^ 31) (hy : y.toNat < 2 ^ 31) : (IntOp.minsi x y).toNat = min x.toNat y.toNat := by
  unfold IntOp.minsi
  rw [slt_small hx hy]
  by_cases h : x.toNat < y.toNat
  · simp [h]; omega
  · simp [h]; omega

theorem toNat_addi {x y : BitVec 32} (h : x.toNat + y.toNat < 2 ^ 32) : (IntOp.addi x y).toNat = x.toNat + y.toNat := by
  unfold IntOp.addi
  rw [BitVec.toNat_add, Nat.mod_eq_of_lt h]

theorem toNat_muli {x y : BitVec 32} (h : x.toNat * y.toNat < 2 ^ 32) : (IntOp.muli x y).toNat = x.toNat * y.toNat := by
  unfold IntOp.muli
  rw [BitVec.toNat_mul, Nat.mod_eq_of_lt h]

/-- The lane numbers. -/
def lanes : IVec S16 32 := iota .scVector S16 32 [0] iota_S16_d0_w32_scVector

theorem lanes_ln (l : ℕ) (h : l < 16) : lanes (ln l) = BitVec.ofNat 32 l := by
  show BitVec.ofNat 32 (0 * 16 + l % 16) = _
  congr 1
  omega

theorem lanes_toNat (l : ℕ) (h : l < 16) : (lanes (ln l)).toNat = l := by
  rw [lanes_ln l h, BitVec.toNat_ofNat]
  omega

theorem pay1_eq : k2_pay1 = fun _ => 0#32 := by
  funext x
  show BitVec.ofNat 32 _ * 0#32 = 0#32
  simp

theorem pay2_eq : k2_pay2 = fun _ => 1#32 := by
  show addi k2_pay1 (broadcast S16 1#32) = _
  rw [pay1_eq]
  rfl

/-- The position a lane stores at. -/
def posOf (m : IVec S16 1) (cnt : IVec S16 32) : IVec S16 32 :=
  select m (minsi (addi (muli cnt (broadcast S16 16#32)) lanes) (addi (broadcast S16 2048#32) lanes)) (addi (broadcast S16 2048#32) lanes)

theorem posOf_ln (m : IVec S16 1) (cnt : IVec S16 32) (l : ℕ) (hl : l < 16) (hc : (cnt (ln l)).toNat ≤ 128) :
    (posOf m cnt (ln l)).toNat = if m (ln l) = 1#1 then 16 * (cnt (ln l)).toNat + l else 2048 + l := by
  have e2 : (IntOp.addi 2048#32 (lanes (ln l))).toNat = 2048 + l := by
    rw [toNat_addi (by rw [lanes_toNat l hl]; show 2048 + l < _; omega), lanes_toNat l hl]
    rfl
  have em : (IntOp.muli (cnt (ln l)) 16#32).toNat = 16 * (cnt (ln l)).toNat := by
    rw [toNat_muli (by show _ * 16 < _; omega)]
    show _ * 16 = _
    omega
  have e1 : (IntOp.addi (IntOp.muli (cnt (ln l)) 16#32) (lanes (ln l))).toNat = 16 * (cnt (ln l)).toNat + l := by
    rw [toNat_addi (by rw [lanes_toNat l hl, em]; omega), lanes_toNat l hl, em]
  show (if m (ln l) = 1 then IntOp.minsi (IntOp.addi (IntOp.muli (cnt (ln l)) 16#32) (lanes (ln l))) (IntOp.addi 2048#32 (lanes (ln l)))
    else IntOp.addi 2048#32 (lanes (ln l))).toNat = _
  by_cases h : m (ln l) = 1#1
  · rw [if_pos (show m (ln l) = 1 from h), if_pos h, minsi_small (by rw [e1]; omega) (by rw [e2]; omega), e1, e2]
    omega
  · rw [if_neg (show ¬ m (ln l) = 1 from h), if_neg h, e2]

theorem posOf_lt (m : IVec S16 1) (cnt : IVec S16 32) (hc : ∀ l < 16, (cnt (ln l)).toNat ≤ 128) (x : S16.Idx) :
    (posOf m cnt x).toNat < 2064 := by
  rw [eq_ix x]
  have h16 : (x 0).val < 16 := ix_lt x
  rw [posOf_ln m cnt _ h16 (hc _ h16)]
  have := hc _ h16
  have h2 : (posOf m cnt (ln (x 0).val)).toNat ≤ 2048 + (x 0).val := by
    have e2 : (IntOp.addi 2048#32 (lanes (ln (x 0).val))).toNat = 2048 + (x 0).val := by
      rw [toNat_addi (by rw [lanes_toNat _ h16]; show 2048 + (x 0).val < _; omega), lanes_toNat _ h16]
      rfl
    rw [posOf_ln m cnt _ h16 (hc _ h16)]
    split <;> omega
  rw [posOf_ln m cnt _ h16 (hc _ h16)] at h2
  omega

/-- The new counts. -/
def bump (m : IVec S16 1) (cnt : IVec S16 32) : IVec S16 32 := addi cnt (select m (fun _ => 1#32) (fun _ => 0#32))

theorem bump_ln (m : IVec S16 1) (cnt : IVec S16 32) (l : ℕ) (hc : (cnt (ln l)).toNat ≤ 128) :
    (bump m cnt (ln l)).toNat = if m (ln l) = 1#1 then (cnt (ln l)).toNat + 1 else (cnt (ln l)).toNat := by
  show (IntOp.addi (cnt (ln l)) (if m (ln l) = 1 then 1#32 else 0#32)).toNat = if m (ln l) = 1#1 then _ else _
  by_cases h : m (ln l) = 1#1
  · rw [if_pos h, if_pos (show m (ln l) = 1 from h), toNat_addi (by show _ + 1 < _; omega)]
    rfl
  · rw [if_neg h, if_neg (show ¬ m (ln l) = 1 from h), toNat_addi (by show _ + 0 < _; omega)]
    rfl

end Cert.Proof.Ker

end
-- ==== Proof.Hot.lean ====
/-
  The subcore's list of hot rows.
-/
module

public import proofs.«01_k».proof.Proof.Lanes

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
/-- A piece of the kernel's body at the buffers the call gives it. -/
abbrev app {β : Type 1}
    (f : (arg2 : Memref sig .scVector .hbm S16x20000x128 .f32) → arg2.IsWhole →
      (arg3 : Memref sig .scVector .hbm S16x160x128 .f32) → arg3.IsWhole →
      (arg4 : Memref sig .scVector .hbm S10000x128 .f32) → arg4.IsWhole →
      (arg5 : Memref sig .scVector .hbm S85000x128 .f32) → arg5.IsWhole →
      (arg6 : Memref sig .scVector .hbm S16x384 .i32) → arg6.IsWhole →
      (arg7 : Memref sig .scVector .hbm S16x1536 .f32) → arg7.IsWhole →
      (arg8 : Memref sig .scVector .hbm S16x384 .f32) → arg8.IsWhole →
      (arg9 : Memref sig .scVector .hbm S16x13056 .f32) → arg9.IsWhole →
      (arg10 : Memref sig .scVector .vmem S160x128 .f32) → arg10.IsWhole →
      (arg11 : Memref sig .scVector .vmem S2064 .i32) → arg11.IsWhole →
      (arg12 : Memref sig .scVector .vmem S16 .i32) → arg12.IsWhole →
      (arg13 : Memref sig .scVector .vmem S2048 .i32) → arg13.IsWhole →
      (arg14 : Memref sig .scVector .vmem S128x128 .f32) → arg14.IsWhole →
      (arg15 : Memref sig .scVector .vmem S2064 .f32) → arg15.IsWhole →
      (arg16 : Memref sig .scVector .vmem S2064 .i32) → arg16.IsWhole →
      (arg17 : Memref sig .scVector .vmem S384 .i32) → arg17.IsWhole →
      (arg18 : Memref sig .scVector .vmem S384 .i32) → arg18.IsWhole →
      (arg19 : Memref sig .scVector .vmem S384 .i32) → arg19.IsWhole →
      (arg20 : Memref sig .scVector .vmem S768 .i32) → arg20.IsWhole →
      (arg21 : Memref sig .scVector .vmem S1536 .f32) → arg21.IsWhole →
      (arg22 : Memref sig .scVector .vmem S13056 .f32) → arg22.IsWhole →
      DmaSems sig S_ → DmaSems sig S_ → DmaSems sig S_ → DmaSems sig S_ → DmaSems sig S_ → DmaSems sig S_ → DmaSems sig S_ → β) : β :=
  f (Memref.whole main_v0_0_scv) (Memref.isWhole_whole _)
    (Memref.whole main_v0_1_scv) (Memref.isWhole_whole _)
    (Memref.whole main_v1_scv) (Memref.isWhole_whole _)
    (Memref.whole main_v3_scv) (Memref.isWhole_whole _)
    (Memref.whole main_v4_0_scv) (Memref.isWhole_whole _)
    (Memref.whole main_v4_1_scv) (Memref.isWhole_whole _)
    (Memref.whole main_v4_2_scv) (Memref.isWhole_whole _)
    (Memref.whole main_v4_3_scv) (Memref.isWhole_whole _)
    (Memref.whole cc2_scratch0) (Memref.isWhole_whole _)
    (Memref.whole cc2_scratch1) (Memref.isWhole_whole _)
    (Memref.whole cc2_scratch2) (Memref.isWhole_whole _)
    (Memref.whole cc2_scratch3) (Memref.isWhole_whole _)
    (Memref.whole cc2_scratch4) (Memref.isWhole_whole _)
    (Memref.whole cc2_scratch5) (Memref.isWhole_whole _)
    (Memref.whole cc2_scratch6) (Memref.isWhole_whole _)
    (Memref.whole cc2_scratch7) (Memref.isWhole_whole _)
    (Memref.whole cc2_scratch8) (Memref.isWhole_whole _)
    (Memref.whole cc2_scratch9) (Memref.isWhole_whole _)
    (Memref.whole cc2_scratch10) (Memref.isWhole_whole _)
    (Memref.whole cc2_scratch11) (Memref.isWhole_whole _)
    (Memref.whole cc2_scratch12) (Memref.isWhole_whole _)
    cc2_scratch13 cc2_scratch14 cc2_scoped0 cc2_scoped1 cc2_scoped2 cc2_scoped3 cc2_scoped4

/-- The core of a call's instance. -/
abbrev ci (i : grid2.Coords) : Fin τ.nSC := (i 0).castLE hcore2
/-- The subcore of a call's instance. -/
abbrev cj (i : grid2.Coords) : Fin τ.nSub := (i 1).castLE hsub2

/-- The subcore's scratch buffers. -/
def scratches : List (Ref sig .scVector) :=
  [cc2_scratch0, cc2_scratch1, cc2_scratch2, cc2_scratch3, cc2_scratch4, cc2_scratch5, cc2_scratch6, cc2_scratch7, cc2_scratch8,
    cc2_scratch9, cc2_scratch10, cc2_scratch11, cc2_scratch12]

variable {d : Dev nD} {c : Fin τ.nSC} {j : Fin τ.nSub} {α : Type}

/-- A buffer held whole. -/
structure Scr (t : Holds F d c j) (b : Ref sig .scVector) : Prop where
  mem : b ∈ t.bufs
  share : t.share b = fullShare
  elems : t.elems b = Finset.univ

theorem Tr.loadS {t : Holds F d c j} {cs : CoreSpace} {s : Shape} {e : EltTy} {m : Memref sig .scVector cs s e} {r : LoadRect s} {hl : m.view.LoadsAt r}
    {k : (r.shape.Idx → Elt F e) → Prog (TE F c j) α} {σ : St F d c j} {Q : α → St F d c j → Prop}
    (hs : Scr t m.view.ref) (hk : Tr t (k (m.view.readAt (Elt F) r (σ m.view.ref))) σ Q) : Tr t (.op (.load m r hl) k) σ Q :=
  Tr.load hs.mem (by rw [hs.elems]; exact Finset.subset_univ _) hk

theorem Tr.storeS {t : Holds F d c j} {cs : CoreSpace} {s : Shape} {e : EltTy} {m : Memref sig .scVector cs s e} {r : Rect s} {w : r.shape.Idx → Elt F e}
    {Mk : Finset r.shape.Idx} {hx : (m.access r).Stores Mk} {hm : Mk = Finset.univ ∨ ∀ a, r.stride a = 1}
    {k : PUnit → Prog (TE F c j) α} {σ : St F d c j} {Q : α → St F d c j → Prop} (hs : Scr t m.view.ref)
    (hk : Tr t (k ⟨⟩) (Function.update σ m.view.ref ((m.access r).write (Elt F) (σ m.view.ref) w Mk)) Q) :
    Tr t (.op (.store m r w Mk hx hm) k) σ Q :=
  Tr.store hs.mem hs.share (by rw [hs.elems]; exact Finset.subset_univ _) hk

/-- Whether a score's logit passes the threshold. -/
def ge (x : F .f32) : Prop := FloatOps.cmpf .oge x (Scalar.ofBits .f32 0x4059999A#32) = 1#1

instance (x : F .f32) : Decidable (ge x) := inferInstanceAs (Decidable (_ = _))

/-- The lanes of a loaded row. -/
abbrev row16 {α : Type} (x : S1x16.Idx → α) : S16.Idx → α := shapeCast S16 x shapeCasts_S1x16_S16

theorem row16_ln {α : Type} (x : S1x16.Idx → α) (l : ℕ) : row16 x (ln l) = x (ix2 1 16 0 l) := by
  show x (Shape.reshapeEquiv _ _) = _
  congr 1
  refine Shape.reshapeEquiv_eq_of_rowMajor _ ?_
  rw [Shape.rowMajor_val_two, Shape.rowMajor_val_one]
  show 0 % 1 * 16 + l % 16 = l % 16
  omega

/-- The lanes whose logit passes the threshold. -/
def geMask (x : Vec F S16 .f32) : IVec S16 1 := cmpf .oge x (broadcast S16 (Scalar.ofBits .f32 0x4059999A#32))

theorem geMask_ln (x : Vec F S16 .f32) (i : S16.Idx) : geMask x i = 1#1 ↔ ge (x i) := Iff.rfl

/-! ### The list of hot rows -/

variable (i : grid2.Coords)

theorem iv01 (k : ℕ) (h : k < 2 ^ 32) : (Scf.iv 0#32 1#32 k).toNat = k := by
  unfold Scf.iv
  simp
  omega

theorem hot_inb (t : Fin k2_t1_loop.trips) (v : ℕ) (hv : v < 8) :
    ∀ a, (![(Scalar.indexCast (Scf.iv 0#32 1#32 t)).toNat, 16 * v] : Fin 2 → ℕ) a + S1x16.size a ≤ S160x128.size a := by
  have ht : t.val < 160 := t.isLt
  have e : (Scalar.indexCast (Scf.iv 0#32 1#32 t)).toNat = t.val := by
    exact iv01 t.val (by omega)
  intro a
  refine a.cases ?_ fun b => ?_
  · show _ + 1 ≤ 160
    show (Scalar.indexCast (Scf.iv 0#32 1#32 t)).toNat + 1 ≤ 160
    omega
  · rw [Subsingleton.elim b 0]
    show 16 * v + 16 ≤ 128
    omega

/-- One group of sixteen rows. -/
def hotStep (t : Fin k2_t1_loop.trips) (v : ℕ) (hv : v < 8) (h1 : k2_cond1 i = 1#1) (cnt : IVec S16 32)
    (k : IVec S16 32 → Prog (TE F (ci i) (cj i)) α) : Prog (TE F (ci i) (cj i)) α :=
  .op (.load (Memref.whole cc2_scratch0) (Rect.unit (s := S160x128) ![(Scalar.indexCast (Scf.iv 0#32 1#32 t)).toNat, 16 * v] S1x16.size
    (hot_inb t v hv)).toLoadRect (View.loadsAt_vmem h_S1x16)) fun x =>
  .op (.assume (k2_chk1 i (posOf (geMask (row16 x)) cnt)) (k2_chk1.dec i _)) fun h =>
  SparseCore.vectorStoreIdx (Memref.whole cc2_scratch1) ![posOf (geMask (row16 x)) cnt]
    (addi (broadcast S16 (Scalar.addi (Scalar.muli (Scf.iv 0#32 1#32 t) 128#32) (BitVec.ofNat 32 (16 * v)))) lanes) (fun _ => 1#1) false
    (k2_idx1_inb i _ h.down h1) (View.stores_vmem_bits_univ h_S2064 rfl) >>= fun _ =>
  k (bump (geMask (row16 x)) cnt)

/-- One row of the rectangle of maxima, from its group `8 - m` on. -/
def hotRow (t : Fin k2_t1_loop.trips) (h1 : k2_cond1 i = 1#1) : (m : ℕ) → IVec S16 32 → Prog (TE F (ci i) (cj i)) (IVec S16 32)
  | 0, cnt => .ret cnt
  | m + 1, cnt => hotStep i t (7 - m) (by omega) h1 cnt (hotRow t h1 m)

theorem hot_body (h1 : k2_cond1 i = 1#1) (t : Fin k2_t1_loop.trips) (cnt : IVec S16 32) :
    app (k2_t1_body (F := F) i) lanes (fun _ => 0#32) (fun _ => 1#32) h1 t cnt = hotRow i t h1 8 cnt := by
  unfold app k2_t1_body
  simp only [k2_part1_eq_skeleton, k2_part2_eq_skeleton, k2_part3_eq_skeleton]
  rfl

/-- What lane `l` has kept of the first `n` groups of the maxima. -/
def hotL (mv : ℕ → F .f32) (n l : ℕ) : List (BitVec 32) :=
  (List.range n).filterMap fun s => if ge (mv (16 * s + l)) then some (BitVec.ofNat 32 (16 * s + l)) else none

theorem hotL_succ (mv : ℕ → F .f32) (n l : ℕ) :
    hotL mv (n + 1) l = if ge (mv (16 * n + l)) then hotL mv n l ++ [BitVec.ofNat 32 (16 * n + l)] else hotL mv n l := by
  unfold hotL
  rw [List.range_succ, List.filterMap_append]
  by_cases h : ge (mv (16 * n + l)) <;> simp [h]

theorem hotL_mono (mv : ℕ → F .f32) {n n' : ℕ} (h : n ≤ n') (l : ℕ) : (hotL mv n l).length ≤ (hotL mv n' l).length := by
  induction n' with
  | zero => rw [Nat.le_zero.mp h]
  | succ k ih =>
    rcases Nat.lt_or_eq_of_le h with h | h
    · refine (ih (by omega)).trans ?_
      rw [hotL_succ]
      split <;> simp
    · rw [h]

/-- The maxima as the subcore holds them. -/
def mvOf (σ : St F d c j) (k : ℕ) : F .f32 := rd2 (Memref.whole cc2_scratch0) σ (k / 128) (k % 128)

/-- The state once `n` groups of maxima have been gone through. -/
structure HotI (σ₀ : St F d c j) (n : ℕ) (cnt : IVec S16 32) (σ : St F d c j) : Prop where
  only : Only [cc2_scratch1] σ₀ σ
  lists : Lists (e := .i32) (Memref.whole cc2_scratch1) σ (fun l => (hotL (mvOf σ₀) n l : List (BitVec 32))) (0#32 : BitVec 32)
  cnt : ∀ l < 16, (cnt (ln l)).toNat = (hotL (mvOf σ₀) n l).length

variable {i} {t : Holds F d (ci i) (cj i)} {σ₀ : St F d (ci i) (cj i)}

theorem hot_next (hle : ∀ l < 16, (hotL (mvOf σ₀) 1280 l).length ≤ 128) (r : Fin k2_t1_loop.trips) (v : ℕ) (hv : v < 8)
    {cnt : IVec S16 32} {σ : St F d (ci i) (cj i)} (H : HotI σ₀ (8 * r.val + v) cnt σ) (x : Vec F S1x16 .f32)
    (hxl : ∀ l < 16, row16 x (ln l) = mvOf σ₀ (16 * (8 * r.val + v) + l))
    (h : ∀ a y, ((![posOf (geMask (row16 x)) cnt] : Fin 1 → IVec S16 32) a y).toNat < S2064.size a) :
    HotI σ₀ (8 * r.val + v + 1) (bump (geMask (row16 x)) cnt)
      (Function.update σ (Memref.whole cc2_scratch1).view.ref (((Memref.whole cc2_scratch1).access (.whole S2064)).write (Elt F)
        (σ (Memref.whole cc2_scratch1).view.ref) (storeIdx (d := ![16]) (e := .i32) ((Memref.whole cc2_scratch1).view.read (Elt F)
          (σ (Memref.whole cc2_scratch1).view.ref)) ![posOf (geMask (row16 x)) cnt]
          (addi (broadcast S16 (Scalar.addi (Scalar.muli (Scf.iv 0#32 1#32 r) 128#32) (BitVec.ofNat 32 (16 * v)))) lanes)
          (fun _ => 1#1) false h) Finset.univ)) := by
  have hr : r.val < 160 := r.isLt
  have hc : ∀ l < 16, (cnt (ln l)).toNat ≤ 128 := fun l hl => by
    rw [H.cnt l hl]
    exact (hotL_mono _ (by omega) l).trans (hle l hl)
  have hm : ∀ l < 16, (geMask (row16 x) (ln l) = 1#1 ↔ ge (mvOf σ₀ (16 * (8 * r.val + v) + l))) := fun l hl => by
    rw [geMask_ln, hxl l hl]
  refine ⟨H.only.update (by decide) _, ?_, ?_⟩
  · have key := H.lists.scat (posOf (geMask (row16 x)) cnt) (fun a y => by rw [Subsingleton.elim a 0]; exact posOf_lt _ cnt hc y)
      (addi (broadcast S16 (Scalar.addi (Scalar.muli (Scf.iv 0#32 1#32 r) 128#32) (BitVec.ofNat 32 (16 * v)))) lanes)
      (fun l => ge (mvOf σ₀ (16 * (8 * r.val + v) + l)))
      (fun l hl => by
        rw [posOf_ln _ _ _ hl (hc l hl), H.cnt l hl]
        by_cases h : ge (mvOf σ₀ (16 * (8 * r.val + v) + l))
        · rw [if_pos ((hm l hl).mpr h), if_pos h]
        · rw [if_neg (fun h' => h ((hm l hl).mp h')), if_neg h])
      (fun l hl h => by
        have := (hotL_mono (mvOf σ₀) (show 8 * r.val + v + 1 ≤ 1280 by omega) l).trans (hle l hl)
        rw [hotL_succ, if_pos h, List.length_append] at this
        exact this)
    intro l hl kk hkk
    rw [key l hl kk hkk]
    congr 2
    beta_reduce
    rw [hotL_succ]
    have ev : addi (broadcast S16 (Scalar.addi (Scalar.muli (Scf.iv 0#32 1#32 r) 128#32) (BitVec.ofNat 32 (16 * v)))) lanes (ln l)
        = BitVec.ofNat 32 (16 * (8 * r.val + v) + l) := by
      show (Scf.iv 0#32 1#32 r * 128#32 + BitVec.ofNat 32 (16 * v)) + lanes (ln l) = _
      rw [lanes_ln l hl]
      refine BitVec.eq_of_toNat_eq ?_
      have := iv01 r.val (by omega)
      simp [BitVec.toNat_add, BitVec.toNat_mul, this]
      omega
    rw [ev]
  · intro l hl
    rw [bump_ln _ _ _ (hc l hl), hotL_succ, H.cnt l hl]
    by_cases h : ge (mvOf σ₀ (16 * (8 * r.val + v) + l))
    · rw [if_pos ((hm l hl).mpr h), if_pos h, List.length_append]
      rfl
    · rw [if_neg (fun h' => h ((hm l hl).mp h')), if_neg h]

theorem hotStep_tr (hs : ∀ b ∈ scratches, Scr t b) (hle : ∀ l < 16, (hotL (mvOf σ₀) 1280 l).length ≤ 128) (r : Fin k2_t1_loop.trips) (v : ℕ)
    (hv : v < 8) (h1 : k2_cond1 i = 1#1) {cnt : IVec S16 32} {σ : St F d (ci i) (cj i)} (H : HotI σ₀ (8 * r.val + v) cnt σ)
    {k : IVec S16 32 → Prog (TE F (ci i) (cj i)) α} {Q : α → St F d (ci i) (cj i) → Prop}
    (hk : ∀ cnt' σ', HotI σ₀ (8 * r.val + v + 1) cnt' σ' → Tr t (k cnt') σ' Q) : Tr t (hotStep i r v hv h1 cnt k) σ Q := by
  have hr : r.val < 160 := r.isLt
  have hc : ∀ l < 16, (cnt (ln l)).toNat ≤ 128 := fun l hl => by
    rw [H.cnt l hl]
    exact (hotL_mono _ (by omega) l).trans (hle l hl)
  unfold hotStep
  refine Tr.loadS (hs _ (by decide)) (Tr.assume ?_ fun _ => Tr.scat (hs _ (by decide)).mem (hs _ (by decide)).share (hs _ (by decide)).elems (hk _ _ (hot_next hle r v hv H _ ?_ _)))
  · intro _ a x
    rw [Subsingleton.elim a 0]
    exact posOf_lt _ cnt hc x
  · intro l hl
    rw [row16_ln]
    have e := rd2_load (n := 160) (m := 128) (Memref.whole cc2_scratch0) σ (Scalar.indexCast (Scf.iv 0#32 1#32 r)).toNat (16 * v) (hot_inb r v hv) l hl
    refine e.trans ?_
    have er : (Scalar.indexCast (Scf.iv 0#32 1#32 r)).toNat = r.val := iv01 r.val (by omega)
    rw [er, H.only.rd2 (n := 160) (m := 128) (Memref.whole cc2_scratch0) (by decide)]
    unfold mvOf
    congr 1 <;> omega

theorem hotRow_tr (hs : ∀ b ∈ scratches, Scr t b) (hle : ∀ l < 16, (hotL (mvOf σ₀) 1280 l).length ≤ 128) (r : Fin k2_t1_loop.trips)
    (h1 : k2_cond1 i = 1#1) (m : ℕ) (hm : m ≤ 8) {cnt : IVec S16 32} {σ : St F d (ci i) (cj i)} (H : HotI σ₀ (8 * r.val + (8 - m)) cnt σ) :
    Tr t (hotRow i r h1 m cnt) σ (HotI σ₀ (8 * (r.val + 1))) := by
  induction m generalizing cnt σ with
  | zero => exact Tr.ret H
  | succ m ih =>
    unfold hotRow
    refine hotStep_tr hs hle r (7 - m) (by omega) h1 (by convert H using 2; omega) fun cnt' σ' H' => ih (by omega) ?_
    convert H' using 1
    omega

/-- The loop over the rectangle of maxima. -/
theorem hot_loop (hs : ∀ b ∈ scratches, Scr t b) (hle : ∀ l < 16, (hotL (mvOf σ₀) 1280 l).length ≤ 128)
    (h1 : k2_cond1 i = 1#1) {hok} (hz : ∀ k < 2048, rd (e := .i32) (n := 2064) (Memref.whole cc2_scratch1) σ₀ k = (0#32 : BitVec 32)) :
    Tr t (Scf.Loop.for k2_t1_loop hok (fun _ => 0#32) (app (k2_t1_body (F := F) i) lanes (fun _ => 0#32) (fun _ => 1#32) h1)) σ₀
      (HotI σ₀ 1280) := by
  refine Tr.mono (Tr.for _ _ _ hok _ _ (fun n => HotI σ₀ (8 * n)) ⟨Only.refl _ _, fun l hl k hk => ?_, fun l hl => rfl⟩ fun r acc σ' H => ?_)
    fun a σ' H => H
  · rw [hz _ (by omega)]
    rfl
  · rw [hot_body]
    exact hotRow_tr hs hle r h1 8 le_rfl H

end Cert.Proof.Ker

end
-- ==== Proof.Fill.lean ====
/-
  Filling a buffer sixteen elements at a time.
-/
module

public import proofs.«01_k».proof.Proof.Hot

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {d : Dev nD} {c : Fin τ.nSC} {j : Fin τ.nSub} {α : Type}

/-- Rows of sixteen of `M`, from row `k` on, each loaded and then overwritten with `val` of its number. -/
def fillFrom {n : ℕ} {e : EltTy} (M : Memref sig .scVector .vmem ⟨1, ![n]⟩ e) (he : e.bits = 32)
    (val : ℕ → S16.Idx → Elt F e) : ℕ → ℕ → Prog (TE F c j) α → Prog (TE F c j) α
  | _, 0, p => p
  | k, m + 1, p =>
    if h : 16 * k + 16 ≤ n then
      .op (.load M (Rect.unit (s := ⟨1, ![n]⟩) ![16 * k] S16.size (Rect.inb₁ h)).toLoadRect (View.loadsAt_vmem h_S16)) fun _ =>
      .op (.store M (Rect.unit (s := ⟨1, ![n]⟩) ![16 * k] S16.size (Rect.inb₁ h)) (val k) Finset.univ
        (View.stores_vmem_bits_univ h_S16 he) (.inl rfl)) fun _ => fillFrom M he val (k + 1) m p
    else p

theorem fillFrom_tr {n : ℕ} [NeZero n] {e : EltTy} {M : Memref sig .scVector .vmem ⟨1, ![n]⟩ e} {he : e.bits = 32}
    {val : ℕ → S16.Idx → Elt F e} {t : Holds F d c j} (hs : Scr t M.view.ref) {p : Prog (TE F c j) α} {Q : α → St F d c j → Prop} {σ₀ : St F d c j}
    (m : ℕ) : ∀ (k : ℕ) (_ : 16 * (k + m) ≤ n) {σ : St F d c j} (_ : Only [M.view.ref] σ₀ σ)
    (_ : ∀ l < n, rd M σ l = if l < 16 * k then val (l / 16) (ln (l % 16)) else rd M σ₀ l)
    (_ : ∀ σ', Only [M.view.ref] σ₀ σ' → (∀ l < n, rd M σ' l = if l < 16 * (k + m) then val (l / 16) (ln (l % 16)) else rd M σ₀ l) →
      Tr t p σ' Q), Tr t (fillFrom M he val k m p) σ Q := by
  induction m with
  | zero => exact fun k _ σ ho hr hk => hk σ ho hr
  | succ m ih =>
    intro k hn σ ho hr hk
    unfold fillFrom
    have hle : 16 * k + 16 ≤ n := by omega
    rw [dif_pos hle]
    refine Tr.loadS hs (Tr.storeS hs (ih (k + 1) (by omega) (ho.update (by simp) _) ?_ fun σ' ho' hr' => hk σ' ho' ?_))
    · intro l hl
      refine (rd_store M σ (16 * k) 16 (Rect.inb₁ hle) (val k) l hl).trans ?_
      rw [hr l hl]
      by_cases h1 : 16 * k ≤ l ∧ l < 16 * k + 16
      · rw [if_pos h1, if_pos (by omega)]
        have e1 : l / 16 = k := by omega
        have e2 : l % 16 = l - 16 * k := by omega
        rw [e1, e2]
      · rw [if_neg h1]
        by_cases h2 : l < 16 * k
        · rw [if_pos h2, if_pos (by omega)]
        · rw [if_neg h2, if_neg (by omega)]
    · intro l hl
      rw [hr' l hl]
      congr 2
      omega

/-- The same for two buffers, turn about. -/
def fill2From {n : ℕ} {e e' : EltTy} (M : Memref sig .scVector .vmem ⟨1, ![n]⟩ e) (M' : Memref sig .scVector .vmem ⟨1, ![n]⟩ e') (he : e.bits = 32)
    (he' : e'.bits = 32) (val : S16.Idx → Elt F e) (val' : S16.Idx → Elt F e') : ℕ → ℕ → Prog (TE F c j) α → Prog (TE F c j) α
  | _, 0, p => p
  | k, m + 1, p =>
    if h : 16 * k + 16 ≤ n then
      .op (.load M (Rect.unit (s := ⟨1, ![n]⟩) ![16 * k] S16.size (Rect.inb₁ h)).toLoadRect (View.loadsAt_vmem h_S16)) fun _ =>
      .op (.store M (Rect.unit (s := ⟨1, ![n]⟩) ![16 * k] S16.size (Rect.inb₁ h)) val Finset.univ
        (View.stores_vmem_bits_univ h_S16 he) (.inl rfl)) fun _ =>
      .op (.load M' (Rect.unit (s := ⟨1, ![n]⟩) ![16 * k] S16.size (Rect.inb₁ h)).toLoadRect (View.loadsAt_vmem h_S16)) fun _ =>
      .op (.store M' (Rect.unit (s := ⟨1, ![n]⟩) ![16 * k] S16.size (Rect.inb₁ h)) val' Finset.univ
        (View.stores_vmem_bits_univ h_S16 he') (.inl rfl)) fun _ => fill2From M M' he he' val val' (k + 1) m p
    else p

theorem fill2From_tr {n : ℕ} [NeZero n] {e e' : EltTy} {M : Memref sig .scVector .vmem ⟨1, ![n]⟩ e} {M' : Memref sig .scVector .vmem ⟨1, ![n]⟩ e'}
    {he : e.bits = 32} {he' : e'.bits = 32} {z : Elt F e} {z' : Elt F e'} {t : Holds F d c j} (hs : Scr t M.view.ref) (hs' : Scr t M'.view.ref)
    (hne : M.view.ref ≠ M'.view.ref)
    {p : Prog (TE F c j) α} {Q : α → St F d c j → Prop} {σ₀ : St F d c j}
    (m : ℕ) : ∀ (k : ℕ) (_ : 16 * (k + m) ≤ n) {σ : St F d c j} (_ : Only [M.view.ref, M'.view.ref] σ₀ σ)
    (_ : ∀ l < n, l < 16 * k → rd M σ l = z ∧ rd M' σ l = z')
    (_ : ∀ σ', Only [M.view.ref, M'.view.ref] σ₀ σ' → (∀ l < n, l < 16 * (k + m) → rd M σ' l = z ∧ rd M' σ' l = z') →
      Tr t p σ' Q), Tr t (fill2From M M' he he' (fun _ => z) (fun _ => z') k m p) σ Q := by
  induction m with
  | zero => exact fun k _ σ ho hr hk => hk σ ho hr
  | succ m ih =>
    intro k hn σ ho hr hk
    unfold fill2From
    have hle : 16 * k + 16 ≤ n := by omega
    rw [dif_pos hle]
    refine Tr.loadS hs (Tr.storeS hs (Tr.loadS hs' (Tr.storeS hs' (ih (k + 1) (by omega) ((ho.update (by simp) _).update (by simp) _) ?_
      fun σ' ho' hr' => hk σ' ho' fun l hl hl' => hr' l hl (by omega)))))
    intro l hl hl'
    constructor
    · rw [rd_update_ne _ _ hne]
      refine (rd_store M σ (16 * k) 16 (Rect.inb₁ hle) (fun _ => z) l hl).trans ?_
      split
      · rfl
      · exact (hr l hl (by omega)).1
    · refine (rd_store M' _ (16 * k) 16 (Rect.inb₁ hle) (fun _ => z') l hl).trans ?_
      split
      · rfl
      · rw [rd_update_ne _ _ hne.symm]
        exact (hr l hl (by omega)).2

end Cert.Proof.Ker

end
-- ==== Proof.Chunk.lean ====
/-
  How many chunks of slots are gone through.
-/
module

public import proofs.«01_k».proof.Proof.Hot

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {i : grid2.Coords}

/-- The number of chunks of eight slots. -/
def chunks (m : BitVec 32) : ℕ := min ((m.toNat + 7) / 8) 16

theorem small_eq (m : BitVec 32) (hm : m.toNat ≤ 128) : ∃ n : Fin 129, m = BitVec.ofNat 32 n.val :=
  ⟨⟨m.toNat, by omega⟩, BitVec.eq_of_toNat_eq (by simp)⟩

theorem trips2 (m : BitVec 32) (hm : m.toNat ≤ 128) : (k2_t2_loop m).trips = chunks m := by
  obtain ⟨n, rfl⟩ := small_eq m hm
  revert n
  decide +kernel

theorem trips4 (m : BitVec 32) (hm : m.toNat ≤ 128) : (k2_t4_loop m).trips = 0 := by
  obtain ⟨n, rfl⟩ := small_eq m hm
  revert n
  decide +kernel

theorem ok2 (m : BitVec 32) (hm : m.toNat ≤ 128) : (k2_t2_loop m).OK ∧ (k2_t4_loop m).OK := by
  obtain ⟨n, rfl⟩ := small_eq m hm
  revert n
  decide +kernel

theorem off10 (m : BitVec 32) (hm : m.toNat ≤ 128) (t : Fin (k2_t2_loop m).trips) : k2_off10 m t = ![128 * t.val] := by
  have h := t.isLt.trans_eq (trips2 m hm)
  have h2 : t.val < 16 := lt_of_lt_of_le h (min_le_right _ _)
  show ![(Scalar.muli (Scf.iv 0#32 1#32 t.val) 128#32).toNat] = _
  congr 1
  refine (toNat_muli ?_).trans ?_
  · rw [iv01 _ (by omega)]
    show _ * 128 < _
    omega
  · rw [iv01 _ (by omega)]
    exact Nat.mul_comm _ _

theorem chk13 (m : BitVec 32) (hm : m.toNat ≤ 128) : k2_chk13 i m := by
  refine ⟨fun _ => (ok2 m hm).1, fun t _ a => ?_, fun _ => (ok2 m hm).2, fun t => absurd (t.isLt.trans_eq (trips4 m hm)) (Nat.not_lt_zero _)⟩
  have h := t.isLt.trans_eq (trips2 m hm)
  have h2 : t.val < 16 := lt_of_lt_of_le h (min_le_right _ _)
  rw [off10 m hm, Subsingleton.elim a 0]
  show 128 * t.val + 128 ≤ 2064
  omega

end Cert.Proof.Ker

end
-- ==== Proof.Valid.lean ====
/-
  The occupied slots, the largest count, and the empty candidates.
-/
module

public import proofs.«01_k».proof.Proof.Fill
public import proofs.«01_k».proof.Proof.Chunk

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {d : Dev nD} {i : grid2.Coords} {t : Holds F d (ci i) (cj i)} {σ₀ : St F d (ci i) (cj i)} {α : Type}

/-- The lanes, `e` on. -/
def rot (e : ℕ) : IVec S16 32 := andi (addi lanes (broadcast S16 (BitVec.ofNat 32 e))) (broadcast S16 15#32)

/-- One step of the maximum over the lanes: each lane takes the larger of its own number and the one `e` lanes on. -/
def maxStep (P : Prop) (dc : Decidable P) (e : ℕ) (m : IVec S16 32)
    (h : P → ∀ a x, ((![rot e] : Fin 1 → IVec S16 32) a x).toNat < S16.size a)
    (k : IVec S16 32 → Prog (TE F (ci i) (cj i)) α) : Prog (TE F (ci i) (cj i)) α :=
  .op (.assume P dc) fun w =>
  SparseCore.vectorLoadIdx (Memref.whole cc2_scratch2) ![rot e] (h w.down)
    (View.loads_vmem h_S16) >>= fun (g : IVec S16 32) =>
  .op (.load (Memref.whole cc2_scratch2) (Rect.unit (s := S16) ![0] S16.size inb_S16_S16_0).toLoadRect (View.loadsAt_vmem h_S16)) fun _ =>
  .op (.store (Memref.whole cc2_scratch2) (Rect.unit (s := S16) ![0] S16.size inb_S16_S16_0) (maxsi m g) Finset.univ
    (View.stores_vmem_bits_univ h_S16 rfl) (.inl rfl)) fun _ => k (maxsi m g)

/-- The largest count checked, and the first rows of the candidates emptied. -/
def needs (i : grid2.Coords) (v : BitVec 32)
    (p : (Σ' (v681 : BitVec 32) (_ : k2_chk13 i v681) (_ : BitVec 32) (_ : FVec F S16 .f32), IVec S16 32) → Prog (TE F (ci i) (cj i)) α) :
    Prog (TE F (ci i) (cj i)) α :=
  .op (.assume (k2_chk13 i v) (k2_chk13.dec i v)) fun w =>
  fill2From (Memref.whole cc2_scratch5) (Memref.whole cc2_scratch6) rfl rfl (k2_pay239 (F := F)) (k2_pay240 (fun _ => 0#32)) 0 1
  (p ⟨v, w.down, Scalar.minsi (Scalar.shrsi (Scalar.addi v 7#32) 3#32) 16#32, k2_pay239 (F := F), k2_pay240 (fun _ => 0#32)⟩)

/-- The largest of the sixteen counts, and what follows. -/
def maxCnt (i : grid2.Coords) (h1 : k2_cond1 i = 1#1) (v : IVec S16 32)
    (p : (Σ' (v681 : BitVec 32) (_ : k2_chk13 i v681) (_ : BitVec 32) (_ : FVec F S16 .f32), IVec S16 32) → Prog (TE F (ci i) (cj i)) α) :
    Prog (TE F (ci i) (cj i)) α :=
  .op (.load (Memref.whole cc2_scratch2) (Rect.unit (s := S16) ![0] S16.size inb_S16_S16_0).toLoadRect (View.loadsAt_vmem h_S16)) fun _ =>
  .op (.store (Memref.whole cc2_scratch2) (Rect.unit (s := S16) ![0] S16.size inb_S16_S16_0) v Finset.univ
    (View.stores_vmem_bits_univ h_S16 rfl) (.inl rfl)) fun _ =>
  maxStep (k2_chk9 i (rot 1)) (k2_chk9.dec i _) 1 v (fun w => k2_idx9_inb i (rot 1) w h1) fun v =>
  maxStep (k2_chk10 i (rot 2)) (k2_chk10.dec i _) 2 v (fun w => k2_idx10_inb i (rot 2) w h1) fun v =>
  maxStep (k2_chk11 i (rot 4)) (k2_chk11.dec i _) 4 v (fun w => k2_idx11_inb i (rot 4) w h1) fun v =>
  maxStep (k2_chk12 i (rot 8)) (k2_chk12.dec i _) 8 v (fun w => k2_idx12_inb i (rot 8) w h1) fun _ =>
  .op (.load (Memref.whole cc2_scratch2) (Rect.unit (s := S16) ![0] S16.size inb_S16_S16_0).toLoadRect (View.loadsAt_vmem h_S16)) fun (x : Vec F S16 .i32) =>
  needs i (extractAt ![0] (k2_pay238 (F := F) x) inpos_S1_p0) p

theorem seg45 (h1 : k2_cond1 i = 1#1) (v137 : IVec S16 32)
    (p : (Σ' (v681 : BitVec 32) (_ : k2_chk13 i v681) (_ : BitVec 32) (_ : FVec F S16 .f32), IVec S16 32) → Prog (TE F (ci i) (cj i)) α) :
    (fun v144 => (do
    let v178 : IVec S16 32 ← app (k2_part45 (F := F) i) (fun _ => 0#32) (fun _ => 1#32) v137 v144
    let v212 : IVec S16 32 ← app (k2_part46 (F := F) i) (fun _ => 0#32) (fun _ => 1#32) v137 v178
    let v247 : IVec S16 1 ← app (k2_part47 (F := F) i) (fun _ => 0#32) (fun _ => 1#32) v137 v212
    app (k2_part48 (F := F) i) (fun _ => 0#32) (fun _ => 1#32) v137 v247
    let v316 : IVec S16 32 ← app (k2_part49 (F := F) i) (fun _ => 0#32) (fun _ => 1#32) v137
    let c53_i32 : BitVec 32 ← app (k2_part50 (F := F) i) (fun _ => 0#32) (fun _ => 1#32) v137 v316
    let v384 : IVec S16 32 ← app (k2_part51 (F := F) i) (fun _ => 0#32) (fun _ => 1#32) v137 c53_i32
    let v418 : IVec S16 32 ← app (k2_part52 (F := F) i) (fun _ => 0#32) (fun _ => 1#32) v137 v384
    let v452 : IVec S16 32 ← app (k2_part53 (F := F) i) (fun _ => 0#32) (fun _ => 1#32) v137 v418
    let v487 : IVec S16 1 ← app (k2_part54 (F := F) i) (fun _ => 0#32) (fun _ => 1#32) v137 v452
    app (k2_part55 (F := F) i) (fun _ => 0#32) (fun _ => 1#32) v137 v487
    let v556 : IVec S16 32 ← app (k2_part56 (F := F) i) (fun _ => 0#32) (fun _ => 1#32) v137
    let c113_i32 : BitVec 32 ← app (k2_part57 (F := F) i) (fun _ => 0#32) (fun _ => 1#32) v137 v556
    let v624 : IVec S16 32 ← app (k2_part58 (F := F) i) (fun _ => 0#32) (fun _ => 1#32) v137 c113_i32
    let ⟨v656, c2_i32_139⟩ : Σ' (v656 : IVec S16 32), BitVec 32 ← app (k2_part59 (F := F) i) lanes (fun _ => 0#32) (fun _ => 1#32) h1 v137 v624
    let ⟨v681, k2_hw13, v684, v687, v689⟩ : Σ' (v681 : BitVec 32) (k2_hw13 : k2_chk13 i v681) (v684 : BitVec 32) (v687 : FVec F S16 .f32), IVec S16 32 ← app (k2_part60 (F := F) i) lanes (fun _ => 0#32) h1 v656 c2_i32_139
    p ⟨v681, k2_hw13, v684, v687, v689⟩)) (k2_pay99 (fun _ => 0#32) (fun _ => 1#32) v137) =
    fillFrom (Memref.whole cc2_scratch3) rfl
      (fun k => select (cmpi .sgt v137 (broadcast S16 (BitVec.ofNat 32 k))) (fun _ => 1#32) (fun _ => 0#32)) 1 127 (maxCnt i h1 v137 p) := by
  simp only [k2_part45_eq_skeleton, k2_part46_eq_skeleton, k2_part47_eq_skeleton, k2_part48_eq_skeleton, k2_part49_eq_skeleton, k2_part50_eq_skeleton, k2_part51_eq_skeleton, k2_part52_eq_skeleton, k2_part53_eq_skeleton, k2_part54_eq_skeleton, k2_part55_eq_skeleton, k2_part56_eq_skeleton, k2_part57_eq_skeleton, k2_part58_eq_skeleton, k2_part59_eq_skeleton, k2_part60_eq_skeleton]
  rfl

theorem seg61 (v687 : FVec F S16 .f32) (v689 : IVec S16 32) (p : Prog (TE F (ci i) (cj i)) α) : (do
    app (k2_part61 (F := F) i) v687 v689
    app (k2_part62 (F := F) i) v687 v689
    app (k2_part63 (F := F) i) v687 v689
    app (k2_part64 (F := F) i) v687 v689
    app (k2_part65 (F := F) i) v687 v689
    app (k2_part66 (F := F) i) v687 v689
    app (k2_part67 (F := F) i) v687 v689
    app (k2_part68 (F := F) i) v687 v689
    app (k2_part69 (F := F) i) v687 v689
    app (k2_part70 (F := F) i) v687 v689
    app (k2_part71 (F := F) i) v687 v689
    app (k2_part72 (F := F) i) v687 v689
    p) =
    fill2From (Memref.whole cc2_scratch5) (Memref.whole cc2_scratch6) rfl rfl v687 v689 1 120 p := by
  simp only [k2_part61_eq_skeleton, k2_part62_eq_skeleton, k2_part63_eq_skeleton, k2_part64_eq_skeleton, k2_part65_eq_skeleton, k2_part66_eq_skeleton, k2_part67_eq_skeleton, k2_part68_eq_skeleton, k2_part69_eq_skeleton, k2_part70_eq_skeleton, k2_part71_eq_skeleton, k2_part72_eq_skeleton]
  rfl

/-- After taking in `e` lanes: every number among them is bounded, and nothing exceeds 128. -/
structure MaxI (v m : IVec S16 32) (e : ℕ) : Prop where
  le : ∀ l < 16, ∀ e' < e, (v (ln ((l + e') % 16))).toNat ≤ (m (ln l)).toNat
  bd : ∀ l < 16, (m (ln l)).toNat ≤ 128

theorem rot_ln (e l : ℕ) (he : e < 16) (hl : l < 16) : (rot e (ln l)).toNat = (l + e) % 16 := by
  show (IntOp.andi (IntOp.addi (lanes (ln l)) (BitVec.ofNat 32 e)) 15#32).toNat = _
  have h1 : (BitVec.ofNat 32 e).toNat = e := by
    rw [BitVec.toNat_ofNat]
    omega
  have h2 : (IntOp.addi (lanes (ln l)) (BitVec.ofNat 32 e)).toNat = l + e := by
    rw [toNat_addi (by rw [lanes_toNat l hl, h1]; omega), lanes_toNat l hl, h1]
  unfold IntOp.andi
  rw [BitVec.toNat_and, h2]
  exact Nat.and_two_pow_sub_one_eq_mod (l + e) 4

theorem rot_lt (e : ℕ) (he : e < 16) : ∀ a x, ((![rot e] : Fin 1 → IVec S16 32) a x).toNat < S16.size a := by
  intro a x
  rw [Subsingleton.elim a 0]
  show (rot e x).toNat < 16
  rw [eq_ix x]
  have := rot_ln e (x 0).val he (ix_lt x)
  rw [show ix 16 (x 0).val = ln (x 0).val from rfl, this]
  omega

theorem maxsi_small {x y : BitVec 32} (hx : x.toNat < 2 ^ 31) (hy : y.toNat < 2 ^ 31) : (IntOp.maxsi x y).toNat = max x.toNat y.toNat := by
  unfold IntOp.maxsi
  rw [slt_small hy hx]
  by_cases h : y.toNat < x.toNat
  · simp [h]; omega
  · simp [h]; omega

theorem MaxI.step {v m g : IVec S16 32} {e : ℕ} (he : e < 16) (H : MaxI v m e) (hg : ∀ l < 16, g (ln l) = m (ln ((l + e) % 16))) :
    MaxI v (maxsi m g) (2 * e) := by
  have hb : ∀ l < 16, ((maxsi m g) (ln l)).toNat = max (m (ln l)).toNat (m (ln ((l + e) % 16))).toNat := fun l hl => by
    show (IntOp.maxsi (m (ln l)) (g (ln l))).toNat = _
    have h1 := H.bd l hl
    have h2 := H.bd ((l + e) % 16) (by omega)
    rw [hg l hl, maxsi_small (by omega) (by omega)]
  constructor
  · intro l hl e' he'
    rw [hb l hl]
    by_cases h : e' < e
    · exact (H.le l hl e' h).trans (le_max_left _ _)
    · have := H.le ((l + e) % 16) (by omega) (e' - e) (by omega)
      rw [show ((l + e) % 16 + (e' - e)) % 16 = (l + e') % 16 by omega] at this
      exact this.trans (le_max_right _ _)
  · intro l hl
    rw [hb l hl]
    exact max_le (H.bd l hl) (H.bd _ (by omega))

theorem store16 {σ : St F d (ci i) (cj i)} (w : IVec S16 32) (l : ℕ) (hl : l < 16) :
    rd (e := .i32) (n := 16) (Memref.whole cc2_scratch2) (Function.update σ (Memref.whole cc2_scratch2).view.ref
      (((Memref.whole cc2_scratch2).access (Rect.unit (s := S16) ![0] S16.size inb_S16_S16_0)).write (Elt F)
        (σ (Memref.whole cc2_scratch2).view.ref) w Finset.univ)) l = w (ln l) := by
  refine (rd_store (e := .i32) (n := 16) (Memref.whole cc2_scratch2) σ 0 16 inb_S16_S16_0 w l hl).trans ?_
  rw [if_pos (by omega)]
  rfl

theorem maxStep_tr (hs : ∀ b ∈ scratches, Scr t b) {P : Prop} {dc : Decidable P} (hP : P) {e : ℕ} (he : e < 16) {v m : IVec S16 32} {h}
    (H : MaxI v m e) {σ : St F d (ci i) (cj i)} (hr : ∀ l < 16, rd (e := .i32) (n := 16) (Memref.whole cc2_scratch2) σ l = m (ln l))
    {k : IVec S16 32 → Prog (TE F (ci i) (cj i)) α} {Q : α → St F d (ci i) (cj i) → Prop} (ho : Only [cc2_scratch2] σ₀ σ)
    (hk : ∀ m' σ', MaxI v m' (2 * e) → (∀ l < 16, rd (e := .i32) (n := 16) (Memref.whole cc2_scratch2) σ' l = m' (ln l)) →
      Only [cc2_scratch2] σ₀ σ' → Tr t (k m') σ' Q) : Tr t (maxStep P dc e m h k) σ Q := by
  unfold maxStep
  refine Tr.assume hP fun _ => Tr.gath (hs _ (by decide)).mem (hs _ (by decide)).elems (Tr.loadS (hs _ (by decide)) (Tr.storeS (hs _ (by decide))
    (hk _ _ (H.step he fun l hl => ?_) (fun l hl => store16 _ l hl) (ho.update (by decide) _))))
  rw [loadIdx_ln (n := 16), rot_ln e l he hl]
  exact hr _ (by omega)

theorem maxCnt_tr (hs : ∀ b ∈ scratches, Scr t b) (h1 : k2_cond1 i = 1#1) {v : IVec S16 32} (hv : ∀ l < 16, (v (ln l)).toNat ≤ 128)
    {p : (Σ' (v681 : BitVec 32) (_ : k2_chk13 i v681) (_ : BitVec 32) (_ : FVec F S16 .f32), IVec S16 32) → Prog (TE F (ci i) (cj i)) α}
    {Q : α → St F d (ci i) (cj i) → Prop} {σ : St F d (ci i) (cj i)}
    (hk : ∀ (m : BitVec 32) σ', m.toNat ≤ 128 → (∀ l < 16, (v (ln l)).toNat ≤ m.toNat) → Only [cc2_scratch2] σ σ' → Tr t (needs i m p) σ' Q) :
    Tr t (maxCnt i h1 v p) σ Q := by
  unfold maxCnt
  refine Tr.loadS (hs _ (by decide)) (Tr.storeS (hs _ (by decide)) ?_)
  refine maxStep_tr hs (fun _ => rot_lt 1 (by omega)) (by omega) (v := v) ⟨fun l hl e' he' => ?_, hv⟩ (fun l hl => store16 _ l hl)
    ((Only.refl _ σ).update (by decide) _) fun m σ' H hr ho => ?_
  · rw [show (l + e') % 16 = l by omega]
  refine maxStep_tr hs (fun _ => rot_lt 2 (by omega)) (by omega) H hr ho fun m σ' H hr ho => ?_
  refine maxStep_tr hs (fun _ => rot_lt 4 (by omega)) (by omega) H hr ho fun m σ' H hr ho => ?_
  refine maxStep_tr hs (fun _ => rot_lt 8 (by omega)) (by omega) H hr ho fun m σ' H hr ho => ?_
  refine Tr.loadS (hs _ (by decide)) ?_
  have e : extractAt ![0] (k2_pay238 (F := F) ((Memref.whole cc2_scratch2).view.readAt (Elt F)
      (Rect.unit (s := S16) ![0] S16.size inb_S16_S16_0).toLoadRect (σ' (Memref.whole cc2_scratch2).view.ref))) inpos_S1_p0 = m (ln 0) := by
    refine Eq.trans ?_ ((rd_load (e := .i32) (n := 16) (Memref.whole cc2_scratch2) σ' 0 16 inb_S16_S16_0 0 (by omega)).trans (hr 0 (by omega)))
    unfold extractAt k2_pay238 extractStridedSlice
    congr 1
    funext a
    rw [Subsingleton.elim a 0]
    rfl
  rw [e]
  refine hk _ _ (H.bd 0 (by omega)) (fun l hl => ?_) ho
  have := H.le 0 (by omega) l (by omega)
  rwa [show (0 + l) % 16 = l by omega] at this

/-! ### All the preparation -/

theorem w44 (h1 : k2_cond1 i = 1#1) : app (k2_part44 (F := F) i) lanes (fun _ => 0#32) (fun _ => 1#32) h1 =
    fillFrom (Memref.whole cc2_scratch1) rfl (fun _ _ => 0#32) 114 14
     (((Scf.Loop.for k2_t1_loop (k2_t1_ok i h1) (fun _ => 0#32) (app (k2_t1_body (F := F) i) lanes (fun _ => 0#32) (fun _ => 1#32) h1)) >>= fun v137 =>
      fillFrom (Memref.whole cc2_scratch3) rfl (fun k => select (cmpi .sgt v137 (broadcast S16 (BitVec.ofNat 32 k))) (fun _ => 1#32) (fun _ => 0#32))
        0 1 (.ret ⟨v137, k2_pay99 (fun _ => 0#32) (fun _ => 1#32) v137⟩))) := by
  rw [k2_part44_eq_skeleton]
  rfl

/-- Sixteen lanes of the occupied slots. -/
abbrev occ (v : IVec S16 32) (k : ℕ) : IVec S16 32 := select (cmpi .sgt v (broadcast S16 (BitVec.ofNat 32 k))) (fun _ => 1#32) (fun _ => 0#32)

theorem occ_ln (v : IVec S16 32) (k l : ℕ) (hk : k < 128) (hv : (v (ln l)).toNat ≤ 128) :
    occ v k (ln l) = if k < (v (ln l)).toNat then 1#32 else 0#32 := by
  show (if BitVec.ofBool ((BitVec.ofNat 32 k).slt (v (ln l))) = 1 then 1#32 else 0#32) = _
  have e : (BitVec.ofNat 32 k).toNat = k := by
    rw [BitVec.toNat_ofNat]
    omega
  rw [slt_small (by rw [e]; omega) (by omega), e]
  by_cases h : k < (v (ln l)).toNat
  · rw [if_pos h, decide_eq_true h]
    rfl
  · rw [if_neg h, decide_eq_false h]
    rfl

theorem pay240_eq : k2_pay240 (fun _ => 0#32) = fun _ => 2147483647#32 := by
  funext x
  show 0#32 + 2147483647#32 = _
  exact BitVec.zero_add _

theorem hot_tr (hs : ∀ b ∈ scratches, Scr t b) (h1 : k2_cond1 i = 1#1) (mx : ℕ → F .f32) (hmx : ∀ k, mvOf σ₀ k = mx k)
    (hle : ∀ l < 16, (hotL mx 1280 l).length ≤ 128) {σ : St F d (ci i) (cj i)} (ho : Only [cc2_scratch1] σ₀ σ)
    (hz : ∀ k < 2064, rd (e := .i32) (n := 2064) (Memref.whole cc2_scratch1) σ k = if k < 16 * 114 then (0#32 : BitVec 32)
      else rd (e := .i32) (n := 2064) (Memref.whole cc2_scratch1) σ₀ k) :
    Tr t (app (k2_part44 (F := F) i) lanes (fun _ => 0#32) (fun _ => 1#32) h1) σ fun r σ' =>
      r.2 = k2_pay99 (fun _ => 0#32) (fun _ => 1#32) r.1 ∧ (∀ l < 16, (r.1 (ln l)).toNat = (hotL mx 1280 l).length) ∧
      Only [cc2_scratch1, cc2_scratch3] σ₀ σ' ∧
      Lists (e := .i32) (Memref.whole cc2_scratch1) σ' (fun l => (hotL mx 1280 l : List (BitVec 32))) (0#32 : BitVec 32) ∧
      ∀ l < 16, rd (e := .i32) (n := 2048) (Memref.whole cc2_scratch3) σ' l = occ r.1 (l / 16) (ln (l % 16)) := by
  refine Tr.conv (w44 h1) (fillFrom_tr (n := 2064) (e := .i32) (M := Memref.whole cc2_scratch1) (hs _ (by decide)) 14 114 (by omega) ho hz
    fun σ1 ho1 hz1 => ?_)
  have hm1 : mvOf σ1 = mx := by
    funext k
    rw [← hmx k]
    unfold mvOf
    rw [ho1.rd2 (n := 160) (m := 128) (Memref.whole cc2_scratch0) (by decide)]
  refine Tr.bind (hot_loop hs (by rw [hm1]; exact hle) h1 fun k hk => ?_) fun v σ2 H => ?_
  · rw [hz1 k (by omega), if_pos (by omega)]
  refine fillFrom_tr (n := 2048) (e := .i32) (M := Memref.whole cc2_scratch3) (hs _ (by decide)) 1 0 (by omega) (Only.refl _ σ2)
    (fun l hl => by rw [if_neg (by omega)]) fun σ3 ho3 hz3 => Tr.ret ⟨rfl, ?_, ?_, ?_, ?_⟩
  · intro l hl
    show (v (ln l)).toNat = _
    rw [H.cnt l hl, hm1]
  · exact ((ho1.trans H.only).trans ho3).mono (by decide)
  · intro l hl k hk
    rw [ho3.rd (n := 2064) (Memref.whole cc2_scratch1) (by decide), H.lists l hl k hk, hm1]
  · intro l hl
    rw [hz3 l (by omega), if_pos (by omega)]

/-- From the maxima to the empty candidates. -/
theorem ready_tr (hs : ∀ b ∈ scratches, Scr t b) (h1 : k2_cond1 i = 1#1) (mx : ℕ → F .f32) (hmx : ∀ k, mvOf σ₀ k = mx k)
    (hle : ∀ l < 16, (hotL mx 1280 l).length ≤ 128) {Q : α → St F d (ci i) (cj i) → Prop}
    {g : (Σ' (_ : IVec S16 32), IVec S16 32) → Prog (TE F (ci i) (cj i)) α}
    {q : (Σ' (v681 : BitVec 32) (_ : k2_chk13 i v681) (_ : BitVec 32) (_ : FVec F S16 .f32), IVec S16 32) → Prog (TE F (ci i) (cj i)) α}
    {p : ∀ v681 : BitVec 32, k2_chk13 i v681 → Prog (TE F (ci i) (cj i)) α}
    (hg : ∀ v, g ⟨v, k2_pay99 (fun _ => 0#32) (fun _ => 1#32) v⟩ = fillFrom (Memref.whole cc2_scratch3) rfl (occ v) 1 127 (maxCnt i h1 v q))
    (hq : ∀ (v : BitVec 32) (w : k2_chk13 i v), q ⟨v, w, Scalar.minsi (Scalar.shrsi (Scalar.addi v 7#32) 3#32) 16#32, k2_pay239 (F := F), fun _ => 2147483647#32⟩ =
      fill2From (Memref.whole cc2_scratch5) (Memref.whole cc2_scratch6) rfl rfl (k2_pay239 (F := F)) (fun _ => 2147483647#32) 1 120 (p v w))
    (hp : ∀ (m : BitVec 32) (w : k2_chk13 i m) σ', Only [cc2_scratch1, cc2_scratch3, cc2_scratch2, cc2_scratch5, cc2_scratch6] σ₀ σ' →
      (∀ k < 1936, rd (e := .f32) (n := 2064) (Memref.whole cc2_scratch5) σ' k = k2_pay239 (F := F) (ln 0) ∧
        rd (e := .i32) (n := 2064) (Memref.whole cc2_scratch6) σ' k = (2147483647#32 : BitVec 32)) →
      Lists (e := .i32) (Memref.whole cc2_scratch1) σ' (fun l => (hotL mx 1280 l : List (BitVec 32))) (0#32 : BitVec 32) →
      (∀ l < 16, ∀ s < 128, rd (e := .i32) (n := 2048) (Memref.whole cc2_scratch3) σ' (16 * s + l)
        = if s < (hotL mx 1280 l).length then (1#32 : BitVec 32) else 0#32) →
      (∀ l < 16, (hotL mx 1280 l).length ≤ m.toNat) → m.toNat ≤ 128 → Tr t (p m w) σ' Q)
     :
    Tr t (fillFrom (Memref.whole cc2_scratch1) rfl (fun _ _ => 0#32) 0 114
      (app (k2_part44 (F := F) i) lanes (fun _ => 0#32) (fun _ => 1#32) h1 >>= g)) σ₀ Q := by
  refine fillFrom_tr (n := 2064) (e := .i32) (M := Memref.whole cc2_scratch1) (hs _ (by decide)) 114 0 (by omega) (Only.refl _ σ₀)
    (fun l hl => by rw [if_neg (by omega)]) fun σ1 ho1 hz1 => ?_
  refine Tr.bind (hot_tr hs h1 mx hmx hle ho1 fun k hk => hz1 k hk) ?_
  rintro ⟨v, v'⟩ σ2 ⟨hv', hv, ho2, hL, hz2⟩
  obtain rfl : v' = k2_pay99 (fun _ => 0#32) (fun _ => 1#32) v := hv'
  refine Tr.conv (hg v) (fillFrom_tr (n := 2048) (e := .i32) (M := Memref.whole cc2_scratch3) (hs _ (by decide)) 127 1 (by omega) (Only.refl _ σ2)
    (fun l hl => ?_) fun σ3 ho3 hz3 => ?_)
  · by_cases h : l < 16
    · rw [if_pos (by omega), hz2 l h]
    · rw [if_neg (by omega)]
  have hv128 : ∀ l < 16, (v (ln l)).toNat ≤ 128 := fun l hl => by
    have h := hv l hl
    exact h.trans_le (hle l hl)
  refine maxCnt_tr hs h1 hv128 fun m σ4 hm hml ho4 => ?_
  unfold needs
  refine Tr.assume (chk13 m hm) fun w => ?_
  rw [pay240_eq]
  have e239 : k2_pay239 (F := F) = fun _ => k2_pay239 (F := F) (ln 0) := rfl
  have hfill := fun (p : Prog (TE F (ci i) (cj i)) α) Q σ₀ => @fill2From_tr F _ d (ci i) (cj i) α 2064 _ .f32 .i32 (Memref.whole cc2_scratch5) (Memref.whole cc2_scratch6)
    rfl rfl (k2_pay239 (F := F) (ln 0)) (2147483647#32 : BitVec 32) t (hs _ (by decide)) (hs _ (by decide)) (by decide) p Q σ₀
  refine hfill _ _ σ4 1 0 (by omega) (Only.refl _ σ4) (fun l _ h => absurd h (by omega)) fun σ5 ho5 hz5 => ?_
  refine Tr.conv (hq m w) ?_
  refine hfill _ _ σ4 120 1 (by omega) ho5 (fun l hl h => hz5 l hl (by omega)) fun σ6 ho6 hz6 => ?_
  have hO : Only [cc2_scratch3, cc2_scratch2, cc2_scratch5, cc2_scratch6] σ2 σ6 := ((ho3.trans ho4).trans ho6).mono (by decide)
  refine hp m w σ6 ((ho2.trans hO).mono (by decide)) (fun k hk => hz6 k (by omega) (by omega)) ?_ ?_ (fun l hl => ?_) hm
  · intro l hl k hk
    rw [hO.rd (n := 2064) (Memref.whole cc2_scratch1) (by decide), hL l hl k hk]
  · intro l hl s hs'
    have hO' := (ho4.trans ho6).rd (n := 2048) (Memref.whole cc2_scratch3) (by decide) (16 * s + l)
    rw [hO', hz3 _ (by omega), if_pos (by omega), show (16 * s + l) / 16 = s by omega, show (16 * s + l) % 16 = l by omega]
    refine (occ_ln v s l hs' (hv128 l hl)).trans ?_
    have h := hv l hl
    rw [show (v (ln l)).toNat = (hotL mx 1280 l).length from h]
  · have h := hv l hl
    exact (Eq.symm h).trans_le (hml l hl)

end Cert.Proof.Ker

end
-- ==== Proof.Fetch.lean ====
/-
  Fetching rows of a table.
-/
module

public import proofs.«01_k».proof.Proof.Hot

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {d : Dev nD} {c : Fin τ.nSC} {j : Fin τ.nSub} {α : Type}

theorem rowMajor_symm_one {m : ℕ} [NeZero m] (r : ℕ) (hr : r < m) (h : r < (⟨1, ![m]⟩ : Shape).numel) :
    (⟨1, ![m]⟩ : Shape).rowMajor.symm ⟨r, h⟩ = ix m r := by
  rw [Equiv.symm_apply_eq]
  refine Fin.ext ?_
  rw [Shape.rowMajor_val_one]
  exact (Nat.mod_eq_of_lt hr).symm

/-- Rows of a table fetched: row `r` of the destination becomes the row of the table that entry `r` of the list names. -/
theorem fetch_gen {n m w : ℕ} [NeZero n] [NeZero m] [NeZero w] {t : Holds F d c j} {src : Memref sig .scVector .hbm ⟨2, ![n, w]⟩ .f32}
    {dst : Memref sig .scVector .vmem ⟨2, ![m, w]⟩ .f32} {hg : (⟨2, ![n, w]⟩ : Shape).Gathers 0 ⟨2, ![m, w]⟩}
    {offs : Memref sig .scVector .vmem ⟨1, ![m]⟩ .i32} {hn : (⟨1, ![m]⟩ : Shape).numel = (⟨2, ![m, w]⟩ : Shape).size hg.axis'} {sem : DmaSem sig}
    {hp : (Proc.scVector c j : Proc τ).kind = .scVector} {hsrc : src.view.WordExact} {he : EltTy.f32.bits = 32} {hsp : Space.hbm = .hbm ∨ Space.hbm = .shared}
    {hr : (⟨2, ![n, w]⟩ : Shape).StreamRows 0}
    {sp₁ : Space} {s₁ : Shape} {e₁ : EltTy} {srcw : Memref sig .scVector sp₁ s₁ e₁} {hsrcw : srcw.view.WordExact} {hdstw : dst.view.WordExact}
    {k : PUnit → Prog (TE F c j) α} {σ : St F d c j} {Q : α → St F d c j → Prop}
    (hN : ∑ j, (dst.slice ((⟨2, ![m, w]⟩ : Shape).rowRect hg.axis' j) ((⟨2, ![m, w]⟩ : Shape).stride_rowRect hg.axis' j)).view.dmaCredit = dst.view.dmaCredit)
    (hs : Scr t dst.view.ref) (hset : dst.view.set = Finset.univ) (hne : src.view.ref ≠ dst.view.ref) (hno : offs.view.ref ≠ dst.view.ref)
    (hso : offs.view.ref ≠ src.view.ref)
    (hbs : src.view.ref ∈ t.bufs) (hSs : t.elems src.view.ref = Finset.univ) (hbo : Scr t offs.view.ref) (hsm : SemLoc.dma sem ∈ t.sems)
    (hin : ∀ r < m, (rd (e := .i32) offs σ r).toNat < n)
    (hk : ∀ σ', Only [dst.view.ref] σ σ' → (∀ r < m, ∀ q < w, rd2 (e := .f32) dst σ' r q
      = src.view.read (Elt F) (σ src.view.ref) (ix2 n w (rd (e := .i32) offs σ r).toNat q)) → Tr t (k ⟨⟩) σ' Q) :
    Tr t (SparseCore.enqueueIndirectGather hp src dst hg offs hn sem hsrc he hsp hr >>= fun _ =>
      .op (.waitDma2 sem srcw dst hsrcw hdstw) k) σ Q := by
  have hoff : offs.view.set ⊆ t.elems offs.view.ref := by rw [hbo.elems]; exact Finset.subset_univ _
  have hsrcs : src.view.set ⊆ t.elems src.view.ref := by rw [hSs]; exact Finset.subset_univ _
  have hin' : ∀ x, (offs.view.read (Elt F) (σ offs.view.ref) x).toNat < (⟨2, ![n, w]⟩ : Shape).size hg.axis := fun x => by
    rw [eq_ix x]
    exact hin _ (ix_lt x)
  have h0 : 0 < (⟨2, ![m, w]⟩ : Shape).numel := Shape.numel_pos fun a => by
    refine a.cases ?_ fun b => ?_
    · exact NeZero.pos m
    · rw [Subsingleton.elim b 0]
      exact NeZero.pos w
  refine Tr.gather (hg := hg) hne hno hso hbs hs.mem hbo.mem hsrcs (hset.trans hs.elems.symm) hoff hs.share hsm hN h0 hin'
    (hk _ ((Only.refl _ σ).update (by simp) _) fun r hr q hq => ?_)
  show View.read (Elt F) dst.view _ (ix2 m w r q) = _
  rw [Function.update_self, View.read_write_univ]
  unfold SparseCore.gatherPayload
  congr 1
  rw [eq_ix2 (hg.idx _ _)]
  have e0 : (hg.idx (SparseCore.rows (offs.view.read (Elt F) (σ offs.view.ref)) hn hin') (ix2 m w r q) (0 : Fin 2)).val
      = (rd (e := .i32) offs σ r).toNat := by
    have h := congrArg Fin.val (hg.idx_axis (SparseCore.rows (offs.view.read (Elt F) (σ offs.view.ref)) hn hin') (ix2 m w r q))
    refine h.trans ?_
    unfold SparseCore.rows
    show (offs.view.read (Elt F) (σ offs.view.ref) _).toNat = _
    unfold rd
    congr 2
    have := rowMajor_symm_one (m := m) r hr (by rw [hn]; exact hr)
    rw [← this]
    congr 1
    exact Fin.ext (Nat.mod_eq_of_lt hr)
  have e1 : (hg.idx (SparseCore.rows (offs.view.read (Elt F) (σ offs.view.ref)) hn hin') (ix2 m w r q) (1 : Fin 2)).val = q := by
    rw [hg.idx_of_ne _ _ (1 : Fin 2) (show (1 : ℕ) ≠ 0 from one_ne_zero)]
    exact Nat.mod_eq_of_lt hq
  rw [e0, e1]

theorem chunk_credit : ∑ j, ((Memref.whole cc2_scratch4).slice (S128x128.rowRect (0 : Fin 2) j) (S128x128.stride_rowRect (0 : Fin 2) j)).view.dmaCredit
      = (Memref.whole cc2_scratch4).view.dmaCredit := by
  decide

theorem rd_slice {cs : CoreSpace} {n : ℕ} [NeZero n] {e : EltTy} (M : Memref sig .scVector cs ⟨1, ![n]⟩ e) (σ : St F d c j)
    (off : Fin 1 → ℕ) (L : ℕ) [NeZero L] (inb : ∀ a, off a + (![L] : Fin 1 → ℕ) a ≤ (![n] : Fin 1 → ℕ) a) (k : ℕ) (hk : k < L) :
    rd (M.slice (Rect.unit (s := ⟨1, ![n]⟩) off ![L] inb) (fun _ => rfl)) σ k = rd M σ (off 0 + k) := by
  obtain ⟨o, rfl⟩ : ∃ o, off = ![o] := ⟨off 0, by funext a; rw [Subsingleton.elim a 0]; rfl⟩
  exact rd_load M σ o L inb k hk

/-- A table fetched into the chunk by the numbers from `off` on of a list. -/
theorem fetch_tr {n k₀ : ℕ} [NeZero n] [NeZero k₀] {t : Holds F d c j} {src : Memref sig .scVector .hbm ⟨2, ![n, 128]⟩ .f32} {hg : (⟨2, ![n, 128]⟩ : Shape).Gathers 0 S128x128}
    {L : Memref sig .scVector .vmem ⟨1, ![k₀]⟩ .i32} {off : Fin 1 → ℕ} {inb : ∀ a, off a + (![128] : Fin 1 → ℕ) a ≤ (![k₀] : Fin 1 → ℕ) a}
    {hn : S128.numel = S128x128.size hg.axis'} {sem : DmaSem sig}
    {hp : (Proc.scVector c j : Proc τ).kind = .scVector} {hsrc : src.view.WordExact} {he : EltTy.f32.bits = 32} {hsp : Space.hbm = .hbm ∨ Space.hbm = .shared}
    {hr : (⟨2, ![n, 128]⟩ : Shape).StreamRows 0}
    {sp₁ : Space} {s₁ : Shape} {e₁ : EltTy} {srcw : Memref sig .scVector sp₁ s₁ e₁} {hsrcw : srcw.view.WordExact} {hdstw : (Memref.whole cc2_scratch4).view.WordExact}
    {k : PUnit → Prog (TE F c j) α} {σ : St F d c j} {Q : α → St F d c j → Prop}
    (hs : Scr t cc2_scratch4) (hne : src.view.ref ≠ cc2_scratch4) (hno : L.view.ref ≠ cc2_scratch4) (hso : L.view.ref ≠ src.view.ref)
    (hbs : src.view.ref ∈ t.bufs) (hSs : t.elems src.view.ref = Finset.univ) (hbo : Scr t L.view.ref) (hsm : SemLoc.dma sem ∈ t.sems)
    (hin : ∀ r < 128, (rd (e := .i32) L σ (off 0 + r)).toNat < n)
    (hk : ∀ σ', Only [cc2_scratch4] σ σ' → (∀ r < 128, ∀ q < 128, rd2 (e := .f32) (n := 128) (m := 128) (Memref.whole cc2_scratch4) σ' r q
      = src.view.read (Elt F) (σ src.view.ref) (ix2 n 128 (rd (e := .i32) L σ (off 0 + r)).toNat q)) → Tr t (k ⟨⟩) σ' Q) :
    Tr t (SparseCore.enqueueIndirectGather hp src (Memref.whole cc2_scratch4) hg (L.slice (Rect.unit (s := ⟨1, ![k₀]⟩) off ![128] inb) (fun _ => rfl)) hn sem hsrc he hsp hr
      >>= fun _ => .op (.waitDma2 sem srcw (Memref.whole cc2_scratch4) hsrcw hdstw) k) σ Q := by
  have hrd := fun r hr => rd_slice (F := F) (e := .i32) L σ off 128 inb r hr
  refine fetch_gen (m := 128) (w := 128) (hg := hg) chunk_credit hs ?_ hne hno hso hbs hSs hbo hsm (fun r hr => ?_) fun σ' ho h => hk σ' ho fun r hr q hq => ?_
  · exact View.set_whole _
  · rw [hrd r hr]
    exact hin r hr
  · refine (h r hr q hq).trans ?_
    rw [hrd r hr]

end Cert.Proof.Ker

end
-- ==== Proof.Cand.lean ====
/-
  Gathering the candidates.
-/
module

public import proofs.«01_k».proof.Proof.Chunk
public import proofs.«01_k».proof.Proof.Fetch

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {d : Dev nD} {i : grid2.Coords} {t : Holds F d (ci i) (cj i)} {σ₀ : St F d (ci i) (cj i)} {α : Type}

/-- A list grown by trying `f` at 0, 1, ... -/
def keep {β : Type} (f : ℕ → Option β) (n : ℕ) : List β := (List.range n).filterMap f

theorem keep_succ {β : Type} (f : ℕ → Option β) (n : ℕ) : keep f (n + 1) = keep f n ++ (f n).toList := by
  unfold keep
  rw [List.range_succ, List.filterMap_append]
  cases h : f n <;> simp [h]

theorem keep_mono {β : Type} (f : ℕ → Option β) {n n' : ℕ} (h : n ≤ n') : (keep f n).length ≤ (keep f n').length := by
  induction n' with
  | zero => rw [Nat.le_zero.mp h]
  | succ k ih =>
    rcases Nat.lt_or_eq_of_le h with h | h
    · refine (ih (by omega)).trans ?_
      rw [keep_succ]
      simp
    · rw [h]

/-- The query in entry `e` of the hot lists. -/
def bidOf (mx : ℕ → F .f32) (e : ℕ) : BitVec 32 := (hotL mx 1280 (e % 16))[e / 16]?.getD 0#32

/-- Entry `e` of the hot lists is one. -/
def isOcc (mx : ℕ → F .f32) (e : ℕ) : Prop := e / 16 < (hotL mx 1280 (e % 16)).length

instance (mx : ℕ → F .f32) (e : ℕ) : Decidable (isOcc mx e) := inferInstanceAs (Decidable (_ < _))

/-- What lane `l` gets from group `g`: five groups of sixteen classes for each entry. -/
def candF (mx : ℕ → F .f32) (lg : ℕ → ℕ → F .f32) (l g : ℕ) : Option (ℕ × ℕ) :=
  if isOcc mx (g / 5) ∧ ge (lg (bidOf mx (g / 5)).toNat (16 * (g % 5) + l)) then some ((bidOf mx (g / 5)).toNat, 16 * (g % 5) + l) else none

/-- The candidates of lane `l` after `n` groups. -/
abbrev candL (mx : ℕ → F .f32) (lg : ℕ → ℕ → F .f32) (n l : ℕ) : List (ℕ × ℕ) := keep (candF mx lg l) n

/-- A candidate's number. -/
abbrev num (p : ℕ × ℕ) : BitVec 32 := BitVec.ofNat 32 (80 * p.1 + p.2)

/-- The scores of sixteen logits. -/
def sigV (x : FVec F S16 .f32) : FVec F S16 .f32 :=
  divf (broadcast S16 (Scalar.ofBits .f32 0x3F800000#32)) (addf (broadcast S16 (Scalar.ofBits .f32 0x3F800000#32))
    (exp (subf (broadcast S16 (Scalar.ofBits .f32 0x00000000#32)) x)))

/-- The state once `n` groups have been gone through. -/
structure CandI (mx : ℕ → F .f32) (lg : ℕ → ℕ → F .f32) (sg : F .f32 → F .f32) (σ₀ : St F d (ci i) (cj i)) (n : ℕ) (cnt : IVec S16 32)
    (σ : St F d (ci i) (cj i)) : Prop where
  only : Only [cc2_scratch4, cc2_scratch5, cc2_scratch6] σ₀ σ
  cv : Lists (e := .f32) (Memref.whole cc2_scratch5) σ (fun l => (candL mx lg n l).map fun p => sg (lg p.1 p.2)) (k2_pay239 (F := F) (ln 0))
  ci : Lists (e := .i32) (Memref.whole cc2_scratch6) σ (fun l => ((candL mx lg n l).map num : List (BitVec 32))) (2147483647#32 : BitVec 32)
  cnt : ∀ l < 16, (cnt (ln l)).toNat = (candL mx lg n l).length

theorem cand_inb (r : Fin k2_t3_loop.trips) (v : ℕ) (hv : v < 8) :
    ∀ a, (![(Scalar.indexCast (Scf.iv 0#32 1#32 r)).toNat, 16 * v] : Fin 2 → ℕ) a + S1x16.size a ≤ S128x128.size a := by
  have ht : r.val < 128 := r.isLt
  have e : (Scalar.indexCast (Scf.iv 0#32 1#32 r)).toNat = r.val := iv01 r.val (by omega)
  intro a
  refine a.cases ?_ fun b => ?_
  · show (Scalar.indexCast (Scf.iv 0#32 1#32 r)).toNat + 1 ≤ 128
    omega
  · rw [Subsingleton.elim b 0]
    show 16 * v + 16 ≤ 128
    omega

/-- One group of sixteen classes of one entry. -/
def candStep (P : IVec S16 32 → Prop) (dc : ∀ p, Decidable (P p)) (r : Fin k2_t3_loop.trips) (v : ℕ) (hv : v < 8) (om : IVec S16 1) (b80 : IVec S16 32)
    (h : ∀ p, P p → ∀ a x, ((![p] : Fin 1 → IVec S16 32) a x).toNat < S2064.size a)
    (h' : ∀ p, P p → ∀ a x, ((![p] : Fin 1 → IVec S16 32) a x).toNat < S2064.size a) (cnt : IVec S16 32)
    (k : IVec S16 32 → Prog (TE F (ci i) (cj i)) α) : Prog (TE F (ci i) (cj i)) α :=
  .op (.load (Memref.whole cc2_scratch4) (Rect.unit (s := S128x128) ![(Scalar.indexCast (Scf.iv 0#32 1#32 r)).toNat, 16 * v] S1x16.size
    (cand_inb r v hv)).toLoadRect (View.loadsAt_vmem h_S1x16)) fun x =>
  .op (.assume (P (posOf (andi (geMask (row16 x)) om) cnt)) (dc _)) fun w =>
  SparseCore.vectorStoreIdx (Memref.whole cc2_scratch5) ![posOf (andi (geMask (row16 x)) om) cnt] (sigV (row16 x)) (fun _ => 1#1) false
    (h _ w.down) (View.stores_vmem_bits_univ h_S2064 rfl) >>= fun _ =>
  SparseCore.vectorStoreIdx (Memref.whole cc2_scratch6) ![posOf (andi (geMask (row16 x)) om) cnt]
    (addi b80 (addi (broadcast S16 (BitVec.ofNat 32 (16 * v))) lanes)) (fun _ => 1#1) false
    (h' _ w.down) (View.stores_vmem_bits_univ h_S2064 rfl) >>= fun _ =>
  k (bump (andi (geMask (row16 x)) om) cnt)

/-- One entry of the hot lists. -/
def candRow (h1 : k2_cond1 i = 1#1) (a : BitVec 32) (r : Fin k2_t3_loop.trips) (cnt : IVec S16 32) : Prog (TE F (ci i) (cj i)) (IVec S16 32) :=
  .op (.assume (k2_chk14 i (k2_pay28 (fun _ => 0#32) a 0#32 1#32 r)) (k2_chk14.dec i _)) fun w =>
  SparseCore.vectorLoadIdx (Memref.whole cc2_scratch1) ![k2_pay28 (fun _ => 0#32) a 0#32 1#32 r]
    (k2_idx13_inb i _ w.down h1) (View.loads_vmem h_S2064) >>= fun (bid : IVec S16 32) =>
  SparseCore.vectorLoadIdx (Memref.whole cc2_scratch3) ![k2_pay28 (fun _ => 0#32) a 0#32 1#32 r]
    (k2_idx14_inb i _ w.down h1) (View.loads_vmem h_S2048) >>= fun (vb : IVec S16 32) =>
  candStep (k2_chk15 i) (k2_chk15.dec i) r 0 (by omega) (k2_pay29 (F := F) vb) (k2_pay30 (F := F) bid) (fun p w => k2_idx15_inb i p w h1) (fun p w => k2_idx16_inb i p w h1) cnt fun cnt =>
  candStep (k2_chk16 i) (k2_chk16.dec i) r 1 (by omega) (k2_pay29 (F := F) vb) (k2_pay30 (F := F) bid) (fun p w => k2_idx17_inb i p w h1) (fun p w => k2_idx18_inb i p w h1) cnt fun cnt =>
  candStep (k2_chk17 i) (k2_chk17.dec i) r 2 (by omega) (k2_pay29 (F := F) vb) (k2_pay30 (F := F) bid) (fun p w => k2_idx19_inb i p w h1) (fun p w => k2_idx20_inb i p w h1) cnt fun cnt =>
  candStep (k2_chk18 i) (k2_chk18.dec i) r 3 (by omega) (k2_pay29 (F := F) vb) (k2_pay30 (F := F) bid) (fun p w => k2_idx21_inb i p w h1) (fun p w => k2_idx22_inb i p w h1) cnt fun cnt =>
  candStep (k2_chk19 i) (k2_chk19.dec i) r 4 (by omega) (k2_pay29 (F := F) vb) (k2_pay30 (F := F) bid) (fun p w => k2_idx23_inb i p w h1) (fun p w => k2_idx24_inb i p w h1) cnt fun cnt =>
  .ret cnt

theorem cand_body (h1 : k2_cond1 i = 1#1) (m : BitVec 32) (w : k2_chk13 i m) (v684 : BitVec 32) (v687 : FVec F S16 .f32) (v689 : IVec S16 32)
    (a : BitVec 32) (r : Fin k2_t3_loop.trips) (cnt : IVec S16 32) :
    app (k2_t3_body (F := F) i) lanes (fun _ => 0#32) (fun _ => 1#32) h1 m w v684 v687 v689 a r cnt = candRow h1 a r cnt := by
  unfold app k2_t3_body
  simp only [k2_part4_eq_skeleton, k2_part5_eq_skeleton, k2_part6_eq_skeleton]
  rfl

/-! ### The effect -/

variable {mx : ℕ → F .f32} {lg : ℕ → ℕ → F .f32} {sg : F .f32 → F .f32} {N : ℕ}

theorem candL_succ (n l : ℕ) : candL mx lg (n + 1) l =
    if isOcc mx (n / 5) ∧ ge (lg (bidOf mx (n / 5)).toNat (16 * (n % 5) + l)) then
      candL mx lg n l ++ [((bidOf mx (n / 5)).toNat, 16 * (n % 5) + l)] else candL mx lg n l := by
  rw [show candL mx lg (n + 1) l = keep (candF mx lg l) (n + 1) from rfl, keep_succ]
  unfold candF
  by_cases h : isOcc mx (n / 5) ∧ ge (lg (bidOf mx (n / 5)).toNat (16 * (n % 5) + l))
  · rw [if_pos h, if_pos h]
    rfl
  · rw [if_neg h, if_neg h]
    exact List.append_nil _

/-- The lanes of one group that hold a candidate. -/
abbrev isC (mx : ℕ → F .f32) (lg : ℕ → ℕ → F .f32) (n l : ℕ) : Prop :=
  isOcc mx (n / 5) ∧ ge (lg (bidOf mx (n / 5)).toNat (16 * (n % 5) + l))

theorem cand_next (hsg : ∀ (x : FVec F S16 .f32) l, sigV x (ln l) = sg (x (ln l))) (hle : ∀ l < 16, (candL mx lg N l).length ≤ 128)
    {n : ℕ} (hn : n + 1 ≤ N) {cnt : IVec S16 32} {σ : St F d (ci i) (cj i)} (H : CandI mx lg sg σ₀ n cnt σ) (x : FVec F S16 .f32) (m : IVec S16 1)
    (b80 : IVec S16 32)
    (hx : ∀ l < 16, isC mx lg n l → x (ln l) = lg (bidOf mx (n / 5)).toNat (16 * (n % 5) + l))
    (hm : ∀ l < 16, (m (ln l) = 1#1 ↔ isC mx lg n l))
    (hb : ∀ l < 16, isC mx lg n l → b80 (ln l) = BitVec.ofNat 32 (80 * (bidOf mx (n / 5)).toNat)) (h h') :
    CandI mx lg sg σ₀ (n + 1) (bump m cnt)
      (Function.update (Function.update σ (Memref.whole cc2_scratch5).view.ref (((Memref.whole cc2_scratch5).access (.whole S2064)).write (Elt F)
          (σ (Memref.whole cc2_scratch5).view.ref) (storeIdx (d := ![16]) (e := .f32) ((Memref.whole cc2_scratch5).view.read (Elt F)
            (σ (Memref.whole cc2_scratch5).view.ref)) ![posOf m cnt] (sigV x) (fun _ => 1#1) false h) Finset.univ))
        (Memref.whole cc2_scratch6).view.ref (((Memref.whole cc2_scratch6).access (.whole S2064)).write (Elt F)
          (Function.update σ (Memref.whole cc2_scratch5).view.ref (((Memref.whole cc2_scratch5).access (.whole S2064)).write (Elt F)
          (σ (Memref.whole cc2_scratch5).view.ref) (storeIdx (d := ![16]) (e := .f32) ((Memref.whole cc2_scratch5).view.read (Elt F)
            (σ (Memref.whole cc2_scratch5).view.ref)) ![posOf m cnt] (sigV x) (fun _ => 1#1) false h) Finset.univ) (Memref.whole cc2_scratch6).view.ref)
          (storeIdx (d := ![16]) (e := .i32) ((Memref.whole cc2_scratch6).view.read (Elt F)
            (Function.update σ (Memref.whole cc2_scratch5).view.ref (((Memref.whole cc2_scratch5).access (.whole S2064)).write (Elt F)
          (σ (Memref.whole cc2_scratch5).view.ref) (storeIdx (d := ![16]) (e := .f32) ((Memref.whole cc2_scratch5).view.read (Elt F)
            (σ (Memref.whole cc2_scratch5).view.ref)) ![posOf m cnt] (sigV x) (fun _ => 1#1) false h) Finset.univ) (Memref.whole cc2_scratch6).view.ref)) ![posOf m cnt]
          (addi b80 (addi (broadcast S16 (BitVec.ofNat 32 (16 * (n % 5)))) lanes)) (fun _ => 1#1) false h') Finset.univ)) := by
  have hc : ∀ l < 16, (cnt (ln l)).toNat ≤ 128 := fun l hl => by
    rw [H.cnt l hl]
    exact (keep_mono _ (by omega)).trans (hle l hl)
  have hp : ∀ {e : EltTy} (L : ℕ → List (Elt F e)) (_ : ∀ l < 16, (L l).length = (candL mx lg n l).length), ∀ l < 16,
      (posOf m cnt (ln l)).toNat = if isC mx lg n l then 16 * (L l).length + l else 2048 + l := fun L hL l hl => by
    rw [posOf_ln _ _ _ hl (hc l hl), H.cnt l hl, hL l hl]
    by_cases h : isC mx lg n l
    · rw [if_pos ((hm l hl).mpr h), if_pos h]
    · rw [if_neg (fun h' => h ((hm l hl).mp h')), if_neg h]
  have hlt : ∀ l < 16, isC mx lg n l → (candL mx lg n l).length < 128 := fun l hl h => by
    have := (keep_mono (candF mx lg l) hn).trans (hle l hl)
    rw [show keep (candF mx lg l) (n + 1) = candL mx lg (n + 1) l from rfl, candL_succ, if_pos h, List.length_append] at this
    exact this
  refine ⟨(H.only.update (by decide) _).update (by decide) _, ?_, ?_, ?_⟩
  · intro l hl k hk
    rw [rd_update_ne (n := 2064) (Memref.whole cc2_scratch5) _ (by decide)]
    refine (H.cv.scat (posOf m cnt) _ (sigV x) (isC mx lg n) (hp _ fun l _ => List.length_map _) (fun l hl h => ?_) l hl k hk).trans ?_
    · rw [List.length_map]
      exact hlt l hl h
    · congr 2
      beta_reduce
      rw [candL_succ]
      by_cases h : isC mx lg n l
      · rw [if_pos h, if_pos h, List.map_append, hsg, hx l hl h]
        rfl
      · rw [if_neg h, if_neg h]
  · have H' : Lists (e := .i32) (Memref.whole cc2_scratch6) (Function.update σ (Memref.whole cc2_scratch5).view.ref (((Memref.whole cc2_scratch5).access (.whole S2064)).write (Elt F)
          (σ (Memref.whole cc2_scratch5).view.ref) (storeIdx (d := ![16]) (e := .f32) ((Memref.whole cc2_scratch5).view.read (Elt F)
            (σ (Memref.whole cc2_scratch5).view.ref)) ![posOf m cnt] (sigV x) (fun _ => 1#1) false h) Finset.univ))
          (fun l => ((candL mx lg n l).map num : List (BitVec 32))) (2147483647#32 : BitVec 32) := fun l hl k hk => by
      rw [rd_update_ne (n := 2064) (Memref.whole cc2_scratch6) _ (by decide)]
      exact H.ci l hl k hk
    intro l hl k hk
    refine (H'.scat (posOf m cnt) _ (addi b80 (addi (broadcast S16 (BitVec.ofNat 32 (16 * (n % 5)))) lanes)) (isC mx lg n)
      (hp (e := .i32) (fun l => ((candL mx lg n l).map num : List (BitVec 32))) fun l _ => List.length_map _) (fun l hl h => ?_) l hl k hk).trans ?_
    · exact (List.length_map _).trans_lt (hlt l hl h)
    · congr 2
      beta_reduce
      rw [candL_succ]
      by_cases h : isC mx lg n l
      · rw [if_pos h, if_pos h, List.map_append]
        congr 1
        show [b80 (ln l) + (BitVec.ofNat 32 (16 * (n % 5)) + lanes (ln l))] = [num _]
        rw [hb l hl h, lanes_ln l hl]
        congr 1
        refine BitVec.eq_of_toNat_eq ?_
        simp [BitVec.toNat_add]
      · rw [if_neg h, if_neg h]
  · intro l hl
    rw [bump_ln _ _ _ (hc l hl), candL_succ, H.cnt l hl]
    by_cases h : isC mx lg n l
    · rw [if_pos ((hm l hl).mpr h), if_pos h, List.length_append]
      rfl
    · rw [if_neg (fun h' => h ((hm l hl).mp h')), if_neg h]

/-- The chunk's rows are those of the entries from `e₀` on. -/
def ChunkI (mx : ℕ → F .f32) (lg : ℕ → ℕ → F .f32) (e₀ : ℕ) (σ : St F d (ci i) (cj i)) : Prop :=
  ∀ r < 128, ∀ c < 128, rd2 (e := .f32) (n := 128) (m := 128) (Memref.whole cc2_scratch4) σ r c = lg (bidOf mx (e₀ + r)).toNat c

theorem candStep_tr (hs : ∀ b ∈ scratches, Scr t b) (hsg : ∀ (x : FVec F S16 .f32) l, sigV x (ln l) = sg (x (ln l)))
    (hle : ∀ l < 16, (candL mx lg N l).length ≤ 128) {P : IVec S16 32 → Prop} {dc : ∀ p, Decidable (P p)} {r : Fin k2_t3_loop.trips} {v : ℕ} {hv : v < 8}
    (hv5 : v < 5) {om : IVec S16 1} {b80 : IVec S16 32} {h h'} (hP : ∀ p : IVec S16 32, (∀ x, (p x).toNat < 2064) → P p) {e₀ : ℕ}
    (hn : 5 * (e₀ + r.val) + v + 1 ≤ N)
    (hom : ∀ l < 16, (om (ln l) = 1#1 ↔ isOcc mx (e₀ + r.val)))
    (hb : ∀ l < 16, b80 (ln l) = BitVec.ofNat 32 (80 * (bidOf mx (e₀ + r.val)).toNat))
    {cnt : IVec S16 32} {σ : St F d (ci i) (cj i)} (H : CandI mx lg sg σ₀ (5 * (e₀ + r.val) + v) cnt σ) (hch : ChunkI mx lg e₀ σ)
    {k : IVec S16 32 → Prog (TE F (ci i) (cj i)) α} {Q : α → St F d (ci i) (cj i) → Prop}
    (hk : ∀ cnt' σ', CandI mx lg sg σ₀ (5 * (e₀ + r.val) + v + 1) cnt' σ' → ChunkI mx lg e₀ σ' → Tr t (k cnt') σ' Q) :
    Tr t (candStep P dc r v hv om b80 h h' cnt k) σ Q := by
  have hr : r.val < 128 := r.isLt
  have hc : ∀ l < 16, (cnt (ln l)).toNat ≤ 128 := fun l hl => by
    rw [H.cnt l hl]
    exact (keep_mono _ (by omega)).trans (hle l hl)
  have e1 : (5 * (e₀ + r.val) + v) / 5 = e₀ + r.val := by omega
  have e2 : (5 * (e₀ + r.val) + v) % 5 = v := by omega
  have hx : ∀ l < 16, row16 ((Memref.whole cc2_scratch4).view.readAt (Elt F) (Rect.unit (s := S128x128)
      ![(Scalar.indexCast (Scf.iv 0#32 1#32 r)).toNat, 16 * v] S1x16.size (cand_inb r v hv)).toLoadRect (σ (Memref.whole cc2_scratch4).view.ref)) (ln l)
      = lg (bidOf mx (e₀ + r.val)).toNat (16 * v + l) := fun l hl => by
    rw [row16_ln]
    have e := rd2_load (n := 128) (m := 128) (e := .f32) (Memref.whole cc2_scratch4) σ (Scalar.indexCast (Scf.iv 0#32 1#32 r)).toNat (16 * v) (cand_inb r v hv) l hl
    refine e.trans ?_
    have er : (Scalar.indexCast (Scf.iv 0#32 1#32 r)).toNat = r.val := iv01 r.val (by omega)
    rw [er]
    exact hch _ hr _ (by omega)
  have hm : ∀ x : FVec F S16 .f32, (∀ l < 16, x (ln l) = lg (bidOf mx (e₀ + r.val)).toNat (16 * v + l)) →
      ∀ l < 16, (andi (geMask x) om (ln l) = 1#1 ↔ isC mx lg (5 * (e₀ + r.val) + v) l) := fun x hx l hl => by
    unfold isC
    rw [e1, e2, ← hom l hl, ← hx l hl, ← geMask_ln]
    show (geMask x (ln l) &&& om (ln l)) = 1#1 ↔ _
    generalize geMask x (ln l) = a
    generalize om (ln l) = b
    revert a b
    decide
  unfold candStep
  refine Tr.loadS (hs _ (by decide)) (Tr.assume (hP _ fun x => posOf_lt _ cnt hc x) fun _ =>
    Tr.scat (hs _ (by decide)).mem (hs _ (by decide)).share (hs _ (by decide)).elems
    (Tr.scat (hs _ (by decide)).mem (hs _ (by decide)).share (hs _ (by decide)).elems (hk _ _ ?_ ?_)))
  · have key := fun x m hx hm h h' => cand_next hsg hle (n := 5 * (e₀ + r.val) + v) hn H x m b80 hx hm (fun l hl _ => by rw [e1]; exact hb l hl) h h'
    rw [e1, e2] at key
    exact key _ _ (fun l hl _ => hx l hl) (hm _ hx) _ _
  · intro a ha c hcc
    rw [rd2_update_ne (n := 128) (m := 128) (Memref.whole cc2_scratch4) _ (by decide), rd2_update_ne (n := 128) (m := 128) (Memref.whole cc2_scratch4) _ (by decide)]
    exact hch a ha c hcc

theorem pay28_toNat (a : BitVec 32) (r : Fin k2_t3_loop.trips) (h : 128 * a.toNat + 128 ≤ 2048) (x : S16.Idx) :
    (k2_pay28 (fun _ => 0#32) a 0#32 1#32 r x).toNat = 128 * a.toNat + r.val := by
  have hr : r.val < 128 := r.isLt
  show (0#32 + (a * 128#32 + Scf.iv 0#32 1#32 r.val)).toNat = _
  have := iv01 r.val (by omega)
  rw [BitVec.zero_add, BitVec.toNat_add, BitVec.toNat_mul, this]
  show (a.toNat * 128 % _ + _) % _ = _
  omega

/-- The hot lists and the occupied slots are in place. -/
structure Hots (mx : ℕ → F .f32) (σ : St F d (ci i) (cj i)) : Prop where
  hot : Lists (e := .i32) (Memref.whole cc2_scratch1) σ (fun l => (hotL mx 1280 l : List (BitVec 32))) (0#32 : BitVec 32)
  valid : ∀ l < 16, ∀ s < 128, rd (e := .i32) (n := 2048) (Memref.whole cc2_scratch3) σ (16 * s + l)
    = if s < (hotL mx 1280 l).length then (1#32 : BitVec 32) else 0#32

theorem Hots.of_only {bs : List (Ref sig .scVector)} {σ σ' : St F d (ci i) (cj i)} (H : Hots mx σ) (ho : Only bs σ σ')
    (h1 : cc2_scratch1 ∉ bs := by decide) (h3 : cc2_scratch3 ∉ bs := by decide) : Hots mx σ' :=
  ⟨fun l hl k hk => by rw [ho.rd (n := 2064) (Memref.whole cc2_scratch1) h1]; exact H.hot l hl k hk,
    fun l hl s hs => by rw [ho.rd (n := 2048) (Memref.whole cc2_scratch3) h3]; exact H.valid l hl s hs⟩

theorem Hots.bid {σ : St F d (ci i) (cj i)} (H : Hots mx σ) (e : ℕ) (he : e < 2048) :
    rd (e := .i32) (n := 2064) (Memref.whole cc2_scratch1) σ e = bidOf mx e := by
  have h := H.hot (e % 16) (by omega) (e / 16) (by omega)
  rw [show 16 * (e / 16) + e % 16 = e by omega] at h
  exact h

theorem Hots.occ {σ : St F d (ci i) (cj i)} (H : Hots mx σ) (e : ℕ) (he : e < 2048) :
    rd (e := .i32) (n := 2048) (Memref.whole cc2_scratch3) σ e = if isOcc mx e then (1#32 : BitVec 32) else 0#32 := by
  have h := H.valid (e % 16) (by omega) (e / 16) (by omega)
  rw [show 16 * (e / 16) + e % 16 = e by omega] at h
  exact h

theorem idx_ok (p : IVec S16 32) (hp : ∀ x, (p x).toNat < 2064) : k2_chk15 i p := by
  refine ⟨fun _ a x => ?_, fun _ a x => ?_⟩ <;>
  · rw [Subsingleton.elim a 0]
    exact hp x

theorem candRow_tr (hs : ∀ b ∈ scratches, Scr t b) (hsg : ∀ (x : FVec F S16 .f32) l, sigV x (ln l) = sg (x (ln l)))
    (hle : ∀ l < 16, (candL mx lg N l).length ≤ 128) (hbid : ∀ e, (bidOf mx e).toNat < 20000) (h1 : k2_cond1 i = 1#1) (a : BitVec 32) (ha : 128 * a.toNat + 128 ≤ 2048)
    (hN : 640 * (a.toNat + 1) ≤ N) (r : Fin k2_t3_loop.trips) (hH : Hots mx σ₀)
    {cnt : IVec S16 32} {σ : St F d (ci i) (cj i)} (H : CandI mx lg sg σ₀ (5 * (128 * a.toNat + r.val)) cnt σ) (hch : ChunkI mx lg (128 * a.toNat) σ) :
    Tr t (candRow h1 a r cnt) σ fun cnt' σ' => CandI mx lg sg σ₀ (5 * (128 * a.toNat + (r.val + 1))) cnt' σ' ∧ ChunkI mx lg (128 * a.toNat) σ' := by
  have hr : r.val < 128 := r.isLt
  have hH' : Hots mx σ := hH.of_only H.only
  unfold candRow
  refine Tr.assume ⟨fun _ a' x => ?_, fun _ a' x => ?_⟩ fun w => Tr.gath (hs _ (by decide)).mem (hs _ (by decide)).elems
    (Tr.gath (hs _ (by decide)).mem (hs _ (by decide)).elems ?_)
  · rw [Subsingleton.elim a' 0]
    show (k2_pay28 (fun _ => 0#32) a 0#32 1#32 r x).toNat < 2064
    rw [pay28_toNat a r ha]
    omega
  · rw [Subsingleton.elim a' 0]
    show (k2_pay28 (fun _ => 0#32) a 0#32 1#32 r x).toNat < 2048
    rw [pay28_toNat a r ha]
    omega
  have hbv : ∀ h l, loadIdx (F := F) (e := .i32) ((Memref.whole cc2_scratch1).view.read (Elt F) (σ (Memref.whole cc2_scratch1).view.ref))
      ![k2_pay28 (fun _ => 0#32) a 0#32 1#32 r] h (ln l) = bidOf mx (128 * a.toNat + r.val) := fun h l => by
    rw [loadIdx_ln (n := 2064), pay28_toNat a r ha]
    exact hH'.bid _ (by omega)
  have hov : ∀ h l, loadIdx (F := F) (e := .i32) ((Memref.whole cc2_scratch3).view.read (Elt F) (σ (Memref.whole cc2_scratch3).view.ref))
      ![k2_pay28 (fun _ => 0#32) a 0#32 1#32 r] h (ln l) = if isOcc mx (128 * a.toNat + r.val) then (1#32 : BitVec 32) else 0#32 := fun h l => by
    rw [loadIdx_ln (n := 2048), pay28_toNat a r ha]
    exact hH'.occ _ (by omega)
  have hom : ∀ vb : Vec F S16 .i32, (∀ l, vb (ln l) = if isOcc mx (128 * a.toNat + r.val) then (1#32 : BitVec 32) else 0#32) →
      ∀ l < 16, (k2_pay29 (F := F) vb (ln l) = 1#1 ↔ isOcc mx (128 * a.toNat + r.val)) := fun vb hvb l _ => by
    show BitVec.ofBool ((0#32).slt (vb (ln l))) = 1#1 ↔ _
    rw [hvb l]
    by_cases h : isOcc mx (128 * a.toNat + r.val)
    · rw [if_pos h]
      exact ⟨fun _ => h, fun _ => rfl⟩
    · rw [if_neg h]
      exact ⟨fun h' => absurd h' (by decide), fun h' => absurd h' h⟩
  have hb80 : ∀ b : Vec F S16 .i32, (∀ l, b (ln l) = bidOf mx (128 * a.toNat + r.val)) →
      ∀ l < 16, k2_pay30 (F := F) b (ln l) = BitVec.ofNat 32 (80 * (bidOf mx (128 * a.toNat + r.val)).toNat) := fun b hb l _ => by
    show IntOp.muli (b (ln l)) 80#32 = _
    rw [hb l]
    have := hbid (128 * a.toNat + r.val)
    refine BitVec.eq_of_toNat_eq ?_
    rw [toNat_muli (by show _ * 80 < _; omega)]
    show _ * 80 = _
    rw [BitVec.toNat_ofNat, Nat.mod_eq_of_lt (by omega)]
    exact Nat.mul_comm _ _
  refine candStep_tr hs hsg hle (v := 0) (by omega) idx_ok (by omega) (hom _ (hov _)) (hb80 _ (hbv _)) H hch fun cnt σ H hch => ?_
  refine candStep_tr hs hsg hle (v := 1) (by omega) idx_ok (by omega) (hom _ (hov _)) (hb80 _ (hbv _)) H hch fun cnt σ H hch => ?_
  refine candStep_tr hs hsg hle (v := 2) (by omega) idx_ok (by omega) (hom _ (hov _)) (hb80 _ (hbv _)) H hch fun cnt σ H hch => ?_
  refine candStep_tr hs hsg hle (v := 3) (by omega) idx_ok (by omega) (hom _ (hov _)) (hb80 _ (hbv _)) H hch fun cnt σ H hch => ?_
  refine candStep_tr hs hsg hle (v := 4) (by omega) idx_ok (by omega) (hom _ (hov _)) (hb80 _ (hbv _)) H hch fun cnt σ H hch => ?_
  exact Tr.ret ⟨by convert H using 1; omega, hch⟩

/-! ### One chunk -/

/-- The rows of logits of this subcore's batch. -/
abbrev lgRows (i : grid2.Coords) (h1 : k2_cond1 i = 1#1) : Memref sig .scVector .hbm S20000x128 .f32 :=
  (((Memref.whole main_v0_0_scv).slice (Rect.unit (s := S16x20000x128) (k2_off11 i) S1x20000x128.size (k2_off11_inb i h1))
    (fun _ => rfl)).squeeze S20000x128 squeezes_S1x20000x128_S20000x128).slice
    (Rect.unit (s := S20000x128) ![0, 0] S20000x128.size inb_S20000x128_S20000x128_0_0) (fun _ => rfl)

/-- The entries of a chunk. -/
abbrev entries (m : BitVec 32) (w : k2_chk13 i m) (h1 : k2_cond1 i = 1#1) (c : Fin (k2_t2_loop m).trips) : Memref sig .scVector .vmem S128 .i32 :=
  (Memref.whole cc2_scratch1).slice (Rect.unit (s := S2064) (k2_off10 m c) S128.size (k2_off10_inb i m w c h1)) (fun _ => rfl)

theorem chunk_body (h1 : k2_cond1 i = 1#1) (m : BitVec 32) (w : k2_chk13 i m) (v684 : BitVec 32) (v687 : FVec F S16 .f32) (v689 : IVec S16 32)
    (c : Fin (k2_t2_loop m).trips) (cnt : IVec S16 32) :
    app (k2_t2_body (F := F) i) lanes (fun _ => 0#32) (fun _ => 1#32) h1 m w v684 v687 v689 c cnt =
    (SparseCore.enqueueIndirectGather rfl (lgRows i h1) (Memref.whole cc2_scratch4)
      gathers_S20000x128_S128x128 (entries m w h1 c) rfl cc2_scratch13.sem (View.wordExact_bits rfl) rfl (Or.inl rfl) >>= fun _ =>
      (.op (.waitDma2 cc2_scratch13.sem (lgRows i h1) (Memref.whole cc2_scratch4) (View.wordExact_bits rfl) (Memref.isWhole_whole _).wordExact) fun _ =>
      (Scf.Loop.for k2_t3_loop (k2_t3_ok i h1) cnt (app (k2_t3_body (F := F) i) lanes (fun _ => 0#32) (fun _ => 1#32) h1 m w v684 v687 v689 (Scf.iv 0#32 1#32 c))
        >>= fun v => .ret v) : Prog (TE F (ci i) (cj i)) (IVec S16 32))) := by
  unfold app k2_t2_body
  rfl

/-- The batch's logits as the subcore reads them. -/
def Logits (h1 : k2_cond1 i = 1#1) (lg : ℕ → ℕ → F .f32) (σ : St F d (ci i) (cj i)) : Prop :=
  ∀ q < 20000, ∀ c < 128, (lgRows i h1).view.read (Elt F) (σ (lgRows i h1).view.ref) (ix2 20000 128 q c) = lg q c

theorem chunk_tr (hs : ∀ b ∈ scratches, Scr t b) (hsg : ∀ (x : FVec F S16 .f32) l, sigV x (ln l) = sg (x (ln l)))
    (hle : ∀ l < 16, (candL mx lg N l).length ≤ 128) (hbid : ∀ e, (bidOf mx e).toNat < 20000) (h1 : k2_cond1 i = 1#1)
    (hb : main_v0_0_scv ∈ t.bufs) (he : t.elems main_v0_0_scv = Finset.univ) (hsm : SemLoc.dma cc2_scratch13.sem ∈ t.sems)
    (hlg : Logits h1 lg σ₀) (hH : Hots mx σ₀) (m : BitVec 32) (hm : m.toNat ≤ 128) (w : k2_chk13 i m)
    {v684 : BitVec 32} {v687 : FVec F S16 .f32} {v689 : IVec S16 32}
    (c : Fin (k2_t2_loop m).trips) (hN : 640 * (c.val + 1) ≤ N) {cnt : IVec S16 32} {σ : St F d (ci i) (cj i)} (H : CandI mx lg sg σ₀ (640 * c.val) cnt σ) :
    Tr t (app (k2_t2_body (F := F) i) lanes (fun _ => 0#32) (fun _ => 1#32) h1 m w v684 v687 v689 c cnt) σ (CandI mx lg sg σ₀ (640 * (c.val + 1))) := by
  have hc16 : c.val < 16 := lt_of_lt_of_le (c.isLt.trans_eq (trips2 m hm)) (min_le_right _ _)
  have hoff : k2_off10 m c 0 = 128 * c.val := by rw [off10 m hm c]; rfl
  have hH' := hH.of_only H.only
  refine Tr.conv (chunk_body h1 m w v684 v687 v689 c cnt) ?_
  refine fetch_tr (n := 20000) (k₀ := 2064) (L := Memref.whole cc2_scratch1) (off := k2_off10 m c) (hs _ (by decide)) (show main_v0_0_scv ≠ cc2_scratch4 by decide) (by decide) (show cc2_scratch1 ≠ main_v0_0_scv by decide)
    hb he (hs _ (by decide)) hsm (fun r hr => ?_) fun σ1 ho1 hf => ?_
  · rw [hoff]
    exact (congrArg BitVec.toNat (hH'.bid (128 * c.val + r) (by omega))).trans_lt (hbid _)
  have hiv : (Scf.iv 0#32 1#32 c.val).toNat = c.val := iv01 c.val (by omega)
  have hch : ChunkI mx lg (128 * c.val) σ1 := fun r hr q hq => by
    rw [hf r hr q hq, hoff]
    have e := hH'.bid (128 * c.val + r) (by omega)
    rw [show (rd (e := .i32) (Memref.whole cc2_scratch1) σ (128 * c.val + r)).toNat = (bidOf mx (128 * c.val + r)).toNat from congrArg BitVec.toNat e]
    have e2 : σ (lgRows i h1).view.ref = σ₀ (lgRows i h1).view.ref := H.only main_v0_0_scv (by decide)
    rw [e2]
    exact hlg _ (hbid _) q hq
  have H1 : CandI mx lg sg σ₀ (640 * c.val) cnt σ1 :=
    ⟨(H.only.trans ho1).mono (by decide), fun l hl k hk => by
      rw [ho1.rd (n := 2064) (Memref.whole cc2_scratch5) (by decide)]; exact H.cv l hl k hk, fun l hl k hk => by
      rw [ho1.rd (n := 2064) (Memref.whole cc2_scratch6) (by decide)]; exact H.ci l hl k hk, H.cnt⟩
  refine Tr.bind (R := fun cnt' σ' => CandI mx lg sg σ₀ (640 * (c.val + 1)) cnt' σ' ∧ ChunkI mx lg (128 * c.val) σ') ?_ fun _ _ H => Tr.ret H.1
  refine Tr.mono (Tr.for _ _ _ _ _ _ (fun r cnt' σ' => CandI mx lg sg σ₀ (5 * (128 * c.val + r)) cnt' σ' ∧ ChunkI mx lg (128 * c.val) σ')
    ⟨by convert H1 using 1; omega, hch⟩ fun r acc σ' H' => ?_) fun cnt' σ' H' => ⟨?_, H'.2⟩
  · refine Tr.conv (cand_body h1 m w v684 v687 v689 (Scf.iv 0#32 1#32 c.val) r acc) ?_
    have key := candRow_tr (N := N) hs hsg hle hbid h1 (Scf.iv 0#32 1#32 c.val) (by rw [hiv]; omega) (by rw [hiv]; omega) r hH
      (cnt := acc) (σ := σ') (by rw [hiv]; exact H'.1) (by rw [hiv]; exact H'.2)
    rw [hiv] at key
    exact key
  · convert H'.1 using 1
    show 640 * (c.val + 1) = 5 * (128 * c.val + 128)
    omega

/-- The candidates, all of them. -/
theorem cand_loop (hs : ∀ b ∈ scratches, Scr t b) (hsg : ∀ (x : FVec F S16 .f32) l, sigV x (ln l) = sg (x (ln l))) (m : BitVec 32) (hm : m.toNat ≤ 128)
    (hle : ∀ l < 16, (candL mx lg (640 * chunks m) l).length ≤ 128) (hbid : ∀ e, (bidOf mx e).toNat < 20000) (h1 : k2_cond1 i = 1#1)
    (hb : main_v0_0_scv ∈ t.bufs) (he : t.elems main_v0_0_scv = Finset.univ) (hsm : SemLoc.dma cc2_scratch13.sem ∈ t.sems)
    (hlg : Logits h1 lg σ₀) (hH : Hots mx σ₀) (w : k2_chk13 i m)
    (hcv : ∀ k < 2048, rd (e := .f32) (n := 2064) (Memref.whole cc2_scratch5) σ₀ k = k2_pay239 (F := F) (ln 0))
    (hci : ∀ k < 2048, rd (e := .i32) (n := 2064) (Memref.whole cc2_scratch6) σ₀ k = (2147483647#32 : BitVec 32))
    {v684 : BitVec 32} {v687 : FVec F S16 .f32} {v689 : IVec S16 32} {hok} :
    Tr t (Scf.Loop.for (k2_t2_loop m) hok (fun _ => 0#32)
      (app (k2_t2_body (F := F) i) lanes (fun _ => 0#32) (fun _ => 1#32) h1 m w v684 v687 v689)) σ₀ (CandI mx lg sg σ₀ (640 * chunks m)) := by
  have key := Tr.for (t := t) _ _ _ hok (fun _ => 0#32) (app (k2_t2_body (F := F) i) lanes (fun _ => 0#32) (fun _ => 1#32) h1 m w v684 v687 v689) (σ := σ₀)
    (fun n => CandI mx lg sg σ₀ (640 * n)) ⟨Only.refl _ _, fun l hl k hk => ?_, fun l hl k hk => ?_, fun l hl => rfl⟩ fun c acc σ' H => ?_
  · rw [← trips2 m hm]
    exact key
  · rw [hcv _ (by omega)]
    rfl
  · rw [hci _ (by omega)]
    rfl
  · refine chunk_tr hs hsg hle hbid h1 hb he hsm hlg hH m hm w c ?_ H
    have := c.isLt.trans_eq (trips2 m hm)
    omega

end Cert.Proof.Ker

end
-- ==== Proof.Stages.lean ====
/-
  The stages of the sort, as the kernel runs them.
-/
module

public import proofs.«01_k».proof.Proof.Hot

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {d : Dev nD} {i : grid2.Coords} {t : Holds F d (ci i) (cj i)} {σ₀ : St F d (ci i) (cj i)} {α : Type}

/-- A stage of the sort: exchanges within a row of sixteen at distance `2 ^ s`, or between rows at distance `16 * 2 ^ s`; blocks of
    `2 ^ k` are ordered. -/
inductive Stg where
  | mix (s k : ℕ)
  | pair (s : ℕ) (hs : s < 7) (k : ℕ)

/-- Whether the first of two is before the second. -/
def before (x y : FVec F S16 .f32) (a b : IVec S16 32) : IVec S16 1 := ori (cmpf .ogt x y) (andi (cmpf .oeq x y) (cmpi .slt a b))

/-- The partners of the lanes of row `n`. -/
def mixIdx (s : ℕ) (n : Fin k2_t6_loop.trips) : IVec S16 32 :=
  addi (broadcast S16 (Scalar.muli (Scf.iv 0#32 1#32 n) 16#32)) (xori lanes (broadcast S16 (BitVec.ofNat 32 (2 ^ s))))

/-- Whether a lane keeps its own. -/
def mixTake (s k : ℕ) (n : Fin k2_t6_loop.trips) (x y : FVec F S16 .f32) (a b : IVec S16 32) : IVec S16 1 :=
  cmpi .eq (xori (xori (andi (shrsi lanes (broadcast S16 (BitVec.ofNat 32 s))) (broadcast S16 1#32))
    (andi (shrsi (addi (broadcast S16 (Scalar.muli (Scf.iv 0#32 1#32 n) 16#32)) lanes) (broadcast S16 (BitVec.ofNat 32 k))) (broadcast S16 1#32)))
    (select (before x y a b) (fun _ => 1#32) (fun _ => 0#32))) (broadcast S16 1#32)

/-- A row of a stage within rows. -/
def mixStep (h1 : k2_cond1 i = 1#1) (s k : ℕ) (n : Fin k2_t6_loop.trips) (_ : Unit) : Prog (TE F (ci i) (cj i)) Unit :=
  .op (.assume (k2_chk26 i (mixIdx s n)) (k2_chk26.dec i _)) fun w =>
  .op (.load (Memref.whole cc2_scratch5) (Rect.unit (s := S2064) (k2_off24 n) S16.size (k2_off24_inb i n h1)).toLoadRect (View.loadsAt_vmem h_S16)) fun (x : Vec F S16 .f32) =>
  .op (.load (Memref.whole cc2_scratch6) (Rect.unit (s := S2064) (k2_off24 n) S16.size (k2_off24_inb i n h1)).toLoadRect (View.loadsAt_vmem h_S16)) fun (a : Vec F S16 .i32) =>
  SparseCore.vectorLoadIdx (Memref.whole cc2_scratch5) ![mixIdx s n] (k2_idx37_inb i _ w.down h1) (View.loads_vmem h_S2064) >>= fun (y : Vec F S16 .f32) =>
  SparseCore.vectorLoadIdx (Memref.whole cc2_scratch6) ![mixIdx s n] (k2_idx38_inb i _ w.down h1) (View.loads_vmem h_S2064) >>= fun (b : Vec F S16 .i32) =>
  .op (.load (Memref.whole cc2_scratch5) (Rect.unit (s := S2064) (k2_off24 n) S16.size (k2_off24_inb i n h1)).toLoadRect (View.loadsAt_vmem h_S16)) fun _ =>
  .op (.store (Memref.whole cc2_scratch5) (Rect.unit (s := S2064) (k2_off24 n) S16.size (k2_off24_inb i n h1)) (select (mixTake s k n x y a b) x y : FVec F S16 .f32)
    Finset.univ (View.stores_vmem_bits_univ h_S16 rfl) (.inl rfl)) fun _ =>
  .op (.load (Memref.whole cc2_scratch6) (Rect.unit (s := S2064) (k2_off24 n) S16.size (k2_off24_inb i n h1)).toLoadRect (View.loadsAt_vmem h_S16)) fun _ =>
  .op (.store (Memref.whole cc2_scratch6) (Rect.unit (s := S2064) (k2_off24 n) S16.size (k2_off24_inb i n h1)) (select (mixTake s k n x y a b) a b : IVec S16 32)
    Finset.univ (View.stores_vmem_bits_univ h_S16 rfl) (.inl rfl)) fun _ =>
  .ret ()

/-- The lower row of pair `n` at a distance of `j` rows. -/
def lowRow (j : ℕ) (n : BitVec 32) : BitVec 32 :=
  let jv := BitVec.ofNat 32 j
  let v1909 : BitVec 32 := Scalar.subi (Scalar.extui (Scalar.cmpi .sgt n 0#32)) (Scalar.extui (Scalar.cmpi .slt n 0#32))
  let v1914 : BitVec 32 := Scalar.subi (Scalar.extui (Scalar.cmpi .sgt jv 0#32)) (Scalar.extui (Scalar.cmpi .slt jv 0#32))
  let v1918 : BitVec 1 := Scalar.andi (Scalar.cmpi .ne v1909 v1914) (Scalar.cmpi .ne (Scalar.remsi n jv) 0#32)
  let v1904 : BitVec 32 := Scalar.divsi n jv
  let v1921 : BitVec 32 := Scalar.muli (Scalar.select v1918 (Scalar.subi v1904 1#32) v1904) (BitVec.ofNat 32 (2 * j))
  let v1923 : BitVec 32 := Scalar.select (Scalar.cmpi .eq jv 0#32) 1#32 jv
  let v1924 : BitVec 32 := Scalar.remsi n v1923
  let v1929 : BitVec 1 := Scalar.andi (Scalar.xori (Scalar.cmpi .slt v1924 0#32) (Scalar.cmpi .slt v1923 0#32)) (Scalar.cmpi .ne v1924 0#32)
  Scalar.addi v1921 (Scalar.select v1929 (Scalar.addi v1924 v1923) v1924)

theorem lowRow_val : ∀ s < 7, ∀ n < 64, lowRow (2 ^ s) (Scf.iv 0#32 1#32 n) = BitVec.ofNat 32 (n / 2 ^ s * (2 * 2 ^ s) + n % 2 ^ s) := by
  decide +kernel

/-- Where a row starts. -/
def rowOff (r : BitVec 32) : Fin 1 → ℕ := ![(Scalar.indexCast (Scalar.muli r 16#32)).toNat]

theorem rowOff_ofNat : ∀ r < 128, (Scalar.indexCast (Scalar.muli (BitVec.ofNat 32 r) 16#32)).toNat = 16 * r := by decide +kernel

theorem pairs_lt : ∀ s < 7, ∀ n < 64, n / 2 ^ s * (2 * 2 ^ s) + n % 2 ^ s + 2 ^ s < 128 := by decide +kernel

theorem lowOff (s : ℕ) (hs : s < 7) (n : Fin k2_t16_loop.trips) :
    rowOff (lowRow (2 ^ s) (Scf.iv 0#32 1#32 n)) = ![16 * (n.val / 2 ^ s * (2 * 2 ^ s) + n.val % 2 ^ s)] := by
  have hn : n.val < 64 := n.isLt
  have := pairs_lt s hs n.val hn
  rw [lowRow_val s hs n.val hn, rowOff, rowOff_ofNat _ (by omega)]

theorem highOff (s : ℕ) (hs : s < 7) (n : Fin k2_t16_loop.trips) :
    rowOff (Scalar.addi (lowRow (2 ^ s) (Scf.iv 0#32 1#32 n)) (BitVec.ofNat 32 (2 ^ s))) = ![16 * (n.val / 2 ^ s * (2 * 2 ^ s) + n.val % 2 ^ s + 2 ^ s)] := by
  have hn : n.val < 64 := n.isLt
  have := pairs_lt s hs n.val hn
  rw [lowRow_val s hs n.val hn]
  have e : Scalar.addi (BitVec.ofNat 32 (n.val / 2 ^ s * (2 * 2 ^ s) + n.val % 2 ^ s)) (BitVec.ofNat 32 (2 ^ s))
      = BitVec.ofNat 32 (n.val / 2 ^ s * (2 * 2 ^ s) + n.val % 2 ^ s + 2 ^ s) := (BitVec.ofNat_add _ _).symm
  rw [e, rowOff, rowOff_ofNat _ (by omega)]

theorem lowOff_inb (s : ℕ) (hs : s < 7) (n : Fin k2_t16_loop.trips) :
    ∀ a, rowOff (lowRow (2 ^ s) (Scf.iv 0#32 1#32 n)) a + S16.size a ≤ S2064.size a := by
  have := pairs_lt s hs n.val n.isLt
  rw [lowOff s hs n]
  have hle : 16 * (n.val / 2 ^ s * (2 * 2 ^ s) + n.val % 2 ^ s) + 16 ≤ 2064 := by omega
  exact Rect.inb₁ hle

theorem highOff_inb (s : ℕ) (hs : s < 7) (n : Fin k2_t16_loop.trips) :
    ∀ a, rowOff (Scalar.addi (lowRow (2 ^ s) (Scf.iv 0#32 1#32 n)) (BitVec.ofNat 32 (2 ^ s))) a + S16.size a ≤ S2064.size a := by
  have := pairs_lt s hs n.val n.isLt
  rw [highOff s hs n]
  have hle : 16 * (n.val / 2 ^ s * (2 * 2 ^ s) + n.val % 2 ^ s + 2 ^ s) + 16 ≤ 2064 := by omega
  exact Rect.inb₁ hle

/-- Whether two rows are exchanged, lane by lane. -/
def pairSwap (k : ℕ) (r : BitVec 32) (x y : FVec F S16 .f32) (a b : IVec S16 32) : IVec S16 1 :=
  cmpi .eq (xori (select (before x y a b) (fun _ => 1#32) (fun _ => 0#32))
    (andi (shrsi (addi (fun _ => 0#32) (broadcast S16 (Scalar.muli r 16#32))) (broadcast S16 (BitVec.ofNat 32 k))) (broadcast S16 1#32))) (broadcast S16 0#32)

/-- A pair of rows of a stage between rows. -/
def pairStep (s : ℕ) (hs : s < 7) (k : ℕ) (n : Fin k2_t16_loop.trips) (_ : Unit) : Prog (TE F (ci i) (cj i)) Unit :=
  .op (.load (Memref.whole cc2_scratch5) (Rect.unit (s := S2064) _ S16.size (lowOff_inb s hs n)).toLoadRect (View.loadsAt_vmem h_S16)) fun (x : Vec F S16 .f32) =>
  .op (.load (Memref.whole cc2_scratch5) (Rect.unit (s := S2064) _ S16.size (highOff_inb s hs n)).toLoadRect (View.loadsAt_vmem h_S16)) fun (y : Vec F S16 .f32) =>
  .op (.load (Memref.whole cc2_scratch6) (Rect.unit (s := S2064) _ S16.size (lowOff_inb s hs n)).toLoadRect (View.loadsAt_vmem h_S16)) fun (a : Vec F S16 .i32) =>
  .op (.load (Memref.whole cc2_scratch6) (Rect.unit (s := S2064) _ S16.size (highOff_inb s hs n)).toLoadRect (View.loadsAt_vmem h_S16)) fun (b : Vec F S16 .i32) =>
  .op (.load (Memref.whole cc2_scratch5) (Rect.unit (s := S2064) _ S16.size (lowOff_inb s hs n)).toLoadRect (View.loadsAt_vmem h_S16)) fun _ =>
  .op (.store (Memref.whole cc2_scratch5) (Rect.unit (s := S2064) _ S16.size (lowOff_inb s hs n))
    (select (pairSwap k (lowRow (2 ^ s) (Scf.iv 0#32 1#32 n)) x y a b) y x : FVec F S16 .f32) Finset.univ (View.stores_vmem_bits_univ h_S16 rfl) (.inl rfl)) fun _ =>
  .op (.load (Memref.whole cc2_scratch5) (Rect.unit (s := S2064) _ S16.size (highOff_inb s hs n)).toLoadRect (View.loadsAt_vmem h_S16)) fun _ =>
  .op (.store (Memref.whole cc2_scratch5) (Rect.unit (s := S2064) _ S16.size (highOff_inb s hs n))
    (select (pairSwap k (lowRow (2 ^ s) (Scf.iv 0#32 1#32 n)) x y a b) x y : FVec F S16 .f32) Finset.univ (View.stores_vmem_bits_univ h_S16 rfl) (.inl rfl)) fun _ =>
  .op (.load (Memref.whole cc2_scratch6) (Rect.unit (s := S2064) _ S16.size (lowOff_inb s hs n)).toLoadRect (View.loadsAt_vmem h_S16)) fun _ =>
  .op (.store (Memref.whole cc2_scratch6) (Rect.unit (s := S2064) _ S16.size (lowOff_inb s hs n))
    (select (pairSwap k (lowRow (2 ^ s) (Scf.iv 0#32 1#32 n)) x y a b) b a : IVec S16 32) Finset.univ (View.stores_vmem_bits_univ h_S16 rfl) (.inl rfl)) fun _ =>
  .op (.load (Memref.whole cc2_scratch6) (Rect.unit (s := S2064) _ S16.size (highOff_inb s hs n)).toLoadRect (View.loadsAt_vmem h_S16)) fun _ =>
  .op (.store (Memref.whole cc2_scratch6) (Rect.unit (s := S2064) _ S16.size (highOff_inb s hs n))
    (select (pairSwap k (lowRow (2 ^ s) (Scf.iv 0#32 1#32 n)) x y a b) a b : IVec S16 32) Finset.univ (View.stores_vmem_bits_univ h_S16 rfl) (.inl rfl)) fun _ =>
  .ret ()

/-- A stage's loop. -/
def Stg.run (h1 : k2_cond1 i = 1#1) : Stg → Prog (TE F (ci i) (cj i)) Unit
  | .mix s k => Scf.Loop.for k2_t6_loop (k2_t6_ok i h1) ⟨⟩ (mixStep h1 s k)
  | .pair s hs k => Scf.Loop.for k2_t16_loop (k2_t16_ok i h1) ⟨⟩ (pairStep s hs k)

/-- Stages in order, then `p`. -/
def runs (h1 : k2_cond1 i = 1#1) : List Stg → Prog (TE F (ci i) (cj i)) α → Prog (TE F (ci i) (cj i)) α
  | [], p => p
  | s :: r, p => s.run h1 >>= fun _ => runs h1 r p

theorem w74 (h1 : k2_cond1 i = 1#1) : app (k2_part74 (F := F) i) lanes (fun _ => 0#32) (fun _ => 1#32) h1 =
    runs h1 [.mix 1 2, .mix 0 2, .mix 2 3, .mix 1 3, .mix 0 3, .mix 3 4, .mix 2 4, .mix 1 4] (.ret 0#32) := by
  rw [k2_part74_eq_skeleton]
  rfl

theorem w75 (h1 : k2_cond1 i = 1#1) : app (k2_part75 (F := F) i) lanes (fun _ => 0#32) (fun _ => 1#32) h1 0#32 =
    runs h1 [.mix 0 4, .pair 0 (by decide) 5, .mix 3 5, .mix 2 5, .mix 1 5, .mix 0 5, .pair 1 (by decide) 6, .pair 0 (by decide) 6, .mix 3 6] (.ret ⟨⟩) := by
  rw [k2_part75_eq_skeleton]
  rfl

theorem w76 (h1 : k2_cond1 i = 1#1) : app (k2_part76 (F := F) i) lanes (fun _ => 0#32) (fun _ => 1#32) h1 =
    runs h1 [.mix 2 6, .mix 1 6, .mix 0 6, .pair 2 (by decide) 7, .pair 1 (by decide) 7, .pair 0 (by decide) 7, .mix 3 7, .mix 2 7] (.ret ⟨0#32, 1#32⟩) := by
  rw [k2_part76_eq_skeleton]
  rfl

theorem w77 (h1 : k2_cond1 i = 1#1) : app (k2_part77 (F := F) i) lanes (fun _ => 0#32) (fun _ => 1#32) h1 0#32 1#32 =
    runs h1 [.mix 1 7, .mix 0 7, .pair 3 (by decide) 8, .pair 2 (by decide) 8, .pair 1 (by decide) 8, .pair 0 (by decide) 8, .mix 3 8, .mix 2 8, .mix 1 8] (.ret 0#32) := by
  rw [k2_part77_eq_skeleton]
  rfl

theorem w78 (h1 : k2_cond1 i = 1#1) : app (k2_part78 (F := F) i) lanes (fun _ => 0#32) (fun _ => 1#32) h1 0#32 =
    runs h1 [.mix 0 8, .pair 4 (by decide) 9, .pair 3 (by decide) 9, .pair 2 (by decide) 9, .pair 1 (by decide) 9, .pair 0 (by decide) 9, .mix 3 9, .mix 2 9, .mix 1 9] (.ret ⟨⟩) := by
  rw [k2_part78_eq_skeleton]
  rfl

theorem w79 (h1 : k2_cond1 i = 1#1) : app (k2_part79 (F := F) i) lanes (fun _ => 0#32) (fun _ => 1#32) h1 =
    runs h1 [.mix 0 9, .pair 5 (by decide) 10, .pair 4 (by decide) 10, .pair 3 (by decide) 10, .pair 2 (by decide) 10, .pair 1 (by decide) 10, .pair 0 (by decide) 10, .mix 3 10] (.ret ⟨0#32, 128#32⟩) := by
  rw [k2_part79_eq_skeleton]
  rfl

theorem w80 (h1 : k2_cond1 i = 1#1) : app (k2_part80 (F := F) i) lanes (fun _ => 0#32) (fun _ => 1#32) h1 0#32 128#32 =
    runs h1 [.mix 2 10, .mix 1 10, .mix 0 10, .pair 6 (by decide) 11, .pair 5 (by decide) 11, .pair 4 (by decide) 11, .pair 3 (by decide) 11, .pair 2 (by decide) 11, .pair 1 (by decide) 11] (.ret ⟨⟩) := by
  rw [k2_part80_eq_skeleton]
  rfl

end Cert.Proof.Ker

end
-- ==== Proof.SortTr.lean ====
/-
  What the stages of the sort do.
-/
module

public import proofs.«01_k».proof.Proof.Stages
public import Idealize.ShloMosaic.Lib.SortNet.Sorts

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.SortNet

variable {d : Dev nD} {i : grid2.Coords} {t : Holds Ideal d (ci i) (cj i)} {σ₀ : St Ideal d (ci i) (cj i)} {α : Type}

/-- What the sort orders by: the score, then the smaller number. -/
def key (x : EReal) (a : BitVec 32) : EReal ×ₗ ℤᵒᵈ := toLex (x, OrderDual.toDual a.toInt)

theorem key_lt (x y : EReal) (a b : BitVec 32) : key y b < key x a ↔ y < x ∨ x = y ∧ a.toInt < b.toInt := by
  unfold key
  rw [Prod.Lex.toLex_lt_toLex]
  constructor
  · rintro (h | ⟨h, h'⟩)
    · exact .inl h
    · exact .inr ⟨h.symm, h'⟩
  · rintro (h | ⟨h, h'⟩)
    · exact .inl h
    · exact .inr ⟨h.symm, h'⟩

/-- The candidate in place `k`. -/
def pr (σ : St Ideal d (ci i) (cj i)) (k : ℕ) : EReal ×ₗ ℤᵒᵈ :=
  key (rd (e := .f32) (n := 2064) (Memref.whole cc2_scratch5) σ k) (rd (e := .i32) (n := 2064) (Memref.whole cc2_scratch6) σ k)

/-- Whether place `j` is due the earlier of the two. -/
def due (s k j : ℕ) : Bool := j.testBit s == j.testBit k

/-- One stage, place by place. -/
def sw (s k : ℕ) (v : ℕ → EReal ×ₗ ℤᵒᵈ) (j : ℕ) : EReal ×ₗ ℤᵒᵈ :=
  if decide (v (j ^^^ 2 ^ s) < v j) = due s k j then v j else v (j ^^^ 2 ^ s)

/-- The stage as the network has it. -/
def net (s k : ℕ) : Network (2 ^ 11) := stage 11 s fun i => decide (i.val &&& 2 ^ k = 0) == true

theorem and_pow (n k : ℕ) : n &&& 2 ^ k = 0 ↔ n.testBit k = false := by
  constructor
  · intro h
    have := congrArg (fun z => z.testBit k) h
    simpa [Nat.testBit_and, Nat.testBit_two_pow_self] using this
  · intro h
    apply Nat.eq_of_testBit_eq
    intro j
    rw [Nat.testBit_and, Nat.zero_testBit]
    by_cases hj : k = j
    · subst hj
      rw [h, Bool.false_and]
    · rw [Nat.testBit_two_pow_of_ne hj, Bool.and_false]

theorem net_apply {s k : ℕ} (hs : s < 11) (hsk : s < k) (v : ℕ → EReal ×ₗ ℤᵒᵈ) (j : Fin (2 ^ 11)) :
    Network.apply (net s k) (fun i => v i.val) j = sw s k v j.val := by
  have e : net s k = stage 11 s fun i => due s k i.val := by
    unfold net stage
    refine List.filterMap_congr fun i _ => ?_
    by_cases h : i.val &&& 2 ^ s = 0
    · rw [if_pos h, if_pos h]
      have e : (decide (i.val &&& 2 ^ k = 0) == true) = due s k i.val := by
        unfold due
        rw [(and_pow _ _).mp h]
        simp only [and_pow]
        cases i.val.testBit k <;> rfl
      beta_reduce
      rw [e]
    · rw [if_neg h, if_neg h]
  rw [e, apply_stage_select hs]
  · unfold sw
    rw [partner_val hs]
  · intro j
    unfold due
    rw [partner_val hs, Nat.testBit_xor, Nat.testBit_xor, Nat.testBit_two_pow_self, Nat.testBit_two_pow_of_ne (by omega)]
    cases j.val.testBit s <;> cases j.val.testBit k <;> rfl

/-! ### Words -/

theorem bit_lane : ∀ n < 128, ∀ l < 16, ∀ s < 4, IntOp.andi (IntOp.shrsi .vector (BitVec.ofNat 32 l) (BitVec.ofNat 32 s)) 1#32
    = if (16 * n + l).testBit s then 1#32 else 0#32 := by decide +kernel

theorem bit_place : ∀ n < 128, ∀ l < 16, ∀ k < 12,
    IntOp.andi (IntOp.shrsi .vector (IntOp.addi (Scalar.muli (Scf.iv 0#32 1#32 n) 16#32) (BitVec.ofNat 32 l)) (BitVec.ofNat 32 k)) 1#32
    = if (16 * n + l).testBit k then 1#32 else 0#32 := by decide +kernel

theorem bit_row : ∀ r < 128, ∀ l < 16, ∀ k < 12, 5 ≤ k →
    IntOp.andi (IntOp.shrsi .vector (IntOp.addi 0#32 (Scalar.muli (BitVec.ofNat 32 r) 16#32)) (BitVec.ofNat 32 k)) 1#32
    = if (16 * r + l).testBit k then 1#32 else 0#32 := by decide +kernel

theorem mate_lane : ∀ n < 128, ∀ l < 16, ∀ s < 4,
    (IntOp.addi (Scalar.muli (Scf.iv 0#32 1#32 n) 16#32) (IntOp.xori (BitVec.ofNat 32 l) (BitVec.ofNat 32 (2 ^ s)))).toNat = (16 * n + l) ^^^ 2 ^ s := by
  decide +kernel

theorem mate_row : ∀ n < 128, ∀ l < 16, ∀ s < 4, 16 * n ≤ (16 * n + l) ^^^ 2 ^ s ∧ (16 * n + l) ^^^ 2 ^ s < 16 * n + 16 := by
  decide +kernel

theorem mix_off : ∀ n < 128, (Scalar.indexCast (Scalar.muli (Scf.iv 0#32 1#32 n) 16#32)).toNat = 16 * n := by decide +kernel

theorem before_ln (x y : FVec Ideal S16 .f32) (a b : IVec S16 32) (j : S16.Idx) :
    before x y a b j = BitVec.ofBool (decide (key (y j) (b j) < key (x j) (a j))) := by
  show BitVec.ofBool (decide (y j < x j)) ||| (BitVec.ofBool (decide (x j = y j)) &&& BitVec.ofBool ((a j).slt (b j))) = _
  rw [BitVec.slt]
  have e : decide (key (y j) (b j) < key (x j) (a j)) = (decide (y j < x j) || (decide (x j = y j) && decide ((a j).toInt < (b j).toInt))) := by
    rw [Bool.eq_iff_iff]
    simp only [decide_eq_true_eq, Bool.or_eq_true, Bool.and_eq_true, key_lt]
  rw [e]
  generalize decide (y j < x j) = p
  generalize decide (x j = y j) = q
  generalize decide ((a j).toInt < (b j).toInt) = r
  revert p q r
  decide

theorem mixTake_ln {s k : ℕ} (hs : s < 4) (hk : k < 12) (n : Fin k2_t6_loop.trips) (x y : FVec Ideal S16 .f32) (a b : IVec S16 32) (l : ℕ) (hl : l < 16) :
    mixTake s k n x y a b (ln l)
      = BitVec.ofBool (decide (key (y (ln l)) (b (ln l)) < key (x (ln l)) (a (ln l))) == due s k (16 * n.val + l)) := by
  have hn : n.val < 128 := n.isLt
  have e1 := bit_lane n.val hn l hl s hs
  have e2 := bit_place n.val hn l hl k hk
  have e3 := before_ln x y a b (ln l)
  have e4 := lanes_ln l hl
  show IntOp.cmpi .eq (IntOp.xori (IntOp.xori (IntOp.andi (IntOp.shrsi .vector (lanes (ln l)) (BitVec.ofNat 32 s)) 1#32)
    (IntOp.andi (IntOp.shrsi .vector (IntOp.addi (Scalar.muli (Scf.iv 0#32 1#32 n.val) 16#32) (lanes (ln l))) (BitVec.ofNat 32 k)) 1#32))
    (if before x y a b (ln l) = 1#1 then 1#32 else 0#32)) 1#32 = _
  rw [e4, e1, e2, e3]
  unfold due
  generalize decide (key (y (ln l)) (b (ln l)) < key (x (ln l)) (a (ln l))) = p
  generalize (16 * n.val + l).testBit s = q
  generalize (16 * n.val + l).testBit k = r
  revert p q r
  decide

theorem pairSwap_ln {k : ℕ} (hk : k < 12) (hk5 : 5 ≤ k) (r : ℕ) (hr : r < 128) (x y : FVec Ideal S16 .f32) (a b : IVec S16 32) (l : ℕ) (hl : l < 16) :
    pairSwap k (BitVec.ofNat 32 r) x y a b (ln l)
      = BitVec.ofBool (decide (key (y (ln l)) (b (ln l)) < key (x (ln l)) (a (ln l))) == (16 * r + l).testBit k) := by
  have e2 := bit_row r hr l hl k hk hk5
  have e3 := before_ln x y a b (ln l)
  show IntOp.cmpi .eq (IntOp.xori (if before x y a b (ln l) = 1#1 then 1#32 else 0#32)
    (IntOp.andi (IntOp.shrsi .vector (IntOp.addi 0#32 (Scalar.muli (BitVec.ofNat 32 r) 16#32)) (BitVec.ofNat 32 k)) 1#32)) 0#32 = _
  rw [e2, e3]
  generalize decide (key (y (ln l)) (b (ln l)) < key (x (ln l)) (a (ln l))) = p
  generalize (16 * r + l).testBit k = q
  revert p q
  decide

theorem key_select (c : Bool) (x y : FVec Ideal S16 .f32) (a b : IVec S16 32) (C : IVec S16 1) (j : S16.Idx) (h : C j = BitVec.ofBool c) :
    key (select C x y j) (select C a b j) = if c then key (x j) (a j) else key (y j) (b j) := by
  show key (if C j = 1#1 then x j else y j) (if C j = 1#1 then a j else b j) = _
  rw [h]
  cases c <;> rfl

/-! ### Stages within rows -/

/-- `n` rows done. -/
def MixI (σ₀ : St Ideal d (ci i) (cj i)) (s k n : ℕ) (σ : St Ideal d (ci i) (cj i)) : Prop :=
  Only [cc2_scratch5, cc2_scratch6] σ₀ σ ∧ ∀ j < 2048, pr σ j = if j < 16 * n then sw s k (pr σ₀) j else pr σ₀ j

theorem mix_next {s k : ℕ} (hs : s < 4) (hk : k < 12) (n : Fin k2_t6_loop.trips) {σ : St Ideal d (ci i) (cj i)} (H : MixI σ₀ s k n.val σ)
    {o : ℕ} (ho : o = 16 * n.val) (inb : ∀ a, (![o] : Fin 1 → ℕ) a + S16.size a ≤ S2064.size a)
    (x y : FVec Ideal S16 .f32) (a b : IVec S16 32)
    (hx : ∀ l < 16, key (x (ln l)) (a (ln l)) = pr σ (16 * n.val + l)) (hy : ∀ l < 16, key (y (ln l)) (b (ln l)) = pr σ ((16 * n.val + l) ^^^ 2 ^ s))
    (τ₁ τ : St Ideal d (ci i) (cj i))
    (h1 : τ₁ = Function.update σ cc2_scratch5 (((Memref.whole cc2_scratch5).access (Rect.unit (s := S2064) ![o] S16.size inb)).write (Elt Ideal) (σ cc2_scratch5)
      (select (mixTake s k n x y a b) x y : FVec Ideal S16 .f32) Finset.univ))
    (h2 : τ = Function.update τ₁ cc2_scratch6 (((Memref.whole cc2_scratch6).access (Rect.unit (s := S2064) ![o] S16.size inb)).write (Elt Ideal) (τ₁ cc2_scratch6)
      (select (mixTake s k n x y a b) a b : IVec S16 32) Finset.univ)) : MixI σ₀ s k (n.val + 1) τ := by
  subst ho
  have hn : n.val < 128 := n.isLt
  have e5 : ∀ j < 2048, rd (e := .f32) (n := 2064) (Memref.whole cc2_scratch5) τ j = if 16 * n.val ≤ j ∧ j < 16 * n.val + 16 then
      (select (mixTake s k n x y a b) x y : FVec Ideal S16 .f32) (ln (j - 16 * n.val)) else rd (e := .f32) (n := 2064) (Memref.whole cc2_scratch5) σ j := fun j hj => by
    rw [h2, rd_update_ne (e := .f32) (n := 2064) (Memref.whole cc2_scratch5) _ (by decide), h1]
    exact rd_store (e := .f32) (n := 2064) (Memref.whole cc2_scratch5) σ (16 * n.val) 16 inb _ j (by omega)
  have e6 : ∀ j < 2048, rd (e := .i32) (n := 2064) (Memref.whole cc2_scratch6) τ j = if 16 * n.val ≤ j ∧ j < 16 * n.val + 16 then
      (select (mixTake s k n x y a b) a b : IVec S16 32) (ln (j - 16 * n.val)) else rd (e := .i32) (n := 2064) (Memref.whole cc2_scratch6) σ j := fun j hj => by
    rw [h2]
    refine (rd_store (e := .i32) (n := 2064) (Memref.whole cc2_scratch6) τ₁ (16 * n.val) 16 inb _ j (by omega)).trans ?_
    rw [h1, rd_update_ne (e := .i32) (n := 2064) (Memref.whole cc2_scratch6) _ (by decide)]
  refine ⟨?_, fun j hj => ?_⟩
  · rw [h2, h1]
    exact (H.1.update (by simp) _).update (by simp) _
  · refine (congrArg₂ key (e5 j hj) (e6 j hj)).trans ?_
    by_cases hr : 16 * n.val ≤ j ∧ j < 16 * n.val + 16
    · rw [if_pos hr, if_pos hr, if_pos (by omega)]
      have hl : j - 16 * n.val < 16 := by omega
      have ej : 16 * n.val + (j - 16 * n.val) = j := by omega
      have hm := mate_row n.val hn _ hl s hs
      rw [key_select _ x y a b _ _ (mixTake_ln hs hk n x y a b _ hl), hx _ hl, hy _ hl, ej]
      rw [ej] at hm
      rw [(H.2 j hj).trans (if_neg (by omega)), (H.2 _ (lt_of_lt_of_le hm.2 (by omega))).trans (if_neg (by omega))]
      unfold sw
      simp only [beq_iff_eq]
    · rw [if_neg hr, if_neg hr]
      refine (H.2 j hj).trans ?_
      by_cases h : j < 16 * n.val
      · rw [if_pos h, if_pos (by omega)]
      · rw [if_neg h, if_neg (by omega)]

theorem mixStep_tr (hsc : ∀ b ∈ scratches, Scr t b) (h1 : k2_cond1 i = 1#1) {s k : ℕ} (hs : s < 4) (hk : k < 12) (n : Fin k2_t6_loop.trips)
    {σ : St Ideal d (ci i) (cj i)} (H : MixI σ₀ s k n.val σ) : Tr t (mixStep h1 s k n ()) σ (fun _ => MixI σ₀ s k (n.val + 1)) := by
  have hn : n.val < 128 := n.isLt
  have ho : (Scalar.indexCast (Scalar.muli (Scf.iv 0#32 1#32 n.val) 16#32)).toNat = 16 * n.val := mix_off n.val hn
  have hi : ∀ l < 16, (mixIdx s n (ln l)).toNat = (16 * n.val + l) ^^^ 2 ^ s := fun l hl => by
    refine Eq.trans ?_ (mate_lane n.val hn l hl s hs)
    rw [← lanes_ln l hl]
    rfl
  have hlt : ∀ x : S16.Idx, (mixIdx s n x).toNat < 2064 := fun x => by
    rw [eq_ix x]
    have := ix_lt x
    rw [hi _ this]
    have := mate_row n.val hn _ this s hs
    omega
  have hch : ∀ a x, ((![mixIdx s n] : Fin 1 → IVec S16 32) a x).toNat < S2064.size a := fun a x => by
    have : a = 0 := Subsingleton.elim _ _
    subst this
    exact hlt x
  unfold mixStep
  refine Tr.assume ⟨fun _ => hch, fun _ => hch⟩ fun _ => Tr.loadS (hsc _ (by decide)) (Tr.loadS (hsc _ (by decide))
    (Tr.gath (hsc _ (by decide)).mem (hsc _ (by decide)).elems (Tr.gath (hsc _ (by decide)).mem (hsc _ (by decide)).elems
    (Tr.loadS (hsc _ (by decide)) (Tr.storeS (hsc _ (by decide)) (Tr.loadS (hsc _ (by decide)) (Tr.storeS (hsc _ (by decide)) (Tr.ret ?_))))))))
  refine mix_next hs hk n H ho _ _ _ _ _ (fun l hl => ?_) (fun l hl => ?_) _ _ rfl rfl
  · have e1 := rd_load (e := .f32) (n := 2064) (Memref.whole cc2_scratch5) σ _ 16 (k2_off24_inb i n h1) l hl
    have e2 := rd_load (e := .i32) (n := 2064) (Memref.whole cc2_scratch6) σ _ 16 (k2_off24_inb i n h1) l hl
    unfold pr
    rw [← ho]
    exact congrArg₂ key e1 e2
  · unfold pr
    rw [← hi l hl]
    exact congrArg₂ key (loadIdx_ln (n := 2064) (e := .f32) _ _ _ (ln l)) (loadIdx_ln (n := 2064) (e := .i32) _ _ _ (ln l))

/-! ### Stages between rows -/

/-- The lower row of pair `n`, and which pair a row is in. -/
def lowR (s n : ℕ) : ℕ := n / 2 ^ s * (2 * 2 ^ s) + n % 2 ^ s

def pairOf (s g : ℕ) : ℕ := g / (2 * 2 ^ s) * 2 ^ s + g % 2 ^ s

theorem pairOf_iff : ∀ s < 7, ∀ n < 64, ∀ g < 128, decide (pairOf s g = n) = (decide (g = lowR s n) || decide (g = lowR s n + 2 ^ s)) := by
  decide +kernel

theorem pairOf_lt : ∀ s < 7, ∀ g < 128, pairOf s g < 64 := by decide +kernel

theorem mate_pair : ∀ s < 7, ∀ n < 64, ∀ l < 16, (16 * lowR s n + l) ^^^ 2 ^ (s + 4) = 16 * (lowR s n + 2 ^ s) + l
    ∧ (16 * lowR s n + l).testBit (s + 4) = false := by decide +kernel

theorem pair_sw {s k : ℕ} (hs : s < 7) (hsk : s + 4 < k) (n : ℕ) (hn : n < 64) (v : ℕ → EReal ×ₗ ℤᵒᵈ) (l : ℕ) (hl : l < 16) (c : Bool)
    (hc : c = (decide (v (16 * (lowR s n + 2 ^ s) + l) < v (16 * lowR s n + l)) == (16 * lowR s n + l).testBit k)) :
    sw (s + 4) k v (16 * lowR s n + l) = (if c then v (16 * (lowR s n + 2 ^ s) + l) else v (16 * lowR s n + l))
      ∧ sw (s + 4) k v (16 * (lowR s n + 2 ^ s) + l) = (if c then v (16 * lowR s n + l) else v (16 * (lowR s n + 2 ^ s) + l)) := by
  obtain ⟨hm, hb⟩ := mate_pair s hs n hn l hl
  have hm' : (16 * (lowR s n + 2 ^ s) + l) ^^^ 2 ^ (s + 4) = 16 * lowR s n + l := by
    rw [← hm, Nat.xor_assoc, Nat.xor_self, Nat.xor_zero]
  have d1 : due (s + 4) k (16 * lowR s n + l) = !(16 * lowR s n + l).testBit k := by
    unfold due
    rw [hb]
    cases (16 * lowR s n + l).testBit k <;> rfl
  have d2 : due (s + 4) k (16 * (lowR s n + 2 ^ s) + l) = (16 * lowR s n + l).testBit k := by
    unfold due
    rw [← hm, Nat.testBit_xor, Nat.testBit_xor, Nat.testBit_two_pow_self, Nat.testBit_two_pow_of_ne (by omega), hb]
    cases (16 * lowR s n + l).testBit k <;> rfl
  unfold sw
  rw [hm, hm', d1, d2, hc]
  generalize (16 * lowR s n + l).testBit k = r
  generalize v (16 * (lowR s n + 2 ^ s) + l) = y
  generalize v (16 * lowR s n + l) = x
  rcases lt_trichotomy x y with h | h | h
  · have h' : ¬ y < x := h.asymm
    cases r <;> simp [h, h']
  · subst h
    cases r <;> simp
  · have h' : ¬ x < y := h.asymm
    cases r <;> simp [h, h']

/-- `n` pairs of rows done. -/
def PairI (σ₀ : St Ideal d (ci i) (cj i)) (s k n : ℕ) (σ : St Ideal d (ci i) (cj i)) : Prop :=
  Only [cc2_scratch5, cc2_scratch6] σ₀ σ ∧ ∀ j < 2048, pr σ j = if pairOf s (j / 16) < n then sw (s + 4) k (pr σ₀) j else pr σ₀ j

theorem pair_next {s k : ℕ} (hs : s < 7) (hsk : s + 4 < k) (hk : k < 12) (n : ℕ) (hn : n < 64) {σ : St Ideal d (ci i) (cj i)} (H : PairI σ₀ s k n σ)
    {o o' : Fin 1 → ℕ} (ho : o = ![16 * lowR s n]) (ho' : o' = ![16 * (lowR s n + 2 ^ s)])
    (inb : ∀ a, o a + S16.size a ≤ S2064.size a) (inb' : ∀ a, o' a + S16.size a ≤ S2064.size a)
    (x y : FVec Ideal S16 .f32) (a b : IVec S16 32) {r : BitVec 32} (hr : r = BitVec.ofNat 32 (lowR s n))
    (hx : ∀ l < 16, key (x (ln l)) (a (ln l)) = pr σ (16 * lowR s n + l)) (hy : ∀ l < 16, key (y (ln l)) (b (ln l)) = pr σ (16 * (lowR s n + 2 ^ s) + l))
    (τ₁ τ₂ τ₃ τ : St Ideal d (ci i) (cj i))
    (h1 : τ₁ = Function.update σ cc2_scratch5 (((Memref.whole cc2_scratch5).access (Rect.unit (s := S2064) o S16.size inb)).write (Elt Ideal) (σ cc2_scratch5)
      (select (pairSwap k r x y a b) y x : FVec Ideal S16 .f32) Finset.univ))
    (h2 : τ₂ = Function.update τ₁ cc2_scratch5 (((Memref.whole cc2_scratch5).access (Rect.unit (s := S2064) o' S16.size inb')).write (Elt Ideal) (τ₁ cc2_scratch5)
      (select (pairSwap k r x y a b) x y : FVec Ideal S16 .f32) Finset.univ))
    (h3 : τ₃ = Function.update τ₂ cc2_scratch6 (((Memref.whole cc2_scratch6).access (Rect.unit (s := S2064) o S16.size inb)).write (Elt Ideal) (τ₂ cc2_scratch6)
      (select (pairSwap k r x y a b) b a : IVec S16 32) Finset.univ))
    (h4 : τ = Function.update τ₃ cc2_scratch6 (((Memref.whole cc2_scratch6).access (Rect.unit (s := S2064) o' S16.size inb')).write (Elt Ideal) (τ₃ cc2_scratch6)
      (select (pairSwap k r x y a b) a b : IVec S16 32) Finset.univ)) : PairI σ₀ s k (n + 1) τ := by
  subst ho ho' hr
  have hlow : lowR s n + 2 ^ s < 128 := pairs_lt s hs n hn
  have hp := Nat.two_pow_pos s
  have e5 : ∀ j < 2048, rd (e := .f32) (n := 2064) (Memref.whole cc2_scratch5) τ j =
      if 16 * (lowR s n + 2 ^ s) ≤ j ∧ j < 16 * (lowR s n + 2 ^ s) + 16 then
        (select (pairSwap k (BitVec.ofNat 32 (lowR s n)) x y a b) x y : FVec Ideal S16 .f32) (ln (j - 16 * (lowR s n + 2 ^ s)))
      else if 16 * lowR s n ≤ j ∧ j < 16 * lowR s n + 16 then
        (select (pairSwap k (BitVec.ofNat 32 (lowR s n)) x y a b) y x : FVec Ideal S16 .f32) (ln (j - 16 * lowR s n))
      else rd (e := .f32) (n := 2064) (Memref.whole cc2_scratch5) σ j := fun j hj => by
    rw [h4, rd_update_ne (e := .f32) (n := 2064) (Memref.whole cc2_scratch5) _ (by decide), h3,
      rd_update_ne (e := .f32) (n := 2064) (Memref.whole cc2_scratch5) _ (by decide), h2]
    refine (rd_store (e := .f32) (n := 2064) (Memref.whole cc2_scratch5) τ₁ _ 16 inb' _ j (by omega)).trans ?_
    rw [h1]
    have e := rd_store (e := .f32) (n := 2064) (Memref.whole cc2_scratch5) σ _ 16 inb
      (select (pairSwap k (BitVec.ofNat 32 (lowR s n)) x y a b) y x : FVec Ideal S16 .f32) j (by omega)
    rw [← e]
  have e6 : ∀ j < 2048, rd (e := .i32) (n := 2064) (Memref.whole cc2_scratch6) τ j =
      if 16 * (lowR s n + 2 ^ s) ≤ j ∧ j < 16 * (lowR s n + 2 ^ s) + 16 then
        (select (pairSwap k (BitVec.ofNat 32 (lowR s n)) x y a b) a b : IVec S16 32) (ln (j - 16 * (lowR s n + 2 ^ s)))
      else if 16 * lowR s n ≤ j ∧ j < 16 * lowR s n + 16 then
        (select (pairSwap k (BitVec.ofNat 32 (lowR s n)) x y a b) b a : IVec S16 32) (ln (j - 16 * lowR s n))
      else rd (e := .i32) (n := 2064) (Memref.whole cc2_scratch6) σ j := fun j hj => by
    rw [h4]
    refine (rd_store (e := .i32) (n := 2064) (Memref.whole cc2_scratch6) τ₃ _ 16 inb' _ j (by omega)).trans ?_
    have e := rd_store (e := .i32) (n := 2064) (Memref.whole cc2_scratch6) τ₂ _ 16 inb
      (select (pairSwap k (BitVec.ofNat 32 (lowR s n)) x y a b) b a : IVec S16 32) j (by omega)
    have e' : rd (e := .i32) (n := 2064) (Memref.whole cc2_scratch6) τ₂ j = rd (e := .i32) (n := 2064) (Memref.whole cc2_scratch6) σ j := by
      rw [h2, rd_update_ne (e := .i32) (n := 2064) (Memref.whole cc2_scratch6) _ (by decide), h1,
        rd_update_ne (e := .i32) (n := 2064) (Memref.whole cc2_scratch6) _ (by decide)]
    rw [e'] at e
    rw [h3, ← e]
  have hsw : ∀ l < 16, _ := fun l hl => pair_sw hs hsk n hn (pr σ₀) l hl _ rfl
  have hpo := pairOf_iff s hs n hn
  have hold : ∀ l < 16, pr σ (16 * lowR s n + l) = pr σ₀ (16 * lowR s n + l) ∧ pr σ (16 * (lowR s n + 2 ^ s) + l) = pr σ₀ (16 * (lowR s n + 2 ^ s) + l) := fun l hl => by
    have p1 := hpo (lowR s n) (by omega)
    have p2 := hpo (lowR s n + 2 ^ s) (by omega)
    simp at p1 p2
    have q1 : (16 * lowR s n + l) / 16 = lowR s n := by omega
    have q2 : (16 * (lowR s n + 2 ^ s) + l) / 16 = lowR s n + 2 ^ s := by omega
    exact ⟨(H.2 _ (by omega)).trans (by rw [q1, if_neg (by omega)]), (H.2 _ (by omega)).trans (by rw [q2, if_neg (by omega)])⟩
  have hC := fun l hl => pairSwap_ln hk (by omega) (lowR s n) (by omega) x y a b l hl
  refine ⟨?_, fun j hj => ?_⟩
  · rw [h4, h3, h2, h1]
    exact (((H.1.update (by simp) _).update (by simp) _).update (by simp) _).update (by simp) _
  · refine (congrArg₂ key (e5 j hj) (e6 j hj)).trans ?_
    have hpj := hpo (j / 16) (by omega)
    by_cases hB : 16 * (lowR s n + 2 ^ s) ≤ j ∧ j < 16 * (lowR s n + 2 ^ s) + 16
    · rw [if_pos hB, if_pos hB]
      obtain ⟨l, hl, rfl⟩ : ∃ l < 16, j = 16 * (lowR s n + 2 ^ s) + l := ⟨j - 16 * (lowR s n + 2 ^ s), by omega, by omega⟩
      rw [show (16 * (lowR s n + 2 ^ s) + l) / 16 = lowR s n + 2 ^ s by omega] at hpj ⊢
      simp at hpj
      rw [if_pos (by omega), (hsw l hl).2, show 16 * (lowR s n + 2 ^ s) + l - 16 * (lowR s n + 2 ^ s) = l by omega,
        key_select _ x y a b _ _ (hC l hl), hx l hl, hy l hl, (hold l hl).1, (hold l hl).2]
    · rw [if_neg hB, if_neg hB]
      by_cases hA : 16 * lowR s n ≤ j ∧ j < 16 * lowR s n + 16
      · rw [if_pos hA, if_pos hA]
        obtain ⟨l, hl, rfl⟩ : ∃ l < 16, j = 16 * lowR s n + l := ⟨j - 16 * lowR s n, by omega, by omega⟩
        rw [show (16 * lowR s n + l) / 16 = lowR s n by omega] at hpj ⊢
        simp at hpj
        rw [if_pos (by omega), (hsw l hl).1, show 16 * lowR s n + l - 16 * lowR s n = l by omega,
          key_select _ y x b a _ _ (hC l hl), hx l hl, hy l hl, (hold l hl).1, (hold l hl).2]
      · rw [if_neg hA, if_neg hA]
        refine (H.2 j hj).trans ?_
        have q : pairOf s (j / 16) ≠ n := by
          intro h
          rw [decide_eq_true h] at hpj
          have := hpj.symm
          simp only [Bool.or_eq_true, decide_eq_true_eq] at this
          omega
        by_cases h : pairOf s (j / 16) < n
        · rw [if_pos h, if_pos (by omega)]
        · rw [if_neg h, if_neg (by omega)]

theorem pairStep_tr (hsc : ∀ b ∈ scratches, Scr t b) {s k : ℕ} (hs : s < 7) (hsk : s + 4 < k) (hk : k < 12) (n : Fin k2_t16_loop.trips)
    {σ : St Ideal d (ci i) (cj i)} (H : PairI σ₀ s k n.val σ) : Tr t (pairStep s hs k n ()) σ (fun _ => PairI σ₀ s k (n.val + 1)) := by
  have hn : n.val < 64 := n.isLt
  have ho := lowOff s hs n
  have ho' := highOff s hs n
  unfold pairStep
  refine Tr.loadS (hsc _ (by decide)) (Tr.loadS (hsc _ (by decide)) (Tr.loadS (hsc _ (by decide)) (Tr.loadS (hsc _ (by decide))
    (Tr.loadS (hsc _ (by decide)) (Tr.storeS (hsc _ (by decide)) (Tr.loadS (hsc _ (by decide)) (Tr.storeS (hsc _ (by decide))
    (Tr.loadS (hsc _ (by decide)) (Tr.storeS (hsc _ (by decide)) (Tr.loadS (hsc _ (by decide)) (Tr.storeS (hsc _ (by decide)) (Tr.ret ?_))))))))))))
  refine pair_next hs hsk hk n.val hn H ho ho' _ _ _ _ _ _ (lowRow_val s hs n.val hn) (fun l hl => ?_) (fun l hl => ?_) _ _ _ _ rfl rfl rfl rfl
  · have e1 := rd_load (e := .f32) (n := 2064) (Memref.whole cc2_scratch5) σ _ 16 (lowOff_inb s hs n) l hl
    have e2 := rd_load (e := .i32) (n := 2064) (Memref.whole cc2_scratch6) σ _ 16 (lowOff_inb s hs n) l hl
    refine (congrArg₂ key e1 e2).trans ?_
    have q := congrFun ho 0
    unfold pr lowR
    exact congrArg₂ key (congrArg (fun z => rd (e := .f32) (n := 2064) (Memref.whole cc2_scratch5) σ (z + l)) q)
      (congrArg (fun z => rd (e := .i32) (n := 2064) (Memref.whole cc2_scratch6) σ (z + l)) q)
  · have e1 := rd_load (e := .f32) (n := 2064) (Memref.whole cc2_scratch5) σ _ 16 (highOff_inb s hs n) l hl
    have e2 := rd_load (e := .i32) (n := 2064) (Memref.whole cc2_scratch6) σ _ 16 (highOff_inb s hs n) l hl
    refine (congrArg₂ key e1 e2).trans ?_
    have q := congrFun ho' 0
    unfold pr lowR
    exact congrArg₂ key (congrArg (fun z => rd (e := .f32) (n := 2064) (Memref.whole cc2_scratch5) σ (z + l)) q)
      (congrArg (fun z => rd (e := .i32) (n := 2064) (Memref.whole cc2_scratch6) σ (z + l)) q)

/-! ### The whole sort -/

/-- A stage within the table's bounds. -/
def Stg.Fine : Stg → Prop
  | .mix s k => s < 4 ∧ s < k ∧ k < 12
  | .pair s _ k => s + 4 < k ∧ k < 12

def Stg.net : Stg → Network (2 ^ 11)
  | .mix s k => Ker.net s k
  | .pair s _ k => Ker.net (s + 4) k

/-- The table of candidates. -/
def prs (σ : St Ideal d (ci i) (cj i)) : Fin (2 ^ 11) → EReal ×ₗ ℤᵒᵈ := fun j => pr σ j.val

theorem run_tr (hsc : ∀ b ∈ scratches, Scr t b) (h1 : k2_cond1 i = 1#1) (g : Stg) (hg : g.Fine) (σ : St Ideal d (ci i) (cj i)) :
    Tr t (g.run h1) σ (fun _ σ' => Only [cc2_scratch5, cc2_scratch6] σ σ' ∧ prs σ' = Network.apply g.net (prs σ)) := by
  cases g with
  | mix s k =>
    refine Tr.mono (Tr.for _ _ _ _ _ _ (fun n _ => MixI σ s k n) ⟨Only.refl _ _, fun j hj => ?_⟩ fun n _ σ' H => mixStep_tr hsc h1 hg.1 hg.2.2 n H)
      fun _ σ' H => ⟨H.1, funext fun j => ?_⟩
    · rw [if_neg (by omega)]
    · refine (H.2 j.val j.isLt).trans ?_
      have hj : j.val < 2048 := j.isLt
      refine (if_pos ?_).trans (net_apply (by have := hg.1; omega) hg.2.1 (pr σ) j).symm
      show j.val < 16 * 128
      omega
  | pair s hs k =>
    refine Tr.mono (Tr.for _ _ _ _ _ _ (fun n _ => PairI σ s k n) ⟨Only.refl _ _, fun j hj => ?_⟩ fun n _ σ' H => pairStep_tr hsc hs hg.1 hg.2 n H)
      fun _ σ' H => ⟨H.1, funext fun j => ?_⟩
    · rw [if_neg (by omega)]
    · refine (H.2 j.val j.isLt).trans ?_
      have hj : j.val < 2048 := j.isLt
      refine (if_pos ?_).trans (net_apply (by omega) hg.1 (pr σ) j).symm
      exact pairOf_lt s hs _ (by omega)

theorem runs_tr (hsc : ∀ b ∈ scratches, Scr t b) (h1 : k2_cond1 i = 1#1) : ∀ (gs : List Stg) (_ : ∀ g ∈ gs, g.Fine) {p : Prog (TE Ideal (ci i) (cj i)) α}
    {Q : α → St Ideal d (ci i) (cj i) → Prop} {σ : St Ideal d (ci i) (cj i)}
    (_ : ∀ σ', Only [cc2_scratch5, cc2_scratch6] σ σ' → prs σ' = Network.apply (gs.flatMap Stg.net) (prs σ) → Tr t p σ' Q), Tr t (runs h1 gs p) σ Q
  | [], _, _, _, σ, hk => hk σ (Only.refl _ _) rfl
  | g :: gs, hg, _, _, _, hk =>
    Tr.bind (run_tr hsc h1 g (hg g (by simp)) _) fun _ _ H => runs_tr hsc h1 gs (fun g' h => hg g' (by simp [h])) fun σ' ho e =>
      hk σ' (H.1.trans' ho) (by rw [e, H.2, List.flatMap_cons, Network.apply_append])

end Cert.Proof.Ker

end
-- ==== Proof.Tail.lean ====
/-
  The entries, boxes and key points, as the kernel runs them.
-/
module

public import proofs.«01_k».proof.Proof.Stages

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {d : Dev nD} {i : grid2.Coords} {t : Holds F d (ci i) (cj i)} {σ₀ : St F d (ci i) (cj i)} {α : Type}

/-! ### The entries, sixteen at a time -/

/-- The query of an entry, before the cap. -/
def rawOf (x : Vec F S16 .i32) : IVec S16 32 := fptosi 32 (divf (sitofp .f32 x : FVec F S16 .f32) (broadcast S16 (Scalar.ofBits .f32 0x42A00000#32)))

/-- The query of an entry. -/
def qryOf (x : Vec F S16 .i32) : IVec S16 32 := minsi (rawOf x) (broadcast S16 19999#32)

/-- The label of an entry. -/
def labOf (x : Vec F S16 .i32) : IVec S16 32 := subi x (muli (rawOf x) (broadcast S16 80#32))

/-- The row of the table of boxes an entry is in. -/
def boxRow (b : BitVec 32) (x : Vec F S16 .i32) : IVec S16 32 :=
  addi (broadcast S16 (Scalar.muli 625#32 b)) (shrsi (qryOf x) (broadcast S16 5#32))

/-- The first of the two rows of the table of key points an entry is in. -/
def kptRow (b : BitVec 32) (x : Vec F S16 .i32) : IVec S16 32 :=
  shrsi (addi (broadcast S16 (Scalar.muli 680000#32 b)) (muli (broadcast S16 34#32) (qryOf x))) (broadcast S16 7#32)

/-- Where the first rows of sixteen entries go. -/
def kptAt (v : ℕ) : IVec S16 32 := muli (broadcast S16 2#32) (addi (broadcast S16 (BitVec.ofNat 32 (16 * v))) lanes)

/-- Where the second rows go. -/
def kptAt' (v : ℕ) : IVec S16 32 := addi (kptAt v) (broadcast S16 1#32)

/-- Sixteen entries but for the rows of key points. -/
def entryHead (v : ℕ) (p : IVec S16 32 → Prog (TE F (ci i) (cj i)) α) (p' : Prog (TE F (ci i) (cj i)) α) : Prog (TE F (ci i) (cj i)) α :=
  if h : 16 * v + 16 ≤ 384 then
    have h' : 16 * v + 16 ≤ 2064 := by omega
    .op (.load (Memref.whole cc2_scratch6) (Rect.unit (s := S2064) ![16 * v] S16.size (Rect.inb₁ h')).toLoadRect (View.loadsAt_vmem h_S16)) fun (x : Vec F S16 .i32) =>
    .op (.load (Memref.whole cc2_scratch7) (Rect.unit (s := S384) ![16 * v] S16.size (Rect.inb₁ h)).toLoadRect (View.loadsAt_vmem h_S16)) fun _ =>
    .op (.store (Memref.whole cc2_scratch7) (Rect.unit (s := S384) ![16 * v] S16.size (Rect.inb₁ h)) (labOf x) Finset.univ (View.stores_vmem_bits_univ h_S16 rfl) (.inl rfl)) fun _ =>
    .op (.load (Memref.whole cc2_scratch8) (Rect.unit (s := S384) ![16 * v] S16.size (Rect.inb₁ h)).toLoadRect (View.loadsAt_vmem h_S16)) fun _ =>
    .op (.store (Memref.whole cc2_scratch8) (Rect.unit (s := S384) ![16 * v] S16.size (Rect.inb₁ h)) (qryOf x) Finset.univ (View.stores_vmem_bits_univ h_S16 rfl) (.inl rfl)) fun _ =>
    .op (.load (Memref.whole cc2_scratch9) (Rect.unit (s := S384) ![16 * v] S16.size (Rect.inb₁ h)).toLoadRect (View.loadsAt_vmem h_S16)) fun _ =>
    .op (.store (Memref.whole cc2_scratch9) (Rect.unit (s := S384) ![16 * v] S16.size (Rect.inb₁ h)) (boxRow (BitVec.ofNat 32 (i 1).val) x) Finset.univ
      (View.stores_vmem_bits_univ h_S16 rfl) (.inl rfl)) fun _ => p (kptRow (BitVec.ofNat 32 (i 1).val) x)
  else p'

/-- The rows of key points of sixteen entries. -/
def entryTail (h1 : k2_cond1 i = 1#1) (v : ℕ) (r : IVec S16 32) (p : Prog (TE F (ci i) (cj i)) α) : Prog (TE F (ci i) (cj i)) α :=
  .op (.assume (k2_chk64 i (kptAt v)) (k2_chk64.dec i _)) fun w =>
  SparseCore.vectorStoreIdx (F := F) (e := .i32) (Memref.whole cc2_scratch10) ![kptAt v] r (fun _ => 1#1) false (k2_idx113_inb i _ w.down h1)
    (View.stores_vmem_bits_univ h_S768 rfl) >>= fun _ =>
  .op (.assume (k2_chk64 i (kptAt' v)) (k2_chk64.dec i _)) fun w =>
  SparseCore.vectorStoreIdx (F := F) (e := .i32) (Memref.whole cc2_scratch10) ![kptAt' v] (addi r (broadcast S16 1#32)) (fun _ => 1#1) false
    (k2_idx113_inb i _ w.down h1) (View.stores_vmem_bits_univ h_S768 rfl) >>= fun _ => p

/-- Sixteen entries, from number `v` on, `m` times. -/
def entryFrom (h1 : k2_cond1 i = 1#1) : ℕ → ℕ → Prog (TE F (ci i) (cj i)) α → Prog (TE F (ci i) (cj i)) α
  | _, 0, p => p
  | v, m + 1, p => entryHead v (fun r => entryTail h1 v r (entryFrom h1 (v + 1) m p)) p

/-! ### The boxes and the key points -/

/-- The places of sixteen coordinates of boxes. -/
def boxP (hh : ℕ) (n : Fin k2_t72_loop.trips) : IVec S16 32 :=
  addi (broadcast S16 (Scalar.addi (BitVec.ofNat 32 (512 * hh)) (Scalar.muli 16#32 (Scf.iv 0#32 1#32 n)))) lanes

/-- Their entries. -/
def boxJ (hh : ℕ) (n : Fin k2_t72_loop.trips) : IVec S16 32 := shrsi (boxP hh n) (broadcast S16 2#32)

/-- Their entries within the third. -/
def boxL (hh : ℕ) (n : Fin k2_t72_loop.trips) : IVec S16 32 := subi (boxJ hh n) (broadcast S16 (BitVec.ofNat 32 (128 * hh)))

/-- Which coordinates they are. -/
def boxC (hh : ℕ) (n : Fin k2_t72_loop.trips) : IVec S16 32 := andi (boxP hh n) (broadcast S16 3#32)

/-- Where a coordinate is in a row of the table. -/
def boxA (hh : ℕ) (n : Fin k2_t72_loop.trips) (q : Vec F S16 .i32) : IVec S16 32 :=
  andi (addi (muli (broadcast S16 4#32) q) (boxC hh n)) (broadcast S16 127#32)

/-- Where the other one of its axis is. -/
def boxB (hh : ℕ) (n : Fin k2_t72_loop.trips) (q : Vec F S16 .i32) : IVec S16 32 :=
  andi (addi (muli (broadcast S16 4#32) q) (xori (boxC hh n) (broadcast S16 2#32))) (broadcast S16 127#32)

/-- The corner coordinates from the centres and the extents. -/
def boxV (hh : ℕ) (n : Fin k2_t72_loop.trips) (a b : FVec F S16 .f32) : FVec F S16 .f32 :=
  select (cmpi .slt (boxC hh n) (broadcast S16 2#32)) (subf a (mulf b (broadcast S16 (Scalar.ofBits .f32 0x3F000000#32))))
    (addf b (mulf a (broadcast S16 (Scalar.ofBits .f32 0x3F000000#32))))

/-- Where row `n` of what is written goes. -/
def rowAt (o : ℕ) (n : ℕ) : Fin 1 → ℕ := ![(Scalar.indexCast (Scalar.addi (BitVec.ofNat 32 o) (Scalar.muli 16#32 (Scf.iv 0#32 1#32 n)))).toNat]

theorem rowAt_box : ∀ hh < 3, ∀ n < 32, (Scalar.indexCast (Scalar.addi (BitVec.ofNat 32 (512 * hh)) (Scalar.muli 16#32 (Scf.iv 0#32 1#32 n)))).toNat = 512 * hh + 16 * n := by
  decide +kernel

theorem rowAt_kpt : ∀ hh < 6, ∀ n < 136, (Scalar.indexCast (Scalar.addi (BitVec.ofNat 32 (2176 * hh)) (Scalar.muli 16#32 (Scf.iv 0#32 1#32 n)))).toNat = 2176 * hh + 16 * n := by
  decide +kernel

theorem boxAt_inb (hh : ℕ) (hh3 : hh < 3) (n : Fin k2_t72_loop.trips) : ∀ a, rowAt (512 * hh) n.val a + S16.size a ≤ S1536.size a := by
  have hn : n.val < 32 := n.isLt
  unfold rowAt
  rw [rowAt_box hh hh3 _ hn]
  have hle : 512 * hh + 16 * n.val + 16 ≤ 1536 := by omega
  exact Rect.inb₁ hle

theorem kptAt_inb (hh : ℕ) (hh6 : hh < 6) (n : Fin k2_t75_loop.trips) : ∀ a, rowAt (2176 * hh) n.val a + S16.size a ≤ S13056.size a := by
  have hn : n.val < 136 := n.isLt
  unfold rowAt
  rw [rowAt_kpt hh hh6 _ hn]
  have hle : 2176 * hh + 16 * n.val + 16 ≤ 13056 := by omega
  exact Rect.inb₁ hle

/-- Sixteen coordinates of boxes. -/
def boxStep (h1 : k2_cond1 i = 1#1) (hh : ℕ) (hh3 : hh < 3) (n : Fin k2_t72_loop.trips) (_ : Unit) : Prog (TE F (ci i) (cj i)) Unit :=
  .op (.assume (k2_chk112 i (boxJ hh n)) (k2_chk112.dec i _)) fun w =>
  SparseCore.vectorLoadIdx (Memref.whole cc2_scratch8) ![boxJ hh n] (k2_idx161_inb i _ w.down h1) (View.loads_vmem h_S384) >>= fun (q : Vec F S16 .i32) =>
  .op (.assume (k2_chk113 i (boxL hh n) (boxA hh n q)) (k2_chk113.dec i _ _)) fun w =>
  SparseCore.vectorLoadIdx (Memref.whole cc2_scratch4) ![boxL hh n, boxA hh n q] (k2_idx162_inb i _ _ w.down h1) (View.loads_vmem h_S128x128) >>= fun (a : Vec F S16 .f32) =>
  .op (.assume (k2_chk113 i (boxL hh n) (boxB hh n q)) (k2_chk113.dec i _ _)) fun w =>
  SparseCore.vectorLoadIdx (Memref.whole cc2_scratch4) ![boxL hh n, boxB hh n q] (k2_idx162_inb i _ _ w.down h1) (View.loads_vmem h_S128x128) >>= fun (b : Vec F S16 .f32) =>
  .op (.load (Memref.whole cc2_scratch11) (Rect.unit (s := S1536) _ S16.size (boxAt_inb hh hh3 n)).toLoadRect (View.loadsAt_vmem h_S16)) fun _ =>
  .op (.store (Memref.whole cc2_scratch11) (Rect.unit (s := S1536) _ S16.size (boxAt_inb hh hh3 n)) (boxV hh n a b) Finset.univ
    (View.stores_vmem_bits_univ h_S16 rfl) (.inl rfl)) fun _ => .ret ()

/-- The places of sixteen key point numbers. -/
def kptP (hh : ℕ) (n : Fin k2_t75_loop.trips) : IVec S16 32 :=
  addi (broadcast S16 (Scalar.addi (BitVec.ofNat 32 (2176 * hh)) (Scalar.muli 16#32 (Scf.iv 0#32 1#32 n)))) lanes

/-- Their entries. -/
def kptJ (hh : ℕ) (n : Fin k2_t75_loop.trips) : IVec S16 32 :=
  fptosi 32 (divf (sitofp .f32 (kptP hh n) : FVec F S16 .f32) (broadcast S16 (Scalar.ofBits .f32 0x42080000#32)))

/-- Where an entry's key points start. -/
def kptB (b : BitVec 32) (q : Vec F S16 .i32) : IVec S16 32 := addi (broadcast S16 (Scalar.muli 680000#32 b)) (muli (broadcast S16 34#32) q)

/-- Where the numbers are in the flat table. -/
def kptF (b : BitVec 32) (hh : ℕ) (n : Fin k2_t75_loop.trips) (jv : IVec S16 32) (q : Vec F S16 .i32) : IVec S16 32 :=
  addi (kptB (F := F) b q) (subi (kptP hh n) (muli (broadcast S16 34#32) jv))

/-- The rows they are in, of those fetched. -/
def kptR (b : BitVec 32) (hh : ℕ) (n : Fin k2_t75_loop.trips) (jv : IVec S16 32) (q : Vec F S16 .i32) : IVec S16 32 :=
  addi (muli (broadcast S16 2#32) (subi jv (broadcast S16 (BitVec.ofNat 32 (64 * hh)))))
    (subi (shrsi (kptF (F := F) b hh n jv q) (broadcast S16 7#32)) (shrsi (kptB (F := F) b q) (broadcast S16 7#32)))

/-- The places in those rows. -/
def kptC (b : BitVec 32) (hh : ℕ) (n : Fin k2_t75_loop.trips) (jv : IVec S16 32) (q : Vec F S16 .i32) : IVec S16 32 :=
  andi (kptF (F := F) b hh n jv q) (broadcast S16 127#32)

/-- Sixteen key point numbers. -/
def kptStep (h1 : k2_cond1 i = 1#1) (hh : ℕ) (hh6 : hh < 6) (n : Fin k2_t75_loop.trips) (_ : Unit) : Prog (TE F (ci i) (cj i)) Unit :=
  .op (.assume (k2_chk121 i (kptJ (F := F) hh n)) (k2_chk121.dec i _)) fun w =>
  SparseCore.vectorLoadIdx (Memref.whole cc2_scratch8) ![kptJ (F := F) hh n] (k2_idx170_inb i _ w.down h1) (View.loads_vmem h_S384) >>= fun (q : Vec F S16 .i32) =>
  .op (.assume (k2_chk122 i (kptR (F := F) (BitVec.ofNat 32 (i 1).val) hh n (kptJ (F := F) hh n) q) (kptC (F := F) (BitVec.ofNat 32 (i 1).val) hh n (kptJ (F := F) hh n) q)) (k2_chk122.dec i _ _)) fun w =>
  SparseCore.vectorLoadIdx (Memref.whole cc2_scratch4) ![kptR (F := F) (BitVec.ofNat 32 (i 1).val) hh n (kptJ (F := F) hh n) q,
    kptC (F := F) (BitVec.ofNat 32 (i 1).val) hh n (kptJ (F := F) hh n) q] (k2_idx171_inb i _ _ w.down h1) (View.loads_vmem h_S128x128) >>= fun (a : Vec F S16 .f32) =>
  .op (.load (Memref.whole cc2_scratch12) (Rect.unit (s := S13056) _ S16.size (kptAt_inb hh hh6 n)).toLoadRect (View.loadsAt_vmem h_S16)) fun _ =>
  .op (.store (Memref.whole cc2_scratch12) (Rect.unit (s := S13056) _ S16.size (kptAt_inb hh hh6 n)) a Finset.univ
    (View.stores_vmem_bits_univ h_S16 rfl) (.inl rfl)) fun _ => .ret ()

theorem op_bind {β : Type} {κ : Type} (e : TE F (ci i) (cj i) κ) (f : κ → Prog (TE F (ci i) (cj i)) α) (k : α → Prog (TE F (ci i) (cj i)) β) :
    (Prog.op e f >>= k) = Prog.op e (fun x => f x >>= k) := rfl

theorem runs_bind {β : Type} (h1 : k2_cond1 i = 1#1) (gs : List Stg) (p : Prog (TE F (ci i) (cj i)) α) (k : α → Prog (TE F (ci i) (cj i)) β) :
    (runs h1 gs p >>= k) = runs h1 gs (p >>= k) := by
  induction gs with
  | nil => rfl
  | cons s r ih =>
    unfold runs
    rw [bind_assoc]
    simp only [ih]

/-- The fetch of a third of the boxes' rows, started. -/
def boxGo (hh : ℕ) (hh3 : hh < 3) (p : Prog (TE F (ci i) (cj i)) α) : Prog (TE F (ci i) (cj i)) α :=
  have h : 128 * hh + 128 ≤ 384 := by omega
  SparseCore.enqueueIndirectGather rfl ((Memref.whole main_v1_scv).slice (Rect.unit (s := S10000x128) ![0, 0] S10000x128.size inb_S10000x128_S10000x128_0_0) (fun _ => rfl))
    (Memref.whole cc2_scratch4) gathers_S10000x128_S128x128
    ((Memref.whole cc2_scratch9).slice (Rect.unit (s := S384) ![128 * hh] S128.size (Rect.inb₁ h)) (fun _ => rfl)) rfl cc2_scratch13.sem (View.wordExact_bits rfl) rfl (Or.inl rfl) >>= fun _ => p

/-- The end of that fetch. -/
def boxEnd (p : Prog (TE F (ci i) (cj i)) α) : Prog (TE F (ci i) (cj i)) α :=
  .op (.waitDma2 cc2_scratch13.sem ((Memref.whole main_v1_scv).slice (Rect.unit (s := S10000x128) ![0, 0] S10000x128.size inb_S10000x128_S10000x128_0_0) (fun _ => rfl))
    (Memref.whole cc2_scratch4) (View.wordExact_bits rfl) (Memref.isWhole_whole _).wordExact) fun _ => p

/-- A third of the boxes. -/
def boxLoop (h1 : k2_cond1 i = 1#1) (hh : ℕ) (hh3 : hh < 3) (p : Prog (TE F (ci i) (cj i)) α) : Prog (TE F (ci i) (cj i)) α :=
  Scf.Loop.for k2_t72_loop (k2_t72_ok i h1) ⟨⟩ (boxStep h1 hh hh3) >>= fun _ => p

/-- The fetch of a sixth of the key points' rows. -/
def kptFetch (hh : ℕ) (hh6 : hh < 6) (p : Prog (TE F (ci i) (cj i)) α) : Prog (TE F (ci i) (cj i)) α :=
  have h : 128 * hh + 128 ≤ 768 := by omega
  SparseCore.enqueueIndirectGather rfl ((Memref.whole main_v3_scv).slice (Rect.unit (s := S85000x128) ![0, 0] S85000x128.size inb_S85000x128_S85000x128_0_0) (fun _ => rfl))
    (Memref.whole cc2_scratch4) gathers_S85000x128_S128x128
    ((Memref.whole cc2_scratch10).slice (Rect.unit (s := S768) ![128 * hh] S128.size (Rect.inb₁ h)) (fun _ => rfl)) rfl cc2_scratch14.sem (View.wordExact_bits rfl) rfl (Or.inl rfl) >>= fun _ =>
  .op (.waitDma2 cc2_scratch14.sem ((Memref.whole main_v3_scv).slice (Rect.unit (s := S85000x128) ![0, 0] S85000x128.size inb_S85000x128_S85000x128_0_0) (fun _ => rfl))
    (Memref.whole cc2_scratch4) (View.wordExact_bits rfl) (Memref.isWhole_whole _).wordExact) fun _ => p

/-- A sixth of the key points. -/
def kptLoop (h1 : k2_cond1 i = 1#1) (hh : ℕ) (hh6 : hh < 6) (p : Prog (TE F (ci i) (cj i)) α) : Prog (TE F (ci i) (cj i)) α :=
  Scf.Loop.for k2_t75_loop (k2_t75_ok i h1) ⟨⟩ (kptStep h1 hh hh6) >>= fun _ => p

/-- The last scatter of second rows. -/
def lastTail (h1 : k2_cond1 i = 1#1) (r : IVec S16 32) (x : IVec S16 32) (p : Prog (TE F (ci i) (cj i)) α) : Prog (TE F (ci i) (cj i)) α :=
  .op (.assume (k2_chk64 i (addi (muli (broadcast S16 2#32) x) (broadcast S16 1#32))) (k2_chk64.dec i _)) fun w =>
  SparseCore.vectorStoreIdx (F := F) (e := .i32) (Memref.whole cc2_scratch10) ![addi (muli (broadcast S16 2#32) x) (broadcast S16 1#32)] (addi r (broadcast S16 1#32))
    (fun _ => 1#1) false (k2_idx113_inb i _ w.down h1) (View.stores_vmem_bits_univ h_S768 rfl) >>= fun _ => p

section Assoc
variable {β : Type} (h1 : k2_cond1 i = 1#1) (p : Prog (TE F (ci i) (cj i)) α) (k : α → Prog (TE F (ci i) (cj i)) β)

theorem boxGo_bind (hh : ℕ) (hh3 : hh < 3) : (boxGo hh hh3 p >>= k) = boxGo hh hh3 (p >>= k) := by
  unfold boxGo
  rw [bind_assoc]

theorem boxEnd_bind : (boxEnd p >>= k) = boxEnd (p >>= k) := rfl

theorem boxLoop_bind (hh : ℕ) (hh3 : hh < 3) : (boxLoop h1 hh hh3 p >>= k) = boxLoop h1 hh hh3 (p >>= k) := by
  unfold boxLoop
  rw [bind_assoc]

theorem kptFetch_bind (hh : ℕ) (hh6 : hh < 6) : (kptFetch hh hh6 p >>= k) = kptFetch hh hh6 (p >>= k) := by
  unfold kptFetch
  rw [bind_assoc]
  rfl

theorem kptLoop_bind (hh : ℕ) (hh6 : hh < 6) : (kptLoop h1 hh hh6 p >>= k) = kptLoop h1 hh hh6 (p >>= k) := by
  unfold kptLoop
  rw [bind_assoc]

theorem lastTail_bind (r x : IVec S16 32) : (lastTail h1 r x p >>= k) = lastTail h1 r x (p >>= k) := rfl

end Assoc

/-- The labels' row of this subcore. -/
abbrev labRow (i : grid2.Coords) (h1 : k2_cond1 i = 1#1) : Memref sig .scVector .hbm S384 .i32 :=
  ((Memref.whole main_v4_0_scv).slice (Rect.unit (s := S16x384) (k2_off165 i) S1x384.size (k2_off165_inb i h1)) (fun _ => rfl)).squeeze S384 squeezes_S1x384_S384

/-- The scores' row of this subcore. -/
abbrev scoRow (i : grid2.Coords) (h1 : k2_cond1 i = 1#1) : Memref sig .scVector .hbm S384 .f32 :=
  ((Memref.whole main_v4_2_scv).slice (Rect.unit (s := S16x384) (k2_off165 i) S1x384.size (k2_off165_inb i h1)) (fun _ => rfl)).squeeze S384 squeezes_S1x384_S384

/-- The boxes' row of this subcore. -/
abbrev boxesRow (i : grid2.Coords) (h1 : k2_cond1 i = 1#1) : Memref sig .scVector .hbm S1536 .f32 :=
  ((Memref.whole main_v4_1_scv).slice (Rect.unit (s := S16x1536) (k2_off166 i) S1x1536.size (k2_off166_inb i h1)) (fun _ => rfl)).squeeze S1536 squeezes_S1x1536_S1536

/-- The key points' row of this subcore. -/
abbrev kptsRow (i : grid2.Coords) (h1 : k2_cond1 i = 1#1) : Memref sig .scVector .hbm S13056 .f32 :=
  ((Memref.whole main_v4_3_scv).slice (Rect.unit (s := S16x13056) (k2_off167 i) S1x13056.size (k2_off167_inb i h1)) (fun _ => rfl)).squeeze S13056 squeezes_S1x13056_S13056

/-- The scores, in this subcore's memory. -/
abbrev scoSrc : Memref sig .scVector .vmem S384 .f32 :=
  (Memref.whole cc2_scratch5).slice (Rect.unit (s := S2064) ![0] S384.size inb_S2064_S384_0) (fun _ => rfl)

/-- The copies of what was found, and `p`. -/
def outs (h1 : k2_cond1 i = 1#1) (p : Prog (TE F (ci i) (cj i)) α) : Prog (TE F (ci i) (cj i)) α :=
  .op (.enqueueDma (Memref.whole cc2_scratch7) (.here (labRow i h1)) (.dma cc2_scoped1.sem) (Memref.isWhole_whole _).wordExact ((View.wordExact_bits rfl).reshape _ _) ⟨Or.inl rfl, trivial⟩) fun _ =>
  .op (.waitDma2 cc2_scoped1.sem (Memref.whole cc2_scratch7) (labRow i h1) (Memref.isWhole_whole _).wordExact ((View.wordExact_bits rfl).reshape _ _)) fun _ =>
  .op (.enqueueDma scoSrc (.here (scoRow i h1)) (.dma cc2_scoped2.sem) (View.wordExact_bits rfl) ((View.wordExact_bits rfl).reshape _ _) ⟨Or.inl rfl, trivial⟩) fun _ =>
  .op (.waitDma2 cc2_scoped2.sem scoSrc (scoRow i h1) (View.wordExact_bits rfl) ((View.wordExact_bits rfl).reshape _ _)) fun _ =>
  .op (.enqueueDma (Memref.whole cc2_scratch11) (.here (boxesRow i h1)) (.dma cc2_scoped3.sem) (Memref.isWhole_whole _).wordExact ((View.wordExact_bits rfl).reshape _ _) ⟨Or.inl rfl, trivial⟩) fun _ =>
  .op (.waitDma2 cc2_scoped3.sem (Memref.whole cc2_scratch11) (boxesRow i h1) (Memref.isWhole_whole _).wordExact ((View.wordExact_bits rfl).reshape _ _)) fun _ =>
  .op (.enqueueDma (Memref.whole cc2_scratch12) (.here (kptsRow i h1)) (.dma cc2_scoped4.sem) (Memref.isWhole_whole _).wordExact ((View.wordExact_bits rfl).reshape _ _) ⟨Or.inl rfl, trivial⟩) fun _ => p

theorem outs_bind {β : Type} (h1 : k2_cond1 i = 1#1) (p : Prog (TE F (ci i) (cj i)) α) (k : α → Prog (TE F (ci i) (cj i)) β) : (outs h1 p >>= k) = outs h1 (p >>= k) := rfl

theorem w81 (h1 : k2_cond1 i = 1#1) : app (k2_part81 (F := F) i) (BitVec.ofNat 32 (i 1).val) lanes (fun _ => 0#32) (fun _ => 1#32) h1 =
    runs h1 [.pair 0 (by decide) 11, .mix 3 11, .mix 2 11, .mix 1 11, .mix 0 11]
    (.op (.load (Memref.whole cc2_scratch6) (Rect.unit (s := S2064) ![0] S16.size inb_S2064_S16_0).toLoadRect (View.loadsAt_vmem h_S16)) fun (x : Vec F S16 .i32) =>
    .op (.load (Memref.whole cc2_scratch7) (Rect.unit (s := S384) ![0] S16.size inb_S384_S16_0).toLoadRect (View.loadsAt_vmem h_S16)) fun _ =>
    .op (.store (Memref.whole cc2_scratch7) (Rect.unit (s := S384) ![0] S16.size inb_S384_S16_0) (labOf x) Finset.univ (View.stores_vmem_bits_univ h_S16 rfl) (.inl rfl)) fun _ =>
    .op (.load (Memref.whole cc2_scratch8) (Rect.unit (s := S384) ![0] S16.size inb_S384_S16_0).toLoadRect (View.loadsAt_vmem h_S16)) fun _ =>
    .op (.store (Memref.whole cc2_scratch8) (Rect.unit (s := S384) ![0] S16.size inb_S384_S16_0) (qryOf x) Finset.univ (View.stores_vmem_bits_univ h_S16 rfl) (.inl rfl)) fun _ =>
    .ret ⟨qryOf x, Scalar.muli 625#32 (BitVec.ofNat 32 (i 1).val), shrsi (qryOf x) (broadcast S16 5#32)⟩) := by
  rw [k2_part81_eq_skeleton]
  rfl

theorem w105 (h1 : k2_cond1 i = 1#1) (r x : IVec S16 32) : app (k2_part105 (F := F) i) lanes h1 r x =
    lastTail h1 r x (boxGo 0 (by decide) (boxEnd (boxLoop h1 0 (by decide) (boxGo 1 (by decide) (boxEnd (boxLoop h1 1 (by decide) (boxGo 2 (by decide) (.ret ⟨⟩)))))))) := by
  rw [k2_part105_eq_skeleton]
  rfl

theorem w106 (h1 : k2_cond1 i = 1#1) : app (k2_part106 (F := F) i) (BitVec.ofNat 32 (i 1).val) lanes h1 =
    boxEnd (boxLoop h1 2 (by decide) (kptFetch 0 (by decide) (kptLoop h1 0 (by decide) (kptFetch 1 (by decide) (kptLoop h1 1 (by decide)
      (kptFetch 2 (by decide) (.ret 0#32))))))) := by
  rw [k2_part106_eq_skeleton]
  rfl

theorem w107 (h1 : k2_cond1 i = 1#1) : app (k2_part107 (F := F) i) (BitVec.ofNat 32 (i 1).val) lanes h1 0#32 =
    kptLoop h1 2 (by decide) (kptFetch 3 (by decide) (kptLoop h1 3 (by decide) (kptFetch 4 (by decide) (kptLoop h1 4 (by decide)
      (kptFetch 5 (by decide) (.ret ⟨0#32, 1#32⟩)))))) := by
  rw [k2_part107_eq_skeleton]
  rfl

theorem w108 (h1 : k2_cond1 i = 1#1) : app (k2_part108 (F := F) i) (BitVec.ofNat 32 (i 1).val) lanes h1 0#32 1#32 =
    kptLoop h1 5 (by decide) (outs h1 (.ret ⟨⟩)) := by
  rw [k2_part108_eq_skeleton]
  rfl

/-- The boxes, the key points, and the copies. -/
def rest (h1 : k2_cond1 i = 1#1) (p : Prog (TE F (ci i) (cj i)) α) : Prog (TE F (ci i) (cj i)) α :=
  boxGo 0 (by decide) (boxEnd (boxLoop h1 0 (by decide) (boxGo 1 (by decide) (boxEnd (boxLoop h1 1 (by decide) (boxGo 2 (by decide)
  (boxEnd (boxLoop h1 2 (by decide) (kptFetch 0 (by decide) (kptLoop h1 0 (by decide) (kptFetch 1 (by decide) (kptLoop h1 1 (by decide)
  (kptFetch 2 (by decide) (kptLoop h1 2 (by decide) (kptFetch 3 (by decide) (kptLoop h1 3 (by decide) (kptFetch 4 (by decide) (kptLoop h1 4 (by decide)
  (kptFetch 5 (by decide) (kptLoop h1 5 (by decide) (outs h1
    (.op (.waitDma2 cc2_scoped4.sem (Memref.whole cc2_scratch12) (kptsRow i h1) (Memref.isWhole_whole _).wordExact ((View.wordExact_bits rfl).reshape _ _)) fun _ => p))))))))))))))))))))))

theorem seg81 (h1 : k2_cond1 i = 1#1) (p : IVec S16 32 → BitVec 32 → Prog (TE F (ci i) (cj i)) α) (p' : Prog (TE F (ci i) (cj i)) α) : (do
    let ⟨v1029, v1031, v1033⟩ : Σ' (v1029 : IVec S16 32) (v1031 : BitVec 32), IVec S16 32 ← app (k2_part81 (F := F) i) (BitVec.ofNat 32 (i 1).val) lanes (fun _ => 0#32) (fun _ => 1#32) h1
    let ⟨v1064, v1068, v1069⟩ : Σ' (v1064 : IVec S16 32) (v1068 : IVec S16 32), IVec S16 32 ← app (k2_part82 (F := F) i) (BitVec.ofNat 32 (i 1).val) lanes h1 v1029 v1031 v1033
    let ⟨v1099, v1105⟩ : Σ' (v1099 : IVec S16 32), IVec S16 32 ← app (k2_part83 (F := F) i) (BitVec.ofNat 32 (i 1).val) lanes h1 v1064 v1068 v1069
    let ⟨v1134, v1140⟩ : Σ' (v1134 : IVec S16 32), IVec S16 32 ← app (k2_part84 (F := F) i) (BitVec.ofNat 32 (i 1).val) lanes h1 v1099 v1105
    let ⟨v1169, v1175⟩ : Σ' (v1169 : IVec S16 32), IVec S16 32 ← app (k2_part85 (F := F) i) (BitVec.ofNat 32 (i 1).val) lanes h1 v1134 v1140
    let v1204 : IVec S16 32 ← app (k2_part86 (F := F) i) (BitVec.ofNat 32 (i 1).val) lanes h1 v1169 v1175
    let ⟨v1239, c680000_i32_850⟩ : Σ' (v1239 : IVec S16 32), BitVec 32 ← app (k2_part87 (F := F) i) (BitVec.ofNat 32 (i 1).val) lanes h1 v1204
    let ⟨v1274, v1282⟩ : Σ' (v1274 : IVec S16 32), BitVec 32 ← app (k2_part88 (F := F) i) (BitVec.ofNat 32 (i 1).val) lanes h1 v1239 c680000_i32_850
    let ⟨v1309, v1317, c34_i32_885⟩ : Σ' (v1309 : IVec S16 32) (v1317 : BitVec 32), BitVec 32 ← app (k2_part89 (F := F) i) (BitVec.ofNat 32 (i 1).val) lanes h1 v1274 v1282
    let ⟨v1344, v1352, v1353⟩ : Σ' (v1344 : IVec S16 32) (v1352 : BitVec 32), IVec S16 32 ← app (k2_part90 (F := F) i) (BitVec.ofNat 32 (i 1).val) lanes h1 v1309 v1317 c34_i32_885
    let ⟨v1387, v1389⟩ : Σ' (v1387 : BitVec 32), IVec S16 32 ← app (k2_part91 (F := F) i) (BitVec.ofNat 32 (i 1).val) lanes h1 v1344 v1352 v1353
    let ⟨v1424, v1425⟩ : Σ' (v1424 : IVec S16 32), IVec S16 32 ← app (k2_part92 (F := F) i) (BitVec.ofNat 32 (i 1).val) lanes h1 v1387 v1389
    let v1461 : IVec S16 32 ← app (k2_part93 (F := F) i) (BitVec.ofNat 32 (i 1).val) lanes h1 v1424 v1425
    let ⟨v1496, c7_i32_968⟩ : Σ' (v1496 : IVec S16 32), BitVec 32 ← app (k2_part94 (F := F) i) (BitVec.ofNat 32 (i 1).val) lanes h1 v1461
    let ⟨v1531, v1532⟩ : Σ' (v1531 : IVec S16 32), IVec S16 32 ← app (k2_part95 (F := F) i) (BitVec.ofNat 32 (i 1).val) lanes h1 v1496 c7_i32_968
    let v1568 : IVec S16 32 ← app (k2_part96 (F := F) i) (BitVec.ofNat 32 (i 1).val) lanes h1 v1531 v1532
    let ⟨v1603, c256_i32⟩ : Σ' (v1603 : IVec S16 32), BitVec 32 ← app (k2_part97 (F := F) i) (BitVec.ofNat 32 (i 1).val) lanes h1 v1568
    (p v1603 c256_i32)) =
    runs h1 [.pair 0 (by decide) 11, .mix 3 11, .mix 2 11, .mix 1 11, .mix 0 11] (entryFrom h1 0 16 (entryHead 16 (fun r => p r 256#32) p')) := by
  rw [w81, runs_bind]
  simp only [k2_part82_eq_skeleton, k2_part83_eq_skeleton, k2_part84_eq_skeleton, k2_part85_eq_skeleton, k2_part86_eq_skeleton, k2_part87_eq_skeleton, k2_part88_eq_skeleton, k2_part89_eq_skeleton, k2_part90_eq_skeleton, k2_part91_eq_skeleton, k2_part92_eq_skeleton, k2_part93_eq_skeleton, k2_part94_eq_skeleton, k2_part95_eq_skeleton, k2_part96_eq_skeleton, k2_part97_eq_skeleton]
  rfl

theorem seg98 (h1 : k2_cond1 i = 1#1) (v1603 : IVec S16 32) (p' : Prog (TE F (ci i) (cj i)) α) (p : IVec S16 32 → IVec S16 32 → Prog (TE F (ci i) (cj i)) α)
    (hp : ∀ r x, p r x = lastTail h1 r x p') : (do
    let ⟨v1638, v1639⟩ : Σ' (v1638 : IVec S16 32), IVec S16 32 ← app (k2_part98 (F := F) i) (BitVec.ofNat 32 (i 1).val) lanes h1 v1603 256#32
    let ⟨v1673, v1675⟩ : Σ' (v1673 : IVec S16 32), IVec S16 32 ← app (k2_part99 (F := F) i) (BitVec.ofNat 32 (i 1).val) lanes h1 v1638 v1639
    let ⟨v1708, v1710, c2_i32_1065⟩ : Σ' (v1708 : IVec S16 32) (v1710 : IVec S16 32), BitVec 32 ← app (k2_part100 (F := F) i) (BitVec.ofNat 32 (i 1).val) lanes h1 v1673 v1675
    let ⟨v1743, v1745, v1746⟩ : Σ' (v1743 : IVec S16 32) (v1745 : IVec S16 32), IVec S16 32 ← app (k2_part101 (F := F) i) (BitVec.ofNat 32 (i 1).val) lanes h1 v1708 v1710 c2_i32_1065
    let ⟨v1778, v1780, v1782⟩ : Σ' (v1778 : IVec S16 32) (v1780 : IVec S16 32), IVec S16 32 ← app (k2_part102 (F := F) i) (BitVec.ofNat 32 (i 1).val) lanes h1 v1743 v1745 v1746
    let ⟨v1813, v1815, v1817, k2_hw108⟩ : Σ' (v1813 : IVec S16 32) (v1815 : IVec S16 32) (v1817 : IVec S16 32), k2_chk108 i v1817 ← app (k2_part103 (F := F) i) (BitVec.ofNat 32 (i 1).val) lanes h1 v1778 v1780 v1782
    let ⟨v1848, v1850⟩ : Σ' (v1848 : IVec S16 32), IVec S16 32 ← app (k2_part104 (F := F) i) (BitVec.ofNat 32 (i 1).val) lanes h1 v1813 v1815 v1817 k2_hw108
    p v1848 v1850) = entryTail h1 16 v1603 (entryFrom h1 17 7 p') := by
  simp only [k2_part98_eq_skeleton, k2_part99_eq_skeleton, k2_part100_eq_skeleton, k2_part101_eq_skeleton, k2_part102_eq_skeleton, k2_part103_eq_skeleton, k2_part104_eq_skeleton, hp]
  rfl

theorem seg105 (h1 : k2_cond1 i = 1#1) (r x : IVec S16 32) (p : Prog (TE F (ci i) (cj i)) α) : (do
    app (k2_part105 (F := F) i) lanes h1 r x
    let c0_i32_1194 : BitVec 32 ← app (k2_part106 (F := F) i) (BitVec.ofNat 32 (i 1).val) lanes h1
    let ⟨c0_i32_1224, c1_i32_1226⟩ : Σ' (c0_i32_1224 : BitVec 32), BitVec 32 ← app (k2_part107 (F := F) i) (BitVec.ofNat 32 (i 1).val) lanes h1 c0_i32_1194
    app (k2_part108 (F := F) i) (BitVec.ofNat 32 (i 1).val) lanes h1 c0_i32_1224 c1_i32_1226
    .op (.waitDma2 cc2_scoped4.sem (Memref.whole cc2_scratch12) (kptsRow i h1) (Memref.isWhole_whole _).wordExact ((View.wordExact_bits rfl).reshape _ _)) fun _ => p) =
    lastTail h1 r x (rest h1 p) := by
  simp only [w105, w106, lastTail_bind, boxGo_bind, boxEnd_bind, boxLoop_bind, kptFetch_bind, kptLoop_bind]
  have e : ∀ {β γ : Type} (b : β) (f : β → Prog (TE F (ci i) (cj i)) γ), (Prog.ret b >>= f) = f b := fun _ _ => rfl
  simp only [e, w107, w108, kptFetch_bind, kptLoop_bind, outs_bind]
  rfl

end Cert.Proof.Ker

end
-- ==== Proof.Entry.lean ====
/-
  What the entries' numbers, labels and rows are.
-/
module

public import proofs.«01_k».proof.Proof.Tail
public import proofs.«01_k».proof.Proof.Fetch

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {d : Dev nD} {i : grid2.Coords} {t : Holds Ideal d (ci i) (cj i)} {σ₀ : St Ideal d (ci i) (cj i)} {α : Type}

/-! ### Division by way of the reals -/

theorem fdiv_nat (n m : ℕ) (hm : 0 < m) (hn : n < 2 ^ 31) :
    Ideal.fptosi 32 (Ideal.div ((((BitVec.ofNat 32 n).toInt : ℤ) : ℝ) : EReal) ((m : ℝ) : EReal)) = BitVec.ofNat 32 (n / m) := by
  have hm' : (m : ℝ) ≠ 0 := by positivity
  have h1 : (BitVec.ofNat 32 n).toInt = (n : ℤ) := by
    rw [toInt_small (by rw [BitVec.toNat_ofNat]; omega), BitVec.toNat_ofNat, Nat.mod_eq_of_lt (by omega)]
  have hd : Ideal.div ((((BitVec.ofNat 32 n).toInt : ℤ) : ℝ) : EReal) ((m : ℝ) : EReal) = (((n : ℝ) / m : ℝ) : EReal) := by
    unfold Ideal.div
    rw [if_neg (by exact_mod_cast hm'), h1, ← EReal.coe_inv, ← EReal.coe_mul, div_eq_mul_inv]
    simp
  have hf : ⌊(n : ℝ) / m⌋ = ((n / m : ℕ) : ℤ) := by
    rw [Int.floor_eq_iff]
    have hm0 : (0 : ℝ) < m := by positivity
    have e1 : m * (n / m) ≤ n := Nat.mul_div_le n m
    have e2 : n < m * (n / m + 1) := by
      rw [Nat.mul_add, Nat.mul_one]
      have := Nat.div_add_mod n m
      have := Nat.mod_lt n hm
      omega
    constructor
    · rw [Int.cast_natCast, le_div_iff₀ hm0]
      have : ((m * (n / m) : ℕ) : ℝ) ≤ n := by exact_mod_cast e1
      rw [Nat.cast_mul] at this
      linarith
    · rw [Int.cast_natCast, div_lt_iff₀ hm0]
      have : (n : ℝ) < ((m * (n / m + 1) : ℕ) : ℝ) := by exact_mod_cast e2
      rw [Nat.cast_mul, Nat.cast_add, Nat.cast_one] at this
      linarith
  rw [hd]
  unfold Ideal.fptosi
  rw [Ideal.toIntClamped_coe, if_pos (by positivity), hf]
  have hle : n / m ≤ n := Nat.div_le_self _ _
  generalize n / m = q at hle
  have : max (-(2 ^ (32 - 1) : Nat) : ℤ) (min (((2 ^ (32 - 1) : Nat) : ℤ) - 1) (q : ℤ)) = (q : ℤ) := by
    norm_num
    omega
  rw [this]
  exact BitVec.ofInt_natCast 32 q

theorem c80 : Ideal.ofBits .f32 0x42A00000#32 = ((80 : ℝ) : EReal) := by
  simp [Ideal.ofBits, Ideal.ieee, -EReal.coe_mul]
  norm_num

theorem c34 : Ideal.ofBits .f32 0x42080000#32 = ((34 : ℝ) : EReal) := by
  simp [Ideal.ofBits, Ideal.ieee, -EReal.coe_mul]
  norm_num

theorem rawOf_eq (x : Vec Ideal S16 .i32) (l : S16.Idx) (h : (x l : BitVec 32).toNat < 2 ^ 31) :
    rawOf (F := Ideal) x l = BitVec.ofNat 32 ((x l : BitVec 32).toNat / 80) := by
  have e := fdiv_nat (x l : BitVec 32).toNat 80 (by decide) h
  rw [BitVec.ofNat_toNat, BitVec.setWidth_eq] at e
  rw [← e]
  show Ideal.fptosi 32 (Ideal.div _ (Ideal.ofBits .f32 0x42A00000#32)) = _
  rw [c80]
  rfl

/-- An entry's query, from its number. -/
abbrev nq (x : ℕ) : ℕ := min (x / 80) 19999

theorem nq_lt (x : ℕ) : nq x < 20000 := by
  unfold nq
  omega

theorem qryOf_nat (x : Vec Ideal S16 .i32) (l : S16.Idx) (h : (x l : BitVec 32).toNat < 2 ^ 31) :
    (qryOf (F := Ideal) x l).toNat = nq (x l : BitVec 32).toNat := by
  show (IntOp.minsi (rawOf (F := Ideal) x l) 19999#32).toNat = _
  rw [rawOf_eq x l h, minsi_small (by rw [BitVec.toNat_ofNat]; omega) (by decide), BitVec.toNat_ofNat, Nat.mod_eq_of_lt (by omega)]
  rfl

theorem labOf_eq (x : Vec Ideal S16 .i32) (l : S16.Idx) (h : (x l : BitVec 32).toNat < 2 ^ 31) :
    labOf (F := Ideal) x l = BitVec.ofNat 32 ((x l : BitVec 32).toNat % 80) := by
  show IntOp.subi (x l) (IntOp.muli (rawOf (F := Ideal) x l) 80#32) = _
  rw [rawOf_eq x l h]
  generalize hn : (x l : BitVec 32).toNat = n at h ⊢
  have hx : (x l : BitVec 32) = BitVec.ofNat 32 n := by rw [← hn, BitVec.ofNat_toNat, BitVec.setWidth_eq]
  rw [hx]
  show BitVec.ofNat 32 n - BitVec.ofNat 32 (n / 80) * BitVec.ofNat 32 80 = _
  rw [← BitVec.ofNat_mul]
  apply BitVec.eq_of_toNat_eq
  rw [BitVec.toNat_sub, BitVec.toNat_ofNat, BitVec.toNat_ofNat, BitVec.toNat_ofNat]
  omega

theorem shrsi_small (x : BitVec 32) (hx : x.toNat < 2 ^ 31) (k : ℕ) (hk : k < 32) : (IntOp.shrsi .vector x (BitVec.ofNat 32 k)).toNat = x.toNat / 2 ^ k := by
  have hk' : (BitVec.ofNat 32 k).toNat = k := by rw [BitVec.toNat_ofNat, Nat.mod_eq_of_lt (by omega)]
  have hmsb : x.msb = false := by
    rw [BitVec.msb_eq_decide, decide_eq_false_iff_not]
    omega
  unfold IntOp.shrsi
  simp only [hk', hk, if_true]
  show (x.sshiftRight (BitVec.ofNat 32 k).toNat).toNat = _
  rw [hk', BitVec.sshiftRight_eq_of_msb_false hmsb, BitVec.toNat_ushiftRight, Nat.shiftRight_eq_div_pow]

theorem boxRow_nat (b : ℕ) (hb : b < 16) (x : Vec Ideal S16 .i32) (l : S16.Idx) (h : (x l : BitVec 32).toNat < 2 ^ 31) :
    (boxRow (F := Ideal) (BitVec.ofNat 32 b) x l).toNat = 625 * b + nq (x l : BitVec 32).toNat / 32 := by
  have hq := qryOf_nat x l h
  have hlt := nq_lt (x l : BitVec 32).toNat
  have hb' : (BitVec.ofNat 32 b).toNat = b := by rw [BitVec.toNat_ofNat, Nat.mod_eq_of_lt (by omega)]
  have hc : (Scalar.muli 625#32 (BitVec.ofNat 32 b)).toNat = 625 * b := by
    rw [show Scalar.muli 625#32 (BitVec.ofNat 32 b) = IntOp.muli 625#32 (BitVec.ofNat 32 b) from rfl, toNat_muli]
    · rw [hb', show (625#32).toNat = 625 from rfl]
    · rw [hb', show (625#32).toNat = 625 from rfl]
      omega
  have hs : (IntOp.shrsi .vector (qryOf (F := Ideal) x l) (BitVec.ofNat 32 5)).toNat = nq (x l : BitVec 32).toNat / 32 := by
    rw [shrsi_small _ (by omega) 5 (by omega), hq]
    rfl
  show (IntOp.addi (Scalar.muli 625#32 (BitVec.ofNat 32 b)) (IntOp.shrsi .vector (qryOf (F := Ideal) x l) (BitVec.ofNat 32 5))).toNat = _
  rw [toNat_addi (by omega), hc, hs]

/-- Where a query's key points start. -/
abbrev kb (b q : ℕ) : ℕ := 680000 * b + 34 * q

theorem kptB_nat (b : ℕ) (hb : b < 16) (q : Vec Ideal S16 .i32) (l : S16.Idx) (h : (q l : BitVec 32).toNat < 20000) :
    (kptB (F := Ideal) (BitVec.ofNat 32 b) q l).toNat = kb b (q l : BitVec 32).toNat := by
  have hb' : (BitVec.ofNat 32 b).toNat = b := by rw [BitVec.toNat_ofNat, Nat.mod_eq_of_lt (by omega)]
  have hc : (Scalar.muli 680000#32 (BitVec.ofNat 32 b)).toNat = 680000 * b := by
    rw [show Scalar.muli 680000#32 (BitVec.ofNat 32 b) = IntOp.muli 680000#32 (BitVec.ofNat 32 b) from rfl, toNat_muli]
    · rw [hb', show (680000#32).toNat = 680000 from rfl]
    · rw [hb', show (680000#32).toNat = 680000 from rfl]
      omega
  have hm : (IntOp.muli 34#32 (q l : BitVec 32)).toNat = 34 * (q l : BitVec 32).toNat := by
    rw [toNat_muli]
    · rfl
    · show 34 * _ < _
      omega
  show (IntOp.addi (Scalar.muli 680000#32 (BitVec.ofNat 32 b)) (IntOp.muli 34#32 (q l : BitVec 32))).toNat = _
  rw [toNat_addi (by omega), hc, hm]

theorem kptRow_nat (b : ℕ) (hb : b < 16) (x : Vec Ideal S16 .i32) (l : S16.Idx) (h : (x l : BitVec 32).toNat < 2 ^ 31) :
    (kptRow (F := Ideal) (BitVec.ofNat 32 b) x l).toNat = kb b (nq (x l : BitVec 32).toNat) / 128 := by
  have hq := qryOf_nat x l h
  have hlt := nq_lt (x l : BitVec 32).toNat
  have hB := kptB_nat b hb (qryOf (F := Ideal) x) l (by rw [hq]; omega)
  show (IntOp.shrsi .vector (kptB (F := Ideal) (BitVec.ofNat 32 b) (qryOf (F := Ideal) x) l) (BitVec.ofNat 32 7)).toNat = _
  rw [shrsi_small _ (by rw [hB, hq]; unfold kb; omega) 7 (by omega), hB, hq]
  rfl

theorem kptAt_nat : ∀ v < 24, ∀ l < 16, ((kptAt v (ln l)).toNat = 2 * (16 * v + l)) ∧ (kptAt' v (ln l)).toNat = 2 * (16 * v + l) + 1 := by
  intro v hv l hl
  have e : ∀ v < 24, ∀ l < 16, ((IntOp.muli 2#32 (IntOp.addi (BitVec.ofNat 32 (16 * v)) (BitVec.ofNat 32 l))).toNat = 2 * (16 * v + l)) ∧
     (IntOp.addi (IntOp.muli 2#32 (IntOp.addi (BitVec.ofNat 32 (16 * v)) (BitVec.ofNat 32 l))) 1#32).toNat = 2 * (16 * v + l) + 1 := by
    decide +kernel
  have := e v hv l hl
  rw [← lanes_ln l hl] at this
  exact this

/-! ### Scattering to places all different -/

theorem storeIdx_inj {n : ℕ} [NeZero n] {e : EltTy} (f : Vec Ideal ⟨1, ![n]⟩ e) (p : IVec S16 32)
    (h : ∀ a x, ((![p] : Fin 1 → IVec S16 32) a x).toNat < (⟨1, ![n]⟩ : Shape).size a) (v : Vec Ideal S16 e)
    (g : ℕ → ℕ) (hp : ∀ l < 16, (p (ln l)).toNat = g l) (hg : ∀ l < 16, ∀ l' < 16, g l = g l' → l = l') (k : ℕ) (hk : k < n) :
    (∀ l < 16, g l = k → storeIdx (d := ![16]) f ![p] v (fun _ => 1#1) false h (ix n k) = v (ln l)) ∧
    ((∀ l < 16, g l ≠ k) → storeIdx (d := ![16]) f ![p] v (fun _ => 1#1) false h (ix n k) = f (ix n k)) := by
  rw [storeIdx_eq]
  have hi : ∀ (l : Fin ((![16] : Fin 1 → ℕ) 0)), idxAt ![p] h (Shape.ofLane (d := ![16]) l) = ix n k ↔ g l.val = k := by
    intro l
    rw [ofLane_eq, ← hp l.val l.isLt]
    constructor
    · intro H
      have := congrArg (fun z => (z 0).val) H
      simp only [ix_val hk] at this
      exact this
    · intro H
      funext a
      have : a = 0 := Subsingleton.elim _ _
      subst this
      refine Fin.ext ?_
      rw [ix_val hk]
      exact H
  constructor
  · intro l hl hc
    have := (scat_fold (F := Ideal) (d := ![16]) (![p]) h v (ix n k) (List.finRange _) f).2 ⟨l, hl⟩
      (List.mem_finRange _) ((hi _).mpr hc) (fun k' _ hk' => Fin.ext (hg _ k'.isLt _ hl (((hi k').mp hk').trans hc.symm)))
    rw [this, ofLane_eq]
  · intro hc
    exact (scat_fold (F := Ideal) (d := ![16]) (![p]) h v (ix n k) (List.finRange _) f).1 fun l _ H => hc l.val l.isLt ((hi l).mp H)

/-! ### The entries -/

/-- What has been worked out of the entries: `v` rows of labels, queries and boxes' rows, `w` rows of key points' rows. -/
structure EntI (σ₀ : St Ideal d (ci i) (cj i)) (x : ℕ → ℕ) (v w : ℕ) (σ : St Ideal d (ci i) (cj i)) : Prop where
  only : Only [cc2_scratch7, cc2_scratch8, cc2_scratch9, cc2_scratch10] σ₀ σ
  lab : ∀ k < 16 * v, rd (e := .i32) (n := 384) (Memref.whole cc2_scratch7) σ k = BitVec.ofNat 32 (x k % 80)
  qry : ∀ k < 16 * v, (rd (e := .i32) (n := 384) (Memref.whole cc2_scratch8) σ k : BitVec 32).toNat = nq (x k)
  box : ∀ k < 16 * v, (rd (e := .i32) (n := 384) (Memref.whole cc2_scratch9) σ k : BitVec 32).toNat = 625 * (i 1).val + nq (x k) / 32
  kpt : ∀ k < 32 * w, (rd (e := .i32) (n := 768) (Memref.whole cc2_scratch10) σ k : BitVec 32).toNat = kb (i 1).val (nq (x (k / 2))) / 128 + k % 2

/-- After a row is stored, the rows up to it. -/
theorem row_next {M : Memref sig .scVector .vmem ⟨1, ![384]⟩ .i32} {σ : St Ideal d (ci i) (cj i)} {v : ℕ} (hv : v < 24)
    {inb : ∀ a, (![16 * v] : Fin 1 → ℕ) a + (![16] : Fin 1 → ℕ) a ≤ (![384] : Fin 1 → ℕ) a} {w : S16.Idx → Elt Ideal .i32} {P : ℕ → BitVec 32 → Prop}
    (h : ∀ k < 16 * v, P k (rd (e := .i32) M σ k)) (hw : ∀ l < 16, P (16 * v + l) (w (ln l))) :
    ∀ k < 16 * (v + 1), P k (rd (e := .i32) M (Function.update σ M.view.ref ((M.access (Rect.unit (s := ⟨1, ![384]⟩) ![16 * v] ![16] inb)).write (Elt Ideal) (σ M.view.ref) w Finset.univ)) k) := by
  intro k hk
  rw [rd_store M σ (16 * v) 16 inb w k (by omega)]
  split
  · next hh =>
    have := hw (k - 16 * v) (by omega)
    rw [show 16 * v + (k - 16 * v) = k by omega] at this
    exact this
  · next hh => exact h k (by omega)

theorem entryHead_tr (hs : ∀ b ∈ scratches, Scr t b) {x : ℕ → ℕ} (hx : ∀ k < 384, x k < 2 ^ 31)
    (hx0 : ∀ k < 384, (rd (e := .i32) (n := 2064) (Memref.whole cc2_scratch6) σ₀ k : BitVec 32).toNat = x k)
    {v w : ℕ} (hv : v < 24) {p : IVec S16 32 → Prog (TE Ideal (ci i) (cj i)) α} {p' : Prog (TE Ideal (ci i) (cj i)) α} {σ : St Ideal d (ci i) (cj i)}
    {Q : α → St Ideal d (ci i) (cj i) → Prop} (H : EntI σ₀ x v w σ)
    (hk : ∀ r σ', EntI σ₀ x (v + 1) w σ' → (∀ l < 16, (r (ln l)).toNat = kb (i 1).val (nq (x (16 * v + l))) / 128) → Tr t (p r) σ' Q) :
    Tr t (entryHead (F := Ideal) v p p') σ Q := by
  have hb : (i 1).val < 16 := (i 1).isLt
  have hle : 16 * v + 16 ≤ 384 := by omega
  have hle' : 16 * v + 16 ≤ 2064 := by omega
  unfold entryHead
  rw [dif_pos hle]
  refine Tr.loadS (hs _ (by decide)) ?_
  have hld : ∀ l < 16, ((Memref.whole cc2_scratch6).view.readAt (Elt Ideal) (Rect.unit (s := S2064) ![16 * v] S16.size (Rect.inb₁ hle')).toLoadRect
      (σ (Memref.whole cc2_scratch6).view.ref) (ln l) : BitVec 32).toNat = x (16 * v + l) := fun l hl => by
    rw [← hx0 _ (by omega), ← H.only.rd (e := .i32) (n := 2064) (Memref.whole cc2_scratch6) (by decide)]
    exact congrArg BitVec.toNat (rd_load (e := .i32) (n := 2064) (Memref.whole cc2_scratch6) σ (16 * v) 16 (Rect.inb₁ hle') l hl)
  revert hld
  generalize ((Memref.whole cc2_scratch6).view.readAt (Elt Ideal) (Rect.unit (s := S2064) ![16 * v] S16.size (Rect.inb₁ hle')).toLoadRect
      (σ (Memref.whole cc2_scratch6).view.ref) : Vec Ideal S16 .i32) = X
  intro hX
  have hX' : ∀ l < 16, (X (ln l) : BitVec 32).toNat < 2 ^ 31 := fun l hl => by rw [hX l hl]; exact hx _ (by omega)
  refine Tr.loadS (hs _ (by decide)) (Tr.storeS (hs _ (by decide)) (Tr.loadS (hs _ (by decide)) (Tr.storeS (hs _ (by decide))
    (Tr.loadS (hs _ (by decide)) (Tr.storeS (hs _ (by decide)) (hk _ _ ?_ ?_))))))
  · refine ⟨((H.only.update (by decide) _).update (by decide) _).update (by decide) _, fun k hk => ?_, fun k hk => ?_, fun k hk => ?_, fun k hk => ?_⟩
    · rw [rd_update_ne (e := .i32) (n := 384) (Memref.whole cc2_scratch7) _ (by decide), rd_update_ne (e := .i32) (n := 384) (Memref.whole cc2_scratch7) _ (by decide)]
      exact row_next (M := Memref.whole cc2_scratch7) hv (P := fun k z => z = BitVec.ofNat 32 (x k % 80)) H.lab
        (fun l hl => (labOf_eq X (ln l) (hX' l hl)).trans (by rw [hX l hl])) k hk
    · rw [rd_update_ne (e := .i32) (n := 384) (Memref.whole cc2_scratch8) _ (by decide)]
      refine row_next (M := Memref.whole cc2_scratch8) hv (P := fun k z => z.toNat = nq (x k)) (fun k hk => ?_)
        (fun l hl => (qryOf_nat X (ln l) (hX' l hl)).trans (by rw [hX l hl])) k hk
      rw [rd_update_ne (e := .i32) (n := 384) (Memref.whole cc2_scratch8) _ (by decide)]
      exact H.qry k hk
    · refine row_next (M := Memref.whole cc2_scratch9) hv (P := fun k z => z.toNat = 625 * (i 1).val + nq (x k) / 32) (fun k hk => ?_)
        (fun l hl => (boxRow_nat (i 1).val hb X (ln l) (hX' l hl)).trans (by rw [hX l hl])) k hk
      rw [rd_update_ne (e := .i32) (n := 384) (Memref.whole cc2_scratch9) _ (by decide), rd_update_ne (e := .i32) (n := 384) (Memref.whole cc2_scratch9) _ (by decide)]
      exact H.box k hk
    · rw [rd_update_ne (e := .i32) (n := 768) (Memref.whole cc2_scratch10) _ (by decide), rd_update_ne (e := .i32) (n := 768) (Memref.whole cc2_scratch10) _ (by decide),
        rd_update_ne (e := .i32) (n := 768) (Memref.whole cc2_scratch10) _ (by decide)]
      exact H.kpt k hk
  · intro l hl
    rw [kptRow_nat (i 1).val hb X (ln l) (hX' l hl), hX l hl]

/-- One scatter of rows of key points, to the places of one parity. -/
theorem half_tr {σ : St Ideal d (ci i) (cj i)} {p : IVec S16 32} {h : ∀ a x, ((![p] : Fin 1 → IVec S16 32) a x).toNat < S768.size a} {r : IVec S16 32} {v o : ℕ} (hv : v < 24) (ho : o < 2)
    (hp : ∀ l < 16, (p (ln l)).toNat = 2 * (16 * v + l) + o) (k : ℕ) (hk : k < 768) :
    rd (e := .i32) (n := 768) (Memref.whole cc2_scratch10) (Function.update σ (Memref.whole cc2_scratch10).view.ref (((Memref.whole cc2_scratch10).access (.whole S768)).write (Elt Ideal) (σ (Memref.whole cc2_scratch10).view.ref)
      (storeIdx (d := ![16]) ((Memref.whole cc2_scratch10).view.read (Elt Ideal) (σ (Memref.whole cc2_scratch10).view.ref)) ![p] r (fun _ => 1#1) false h) Finset.univ)) k =
    if 32 * v ≤ k ∧ k < 32 * v + 32 ∧ k % 2 = o then r (ln ((k - 32 * v) / 2)) else rd (e := .i32) (n := 768) (Memref.whole cc2_scratch10) σ k := by
  refine (rd_scat (e := .i32) (n := 768) (Memref.whole cc2_scratch10) σ _ k).trans ?_
  have key := storeIdx_inj (n := 768) (e := .i32) ((Memref.whole cc2_scratch10).view.read (Elt Ideal) (σ (Memref.whole cc2_scratch10).view.ref)) p h r
    (fun l => 2 * (16 * v + l) + o) hp (fun l _ l' _ h => by omega) k hk
  split
  · next hh => exact key.1 ((k - 32 * v) / 2) (by omega) (by omega)
  · next hh => exact key.2 fun l hl he => hh (by omega)

theorem entryTail_tr (hs : ∀ b ∈ scratches, Scr t b) (h1 : k2_cond1 i = 1#1) {x : ℕ → ℕ}
    {v : ℕ} (hv : v < 24) {r : IVec S16 32} {p : Prog (TE Ideal (ci i) (cj i)) α} {σ : St Ideal d (ci i) (cj i)}
    {Q : α → St Ideal d (ci i) (cj i) → Prop} (H : EntI σ₀ x (v + 1) v σ)
    (hr : ∀ l < 16, (r (ln l)).toNat = kb (i 1).val (nq (x (16 * v + l))) / 128)
    (hk : ∀ σ', EntI σ₀ x (v + 1) (v + 1) σ' → Tr t p σ' Q) :
    Tr t (entryTail (F := Ideal) h1 v r p) σ Q := by
  have hb : (i 1).val < 16 := (i 1).isLt
  have hlt := fun y => nq_lt y
  have hA := fun l hl => (kptAt_nat v hv l hl).1
  have hA' := fun l hl => (kptAt_nat v hv l hl).2
  have hin : ∀ (q : IVec S16 32) (o : ℕ) (_ : o < 2) (_ : ∀ l < 16, (q (ln l)).toNat = 2 * (16 * v + l) + o), k2_chk64 i q := fun q o ho hq _ a y => by
    have : a = 0 := Subsingleton.elim _ _
    subst this
    rw [eq_ix y]
    have hy := ix_lt y
    refine (hq (y 0).val hy).trans_lt ?_
    show _ < 768
    omega
  unfold entryTail
  refine Tr.assume (hin _ 0 (by decide) hA) fun _ => ?_
  refine Tr.scat (t := t) (s := S768) (M := Memref.whole cc2_scratch10) (dd := ![16]) (hs cc2_scratch10 (by decide)).mem (hs cc2_scratch10 (by decide)).share (hs cc2_scratch10 (by decide)).elems ?_
  refine Tr.assume (hin _ 1 (by decide) hA') fun _ => ?_
  refine Tr.scat (t := t) (s := S768) (M := Memref.whole cc2_scratch10) (dd := ![16]) (hs cc2_scratch10 (by decide)).mem (hs cc2_scratch10 (by decide)).share (hs cc2_scratch10 (by decide)).elems (hk _ ?_)
  refine ⟨(H.only.update (by decide) _).update (by decide) _, fun k hk => ?_, fun k hk => ?_, fun k hk => ?_, fun k hk => ?_⟩
  · rw [rd_update_ne (e := .i32) (n := 384) (Memref.whole cc2_scratch7) _ (by decide), rd_update_ne (e := .i32) (n := 384) (Memref.whole cc2_scratch7) _ (by decide)]
    exact H.lab k hk
  · rw [rd_update_ne (e := .i32) (n := 384) (Memref.whole cc2_scratch8) _ (by decide), rd_update_ne (e := .i32) (n := 384) (Memref.whole cc2_scratch8) _ (by decide)]
    exact H.qry k hk
  · rw [rd_update_ne (e := .i32) (n := 384) (Memref.whole cc2_scratch9) _ (by decide), rd_update_ne (e := .i32) (n := 384) (Memref.whole cc2_scratch9) _ (by decide)]
    exact H.box k hk
  · refine (congrArg BitVec.toNat (half_tr (o := 1) hv (by decide) hA' k (by omega))).trans ?_
    split
    · next hh =>
      have e : (k - 32 * v) / 2 < 16 := by omega
      have e2 : 16 * v + (k - 32 * v) / 2 = k / 2 := by omega
      show (IntOp.addi (r (ln ((k - 32 * v) / 2))) 1#32).toNat = _
      have := hr _ e
      rw [e2] at this
      rw [toNat_addi (by rw [this]; unfold kb; have := hlt (x (k / 2)); show _ + 1 < _; omega), this, hh.2.2]
      rfl
    · next hh =>
      refine (congrArg BitVec.toNat (half_tr (o := 0) hv (by decide) hA k (by omega))).trans ?_
      split
      · next hh2 =>
        have e : (k - 32 * v) / 2 < 16 := by omega
        have e2 : 16 * v + (k - 32 * v) / 2 = k / 2 := by omega
        have := hr _ e
        rw [e2] at this
        rw [this, hh2.2.2]
        rfl
      · next hh2 => exact H.kpt k (by omega)

theorem entryFrom_tr (hs : ∀ b ∈ scratches, Scr t b) (h1 : k2_cond1 i = 1#1) {x : ℕ → ℕ} (hx : ∀ k < 384, x k < 2 ^ 31)
    (hx0 : ∀ k < 384, (rd (e := .i32) (n := 2064) (Memref.whole cc2_scratch6) σ₀ k : BitVec 32).toNat = x k)
    {p : Prog (TE Ideal (ci i) (cj i)) α} {Q : α → St Ideal d (ci i) (cj i) → Prop} (m : ℕ) :
    ∀ {v : ℕ} (_ : v + m ≤ 24) {σ : St Ideal d (ci i) (cj i)} (_ : EntI σ₀ x v v σ)
    (_ : ∀ σ', EntI σ₀ x (v + m) (v + m) σ' → Tr t p σ' Q),
    Tr t (entryFrom (F := Ideal) h1 v m p) σ Q := by
  induction m with
  | zero => exact fun _ σ H hk => hk σ H
  | succ m ih =>
    intro v hv σ H hk
    unfold entryFrom
    refine entryHead_tr hs hx hx0 (by omega) H fun r σ1 H1 hr => ?_
    refine entryTail_tr hs h1 (by omega) H1 hr fun σ2 H2 => ?_
    refine ih (by omega) H2 fun σ3 H3 => hk σ3 ?_
    rw [show v + (m + 1) = v + 1 + m by omega]
    exact H3

end Cert.Proof.Ker

end
-- ==== Proof.Loops.lean ====
/-
  Reading the boxes and the key points.
-/
module

public import proofs.«01_k».proof.Proof.Entry

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {d : Dev nD} {i : grid2.Coords} {t : Holds Ideal d (ci i) (cj i)} {σ₁ : St Ideal d (ci i) (cj i)} {α : Type}

/-- A half. -/
abbrev half : EReal := Ideal.ofBits .f32 0x3F000000#32

/-- A corner coordinate of a query's box, from the table of centres and extents. -/
def boxOf (bx : ℕ → ℕ → EReal) (b q f : ℕ) : EReal :=
  if f < 2 then bx (625 * b + q / 32) ((4 * q + f) % 128) - bx (625 * b + q / 32) ((4 * q + (f + 2) % 4) % 128) * half
  else bx (625 * b + q / 32) ((4 * q + (f + 2) % 4) % 128) + bx (625 * b + q / 32) ((4 * q + f) % 128) * half

/-- A number of a query's key points, from the table. -/
def kptOf (kx : ℕ → ℕ → EReal) (b q o : ℕ) : EReal := kx ((kb b q + o) / 128) ((kb b q + o) % 128)

theorem and127 (x : BitVec 32) : (IntOp.andi x 127#32).toNat = x.toNat % 128 := by
  show (x &&& 127#32).toNat = _
  rw [BitVec.toNat_and]
  exact Nat.and_two_pow_sub_one_eq_mod x.toNat 7

theorem rows_next {n : ℕ} [NeZero n] {e : EltTy} {M : Memref sig .scVector .vmem ⟨1, ![n]⟩ e} {σ : St Ideal d (ci i) (cj i)} {v : ℕ} (hv : 16 * v + 16 ≤ n)
    {off : Fin 1 → ℕ} (ho : off 0 = 16 * v) {inb : ∀ a, off a + (![16] : Fin 1 → ℕ) a ≤ (![n] : Fin 1 → ℕ) a} {w : S16.Idx → Elt Ideal e} {P : ℕ → Elt Ideal e → Prop}
    (h : ∀ k < 16 * v, P k (rd (e := e) M σ k)) (hw : ∀ l < 16, P (16 * v + l) (w (ln l))) :
    ∀ k < 16 * (v + 1), P k (rd (e := e) M (Function.update σ M.view.ref ((M.access (Rect.unit (s := ⟨1, ![n]⟩) off ![16] inb)).write (Elt Ideal) (σ M.view.ref) w Finset.univ)) k) := by
  obtain rfl : off = ![16 * v] := by
    funext a
    rw [Subsingleton.elim a 0]
    exact ho
  intro k hk
  rw [rd_store M σ (16 * v) 16 inb w k (by omega)]
  split
  · next hh =>
    have := hw (k - 16 * v) (by omega)
    rw [show 16 * v + (k - 16 * v) = k by omega] at this
    exact this
  · next hh => exact h k (by omega)

theorem loadIdx_ln2 {n m : ℕ} [NeZero n] [NeZero m] {e : EltTy} (f : Vec Ideal ⟨2, ![n, m]⟩ e) (p q : IVec S16 32)
    (h : ∀ a x, ((![p, q] : Fin 2 → IVec S16 32) a x).toNat < (⟨2, ![n, m]⟩ : Shape).size a) (x : S16.Idx) :
    loadIdx f ![p, q] h x = f (ix2 n m (p x).toNat (q x).toNat) := by
  unfold loadIdx
  congr 1
  rw [eq_ix2 (idxAt ![p, q] h x)]
  rfl

/-! ### The boxes -/

theorem box_words : ∀ hh < 3, ∀ n < 32, ∀ l < 16,
    (IntOp.shrsi .vector (IntOp.addi (Scalar.addi (BitVec.ofNat 32 (512 * hh)) (Scalar.muli 16#32 (Scf.iv 0#32 1#32 n))) (BitVec.ofNat 32 l)) 2#32).toNat = (512 * hh + 16 * n + l) / 4 ∧
    (IntOp.subi (IntOp.shrsi .vector (IntOp.addi (Scalar.addi (BitVec.ofNat 32 (512 * hh)) (Scalar.muli 16#32 (Scf.iv 0#32 1#32 n))) (BitVec.ofNat 32 l)) 2#32) (BitVec.ofNat 32 (128 * hh))).toNat = (16 * n + l) / 4 ∧
    IntOp.andi (IntOp.addi (Scalar.addi (BitVec.ofNat 32 (512 * hh)) (Scalar.muli 16#32 (Scf.iv 0#32 1#32 n))) (BitVec.ofNat 32 l)) 3#32 = BitVec.ofNat 32 ((512 * hh + 16 * n + l) % 4) := by
  decide +kernel

theorem cor_words : ∀ f < 4, (IntOp.xori (BitVec.ofNat 32 f) 2#32) = BitVec.ofNat 32 ((f + 2) % 4) ∧ IntOp.cmpi .slt (BitVec.ofNat 32 f) 2#32 = if f < 2 then 1#1 else 0#1 := by
  decide +kernel

theorem boxJ_nat (hh : ℕ) (hh3 : hh < 3) (n : Fin k2_t72_loop.trips) (l : ℕ) (hl : l < 16) : (boxJ hh n (ln l)).toNat = (512 * hh + 16 * n.val + l) / 4 := by
  have := (box_words hh hh3 n.val n.isLt l hl).1
  rw [← lanes_ln l hl] at this
  exact this

theorem boxL_nat (hh : ℕ) (hh3 : hh < 3) (n : Fin k2_t72_loop.trips) (l : ℕ) (hl : l < 16) : (boxL hh n (ln l)).toNat = (16 * n.val + l) / 4 := by
  have := (box_words hh hh3 n.val n.isLt l hl).2.1
  rw [← lanes_ln l hl] at this
  exact this

theorem boxC_eq (hh : ℕ) (hh3 : hh < 3) (n : Fin k2_t72_loop.trips) (l : ℕ) (hl : l < 16) : boxC hh n (ln l) = BitVec.ofNat 32 ((512 * hh + 16 * n.val + l) % 4) := by
  have := (box_words hh hh3 n.val n.isLt l hl).2.2
  rw [← lanes_ln l hl] at this
  exact this

theorem lin4 (q : BitVec 32) (hq : q.toNat < 20000) (f : ℕ) (hf : f < 4) :
    (IntOp.andi (IntOp.addi (IntOp.muli 4#32 q) (BitVec.ofNat 32 f)) 127#32).toNat = (4 * q.toNat + f) % 128 := by
  have h4 : (IntOp.muli 4#32 q).toNat = 4 * q.toNat := by
    rw [toNat_muli]
    · rfl
    · show 4 * _ < _
      omega
  have hf' : (BitVec.ofNat 32 f).toNat = f := by rw [BitVec.toNat_ofNat, Nat.mod_eq_of_lt (by omega)]
  rw [and127, toNat_addi (by rw [h4, hf']; omega), h4, hf']

theorem boxA_nat (hh : ℕ) (hh3 : hh < 3) (n : Fin k2_t72_loop.trips) (q : Vec Ideal S16 .i32) (l : ℕ) (hl : l < 16) (hq : (q (ln l) : BitVec 32).toNat < 20000) :
    (boxA (F := Ideal) hh n q (ln l)).toNat = (4 * (q (ln l) : BitVec 32).toNat + (512 * hh + 16 * n.val + l) % 4) % 128 := by
  rw [← lin4 (q (ln l)) hq _ (Nat.mod_lt _ (by decide)), ← boxC_eq hh hh3 n l hl]
  rfl

theorem boxB_nat (hh : ℕ) (hh3 : hh < 3) (n : Fin k2_t72_loop.trips) (q : Vec Ideal S16 .i32) (l : ℕ) (hl : l < 16) (hq : (q (ln l) : BitVec 32).toNat < 20000) :
    (boxB (F := Ideal) hh n q (ln l)).toNat = (4 * (q (ln l) : BitVec 32).toNat + ((512 * hh + 16 * n.val + l) % 4 + 2) % 4) % 128 := by
  rw [← lin4 (q (ln l)) hq _ (Nat.mod_lt _ (by decide)), ← (cor_words _ (Nat.mod_lt (512 * hh + 16 * n.val + l) (by decide : 0 < 4))).1, ← boxC_eq hh hh3 n l hl]
  rfl

theorem boxV_eq (hh : ℕ) (hh3 : hh < 3) (n : Fin k2_t72_loop.trips) (a b : FVec Ideal S16 .f32) (l : ℕ) (hl : l < 16) :
    (boxV (F := Ideal) hh n a b (ln l) : EReal) = if (512 * hh + 16 * n.val + l) % 4 < 2 then (a (ln l) : EReal) - (b (ln l) : EReal) * half else (b (ln l) : EReal) + (a (ln l) : EReal) * half := by
  have h := (cor_words _ (Nat.mod_lt (512 * hh + 16 * n.val + l) (by decide : 0 < 4))).2
  rw [← boxC_eq hh hh3 n l hl] at h
  have e : (boxV (F := Ideal) hh n a b (ln l) : EReal) = if IntOp.cmpi .slt (boxC hh n (ln l)) 2#32 = 1#1 then (a (ln l) : EReal) - (b (ln l) : EReal) * half else (b (ln l) : EReal) + (a (ln l) : EReal) * half := rfl
  rw [e, h]
  split <;> rfl

/-- What of the boxes has been worked out. -/
structure BoxI (σ₁ : St Ideal d (ci i) (cj i)) (x : ℕ → ℕ) (bx : ℕ → ℕ → EReal) (v : ℕ) (σ : St Ideal d (ci i) (cj i)) : Prop where
  only : Only [cc2_scratch4, cc2_scratch11] σ₁ σ
  box : ∀ p < 16 * v, (rd (e := .f32) (n := 1536) (Memref.whole cc2_scratch11) σ p : EReal) = boxOf bx (i 1).val (nq (x (p / 4))) (p % 4)

theorem boxLoop_tr (hs : ∀ b ∈ scratches, Scr t b) (h1 : k2_cond1 i = 1#1) (hh : ℕ) (hh3 : hh < 3) {x : ℕ → ℕ} {bx : ℕ → ℕ → EReal}
    (hq : ∀ k < 384, (rd (e := .i32) (n := 384) (Memref.whole cc2_scratch8) σ₁ k : BitVec 32).toNat = nq (x k))
    {p : Prog (TE Ideal (ci i) (cj i)) α} {Q : α → St Ideal d (ci i) (cj i) → Prop} {σ : St Ideal d (ci i) (cj i)} (H : BoxI σ₁ x bx (32 * hh) σ)
    (hch : ∀ r < 128, ∀ q < 128, (rd2 (e := .f32) (n := 128) (m := 128) (Memref.whole cc2_scratch4) σ r q : EReal) = bx (625 * (i 1).val + nq (x (128 * hh + r)) / 32) q)
    (hk : ∀ σ', BoxI σ₁ x bx (32 * (hh + 1)) σ' → Tr t p σ' Q) :
    Tr t (boxLoop h1 hh hh3 p) σ Q := by
  unfold boxLoop
  refine Tr.bind (R := fun _ σ' => BoxI σ₁ x bx (32 * (hh + 1)) σ') ?_ fun _ σ' h => hk σ' h
  have key := Tr.for (t := t) 0#32 k2_t72_loop.ub 1#32 (k2_t72_ok i h1) (⟨⟩ : Unit) (boxStep (F := Ideal) h1 hh hh3)
    (fun n _ σ' => BoxI σ₁ x bx (32 * hh + n) σ' ∧ Only [cc2_scratch11] σ σ') (σ := σ) ⟨H, Only.refl _ σ⟩ (fun n _ σ' ⟨H', ho⟩ => ?_)
  · refine Tr.mono key fun _ σ' h => ?_
    exact h.1
  · have hn : n.val < 32 := n.isLt
    have hql : ∀ k < 384, (rd (e := .i32) (n := 384) (Memref.whole cc2_scratch8) σ' k : BitVec 32).toNat = nq (x k) := fun k hk => by
      rw [H'.only.rd (e := .i32) (n := 384) (Memref.whole cc2_scratch8) (by decide)]
      exact hq k hk
    have hcl : ∀ r < 128, ∀ q < 128, (rd2 (e := .f32) (n := 128) (m := 128) (Memref.whole cc2_scratch4) σ' r q : EReal) = bx (625 * (i 1).val + nq (x (128 * hh + r)) / 32) q := fun r hr q hq => by
      rw [ho.rd2 (e := .f32) (n := 128) (m := 128) (Memref.whole cc2_scratch4) (by decide)]
      exact hch r hr q hq
    unfold boxStep
    refine Tr.assume (fun _ a y => ?_) fun w => ?_
    · have : a = 0 := Subsingleton.elim _ _
      subst this
      rw [eq_ix y]
      refine (boxJ_nat hh hh3 n (y 0).val (ix_lt y)).trans_lt ?_
      have := ix_lt y
      show _ < 384
      omega
    refine Tr.gath (t := t) (hs cc2_scratch8 (by decide)).mem (hs cc2_scratch8 (by decide)).elems ?_
    have hQ : ∀ l < 16, (loadIdx (F := Ideal) (s := S384) (e := .i32) ((Memref.whole cc2_scratch8).view.read (Elt Ideal) (σ' cc2_scratch8)) ![boxJ hh n] (k2_idx161_inb i _ w h1) (ln l) : BitVec 32).toNat
        = nq (x (128 * hh + (16 * n.val + l) / 4)) := fun l hl => by
      have e := hql ((512 * hh + 16 * n.val + l) / 4) (by omega)
      rw [show (512 * hh + 16 * n.val + l) / 4 = 128 * hh + (16 * n.val + l) / 4 by omega] at e
      rw [← e]
      refine congrArg BitVec.toNat ((loadIdx_ln (n := 384) _ _ _ _).trans ?_)
      rw [boxJ_nat hh hh3 n l hl, show (512 * hh + 16 * n.val + l) / 4 = 128 * hh + (16 * n.val + l) / 4 by omega]
      rfl
    revert hQ
    generalize (loadIdx (F := Ideal) (s := S384) (e := .i32) ((Memref.whole cc2_scratch8).view.read (Elt Ideal) (σ' cc2_scratch8)) ![boxJ hh n] (k2_idx161_inb i _ w h1) : Vec Ideal S16 .i32) = q
    intro hQ
    have hin : ∀ (u : IVec S16 32) (_ : ∀ l < 16, (u (ln l)).toNat < 128), k2_chk113 i (boxL hh n) u := fun u hu _ a y => by
      rw [eq_ix y]
      have hy := ix_lt y
      refine a.cases ?_ fun b => ?_
      · refine (boxL_nat hh hh3 n (y 0).val hy).trans_lt ?_
        show _ < 128
        omega
      · rw [Subsingleton.elim b 0]
        exact hu (y 0).val hy
    have hQ' : ∀ l < 16, (q (ln l) : BitVec 32).toNat < 20000 := fun l hl => by
      rw [hQ l hl]
      exact nq_lt _
    refine Tr.assume (hin _ fun l hl => ?_) fun w1 => ?_
    · rw [boxA_nat hh hh3 n q l hl (hQ' l hl)]
      exact Nat.mod_lt _ (by decide)
    refine Tr.gath (t := t) (hs cc2_scratch4 (by decide)).mem (hs cc2_scratch4 (by decide)).elems ?_
    refine Tr.assume (hin _ fun l hl => ?_) fun w2 => ?_
    · rw [boxB_nat hh hh3 n q l hl (hQ' l hl)]
      exact Nat.mod_lt _ (by decide)
    refine Tr.gath (t := t) (hs cc2_scratch4 (by decide)).mem (hs cc2_scratch4 (by decide)).elems ?_
    refine Tr.loadS (hs _ (by decide)) (Tr.storeS (hs _ (by decide)) (Tr.ret ⟨⟨H'.only.update (by decide) _, ?_⟩, ho.update (by decide) _⟩))
    refine rows_next (n := 1536) (e := .f32) (M := Memref.whole cc2_scratch11) (v := 32 * hh + n.val) (by omega) ((rowAt_box hh hh3 n.val hn).trans (by omega))
      (P := fun p (z : EReal) => z = boxOf bx (i 1).val (nq (x (p / 4))) (p % 4)) H'.box fun l hl => ?_
    refine (boxV_eq hh hh3 n _ _ l hl).trans ?_
    have hv : ∀ (u : IVec S16 32) (h : ∀ a x, ((![boxL hh n, u] : Fin 2 → IVec S16 32) a x).toNat < (⟨2, ![128, 128]⟩ : Shape).size a),
        (loadIdx (F := Ideal) (s := ⟨2, ![128, 128]⟩) (e := .f32) ((Memref.whole cc2_scratch4).view.read (Elt Ideal) (σ' cc2_scratch4)) ![boxL hh n, u] h (ln l) : EReal)
          = bx (625 * (i 1).val + nq (x (128 * hh + (16 * n.val + l) / 4)) / 32) (u (ln l)).toNat := fun u h => by
      have h1 : (u (ln l)).toNat < 128 := h 1 (ln l)
      rw [← hcl _ (by omega) _ h1]
      refine (loadIdx_ln2 (n := 128) (m := 128) _ _ _ _ _).trans ?_
      rw [boxL_nat hh hh3 n l hl]
      rfl
    have e1 := hv (boxA (F := Ideal) hh n q) (k2_idx162_inb i _ _ w1 h1)
    have e2 := hv (boxB (F := Ideal) hh n q) (k2_idx162_inb i _ _ w2 h1)
    rw [boxA_nat hh hh3 n q l hl (hQ' l hl), hQ l hl] at e1
    rw [boxB_nat hh hh3 n q l hl (hQ' l hl), hQ l hl] at e2
    have ee : ∀ (A B : EReal) (A' B' : EReal), A = A' → B = B' → (if (512 * hh + 16 * n.val + l) % 4 < 2 then A - B * half else B + A * half)
       = if (512 * hh + 16 * n.val + l) % 4 < 2 then A' - B' * half else B' + A' * half := fun A B A' B' h h' => by rw [h, h']
    refine (ee _ _ _ _ e1 e2).trans ?_
    unfold boxOf
    rw [show 16 * (32 * hh + n.val) + l = 512 * hh + 16 * n.val + l by omega, show (512 * hh + 16 * n.val + l) / 4 = 128 * hh + (16 * n.val + l) / 4 by omega]

/-- The table of boxes. -/
abbrev boxTab : Memref sig .scVector .hbm S10000x128 .f32 :=
  (Memref.whole main_v1_scv).slice (Rect.unit (s := S10000x128) ![0, 0] S10000x128.size inb_S10000x128_S10000x128_0_0) (fun _ => rfl)

/-- The table of key points. -/
abbrev kptTab : Memref sig .scVector .hbm S85000x128 .f32 :=
  (Memref.whole main_v3_scv).slice (Rect.unit (s := S85000x128) ![0, 0] S85000x128.size inb_S85000x128_S85000x128_0_0) (fun _ => rfl)

/-- An element of a table. -/
def tab {n m : ℕ} [NeZero n] [NeZero m] (M : Memref sig .scVector .hbm ⟨2, ![n, m]⟩ .f32) (σ : St Ideal d (ci i) (cj i)) (r q : ℕ) : EReal :=
  M.view.read (Elt Ideal) (σ M.view.ref) (ix2 n m r q)

theorem boxes_tr (hs : ∀ b ∈ scratches, Scr t b) (h1 : k2_cond1 i = 1#1) (hh : ℕ) (hh3 : hh < 3) {x : ℕ → ℕ} {bx : ℕ → ℕ → EReal}
    (hbs : main_v1_scv ∈ t.bufs) (hSs : t.elems main_v1_scv = Finset.univ) (hsm : SemLoc.dma cc2_scratch13.sem ∈ t.sems)
    (hq : ∀ k < 384, (rd (e := .i32) (n := 384) (Memref.whole cc2_scratch8) σ₁ k : BitVec 32).toNat = nq (x k))
    (hr : ∀ k < 384, (rd (e := .i32) (n := 384) (Memref.whole cc2_scratch9) σ₁ k : BitVec 32).toNat = 625 * (i 1).val + nq (x k) / 32)
    (hbx : ∀ r < 10000, ∀ q < 128, (tab boxTab σ₁ r q : EReal) = bx r q)
    {p : Prog (TE Ideal (ci i) (cj i)) α} {Q : α → St Ideal d (ci i) (cj i) → Prop} {σ : St Ideal d (ci i) (cj i)} (H : BoxI σ₁ x bx (32 * hh) σ)
    (hk : ∀ σ', BoxI σ₁ x bx (32 * (hh + 1)) σ' → Tr t p σ' Q) :
    Tr t (boxGo hh hh3 (boxEnd (boxLoop h1 hh hh3 p))) σ Q := by
  have hb : (i 1).val < 16 := (i 1).isLt
  have hrl : ∀ k < 384, (rd (e := .i32) (n := 384) (Memref.whole cc2_scratch9) σ k : BitVec 32).toNat = 625 * (i 1).val + nq (x k) / 32 := fun k hk => by
    rw [H.only.rd (e := .i32) (n := 384) (Memref.whole cc2_scratch9) (by decide)]
    exact hr k hk
  have hrow : ∀ k, 625 * (i 1).val + nq (x k) / 32 < 10000 := fun k => by
    have := nq_lt (x k)
    omega
  unfold boxGo boxEnd
  refine fetch_tr (n := 10000) (k₀ := 384) (src := boxTab) (L := Memref.whole cc2_scratch9) (off := ![128 * hh]) (hs cc2_scratch4 (by decide)) (show main_v1_scv ≠ cc2_scratch4 by decide)
    (show cc2_scratch9 ≠ cc2_scratch4 by decide) (show cc2_scratch9 ≠ main_v1_scv by decide) hbs hSs (hs cc2_scratch9 (by decide)) hsm (fun r hr' => ?_) fun σ' ho hc => ?_
  · rw [show (![128 * hh] : Fin 1 → ℕ) 0 = 128 * hh from rfl, hrl _ (by omega)]
    exact hrow _
  · refine boxLoop_tr hs h1 hh hh3 hq (σ := σ') ⟨H.only.trans' (ho.mono (by decide)), fun p hp => ?_⟩ (fun r hr' q hq' => ?_) hk
    · rw [ho.rd (e := .f32) (n := 1536) (Memref.whole cc2_scratch11) (by decide)]
      exact H.box p hp
    · refine (hc r hr' q hq').trans ?_
      rw [show (![128 * hh] : Fin 1 → ℕ) 0 = 128 * hh from rfl, hrl _ (by omega), ← hbx _ (hrow _) q hq']
      exact congrArg (fun z => View.read (Elt Ideal) boxTab.view z _) (H.only main_v1_scv (by decide))

/-! ### The key points -/

theorem kpt_words : ∀ hh < 6, ∀ n < 136, ∀ l < 16,
    IntOp.addi (Scalar.addi (BitVec.ofNat 32 (2176 * hh)) (Scalar.muli 16#32 (Scf.iv 0#32 1#32 n))) (BitVec.ofNat 32 l) = BitVec.ofNat 32 (2176 * hh + 16 * n + l) := by
  decide +kernel

theorem subi_nat (x y : BitVec 32) (h : y.toNat ≤ x.toNat) : (IntOp.subi x y).toNat = x.toNat - y.toNat := by
  show (x - y).toNat = _
  rw [BitVec.toNat_sub]
  omega

variable (hh : ℕ) (hh6 : hh < 6) (n : Fin k2_t75_loop.trips) (l : ℕ) (hl : l < 16)

theorem kptP_eq (hh6 : hh < 6) (hl : l < 16) : kptP hh n (ln l) = BitVec.ofNat 32 (2176 * hh + 16 * n.val + l) := by
  have := kpt_words hh hh6 n.val n.isLt l hl
  rw [← lanes_ln l hl] at this
  exact this

theorem kptP_nat (hh6 : hh < 6) (hl : l < 16) : (kptP hh n (ln l)).toNat = 2176 * hh + 16 * n.val + l := by
  have hn : n.val < 136 := n.isLt
  rw [kptP_eq hh n l hh6 hl, BitVec.toNat_ofNat, Nat.mod_eq_of_lt (by omega)]

theorem kptJ_nat (hh6 : hh < 6) (hl : l < 16) : (kptJ (F := Ideal) hh n (ln l)).toNat = (2176 * hh + 16 * n.val + l) / 34 := by
  have hn : n.val < 136 := n.isLt
  have e : kptJ (F := Ideal) hh n (ln l) = Ideal.fptosi 32 (Ideal.div ((((kptP hh n (ln l)).toInt : ℤ) : ℝ) : EReal) (Ideal.ofBits .f32 0x42080000#32)) := rfl
  rw [e, c34, kptP_eq hh n l hh6 hl, show ((34 : ℝ) : EReal) = (((34 : ℕ) : ℝ) : EReal) by norm_num, fdiv_nat _ 34 (by decide) (by omega), BitVec.toNat_ofNat, Nat.mod_eq_of_lt (by omega)]

theorem kptF_nat (hh6 : hh < 6) (hl : l < 16) (b : ℕ) (hb : b < 16) (q : Vec Ideal S16 .i32) (h : (q (ln l) : BitVec 32).toNat < 20000) :
    (kptF (F := Ideal) (BitVec.ofNat 32 b) hh n (kptJ (F := Ideal) hh n) q (ln l)).toNat = kb b (q (ln l) : BitVec 32).toNat + (2176 * hh + 16 * n.val + l) % 34 := by
  have hn : n.val < 136 := n.isLt
  have hJ := kptJ_nat hh n l hh6 hl
  have hm : (IntOp.muli 34#32 (kptJ (F := Ideal) hh n (ln l))).toNat = 34 * ((2176 * hh + 16 * n.val + l) / 34) := by
    rw [toNat_muli, hJ]
    · rfl
    · rw [hJ]
      show 34 * _ < _
      omega
  have hs : (IntOp.subi (kptP hh n (ln l)) (IntOp.muli 34#32 (kptJ (F := Ideal) hh n (ln l)))).toNat = (2176 * hh + 16 * n.val + l) % 34 := by
    rw [subi_nat _ _ (by rw [hm, kptP_nat hh n l hh6 hl]; omega), hm, kptP_nat hh n l hh6 hl]
    omega
  show (IntOp.addi (kptB (F := Ideal) (BitVec.ofNat 32 b) q (ln l)) (IntOp.subi (kptP hh n (ln l)) (IntOp.muli 34#32 (kptJ (F := Ideal) hh n (ln l))))).toNat = _
  rw [toNat_addi, hs, kptB_nat b hb q (ln l) h]
  rw [hs, kptB_nat b hb q (ln l) h]
  unfold kb
  omega

theorem kptC_nat (hh6 : hh < 6) (hl : l < 16) (b : ℕ) (hb : b < 16) (q : Vec Ideal S16 .i32) (h : (q (ln l) : BitVec 32).toNat < 20000) :
    (kptC (F := Ideal) (BitVec.ofNat 32 b) hh n (kptJ (F := Ideal) hh n) q (ln l)).toNat = (kb b (q (ln l) : BitVec 32).toNat + (2176 * hh + 16 * n.val + l) % 34) % 128 := by
  show (IntOp.andi (kptF (F := Ideal) (BitVec.ofNat 32 b) hh n (kptJ (F := Ideal) hh n) q (ln l)) 127#32).toNat = _
  rw [and127, kptF_nat hh n l hh6 hl b hb q h]

theorem kptR_nat (hh6 : hh < 6) (hl : l < 16) (b : ℕ) (hb : b < 16) (q : Vec Ideal S16 .i32) (h : (q (ln l) : BitVec 32).toNat < 20000) :
    (kptR (F := Ideal) (BitVec.ofNat 32 b) hh n (kptJ (F := Ideal) hh n) q (ln l)).toNat = 2 * ((16 * n.val + l) / 34) +
      ((kb b (q (ln l) : BitVec 32).toNat + (2176 * hh + 16 * n.val + l) % 34) / 128 - kb b (q (ln l) : BitVec 32).toNat / 128) := by
  have hn : n.val < 136 := n.isLt
  have hJ := kptJ_nat hh n l hh6 hl
  have h64 : (BitVec.ofNat 32 (64 * hh)).toNat = 64 * hh := by rw [BitVec.toNat_ofNat, Nat.mod_eq_of_lt (by omega)]
  have hs : (IntOp.subi (kptJ (F := Ideal) hh n (ln l)) (BitVec.ofNat 32 (64 * hh))).toNat = (16 * n.val + l) / 34 := by
    rw [subi_nat _ _ (by rw [hJ, h64]; omega), hJ, h64]
    omega
  have hm : (IntOp.muli 2#32 (IntOp.subi (kptJ (F := Ideal) hh n (ln l)) (BitVec.ofNat 32 (64 * hh)))).toNat = 2 * ((16 * n.val + l) / 34) := by
    rw [toNat_muli, hs]
    · rfl
    · rw [hs]
      show 2 * _ < _
      omega
  have hF := kptF_nat hh n l hh6 hl b hb q h
  have hB := kptB_nat b hb q (ln l) h
  have hkb : kb b (q (ln l) : BitVec 32).toNat < 16000000 := by unfold kb; omega
  have f1 : (IntOp.shrsi .vector (kptF (F := Ideal) (BitVec.ofNat 32 b) hh n (kptJ (F := Ideal) hh n) q (ln l)) (BitVec.ofNat 32 7)).toNat = (kb b (q (ln l) : BitVec 32).toNat + (2176 * hh + 16 * n.val + l) % 34) / 128 := by
    rw [shrsi_small _ (by rw [hF]; omega) 7 (by omega), hF]
    rfl
  have f2 : (IntOp.shrsi .vector (kptB (F := Ideal) (BitVec.ofNat 32 b) q (ln l)) (BitVec.ofNat 32 7)).toNat = kb b (q (ln l) : BitVec 32).toNat / 128 := by
    rw [shrsi_small _ (by rw [hB]; omega) 7 (by omega), hB]
    rfl
  have f3 : (IntOp.subi (IntOp.shrsi .vector (kptF (F := Ideal) (BitVec.ofNat 32 b) hh n (kptJ (F := Ideal) hh n) q (ln l)) (BitVec.ofNat 32 7))
      (IntOp.shrsi .vector (kptB (F := Ideal) (BitVec.ofNat 32 b) q (ln l)) (BitVec.ofNat 32 7))).toNat =
      (kb b (q (ln l) : BitVec 32).toNat + (2176 * hh + 16 * n.val + l) % 34) / 128 - kb b (q (ln l) : BitVec 32).toNat / 128 := by
    rw [subi_nat _ _ (by rw [f1, f2]; omega), f1, f2]
  show (IntOp.addi (IntOp.muli 2#32 (IntOp.subi (kptJ (F := Ideal) hh n (ln l)) (BitVec.ofNat 32 (64 * hh))))
    (IntOp.subi (IntOp.shrsi .vector (kptF (F := Ideal) (BitVec.ofNat 32 b) hh n (kptJ (F := Ideal) hh n) q (ln l)) (BitVec.ofNat 32 7))
      (IntOp.shrsi .vector (kptB (F := Ideal) (BitVec.ofNat 32 b) q (ln l)) (BitVec.ofNat 32 7)))).toNat = _
  rw [toNat_addi (by rw [hm, f3]; omega), hm, f3]

theorem row_step (B o : ℕ) (ho : o < 34) : (B + o) / 128 = B / 128 ∨ (B + o) / 128 = B / 128 + 1 := by omega

theorem row_lt (n l B o : ℕ) (hn : n < 136) (hl : l < 16) (ho : o < 34) : 2 * ((16 * n + l) / 34) + ((B + o) / 128 - B / 128) < 128 := by
  have h1 := row_step B o ho
  have h2 : (16 * n + l) / 34 ≤ 63 := by omega
  omega

/-- What of the key points has been worked out. -/
structure KptI (σ₁ : St Ideal d (ci i) (cj i)) (x : ℕ → ℕ) (kx : ℕ → ℕ → EReal) (v : ℕ) (σ : St Ideal d (ci i) (cj i)) : Prop where
  only : Only [cc2_scratch4, cc2_scratch12] σ₁ σ
  kpt : ∀ p < 16 * v, (rd (e := .f32) (n := 13056) (Memref.whole cc2_scratch12) σ p : EReal) = kptOf kx (i 1).val (nq (x (p / 34))) (p % 34)

theorem kptLoop_tr (hs : ∀ b ∈ scratches, Scr t b) (h1 : k2_cond1 i = 1#1) (hh : ℕ) (hh6 : hh < 6) {x : ℕ → ℕ} {kx : ℕ → ℕ → EReal}
    (hq : ∀ k < 384, (rd (e := .i32) (n := 384) (Memref.whole cc2_scratch8) σ₁ k : BitVec 32).toNat = nq (x k))
    {p : Prog (TE Ideal (ci i) (cj i)) α} {Q : α → St Ideal d (ci i) (cj i) → Prop} {σ : St Ideal d (ci i) (cj i)} (H : KptI σ₁ x kx (136 * hh) σ)
    (hch : ∀ r < 128, ∀ q < 128, (rd2 (e := .f32) (n := 128) (m := 128) (Memref.whole cc2_scratch4) σ r q : EReal) = kx (kb (i 1).val (nq (x (64 * hh + r / 2))) / 128 + r % 2) q)
    (hk : ∀ σ', KptI σ₁ x kx (136 * (hh + 1)) σ' → Tr t p σ' Q) :
    Tr t (kptLoop h1 hh hh6 p) σ Q := by
  have hb : (i 1).val < 16 := (i 1).isLt
  unfold kptLoop
  refine Tr.bind (R := fun _ σ' => KptI σ₁ x kx (136 * (hh + 1)) σ') ?_ fun _ σ' h => hk σ' h
  have key := Tr.for (t := t) 0#32 k2_t75_loop.ub 1#32 (k2_t75_ok i h1) (⟨⟩ : Unit) (kptStep (F := Ideal) h1 hh hh6)
    (fun n _ σ' => KptI σ₁ x kx (136 * hh + n) σ' ∧ Only [cc2_scratch12] σ σ') (σ := σ) ⟨H, Only.refl _ σ⟩ (fun n _ σ' ⟨H', ho⟩ => ?_)
  · refine Tr.mono key fun _ σ' h => ?_
    exact h.1
  · have hn : n.val < 136 := n.isLt
    have hql : ∀ k < 384, (rd (e := .i32) (n := 384) (Memref.whole cc2_scratch8) σ' k : BitVec 32).toNat = nq (x k) := fun k hk => by
      rw [H'.only.rd (e := .i32) (n := 384) (Memref.whole cc2_scratch8) (by decide)]
      exact hq k hk
    have hcl : ∀ r < 128, ∀ q < 128, (rd2 (e := .f32) (n := 128) (m := 128) (Memref.whole cc2_scratch4) σ' r q : EReal) = kx (kb (i 1).val (nq (x (64 * hh + r / 2))) / 128 + r % 2) q := fun r hr q hq => by
      rw [ho.rd2 (e := .f32) (n := 128) (m := 128) (Memref.whole cc2_scratch4) (by decide)]
      exact hch r hr q hq
    unfold kptStep
    refine Tr.assume (fun _ a y => ?_) fun w => ?_
    · have : a = 0 := Subsingleton.elim _ _
      subst this
      rw [eq_ix y]
      refine (kptJ_nat hh n (y 0).val hh6 (ix_lt y)).trans_lt ?_
      have := ix_lt y
      show _ < 384
      omega
    refine Tr.gath (t := t) (hs cc2_scratch8 (by decide)).mem (hs cc2_scratch8 (by decide)).elems ?_
    have hQ : ∀ l < 16, (loadIdx (F := Ideal) (s := S384) (e := .i32) ((Memref.whole cc2_scratch8).view.read (Elt Ideal) (σ' cc2_scratch8)) ![kptJ (F := Ideal) hh n] (k2_idx170_inb i _ w h1) (ln l) : BitVec 32).toNat
        = nq (x (64 * hh + (16 * n.val + l) / 34)) := fun l hl => by
      have e := hql ((2176 * hh + 16 * n.val + l) / 34) (by omega)
      rw [show (2176 * hh + 16 * n.val + l) / 34 = 64 * hh + (16 * n.val + l) / 34 by omega] at e
      rw [← e]
      refine congrArg BitVec.toNat ((loadIdx_ln (n := 384) _ _ _ _).trans ?_)
      rw [kptJ_nat hh n l hh6 hl, show (2176 * hh + 16 * n.val + l) / 34 = 64 * hh + (16 * n.val + l) / 34 by omega]
      rfl
    revert hQ
    generalize (loadIdx (F := Ideal) (s := S384) (e := .i32) ((Memref.whole cc2_scratch8).view.read (Elt Ideal) (σ' cc2_scratch8)) ![kptJ (F := Ideal) hh n] (k2_idx170_inb i _ w h1) : Vec Ideal S16 .i32) = q
    intro hQ
    have hQ' : ∀ l < 16, (q (ln l) : BitVec 32).toNat < 20000 := fun l hl => by
      rw [hQ l hl]
      exact nq_lt _
    have hR := fun l hl => kptR_nat hh n l hh6 hl (i 1).val hb q (hQ' l hl)
    have hC := fun l hl => kptC_nat hh n l hh6 hl (i 1).val hb q (hQ' l hl)
    refine Tr.assume (fun _ a y => ?_) fun w1 => ?_
    · rw [eq_ix y]
      have hy := ix_lt y
      refine a.cases ?_ fun b => ?_
      · refine (hR (y 0).val hy).trans_lt ?_
        exact row_lt n.val _ _ _ hn hy (Nat.mod_lt _ (by decide))
      · rw [Subsingleton.elim b 0]
        refine (hC (y 0).val hy).trans_lt ?_
        exact Nat.mod_lt _ (by decide)
    refine Tr.gath (t := t) (hs cc2_scratch4 (by decide)).mem (hs cc2_scratch4 (by decide)).elems ?_
    refine Tr.loadS (hs _ (by decide)) (Tr.storeS (hs _ (by decide)) (Tr.ret ⟨⟨H'.only.update (by decide) _, ?_⟩, ho.update (by decide) _⟩))
    refine rows_next (n := 13056) (e := .f32) (M := Memref.whole cc2_scratch12) (v := 136 * hh + n.val) (by omega) ((rowAt_kpt hh hh6 n.val hn).trans (by omega))
      (P := fun p (z : EReal) => z = kptOf kx (i 1).val (nq (x (p / 34))) (p % 34)) H'.kpt fun l hl => ?_
    refine (loadIdx_ln2 (n := 128) (m := 128) _ _ _ _ _).trans ?_
    rw [hR l hl, hC l hl]
    have hL := hcl (2 * ((16 * n.val + l) / 34) + ((kb (i 1).val (q (ln l) : BitVec 32).toNat + (2176 * hh + 16 * n.val + l) % 34) / 128 - kb (i 1).val (q (ln l) : BitVec 32).toNat / 128))
      (row_lt n.val l _ _ hn hl (Nat.mod_lt _ (by decide))) ((kb (i 1).val (q (ln l) : BitVec 32).toNat + (2176 * hh + 16 * n.val + l) % 34) % 128) (Nat.mod_lt _ (by decide))
    refine Eq.trans ?_ (hL.trans ?_)
    · rfl
    unfold kptOf
    rw [show 16 * (136 * hh + n.val) + l = 2176 * hh + 16 * n.val + l by omega, show (2176 * hh + 16 * n.val + l) / 34 = 64 * hh + (16 * n.val + l) / 34 by omega, ← hQ l hl]
    generalize hB : kb (i 1).val (q (ln l) : BitVec 32).toNat = B
    have hs := row_step B ((2176 * hh + 16 * n.val + l) % 34) (Nat.mod_lt _ (by decide))
    rw [show (2 * ((16 * n.val + l) / 34) + ((B + (2176 * hh + 16 * n.val + l) % 34) / 128 - B / 128)) / 2 = (16 * n.val + l) / 34 by omega, ← hQ l hl, hB,
      show B / 128 + (2 * ((16 * n.val + l) / 34) + ((B + (2176 * hh + 16 * n.val + l) % 34) / 128 - B / 128)) % 2 = (B + (2176 * hh + 16 * n.val + l) % 34) / 128 by omega]

theorem kpts_tr (hs : ∀ b ∈ scratches, Scr t b) (h1 : k2_cond1 i = 1#1) (hh : ℕ) (hh6 : hh < 6) {x : ℕ → ℕ} {kx : ℕ → ℕ → EReal}
    (hbs : main_v3_scv ∈ t.bufs) (hSs : t.elems main_v3_scv = Finset.univ) (hsm : SemLoc.dma cc2_scratch14.sem ∈ t.sems)
    (hq : ∀ k < 384, (rd (e := .i32) (n := 384) (Memref.whole cc2_scratch8) σ₁ k : BitVec 32).toNat = nq (x k))
    (hr : ∀ k < 768, (rd (e := .i32) (n := 768) (Memref.whole cc2_scratch10) σ₁ k : BitVec 32).toNat = kb (i 1).val (nq (x (k / 2))) / 128 + k % 2)
    (hin : ∀ k < 384, kb (i 1).val (nq (x k)) / 128 + 1 < 85000)
    (hkx : ∀ r < 85000, ∀ q < 128, tab kptTab σ₁ r q = kx r q)
    {p : Prog (TE Ideal (ci i) (cj i)) α} {Q : α → St Ideal d (ci i) (cj i) → Prop} {σ : St Ideal d (ci i) (cj i)} (H : KptI σ₁ x kx (136 * hh) σ)
    (hk : ∀ σ', KptI σ₁ x kx (136 * (hh + 1)) σ' → Tr t p σ' Q) :
    Tr t (kptFetch hh hh6 (kptLoop h1 hh hh6 p)) σ Q := by
  have hb : (i 1).val < 16 := (i 1).isLt
  have hrl : ∀ k < 768, (rd (e := .i32) (n := 768) (Memref.whole cc2_scratch10) σ k : BitVec 32).toNat = kb (i 1).val (nq (x (k / 2))) / 128 + k % 2 := fun k hk => by
    rw [H.only.rd (e := .i32) (n := 768) (Memref.whole cc2_scratch10) (by decide)]
    exact hr k hk
  have hrow : ∀ k < 768, kb (i 1).val (nq (x (k / 2))) / 128 + k % 2 < 85000 := fun k hk => by
    have := hin (k / 2) (by omega)
    omega
  unfold kptFetch
  refine fetch_tr (n := 85000) (k₀ := 768) (src := kptTab) (L := Memref.whole cc2_scratch10) (off := ![128 * hh]) (hs cc2_scratch4 (by decide)) (show main_v3_scv ≠ cc2_scratch4 by decide)
    (show cc2_scratch10 ≠ cc2_scratch4 by decide) (show cc2_scratch10 ≠ main_v3_scv by decide) hbs hSs (hs cc2_scratch10 (by decide)) hsm (fun r hr' => ?_) fun σ' ho hc => ?_
  · rw [show (![128 * hh] : Fin 1 → ℕ) 0 = 128 * hh from rfl, hrl _ (by omega)]
    exact hrow _ (by omega)
  · refine kptLoop_tr hs h1 hh hh6 hq (σ := σ') ⟨H.only.trans' (ho.mono (by decide)), fun p hp => ?_⟩ (fun r hr' q hq' => ?_) hk
    · rw [ho.rd (e := .f32) (n := 13056) (Memref.whole cc2_scratch12) (by decide)]
      exact H.kpt p hp
    · refine (hc r hr' q hq').trans ?_
      rw [show (![128 * hh] : Fin 1 → ℕ) 0 = 128 * hh from rfl, hrl _ (by omega), ← show (128 * hh + r) / 2 = 64 * hh + r / 2 by omega,
        ← show (128 * hh + r) % 2 = r % 2 by omega, ← hkx _ (hrow _ (by omega)) q hq']
      exact congrArg (fun z => View.read (Elt Ideal) kptTab.view z _) (H.only main_v3_scv (by decide))

end Cert.Proof.Ker

end
-- ==== Proof.Outs.lean ====
/-
  Writing out what was found.
-/
module

public import proofs.«01_k».proof.Proof.Loops

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {d : Dev nD} {i : grid2.Coords} {t : Holds Ideal d (ci i) (cj i)} {σ₁ : St Ideal d (ci i) (cj i)} {α : Type}

/-- An element of a row in the large memory. -/
def row {n : ℕ} [NeZero n] {e : EltTy} (M : Memref sig .scVector .hbm ⟨1, ![n]⟩ e) (σ : St Ideal d (ci i) (cj i)) (k : ℕ) : Elt Ideal e :=
  M.view.read (Elt Ideal) (σ M.view.ref) (ix n k)

/-- A buffer the subcore may write the elements of a row of. -/
structure May (t : Holds Ideal d (ci i) (cj i)) {n : ℕ} {e : EltTy} (M : Memref sig .scVector .hbm ⟨1, ![n]⟩ e) : Prop where
  mem : M.view.ref ∈ t.bufs
  elems : M.view.set ⊆ t.elems M.view.ref
  share : t.share M.view.ref = fullShare

/-- What the subcore may write, and the semaphores of its copies. -/
structure Outs (t : Holds Ideal d (ci i) (cj i)) (h1 : k2_cond1 i = 1#1) : Prop where
  lab : May t (labRow i h1)
  sco : May t (scoRow i h1)
  boxes : May t (boxesRow i h1)
  kpts : May t (kptsRow i h1)
  s1 : SemLoc.dma cc2_scoped1.sem ∈ t.sems
  s2 : SemLoc.dma cc2_scoped2.sem ∈ t.sems
  s3 : SemLoc.dma cc2_scoped3.sem ∈ t.sems
  s4 : SemLoc.dma cc2_scoped4.sem ∈ t.sems

theorem row_update {n : ℕ} [NeZero n] {e : EltTy} (M : Memref sig .scVector .hbm ⟨1, ![n]⟩ e) (σ : St Ideal d (ci i) (cj i)) (w : (⟨1, ![n]⟩ : Shape).Idx → Elt Ideal e) (k : ℕ) :
    row M (Function.update σ M.view.ref (M.view.write (Elt Ideal) (σ M.view.ref) w Finset.univ)) k = w (ix n k) := by
  unfold row
  rw [Function.update_self, View.read_write_univ]

theorem row_update_ne {n : ℕ} [NeZero n] {e : EltTy} (M : Memref sig .scVector .hbm ⟨1, ![n]⟩ e) (σ : St Ideal d (ci i) (cj i)) {b : Ref sig .scVector} (hb : M.view.ref ≠ b) (v) (k : ℕ) :
    row M (Function.update σ b v) k = row M σ k := by
  unfold row
  rw [Function.update_of_ne hb]

theorem outs_tr (hs : ∀ b ∈ scratches, Scr t b) (h1 : k2_cond1 i = 1#1) (hO : Outs t h1)
    {p : Prog (TE Ideal (ci i) (cj i)) α} {Q : α → St Ideal d (ci i) (cj i) → Prop} {σ : St Ideal d (ci i) (cj i)}
    (hk : ∀ σ', (∀ k < 384, row (labRow i h1) σ' k = rd (e := .i32) (n := 384) (Memref.whole cc2_scratch7) σ k) →
      (∀ k < 384, row (scoRow i h1) σ' k = rd (e := .f32) (n := 2064) (Memref.whole cc2_scratch5) σ k) →
      (∀ k < 1536, row (boxesRow i h1) σ' k = rd (e := .f32) (n := 1536) (Memref.whole cc2_scratch11) σ k) →
      (∀ k < 13056, row (kptsRow i h1) σ' k = rd (e := .f32) (n := 13056) (Memref.whole cc2_scratch12) σ k) → Tr t p σ' Q) :
    Tr t (outs h1 (.op (.waitDma2 cc2_scoped4.sem (Memref.whole cc2_scratch12) (kptsRow i h1) (Memref.isWhole_whole _).wordExact ((View.wordExact_bits rfl).reshape _ _)) fun _ => p)) σ Q := by
  have hu : ∀ b ∈ scratches, ∀ s : Finset (Idx ((V d (ci i) (cj i)).loc b)), s ⊆ t.elems b := fun b hb s => by
    rw [(hs b hb).elems]
    exact Finset.subset_univ _
  unfold outs
  refine Tr.dma (show cc2_scratch7 ≠ main_v4_0_scv by decide) (hs cc2_scratch7 (by decide)).mem hO.lab.mem (hu cc2_scratch7 (by decide) _) hO.lab.elems hO.lab.share hO.s1 rfl (show 0 < (labRow i h1).view.dmaCredit from View.dmaCredit_pos _ (by decide)) ?_
  refine Tr.dma (show cc2_scratch5 ≠ main_v4_2_scv by decide) (hs cc2_scratch5 (by decide)).mem hO.sco.mem (hu cc2_scratch5 (by decide) _) hO.sco.elems hO.sco.share hO.s2 rfl (show 0 < (scoRow i h1).view.dmaCredit from View.dmaCredit_pos _ (by decide)) ?_
  refine Tr.dma (show cc2_scratch11 ≠ main_v4_1_scv by decide) (hs cc2_scratch11 (by decide)).mem hO.boxes.mem (hu cc2_scratch11 (by decide) _) hO.boxes.elems hO.boxes.share hO.s3 rfl (show 0 < (boxesRow i h1).view.dmaCredit from View.dmaCredit_pos _ (by decide)) ?_
  refine Tr.dma (show cc2_scratch12 ≠ main_v4_3_scv by decide) (hs cc2_scratch12 (by decide)).mem hO.kpts.mem (hu cc2_scratch12 (by decide) _) hO.kpts.elems hO.kpts.share hO.s4 rfl (show 0 < (kptsRow i h1).view.dmaCredit from View.dmaCredit_pos _ (by decide)) ?_
  refine hk _ (fun k hk => ?_) (fun k hk => ?_) (fun k hk => ?_) (fun k hk => ?_)
  · refine (row_update_ne (labRow i h1) _ (show main_v4_0_scv ≠ main_v4_3_scv by decide) _ k).trans ?_
    refine (row_update_ne (labRow i h1) _ (show main_v4_0_scv ≠ main_v4_1_scv by decide) _ k).trans ?_
    refine (row_update_ne (labRow i h1) _ (show main_v4_0_scv ≠ main_v4_2_scv by decide) _ k).trans ?_
    exact row_update (labRow i h1) _ _ k
  · refine (row_update_ne (scoRow i h1) _ (show main_v4_2_scv ≠ main_v4_3_scv by decide) _ k).trans ?_
    refine (row_update_ne (scoRow i h1) _ (show main_v4_2_scv ≠ main_v4_1_scv by decide) _ k).trans ?_
    refine (row_update (scoRow i h1) _ _ k).trans ?_
    refine Eq.trans ?_ (rd_load (e := .f32) (n := 2064) (Memref.whole cc2_scratch5) σ 0 384 inb_S2064_S384_0 k hk |>.trans (by rw [Nat.zero_add]))
    rfl
  · refine (row_update_ne (boxesRow i h1) _ (show main_v4_1_scv ≠ main_v4_3_scv by decide) _ k).trans ?_
    refine (row_update (boxesRow i h1) _ _ k).trans ?_
    rfl
  · refine (row_update (kptsRow i h1) _ _ k).trans ?_
    rfl

/-- What the subcore reads, and the semaphores of its fetches. -/
structure Ins (t : Holds Ideal d (ci i) (cj i)) : Prop where
  lg : main_v0_0_scv ∈ t.bufs
  lgE : t.elems main_v0_0_scv = Finset.univ
  mx : main_v0_1_scv ∈ t.bufs
  mxE : t.elems main_v0_1_scv = Finset.univ
  bx : main_v1_scv ∈ t.bufs
  bxE : t.elems main_v1_scv = Finset.univ
  kp : main_v3_scv ∈ t.bufs
  kpE : t.elems main_v3_scv = Finset.univ
  s13 : SemLoc.dma cc2_scratch13.sem ∈ t.sems
  s14 : SemLoc.dma cc2_scratch14.sem ∈ t.sems
  s0 : SemLoc.dma cc2_scoped0.sem ∈ t.sems

/-- What the subcore leaves: of the first 384 in its order the labels, scores, boxes and key points. -/
structure Found (h1 : k2_cond1 i = 1#1) (x : ℕ → ℕ) (s : ℕ → EReal) (bx kx : ℕ → ℕ → EReal) (σ : St Ideal d (ci i) (cj i)) : Prop where
  lab : ∀ k < 384, (row (labRow i h1) σ k : BitVec 32) = BitVec.ofNat 32 (x k % 80)
  sco : ∀ k < 384, (row (scoRow i h1) σ k : EReal) = s k
  box : ∀ k < 1536, (row (boxesRow i h1) σ k : EReal) = boxOf bx (i 1).val (nq (x (k / 4))) (k % 4)
  kpt : ∀ k < 13056, (row (kptsRow i h1) σ k : EReal) = kptOf kx (i 1).val (nq (x (k / 34))) (k % 34)

theorem rest_tr (hs : ∀ b ∈ scratches, Scr t b) (h1 : k2_cond1 i = 1#1) (hO : Outs t h1) (hI : Ins t) {x : ℕ → ℕ} {s : ℕ → EReal} {bx kx : ℕ → ℕ → EReal}
    {σ₀ : St Ideal d (ci i) (cj i)} (H : EntI σ₀ x 24 24 σ₁)
    (hsc : ∀ k < 384, (rd (e := .f32) (n := 2064) (Memref.whole cc2_scratch5) σ₁ k : EReal) = s k)
    (hin : ∀ k < 384, kb (i 1).val (nq (x k)) / 128 + 1 < 85000)
    (hbx : ∀ r < 10000, ∀ q < 128, tab boxTab σ₁ r q = bx r q) (hkx : ∀ r < 85000, ∀ q < 128, tab kptTab σ₁ r q = kx r q)
    {p : Prog (TE Ideal (ci i) (cj i)) α} {Q : α → St Ideal d (ci i) (cj i) → Prop} (hk : ∀ σ', Found h1 x s bx kx σ' → Tr t p σ' Q) :
    Tr t (rest h1 p) σ₁ Q := by
  have hl := H.lab
  have hq := H.qry
  have hr := H.box
  have hr' := H.kpt
  have bx_tr := fun hh hh3 p σ => boxes_tr (σ := σ) (α := α) (Q := Q) (p := p) hs h1 hh hh3 hI.bx hI.bxE hI.s13 hq hr hbx
  unfold rest
  refine bx_tr 0 _ _ _ ⟨Only.refl _ _, fun p hp => absurd hp (by omega)⟩ fun σ2 H2 => ?_
  refine bx_tr 1 _ _ _ H2 fun σ3 H3 => ?_
  refine bx_tr 2 _ _ _ H3 fun σ4 H4 => ?_
  have hq4 : ∀ k < 384, (rd (e := .i32) (n := 384) (Memref.whole cc2_scratch8) σ4 k : BitVec 32).toNat = nq (x k) := fun k hk => by
    rw [H4.only.rd (e := .i32) (n := 384) (Memref.whole cc2_scratch8) (by decide)]
    exact hq k hk
  have hr4 : ∀ k < 768, (rd (e := .i32) (n := 768) (Memref.whole cc2_scratch10) σ4 k : BitVec 32).toNat = kb (i 1).val (nq (x (k / 2))) / 128 + k % 2 := fun k hk => by
    rw [H4.only.rd (e := .i32) (n := 768) (Memref.whole cc2_scratch10) (by decide)]
    exact hr' k hk
  have hkx4 : ∀ r < 85000, ∀ q < 128, tab kptTab σ4 r q = kx r q := fun r hr q hq => by
    rw [← hkx r hr q hq]
    exact congrArg (fun z => View.read (Elt Ideal) kptTab.view z _) (H4.only main_v3_scv (by decide))
  have kp_tr := fun hh hh6 p σ => kpts_tr (σ := σ) (α := α) (Q := Q) (p := p) hs h1 hh hh6 hI.kp hI.kpE hI.s14 hq4 hr4 hin hkx4
  refine kp_tr 0 _ _ _ ⟨Only.refl _ _, fun p hp => absurd hp (by omega)⟩ fun σ5 H5 => ?_
  refine kp_tr 1 _ _ _ H5 fun σ6 H6 => ?_
  refine kp_tr 2 _ _ _ H6 fun σ7 H7 => ?_
  refine kp_tr 3 _ _ _ H7 fun σ8 H8 => ?_
  refine kp_tr 4 _ _ _ H8 fun σ9 H9 => ?_
  refine kp_tr 5 _ _ _ H9 fun σ10 H10 => ?_
  refine outs_tr hs h1 hO fun σ' f1 f2 f3 f4 => hk σ' ⟨fun k hk => ?_, fun k hk => ?_, fun k hk => ?_, fun k hk => ?_⟩
  · rw [f1 k hk, H10.only.rd (e := .i32) (n := 384) (Memref.whole cc2_scratch7) (by decide), H4.only.rd (e := .i32) (n := 384) (Memref.whole cc2_scratch7) (by decide)]
    exact hl k hk
  · rw [f2 k hk, H10.only.rd (e := .f32) (n := 2064) (Memref.whole cc2_scratch5) (by decide), H4.only.rd (e := .f32) (n := 2064) (Memref.whole cc2_scratch5) (by decide)]
    exact hsc k hk
  · rw [f3 k hk, H10.only.rd (e := .f32) (n := 1536) (Memref.whole cc2_scratch11) (by decide)]
    exact H4.box k hk
  · rw [f4 k hk]
    exact H10.kpt k hk

end Cert.Proof.Ker

end
-- ==== Proof.Sorted.lean ====
/-
  The candidates gathered and the stages of the sort one after another.
-/
module

public import proofs.«01_k».proof.Proof.Valid
public import proofs.«01_k».proof.Proof.Cand
public import proofs.«01_k».proof.Proof.SortTr
public import proofs.«01_k».proof.Proof.Outs

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SortNet

variable {d : Dev nD} {i : grid2.Coords} {t : Holds Ideal d (ci i) (cj i)} {σ₀ : St Ideal d (ci i) (cj i)} {α : Type}

/-! ### The stages, all together -/

/-- The stages up to the last level's fifth from the end. -/
abbrev stages₁ : List Stg := [.mix 0 1, .mix 1 2, .mix 0 2, .mix 2 3, .mix 1 3, .mix 0 3, .mix 3 4, .mix 2 4, .mix 1 4, .mix 0 4, .pair 0 (by decide) 5, .mix 3 5, .mix 2 5, .mix 1 5, .mix 0 5,
  .pair 1 (by decide) 6, .pair 0 (by decide) 6, .mix 3 6, .mix 2 6, .mix 1 6, .mix 0 6, .pair 2 (by decide) 7, .pair 1 (by decide) 7, .pair 0 (by decide) 7, .mix 3 7, .mix 2 7,
  .mix 1 7, .mix 0 7, .pair 3 (by decide) 8, .pair 2 (by decide) 8, .pair 1 (by decide) 8, .pair 0 (by decide) 8, .mix 3 8, .mix 2 8, .mix 1 8,
  .mix 0 8, .pair 4 (by decide) 9, .pair 3 (by decide) 9, .pair 2 (by decide) 9, .pair 1 (by decide) 9, .pair 0 (by decide) 9, .mix 3 9, .mix 2 9, .mix 1 9,
  .mix 0 9, .pair 5 (by decide) 10, .pair 4 (by decide) 10, .pair 3 (by decide) 10, .pair 2 (by decide) 10, .pair 1 (by decide) 10, .pair 0 (by decide) 10, .mix 3 10,
  .mix 2 10, .mix 1 10, .mix 0 10, .pair 6 (by decide) 11, .pair 5 (by decide) 11, .pair 4 (by decide) 11, .pair 3 (by decide) 11, .pair 2 (by decide) 11, .pair 1 (by decide) 11]

/-- The stages left. -/
abbrev stages₂ : List Stg := [.pair 0 (by decide) 11, .mix 3 11, .mix 2 11, .mix 1 11, .mix 0 11]

theorem stages_fine : ∀ g ∈ stages₁ ++ stages₂, g.Fine := by
  simp only [List.cons_append, List.nil_append, List.forall_mem_cons, Stg.Fine]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun x hx => absurd hx (List.not_mem_nil)⟩ <;> decide

theorem stages_net : (stages₁ ++ stages₂).flatMap Stg.net = sortNet 11 true := by
  have e : sortNet 11 true = (List.range 11).flatMap fun l => (List.range (l + 1)).reverse.flatMap fun s => net s (l + 1) := rfl
  rw [e]
  have h : ∀ n, List.range (n + 1) = List.range n ++ [n] := fun n => List.range_succ
  simp only [h, List.range_zero, List.nil_append, List.cons_append, List.reverse_append, List.reverse_cons, List.reverse_nil, List.flatMap_append, List.flatMap_cons, List.flatMap_nil,
    List.append_nil, List.append_assoc, Stg.net, Nat.reduceAdd]

theorem runs_append (h1 : k2_cond1 i = 1#1) (a b : List Stg) (p : Prog (TE Ideal (ci i) (cj i)) α) : runs h1 (a ++ b) p = runs h1 a (runs h1 b p) := by
  induction a with
  | nil => rfl
  | cons g a ih =>
    show (g.run h1 >>= fun _ => runs h1 (a ++ b) p) = (g.run h1 >>= fun _ => runs h1 a (runs h1 b p))
    rw [ih]

theorem bits_f32 : EltTy.f32.bits = 32 := rfl

theorem bits_i32 : EltTy.i32.bits = 32 := rfl

/-- The candidates gathered, and the sort started. -/
def gathered (h1 : k2_cond1 i = 1#1) (m : BitVec 32) (w : k2_chk13 i m) (v684 : BitVec 32) (v687 : FVec Ideal S16 .f32) (v689 : IVec S16 32) (p : Prog (TE Ideal (ci i) (cj i)) α) : Prog (TE Ideal (ci i) (cj i)) α :=
  fill2From (n := 2064) (e := .f32) (e' := .i32) (Memref.whole cc2_scratch5) (Memref.whole cc2_scratch6) bits_f32 bits_i32 v687 v689 121 7
    (Scf.Loop.for (k2_t2_loop m) (k2_t2_ok i m w h1) (fun _ => 0#32) (app (k2_t2_body (F := Ideal) i) lanes (fun _ => 0#32) (fun _ => 1#32) h1 m w v684 v687 v689) >>= fun v951 =>
     Scf.Loop.for (k2_t4_loop m) (k2_t4_ok i m w h1) v951 (app (k2_t4_body (F := Ideal) i) lanes (fun _ => 0#32) (fun _ => 1#32) h1 m w v684 v687 v689 (Scalar.addi 0#32 (Scalar.muli (Scalar.divsi (Scalar.subi v684 0#32) 1#32) 1#32))) >>= fun _ => p)

theorem fill2From_bind {β : Type} {n : ℕ} {e e' : EltTy} (M : Memref sig .scVector .vmem ⟨1, ![n]⟩ e) (M' : Memref sig .scVector .vmem ⟨1, ![n]⟩ e') (he : e.bits = 32)
    (he' : e'.bits = 32) (val : S16.Idx → Elt Ideal e) (val' : S16.Idx → Elt Ideal e') (m : ℕ) : ∀ (k : ℕ) (p : Prog (TE Ideal (ci i) (cj i)) β) (f : β → Prog (TE Ideal (ci i) (cj i)) α),
    (fill2From M M' he he' val val' k m p >>= f) = fill2From M M' he he' val val' k m (p >>= f) := by
  induction m with
  | zero => exact fun _ _ _ => rfl
  | succ m ih =>
    intro k p f
    unfold fill2From
    split
    · simp only [← ih]
      rfl
    · rfl

theorem w73 (h1 : k2_cond1 i = 1#1) (m : BitVec 32) (w : k2_chk13 i m) (v684 : BitVec 32) (v687 : FVec Ideal S16 .f32) (v689 : IVec S16 32) :
    app (k2_part73 (F := Ideal) i) lanes (fun _ => 0#32) (fun _ => 1#32) h1 m w v684 v687 v689 = gathered h1 m w v684 v687 v689 (runs h1 [.mix 0 1] (.ret ⟨⟩)) := by
  rw [k2_part73_eq_skeleton]
  rfl

theorem gathered_bind {β : Type} (h1 : k2_cond1 i = 1#1) (m : BitVec 32) (w : k2_chk13 i m) (v684 : BitVec 32) (v687 : FVec Ideal S16 .f32) (v689 : IVec S16 32) (p : Prog (TE Ideal (ci i) (cj i)) β)
    (f : β → Prog (TE Ideal (ci i) (cj i)) α) : (gathered h1 m w v684 v687 v689 p >>= f) = gathered h1 m w v684 v687 v689 (p >>= f) := by
  unfold gathered
  refine (fill2From_bind (n := 2064) (e := .f32) (e' := .i32) _ _ _ _ _ _ _ _ _ _).trans ?_
  simp only [bind_assoc]

theorem seg73 (h1 : k2_cond1 i = 1#1) (m : BitVec 32) (w : k2_chk13 i m) (v684 : BitVec 32) (v687 : FVec Ideal S16 .f32) (v689 : IVec S16 32) (p : Prog (TE Ideal (ci i) (cj i)) α) : (do
    app (k2_part73 (F := Ideal) i) lanes (fun _ => 0#32) (fun _ => 1#32) h1 m w v684 v687 v689
    let c0_i32_458 : BitVec 32 ← app (k2_part74 (F := Ideal) i) lanes (fun _ => 0#32) (fun _ => 1#32) h1
    app (k2_part75 (F := Ideal) i) lanes (fun _ => 0#32) (fun _ => 1#32) h1 c0_i32_458
    let ⟨c0_i32_543, c1_i32_545⟩ : Σ' (c0_i32_543 : BitVec 32), BitVec 32 ← app (k2_part76 (F := Ideal) i) lanes (fun _ => 0#32) (fun _ => 1#32) h1
    let c0_i32_588 : BitVec 32 ← app (k2_part77 (F := Ideal) i) lanes (fun _ => 0#32) (fun _ => 1#32) h1 c0_i32_543 c1_i32_545
    app (k2_part78 (F := Ideal) i) lanes (fun _ => 0#32) (fun _ => 1#32) h1 c0_i32_588
    let ⟨c0_i32_673, c128_i32_674⟩ : Σ' (c0_i32_673 : BitVec 32), BitVec 32 ← app (k2_part79 (F := Ideal) i) lanes (fun _ => 0#32) (fun _ => 1#32) h1
    app (k2_part80 (F := Ideal) i) lanes (fun _ => 0#32) (fun _ => 1#32) h1 c0_i32_673 c128_i32_674
    p) =
    gathered h1 m w v684 v687 v689 (runs h1 stages₁ p) := by
  have e : ∀ {β γ : Type} (b : β) (f : β → Prog (TE Ideal (ci i) (cj i)) γ), (Prog.ret b >>= f) = f b := fun _ _ => rfl
  simp only [w73, gathered_bind, runs_bind, w74, w75, w76, w77, w78, w79, w80, e, ← runs_append]
  rfl

end Cert.Proof.Ker

end
-- ==== Proof.Body.lean ====
/-
  What one subcore does, from beginning to end.
-/
module

public import proofs.«01_k».proof.Proof.Sorted

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SortNet

variable {d : Dev nD} {i : grid2.Coords} {t : Holds Ideal d (ci i) (cj i)} {σ₀ : St Ideal d (ci i) (cj i)} {α : Type}

/-! ### The maxima brought in -/

/-- This subcore's maxima. -/
abbrev mxRows (i : grid2.Coords) (h1 : k2_cond1 i = 1#1) : Memref sig .scVector .hbm S160x128 .f32 :=
  ((Memref.whole main_v0_1_scv).slice (Rect.unit (s := S16x160x128) (k2_off1 i) S1x160x128.size (k2_off1_inb i h1)) (fun _ => rfl)).squeeze S160x128 squeezes_S1x160x128_S160x128

/-- The copy of this subcore's maxima into its own memory. -/
def copyIn (i : grid2.Coords) (h1 : k2_cond1 i = 1#1) (p : Prog (TE Ideal (ci i) (cj i)) α) : Prog (TE Ideal (ci i) (cj i)) α :=
  .op (.enqueueDmaAs (mxRows i h1) (.here (Memref.whole cc2_scratch0)) .same (.dma cc2_scoped0.sem)
      ((View.wordExact_bits rfl).reshape _ _) (Memref.isWhole_whole _).wordExact ⟨Or.inl rfl, trivial⟩) fun _ =>
  .op (.waitDma2 cc2_scoped0.sem (mxRows i h1) (Memref.whole cc2_scratch0) ((View.wordExact_bits rfl).reshape _ _)
      (Memref.isWhole_whole _).wordExact) fun _ => p

theorem seg38 (h1 : k2_cond1 i = 1#1) (p : Prog (TE Ideal (ci i) (cj i)) α) : (app (k2_part38 (F := Ideal) i) (fun _ => 0#32) h1 >>= fun _ =>
  app (k2_part39 (F := Ideal) i) (fun _ => 0#32) >>= fun _ =>
  app (k2_part40 (F := Ideal) i) (fun _ => 0#32) >>= fun _ =>
  app (k2_part41 (F := Ideal) i) (fun _ => 0#32) >>= fun _ =>
  app (k2_part42 (F := Ideal) i) (fun _ => 0#32) >>= fun _ =>
  app (k2_part43 (F := Ideal) i) (fun _ => 0#32) >>= fun _ => p) = copyIn i h1 (fillFrom (Memref.whole cc2_scratch1) rfl (fun _ _ => 0#32) 0 114 p) := by
  simp only [k2_part38_eq_skeleton, k2_part39_eq_skeleton, k2_part40_eq_skeleton, k2_part41_eq_skeleton, k2_part42_eq_skeleton, k2_part43_eq_skeleton]
  rfl

/-- The maxima as they are before they are brought in. -/
def mxOf (h1 : k2_cond1 i = 1#1) (σ : St Ideal d (ci i) (cj i)) (k : ℕ) : EReal :=
  (mxRows i h1).view.read (Elt Ideal) (σ main_v0_1_scv) (ix2 160 128 (k / 128) (k % 128))

theorem copyIn_tr (hs : ∀ b ∈ scratches, Scr t b) (hI : Ins t) (h1 : k2_cond1 i = 1#1) {p : Prog (TE Ideal (ci i) (cj i)) α} {Q : α → St Ideal d (ci i) (cj i) → Prop}
    (hk : ∀ σ', Only [cc2_scratch0] σ₀ σ' → (∀ k, (mvOf σ' k : EReal) = mxOf h1 σ₀ k) → Tr t p σ' Q) : Tr t (copyIn i h1 p) σ₀ Q := by
  unfold copyIn
  refine Tr.dma (show main_v0_1_scv ≠ cc2_scratch0 by decide) hI.mx (hs cc2_scratch0 (by decide)).mem (by rw [show t.elems (mxRows i h1).view.ref = Finset.univ from hI.mxE]; exact Finset.subset_univ _)
    (by rw [(hs cc2_scratch0 (by decide)).elems]; exact Finset.subset_univ _)
    (hs cc2_scratch0 (by decide)).share hI.s0 rfl (View.dmaCredit_pos _ (by decide)) (hk _ ((Only.refl _ _).update (by decide) _) fun k => ?_)
  unfold mvOf Ker.rd2
  rw [Function.update_self, View.read_write_univ]
  rfl

/-! ### What the order is of -/

/-- The candidates before the sort: scores and numbers, with fillers after the end of each lane's. -/
def ent (mx : ℕ → EReal) (lg : ℕ → ℕ → EReal) (sg : EReal → EReal) (N k : ℕ) : EReal × BitVec 32 :=
  (((candL (F := Ideal) mx lg N (k % 16))[k / 16]?).map fun p => (sg (lg p.1 p.2), num p)).getD (k2_pay239 (F := Ideal) (ln 0), 2147483647#32)

/-- `s` and `X` are the candidates in order. -/
def Order (mx : ℕ → EReal) (lg : ℕ → ℕ → EReal) (sg : EReal → EReal) (N : ℕ) (s : ℕ → EReal) (X : ℕ → BitVec 32) : Prop :=
  ∃ π : Equiv.Perm (Fin (2 ^ 11)), (∀ k : Fin (2 ^ 11), (s k.val, X k.val) = ent mx lg sg N (π k).val) ∧ Antitone fun k : Fin (2 ^ 11) => key (s k.val) (X k.val)

theorem key_inj {x y : EReal} {a b : BitVec 32} (h : key x a = key y b) : x = y ∧ a = b := by
  unfold key at h
  have h' := toLex_inj.mp h
  rw [Prod.mk.injEq] at h'
  exact ⟨h'.1, BitVec.eq_of_toInt_eq (OrderDual.toDual_inj.mp h'.2)⟩

theorem order_of {mx : ℕ → EReal} {lg : ℕ → ℕ → EReal} {sg : EReal → EReal} {N : ℕ} {cnt : IVec S16 32} {σ₁ σ σ' : St Ideal d (ci i) (cj i)}
    (H : CandI (F := Ideal) mx lg sg σ₁ N cnt σ) (hn : prs σ' = Network.apply (sortNet 11 true) (prs σ)) :
    Order mx lg sg N (fun k => rd (e := .f32) (n := 2064) (Memref.whole cc2_scratch5) σ' k) (fun k => rd (e := .i32) (n := 2064) (Memref.whole cc2_scratch6) σ' k) := by
  obtain ⟨π, hπ⟩ := Network.exists_perm (sortNet 11 true) (prs σ)
  refine ⟨π, fun k => ?_, ?_⟩
  · have e := congrFun (hn.trans hπ) k
    obtain ⟨e1, e2⟩ := key_inj e
    beta_reduce
    rw [e1, e2]
    have hk : (π k).val < 2048 := (π k).isLt
    generalize (π k).val = j at hk
    have c1 := H.cv (j % 16) (by omega) (j / 16) (by omega)
    have c2 := H.ci (j % 16) (by omega) (j / 16) (by omega)
    rw [show 16 * (j / 16) + j % 16 = j by omega] at c1 c2
    rw [c1, c2]
    unfold ent
    rw [List.getElem?_map, List.getElem?_map]
    cases (candL (F := Ideal) mx lg N (j % 16))[j / 16]? <;> rfl
  · have := sortNet_apply_antitone 11 (prs σ)
    rw [← hn] at this
    exact this

theorem chunks_cover (m : BitVec 32) (hm : m.toNat ≤ 128) : 80 * m.toNat ≤ 640 * chunks m := by
  unfold chunks
  omega

/-- The score of a logit. -/
def sgOf (x : EReal) : EReal := sigV (F := Ideal) (fun _ => x) (ln 0)

/-- What is known beforehand of the maxima and the logits: no lane has too many, and the first 384 in order are in the tables. -/
structure Fits (b : ℕ) (mx : ℕ → EReal) (lg : ℕ → ℕ → EReal) : Prop where
  hot : ∀ l < 16, (hotL (F := Ideal) mx 1280 l).length ≤ 128
  cand : ∀ N, ∀ l < 16, (candL (F := Ideal) mx lg N l).length ≤ 128
  bid : ∀ e, (bidOf (F := Ideal) mx e).toNat < 20000
  first : ∀ N s X, (∀ l < 16, 80 * (hotL (F := Ideal) mx 1280 l).length ≤ N) → Order mx lg sgOf N s X →
    ∀ k < 384, (X k).toNat < 2 ^ 31 ∧ kb b (nq (X k).toNat) / 128 + 1 < 85000

end Cert.Proof.Ker

end
-- ==== Proof.Whole.lean ====
/-
  The whole program of one subcore, piece by piece.
-/
module

public import proofs.«01_k».proof.Proof.Body

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SortNet

variable {d : Dev nD} {i : grid2.Coords} {t : Holds Ideal d (ci i) (cj i)} {σ₀ : St Ideal d (ci i) (cj i)} {α : Type}

set_option maxHeartbeats 1000000

/-- From the sorted candidates to the first seventeen rows of entries. -/
def last (h1 : k2_cond1 i = 1#1) : Prog (TE Ideal (ci i) (cj i)) (Σ' (_ : IVec S16 32), BitVec 32) := do
  let x81 : Σ' (v1029 : IVec S16 32) (v1031 : BitVec 32), IVec S16 32 ← app (k2_part81 (F := Ideal) i) (BitVec.ofNat 32 (i 1).val) lanes (fun _ => 0#32) (fun _ => 1#32) h1
  let x82 : Σ' (v1064 : IVec S16 32) (v1068 : IVec S16 32), IVec S16 32 ← app (k2_part82 (F := Ideal) i) (BitVec.ofNat 32 (i 1).val) lanes h1 x81.1 x81.2.1 x81.2.2
  let x83 : Σ' (v1099 : IVec S16 32), IVec S16 32 ← app (k2_part83 (F := Ideal) i) (BitVec.ofNat 32 (i 1).val) lanes h1 x82.1 x82.2.1 x82.2.2
  let x84 : Σ' (v1134 : IVec S16 32), IVec S16 32 ← app (k2_part84 (F := Ideal) i) (BitVec.ofNat 32 (i 1).val) lanes h1 x83.1 x83.2
  let x85 : Σ' (v1169 : IVec S16 32), IVec S16 32 ← app (k2_part85 (F := Ideal) i) (BitVec.ofNat 32 (i 1).val) lanes h1 x84.1 x84.2
  let v1204 : IVec S16 32 ← app (k2_part86 (F := Ideal) i) (BitVec.ofNat 32 (i 1).val) lanes h1 x85.1 x85.2
  let x87 : Σ' (v1239 : IVec S16 32), BitVec 32 ← app (k2_part87 (F := Ideal) i) (BitVec.ofNat 32 (i 1).val) lanes h1 v1204
  let x88 : Σ' (v1274 : IVec S16 32), BitVec 32 ← app (k2_part88 (F := Ideal) i) (BitVec.ofNat 32 (i 1).val) lanes h1 x87.1 x87.2
  let x89 : Σ' (v1309 : IVec S16 32) (v1317 : BitVec 32), BitVec 32 ← app (k2_part89 (F := Ideal) i) (BitVec.ofNat 32 (i 1).val) lanes h1 x88.1 x88.2
  let x90 : Σ' (v1344 : IVec S16 32) (v1352 : BitVec 32), IVec S16 32 ← app (k2_part90 (F := Ideal) i) (BitVec.ofNat 32 (i 1).val) lanes h1 x89.1 x89.2.1 x89.2.2
  let x91 : Σ' (v1387 : BitVec 32), IVec S16 32 ← app (k2_part91 (F := Ideal) i) (BitVec.ofNat 32 (i 1).val) lanes h1 x90.1 x90.2.1 x90.2.2
  let x92 : Σ' (v1424 : IVec S16 32), IVec S16 32 ← app (k2_part92 (F := Ideal) i) (BitVec.ofNat 32 (i 1).val) lanes h1 x91.1 x91.2
  let v1461 : IVec S16 32 ← app (k2_part93 (F := Ideal) i) (BitVec.ofNat 32 (i 1).val) lanes h1 x92.1 x92.2
  let x94 : Σ' (v1496 : IVec S16 32), BitVec 32 ← app (k2_part94 (F := Ideal) i) (BitVec.ofNat 32 (i 1).val) lanes h1 v1461
  let x95 : Σ' (v1531 : IVec S16 32), IVec S16 32 ← app (k2_part95 (F := Ideal) i) (BitVec.ofNat 32 (i 1).val) lanes h1 x94.1 x94.2
  let v1568 : IVec S16 32 ← app (k2_part96 (F := Ideal) i) (BitVec.ofNat 32 (i 1).val) lanes h1 x95.1 x95.2
  let x97 : Σ' (v1603 : IVec S16 32), BitVec 32 ← app (k2_part97 (F := Ideal) i) (BitVec.ofNat 32 (i 1).val) lanes h1 v1568
  pure ⟨x97.1, x97.2⟩

theorem last_eq (h1 : k2_cond1 i = 1#1) (p' : Prog (TE Ideal (ci i) (cj i)) (Σ' (_ : IVec S16 32), BitVec 32)) : last h1 =
    runs h1 [.pair 0 (by decide) 11, .mix 3 11, .mix 2 11, .mix 1 11, .mix 0 11] (entryFrom h1 0 16 (entryHead 16 (fun r => .ret ⟨r, 256#32⟩) p')) := by
  have e := seg81 (F := Ideal) (i := i) h1 (fun v c => (.ret ⟨v, c⟩ : Prog (TE Ideal (ci i) (cj i)) (Σ' (_ : IVec S16 32), BitVec 32))) p'
  dsimp only at e
  unfold last
  exact e

/-- From the gathering of the candidates to the first seventeen rows of entries. -/
def late (h1 : k2_cond1 i = 1#1) (m : BitVec 32) (w : k2_chk13 i m) (v684 : BitVec 32) (v687 : FVec Ideal S16 .f32) (v689 : IVec S16 32) : Prog (TE Ideal (ci i) (cj i)) (Σ' (_ : IVec S16 32), BitVec 32) := do
  app (k2_part73 (F := Ideal) i) lanes (fun _ => 0#32) (fun _ => 1#32) h1 m w v684 v687 v689
  let c0_i32_458 : BitVec 32 ← app (k2_part74 (F := Ideal) i) lanes (fun _ => 0#32) (fun _ => 1#32) h1
  app (k2_part75 (F := Ideal) i) lanes (fun _ => 0#32) (fun _ => 1#32) h1 c0_i32_458
  let x76 : Σ' (c0_i32_543 : BitVec 32), BitVec 32 ← app (k2_part76 (F := Ideal) i) lanes (fun _ => 0#32) (fun _ => 1#32) h1
  let c0_i32_588 : BitVec 32 ← app (k2_part77 (F := Ideal) i) lanes (fun _ => 0#32) (fun _ => 1#32) h1 x76.1 x76.2
  app (k2_part78 (F := Ideal) i) lanes (fun _ => 0#32) (fun _ => 1#32) h1 c0_i32_588
  let x79 : Σ' (c0_i32_673 : BitVec 32), BitVec 32 ← app (k2_part79 (F := Ideal) i) lanes (fun _ => 0#32) (fun _ => 1#32) h1
  app (k2_part80 (F := Ideal) i) lanes (fun _ => 0#32) (fun _ => 1#32) h1 x79.1 x79.2
  last h1

theorem late_eq (h1 : k2_cond1 i = 1#1) (m : BitVec 32) (w : k2_chk13 i m) (v684 : BitVec 32) (v687 : FVec Ideal S16 .f32) (v689 : IVec S16 32) :
    late h1 m w v684 v687 v689 = gathered h1 m w v684 v687 v689 (runs h1 stages₁ (last h1)) := by
  have e := seg73 h1 m w v684 v687 v689 (last h1)
  dsimp only at e
  unfold late
  exact e

/-- From the filling of the candidates on. -/
def mid (h1 : k2_cond1 i = 1#1) (m : BitVec 32) (w : k2_chk13 i m) (v684 : BitVec 32) (v687 : FVec Ideal S16 .f32) (v689 : IVec S16 32) : Prog (TE Ideal (ci i) (cj i)) (Σ' (_ : IVec S16 32), BitVec 32) := do
  app (k2_part61 (F := Ideal) i) v687 v689
  app (k2_part62 (F := Ideal) i) v687 v689
  app (k2_part63 (F := Ideal) i) v687 v689
  app (k2_part64 (F := Ideal) i) v687 v689
  app (k2_part65 (F := Ideal) i) v687 v689
  app (k2_part66 (F := Ideal) i) v687 v689
  app (k2_part67 (F := Ideal) i) v687 v689
  app (k2_part68 (F := Ideal) i) v687 v689
  app (k2_part69 (F := Ideal) i) v687 v689
  app (k2_part70 (F := Ideal) i) v687 v689
  app (k2_part71 (F := Ideal) i) v687 v689
  app (k2_part72 (F := Ideal) i) v687 v689
  late h1 m w v684 v687 v689

theorem mid_eq (h1 : k2_cond1 i = 1#1) (m : BitVec 32) (w : k2_chk13 i m) (v684 : BitVec 32) (v687 : FVec Ideal S16 .f32) (v689 : IVec S16 32) :
    mid h1 m w v684 v687 v689 = fill2From (Memref.whole cc2_scratch5) (Memref.whole cc2_scratch6) rfl rfl v687 v689 1 120 (late h1 m w v684 v687 v689) :=
  seg61 v687 v689 (late h1 m w v684 v687 v689)

/-- What is done with the first marks. -/
def after (h1 : k2_cond1 i = 1#1) (x : Σ' (_ : IVec S16 32), IVec S16 32) : Prog (TE Ideal (ci i) (cj i)) (Σ' (_ : IVec S16 32), BitVec 32) := do
  let v178 : IVec S16 32 ← app (k2_part45 (F := Ideal) i) (fun _ => 0#32) (fun _ => 1#32) x.1 x.2
  let v212 : IVec S16 32 ← app (k2_part46 (F := Ideal) i) (fun _ => 0#32) (fun _ => 1#32) x.1 v178
  let v247 : IVec S16 1 ← app (k2_part47 (F := Ideal) i) (fun _ => 0#32) (fun _ => 1#32) x.1 v212
  app (k2_part48 (F := Ideal) i) (fun _ => 0#32) (fun _ => 1#32) x.1 v247
  let v316 : IVec S16 32 ← app (k2_part49 (F := Ideal) i) (fun _ => 0#32) (fun _ => 1#32) x.1
  let c53_i32 : BitVec 32 ← app (k2_part50 (F := Ideal) i) (fun _ => 0#32) (fun _ => 1#32) x.1 v316
  let v384 : IVec S16 32 ← app (k2_part51 (F := Ideal) i) (fun _ => 0#32) (fun _ => 1#32) x.1 c53_i32
  let v418 : IVec S16 32 ← app (k2_part52 (F := Ideal) i) (fun _ => 0#32) (fun _ => 1#32) x.1 v384
  let v452 : IVec S16 32 ← app (k2_part53 (F := Ideal) i) (fun _ => 0#32) (fun _ => 1#32) x.1 v418
  let v487 : IVec S16 1 ← app (k2_part54 (F := Ideal) i) (fun _ => 0#32) (fun _ => 1#32) x.1 v452
  app (k2_part55 (F := Ideal) i) (fun _ => 0#32) (fun _ => 1#32) x.1 v487
  let v556 : IVec S16 32 ← app (k2_part56 (F := Ideal) i) (fun _ => 0#32) (fun _ => 1#32) x.1
  let c113_i32 : BitVec 32 ← app (k2_part57 (F := Ideal) i) (fun _ => 0#32) (fun _ => 1#32) x.1 v556
  let v624 : IVec S16 32 ← app (k2_part58 (F := Ideal) i) (fun _ => 0#32) (fun _ => 1#32) x.1 c113_i32
  let x59 : Σ' (v656 : IVec S16 32), BitVec 32 ← app (k2_part59 (F := Ideal) i) lanes (fun _ => 0#32) (fun _ => 1#32) h1 x.1 v624
  let x60 : Σ' (v681 : BitVec 32) (k2_hw13 : k2_chk13 i v681) (v684 : BitVec 32) (v687 : FVec Ideal S16 .f32), IVec S16 32 ← app (k2_part60 (F := Ideal) i) lanes (fun _ => 0#32) h1 x59.1 x59.2
  mid h1 x60.1 x60.2.1 x60.2.2.1 x60.2.2.2.1 x60.2.2.2.2

theorem after_eq (h1 : k2_cond1 i = 1#1) (v : IVec S16 32) : after h1 ⟨v, k2_pay99 (fun _ => 0#32) (fun _ => 1#32) v⟩ =
    fillFrom (Memref.whole cc2_scratch3) rfl (occ v) 1 127 (maxCnt i h1 v (fun x => mid h1 x.1 x.2.1 x.2.2.1 x.2.2.2.1 x.2.2.2.2)) := by
  have e := seg45 (F := Ideal) h1 v (fun x => mid h1 x.1 x.2.1 x.2.2.1 x.2.2.2.1 x.2.2.2.2)
  dsimp only at e
  unfold after
  exact e

/-- Everything up to the first seventeen rows of entries. -/
theorem first_eq (h1 : k2_cond1 i = 1#1) : app (k2_part109 (F := Ideal) i) (BitVec.ofNat 32 (i 1).val) lanes (fun _ => 0#32) (fun _ => 1#32) h1 =
    copyIn i h1 (fillFrom (Memref.whole cc2_scratch1) rfl (fun _ _ => 0#32) 0 114 (app (k2_part44 (F := Ideal) i) lanes (fun _ => 0#32) (fun _ => 1#32) h1 >>= after h1)) := by
  have e := seg38 h1 (app (k2_part44 (F := Ideal) i) lanes (fun _ => 0#32) (fun _ => 1#32) h1 >>= after h1)
  rw [← e]
  unfold after mid late last app k2_part109
  dsimp only

/-- Everything after them. -/
def tail (h1 : k2_cond1 i = 1#1) (x : Σ' (_ : IVec S16 32), BitVec 32) : Prog (TE Ideal (ci i) (cj i)) PUnit := do
  let x98 : Σ' (v1638 : IVec S16 32), IVec S16 32 ← app (k2_part98 (F := Ideal) i) (BitVec.ofNat 32 (i 1).val) lanes h1 x.1 x.2
  let x99 : Σ' (v1673 : IVec S16 32), IVec S16 32 ← app (k2_part99 (F := Ideal) i) (BitVec.ofNat 32 (i 1).val) lanes h1 x98.1 x98.2
  let x100 : Σ' (v1708 : IVec S16 32) (v1710 : IVec S16 32), BitVec 32 ← app (k2_part100 (F := Ideal) i) (BitVec.ofNat 32 (i 1).val) lanes h1 x99.1 x99.2
  let x101 : Σ' (v1743 : IVec S16 32) (v1745 : IVec S16 32), IVec S16 32 ← app (k2_part101 (F := Ideal) i) (BitVec.ofNat 32 (i 1).val) lanes h1 x100.1 x100.2.1 x100.2.2
  let x102 : Σ' (v1778 : IVec S16 32) (v1780 : IVec S16 32), IVec S16 32 ← app (k2_part102 (F := Ideal) i) (BitVec.ofNat 32 (i 1).val) lanes h1 x101.1 x101.2.1 x101.2.2
  let x103 : Σ' (v1813 : IVec S16 32) (v1815 : IVec S16 32) (v1817 : IVec S16 32), k2_chk108 i v1817 ← app (k2_part103 (F := Ideal) i) (BitVec.ofNat 32 (i 1).val) lanes h1 x102.1 x102.2.1 x102.2.2
  let x104 : Σ' (v1848 : IVec S16 32), IVec S16 32 ← app (k2_part104 (F := Ideal) i) (BitVec.ofNat 32 (i 1).val) lanes h1 x103.1 x103.2.1 x103.2.2.1 x103.2.2.2
  app (k2_part105 (F := Ideal) i) lanes h1 x104.1 x104.2
  let c0_i32_1194 : BitVec 32 ← app (k2_part106 (F := Ideal) i) (BitVec.ofNat 32 (i 1).val) lanes h1
  let x107 : Σ' (c0_i32_1224 : BitVec 32), BitVec 32 ← app (k2_part107 (F := Ideal) i) (BitVec.ofNat 32 (i 1).val) lanes h1 c0_i32_1194
  app (k2_part108 (F := Ideal) i) (BitVec.ofNat 32 (i 1).val) lanes h1 x107.1 x107.2
  Prog.lift (.waitDma2 cc2_scoped4.sem (Memref.whole cc2_scratch12) (kptsRow i h1) (Memref.isWhole_whole _).wordExact ((View.wordExact_bits rfl).reshape _ _))
  pure ⟨⟩

/-- The end of it, from the last row of entries. -/
def tailEnd (h1 : k2_cond1 i = 1#1) (r x : IVec S16 32) : Prog (TE Ideal (ci i) (cj i)) PUnit := do
  app (k2_part105 (F := Ideal) i) lanes h1 r x
  let c0_i32_1194 : BitVec 32 ← app (k2_part106 (F := Ideal) i) (BitVec.ofNat 32 (i 1).val) lanes h1
  let x107 : Σ' (c0_i32_1224 : BitVec 32), BitVec 32 ← app (k2_part107 (F := Ideal) i) (BitVec.ofNat 32 (i 1).val) lanes h1 c0_i32_1194
  app (k2_part108 (F := Ideal) i) (BitVec.ofNat 32 (i 1).val) lanes h1 x107.1 x107.2
  Prog.lift (.waitDma2 cc2_scoped4.sem (Memref.whole cc2_scratch12) (kptsRow i h1) (Memref.isWhole_whole _).wordExact ((View.wordExact_bits rfl).reshape _ _))
  pure ⟨⟩

theorem tailEnd_eq (h1 : k2_cond1 i = 1#1) (r x : IVec S16 32) : tailEnd h1 r x = lastTail h1 r x (rest h1 (.ret ⟨⟩)) := by
  have e := seg105 (F := Ideal) h1 r x (.ret PUnit.unit)
  dsimp only at e
  unfold tailEnd
  exact e

theorem tail_eq (h1 : k2_cond1 i = 1#1) (v1603 : IVec S16 32) : tail h1 ⟨v1603, 256#32⟩ = entryTail h1 16 v1603 (entryFrom h1 17 7 (rest h1 (.ret ⟨⟩))) := by
  have e := seg98 (F := Ideal) h1 v1603 (rest h1 (.ret PUnit.unit)) (tailEnd h1) (tailEnd_eq h1)
  dsimp only at e
  unfold tailEnd at e
  unfold tail
  exact e

theorem body_eq (h1 : k2_cond1 i = 1#1) : app (cc2__phase2_body (F := Ideal) i) =
    (app (k2_part109 (F := Ideal) i) (BitVec.ofNat 32 (i 1).val) lanes (fun _ => 0#32) (fun _ => 1#32) h1 >>= tail h1) := by
  have e : app (cc2__phase2_body (F := Ideal) i) = app (cc2__phase2_body_skel (F := Ideal) i) := by
    unfold app
    rw [cc2__phase2_body_eq_skeleton]
  rw [e]
  unfold app cc2__phase2_body_skel
  dsimp only
  rw [dif_pos h1, pay1_eq, pay2_eq]
  unfold tail
  dsimp only [app, lanes]
  try rfl

end Cert.Proof.Ker

end
-- ==== Proof.Core.lean ====
/-
  What one subcore does, from beginning to end.
-/
module

public import proofs.«01_k».proof.Proof.Whole

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SortNet

variable {d : Dev nD} {i : grid2.Coords} {t : Holds Ideal d (ci i) (cj i)} {σ₀ : St Ideal d (ci i) (cj i)} {α : Type}

theorem Logits.of_only {h1 : k2_cond1 i = 1#1} {lg : ℕ → ℕ → EReal} {σ σ' : St Ideal d (ci i) (cj i)} (H : Logits (F := Ideal) h1 lg σ)
    (e : σ' main_v0_0_scv = σ main_v0_0_scv) : Logits (F := Ideal) h1 lg σ' := by
  unfold Logits at H ⊢
  rw [e]
  exact H

theorem tab_of {n : ℕ} [NeZero n] {M : Memref sig .scVector .hbm ⟨2, ![n, 128]⟩ .f32} {σ σ' : St Ideal d (ci i) (cj i)} (e : σ' M.view.ref = σ M.view.ref) (r q : ℕ) : tab M σ' r q = tab M σ r q :=
  congrArg (fun z => View.read (Elt Ideal) M.view z (ix2 n 128 r q)) e

theorem body_tr (hs : ∀ b ∈ scratches, Scr t b) (hO : ∀ h1, Outs t h1) (hI : Ins t) (h1 : k2_cond1 i = 1#1) {mx : ℕ → EReal} {lg : ℕ → ℕ → EReal} {bx kx : ℕ → ℕ → EReal}
    (hmx : ∀ k, mxOf h1 σ₀ k = mx k) (hlg : Logits (F := Ideal) h1 lg σ₀) (hbx : ∀ r < 10000, ∀ q < 128, tab boxTab σ₀ r q = bx r q)
    (hkx : ∀ r < 85000, ∀ q < 128, tab kptTab σ₀ r q = kx r q) (hF : Fits (i 1).val mx lg) {Q : PUnit → St Ideal d (ci i) (cj i) → Prop}
    (hk : ∀ σ' N s X, (∀ l < 16, 80 * (hotL (F := Ideal) mx 1280 l).length ≤ N) → Order mx lg sgOf N s X → Found h1 (fun k => (X k).toNat) s bx kx σ' → Q ⟨⟩ σ') :
    Tr t (app (cc2__phase2_body (F := Ideal) i)) σ₀ Q := by
  rw [body_eq h1, first_eq h1]
  refine Tr.bind (R := fun a σ' => Tr t (tail h1 a) σ' Q) ?_ fun a σ' h => h
  refine copyIn_tr hs hI h1 fun σ1 ho1 hm1 => ?_
  refine ready_tr (F := Ideal) hs h1 mx (fun k => (hm1 k).trans (hmx k)) hF.hot (fun v => after_eq h1 v) (fun v w => mid_eq h1 v w _ _ _) fun m w σ2 ho2 hz2 hL2 hV2 hml hm => ?_
  rw [late_eq, last_eq h1 (.ret ⟨lanes, 0#32⟩), ← runs_append]
  unfold gathered
  have hfill := fun (p : Prog (TE Ideal (ci i) (cj i)) (Σ' (_ : IVec S16 32), BitVec 32)) Q σ₀ => @fill2From_tr Ideal _ d (ci i) (cj i) (Σ' (_ : IVec S16 32), BitVec 32) 2064 _ .f32 .i32 (Memref.whole cc2_scratch5) (Memref.whole cc2_scratch6)
    bits_f32 bits_i32 (k2_pay239 (F := Ideal) (ln 0)) (2147483647#32 : BitVec 32) t (hs _ (by decide)) (hs _ (by decide)) (by decide) p Q σ₀
  refine hfill _ _ σ2 7 121 (by omega) (Only.refl _ σ2) (fun l _ h => hz2 l (by omega)) fun σ3 ho3 hz3 => ?_
  have hH3 : Hots (F := Ideal) mx σ3 := Hots.of_only ⟨hL2, hV2⟩ ho3 (by decide) (by decide)
  have hO3 : Only [cc2_scratch0, cc2_scratch1, cc2_scratch3, cc2_scratch2, cc2_scratch5, cc2_scratch6] σ₀ σ3 := ((ho1.trans ho2).trans ho3).mono (by decide)
  have hle : ∀ l < 16, 80 * (hotL (F := Ideal) mx 1280 l).length ≤ 640 * chunks m := fun l hl => (Nat.mul_le_mul_left 80 (hml l hl)).trans (chunks_cover m hm)
  refine Tr.bind (cand_loop (F := Ideal) (sg := sgOf) hs (fun _ _ => rfl) m hm (fun l hl => hF.cand _ l hl) hF.bid h1 hI.lg hI.lgE hI.s13 (hlg.of_only (hO3 main_v0_0_scv (by decide))) hH3 w
    (fun k hk => (hz3 k (by omega) (by omega)).1) (fun k hk => (hz3 k (by omega) (by omega)).2)) fun cnt σ4 H4 => ?_
  have key := Tr.for (t := t) _ _ _ (ok2 m hm).2 cnt (app (k2_t4_body (F := Ideal) i) lanes (fun _ => 0#32) (fun _ => 1#32) h1 m w (Scalar.minsi (Scalar.shrsi (Scalar.addi m 7#32) 3#32) 16#32)
    (k2_pay239 (F := Ideal)) (fun _ => 2147483647#32) (Scalar.addi 0#32 (Scalar.muli (Scalar.divsi (Scalar.subi (Scalar.minsi (Scalar.shrsi (Scalar.addi m 7#32) 3#32) 16#32) 0#32) 1#32) 1#32))) (σ := σ4)
    (fun _ _ σ => σ = σ4) rfl fun c _ _ _ => absurd (c.isLt.trans_eq (trips4 m hm)) (Nat.not_lt_zero _)
  refine Tr.bind key fun _ σ4' h4 => ?_
  subst h4
  refine runs_tr hs h1 _ stages_fine fun σ5 ho5 hn => ?_
  rw [stages_net] at hn
  have hOrd := order_of H4 hn
  have hfirst := hF.first _ _ _ hle hOrd
  have hx0 : ∀ k < 384, (rd (e := .i32) (n := 2064) (Memref.whole cc2_scratch6) σ5 k : BitVec 32).toNat = (rd (e := .i32) (n := 2064) (Memref.whole cc2_scratch6) σ5 k : BitVec 32).toNat := fun _ _ => rfl
  have hO5 : Only [cc2_scratch0, cc2_scratch1, cc2_scratch3, cc2_scratch2, cc2_scratch4, cc2_scratch5, cc2_scratch6] σ₀ σ5 := ((hO3.trans H4.only).trans ho5).mono (by decide)
  refine entryFrom_tr hs h1 (fun k hk => (hfirst k hk).1) hx0 16 (v := 0) (by omega) ⟨Only.refl _ _, fun k hk => absurd hk (by omega), fun k hk => absurd hk (by omega), fun k hk => absurd hk (by omega), fun k hk => absurd hk (by omega)⟩ fun σ6 H6 => ?_
  refine entryHead_tr hs (fun k hk => (hfirst k hk).1) hx0 (v := 16) (by omega) H6 fun r σ7 H7 hr => ?_
  refine Tr.ret ?_
  rw [tail_eq]
  refine entryTail_tr hs h1 (v := 16) (by omega) H7 hr fun σ8 H8 => ?_
  refine entryFrom_tr hs h1 (fun k hk => (hfirst k hk).1) hx0 7 (v := 17) (by omega) H8 fun σ9 H9 => ?_
  have hO9 := hO5.trans H9.only
  refine rest_tr hs h1 (hO h1) hI H9 (fun k _ => H9.only.rd (e := .f32) (n := 2064) (Memref.whole cc2_scratch5) (by decide) k) (fun k hk => (hfirst k hk).2)
    (fun r hr q hq => (tab_of (hO9 _ (by decide)) r q).trans (hbx r hr q hq)) (fun r hr q hq => (tab_of (hO9 _ (by decide)) r q).trans (hkx r hr q hq)) fun σ' hf => ?_
  exact Tr.ret (hk σ' _ _ _ hle hOrd hf)

end Cert.Proof.Ker

end
-- ==== Proof.Rows.lean ====
/-
  Where the rows and tables of a subcore lie in the large memory.
-/
module

public import proofs.«01_k».proof.Proof.Core

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SortNet

variable {d : Dev nD} {i : grid2.Coords}

/-- The index of element `(b, p, q)` of a stack of rectangles. -/
def ix3 (a n m : ℕ) [NeZero a] [NeZero n] [NeZero m] (b p q : ℕ) : (⟨3, ![a, n, m]⟩ : Shape).Idx :=
  Fin.cons (⟨b % a, Nat.mod_lt _ (NeZero.pos a)⟩ : Fin a) (ix2 n m p q)

theorem ix3_0 {a n m : ℕ} [NeZero a] [NeZero n] [NeZero m] {b p q : ℕ} (h : b < a) : (ix3 a n m b p q (0 : Fin 3)).val = b := Nat.mod_eq_of_lt h
theorem ix3_1 {a n m : ℕ} [NeZero a] [NeZero n] [NeZero m] {b p q : ℕ} (h : p < n) : (ix3 a n m b p q (1 : Fin 3)).val = p := Nat.mod_eq_of_lt h
theorem ix3_2 {a n m : ℕ} [NeZero a] [NeZero n] [NeZero m] {b p q : ℕ} (h : q < m) : (ix3 a n m b p q (2 : Fin 3)).val = q := Nat.mod_eq_of_lt h

theorem eq_ix3 {a n m : ℕ} [NeZero a] [NeZero n] [NeZero m] (x : (⟨3, ![a, n, m]⟩ : Shape).Idx) {b p q : ℕ}
    (h0 : (x (0 : Fin 3)).val = b) (h1 : (x (1 : Fin 3)).val = p) (h2 : (x (2 : Fin 3)).val = q) : x = ix3 a n m b p q := by
  subst h0 h1 h2
  funext c
  refine c.cases (Fin.ext (Nat.mod_eq_of_lt (x (0 : Fin 3)).isLt).symm) fun c => ?_
  refine c.cases (Fin.ext (Nat.mod_eq_of_lt (x (1 : Fin 3)).isLt).symm) fun c => ?_
  rw [Subsingleton.elim c 0]
  exact Fin.ext (Nat.mod_eq_of_lt (x (2 : Fin 3)).isLt).symm

theorem line_emb {a n : ℕ} [NeZero a] [NeZero n] {off : Fin 2 → ℕ} {j : ℕ} (h : off = ![j, 0])
    (inb : ∀ c, off c + (⟨2, ![1, n]⟩ : Shape).size c ≤ (⟨2, ![a, n]⟩ : Shape).size c)
    (hn : (⟨1, ![n]⟩ : Shape).numel = (⟨2, ![1, n]⟩ : Shape).numel) (y : (⟨1, ![n]⟩ : Shape).Idx) :
    (Rect.unit (s := ⟨2, ![a, n]⟩) off (⟨2, ![1, n]⟩ : Shape).size inb).emb (Shape.reshapeEquiv (s := ⟨2, ![1, n]⟩) hn y) = ix2 a n j (y 0).val := by
  subst h
  have hj : j + 1 ≤ a := inb 0
  have e : Shape.reshapeEquiv (s := ⟨2, ![1, n]⟩) hn y = ix2 1 n 0 (y 0).val := by
    refine Shape.reshapeEquiv_eq_of_rowMajor _ ?_
    rw [Shape.rowMajor_val_two, Shape.rowMajor_val_one, ix2_val0 (by omega), ix2_val1 (ix_lt y)]
    omega
  rw [e, eq_ix2 ((Rect.unit (s := ⟨2, ![a, n]⟩) ![j, 0] (⟨2, ![1, n]⟩ : Shape).size inb).emb (ix2 1 n 0 (y 0).val))]
  have e0 : ((Rect.unit (s := ⟨2, ![a, n]⟩) ![j, 0] (⟨2, ![1, n]⟩ : Shape).size inb).emb (ix2 1 n 0 (y 0).val) (0 : Fin 2)).val = j := by
    show j + 1 * (0 % 1) = j
    omega
  have e1 : ((Rect.unit (s := ⟨2, ![a, n]⟩) ![j, 0] (⟨2, ![1, n]⟩ : Shape).size inb).emb (ix2 1 n 0 (y 0).val) (1 : Fin 2)).val = (y 0).val := by
    show 0 + 1 * ((y 0).val % n) = (y 0).val
    rw [Nat.mod_eq_of_lt (ix_lt y)]
    omega
  rw [e0, e1]

theorem slab_emb {a n m : ℕ} [NeZero a] [NeZero n] [NeZero m] {off : Fin 3 → ℕ} {j : ℕ} (h : off = ![j, 0, 0])
    (inb : ∀ c, off c + (⟨3, ![1, n, m]⟩ : Shape).size c ≤ (⟨3, ![a, n, m]⟩ : Shape).size c)
    (hn : (⟨2, ![n, m]⟩ : Shape).numel = (⟨3, ![1, n, m]⟩ : Shape).numel) {p q : ℕ} (hp : p < n) (hq : q < m) :
    (Rect.unit (s := ⟨3, ![a, n, m]⟩) off (⟨3, ![1, n, m]⟩ : Shape).size inb).emb (Shape.reshapeEquiv (s := ⟨3, ![1, n, m]⟩) hn (ix2 n m p q)) = ix3 a n m j p q := by
  subst h
  have hj : j + 1 ≤ a := inb 0
  have e : Shape.reshapeEquiv (s := ⟨3, ![1, n, m]⟩) hn (ix2 n m p q) = ix3 1 n m 0 p q := by
    refine Shape.reshapeEquiv_eq_of_rowMajor _ ?_
    rw [Shape.rowMajor_val_three, Shape.rowMajor_val_two, ix3_0 (by omega), ix3_1 hp, ix3_2 hq, ix2_val0 hp, ix2_val1 hq]
    show (0 * n + p) * m + q = p * m + q
    rw [Nat.zero_mul, Nat.zero_add]
  rw [e]
  refine eq_ix3 _ ?_ ?_ ?_
  · show j + 1 * (0 % 1) = j
    omega
  · show 0 + 1 * (p % n) = p
    rw [Nat.mod_eq_of_lt hp]; omega
  · show 0 + 1 * (q % m) = q
    rw [Nat.mod_eq_of_lt hq]; omega

theorem off_one : k2_off1 i = ![(i 1).val, 0, 0] := by
  have : (i 1).val < 16 := (i 1).isLt
  simp [k2_off1]; omega
theorem off_eleven : k2_off11 i = ![(i 1).val, 0, 0] := by
  have : (i 1).val < 16 := (i 1).isLt
  simp [k2_off11]; omega
theorem off_lab : k2_off165 i = ![(i 1).val, 0] := by
  have : (i 1).val < 16 := (i 1).isLt
  simp [k2_off165]; omega
theorem off_box : k2_off166 i = ![(i 1).val, 0] := by
  have : (i 1).val < 16 := (i 1).isLt
  simp [k2_off166]; omega
theorem off_kpt : k2_off167 i = ![(i 1).val, 0] := by
  have : (i 1).val < 16 := (i 1).isLt
  simp [k2_off167]; omega

theorem lab_emb (h1 : k2_cond1 i = 1#1) (y : S384.Idx) : (labRow i h1).view.emb y = ix2 16 384 (i 1).val (y 0).val :=
  line_emb off_lab _ _ y
theorem sco_emb (h1 : k2_cond1 i = 1#1) (y : S384.Idx) : (scoRow i h1).view.emb y = ix2 16 384 (i 1).val (y 0).val :=
  line_emb off_lab _ _ y
theorem boxes_emb (h1 : k2_cond1 i = 1#1) (y : S1536.Idx) : (boxesRow i h1).view.emb y = ix2 16 1536 (i 1).val (y 0).val :=
  line_emb off_box _ _ y
theorem kpts_emb (h1 : k2_cond1 i = 1#1) (y : S13056.Idx) : (kptsRow i h1).view.emb y = ix2 16 13056 (i 1).val (y 0).val :=
  line_emb off_kpt _ _ y

theorem row_lab (h1 : k2_cond1 i = 1#1) (σ : St Ideal d (ci i) (cj i)) {k : ℕ} (hk : k < 384) :
    row (labRow i h1) σ k = σ main_v4_0_scv (ix2 16 384 (i 1).val k) :=
  (View.read_apply _ _).trans ((cast_eq _ _).trans (congrArg (σ main_v4_0_scv) ((lab_emb h1 _).trans (by rw [ix_val hk]))))
theorem row_sco (h1 : k2_cond1 i = 1#1) (σ : St Ideal d (ci i) (cj i)) {k : ℕ} (hk : k < 384) :
    row (scoRow i h1) σ k = σ main_v4_2_scv (ix2 16 384 (i 1).val k) :=
  (View.read_apply _ _).trans ((cast_eq _ _).trans (congrArg (σ main_v4_2_scv) ((sco_emb h1 _).trans (by rw [ix_val hk]))))
theorem row_boxes (h1 : k2_cond1 i = 1#1) (σ : St Ideal d (ci i) (cj i)) {k : ℕ} (hk : k < 1536) :
    row (boxesRow i h1) σ k = σ main_v4_1_scv (ix2 16 1536 (i 1).val k) :=
  (View.read_apply _ _).trans ((cast_eq _ _).trans (congrArg (σ main_v4_1_scv) ((boxes_emb h1 _).trans (by rw [ix_val hk]))))
theorem row_kpts (h1 : k2_cond1 i = 1#1) (σ : St Ideal d (ci i) (cj i)) {k : ℕ} (hk : k < 13056) :
    row (kptsRow i h1) σ k = σ main_v4_3_scv (ix2 16 13056 (i 1).val k) :=
  (View.read_apply _ _).trans ((cast_eq _ _).trans (congrArg (σ main_v4_3_scv) ((kpts_emb h1 _).trans (by rw [ix_val hk]))))

theorem mxOf_of (h1 : k2_cond1 i = 1#1) (σ : St Ideal d (ci i) (cj i)) (k : ℕ) :
    mxOf h1 σ k = σ main_v0_1_scv (ix3 16 160 128 (i 1).val (k / 128 % 160) (k % 128)) := by
  have hx : ix2 160 128 (k / 128) (k % 128) = ix2 160 128 (k / 128 % 160) (k % 128) := by unfold ix2; simp only [Nat.mod_mod]
  unfold mxOf
  rw [hx]
  refine (View.read_apply _ _).trans ((cast_eq _ _).trans (congrArg (σ main_v0_1_scv) ?_))
  exact slab_emb off_one _ _ (Nat.mod_lt _ (by omega)) (Nat.mod_lt _ (by omega))

theorem whole_emb {n m : ℕ} [NeZero n] [NeZero m] (inb : ∀ c, (![0, 0] : Fin 2 → ℕ) c + (⟨2, ![n, m]⟩ : Shape).size c ≤ (⟨2, ![n, m]⟩ : Shape).size c) {p q : ℕ} (hp : p < n) (hq : q < m) :
    (Rect.unit (s := ⟨2, ![n, m]⟩) ![0, 0] (⟨2, ![n, m]⟩ : Shape).size inb).emb (ix2 n m p q) = ix2 n m p q := by
  rw [eq_ix2 ((Rect.unit (s := ⟨2, ![n, m]⟩) ![0, 0] (⟨2, ![n, m]⟩ : Shape).size inb).emb (ix2 n m p q))]
  have e0 : ((Rect.unit (s := ⟨2, ![n, m]⟩) ![0, 0] (⟨2, ![n, m]⟩ : Shape).size inb).emb (ix2 n m p q) (0 : Fin 2)).val = p := by
    show 0 + 1 * (p % n) = p
    rw [Nat.mod_eq_of_lt hp]; omega
  have e1 : ((Rect.unit (s := ⟨2, ![n, m]⟩) ![0, 0] (⟨2, ![n, m]⟩ : Shape).size inb).emb (ix2 n m p q) (1 : Fin 2)).val = q := by
    show 0 + 1 * (q % m) = q
    rw [Nat.mod_eq_of_lt hq]; omega
  rw [e0, e1]

theorem lg_of (h1 : k2_cond1 i = 1#1) (σ : St Ideal d (ci i) (cj i)) {p q : ℕ} (hp : p < 20000) (hq : q < 128) :
    (lgRows i h1).view.read (Elt Ideal) (σ (lgRows i h1).view.ref) (ix2 20000 128 p q) = σ main_v0_0_scv (ix3 16 20000 128 (i 1).val p q) := by
  refine (View.read_apply _ _).trans ((cast_eq _ _).trans (congrArg (σ main_v0_0_scv) ?_))
  show (Rect.unit (s := S16x20000x128) (k2_off11 i) S1x20000x128.size (k2_off11_inb i h1)).emb (Shape.reshapeEquiv _ ((Rect.unit (s := S20000x128) ![0, 0] S20000x128.size inb_S20000x128_S20000x128_0_0).emb (ix2 20000 128 p q))) = _
  rw [show (Rect.unit (s := S20000x128) ![0, 0] S20000x128.size inb_S20000x128_S20000x128_0_0).emb (ix2 20000 128 p q) = ix2 20000 128 p q from whole_emb _ hp hq]
  exact slab_emb off_eleven _ _ hp hq

theorem tab_box (σ : St Ideal d (ci i) (cj i)) {p q : ℕ} (hp : p < 10000) (hq : q < 128) : tab boxTab σ p q = σ main_v1_scv (ix2 10000 128 p q) :=
  (View.read_apply _ _).trans ((cast_eq _ _).trans (congrArg (σ main_v1_scv) (whole_emb _ hp hq)))
theorem tab_kpt (σ : St Ideal d (ci i) (cj i)) {p q : ℕ} (hp : p < 85000) (hq : q < 128) : tab kptTab σ p q = σ main_v3_scv (ix2 85000 128 p q) :=
  (View.read_apply _ _).trans ((cast_eq _ _).trans (congrArg (σ main_v3_scv) (whole_emb _ hp hq)))

end Cert.Proof.Ker

end
-- ==== Proof.Task.lean ====
/-
  What the call gives a task and what it gets back.
-/
module

public import proofs.«01_k».proof.Proof.Rows

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SortNet

variable {d : Dev nD}

/-- The contents of a device's memory. -/
abbrev Mem (d : Dev nD) : Type := (r : DevRef τ sig) → Buf (Elt Ideal) ((d, r) : Loc nD τ sig)

/-- The arrays the call reads. -/
abbrev insT : Finset (Ref sig .tc) := {main_v0_0, main_v0_1, main_v1, main_v3}
/-- The arrays the call writes. -/
abbrev outsT : Finset (Ref sig .tc) := {main_v4_0, main_v4_1, main_v4_2, main_v4_3}
abbrev insV : Finset (Ref sig .scVector) := {main_v0_0_scv, main_v0_1_scv, main_v1_scv, main_v3_scv}
abbrev outsV : Finset (Ref sig .scVector) := {main_v4_0_scv, main_v4_1_scv, main_v4_2_scv, main_v4_3_scv}

/-- The elements of an array whose first coordinate is `j`. -/
def lines (r : DevRef τ sig) (j : ℕ) : Finset r.ty.Idx :=
  Finset.univ.filter fun x => ∀ a, a.val = 0 → (x a).val = j

/-- The share left after `n` halvings. -/
def halves : ℕ → PosShare TreeShare
  | 0 => fullShare
  | n + 1 => (halves n).right

theorem pointsTo_shares {ℓ : Loc nD τ sig} (f : Buf (Elt Ideal) ℓ) (n : ℕ) :
    (ℓ ↦{fullShare} f : sProp (𝕄F Ideal)) ⊢ iprop(bigSep (Finset.range n) (fun i => ℓ ↦{(halves i).left} f) ∗ ℓ ↦{halves n} f) := by
  induction n with
  | zero =>
    rw [Finset.range_zero, BI.bigSep_empty]
    iintro H
    isplitr
    · iempintro
    · iexact H
  | succ n ih =>
    rw [Finset.range_add_one, SparseCore.bigSep_insert' Finset.notMem_range_self]
    refine ih.trans ?_
    iintro ⟨Hs, H⟩
    ihave H := (pointsTo_share (PosShare.mem_left_op_right (halves n))).1 $$ H
    icases H with ⟨Hl, Hr⟩
    isplitl [Hs Hl]
    · isplitl [Hl]
      · iexact Hl
      · iexact Hs
    · iexact Hr

/-- What the call is given: by batch the maxima, and by batch, query and class the logits; the tables of boxes and key points. -/
structure Given where
  mx : ℕ → ℕ → EReal
  xs : ℕ → ℕ → ℕ → EReal
  bx : ℕ → ℕ → EReal
  kx : ℕ → ℕ → EReal

abbrev dr (b : Ref sig .tc) : DevRef τ sig := Proc.devRef .tc b

/-- The memory holds what is given. -/
structure InOk (g : Given) (A : Mem d) : Prop where
  mx : ∀ b < 16, ∀ k, A (dr main_v0_1) (ix3 16 160 128 b (k / 128 % 160) (k % 128)) = g.mx b k
  lg : ∀ b < 16, ∀ q < 20000, ∀ c < 80, A (dr main_v0_0) (ix3 16 20000 128 b q c) = g.xs b q c
  bx : ∀ p < 10000, ∀ q < 128, A (dr main_v1) (ix2 10000 128 p q) = g.bx p q
  kx : ∀ p < 85000, ∀ q < 128, A (dr main_v3) (ix2 85000 128 p q) = g.kx p q

/-- What is given suits the call. -/
def Good (g : Given) : Prop :=
  ∀ b < 16, ∀ lg : ℕ → ℕ → EReal, (∀ q < 20000, ∀ c < 80, lg q c = g.xs b q c) → Fits b (g.mx b) lg

/-- What the memory holds of batch `b` after the call. -/
structure Res (g : Given) (b : ℕ) (X : ℕ → BitVec 32) (s : ℕ → EReal) (A : Mem d) : Prop where
  ord : ∃ N lg, (∀ q < 20000, ∀ c < 80, lg q c = g.xs b q c) ∧ (∀ l < 16, 80 * (hotL (F := Ideal) (g.mx b) 1280 l).length ≤ N) ∧ Order (g.mx b) lg sgOf N s X
  lab : ∀ k < 384, A (dr main_v4_0) (ix2 16 384 b k) = BitVec.ofNat 32 ((X k).toNat % 80)
  sco : ∀ k < 384, A (dr main_v4_2) (ix2 16 384 b k) = s k
  box : ∀ k < 1536, A (dr main_v4_1) (ix2 16 1536 b k) = boxOf g.bx b (nq (X (k / 4)).toNat) (k % 4)
  kpt : ∀ k < 13056, A (dr main_v4_3) (ix2 16 13056 b k) = kptOf g.kx b (nq (X (k / 34)).toNat) (k % 34)

theorem mem_lines2 {a n : ℕ} [NeZero a] [NeZero n] {b k : ℕ} (hb : b < a) {x : (⟨2, ![a, n]⟩ : Shape).Idx} (hx : x = ix2 a n b k) :
    ∀ c : Fin 2, c.val = 0 → (x c).val = b := by
  subst hx
  intro c hc
  obtain rfl : c = 0 := Fin.ext hc
  exact ix2_val0 hb

/-- What is held of batch `b` depends on that batch's lines alone. -/
theorem Res.congr {g : Given} {b : ℕ} (hb : b < 16) {X : ℕ → BitVec 32} {s : ℕ → EReal} {A B : Mem d} (h : Res g b X s A)
    (e : ∀ o ∈ outsT, ∀ x ∈ lines (dr o) b, B (dr o) x = A (dr o) x) : Res g b X s B where
  ord := h.ord
  lab k hk := (e main_v4_0 (by decide) _ (Finset.mem_filter.mpr ⟨Finset.mem_univ _, mem_lines2 hb rfl⟩)).trans (h.lab k hk)
  sco k hk := (e main_v4_2 (by decide) _ (Finset.mem_filter.mpr ⟨Finset.mem_univ _, mem_lines2 hb rfl⟩)).trans (h.sco k hk)
  box k hk := (e main_v4_1 (by decide) _ (Finset.mem_filter.mpr ⟨Finset.mem_univ _, mem_lines2 hb rfl⟩)).trans (h.box k hk)
  kpt k hk := (e main_v4_3 (by decide) _ (Finset.mem_filter.mpr ⟨Finset.mem_univ _, mem_lines2 hb rfl⟩)).trans (h.kpt k hk)

/-- What a task of batch `b` is handed, and what it hands back. -/
def goR (g : Given) (d : Dev nD) (b : ℕ) : sProp (𝕄F Ideal) :=
  iprop(∃ A : Mem d, ⌜InOk g A⌝ ∗ bigSep insT (fun r => ((d, dr r) : Loc nD τ sig) ↦{(halves b).left} A (dr r))
    ∗ bigSep outsT (fun r => ((d, dr r) : Loc nD τ sig) ↦[lines (dr r) b]{fullShare} A (dr r)))
def tdR (g : Given) (d : Dev nD) (b : ℕ) : sProp (𝕄F Ideal) :=
  iprop(∃ A : Mem d, ⌜∃ X s, Res g b X s A⌝ ∗ bigSep outsT (fun r => ((d, dr r) : Loc nD τ sig) ↦[lines (dr r) b]{fullShare} A (dr r)))

instance (g : Given) (d : Dev nD) (b : ℕ) : BI.Storable (upEmb : UEmb _ (𝕄F Ideal)) (goR g d b) := by unfold goR; infer_instance
instance (g : Given) (d : Dev nD) (b : ℕ) : BI.Storable (upEmb : UEmb _ (𝕄F Ideal)) (tdR g d b) := by unfold tdR; infer_instance

section Task

variable (d) (i : grid2.Coords) (O : CellTallies nD τ sig (HIx 1)) (W : Waits sig (HIx 1)) (hO : ∀ g, O g none = 0)

/-- What the task of an instance holds. -/
abbrev held : Holds Ideal d (ci i) (cj i) where
  bufs := scratches.toFinset ∪ (insV ∪ outsV)
  elems b := if b ∈ outsV then lines ((V d (ci i) (cj i)).2.devRef b) (i 1).val else Finset.univ
  share b := if b ∈ insV then (halves (i 1).val).left else fullShare
  sems := Finset.univ.filter fun s => s.isScoped .scVector = true
  O := O
  W := W
  hO := hO

theorem held_univ {b : Ref sig .scVector} (h : b ∉ outsV) : (held d i O W hO).elems b = Finset.univ := if_neg h
theorem held_line {b : Ref sig .scVector} (h : b ∈ outsV) : (held d i O W hO).elems b = lines ((V d (ci i) (cj i)).2.devRef b) (i 1).val := if_pos h
theorem held_full {b : Ref sig .scVector} (h : b ∉ insV) : (held d i O W hO).share b = fullShare := if_neg h

theorem held_scr : ∀ b ∈ scratches, Scr (held d i O W hO) b := fun b hb =>
  ⟨Finset.mem_union_left _ (List.mem_toFinset.mpr hb),
    if_neg ((show ∀ b ∈ scratches, b ∉ insV by decide) b hb), if_neg ((show ∀ b ∈ scratches, b ∉ outsV by decide) b hb)⟩

theorem held_ins : Ins (held d i O W hO) where
  lg := show main_v0_0_scv ∈ scratches.toFinset ∪ (insV ∪ outsV) by decide
  lgE := held_univ d i O W hO (show main_v0_0_scv ∉ outsV by decide)
  mx := show main_v0_1_scv ∈ scratches.toFinset ∪ (insV ∪ outsV) by decide
  mxE := held_univ d i O W hO (show main_v0_1_scv ∉ outsV by decide)
  bx := show main_v1_scv ∈ scratches.toFinset ∪ (insV ∪ outsV) by decide
  bxE := held_univ d i O W hO (show main_v1_scv ∉ outsV by decide)
  kp := show main_v3_scv ∈ scratches.toFinset ∪ (insV ∪ outsV) by decide
  kpE := held_univ d i O W hO (show main_v3_scv ∉ outsV by decide)
  s13 := Finset.mem_filter.mpr ⟨Finset.mem_univ _, by decide⟩
  s14 := Finset.mem_filter.mpr ⟨Finset.mem_univ _, by decide⟩
  s0 := Finset.mem_filter.mpr ⟨Finset.mem_univ _, by decide⟩

theorem set_lines {e : EltTy} {s : Shape} {sp : Space} (v : View sig .scVector sp s e) (b : ℕ)
    (h : ∀ y a, a.val = 0 → (v.emb y a).val = b) :
    v.set ⊆ Finset.univ.filter fun x : v.ref.ty.Idx => ∀ a, a.val = 0 → (x a).val = b := by
  intro x hx
  obtain ⟨y, -, rfl⟩ := Finset.mem_map.mp hx
  exact Finset.mem_filter.mpr ⟨Finset.mem_univ _, h y⟩

theorem held_outs (h1 : k2_cond1 i = 1#1) : Outs (held d i O W hO) h1 where
  lab := ⟨show main_v4_0_scv ∈ scratches.toFinset ∪ (insV ∪ outsV) by decide,
    (set_lines (labRow i h1).view (i 1).val fun y => mem_lines2 (a := 16) (i 1).isLt (lab_emb h1 y)).trans
      (held_line d i O W hO (show main_v4_0_scv ∈ outsV by decide)).ge, held_full d i O W hO (show main_v4_0_scv ∉ insV by decide)⟩
  sco := ⟨show main_v4_2_scv ∈ scratches.toFinset ∪ (insV ∪ outsV) by decide,
    (set_lines (scoRow i h1).view (i 1).val fun y => mem_lines2 (a := 16) (i 1).isLt (sco_emb h1 y)).trans
      (held_line d i O W hO (show main_v4_2_scv ∈ outsV by decide)).ge, held_full d i O W hO (show main_v4_2_scv ∉ insV by decide)⟩
  boxes := ⟨show main_v4_1_scv ∈ scratches.toFinset ∪ (insV ∪ outsV) by decide,
    (set_lines (boxesRow i h1).view (i 1).val fun y => mem_lines2 (a := 16) (i 1).isLt (boxes_emb h1 y)).trans
      (held_line d i O W hO (show main_v4_1_scv ∈ outsV by decide)).ge, held_full d i O W hO (show main_v4_1_scv ∉ insV by decide)⟩
  kpts := ⟨show main_v4_3_scv ∈ scratches.toFinset ∪ (insV ∪ outsV) by decide,
    (set_lines (kptsRow i h1).view (i 1).val fun y => mem_lines2 (a := 16) (i 1).isLt (kpts_emb h1 y)).trans
      (held_line d i O W hO (show main_v4_3_scv ∈ outsV by decide)).ge, held_full d i O W hO (show main_v4_3_scv ∉ insV by decide)⟩
  s1 := Finset.mem_filter.mpr ⟨Finset.mem_univ _, by decide⟩
  s2 := Finset.mem_filter.mpr ⟨Finset.mem_univ _, by decide⟩
  s3 := Finset.mem_filter.mpr ⟨Finset.mem_univ _, by decide⟩
  s4 := Finset.mem_filter.mpr ⟨Finset.mem_univ _, by decide⟩

/-- From the memory given, the task leaves its batch's results. -/
theorem task_tr {g : Given} (hg : Good g) {A : Mem d} (hA : InOk g A) (h1 : k2_cond1 i = 1#1)
    {σ₀ : St Ideal d (ci i) (cj i)} (hσ : ∀ b ∈ insV, σ₀ b = A ((V d (ci i) (cj i)).2.devRef b)) :
    Tr (held d i O W hO) (app (cc2__phase2_body (F := Ideal) i)) σ₀ fun _ σ => ∀ B : Mem d,
      (∀ b ∈ outsV, B ((V d (ci i) (cj i)).2.devRef b) = σ b) → ∃ X s, Res g (i 1).val X s B := by
  have hb : (i 1).val < 16 := (i 1).isLt
  have hL : ∀ q < 20000, ∀ c < 80, (fun q c => A (dr main_v0_0) (ix3 16 20000 128 (i 1).val q c) : ℕ → ℕ → EReal) q c = g.xs (i 1).val q c :=
    fun q hq c hc => hA.lg _ hb q hq c hc
  refine body_tr (held_scr d i O W hO) (fun h1 => held_outs d i O W hO h1) (held_ins d i O W hO) h1 (mx := g.mx (i 1).val)
    (lg := fun q c => A (dr main_v0_0) (ix3 16 20000 128 (i 1).val q c)) (bx := g.bx) (kx := g.kx)
    (fun k => (mxOf_of h1 _ k).trans ((congrFun (hσ main_v0_1_scv (by decide)) _).trans (hA.mx _ hb k)))
    (fun q hq c hc => (lg_of h1 _ hq hc).trans (congrFun (hσ main_v0_0_scv (by decide)) _))
    (fun r hr q hq => (tab_box _ hr hq).trans ((congrFun (hσ main_v1_scv (by decide)) _).trans (hA.bx r hr q hq)))
    (fun r hr q hq => (tab_kpt _ hr hq).trans ((congrFun (hσ main_v3_scv (by decide)) _).trans (hA.kx r hr q hq))) (hg _ hb _ hL) fun σ' N s X hN hX hF B hB => ⟨X, s, ⟨_, _, hL, hN, hX⟩, ?_, ?_, ?_, ?_⟩
  · exact fun k hk => (congrFun (hB main_v4_0_scv (by decide)) _).trans ((row_lab h1 σ' hk).symm.trans (hF.lab k hk))
  · exact fun k hk => (congrFun (hB main_v4_2_scv (by decide)) _).trans ((row_sco h1 σ' hk).symm.trans (hF.sco k hk))
  · exact fun k hk => (congrFun (hB main_v4_1_scv (by decide)) _).trans ((row_boxes h1 σ' hk).symm.trans (hF.box k hk))
  · exact fun k hk => (congrFun (hB main_v4_3_scv (by decide)) _).trans ((row_kpts h1 σ' hk).symm.trans (hF.kpt k hk))

end Task

end Cert.Proof.Ker

end
-- ==== Proof.Give.lean ====
/-
  One task, and the call as a whole.
-/
module

public import proofs.«01_k».proof.Proof.Task

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SortNet

variable (d : Dev nD)

/-! ## A task's own buffers and semaphores -/

section Own

variable (c : Fin τ.nSC) (j : Fin τ.nSub)

theorem glue (σ : (b : Ref sig .scVector) → Buf (Elt Ideal) ((V d c j).loc b)) (A : Mem d) :
    ∃ B : Mem d, ∀ b, B ((V d c j).2.devRef b) = σ b := by
  classical
  refine ⟨fun r => if h : ∃ b, (V d c j).2.devRef b = r then h.choose_spec ▸ σ h.choose else A r, fun b => ?_⟩
  have h : ∃ b', (V d c j).2.devRef b' = (V d c j).2.devRef b := ⟨b, rfl⟩
  have key : ∀ b' (e : (V d c j).2.devRef b' = (V d c j).2.devRef b),
      (e ▸ (show Buf (Elt Ideal) ((d, (V d c j).2.devRef b') : Loc nD τ sig) from σ b') : Buf (Elt Ideal) ((d, (V d c j).2.devRef b) : Loc nD τ sig)) = σ b := by
    intro b' e
    obtain rfl := Proc.devRef_injective _ e
    rfl
  exact (dif_pos h).trans (key _ h.choose_spec)

abbrev scr : Finset (Ref sig .scVector) := scratches.toFinset

theorem scr_own : scr.image (Proc.scVector c j).devRef ⊆ SparseCore.Cfg.ownRefs (.scVector c j) := by
  intro r hr
  obtain ⟨b, hb, rfl⟩ := Finset.mem_image.mp hr
  simp only [scr, List.mem_toFinset, scratches, List.mem_cons, List.not_mem_nil, or_false] at hb
  rcases hb with rfl | rfl | rfl | rfl | rfl | rfl | rfl | rfl | rfl | rfl | rfl | rfl | rfl <;>
    exact SparseCore.Cfg.mem_ownRefs_of_owner rfl

/-- The buffers of a task besides its scratches. -/
def others : sProp (𝕄F Ideal) :=
  bigSep (SparseCore.Cfg.ownRefs (.scVector c j) \ scr.image (Proc.scVector c j).devRef) fun b => iprop(∃ f, ((d, b) : Loc nD τ sig) ↦{fullShare} f)

theorem scr_eq : (SparseCore.Cfg.ownBufs (V d c j) : sProp (𝕄F Ideal))
    = iprop(bigSep scr (fun b => iprop(∃ f, (V d c j).loc b ↦{fullShare} f)) ∗ others d c j) := by
  refine (BI.bigSep_sdiff_split (scr_own c j)).trans ?_
  rw [bigSep_image_of_injOn (fun x _ y _ e => Proc.devRef_injective _ e)]
  rfl

theorem sems_eq : (SparseCore.Cfg.ownSems0 (V d c j) : sProp (𝕄F Ideal))
    = bigSep (Finset.univ.filter fun s => s.isScoped .scVector = true) fun s => semVal (V d c j, s) 0 := by
  have e : SparseCore.Cfg.ownCells (V d c j) = (Finset.univ.filter fun s : SemLoc sig => s.isScoped .scVector = true).image (Prod.mk (V d c j)) := by
    ext g
    constructor
    · intro hg
      obtain ⟨h1, h2⟩ := SparseCore.Cfg.mem_ownCells.mp hg
      obtain ⟨g1, g2⟩ := g
      obtain rfl : g1 = V d c j := h1
      exact Finset.mem_image.mpr ⟨g2, Finset.mem_filter.mpr ⟨Finset.mem_univ _, h2⟩, rfl⟩
    · intro hg
      obtain ⟨s, hs, rfl⟩ := Finset.mem_image.mp hg
      exact SparseCore.Cfg.mem_ownCells.mpr ⟨rfl, (Finset.mem_filter.mp hs).2⟩
  unfold SparseCore.Cfg.ownSems0
  rw [e, bigSep_image_of_injOn (fun x _ y _ h => (Prod.mk.inj h).2)]

end Own

theorem insV_sep (Φ : Ref sig .scVector → sProp (𝕄F Ideal)) : bigSep insV Φ = iprop(Φ main_v0_0_scv ∗ Φ main_v0_1_scv ∗ Φ main_v1_scv ∗ Φ main_v3_scv) := by
  rw [SparseCore.bigSep_insert' (by decide), SparseCore.bigSep_insert' (by decide), SparseCore.bigSep_insert' (by decide), bigSep_singleton]
theorem outsV_sep (Φ : Ref sig .scVector → sProp (𝕄F Ideal)) : bigSep outsV Φ = iprop(Φ main_v4_0_scv ∗ Φ main_v4_1_scv ∗ Φ main_v4_2_scv ∗ Φ main_v4_3_scv) := by
  rw [SparseCore.bigSep_insert' (by decide), SparseCore.bigSep_insert' (by decide), SparseCore.bigSep_insert' (by decide), bigSep_singleton]
theorem insT_sep (Φ : Ref sig .tc → sProp (𝕄F Ideal)) : bigSep insT Φ = iprop(Φ main_v0_0 ∗ Φ main_v0_1 ∗ Φ main_v1 ∗ Φ main_v3) := by
  rw [SparseCore.bigSep_insert' (by decide), SparseCore.bigSep_insert' (by decide), SparseCore.bigSep_insert' (by decide), bigSep_singleton]
theorem outsT_sep (Φ : Ref sig .tc → sProp (𝕄F Ideal)) : bigSep outsT Φ = iprop(Φ main_v4_0 ∗ Φ main_v4_1 ∗ Φ main_v4_2 ∗ Φ main_v4_3) := by
  rw [SparseCore.bigSep_insert' (by decide), SparseCore.bigSep_insert' (by decide), SparseCore.bigSep_insert' (by decide), bigSep_singleton]

/-! ## One task -/

section Task

variable (i : grid2.Coords) (O : CellTallies nD τ sig (HIx 1)) (W : Waits sig (HIx 1)) (hO : ∀ g, O g none = 0)

/-- The buffers of a task by kind: its scratches, what it reads, what it writes. -/
theorem held_split (σ : St Ideal d (ci i) (cj i)) (B : Mem d) (hB : ∀ b ∈ insV ∪ outsV, B ((V d (ci i) (cj i)).2.devRef b) = σ b) :
    (bigSep (held d i O W hO).bufs (fun b => (V d (ci i) (cj i)).loc b ↦[(held d i O W hO).elems b]{(held d i O W hO).share b} σ b) : sProp (𝕄F Ideal))
      = iprop(bigSep scr (fun b => (V d (ci i) (cj i)).loc b ↦{fullShare} σ b)
        ∗ bigSep insT (fun r => ((d, dr r) : Loc nD τ sig) ↦{(halves (i 1).val).left} B (dr r))
        ∗ bigSep outsT (fun r => ((d, dr r) : Loc nD τ sig) ↦[lines (dr r) (i 1).val]{fullShare} B (dr r))) := by
  show bigSep (scr ∪ (insV ∪ outsV)) _ = _
  rw [BI.bigSep_union (by decide), BI.bigSep_union (by decide)]
  refine congrArg₂ _ (bigSep_congr fun b hb => ?_) (congrArg₂ _ ?_ ?_)
  · rw [held_univ d i O W hO ((show ∀ b ∈ scr, b ∉ outsV by decide) b hb), held_full d i O W hO ((show ∀ b ∈ scr, b ∉ insV by decide) b hb)]
  · refine Eq.trans (bigSep_congr (Ψ := fun b => ((d, (V d (ci i) (cj i)).2.devRef b) : Loc nD τ sig) ↦{(halves (i 1).val).left} B ((V d (ci i) (cj i)).2.devRef b)) fun b hb => ?_) ?_
    · rw [held_univ d i O W hO ((show ∀ b ∈ insV, b ∉ outsV by decide) b hb), show (held d i O W hO).share b = (halves (i 1).val).left from if_pos hb,
        hB b (Finset.mem_union_left _ hb)]
    · rw [insV_sep, insT_sep]
  · refine Eq.trans (bigSep_congr (Ψ := fun b => ((d, (V d (ci i) (cj i)).2.devRef b) : Loc nD τ sig) ↦[lines ((V d (ci i) (cj i)).2.devRef b) (i 1).val]{fullShare} B ((V d (ci i) (cj i)).2.devRef b)) fun b hb => ?_) ?_
    · rw [show (held d i O W hO).elems b = lines ((V d (ci i) (cj i)).2.devRef b) (i 1).val from if_pos hb,
        held_full d i O W hO ((show ∀ b ∈ outsV, b ∉ insV by decide) b hb), hB b (Finset.mem_union_right _ hb)]
    · rw [outsV_sep, outsT_sep]

theorem scr_fs (fs f : (b : Ref sig .scVector) → Buf (Elt Ideal) ((V d (ci i) (cj i)).loc b)) :
    (bigSep scr (fun b => (V d (ci i) (cj i)).loc b ↦{fullShare} fs b) : sProp (𝕄F Ideal))
      = bigSep scr (fun b => (V d (ci i) (cj i)).loc b ↦{fullShare} (if b ∈ scr then fs b else f b)) :=
  bigSep_congr fun b hb => congrArg (fun x => ((V d (ci i) (cj i)).loc b ↦{fullShare} x : sProp (𝕄F Ideal))) (if_pos hb).symm

theorem scr_any (f : (b : Ref sig .scVector) → Buf (Elt Ideal) ((V d (ci i) (cj i)).loc b)) :
    (bigSep scr (fun b => (V d (ci i) (cj i)).loc b ↦{fullShare} f b) : sProp (𝕄F Ideal))
      ⊢ bigSep scr fun b => iprop(∃ f, (V d (ci i) (cj i)).loc b ↦{fullShare} f) := by
  refine bigSep_mono fun b _ => ?_
  show (((V d (ci i) (cj i)).loc b ↦{fullShare} f b) : sProp (𝕄F Ideal)) ⊢ iprop(∃ f, (V d (ci i) (cj i)).loc b ↦{fullShare} f)
  iintro H
  iexists f b
  iexact H

include hO in
/-- A task of the first SparseCore, from what the call gives it to what the call gets back. -/
theorem task {g : Given} (hg : Good g) (h1 : k2_cond1 i = 1#1) :
    iprop(levAts (K (F := Ideal)).L (K (F := Ideal)).lev ∗ goR g d (i 1).val ∗ SparseCore.Cfg.ownBufs (V d (ci i) (cj i)) ∗ SparseCore.Cfg.ownSems0 (V d (ci i) (cj i))
        ∗ owes (V d (ci i) (cj i)) O W)
      ⊢ wp frame (wpE (defs₀ (F := Ideal)) 𝒱₀ (V d (ci i) (cj i)) none) Set.univ (app (cc2__phase2_body (F := Ideal) i))
          fun _ => iprop(tdR g d (i 1).val ∗ SparseCore.Cfg.ownBufs (V d (ci i) (cj i)) ∗ SparseCore.Cfg.ownSems0 (V d (ci i) (cj i))
            ∗ ∃ W', ⌜∀ p ∈ W', p ∈ W ∨ p.2 = none⌝ ∗ owes (V d (ci i) (cj i)) O W') := by
  rw [scr_eq, sems_eq]
  unfold goR tdR
  iintro ⟨#Hlv, ⟨%A, %hA, Hi, Ho⟩, ⟨Hs, Hr⟩, Hc, HO⟩
  have hne : ∀ b : Ref sig .scVector, Nonempty (Buf (Elt Ideal) ((V d (ci i) (cj i)).loc b)) := fun b => ⟨A _⟩
  ihave Hs := (bigSep_exists_pi scr (fun b f => (V d (ci i) (cj i)).loc b ↦{fullShare} f)) $$ Hs
  icases Hs with ⟨%fs, Hs⟩
  have hσ : ∀ b ∈ insV ∪ outsV, A ((V d (ci i) (cj i)).2.devRef b) = (fun b => if b ∈ scr then fs b else A ((V d (ci i) (cj i)).2.devRef b) : St Ideal d (ci i) (cj i)) b :=
    fun b hb => (if_neg ((show ∀ b ∈ insV ∪ outsV, b ∉ scr by decide) b hb)).symm
  have htr := task_tr d i O W hO hg hA h1 (σ₀ := fun b => if b ∈ scr then fs b else A ((V d (ci i) (cj i)).2.devRef b))
    fun b hb => (hσ b (Finset.mem_union_left _ hb)).symm
  unfold Tr at htr
  iapply (wp_wand frame) $$ [Hi Ho Hs Hc HO]
  · iapply htr
    unfold Own
    isplitr; · iexact Hlv
    isplitl [Hi Ho Hs]
    · iapply (BIBase.Entails.of_eq (held_split d i O W hO (fun b => if b ∈ scr then fs b else A ((V d (ci i) (cj i)).2.devRef b)) A hσ).symm)
      isplitl [Hs]
      · iapply (BIBase.Entails.of_eq (scr_fs d i fs fun b => A ((V d (ci i) (cj i)).2.devRef b)))
        iexact Hs
      isplitl [Hi]
      · iexact Hi
      · iexact Ho
    isplitl [Hc]; · iexact Hc
    iexists W
    isplitr; · ipureintro; exact fun p hp => .inl hp
    iexact HO
  iintro %a ⟨%σ', %hQ, HOwn⟩
  obtain ⟨B, hB⟩ := glue d (ci i) (cj i) σ' A
  unfold Own
  icases HOwn with ⟨-, Hb, Hc, HO⟩
  ihave Hb := (BIBase.Entails.of_eq (held_split d i O W hO σ' B fun b _ => hB b)) $$ Hb
  icases Hb with ⟨Hs, Hi, Ho⟩
  isplitl [Ho]
  · iexists B
    isplitr
    · ipureintro; exact hQ B fun b _ => hB b
    · iexact Ho
  isplitl [Hs Hr]
  · isplitl [Hs]
    · iapply (scr_any d i σ')
      iexact Hs
    · iexact Hr
  isplitl [Hc]; · iexact Hc
  iexact HO

end Task

/-! ## The call -/

variable (G : Dev nD → Given)

def coordsV (c : Fin (grid2.bound 0)) (s : Fin (grid2.bound 1)) : grid2.Coords :=
  fun | 0 => c | 1 => s | ⟨_ + 2, h⟩ => absurd h (Nat.not_lt.2 (Nat.le_add_left _ _))

/-- What the call as a whole gives the first SparseCore and gets back. -/
def stR (g : Given) (d : Dev nD) : sProp (𝕄F Ideal) :=
  iprop(∃ A : Mem d, ⌜InOk g A⌝ ∗ bigSep insT (fun r => ((d, dr r) : Loc nD τ sig) ↦{fullShare} A (dr r))
    ∗ bigSep outsT (fun r => ((d, dr r) : Loc nD τ sig) ↦{fullShare} A (dr r)))
def dnR (g : Given) (d : Dev nD) : sProp (𝕄F Ideal) :=
  iprop(∃ A : Mem d, ⌜∀ b < 16, ∃ X s, Res g b X s A⌝ ∗ bigSep outsT (fun r => ((d, dr r) : Loc nD τ sig) ↦{fullShare} A (dr r)))

instance (g : Given) (d : Dev nD) : BI.Storable (upEmb : UEmb _ (𝕄F Ideal)) (stR g d) := by unfold stR; infer_instance
instance (g : Given) (d : Dev nD) : BI.Storable (upEmb : UEmb _ (𝕄F Ideal)) (dnR g d) := by unfold dnR; infer_instance

/-- Only the first SparseCore is given anything. -/
def onFirst (c : ℕ) (R : sProp (𝕄F Ideal)) : sProp (𝕄F Ideal) := if c = 0 then R else iprop(emp)

instance (c : ℕ) (R : sProp (𝕄F Ideal)) [BI.Storable (upEmb : UEmb _ (𝕄F Ideal)) R] : BI.Storable (upEmb : UEmb _ (𝕄F Ideal)) (onFirst c R) := by
  unfold onFirst; split <;> infer_instance

def P : (K (F := Ideal)).Pay (nD := nD) (Val := Elt Ideal) (Name := ℕ) (U := UU) where
  st := fun q d c => match q with | 0 => onFirst c.val (stR (G d) d)
  dn := fun q d c => match q with | 0 => onFirst c.val (dnR (G d) d)
  go := fun q d c i => match q with | 0 => onFirst c.val (goR (G d) d i.val)
  td := fun q d c i => match q with | 0 => onFirst c.val (tdR (G d) d i.val)
  x := fun _ _ => iprop(emp)

instance P_storable : (P G).IsStorable where
  st q d c := match q with | 0 => (inferInstance : BI.Storable (upEmb : UEmb _ (𝕄F Ideal)) (onFirst c.val (stR (G d) d)))
  dn q d c := match q with | 0 => (inferInstance : BI.Storable (upEmb : UEmb _ (𝕄F Ideal)) (onFirst c.val (dnR (G d) d)))
  go q d c i := match q with | 0 => (inferInstance : BI.Storable (upEmb : UEmb _ (𝕄F Ideal)) (onFirst c.val (goR (G d) d i.val)))
  td q d c i := match q with | 0 => (inferInstance : BI.Storable (upEmb : UEmb _ (𝕄F Ideal)) (onFirst c.val (tdR (G d) d i.val)))

theorem defs₀_vector (c : Fin τ.nSC) (s : Fin τ.nSub) :
    defs₀ (F := Ideal) (.scVector c s) 2 () = SparseCore.onTile hcore2 hsub2 (fun c s => app (cc2__phase2_body (F := Ideal) (coordsV c s))) ⟨⟩ c s := rfl

theorem first_iff (i : grid2.Coords) : Iff (k2_cond1 i = 1#1) ((i 0).val = 0) := by
  have h : ∀ c : Fin 2, Iff (k2_cond1 (coordsV c ⟨0, by decide⟩) = 1#1) (c.val = 0) := by decide
  exact h (i 0)

/-- A task of the other SparseCore does nothing. -/
theorem task_other (i : grid2.Coords) (h1 : ¬ k2_cond1 i = 1#1) (Q : PUnit → sProp (𝕄F Ideal)) :
    Q ⟨⟩ ⊢ wp frame (wpE (defs₀ (F := Ideal)) 𝒱₀ (V d (ci i) (cj i)) none) Set.univ (app (cc2__phase2_body (F := Ideal) i)) Q := by
  have e : app (cc2__phase2_body (F := Ideal) i) = app (cc2__phase2_body_skel (F := Ideal) i) := by
    unfold app
    rw [cc2__phase2_body_eq_skeleton]
  rw [e]
  unfold app cc2__phase2_body_skel
  dsimp only
  rw [dif_neg h1]
  exact fupd_intro

theorem obl_post {thr : Thread nD τ} {A B C : sProp (𝕄F Ideal)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

set_option maxRecDepth 16384 in
theorem tileObl (hg : ∀ d, Good (G d)) : (K (F := Ideal)).TileObl (D (F := Ideal)) 𝒱 (P G) v₀ 0 := by
  intro d c i O W hO _ _
  simp only [show (P G).ox = fun _ _ => 0 from rfl, add_zero]
  have hci : ((K (F := Ideal)).core 0 c).val < grid2.bound 0 ∧ ((K (F := Ideal)).sub 0 i).val < grid2.bound 1 := ⟨c.isLt, i.isLt⟩
  change _ ⊢ wp _ _ _ (Pipeline.liftProg (defs₀ (F := Ideal) (.scVector ((K (F := Ideal)).core 0 c) ((K (F := Ideal)).sub 0 i)) 2 ())) _
  refine BI.Entails.trans ?_ (Pipeline.wp_liftProg (D (F := Ideal)) (Pipeline.defs_kernel pcfgs defs₀) 𝒱₀ _ Set.univ none _ _)
  rw [defs₀_vector]
  simp only [SparseCore.onTile, hci, and_self, ↓reduceDIte]
  show iprop(levAts (K (F := Ideal)).L (K (F := Ideal)).lev ∗ emp ∗ onFirst c.val (goR (G d) d i.val) ∗ _ ∗ _ ∗ _) ⊢ wp _ _ _ _
    fun _ => iprop(onFirst c.val (tdR (G d) d i.val) ∗ _)
  rw [(K (F := Ideal)).scopedBufs_V facts d _ _, SparseCore.Cfg.scopedSems0_V (Val := Elt Ideal) d _ _]
  refine BIBase.Entails.trans ?_ (wp_mono frame _ _ fun _ => obl_post)
  by_cases hc : c.val = 0
  · rw [onFirst, if_pos hc, onFirst, if_pos hc]
    have h := task d (coordsV ⟨_, hci.1⟩ ⟨_, hci.2⟩) O W hO (hg d) ((first_iff _).mpr hc)
    refine BIBase.Entails.trans ?_ h
    iintro ⟨H1, -, H⟩
    isplitl [H1]
    · iexact H1
    · iexact H
  · rw [onFirst, if_neg hc, onFirst, if_neg hc]
    refine BIBase.Entails.trans ?_ (task_other d (coordsV ⟨_, hci.1⟩ ⟨_, hci.2⟩) (fun e => hc ((first_iff _).mp e)) _)
    iintro ⟨-, -, -, Hb, Hs, HO⟩
    isplitr; · iempintro
    isplitl [Hb]; · iexact Hb
    isplitl [Hs]; · iexact Hs
    iexists W
    isplitr
    · ipureintro; exact fun p hp => .inl hp
    · iexact HO

end Cert.Proof.Ker

end
-- ==== Proof.Part.lean ====
/-
  The call divided among the tasks.
-/
module

public import proofs.«01_k».proof.Proof.Give

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SortNet

variable (d : Dev nD) (G : Dev nD → Given)

/-! ## The arrays written, by batch -/

theorem lines_disj {r : DevRef τ sig} (h : 0 < r.ty.shape.rank) {i j : ℕ} (hij : i ≠ j) : Disjoint (lines r i) (lines r j) := by
  rw [Finset.disjoint_left]
  intro x hx hy
  exact hij (((Finset.mem_filter.mp hx).2 ⟨0, h⟩ rfl).symm.trans ((Finset.mem_filter.mp hy).2 ⟨0, h⟩ rfl))

theorem lines_cover {r : DevRef τ sig} (h : ∀ a : Fin r.ty.shape.rank, a.val = 0 → r.ty.shape.size a = 16) (h0 : 0 < r.ty.shape.rank) :
    (Finset.range 16).biUnion (lines r) = Finset.univ := by
  refine Finset.eq_univ_of_forall fun x => Finset.mem_biUnion.mpr ⟨(x ⟨0, h0⟩).val, Finset.mem_range.mpr ?_, ?_⟩
  · exact (x ⟨0, h0⟩).isLt.trans_eq (h ⟨0, h0⟩ rfl)
  · refine Finset.mem_filter.mpr ⟨Finset.mem_univ _, fun a ha => ?_⟩
    obtain rfl : a = ⟨0, h0⟩ := Fin.ext ha
    rfl

theorem outs_rank : ∀ r ∈ outsT, 0 < (dr r).ty.shape.rank := by decide
theorem outs_size : ∀ r ∈ outsT, ∀ a : Fin (dr r).ty.shape.rank, a.val = 0 → (dr r).ty.shape.size a = 16 := by decide

theorem out_lines {r : Ref sig .tc} (hr : r ∈ outsT) (f : Buf (Elt Ideal) ((d, dr r) : Loc nD τ sig)) :
    (((d, dr r) : Loc nD τ sig) ↦{fullShare} f : sProp (𝕄F Ideal))
      = bigSep (Finset.range 16) fun b => ((d, dr r) : Loc nD τ sig) ↦[lines (dr r) b]{fullShare} f := by
  rw [← pointsTo_biUnion (Finset.range 16) (ℓ := ((d, dr r) : Loc nD τ sig)) (fun b => lines (dr r) b)
    fun i _ j _ h => lines_disj (outs_rank r hr) h]
  exact congrArg (fun S => ((d, dr r) : Loc nD τ sig) ↦[S]{fullShare} f) (lines_cover (outs_size r hr) (outs_rank r hr)).symm

theorem out_join {r : Ref sig .tc} (hr : r ∈ outsT) (fs : ℕ → Buf (Elt Ideal) ((d, dr r) : Loc nD τ sig)) :
    (bigSep (Finset.range 16) (fun b => ((d, dr r) : Loc nD τ sig) ↦[lines (dr r) b]{fullShare} fs b) : sProp (𝕄F Ideal))
      ⊢ iprop(∃ f, ⌜∀ b < 16, ∀ x ∈ lines (dr r) b, f x = fs b x⌝ ∗ ((d, dr r) : Loc nD τ sig) ↦{fullShare} f) := by
  iintro H
  ihave H := (pointsTo_biUnion_join (ℓ := ((d, dr r) : Loc nD τ sig)) (q := fullShare) (Val := Elt Ideal) (Finset.range 16) (fun b => lines (dr r) b) fs (fs 0)
    fun i _ j _ h => lines_disj (outs_rank r hr) h) $$ H
  icases H with ⟨%f, %hf, H⟩
  iexists f
  isplitr
  · ipureintro
    exact fun b hb x hx => hf b (Finset.mem_range.mpr hb) x hx
  · iapply (BIBase.Entails.of_eq (congrArg (fun S => (((d, dr r) : Loc nD τ sig) ↦[S]{fullShare} f : sProp (𝕄F Ideal))) (lines_cover (outs_size r hr) (outs_rank r hr))))
    iexact H

theorem swap_in {I J : Type} [DecidableEq I] {S : Finset I} {T : Finset J} {Φ : I → sProp (𝕄F Ideal)} {Ψ : I → J → sProp (𝕄F Ideal)}
    (h : ∀ r ∈ S, Φ r ⊢ bigSep T (Ψ r)) : bigSep S Φ ⊢ bigSep T fun b => bigSep S fun r => Ψ r b := by
  induction S using Finset.induction_on with
  | empty =>
    rw [show (fun b => bigSep (∅ : Finset I) fun r => Ψ r b) = fun _ => iprop(emp) from funext fun _ => BI.bigSep_empty]
    refine BIBase.Entails.trans ?_ (BIBase.Entails.of_eq (bigSep_emp_const T).symm)
    iintro H
    iempintro
  | insert a S ha ih =>
    rw [SparseCore.bigSep_insert' ha, show (fun b => bigSep (insert a S) fun r => Ψ r b) = fun b => iprop(Ψ a b ∗ bigSep S fun r => Ψ r b) from
      funext fun _ => SparseCore.bigSep_insert' ha, bigSep_sep']
    exact BIClass.sep_mono (h a (Finset.mem_insert_self a S)) (ih fun r hr => h r (Finset.mem_insert_of_mem hr))

theorem swap_out {I J : Type} [DecidableEq I] (S : Finset I) (T : Finset J) (Ψ : I → J → sProp (𝕄F Ideal)) :
    (bigSep T fun b => bigSep S fun r => Ψ r b) ⊢ bigSep S fun r => bigSep T (Ψ r) := by
  induction S using Finset.induction_on with
  | empty =>
    rw [BI.bigSep_empty]
    iintro H
    iempintro
  | insert a S ha ih =>
    rw [SparseCore.bigSep_insert' ha, show (fun b => bigSep (insert a S) fun r => Ψ r b) = fun b => iprop(Ψ a b ∗ bigSep S fun r => Ψ r b) from
      funext fun _ => SparseCore.bigSep_insert' ha, bigSep_sep']
    exact BIClass.sep_mono .rfl ih

theorem pures_out {I : Type} [DecidableEq I] (S : Finset I) (p : I → Prop) (Φ : I → sProp (𝕄F Ideal)) :
    (bigSep S fun i => iprop(⌜p i⌝ ∗ Φ i)) ⊢ iprop(⌜∀ i ∈ S, p i⌝ ∗ bigSep S Φ) := by
  induction S using Finset.induction_on with
  | empty =>
    iintro H
    isplitr
    · ipureintro; exact fun i hi => absurd hi (Finset.notMem_empty i)
    · iexact H
  | insert a S ha ih =>
    rw [SparseCore.bigSep_insert' ha, SparseCore.bigSep_insert' ha]
    iintro ⟨⟨%h, H⟩, Hs⟩
    ihave Hs := ih $$ Hs
    icases Hs with ⟨%hs, Hs⟩
    isplitr
    · ipureintro
      intro i hi
      rcases Finset.mem_insert.mp hi with rfl | hi
      · exact h
      · exact hs i hi
    isplitl [H]
    · iexact H
    · iexact Hs

theorem glueT (σ : (b : Ref sig .tc) → Buf (Elt Ideal) ((d, dr b) : Loc nD τ sig)) (A : Mem d) : ∃ B : Mem d, ∀ b, B (dr b) = σ b := by
  classical
  refine ⟨fun r => if h : ∃ b, dr b = r then h.choose_spec ▸ σ h.choose else A r, fun b => ?_⟩
  have h : ∃ b', dr b' = dr b := ⟨b, rfl⟩
  have key : ∀ b' (e : dr b' = dr b), (e ▸ σ b' : Buf (Elt Ideal) ((d, dr b) : Loc nD τ sig)) = σ b := by
    intro b' e
    obtain rfl := Proc.devRef_injective _ e
    rfl
  exact (dif_pos h).trans (key _ h.choose_spec)

/-- What the call gives, by task. -/
theorem st_split (g : Given) : stR g d ⊢ bigSep (Finset.range 16) fun b => goR g d b := by
  unfold stR
  iintro ⟨%A, %hA, Hi, Ho⟩
  have e : (bigSep (Finset.range 16) fun b => iprop(bigSep insT (fun r => (((d, dr r) : Loc nD τ sig) ↦{(halves b).left} A (dr r) : sProp (𝕄F Ideal)))
      ∗ bigSep outsT (fun r => ((d, dr r) : Loc nD τ sig) ↦[lines (dr r) b]{fullShare} A (dr r)))) ⊢ bigSep (Finset.range 16) fun b => goR g d b := by
    refine bigSep_mono fun b _ => ?_
    unfold goR
    show iprop(bigSep insT (fun r => (((d, dr r) : Loc nD τ sig) ↦{(halves b).left} A (dr r) : sProp (𝕄F Ideal)))
      ∗ bigSep outsT (fun r => ((d, dr r) : Loc nD τ sig) ↦[lines (dr r) b]{fullShare} A (dr r))) ⊢ iprop(_)
    iintro ⟨H1, H2⟩
    iexists A
    isplitr; · ipureintro; exact hA
    isplitl [H1]
    · iexact H1
    · iexact H2
  iapply e
  rw [bigSep_sep']
  isplitl [Hi]
  · iapply (swap_in (S := insT) (T := Finset.range 16) (Φ := fun r => (((d, dr r) : Loc nD τ sig) ↦{fullShare} A (dr r) : sProp (𝕄F Ideal)))
      (Ψ := fun r b => ((d, dr r) : Loc nD τ sig) ↦{(halves b).left} A (dr r)) fun r _ => (pointsTo_shares _ 16).trans sep_elim_left)
    iexact Hi
  · iapply (swap_in (S := outsT) (T := Finset.range 16) (Φ := fun r => (((d, dr r) : Loc nD τ sig) ↦{fullShare} A (dr r) : sProp (𝕄F Ideal)))
      (Ψ := fun r b => ((d, dr r) : Loc nD τ sig) ↦[lines (dr r) b]{fullShare} A (dr r)) fun r hr => BIBase.Entails.of_eq (out_lines d hr _))
    iexact Ho

instance : Nonempty (Mem d) := ⟨fun _ _ => Classical.choice inferInstance⟩

/-- What the tasks hand back, as a whole. -/
theorem dn_join (g : Given) : (bigSep (Finset.range 16) fun b => tdR g d b) ⊢ dnR g d := by
  unfold tdR
  iintro H
  ihave H := (bigSep_exists_pi (Finset.range 16) (fun b (A : Mem d) => iprop(⌜∃ X s, Res g b X s A⌝
    ∗ bigSep outsT (fun r => (((d, dr r) : Loc nD τ sig) ↦[lines (dr r) b]{fullShare} A (dr r) : sProp (𝕄F Ideal)))))) $$ H
  icases H with ⟨%As, H⟩
  ihave H := (pures_out (Finset.range 16) (fun b => ∃ X s, Res g b X s (As b)) (fun b =>
    bigSep outsT (fun r => (((d, dr r) : Loc nD τ sig) ↦[lines (dr r) b]{fullShare} As b (dr r) : sProp (𝕄F Ideal))))) $$ H
  icases H with ⟨%hres, H⟩
  ihave H := (swap_out outsT (Finset.range 16) (fun r b => (((d, dr r) : Loc nD τ sig) ↦[lines (dr r) b]{fullShare} As b (dr r) : sProp (𝕄F Ideal)))) $$ H
  have hj : (bigSep outsT fun r => bigSep (Finset.range 16) fun b => (((d, dr r) : Loc nD τ sig) ↦[lines (dr r) b]{fullShare} As b (dr r) : sProp (𝕄F Ideal)))
      ⊢ bigSep outsT fun r => iprop(∃ f, ⌜∀ b < 16, ∀ x ∈ lines (dr r) b, f x = As b (dr r) x⌝ ∗ ((d, dr r) : Loc nD τ sig) ↦{fullShare} f) :=
    bigSep_mono fun r hr => out_join d hr fun b => As b (dr r)
  ihave H := hj $$ H
  have hne : ∀ r : Ref sig .tc, Nonempty (Buf (Elt Ideal) ((d, dr r) : Loc nD τ sig)) := fun r => ⟨As 0 (dr r)⟩
  ihave H := (bigSep_exists_pi outsT (fun r (f : Buf (Elt Ideal) ((d, dr r) : Loc nD τ sig)) =>
    iprop(⌜∀ b < 16, ∀ x ∈ lines (dr r) b, f x = As b (dr r) x⌝ ∗ (((d, dr r) : Loc nD τ sig) ↦{fullShare} f : sProp (𝕄F Ideal))))) $$ H
  icases H with ⟨%fs, H⟩
  ihave H := (pures_out outsT (fun r => ∀ b < 16, ∀ x ∈ lines (dr r) b, fs r x = As b (dr r) x) (fun r =>
    (((d, dr r) : Loc nD τ sig) ↦{fullShare} fs r : sProp (𝕄F Ideal)))) $$ H
  icases H with ⟨%hfs, H⟩
  obtain ⟨B, hB⟩ := glueT d fs (As 0)
  unfold dnR
  iexists B
  isplitr
  · ipureintro
    intro b hb
    obtain ⟨X, s, h⟩ := hres b (Finset.mem_range.mpr hb)
    exact ⟨X, s, h.congr hb fun o ho x hx => (congrFun (hB o) x).trans (hfs o ho b hb x hx)⟩
  · iapply (BIBase.Entails.of_eq (bigSep_congr (s := outsT) (Φ := fun r => (((d, dr r) : Loc nD τ sig) ↦{fullShare} fs r : sProp (𝕄F Ideal)))
      (Ψ := fun r => (((d, dr r) : Loc nD τ sig) ↦{fullShare} B (dr r) : sProp (𝕄F Ideal))) fun r _ => by rw [hB r]))
    iexact H

theorem tasks_eq (Φ : ℕ → sProp (𝕄F Ideal)) : (bigSep Finset.univ fun i : Fin 16 => Φ i.val) = bigSep (Finset.range 16) Φ := by
  rw [show Finset.range 16 = (Finset.univ : Finset (Fin 16)).image Fin.val by decide, bigSep_image_of_injOn fun x _ y _ e => Fin.ext e]

theorem vecSplit : (K (F := Ideal)).VecSplit' (P G) 0 := by
  intro d c
  show onFirst c.val (stR (G d) d) ⊢ |={Set.univ}=> iprop(
      (bigSep Finset.univ fun i : Fin 16 => onFirst c.val (goR (G d) d i.val))
      ∗ ((bigSep Finset.univ fun i : Fin 16 => onFirst c.val (tdR (G d) d i.val)) -∗ onFirst c.val (dnR (G d) d)))
  by_cases hc : c.val = 0
  · simp only [onFirst, if_pos hc]
    rw [tasks_eq (fun b => goR (G d) d b), tasks_eq (fun b => tdR (G d) d b)]
    iintro H
    imodintro
    isplitl [H]
    · iapply (st_split d (G d))
      iexact H
    · iintro H
      iapply (dn_join d (G d))
      iexact H
  · simp only [onFirst, if_neg hc]
    iintro -
    imodintro
    isplitl
    · iapply (BIBase.Entails.of_eq (bigSep_emp_const (Finset.univ : Finset (Fin 16))).symm)
      iempintro
    · iintro -
      iempintro

end Cert.Proof.Ker

end
-- ==== Proof.Reg.lean ====
/-
  The two bodies that run on the tensor core.
-/
module

public import proofs.«01_k».proof.Proof.Part
public import Idealize.ShloMosaic.Lib.Pipeline.ValueKit
public import Idealize.ShloMosaic.Lib.Pipeline.ArrRel
public import proofs.«01_k».proof.Proof.Gen.KernelIdeal.Launch
public import proofs.«01_k».proof.Proof.Gen.KernelIdeal.Points
public import proofs.«01_k».proof.Proof.Gen.KernelIdeal.Skeleton

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SortNet
open Idealize.ShloMosaic.TcCoe Idealize.ShloMosaic.Tactic
open Idealize.ShloMosaic.Pipeline (Dat RDat Cfg Window)

/-! ## The bodies -/

local notation "𝕄" => MT nD τ sig (HIx 1) (Elt Ideal) ℕ UU ℕ

/-- The contents of a staging buffer, and the buffer held whole. -/
abbrev Bf (c : Dev nD) {sp : Space} {S : Shape} {e : EltTy} (M : Memref sig .tc sp S e) : Type := Buf (Elt Ideal) (M.view.loc (c : Thread nD τ))
abbrev pt (c : Dev nD) {sp : Space} {S : Shape} {e : EltTy} (M : Memref sig .tc sp S e) (f : Bf c M) : sProp 𝕄 :=
  M.view.loc (c : Thread nD τ) ↦{fullShare} f

/-- The first body: one buffer takes the block in its leading columns, the other the row maxima. -/
noncomputable def run0 (c : Dev nD) (i : grid0.Coords) (M0 : Memref sig .tc .vmem S1x20000x80 .f32) (h0 : M0.IsWhole)
    (M1 : Memref sig .tc .vmem S1x20000x128 .f32) (h1 : M1.IsWhole) (M2 : Memref sig .tc .vmem S1x160x128 .f32) (h2 : M2.IsWhole)
    (f0 : Bf c M0) (f1 : Bf c M1) (f2 : Bf c M2) :
    { W : Bf c M1 × Bf c M2 // ∀ (E : Set ℕ) (Q : PUnit → sProp 𝕄),
        iprop(pt c M0 f0 ∗ pt c M1 f1 ∗ pt c M2 f2 ∗ (iprop(pt c M0 f0 ∗ pt c M1 W.1 ∗ pt c M2 W.2) -∗ Q ⟨⟩))
          ⊢ wp frame (wpE (defs₀ (F := Ideal)) Variants.none c none) E (cc0__phase1_body i M0 h0 M1 h1 M2 h2) Q } := by
  refine ⟨(?_, ?_), fun E Q => ?run⟩
  case run =>
    rw [cc0__phase1_body_eq_skeleton]
    unfold cc0__phase1_body_skel
    iintro ⟨H0, H1, H2, Hk⟩
    sl_exec!
    sl_step
    iapply Hk
    isplitl [H0]; · iexact H0
    isplitl [H1]; · iexact H1
    iexact H2

theorem run0_snd (c : Dev nD) (i : grid0.Coords) (M0 : Memref sig .tc .vmem S1x20000x80 .f32) (h0 : M0.IsWhole)
    (M1 : Memref sig .tc .vmem S1x20000x128 .f32) (h1 : M1.IsWhole) (M2 : Memref sig .tc .vmem S1x160x128 .f32) (h2 : M2.IsWhole)
    (f0 : Bf c M0) (f1 : Bf c M1) (f2 : Bf c M2) :
    M2.view.read (Elt Ideal) (run0 c i M0 h0 M1 h1 M2 h2 f0 f1 f2).1.2 = k0_pay3 (M0.view.read (Elt Ideal) f0) := by
  funext y
  refine (View.read_writes_cons_hit_of_coords M2.view _ _ _ _ y y fun a => ?_).trans ?_
  · show (y a).val = ![0, 0, 0] a + 1 * (y a).val
    fin_cases a <;> simp
  · refine congrFun (congrArg k0_pay3 (funext fun z => ?_)) y
    exact congrArg (View.read (Elt Ideal) M0.view f0) ((Rect.unit (s := S1x20000x80) ![0, 0, 0] S1x20000x80.size inb_S1x20000x80_S1x20000x80_0_0_0).emb_eq_of_coords z z fun a => by
      show (z a).val = ![0, 0, 0] a + 1 * (z a).val
      fin_cases a <;> simp)

theorem run0_fst (c : Dev nD) (i : grid0.Coords) (M0 : Memref sig .tc .vmem S1x20000x80 .f32) (h0 : M0.IsWhole)
    (M1 : Memref sig .tc .vmem S1x20000x128 .f32) (h1 : M1.IsWhole) (M2 : Memref sig .tc .vmem S1x160x128 .f32) (h2 : M2.IsWhole)
    (f0 : Bf c M0) (f1 : Bf c M1) (f2 : Bf c M2) (x : S1x20000x80.Idx) (y : S1x20000x128.Idx) (hx : ∀ a, (y a).val = (x a).val) :
    M1.view.read (Elt Ideal) (run0 c i M0 h0 M1 h1 M2 h2 f0 f1 f2).1.1 y = M0.view.read (Elt Ideal) f0 x := by
  simp only [run0]
  refine (View.read_writes_cons_hit_of_coords (Val := Elt Ideal) M1.view f1 (Rect.unit (s := S1x20000x128) ![0, 0, 0] S1x20000x80.size inb_S1x20000x128_S1x20000x80_0_0_0)
    _ [] x y (fun a => by
      show (y a).val = ![0, 0, 0] a + 1 * (x a).val
      have := hx a
      have h0 : (![0, 0, 0] : Fin 3 → ℕ) a = 0 := by fin_cases a <;> rfl
      rw [h0]; omega)).trans ?_
  unfold k0_pay2 k0_pay1
  dsimp only
  have hk : (S20000x80.rowMajor (ix2 20000 80 (x 1).val (x 2).val)).val = (S1x20000x80.rowMajor x).val := by
    have h0 : (x 0).val < 1 := (x 0).isLt
    have h1 : (x 1).val < 20000 := (x 1).isLt
    have h2 : (x 2).val < 80 := (x 2).isLt
    rw [Shape.rowMajor_val_two, Shape.rowMajor_val_three]
    show (ix2 20000 80 (x 1).val (x 2).val 0).val * 80 + (ix2 20000 80 (x 1).val (x 2).val 1).val = ((x 0).val * 20000 + (x 1).val) * 80 + (x 2).val
    rw [ix2_val0 h1, ix2_val1 h2]
    omega
  rw [shapeCast_apply _ _ x (ix2 20000 80 (x 1).val (x 2).val) hk, shapeCast_apply _ _ (ix2 20000 80 (x 1).val (x 2).val) x hk.symm]
  exact congrArg (View.read (Elt Ideal) M0.view f0) ((Rect.unit (s := S1x20000x80) ![0, 0, 0] S1x20000x80.size inb_S1x20000x80_S1x20000x80_0_0_0).emb_eq_of_coords x x fun a => by
      show (x a).val = ![0, 0, 0] a + 1 * (x a).val
      fin_cases a <;> simp)

/-- The second body: the block goes over unchanged. -/
noncomputable def run1 (c : Dev nD) (i : grid1.Coords) (M0 : Memref sig .tc .vmem S1x400x17x2 .f32) (h0 : M0.IsWhole)
    (M1 : Memref sig .tc .vmem S1x400x17x2 .f32) (h1 : M1.IsWhole)
    (f0 : Bf c M0) (f1 : Bf c M1) :
    { W : Bf c M1 // ∀ (E : Set ℕ) (Q : PUnit → sProp 𝕄),
        iprop(pt c M0 f0 ∗ pt c M1 f1 ∗ (iprop(pt c M0 f0 ∗ pt c M1 W) -∗ Q ⟨⟩))
          ⊢ wp frame (wpE (defs₀ (F := Ideal)) Variants.none c none) E (cc1__repack_kpts_body i M0 h0 M1 h1) Q } := by
  refine ⟨?_, fun E Q => ?run⟩
  case run =>
    rw [cc1__repack_kpts_body_eq_skeleton]
    unfold cc1__repack_kpts_body_skel
    iintro ⟨H0, H1, Hk⟩
    sl_exec!
    sl_step
    iapply Hk
    isplitl [H0]; · iexact H0
    iexact H1

theorem run1_fst (c : Dev nD) (i : grid1.Coords) (M0 : Memref sig .tc .vmem S1x400x17x2 .f32) (h0 : M0.IsWhole)
    (M1 : Memref sig .tc .vmem S1x400x17x2 .f32) (h1 : M1.IsWhole)
    (f0 : Bf c M0) (f1 : Bf c M1) :
    M1.view.read (Elt Ideal) (run1 c i M0 h0 M1 h1 f0 f1).1 = M0.view.read (Elt Ideal) f0 := by
  funext y
  refine (View.read_writes_cons_hit_of_coords M1.view _ _ _ _ y y fun a => ?_).trans ?_
  · show (y a).val = ![0, 0, 0, 0] a + 1 * (y a).val
    fin_cases a <;> simp
  · exact congrArg (View.read (Elt Ideal) M0.view f0) ((Rect.unit (s := S1x400x17x2) ![0, 0, 0, 0] S1x400x17x2.size inb_S1x400x17x2_S1x400x17x2_0_0_0_0).emb_eq_of_coords y y fun a => by
      show (y a).val = ![0, 0, 0, 0] a + 1 * (y a).val
      fin_cases a <;> simp)

/-! ## What each pass is told -/

theorem owns_pt (c : Dev nD) {sp : Space} {S : Shape} {e : EltTy} (M : Memref sig .tc sp S e) (h : M.IsWhole) (X : S.Idx → Elt Ideal e) :
    (owns (c : Thread nD τ) M fullShare X : sProp 𝕄) = iprop(∃ f : Bf c M, ⌜M.view.read (Elt Ideal) f = X⌝ ∗ pt c M f) := by
  unfold owns pt
  rw [h.set_eq_univ]

variable (V : (c : Dev nD) → (b : Ref sig .tc) → Buf (Elt Ideal) ((c : Thread nD τ).loc b))
variable (O : Dev nD → CellTallies nD τ sig (HIx 1))

/-- The block of scores at a point. -/
def stg0 (c : Dev nD) (t : Fin cfg0.N) : S1x20000x80.Idx → Elt Ideal .f32 :=
  ((cfg0.win 0).blk t).view.read (Elt Ideal) (V c main_arg0)

/-- The first pass: what its body may leave. -/
def rd0 (c : Dev nD) : RDat τ (Elt Ideal) (HIx 1) ℕ UU ℕ cfg0 c where
  A w := V c (Pipeline.arrRef spec0 w)
  after w t Y X := match w with
    | ⟨0, _⟩ => X = Y
    | ⟨1, _⟩ => ∀ (x : S1x20000x80.Idx) (y : S1x20000x128.Idx), (∀ a, (y a).val = (x a).val) → X y = stg0 V c t x
    | ⟨2, _⟩ => X = k0_pay3 (stg0 V c t)
  Φ _ := Pipeline.scopedRest (Ix := HIx 1) (Name := ℕ) (U := UU) (Lvl := ℕ) (Val := Elt Ideal) spec0 c
  q _ := fullShare
  owed _ := O c
  recorded _ := {p | p.2 = none}

theorem finds0 (c : Dev nD) (t : Fin cfg0.N) (Y) (h : (rd0 V O c).Finds 0 t Y) : Y = stg0 V c t := by
  obtain ⟨d, rfl⟩ := ((rd0 V O c).finds_of_fetch (fetch0_0 t) Y).mp h
  rfl

theorem body0 (c : Dev nD) : (rd0 V O c).BodyObligation (defs₀ (F := Ideal)) Variants.none none Set.univ := fun t Y hY => by
  rw [bigSep_W0, bigSep_W0]
  have e0 := owns_pt c (st0_0 t) (hstage0_0 ((cfg0.slots t 0).cast nbuf0_0))
  have e1 := owns_pt c (st0_1 t) (hstage0_1 ((cfg0.slots t 1).cast nbuf0_1))
  have e2 := owns_pt c (st0_2 t) (hstage0_2 ((cfg0.slots t 2).cast nbuf0_2))
  rw [show (rd0 V O c).Φ t.succ = (rd0 V O c).Φ t.castSucc from rfl,
    show (rd0 V O c).owesAt none t.succ = (rd0 V O c).owesAt none t.castSucc from rfl]
  have h0 := finds0 V O c t (Y 0) (hY 0)
  iintro ⟨HΦ, Howes, H0, H1, H2⟩
  ihave H0 := (BIBase.Entails.of_eq (e0 (Y 0))) $$ H0
  ihave H1 := (BIBase.Entails.of_eq (e1 (Y 1))) $$ H1
  ihave H2 := (BIBase.Entails.of_eq (e2 (Y 2))) $$ H2
  icases H0 with ⟨%f0, %hf0, H0⟩
  icases H1 with ⟨%f1, -, H1⟩
  icases H2 with ⟨%f2, -, H2⟩
  iapply ((run0 c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) f0 f1 f2).2 Set.univ _)
  isplitl [H0]; · iexact H0
  isplitl [H1]; · iexact H1
  isplitl [H2]; · iexact H2
  iintro ⟨H0, H1, H2⟩
  isplitl [HΦ]; · iexact HΦ
  isplitl [Howes]; · iexact Howes
  isplitl [H0]
  · iexists (Y 0); isplitr; · ipureintro; rfl
    iapply (BIBase.Entails.of_eq (e0 (Y 0)).symm)
    iexists f0; isplitr; · ipureintro; exact hf0
    iexact H0
  isplitl [H1]
  · iexists _; isplitr; swap
    · iapply (BIBase.Entails.of_eq (e1 _).symm)
      iexists _; isplitr; swap; (· iexact H1); ipureintro; rfl
    ipureintro
    intro x y hxy
    refine (run0_fst c _ _ _ _ _ _ _ f0 f1 f2 x y hxy).trans ?_
    rw [← h0, ← hf0]
  · iexists _; isplitr; swap
    · iapply (BIBase.Entails.of_eq (e2 _).symm)
      iexists _; isplitr; swap; (· iexact H2); ipureintro; rfl
    ipureintro
    refine (run0_snd c _ _ _ _ _ _ _ f0 f1 f2).trans ?_
    rw [← h0, ← hf0]

/-! ## The arrays after the first pass -/

/-- The block of one batch. -/
def blkOf (A : S16x20000x80.Idx → Elt Ideal .f32) (b : ℕ) : S1x20000x80.Idx → Elt Ideal .f32 :=
  fun x => A (ix3 16 20000 80 b (x 1).val (x 2).val)

theorem index0 : ∀ t : Fin grid0.N, (∀ a, win0_0.index t a = ![t.val, 0, 0] a) ∧ (∀ a, win0_1.index t a = ![t.val, 0, 0] a)
    ∧ (∀ a, win0_2.index t a = ![t.val, 0, 0] a) := by decide +kernel

theorem stg0_eq (c : Dev nD) (t : Fin cfg0.N) : stg0 V c t = blkOf (V c main_arg0) t.val := by
  funext x
  unfold stg0 blkOf
  rw [View.read_apply]
  have h : ((cfg0.win 0).blk t).view.emb x = ix3 16 20000 80 t.val (x 1).val (x 2).val := by
    have e := fun a => (Window.rect_emb_val win0_0 t x a).trans (by rw [(index0 t).1 a])
    have h0 : (x 0).val < 1 := (x 0).isLt
    refine eq_ix3 _ ((e 0).trans ?_) ((e 1).trans ?_) ((e 2).trans ?_)
    · show t.val * 1 + (x 0).val = t.val
      omega
    · show 0 * 20000 + (x 1).val = _
      omega
    · show 0 * 80 + (x 2).val = _
      omega
  rw [h]
  rfl

theorem emb0_1 (t : Fin cfg0.N) (y : S1x20000x128.Idx) :
    ((cfg0.win 1).blk t).view.emb y = ix3 16 20000 128 t.val (y 1).val (y 2).val := by
  have e := fun a => (Window.rect_emb_val win0_1 t y a).trans (by rw [(index0 t).2.1 a])
  have h0 : (y 0).val < 1 := (y 0).isLt
  refine eq_ix3 _ ((e 0).trans ?_) ((e 1).trans ?_) ((e 2).trans ?_)
  · show t.val * 1 + (y 0).val = t.val
    omega
  · show 0 * 20000 + (y 1).val = _
    omega
  · show 0 * 128 + (y 2).val = _
    omega

theorem emb0_2 (t : Fin cfg0.N) (y : S1x160x128.Idx) :
    ((cfg0.win 2).blk t).view.emb y = ix3 16 160 128 t.val (y 1).val (y 2).val := by
  have e := fun a => (Window.rect_emb_val win0_2 t y a).trans (by rw [(index0 t).2.2 a])
  have h0 : (y 0).val < 1 := (y 0).isLt
  refine eq_ix3 _ ((e 0).trans ?_) ((e 1).trans ?_) ((e 2).trans ?_)
  · show t.val * 1 + (y 0).val = t.val
    omega
  · show 0 * 160 + (y 1).val = _
    omega
  · show 0 * 128 + (y 2).val = _
    omega

end Cert.Proof.Ker

end
-- ==== Proof.Arr.lean ====
/-
  The arrays after the two passes on the tensor core.
-/
module

public import proofs.«01_k».proof.Proof.Reg

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SortNet
open Idealize.ShloMosaic.TcCoe Idealize.ShloMosaic.Tactic
open Idealize.ShloMosaic.Pipeline (Dat RDat Cfg Window)

local notation "𝕄" => MT nD τ sig (HIx 1) (Elt Ideal) ℕ UU ℕ

variable (V : (c : Dev nD) → (b : Ref sig .tc) → Buf (Elt Ideal) ((c : Thread nD τ).loc b))
variable (O : Dev nD → CellTallies nD τ sig (HIx 1))

/-- The first array written holds the scores in its leading columns. -/
theorem arr0_1 (c : Dev nD) (G : Buf (Elt Ideal) ((cfg0.win 1).arr.view.loc (c.tc : Thread nD τ))) (hG : (rd0 V O c).ArrAt 1 cfg0.N G)
    (b q k : ℕ) (hb : b < 16) (hq : q < 20000) (hk : k < 80) :
    G (ix3 16 20000 128 b q k) = V c main_arg0 (ix3 16 20000 80 b q k) := by
  obtain ⟨X, hX, hA⟩ := hG.exists_exact
  rw [hA (Function.update (fun _ _ _ => Classical.arbitrary _) 1 X) fun u _ _ => by rw [Function.update_self]]
  have key := Dat.arrAt_forall_of_cover ((rd0 V O c).withAfter (Function.update (fun _ _ _ => Classical.arbitrary _) 1 X)) 1
    (fun i v => ∀ (b q k : ℕ), b < 16 → q < 20000 → k < 80 → i = ix3 16 20000 128 b q k → v = V c main_arg0 (ix3 16 20000 80 b q k))
    (fun t ht y b q k hb hq hk hi => by
      obtain ⟨Y, -, hl⟩ := hX t t.isLt ht
      have hl : ∀ (x : S1x20000x80.Idx) (y : S1x20000x128.Idx), (∀ a, (y a).val = (x a).val) → X t y = stg0 V c t x := hl
      have hi : ix3 16 20000 128 t.val (y 1).val (y 2).val = ix3 16 20000 128 b q k := (emb0_1 t y).symm.trans hi
      have ht' : t.val < 16 := t.isLt
      have hy0 : (y 0).val < 1 := (y 0).isLt
      have hy1 : (y 1).val < 20000 := (y 1).isLt
      have hy2 : (y 2).val < 128 := (y 2).isLt
      have e0 : t.val = b := (ix3_0 ht').symm.trans ((congrArg (fun i => (i (0 : Fin 3)).val) hi).trans (ix3_0 hb))
      have e1 : (y 1).val = q := (ix3_1 hy1).symm.trans ((congrArg (fun i => (i (1 : Fin 3)).val) hi).trans (ix3_1 hq))
      have e2 : (y 2).val = k := (ix3_2 hy2).symm.trans ((congrArg (fun i => (i (2 : Fin 3)).val) hi).trans (ix3_2 (by omega)))
      have h := hl (ix3 1 20000 80 0 q k) y (fun a => by
        fin_cases a
        · show (y 0).val = 0
          omega
        · exact e1.trans (ix3_1 hq).symm
        · exact e2.trans (ix3_2 hk).symm)
      rw [stg0_eq] at h
      have hf : (((rd0 V O c).withAfter (Function.update (fun _ _ _ => Classical.arbitrary _) 1 X)).flushed 1 t y) = X t y := by
        show (Function.update (fun _ _ _ => Classical.arbitrary _) 1 X : (w' : Fin cfg0.W) → Fin cfg0.N → (cfg0.win w').block.Idx → Elt Ideal (cfg0.win w').elt) 1 t y = _
        rw [Function.update_self]
      rw [hf]
      refine h.trans ?_
      unfold blkOf
      rw [e0, ix3_1 hq, ix3_2 hk])
    (fun i => by
      have i1 : (i (1 : Fin 3)).val < 20000 := (i (1 : Fin 3)).isLt
      have i2 : (i (2 : Fin 3)).val < 128 := (i (2 : Fin 3)).isLt
      refine ⟨(⟨(i (0 : Fin 3)).val, (i (0 : Fin 3)).isLt⟩ : Fin 16), flush0_1 _, ?_⟩
      refine Finset.mem_map.mpr ⟨(ix3 1 20000 128 0 (i (1 : Fin 3)).val (i (2 : Fin 3)).val : S1x20000x128.Idx), Finset.mem_univ _, ?_⟩
      refine (emb0_1 _ _).trans (eq_ix3 i rfl ?_ ?_).symm
      · exact (ix3_1 i1).symm
      · exact (ix3_2 i2).symm)
  exact key _ b q k hb hq hk rfl

/-- The second holds each batch's row maxima. -/
theorem arr0_2 (c : Dev nD) (G : Buf (Elt Ideal) ((cfg0.win 2).arr.view.loc (c.tc : Thread nD τ))) (hG : (rd0 V O c).ArrAt 2 cfg0.N G)
    (b p q : ℕ) (hb : b < 16) (hp : p < 160) (hq : q < 128) :
    G (ix3 16 160 128 b p q) = k0_pay3 (blkOf (V c main_arg0) b) (ix3 1 160 128 0 p q) := by
  obtain ⟨X, hX, hA⟩ := hG.exists_exact
  rw [hA (Function.update (fun _ _ _ => Classical.arbitrary _) 2 X) fun u _ _ => by rw [Function.update_self]]
  have key := Dat.arrAt_forall_of_cover ((rd0 V O c).withAfter (Function.update (fun _ _ _ => Classical.arbitrary _) 2 X)) 2
    (fun i v => ∀ (b p q : ℕ), b < 16 → p < 160 → q < 128 → i = ix3 16 160 128 b p q → v = k0_pay3 (blkOf (V c main_arg0) b) (ix3 1 160 128 0 p q))
    (fun t ht y b p q hb hp hq hi => by
      obtain ⟨Y, -, hl⟩ := hX t t.isLt ht
      have hl : X t = k0_pay3 (stg0 V c t) := hl
      have hi : ix3 16 160 128 t.val (y 1).val (y 2).val = ix3 16 160 128 b p q := (emb0_2 t y).symm.trans hi
      have ht' : t.val < 16 := t.isLt
      have hy0 : (y 0).val < 1 := (y 0).isLt
      have hy1 : (y 1).val < 160 := (y 1).isLt
      have hy2 : (y 2).val < 128 := (y 2).isLt
      have e0 : t.val = b := (ix3_0 ht').symm.trans ((congrArg (fun i => (i (0 : Fin 3)).val) hi).trans (ix3_0 hb))
      have e1 : (y 1).val = p := (ix3_1 hy1).symm.trans ((congrArg (fun i => (i (1 : Fin 3)).val) hi).trans (ix3_1 hp))
      have e2 : (y 2).val = q := (ix3_2 hy2).symm.trans ((congrArg (fun i => (i (2 : Fin 3)).val) hi).trans (ix3_2 hq))
      have h := congrFun hl y
      rw [stg0_eq] at h
      have hf : (((rd0 V O c).withAfter (Function.update (fun _ _ _ => Classical.arbitrary _) 2 X)).flushed 2 t y) = X t y := by
        show (Function.update (fun _ _ _ => Classical.arbitrary _) 2 X : (w' : Fin cfg0.W) → Fin cfg0.N → (cfg0.win w').block.Idx → Elt Ideal (cfg0.win w').elt) 2 t y = _
        rw [Function.update_self]
      rw [hf]
      refine h.trans ?_
      have hy : (y : S1x160x128.Idx) = ix3 1 160 128 0 p q := eq_ix3 _ (by show (y 0).val = 0; omega) e1 e2
      rw [e0]
      exact congrArg (k0_pay3 (blkOf (V c main_arg0) b)) hy)
    (fun i => by
      have i1 : (i (1 : Fin 3)).val < 160 := (i (1 : Fin 3)).isLt
      have i2 : (i (2 : Fin 3)).val < 128 := (i (2 : Fin 3)).isLt
      refine ⟨(⟨(i (0 : Fin 3)).val, (i (0 : Fin 3)).isLt⟩ : Fin 16), flush0_2 _, ?_⟩
      refine Finset.mem_map.mpr ⟨(ix3 1 160 128 0 (i (1 : Fin 3)).val (i (2 : Fin 3)).val : S1x160x128.Idx), Finset.mem_univ _, ?_⟩
      refine (emb0_2 _ _).trans (eq_ix3 i rfl ?_ ?_).symm
      · exact (ix3_1 i1).symm
      · exact (ix3_2 i2).symm)
  exact key _ b p q hb hp hq rfl

/-! ## The second pass -/

/-- The block of keypoints at a point. -/
def stg1 (c : Dev nD) (t : Fin cfg1.N) : S1x400x17x2.Idx → Elt Ideal .f32 :=
  ((cfg1.win 0).blk t).view.read (Elt Ideal) (V c main_arg2)

/-- The second pass: what its body may leave. -/
def rd1 (c : Dev nD) : RDat τ (Elt Ideal) (HIx 1) ℕ UU ℕ cfg1 c where
  A w := V c (Pipeline.arrRef spec1 w)
  after w t Y X := match w with
    | ⟨0, _⟩ => X = Y
    | ⟨1, _⟩ => X = stg1 V c t
  Φ _ := Pipeline.scopedRest (Ix := HIx 1) (Name := ℕ) (U := UU) (Lvl := ℕ) (Val := Elt Ideal) spec1 c
  q _ := fullShare
  owed _ := O c
  recorded _ := {p | p.2 = none}

theorem finds1 (c : Dev nD) (t : Fin cfg1.N) (Y) (h : (rd1 V O c).Finds 0 t Y) : Y = stg1 V c t := by
  obtain ⟨d, rfl⟩ := ((rd1 V O c).finds_of_fetch (fetch1_0 t) Y).mp h
  rfl

theorem body1 (c : Dev nD) : (rd1 V O c).BodyObligation (defs₀ (F := Ideal)) Variants.none none Set.univ := fun t Y hY => by
  rw [bigSep_W1, bigSep_W1]
  have e0 := owns_pt c (st1_0 t) (hstage1_0 ((cfg1.slots t 0).cast nbuf1_0))
  have e1 := owns_pt c (st1_1 t) (hstage1_1 ((cfg1.slots t 1).cast nbuf1_1))
  rw [show (rd1 V O c).Φ t.succ = (rd1 V O c).Φ t.castSucc from rfl,
    show (rd1 V O c).owesAt none t.succ = (rd1 V O c).owesAt none t.castSucc from rfl]
  have h0 := finds1 V O c t (Y 0) (hY 0)
  iintro ⟨HΦ, Howes, H0, H1⟩
  ihave H0 := (BIBase.Entails.of_eq (e0 (Y 0))) $$ H0
  ihave H1 := (BIBase.Entails.of_eq (e1 (Y 1))) $$ H1
  icases H0 with ⟨%f0, %hf0, H0⟩
  icases H1 with ⟨%f1, -, H1⟩
  iapply ((run1 c (grid1.coords t) (st1_0 t) (hstage1_0 ((cfg1.slots t 0).cast nbuf1_0)) (st1_1 t) (hstage1_1 ((cfg1.slots t 1).cast nbuf1_1))
    f0 f1).2 Set.univ _)
  isplitl [H0]; · iexact H0
  isplitl [H1]; · iexact H1
  iintro ⟨H0, H1⟩
  isplitl [HΦ]; · iexact HΦ
  isplitl [Howes]; · iexact Howes
  isplitl [H0]
  · iexists (Y 0); isplitr; · ipureintro; rfl
    iapply (BIBase.Entails.of_eq (e0 (Y 0)).symm)
    iexists f0; isplitr; · ipureintro; exact hf0
    iexact H0
  · iexists _; isplitr; swap
    · iapply (BIBase.Entails.of_eq (e1 _).symm)
      iexists _; isplitr; swap; (· iexact H1); ipureintro; rfl
    ipureintro
    refine (run1_fst c _ _ _ _ _ f0 f1).trans ?_
    rw [← h0, ← hf0]

theorem index1 : ∀ t : Fin grid1.N, (∀ a, win1_0.index t a = ![t.val / 50, t.val % 50, 0, 0] a) ∧ (∀ a, win1_1.index t a = ![t.val / 50, t.val % 50, 0, 0] a) := by
  decide +kernel

theorem emb1_same (t : Fin cfg1.N) (y : S1x400x17x2.Idx) :
    ((cfg1.win 1).blk t).view.emb y = (((cfg1.win 0).blk t).view.emb y : S16x20000x17x2.Idx) := by
  funext a
  apply Fin.ext
  refine (Window.rect_emb_val win1_1 t y a).trans (Eq.trans ?_ (Window.rect_emb_val win1_0 t y a).symm)
  rw [(index1 t).1 a, (index1 t).2 a]

theorem emb1_cover (i : S16x20000x17x2.Idx) : ∃ t : Fin grid1.N, ∃ y : S1x400x17x2.Idx, ((cfg1.win 1).blk t).view.emb y = i := by
  have h0 : (i 0).val < 16 := (i 0).isLt
  have h1 : (i 1).val < 20000 := (i 1).isLt
  refine ⟨(⟨(i 0).val * 50 + (i 1).val / 400, by omega⟩ : Fin 800),
    Fin.cons (⟨0, by decide⟩ : Fin 1) (Fin.cons (⟨(i 1).val % 400, by omega⟩ : Fin 400) (fun a => i a.succ.succ)), ?_⟩
  funext a
  apply Fin.ext
  refine (Window.rect_emb_val win1_1 _ _ a).trans ?_
  refine (congrArg (fun n : ℕ => n * win1_1.size a + _) ((index1 _).2 a)).trans ?_
  fin_cases a
  · show ((i 0).val * 50 + (i 1).val / 400) / 50 * 1 + 0 = (i 0).val
    omega
  · show ((i 0).val * 50 + (i 1).val / 400) % 50 * 400 + (i 1).val % 400 = (i 1).val
    omega
  · show 0 * 17 + (i 2).val = (i 2).val
    omega
  · show 0 * 2 + (i 3).val = (i 3).val
    omega

/-- The array written holds the keypoints. -/
theorem arr1_1 (c : Dev nD) (G : Buf (Elt Ideal) ((cfg1.win 1).arr.view.loc (c.tc : Thread nD τ))) (hG : (rd1 V O c).ArrAt 1 cfg1.N G) (i : S16x20000x17x2.Idx) :
    G i = V c main_arg2 i := by
  obtain ⟨X, hX, hA⟩ := hG.exists_exact
  rw [hA (Function.update (fun _ _ _ => Classical.arbitrary _) 1 X) fun u _ _ => by rw [Function.update_self]]
  exact Dat.arrAt_forall_of_cover ((rd1 V O c).withAfter (Function.update (fun _ _ _ => Classical.arbitrary _) 1 X)) 1
    (fun i v => v = V c main_arg2 i)
    (fun t ht y => by
      obtain ⟨Y, -, hl⟩ := hX t t.isLt ht
      have hl : X t = stg1 V c t := hl
      have hf : (((rd1 V O c).withAfter (Function.update (fun _ _ _ => Classical.arbitrary _) 1 X)).flushed 1 t y) = X t y := by
        show (Function.update (fun _ _ _ => Classical.arbitrary _) 1 X : (w' : Fin cfg1.W) → Fin cfg1.N → (cfg1.win w').block.Idx → Elt Ideal (cfg1.win w').elt) 1 t y = _
        rw [Function.update_self]
      rw [hf]
      refine (congrFun hl y).trans ?_
      unfold stg1
      rw [View.read_apply]
      exact congrArg (V c main_arg2) (emb1_same t y).symm)
    (fun i => by
      obtain ⟨t, y, h⟩ := emb1_cover i
      exact ⟨t, flush1_1 _, Finset.mem_map.mpr ⟨y, Finset.mem_univ _, h⟩⟩) i

end Cert.Proof.Ker

end
-- ==== Proof.Seg.lean ====
/-
  The two passes on the tensor core as parts of the program.
-/
module

public import proofs.«01_k».proof.Proof.Arr
public import Idealize.ShloMosaic.Lib.Pipeline.ValueKit
public import Idealize.ShloMosaic.Lib.Pipeline.ArrRel

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SortNet
open Idealize.ShloMosaic.TcCoe Idealize.ShloMosaic.Tactic
open Idealize.ShloMosaic.Pipeline (Dat RDat Cfg Window)

local notation "𝕄" => MT nD τ sig (HIx 1) (Elt Ideal) ℕ UU ℕ

/-- Which tables a pass prefetches: none. -/
abbrev adm : (p : Fin 2) → (pcfgs (F := Ideal) p).Adm := fun p => (cfgs p).toPCfg_adm

variable (V : (c : Dev nD) → (b : Ref sig .tc) → Buf (Elt Ideal) ((c : Thread nD τ).loc b)) (O : Dev nD → CellTallies nD τ sig (HIx 1))

/-- The two passes' data. -/
def rds : (p : Fin 2) → (c : Dev nD) → RDat τ (Elt Ideal) (HIx 1) ℕ UU ℕ (Pipeline.pin (pcfgs (F := Ideal)) adm p) c
  | ⟨0, _⟩ => fun c => rd0 V O c
  | ⟨1, _⟩ => fun c => rd1 V O c

/-- What the core still owes, having waited on nothing of a call. -/
def ow (c : Dev nD) : sProp 𝕄 := iprop(∃ W, ⌜∀ p ∈ W, p.2 = none⌝ ∗ owes (c : Thread nD τ) (O c) W)

/-- Off the arrays the first pass writes, nothing changed; those hold what its write-backs left. -/
def Left0 (c : Dev nD) (V' : (b : Ref sig .tc) → Buf (Elt Ideal) ((c : Thread nD τ).loc b)) : Prop :=
  (∀ b, b ≠ main_v0_0 → b ≠ main_v0_1 → V' b = V c b) ∧ (rd0 V O c).ArrAt 1 cfg0.N (V' main_v0_0) ∧ (rd0 V O c).ArrAt 2 cfg0.N (V' main_v0_1)

/-- The same for the second pass. -/
def Left1 (c : Dev nD) (V' : (b : Ref sig .tc) → Buf (Elt Ideal) ((c : Thread nD τ).loc b)) : Prop :=
  (∀ b, b ≠ main_v2 → V' b = V c b) ∧ (rd1 V O c).ArrAt 1 cfg1.N (V' main_v2)

variable (hO : ∀ c g, O c g none = 0)

include hO in
theorem waits0 (lv : GSem nD τ sig → HIx 1 → ℕ) (hlv : (K (F := Ideal)).Refines lv) (p : Fin 2) (c : Dev nD) :
    (levAts (K (F := Ideal)).L lv : sProp 𝕄) ⊢ Pipeline.RDat.cellsWaits (Pipeline.pin (pcfgs (F := Ideal)) adm) (rds V O) none p c := by
  refine Pipeline.RDat.cellsWaits_intro _ _ none p c fun w s t => ?_
  have e : (rds V O p c).owed t = O c := match p with
    | ⟨0, _⟩ => rfl
    | ⟨1, _⟩ => rfl
  rw [e]
  exact (K (F := Ideal)).mayWait_none _ (hO c) lv hlv

theorem full0 (c : Dev nD) (w) : (rds V O 0 c).share w = fullShare := RDat.share_full (rd0 V O c) (fun _ => rfl) w
theorem full1 (c : Dev nD) (w) : (rds V O 1 c).share w = fullShare := RDat.share_full (rd1 V O c) (fun _ => rfl) w

theorem rest_congr0 (c : Dev nD) (A B : (b : Ref sig .tc) → Buf (Elt Ideal) ((c : Thread nD τ).loc b)) (h : ∀ b, b ≠ main_v0_0 → b ≠ main_v0_1 → A b = B b) :
    (Pipeline.unscopedRest (Ix := HIx 1) (Name := ℕ) (U := UU) (Lvl := ℕ) spec0 c A : sProp 𝕄) = Pipeline.unscopedRest spec0 c B := by
  unfold Pipeline.unscopedRest
  refine bigSep_congr fun b hb => ?_
  rw [h b (fun e => (Finset.mem_sdiff.mp hb).2 (e ▸ Finset.mem_image.mpr ⟨1, Finset.mem_univ _, rfl⟩))
    (fun e => (Finset.mem_sdiff.mp hb).2 (e ▸ Finset.mem_image.mpr ⟨2, Finset.mem_univ _, rfl⟩))]

theorem rest_congr1 (c : Dev nD) (A B : (b : Ref sig .tc) → Buf (Elt Ideal) ((c : Thread nD τ).loc b)) (h : ∀ b, b ≠ main_v2 → A b = B b) :
    (Pipeline.unscopedRest (Ix := HIx 1) (Name := ℕ) (U := UU) (Lvl := ℕ) spec1 c A : sProp 𝕄) = Pipeline.unscopedRest spec1 c B := by
  unfold Pipeline.unscopedRest
  refine bigSep_congr fun b hb => ?_
  rw [h b (fun e => (Finset.mem_sdiff.mp hb).2 (e ▸ Finset.mem_image.mpr ⟨1, Finset.mem_univ _, rfl⟩))]

set_option backward.isDefEq.respectTransparency.types false in
theorem join0 (c : Dev nD) :
    iprop((rds V O 0 c).arraysAt cfg0.N ∗ Pipeline.unscopedRest (Ix := HIx 1) (Name := ℕ) (U := UU) (Lvl := ℕ) spec0 c (V c))
      ⊢ (iprop(∃ V', ⌜Left0 V O c V'⌝ ∗ unscopedBufs c V') : sProp 𝕄) := by
  have e := Pipeline.RDat.arraysAt_eq (pcfgs (F := Ideal)) adm (rds V O) 0 c (launch0).arr_whole (full0 V O c) cfg0.N
  iintro ⟨Ha, Hr⟩
  ihave Ha := (BIBase.Entails.of_eq (e.trans (bigSep_W0 _))) $$ Ha
  icases Ha with ⟨⟨%f0, %h0, H0⟩, ⟨%f1, %h1, H1⟩, ⟨%f2, %h2, H2⟩⟩
  have h0' : f0 = V c main_arg0 := (congrFun (RDat.ArrAt_in (rd0 V O c) 0 rfl cfg0.N) f0).mp h0
  let V' : (b : Ref sig .tc) → Buf (Elt Ideal) ((c : Thread nD τ).loc b) := Function.update (Function.update (V c) main_v0_0 f1) main_v0_1 f2
  have e1 : V' main_v0_0 = f1 := (Function.update_of_ne (by decide) _ _).trans (Function.update_self _ _ _)
  have e2 : V' main_v0_1 = f2 := Function.update_self _ _ _
  have en : ∀ b, b ≠ main_v0_0 → b ≠ main_v0_1 → V' b = V c b := fun b n1 n2 => (Function.update_of_ne n2 _ _).trans (Function.update_of_ne n1 _ _)
  have hs := Pipeline.unscopedBufs_split (Ix := HIx 1) (Name := ℕ) (U := UU) (Lvl := ℕ) (Val := Elt Ideal) (Pipeline.pin (pcfgs (F := Ideal)) adm) 0 (launch0).win.arr_unscoped (launch0).win.arr_inj c V'
  iexists V'
  isplitr
  · ipureintro
    exact ⟨en, by rw [e1]; exact h1, by rw [e2]; exact h2⟩
  iapply (BIBase.Entails.of_eq hs.symm)
  isplitr [Hr]
  · iapply (BIBase.Entails.of_eq (bigSep_W0 _).symm)
    isplitl [H0]
    · iapply (BIBase.Entails.of_eq (congrArg (fun f => ((c : Thread nD τ).loc main_arg0 ↦{fullShare} f : sProp 𝕄)) (h0'.trans (en main_arg0 (by decide) (by decide)).symm)))
      iexact H0
    isplitl [H1]
    · iapply (BIBase.Entails.of_eq (congrArg (fun f => ((c : Thread nD τ).loc main_v0_0 ↦{fullShare} f : sProp 𝕄)) e1.symm))
      iexact H1
    · iapply (BIBase.Entails.of_eq (congrArg (fun f => ((c : Thread nD τ).loc main_v0_1 ↦{fullShare} f : sProp 𝕄)) e2.symm))
      iexact H2
  · iapply (BIBase.Entails.of_eq (rest_congr0 c V' (V c) en).symm)
    iexact Hr

set_option backward.isDefEq.respectTransparency.types false in
theorem join1 (c : Dev nD) :
    iprop((rds V O 1 c).arraysAt cfg1.N ∗ Pipeline.unscopedRest (Ix := HIx 1) (Name := ℕ) (U := UU) (Lvl := ℕ) spec1 c (V c))
      ⊢ (iprop(∃ V', ⌜Left1 V O c V'⌝ ∗ unscopedBufs c V') : sProp 𝕄) := by
  have e := Pipeline.RDat.arraysAt_eq (pcfgs (F := Ideal)) adm (rds V O) 1 c (launch1).arr_whole (full1 V O c) cfg1.N
  iintro ⟨Ha, Hr⟩
  ihave Ha := (BIBase.Entails.of_eq (e.trans (bigSep_W1 _))) $$ Ha
  icases Ha with ⟨⟨%f0, %h0, H0⟩, ⟨%f1, %h1, H1⟩⟩
  have h0' : f0 = V c main_arg2 := (congrFun (RDat.ArrAt_in (rd1 V O c) 0 rfl cfg1.N) f0).mp h0
  let V' : (b : Ref sig .tc) → Buf (Elt Ideal) ((c : Thread nD τ).loc b) := Function.update (V c) main_v2 f1
  have e1 : V' main_v2 = f1 := Function.update_self _ _ _
  have en : ∀ b, b ≠ main_v2 → V' b = V c b := fun b n1 => Function.update_of_ne n1 _ _
  have hs := Pipeline.unscopedBufs_split (Ix := HIx 1) (Name := ℕ) (U := UU) (Lvl := ℕ) (Val := Elt Ideal) (Pipeline.pin (pcfgs (F := Ideal)) adm) 1 (launch1).win.arr_unscoped (launch1).win.arr_inj c V'
  iexists V'
  isplitr
  · ipureintro
    exact ⟨en, by rw [e1]; exact h1⟩
  iapply (BIBase.Entails.of_eq hs.symm)
  isplitr [Hr]
  · iapply (BIBase.Entails.of_eq (bigSep_W1 _).symm)
    isplitl [H0]
    · iapply (BIBase.Entails.of_eq (congrArg (fun f => ((c : Thread nD τ).loc main_arg2 ↦{fullShare} f : sProp 𝕄)) (h0'.trans (en main_arg2 (by decide)).symm)))
      iexact H0
    · iapply (BIBase.Entails.of_eq (congrArg (fun f => ((c : Thread nD τ).loc main_v2 ↦{fullShare} f : sProp 𝕄)) e1.symm))
      iexact H1
  · iapply (BIBase.Entails.of_eq (rest_congr1 c V' (V c) en).symm)
    iexact Hr

theorem bound_none0 (c : Dev nD) (t) (p : SemLoc sig × HIx 1) (h : p ∈ (rd0 V O c).bound none t) : p.2 = none :=
  h.elim (fun h => h) fun ⟨_, _, h⟩ => by rw [h]
theorem bound_none1 (c : Dev nD) (t) (p : SemLoc sig × HIx 1) (h : p ∈ (rd1 V O c).bound none t) : p.2 = none :=
  h.elim (fun h => h) fun ⟨_, _, h⟩ => by rw [h]

set_option backward.isDefEq.respectTransparency.types false in
/-- The first pass, as a part of the program: from the buffers at `V` to buffers as it left them. -/
def reg0 (lv : GSem nD τ sig → HIx 1 → ℕ) (hlv : (K (F := Ideal)).Refines lv) :
    Pipeline.RDat.RegionSeg (pcfgs (F := Ideal)) adm (rds V O) none (defs₀ (F := Ideal)) 𝒱₀ (K (F := Ideal)).L lv 0 where
  win := (launch0).win.to₀
  block_pos := (launch0).block_pos
  stage_whole := (launch0).stage_whole
  K := PEmpty
  osem k := k.elim
  ho := Pipeline.OwnSemFacts.none _
  hbody c := body0 V O c
  hwaits := waits0 V O hO lv hlv 0
  pre c := iprop(unscopedBufs c (V c) ∗ ow O c)
  post c := iprop((∃ V', ⌜Left0 V O c V'⌝ ∗ unscopedBufs c V') ∗ ow O c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.RDat.arrays_of_unscopedBufs (p := 0) (pcfgs (F := Ideal)) adm (rds V O) (launch0).win (launch0).arr_whole c
      (full0 V O c) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin ow
      icases HO with ⟨%W, %hW, HO⟩; iexists W; isplitr; · ipureintro; exact fun p hp => Or.inl (hW p hp)
      iexact HO
    isplitr; · iempintro
    iexact Hrest
  hin c := by
    rw [show (rds V O 0 c).Φ 0 = Pipeline.scopedRest (Ix := HIx 1) (Name := ℕ) (U := UU) (Lvl := ℕ) (Val := Elt Ideal) spec0 c from rfl]
    iintro ⟨-, -, Hr⟩; iexact Hr
  hout c := by
    rw [Pipeline.ownSems0_none, show (rds V O 0 c).Φ (Fin.last _) = Pipeline.scopedRest (Ix := HIx 1) (Name := ℕ) (U := UU) (Lvl := ℕ) (Val := Elt Ideal) spec0 c from rfl]
    iintro Hr
    isplitr; · iempintro
    isplitr; · iempintro
    iexact Hr
  hexit c := by
    have hjoin := join0 V O c
    iintro ⟨Ha, HO, -, Hrest⟩
    imodintro
    isplitl [Ha Hrest]
    · iapply hjoin; isplitl [Ha] <;> iassumption
    unfold Pipeline.RDat.owesAt Pipeline.owesWithin ow
    icases HO with ⟨%W, %hW, HO⟩; iexists W; isplitr; · ipureintro; exact fun p hp => bound_none0 V O c _ p (hW hp)
    iexact HO

set_option backward.isDefEq.respectTransparency.types false in
/-- The second pass likewise. -/
def reg1 (lv : GSem nD τ sig → HIx 1 → ℕ) (hlv : (K (F := Ideal)).Refines lv) :
    Pipeline.RDat.RegionSeg (pcfgs (F := Ideal)) adm (rds V O) none (defs₀ (F := Ideal)) 𝒱₀ (K (F := Ideal)).L lv 1 where
  win := (launch1).win.to₀
  block_pos := (launch1).block_pos
  stage_whole := (launch1).stage_whole
  K := PEmpty
  osem k := k.elim
  ho := Pipeline.OwnSemFacts.none _
  hbody c := body1 V O c
  hwaits := waits0 V O hO lv hlv 1
  pre c := iprop(unscopedBufs c (V c) ∗ ow O c)
  post c := iprop((∃ V', ⌜Left1 V O c V'⌝ ∗ unscopedBufs c V') ∗ ow O c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.RDat.arrays_of_unscopedBufs (p := 1) (pcfgs (F := Ideal)) adm (rds V O) (launch1).win (launch1).arr_whole c
      (full1 V O c) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin ow
      icases HO with ⟨%W, %hW, HO⟩; iexists W; isplitr; · ipureintro; exact fun p hp => Or.inl (hW p hp)
      iexact HO
    isplitr; · iempintro
    iexact Hrest
  hin c := by
    rw [show (rds V O 1 c).Φ 0 = Pipeline.scopedRest (Ix := HIx 1) (Name := ℕ) (U := UU) (Lvl := ℕ) (Val := Elt Ideal) spec1 c from rfl]
    iintro ⟨-, -, Hr⟩; iexact Hr
  hout c := by
    rw [Pipeline.ownSems0_none, show (rds V O 1 c).Φ (Fin.last _) = Pipeline.scopedRest (Ix := HIx 1) (Name := ℕ) (U := UU) (Lvl := ℕ) (Val := Elt Ideal) spec1 c from rfl]
    iintro Hr
    isplitr; · iempintro
    isplitr; · iempintro
    iexact Hr
  hexit c := by
    have hjoin := join1 V O c
    iintro ⟨Ha, HO, -, Hrest⟩
    imodintro
    isplitl [Ha Hrest]
    · iapply hjoin; isplitl [Ha] <;> iassumption
    unfold Pipeline.RDat.owesAt Pipeline.owesWithin ow
    icases HO with ⟨%W, %hW, HO⟩; iexists W; isplitr; · ipureintro; exact fun p hp => bound_none1 V O c _ p (hW hp)
    iexact HO

end Cert.Proof.Ker

end
-- ==== Proof.Main.lean ====
/-
  The steps of the whole program.
-/
module

public import proofs.«01_k».proof.Proof.Seg
public import Idealize.ShloMosaic.Lib.Pipeline.ValueKit
public import Idealize.ShloMosaic.Lib.Pipeline.ArrRel

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SortNet
open Idealize.ShloMosaic.TcCoe Idealize.ShloMosaic.Tactic
open Idealize.ShloMosaic.Pipeline (Dat RDat Cfg Window)

local notation "𝕄" => MT nD τ sig (HIx 1) (Elt Ideal) ℕ UU ℕ

/-! ## The ghost state at launch -/

/-- The rounds of the two passes' staging cells. -/
def uP : UP := initOf (Pipeline.cells (Pipeline.pin (pcfgs (F := Ideal)) adm) cellOf_inj) (Pipeline.launchToks (Pipeline.pin (pcfgs (F := Ideal)) adm) cellOf_inj)

def u₀ : UU := (initOf (K (F := Ideal)).hsCells (K (F := Ideal)).hsToks, (uP, 1))

/-- What a device gets of it for its two passes. -/
def GG (d : Dev nD) : sProp 𝕄 :=
  iprop((bigSep Finset.univ fun p => Pipeline.cellsGhost (Pipeline.pin (pcfgs (F := Ideal)) adm) (EP Ideal) p d)
    ∗ (bigSep Finset.univ fun p => Pipeline.toksInit (Pipeline.pin (pcfgs (F := Ideal)) adm) (EP Ideal) p d))

theorem own_uP : (BI.own ((embR : Emb (UP × Counters) 𝕄) (uP, 1)) : sProp 𝕄) ⊢ BI.own (EP Ideal uP) := by
  refine (Idealize.ShloMosaic.own_pair_emb (embR : Emb (UP × Counters) 𝕄) uP 1).trans ?_
  exact sep_elim_left

theorem x_emp (G : Dev nD → Given) : (bigSep Finset.univ fun thr : Thread nD τ => bigSep Finset.univ fun q : Fin 1 => (P G).x q thr) = (iprop(emp) : sProp 𝕄) := by
  rw [show (bigSep Finset.univ fun thr : Thread nD τ => bigSep Finset.univ fun q : Fin 1 => (P G).x q thr) = bigSep Finset.univ fun _ => (iprop(emp) : sProp 𝕄) from
    bigSep_congr fun _ _ => bigSep_univ_of_subsingleton (0 : Fin 1)]
  exact bigSep_emp_const _

theorem hu₀ (G : Dev nD → Given) : (ownU u₀ : sProp 𝕄)
    ⊢ |={Set.univ}=> iprop(BI.own (EH Ideal (initOf (K (F := Ideal)).hsCells (K (F := Ideal)).hsToks)) ∗ (bigSep Finset.univ GG)
        ∗ bigSep Finset.univ fun thr : Thread nD τ => bigSep Finset.univ fun q : Fin 1 => (P G).x q thr) := by
  have hf := Pipeline.fund_ghost (nD := nD) (τ := τ) (Val := Elt Ideal) (Ix := HIx 1) (Name := ℕ) (U := UU) (Lvl := ℕ)
    (Pipeline.pin (pcfgs (F := Ideal)) adm) (EP Ideal) cellOf_inj
  rw [show initOf (Pipeline.cells (Pipeline.pin (pcfgs (F := Ideal)) adm) cellOf_inj) (Pipeline.launchToks (Pipeline.pin (pcfgs (F := Ideal)) adm) cellOf_inj) = uP from rfl] at hf
  rw [x_emp]
  unfold u₀
  iintro Hu
  ihave H := (ownU_pair (initOf (K (F := Ideal)).hsCells (K (F := Ideal)).hsToks) ((uP, 1) : UP × Counters)) $$ Hu
  icases H with ⟨HH, HR⟩
  ihave HR := own_uP $$ HR
  ihave HR := hf $$ HR
  imod HR
  icases HR with ⟨H1, H2⟩
  imodintro
  isplitl [HH]; · iexact HH
  isplitr []
  · unfold GG
    iapply (BIBase.Entails.of_eq (bigSep_sep' Finset.univ _ _).symm)
    isplitl [H1] <;> iassumption
  iempintro

/-! ## The steps of the program -/

section Steps
variable (d : Dev nD) (Φ : PUnit → sProp 𝕄)

set_option backward.isDefEq.respectTransparency.types false in
/-- A host operation, among all the buffers. -/
theorem step_op (op : HloOp τ sig (Elt Ideal)) (hS : op.bufs ⊆ StableHlo.tcRefs τ sig) (hf : op.fresh = ∅) (W : Valuation τ sig (Elt Ideal)) :
    iprop(boundary (T d : Thread nD τ) ∗ unscopedBufs d (fun b => W (dr b)) ∗ ((boundary (T d : Thread nD τ) ∗ unscopedBufs d (fun b => op.result W (dr b))) -∗ Φ ⟨⟩))
      ⊢ wp frame (wpE ((K (F := Ideal)).defs (D (F := Ideal))) 𝒱 (T d) none) Set.univ (hlo rfl op fun _ => .ret ⟨⟩) Φ := by
  have h := StableHlo.wp_hlo_within (defs := (K (F := Ideal)).defs (D (F := Ideal))) (𝒱 := 𝒱) (c := (T d : Thread nD τ)) (bd := none) (E := Set.univ)
    (hp := rfl) (op := op) (k := fun _ => .ret ⟨⟩) (Q := Φ) (Pipeline.sub_ucRefs op hS) (V := W) hf
  iintro ⟨Hb, Hu, Hk⟩
  iapply h $$ [Hb Hu]
  · isplitl [Hb]; · iexact Hb
    iapply (BIBase.Entails.of_eq (Pipeline.unscopedBufs_held d W))
    iexact Hu
  iintro ⟨Hb, Hu⟩
  rw [wp_ret]; imodintro
  iapply Hk
  isplitl [Hb]; · iexact Hb
  iapply (BIBase.Entails.of_eq (Pipeline.unscopedBufs_held d (op.result W)).symm)
  iexact Hu

variable (V : (c : Dev nD) → (b : Ref sig .tc) → Buf (Elt Ideal) ((c : Thread nD τ).loc b)) (O : Dev nD → CellTallies nD τ sig (HIx 1)) (hO : ∀ c g, O c g none = 0)

set_option backward.isDefEq.respectTransparency.types false in
include hO in
theorem step_pass0 :
    iprop(levAts (K (F := Ideal)).L (K (F := Ideal)).lev ∗ boundary (T d : Thread nD τ) ∗ unscopedBufs d (V d) ∗ ow O d
        ∗ Pipeline.cellsGhost (Pipeline.pin (pcfgs (F := Ideal)) adm) (EP Ideal) 0 d ∗ Pipeline.toksInit (Pipeline.pin (pcfgs (F := Ideal)) adm) (EP Ideal) 0 d
        ∗ ((boundary (T d : Thread nD τ) ∗ (∃ V', ⌜Left0 V O d V'⌝ ∗ unscopedBufs d V') ∗ ow O d) -∗ Φ ⟨⟩))
      ⊢ wp frame (wpE ((K (F := Ideal)).defs (D (F := Ideal))) 𝒱 (T d) none) Set.univ
        (Prog.lift (.customCall (SparseCore.inner (Pipeline.entry (0 : Fin 2))) ())) Φ := by
  refine BIBase.Entails.trans ?_ ((K (F := Ideal)).wp_liftProg (D (F := Ideal)) 𝒱 (T d) Set.univ none (Prog.lift (.customCall (Pipeline.entry (0 : Fin 2)) ())) Φ)
  have h := Pipeline.RDat.RegionSeg.wp (pcfgs (F := Ideal)) adm (rds V O) none cellOf_inj (EP Ideal) (defs₀ (F := Ideal)) 𝒱₀ (K (F := Ideal)).L (K (F := Ideal)).lev
    (reg0 V O hO (K (F := Ideal)).lev (by sl_refines_lev)) d none (fun u hu => nomatch hu) (fun _ => .ret ⟨⟩) Φ
  rw [show (reg0 V O hO (K (F := Ideal)).lev (by sl_refines_lev)).pre d = iprop(unscopedBufs d (V d) ∗ ow O d) from rfl,
    show (reg0 V O hO (K (F := Ideal)).lev (by sl_refines_lev)).post d = iprop((∃ V', ⌜Left0 V O d V'⌝ ∗ unscopedBufs d V') ∗ ow O d) from rfl] at h
  iintro ⟨Hl, Hb, Hu, HO, Hg, Ht, Hk⟩
  iapply h
  isplitl [Hk]
  · iintro ⟨Hb, Hp⟩
    rw [wp_ret]; imodintro
    iapply Hk
    isplitl [Hb]; · iexact Hb
    iexact Hp
  isplitl [Hb]; · iexact Hb
  isplitl [Hu HO]
  · isplitl [Hu]; · iexact Hu
    iexact HO
  isplitl [Hl]; · iexact Hl
  isplitl [Hg]; · iexact Hg
  iexact Ht

set_option backward.isDefEq.respectTransparency.types false in
include hO in
theorem step_pass1 :
    iprop(levAts (K (F := Ideal)).L (K (F := Ideal)).lev ∗ boundary (T d : Thread nD τ) ∗ unscopedBufs d (V d) ∗ ow O d
        ∗ Pipeline.cellsGhost (Pipeline.pin (pcfgs (F := Ideal)) adm) (EP Ideal) 1 d ∗ Pipeline.toksInit (Pipeline.pin (pcfgs (F := Ideal)) adm) (EP Ideal) 1 d
        ∗ ((boundary (T d : Thread nD τ) ∗ (∃ V', ⌜Left1 V O d V'⌝ ∗ unscopedBufs d V') ∗ ow O d) -∗ Φ ⟨⟩))
      ⊢ wp frame (wpE ((K (F := Ideal)).defs (D (F := Ideal))) 𝒱 (T d) none) Set.univ
        (Prog.lift (.customCall (SparseCore.inner (Pipeline.entry (1 : Fin 2))) ())) Φ := by
  refine BIBase.Entails.trans ?_ ((K (F := Ideal)).wp_liftProg (D (F := Ideal)) 𝒱 (T d) Set.univ none (Prog.lift (.customCall (Pipeline.entry (1 : Fin 2)) ())) Φ)
  have h := Pipeline.RDat.RegionSeg.wp (pcfgs (F := Ideal)) adm (rds V O) none cellOf_inj (EP Ideal) (defs₀ (F := Ideal)) 𝒱₀ (K (F := Ideal)).L (K (F := Ideal)).lev
    (reg1 V O hO (K (F := Ideal)).lev (by sl_refines_lev)) d none (fun u hu => nomatch hu) (fun _ => .ret ⟨⟩) Φ
  rw [show (reg1 V O hO (K (F := Ideal)).lev (by sl_refines_lev)).pre d = iprop(unscopedBufs d (V d) ∗ ow O d) from rfl,
    show (reg1 V O hO (K (F := Ideal)).lev (by sl_refines_lev)).post d = iprop((∃ V', ⌜Left1 V O d V'⌝ ∗ unscopedBufs d V') ∗ ow O d) from rfl] at h
  iintro ⟨Hl, Hb, Hu, HO, Hg, Ht, Hk⟩
  iapply h
  isplitl [Hk]
  · iintro ⟨Hb, Hp⟩
    rw [wp_ret]; imodintro
    iapply Hk
    isplitl [Hb]; · iexact Hb
    iexact Hp
  isplitl [Hb]; · iexact Hb
  isplitl [Hu HO]
  · isplitl [Hu]; · iexact Hu
    iexact HO
  isplitl [Hl]; · iexact Hl
  isplitl [Hg]; · iexact Hg
  iexact Ht

end Steps

/-! ## What the core owes -/

theorem Otc_none (c : Dev nD) (g : GSem nD τ sig) : (K (F := Ideal)).Otc c 0 g none = 0 := by
  by_contra h
  have := (K (F := Ideal)).lev_of_Otc_pos (Nat.pos_of_ne_zero h)
  simp at this

theorem below_iff (d : Dev nD) (W : Waits sig (HIx 1)) : Iff ((K (F := Ideal)).WBelow (T d) W 0) (∀ p ∈ W, p.2 = none) := by
  constructor
  · intro h p hp
    have h1 := h p hp
    obtain ⟨s, i⟩ := p
    cases i with
    | none => rfl
    | some q => exact absurd ((K (F := Ideal)).lev_some_pos ((T d : Thread nD τ), s) q) (by have : (K (F := Ideal)).lev ((T d : Thread nD τ), s) (some q) ≤ 0 := h1; omega)
  · intro h p hp
    have := h p hp
    obtain ⟨s, i⟩ := p
    simp only at this
    subst this
    exact Nat.zero_le _

/-- The core's state without what it owes. -/
def tcRest (d : Dev nD) : sProp 𝕄 :=
  iprop(ow (fun c => (K (F := Ideal)).Otc c 0) d -∗ (K (F := Ideal)).tcSt (EH Ideal) d 0)

theorem tcSt_split (d : Dev nD) : ((K (F := Ideal)).tcSt (EH Ideal) d 0 : sProp 𝕄) ⊢ iprop(ow (fun c => (K (F := Ideal)).Otc c 0) d ∗ tcRest d) := by
  unfold tcRest SparseCore.Cfg.tcSt ow
  iintro ⟨⟨%W, %hW, HO⟩, Hr⟩
  isplitl [HO]
  · iexists W; isplitr; · ipureintro; exact (below_iff d W).mp hW
    iexact HO
  iintro ⟨%W, %hW, HO⟩
  isplitl [HO]
  · iexists W; isplitr; · ipureintro; exact (below_iff d W).mpr hW
    iexact HO
  iexact Hr

end Cert.Proof.Ker

end
-- ==== Proof.Prog.lean ====
/-
  The call on the vector subcores, and the end of the program.
-/
module

public import proofs.«01_k».proof.Proof.Main
public import Idealize.ShloMosaic.Lib.Pipeline.ValueKit
public import Idealize.ShloMosaic.Lib.Pipeline.ArrRel

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SortNet
open Idealize.ShloMosaic.TcCoe Idealize.ShloMosaic.Tactic
open Idealize.ShloMosaic.Pipeline (Dat RDat Cfg Window)

local notation "𝕄" => MT nD τ sig (HIx 1) (Elt Ideal) ℕ UU ℕ

variable (m : (ℓ : Loc nD τ sig) → Buf (Elt Ideal) ℓ) (ρ : Dev nD → PrngReg)

/-- What the call is given, from what is in memory at the start. -/
def gOf (d : Dev nD) : Given where
  mx b k := k0_pay3 (F := Ideal) (blkOf (m ((d : Thread nD τ).loc main_arg0)) b) (ix3 1 160 128 0 (k / 128 % 160) (k % 128))
  xs b q c := m ((d : Thread nD τ).loc main_arg0) (ix3 16 20000 80 b q c)
  bx p q := shapeCast S10000x128 (m ((d : Thread nD τ).loc main_arg1) : S16x20000x4.Idx → EReal) shapeCasts_S16x20000x4_S10000x128 (ix2 10000 128 p q)
  kx p q := shapeCast S85000x128 (m ((d : Thread nD τ).loc main_arg2) : S16x20000x17x2.Idx → EReal) shapeCasts_S16x20000x17x2_S85000x128 (ix2 85000 128 p q)

abbrev insD : Finset (DevRef τ sig) := {dr main_v0_0, dr main_v0_1, dr main_v1, dr main_v3}
abbrev outsD : Finset (DevRef τ sig) := {dr main_v4_0, dr main_v4_1, dr main_v4_2, dr main_v4_3}
/-- All the buffers but those the call reads. -/
abbrev afterD : Finset (DevRef τ sig) := Pipeline.ucRefs τ sig \ insD

theorem insD_eq (d : Dev nD) (A : Mem d) : (StableHlo.held (T d : Thread nD τ) insD A : sProp 𝕄) = bigSep insT (fun r => ((d, dr r) : Loc nD τ sig) ↦{fullShare} A (dr r)) := by
  rw [insT_sep]
  unfold StableHlo.held
  rw [SparseCore.bigSep_insert' (by decide), SparseCore.bigSep_insert' (by decide), SparseCore.bigSep_insert' (by decide), bigSep_singleton]
theorem outsD_eq (d : Dev nD) (A : Mem d) : (StableHlo.held (T d : Thread nD τ) outsD A : sProp 𝕄) = bigSep outsT (fun r => ((d, dr r) : Loc nD τ sig) ↦{fullShare} A (dr r)) := by
  rw [outsT_sep]
  unfold StableHlo.held
  rw [SparseCore.bigSep_insert' (by decide), SparseCore.bigSep_insert' (by decide), SparseCore.bigSep_insert' (by decide), bigSep_singleton]

set_option backward.isDefEq.respectTransparency.types false in
/-- A host operation after the call. -/
theorem step_after (d : Dev nD) (Φ : PUnit → sProp 𝕄) (op : HloOp τ sig (Elt Ideal)) (hS : op.bufs ⊆ afterD) (hf : op.fresh = ∅) (W : Valuation τ sig (Elt Ideal)) :
    iprop(boundary (T d : Thread nD τ) ∗ StableHlo.held (T d : Thread nD τ) afterD W ∗ ((boundary (T d : Thread nD τ) ∗ StableHlo.held (T d : Thread nD τ) afterD (op.result W)) -∗ Φ ⟨⟩))
      ⊢ wp frame (wpE ((K (F := Ideal)).defs (D (F := Ideal))) 𝒱 (T d) none) Set.univ (hlo rfl op fun _ => .ret ⟨⟩) Φ := by
  have h := StableHlo.wp_hlo_within (defs := (K (F := Ideal)).defs (D (F := Ideal))) (𝒱 := 𝒱) (c := (T d : Thread nD τ)) (bd := none) (E := Set.univ)
    (hp := rfl) (op := op) (k := fun _ => .ret ⟨⟩) (Q := Φ) hS (V := W) hf
  iintro ⟨Hb, Hu, Hk⟩
  iapply h $$ [Hb Hu]
  · isplitl [Hb]; · iexact Hb
    iexact Hu
  iintro ⟨Hb, Hu⟩
  rw [wp_ret]; imodintro
  iapply Hk
  isplitl [Hb]; · iexact Hb
  iexact Hu

theorem after_pair (x y : Ref sig .tc) (hx : x.isScoped = false) (hy : y.isScoped = false) (h1 : dr x ∉ insD) (h2 : dr y ∉ insD) :
    ({dr x, dr y} : Finset (DevRef τ sig)) ⊆ afterD := by
  have key : ∀ z : Ref sig .tc, z.isScoped = false → dr z ∉ insD → dr z ∈ afterD := fun z hz h =>
    Finset.mem_sdiff.mpr ⟨Finset.mem_filter.mpr ⟨Finset.mem_map.mpr ⟨z, Finset.mem_univ _, rfl⟩, by
      intro h'; exact Bool.false_ne_true (hz.symm.trans h')⟩, h⟩
  intro b hb
  rcases Finset.mem_insert.mp hb with rfl | hb
  · exact key x hx h1
  · rw [Finset.mem_singleton.mp hb]; exact key y hy h2

/-- The state of the buffers when the program ends. -/
structure Ends (d : Dev nD) (B : Valuation τ sig (Elt Ideal)) : Prop where
  a0 : B (dr main_arg0) = m ((d : Thread nD τ).loc main_arg0)
  a1 : B (dr main_arg1) = m ((d : Thread nD τ).loc main_arg1)
  a2 : B (dr main_arg2) = m ((d : Thread nD τ).loc main_arg2)
  out : ∃ A : Mem d, (∀ b < 16, ∃ X s, Res (gOf m d) b X s A)
    ∧ B (dr main_v5) = extractStridedSlice S16x300 ![0, 0] (A (dr main_v4_0)) slices_S16x384_S16x300_0_0
    ∧ B (dr main_v7) = shapeCast S16x300x4 (extractStridedSlice S16x1200 ![0, 0] (A (dr main_v4_1)) slices_S16x1536_S16x1200_0_0) shapeCasts_S16x1200_S16x300x4
    ∧ B (dr main_v8) = extractStridedSlice S16x300 ![0, 0] (A (dr main_v4_2)) slices_S16x384_S16x300_0_0
    ∧ B (dr main_v10) = shapeCast S16x300x17x2 (extractStridedSlice S16x10200 ![0, 0] (A (dr main_v4_3)) slices_S16x13056_S16x10200_0_0) shapeCasts_S16x10200_S16x300x17x2

def FIN (d : Dev nD) : sProp 𝕄 := iprop(∃ B, ⌜Ends m d B⌝ ∗ StableHlo.held (T d : Thread nD τ) afterD B)

/-! ## The call -/

variable (G : Dev nD → Given)

theorem st_eq (d : Dev nD) : (bigSep Finset.univ fun c : Fin ((K (F := Ideal)).nCore 0) => (P G).st 0 d c) = iprop(stR (G d) d ∗ emp) := by
  have e := bigSep_univ_eq_bigSepL [(0 : Fin 2), (1 : Fin 2)] (by decide) (by decide) (fun c : Fin 2 => onFirst c.val (stR (G d) d))
  refine (show _ = _ from e).trans ?_
  show iprop(onFirst 0 (stR (G d) d) ∗ onFirst 1 (stR (G d) d)) = _
  rw [show onFirst 0 (stR (G d) d) = stR (G d) d from if_pos rfl, show onFirst 1 (stR (G d) d) = iprop(emp) from if_neg Nat.one_ne_zero]

theorem dn_eq (d : Dev nD) : (bigSep Finset.univ fun c : Fin ((K (F := Ideal)).nCore 0) => (P G).dn 0 d c) = iprop(dnR (G d) d ∗ emp) := by
  have e := bigSep_univ_eq_bigSepL [(0 : Fin 2), (1 : Fin 2)] (by decide) (by decide) (fun c : Fin 2 => onFirst c.val (dnR (G d) d))
  refine (show _ = _ from e).trans ?_
  show iprop(onFirst 0 (dnR (G d) d) ∗ onFirst 1 (dnR (G d) d)) = _
  rw [show onFirst 0 (dnR (G d) d) = dnR (G d) d from if_pos rfl, show onFirst 1 (dnR (G d) d) = iprop(emp) from if_neg Nat.one_ne_zero]

/-- The call, among all the buffers. -/
theorem step_call (d : Dev nD) (Φ : PUnit → sProp 𝕄) (κ : GSem nD τ sig → ℕ) (W : Mem d) (hW : InOk (G d) W) :
    iprop((K (F := Ideal)).ctx (EH Ideal) (P G) κ ∗ (K (F := Ideal)).tcSt (EH Ideal) d 0 ∗ StableHlo.held (T d : Thread nD τ) (Pipeline.ucRefs τ sig) W
        ∗ (((K (F := Ideal)).tcSt (EH Ideal) d 1
            ∗ ∃ B : Mem d, ⌜(∀ r, r ∉ outsD → B r = W r) ∧ ∀ b < 16, ∃ X s, Res (G d) b X s B⌝ ∗ StableHlo.held (T d : Thread nD τ) afterD B) -∗ Φ ⟨⟩))
      ⊢ wp frame (wpE ((K (F := Ideal)).defs (D (F := Ideal))) 𝒱 (T d) none) Set.univ ((K (F := Ideal)).run d 0) Φ := by
  have h := (K (F := Ideal)).wp_run (D (F := Ideal)) 𝒱 (EH := EH Ideal) (P := P G) κ d 0 (Φ := Φ)
  rw [st_eq, dn_eq] at h
  rw [StableHlo.held_sub_split (T d : Thread nD τ) (T := insD) (S := Pipeline.ucRefs τ sig) (by decide) W,
    StableHlo.held_sub_split (T d : Thread nD τ) (T := outsD) (S := afterD) (by decide) W]
  iintro ⟨Hc, Hst, ⟨Hi, Ho, Hr⟩, Hk⟩
  iapply h
  isplitl [Hc]; · iexact Hc
  isplitl [Hst]; · iexact Hst
  isplitl [Hi Ho]
  · isplitr []
    · unfold stR
      iexists W
      isplitr; · ipureintro; exact hW
      isplitl [Hi]
      · iapply (BIBase.Entails.of_eq (insD_eq d W)); iexact Hi
      · iapply (BIBase.Entails.of_eq (outsD_eq d W)); iexact Ho
    iempintro
  iintro ⟨Hst, Hd, -⟩
  unfold dnR
  icases Hd with ⟨%A, %hA, Ho⟩
  iapply Hk
  isplitl [Hst]; · iexact Hst
  have hB : ∀ r, r ∈ outsD → (if r ∈ outsD then A r else W r) = A r := fun r hr => if_pos hr
  have hN : ∀ r, r ∉ outsD → (if r ∈ outsD then A r else W r) = W r := fun r hr => if_neg hr
  iexists (fun r => if r ∈ outsD then A r else W r : Mem d)
  isplitr
  · ipureintro
    refine ⟨hN, fun b hb => ?_⟩
    obtain ⟨X, s, h⟩ := hA b hb
    refine ⟨X, s, h.ord, ?_, ?_, ?_, ?_⟩
    · intro k hk; rw [hB _ (by decide)]; exact h.lab k hk
    · intro k hk; rw [hB _ (by decide)]; exact h.sco k hk
    · intro k hk; rw [hB _ (by decide)]; exact h.box k hk
    · intro k hk; rw [hB _ (by decide)]; exact h.kpt k hk
  iapply (BIBase.Entails.of_eq (StableHlo.held_sub_split (T d : Thread nD τ) (T := outsD) (S := afterD) (by decide) _).symm)
  isplitl [Ho]
  · iapply (BIBase.Entails.of_eq ((StableHlo.held_congr (T d : Thread nD τ) hB).trans (outsD_eq d A)).symm)
    iexact Ho
  · iapply (BIBase.Entails.of_eq (StableHlo.held_congr (T d : Thread nD τ) (fun r hr => hN r (Finset.mem_sdiff.mp hr).2)).symm)
    iexact Hr

end Cert.Proof.Ker

end
-- ==== Proof.Run.lean ====
/-
  The run of the whole program.
-/
module

public import proofs.«01_k».proof.Proof.Prog
public import Idealize.ShloMosaic.Lib.Pipeline.ValueKit
public import Idealize.ShloMosaic.Lib.Pipeline.ArrRel

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SortNet
open Idealize.ShloMosaic.TcCoe Idealize.ShloMosaic.Tactic
open Idealize.ShloMosaic.Pipeline (Dat RDat Cfg Window)

local notation "𝕄" => MT nD τ sig (HIx 1) (Elt Ideal) ℕ UU ℕ

variable (m : (ℓ : Loc nD τ sig) → Buf (Elt Ideal) ℓ) (ρ : Dev nD → PrngReg)

/-- What every core owes at the start. -/
abbrev O₀ : Dev nD → CellTallies nD τ sig (HIx 1) := fun c => (K (F := Ideal)).Otc c 0

abbrev opA : HloOp τ sig (Elt Ideal) := StableHlo.reshape main_arg1 main_v1 (rfl : (.f32 : EltTy) = .f32) shapeCasts_S16x20000x4_S10000x128
abbrev opB : HloOp τ sig (Elt Ideal) := StableHlo.reshape main_v2 main_v3 (rfl : (.f32 : EltTy) = .f32) shapeCasts_S16x20000x17x2_S85000x128
abbrev op1 : HloOp τ sig (Elt Ideal) := StableHlo.unary main_v4_0 main_v5 ((extractStridedSlice S16x300 ![0, 0] · slices_S16x384_S16x300_0_0) : (⟨S16x384, .i32⟩ : BufTy).Contents (Elt Ideal) → (⟨S16x300, .i32⟩ : BufTy).Contents (Elt Ideal))
abbrev op2 : HloOp τ sig (Elt Ideal) := StableHlo.unary main_v4_1 main_v6 ((extractStridedSlice S16x1200 ![0, 0] · slices_S16x1536_S16x1200_0_0) : (⟨S16x1536, .f32⟩ : BufTy).Contents (Elt Ideal) → (⟨S16x1200, .f32⟩ : BufTy).Contents (Elt Ideal))
abbrev op3 : HloOp τ sig (Elt Ideal) := StableHlo.reshape main_v6 main_v7 (rfl : (.f32 : EltTy) = .f32) shapeCasts_S16x1200_S16x300x4
abbrev op4 : HloOp τ sig (Elt Ideal) := StableHlo.unary main_v4_2 main_v8 ((extractStridedSlice S16x300 ![0, 0] · slices_S16x384_S16x300_0_0) : (⟨S16x384, .f32⟩ : BufTy).Contents (Elt Ideal) → (⟨S16x300, .f32⟩ : BufTy).Contents (Elt Ideal))
abbrev op5 : HloOp τ sig (Elt Ideal) := StableHlo.unary main_v4_3 main_v9 ((extractStridedSlice S16x10200 ![0, 0] · slices_S16x13056_S16x10200_0_0) : (⟨S16x13056, .f32⟩ : BufTy).Contents (Elt Ideal) → (⟨S16x10200, .f32⟩ : BufTy).Contents (Elt Ideal))
abbrev op6 : HloOp τ sig (Elt Ideal) := StableHlo.reshape main_v9 main_v10 (rfl : (.f32 : EltTy) = .f32) shapeCasts_S16x10200_S16x300x17x2

/-- Before the call: the arguments are as they were, and the call's arrays hold what it is given. -/
theorem atCall (d : Dev nD) (W1 W3 : Mem d)
    (h1 : Left0 (fun c b => m ((c : Thread nD τ).loc b)) O₀ d (fun b => W1 (dr b)))
    (V : (c : Dev nD) → (b : Ref sig .tc) → Buf (Elt Ideal) ((c : Thread nD τ).loc b)) (hV : V d = fun b => opA.result W1 (dr b))
    (h3 : Left1 V O₀ d (fun b => W3 (dr b))) :
    InOk (d := d) (gOf m d) (opB.result W3 : Mem d)
      ∧ (opB.result W3 (dr main_arg0) = m ((d : Thread nD τ).loc main_arg0) ∧ opB.result W3 (dr main_arg1) = m ((d : Thread nD τ).loc main_arg1)
        ∧ opB.result W3 (dr main_arg2) = m ((d : Thread nD τ).loc main_arg2)) := by
  obtain ⟨n1, x1, y1⟩ := h1
  obtain ⟨n3, x3⟩ := h3
  rw [hV] at n3
  have e : ∀ b, b ≠ main_v0_0 → b ≠ main_v0_1 → b ≠ main_v1 → b ≠ main_v2 → b ≠ main_v3 → opB.result W3 (dr b) = m ((d : Thread nD τ).loc b) :=
    fun b q0 q1 q2 q3 q4 => (StableHlo.reshape_result_ne _ _ _ _ _ _ _ q4).trans ((n3 b q3).trans ((StableHlo.reshape_result_ne _ _ _ _ _ _ _ q2).trans (n1 b q0 q1)))
  have e' : ∀ b, b ≠ main_v1 → b ≠ main_v2 → b ≠ main_v3 → opB.result W3 (dr b) = W1 (dr b) :=
    fun b q2 q3 q4 => (StableHlo.reshape_result_ne _ _ _ _ _ _ _ q4).trans ((n3 b q3).trans (StableHlo.reshape_result_ne _ _ _ _ _ _ _ q2))
  have eb : opB.result W3 (dr main_v1) = opA.result W1 (dr main_v1) :=
    (StableHlo.reshape_result_ne _ _ _ _ _ _ _ (by decide)).trans (n3 main_v1 (by decide))
  refine ⟨⟨fun b hb k => ?_, fun b hb q hq c hc => ?_, fun p hp q hq => ?_, fun p hp q hq => ?_⟩,
    e _ (by decide) (by decide) (by decide) (by decide) (by decide), e _ (by decide) (by decide) (by decide) (by decide) (by decide),
    e _ (by decide) (by decide) (by decide) (by decide) (by decide)⟩
  · rw [e' main_v0_1 (by decide) (by decide) (by decide)]
    exact arr0_2 (fun c b => m ((c : Thread nD τ).loc b)) O₀ d _ y1 b (k / 128 % 160) (k % 128) hb (Nat.mod_lt _ (by decide)) (Nat.mod_lt _ (by decide))
  · rw [e' main_v0_0 (by decide) (by decide) (by decide)]
    exact arr0_1 (fun c b => m ((c : Thread nD τ).loc b)) O₀ d _ x1 b q c hb hq hc
  · rw [eb, show opA.result W1 (dr main_v1) = _ from StableHlo.reshape_result _ _ _ _ _ _ _]
    show shapeCast S10000x128 (W1 (dr main_arg1)) shapeCasts_S16x20000x4_S10000x128 (ix2 10000 128 p q) = _
    rw [show W1 (dr main_arg1) = m ((d : Thread nD τ).loc main_arg1) from n1 main_arg1 (by decide) (by decide)]
    rfl
  · rw [show opB.result W3 (dr main_v3) = _ from StableHlo.reshape_result _ _ _ _ _ _ _]
    show shapeCast S85000x128 (W3 (dr main_v2)) shapeCasts_S16x20000x17x2_S85000x128 (ix2 85000 128 p q) = _
    have ev : W3 (dr main_v2) = m ((d : Thread nD τ).loc main_arg2) := by
      funext i
      refine (arr1_1 V O₀ d _ x3 i).trans ?_
      rw [hV]
      exact congrFun ((StableHlo.reshape_result_ne _ _ _ _ _ _ _ (show main_arg2 ≠ main_v1 by decide)).trans (n1 main_arg2 (by decide) (by decide))) i
    rw [ev]
    rfl

/-- After the call's last host operation. -/
theorem ends_of (d : Dev nD) (W B : Mem d) (a0 : W (dr main_arg0) = m ((d : Thread nD τ).loc main_arg0)) (a1 : W (dr main_arg1) = m ((d : Thread nD τ).loc main_arg1))
    (a2 : W (dr main_arg2) = m ((d : Thread nD τ).loc main_arg2)) (hB : ∀ r, r ∉ outsD → B r = W r) (hR : ∀ b < 16, ∃ X s, Res (gOf m d) b X s B) :
    Ends m d (op6.result (op5.result (op4.result (op3.result (op2.result (op1.result B)))))) := by
  have e : ∀ b, b ≠ main_v5 → b ≠ main_v6 → b ≠ main_v7 → b ≠ main_v8 → b ≠ main_v9 → b ≠ main_v10 →
      op6.result (op5.result (op4.result (op3.result (op2.result (op1.result B))))) (dr b) = B (dr b) := fun b n5 n6 n7 n8 n9 n10 =>
    (StableHlo.reshape_result_ne _ _ _ _ _ _ _ n10).trans <| (StableHlo.unary_result_ne _ _ _ _ _ _ n9).trans <| (StableHlo.unary_result_ne _ _ _ _ _ _ n8).trans <|
      (StableHlo.reshape_result_ne _ _ _ _ _ _ _ n7).trans <| (StableHlo.unary_result_ne _ _ _ _ _ _ n6).trans (StableHlo.unary_result_ne _ _ _ _ _ _ n5)
  refine ⟨?_, ?_, ?_, B, hR, ?_, ?_, ?_, ?_⟩
  · rw [e _ (by decide) (by decide) (by decide) (by decide) (by decide) (by decide), hB _ (by decide)]; exact a0
  · rw [e _ (by decide) (by decide) (by decide) (by decide) (by decide) (by decide), hB _ (by decide)]; exact a1
  · rw [e _ (by decide) (by decide) (by decide) (by decide) (by decide) (by decide), hB _ (by decide)]; exact a2
  · exact (StableHlo.reshape_result_ne _ _ _ _ _ _ _ (by decide)).trans <| (StableHlo.unary_result_ne _ _ _ _ _ _ (by decide)).trans <| (StableHlo.unary_result_ne _ _ _ _ _ _ (by decide)).trans <|
      (StableHlo.reshape_result_ne _ _ _ _ _ _ _ (by decide)).trans <| (StableHlo.unary_result_ne _ _ _ _ _ _ (by decide)).trans (StableHlo.unary_result _ _ _ _ _ _)
  · refine (StableHlo.reshape_result_ne _ _ _ _ _ _ _ (by decide)).trans <| (StableHlo.unary_result_ne _ _ _ _ _ _ (by decide)).trans <| (StableHlo.unary_result_ne _ _ _ _ _ _ (by decide)).trans <|
      (StableHlo.reshape_result _ _ _ _ _ _ _).trans ?_
    show shapeCast S16x300x4 (op2.result (op1.result B) (dr main_v6)) shapeCasts_S16x1200_S16x300x4 = _
    rw [show op2.result (op1.result B) (dr main_v6) = extractStridedSlice S16x1200 ![0, 0] (op1.result B (dr main_v4_1)) slices_S16x1536_S16x1200_0_0 from StableHlo.unary_result _ _ _ _ _ _,
      show op1.result B (dr main_v4_1) = B (dr main_v4_1) from StableHlo.unary_result_ne _ _ _ _ _ _ (by decide)]
  · refine (StableHlo.reshape_result_ne _ _ _ _ _ _ _ (by decide)).trans <| (StableHlo.unary_result_ne _ _ _ _ _ _ (by decide)).trans <| (StableHlo.unary_result _ _ _ _ _ _).trans ?_
    rw [show op3.result (op2.result (op1.result B)) (Proc.devRef .tc main_v4_2) = B (dr main_v4_2) from
      (StableHlo.reshape_result_ne _ _ _ _ _ _ _ (by decide)).trans <| (StableHlo.unary_result_ne _ _ _ _ _ _ (by decide)).trans (StableHlo.unary_result_ne _ _ _ _ _ _ (by decide))]
  · refine (StableHlo.reshape_result _ _ _ _ _ _ _).trans ?_
    show shapeCast S16x300x17x2 (op5.result (op4.result (op3.result (op2.result (op1.result B)))) (dr main_v9)) shapeCasts_S16x10200_S16x300x17x2 = _
    rw [show op5.result (op4.result (op3.result (op2.result (op1.result B)))) (dr main_v9)
        = extractStridedSlice S16x10200 ![0, 0] (op4.result (op3.result (op2.result (op1.result B))) (dr main_v4_3)) slices_S16x13056_S16x10200_0_0 from StableHlo.unary_result _ _ _ _ _ _,
      show op4.result (op3.result (op2.result (op1.result B))) (dr main_v4_3) = B (dr main_v4_3) from
        (StableHlo.unary_result_ne _ _ _ _ _ _ (by decide)).trans <| (StableHlo.reshape_result_ne _ _ _ _ _ _ _ (by decide)).trans <| (StableHlo.unary_result_ne _ _ _ _ _ _ (by decide)).trans (StableHlo.unary_result_ne _ _ _ _ _ _ (by decide))]

set_option backward.isDefEq.respectTransparency.types false in
theorem GG_split (d : Dev nD) : (GG d : sProp 𝕄) ⊢ iprop(
    (Pipeline.cellsGhost (Pipeline.pin (pcfgs (F := Ideal)) adm) (EP Ideal) 0 d ∗ Pipeline.toksInit (Pipeline.pin (pcfgs (F := Ideal)) adm) (EP Ideal) 0 d)
    ∗ (Pipeline.cellsGhost (Pipeline.pin (pcfgs (F := Ideal)) adm) (EP Ideal) 1 d ∗ Pipeline.toksInit (Pipeline.pin (pcfgs (F := Ideal)) adm) (EP Ideal) 1 d)) := by
  unfold GG
  rw [bigSep_univ_eq_bigSepL [(0 : Fin 2), (1 : Fin 2)] (by decide) (by decide), bigSep_univ_eq_bigSepL [(0 : Fin 2), (1 : Fin 2)] (by decide) (by decide)]
  show iprop((Pipeline.cellsGhost (Pipeline.pin (pcfgs (F := Ideal)) adm) (EP Ideal) 0 d ∗ Pipeline.cellsGhost (Pipeline.pin (pcfgs (F := Ideal)) adm) (EP Ideal) 1 d)
    ∗ (Pipeline.toksInit (Pipeline.pin (pcfgs (F := Ideal)) adm) (EP Ideal) 0 d ∗ Pipeline.toksInit (Pipeline.pin (pcfgs (F := Ideal)) adm) (EP Ideal) 1 d)) ⊢ _
  iintro ⟨⟨H0, H1⟩, ⟨H2, H3⟩⟩
  isplitl [H0 H2]
  · isplitl [H0] <;> iassumption
  · isplitl [H1] <;> iassumption

set_option backward.isDefEq.respectTransparency.types false in
/-- The program on the tensor core. -/
theorem hmain (κ : GSem nD τ sig → ℕ) (d : Dev nD) :
    iprop((K (F := Ideal)).ctx (EH Ideal) (P (gOf m)) κ ∗ (K (F := Ideal)).tcSt (EH Ideal) d 0 ∗ (K (F := Ideal)).tcRes m ρ d ∗ GG d)
      ⊢ wp frame (wpE ((K (F := Ideal)).defs (D (F := Ideal))) 𝒱 (T d) none) Set.univ (main (F := Ideal) d)
          fun _ => iprop((K (F := Ideal)).tcSt (EH Ideal) d 1 ∗ FIN m d ∗ (K (F := Ideal)).tcEnd d) := by
  unfold SparseCore.Cfg.tcRes SparseCore.Cfg.tcEnd
  simp only [main, wp_bind, wp_pure]
  iintro ⟨#Hctx, Hst, ⟨Hb, Hu, Hts, -⟩, HG⟩
  ihave Hlev := (SparseCore.Cfg.ctx_levAts κ) $$ Hctx
  icases Hlev with #Hlev
  ihave HG := (GG_split d) $$ HG
  icases HG with ⟨⟨Hc0, Ht0⟩, ⟨Hc1, Ht1⟩⟩
  ihave Hst := (tcSt_split d) $$ Hst
  icases Hst with ⟨HO, Hst⟩
  -- the first pass
  iapply (step_pass0 d _ (fun c b => m ((c : Thread nD τ).loc b)) O₀ Otc_none)
  isplitr; · iexact Hlev
  isplitl [Hb]; · iexact Hb
  isplitl [Hu]; · iexact Hu
  isplitl [HO]; · iexact HO
  isplitl [Hc0]; · iexact Hc0
  isplitl [Ht0]; · iexact Ht0
  iintro ⟨Hb, ⟨%V', %hV', Hu⟩, HO⟩
  obtain ⟨W1, hW1⟩ := glueT d V' (fun r => m (d, r))
  obtain rfl : V' = fun b => W1 (dr b) := funext fun b => (hW1 b).symm
  -- the boxes, in rows
  iapply (step_op d _ opA (by decide) rfl W1)
  isplitl [Hb]; · iexact Hb
  isplitl [Hu]; · iexact Hu
  iintro ⟨Hb, Hu⟩
  -- the second pass
  have hV : (Function.update (fun c b => m ((c : Thread nD τ).loc b)) d (fun b => opA.result W1 (dr b))
      : (c : Dev nD) → (b : Ref sig .tc) → Buf (Elt Ideal) ((c : Thread nD τ).loc b)) d = fun b => opA.result W1 (dr b) := Function.update_self _ _ _
  generalize (Function.update (fun c b => m ((c : Thread nD τ).loc b)) d (fun b => opA.result W1 (dr b))
      : (c : Dev nD) → (b : Ref sig .tc) → Buf (Elt Ideal) ((c : Thread nD τ).loc b)) = V at hV
  iapply (step_pass1 d _ V O₀ Otc_none)
  isplitr; · iexact Hlev
  isplitl [Hb]; · iexact Hb
  isplitl [Hu]; · iapply (BIBase.Entails.of_eq (congrArg (fun f => (unscopedBufs d f : sProp 𝕄)) hV.symm)); iexact Hu
  isplitl [HO]; · iexact HO
  isplitl [Hc1]; · iexact Hc1
  isplitl [Ht1]; · iexact Ht1
  iintro ⟨Hb, ⟨%V3, %hV3, Hu⟩, HO⟩
  obtain ⟨W3, hW3⟩ := glueT d V3 (fun r => m (d, r))
  obtain rfl : V3 = fun b => W3 (dr b) := funext fun b => (hW3 b).symm
  -- the key points, in rows
  iapply (step_op d _ opB (by decide) rfl W3)
  isplitl [Hb]; · iexact Hb
  isplitl [Hu]; · iexact Hu
  iintro ⟨Hb, Hu⟩
  have hbef := atCall m d W1 W3 hV' V hV hV3
  -- the call
  iapply (step_call (gOf m) d _ κ (opB.result W3) hbef.1)
  isplitr; · iexact Hctx
  isplitl [Hst HO]
  · unfold tcRest
    iapply Hst
    iexact HO
  isplitl [Hu]
  · iapply (BIBase.Entails.of_eq (Pipeline.unscopedBufs_held d (opB.result W3))); iexact Hu
  iintro ⟨Hst, ⟨%B, %hB, Hu⟩⟩
  iapply (step_after d _ op1 (after_pair _ _ (by decide) (by decide) (by decide) (by decide)) rfl B)
  isplitl [Hb]; · iexact Hb
  isplitl [Hu]; · iexact Hu
  iintro ⟨Hb, Hu⟩
  iapply (step_after d _ op2 (after_pair _ _ (by decide) (by decide) (by decide) (by decide)) rfl _)
  isplitl [Hb]; · iexact Hb
  isplitl [Hu]; · iexact Hu
  iintro ⟨Hb, Hu⟩
  iapply (step_after d _ op3 (after_pair _ _ (by decide) (by decide) (by decide) (by decide)) rfl _)
  isplitl [Hb]; · iexact Hb
  isplitl [Hu]; · iexact Hu
  iintro ⟨Hb, Hu⟩
  iapply (step_after d _ op4 (after_pair _ _ (by decide) (by decide) (by decide) (by decide)) rfl _)
  isplitl [Hb]; · iexact Hb
  isplitl [Hu]; · iexact Hu
  iintro ⟨Hb, Hu⟩
  iapply (step_after d _ op5 (after_pair _ _ (by decide) (by decide) (by decide) (by decide)) rfl _)
  isplitl [Hb]; · iexact Hb
  isplitl [Hu]; · iexact Hu
  iintro ⟨Hb, Hu⟩
  iapply (step_after d _ op6 (after_pair _ _ (by decide) (by decide) (by decide) (by decide)) rfl _)
  isplitl [Hb]; · iexact Hb
  isplitl [Hu]; · iexact Hu
  iintro ⟨Hb, Hu⟩
  imodintro
  isplitl [Hst]; · iexact Hst
  isplitl [Hu]
  · unfold FIN
    iexists _
    isplitr
    · ipureintro
      exact ends_of m d (opB.result W3) B hbef.2.1 hbef.2.2.1 hbef.2.2.2 hB.1 hB.2
    iexact Hu
  isplitl [Hb] <;> iassumption

/-- What is read of a final state. -/
def fq (d : Dev nD) (s' : Phys nD τ sig (Elt Ideal)) : Prop :=
  ∃ B : Mem d, Ends m d B ∧ ∀ b : Ref sig .tc, dr b ∈ afterD → s'.mem.mem ((d : Thread nD τ).loc b) = B (dr b)

theorem held_read (d : Dev nD) (s' : Phys nD τ sig (Elt Ideal)) (B : Mem d) :
    iprop(StableHlo.held (T d : Thread nD τ) afterD B ∗ SI s') ⊢ (⌜∀ r ∈ afterD, s'.mem.mem (d, r) = B r⌝ : sProp 𝕄) := by
  refine BIBase.Entails.trans (forall_intro fun r => ?_) pure_forall.2
  by_cases hr : r ∈ afterD
  · rw [StableHlo.held_sub_split (T d : Thread nD τ) (T := {r}) (S := afterD) (Finset.singleton_subset_iff.mpr hr) B]
    unfold StableHlo.held
    rw [bigSep_singleton]
    iintro ⟨⟨H, -⟩, HSI⟩
    ihave H := (SI_pointsTo_agree (st := s') (ℓ := ((d, r) : Loc nD τ sig)) (I := Finset.univ) (q := fullShare) (f := B r)) $$ [HSI H]
    · isplitl [HSI] <;> iassumption
    icases H with %h
    ipureintro
    exact fun _ => funext fun i => h i (Finset.mem_univ i)
  · iintro -
    ipureintro
    exact fun h => absurd h hr

theorem hfin (d : Dev nD) (s' : Phys nD τ sig (Elt Ideal)) : iprop(FIN m d ∗ SI s') ⊢ (⌜fq m d s'⌝ : sProp 𝕄) := by
  unfold FIN
  iintro ⟨⟨%B, %hB, Hu⟩, HSI⟩
  ihave H := (held_read d s' B) $$ [Hu HSI]
  · isplitl [Hu] <;> iassumption
  icases H with %h
  ipureintro
  exact ⟨B, hB, fun b hb => h _ hb⟩

/-- The run of the whole program: it ends, the buffers as the last host operation left them, every counter at zero. -/
theorem run_main (hg : ∀ d, Good (gOf m d)) :
    θ_run (defs (F := Ideal)) (threads (F := Ideal)) ⟨m, fun _ => 0, ρ⟩
      (fun r => (∀ d : Dev nD, ∃ B : Mem d, Ends m d B ∧ ∀ b : Ref sig .tc, dr b ∈ afterD → r.2.mem ((d : Thread nD τ).loc b) = B (dr b)) ∧ r.2.sem = fun _ => 0) :=
  SparseCore.Cfg.θ_run_sc_quiescent (K := K (F := Ideal)) (D := D (F := Ideal)) (𝒱 := 𝒱) (EH := EH Ideal) (P := P (gOf m)) (A := ∅) facts v₀
    (fun q hq => match q with | 0 => nomatch hq)
    (fun q _ => match q with | 0 => tileObl (gOf m) hg)
    (fun q _ => match q with | 0 => SparseCore.Cfg.VecSplit.of_plain (vecSplit (gOf m)))
    m ρ main GG (FIN m) u₀ (sep_elim_left.trans (hu₀ (gOf m))) (hmain m ρ) (fq m) (hfin m) _ (fun _ h hz => ⟨h, hz⟩)

end Cert.Proof.Ker

end
-- ==== Proof.Fits.lean ====
/-
  What is known of the logits is enough.
-/
module

public import proofs.«01_k».proof.Proof.Body
public import Idealize.ShloMosaic.Lib.Pipeline.ValueKit
public import Idealize.ShloMosaic.Lib.Pipeline.ArrRel

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SortNet
open Idealize.ShloMosaic.TcCoe Idealize.ShloMosaic.Tactic
open Idealize.ShloMosaic.Pipeline (Dat RDat Cfg Window)

/-! ### Scores -/

theorem one_bits : Ideal.ofBits .f32 0x3F800000#32 = 1 := by
  simp [Ideal.ofBits, Ideal.ieee, -EReal.coe_mul]
  norm_num

theorem sgOf_eq (x : EReal) : sgOf x = Ideal.div 1 (1 + Ideal.exp (0 - x)) := by
  have h1 : Ideal.ofBits .f32 0x3F800000#32 = 1 := one_bits
  have h0 : Ideal.ofBits .f32 0x00000000#32 = 0 := by simp [Ideal.ofBits, Ideal.ieee, -EReal.coe_mul]
  show Ideal.div (Ideal.ofBits .f32 0x3F800000#32) (Ideal.ofBits .f32 0x3F800000#32 + Ideal.exp (Ideal.ofBits .f32 0x00000000#32 - x)) = _
  rw [h1, h0]

theorem exp_nonneg' (x : EReal) : 0 ≤ Ideal.exp x := by
  induction x with
  | bot => exact le_refl _
  | top => exact le_top
  | coe r => exact EReal.coe_nonneg.2 (Real.exp_pos r).le

theorem exp_lt {x y : EReal} (h : x < y) : Ideal.exp x < Ideal.exp y := by
  induction x with
  | top => exact absurd h not_top_lt
  | bot =>
    induction y with
    | bot => exact absurd h (lt_irrefl _)
    | top => exact EReal.zero_lt_top
    | coe r => exact EReal.coe_pos.2 (Real.exp_pos r)
  | coe a =>
    induction y with
    | bot => exact absurd h not_lt_bot
    | top => exact EReal.coe_lt_top _
    | coe r => exact EReal.coe_lt_coe_iff.2 (Real.exp_lt_exp.2 (EReal.coe_lt_coe_iff.1 h))

theorem sgOf_inv (x : EReal) : 0 < 1 + Ideal.exp (0 - x) ∧ sgOf x = (1 + Ideal.exp (0 - x))⁻¹ := by
  have hp : 0 < 1 + Ideal.exp (0 - x) := lt_of_lt_of_le zero_lt_one (le_add_of_nonneg_right (exp_nonneg' _))
  refine ⟨hp, ?_⟩
  rw [sgOf_eq]
  unfold Ideal.div
  rw [if_neg hp.ne', one_mul]

theorem sg_lt {x y : EReal} (h : x < y) : sgOf x < sgOf y := by
  rw [(sgOf_inv x).2, (sgOf_inv y).2]
  refine EReal.inv_strictAntiOn (sgOf_inv y).1 (sgOf_inv x).1 ?_
  refine EReal.add_lt_add_left_coe (exp_lt ?_) 1
  rw [zero_sub, zero_sub]
  exact EReal.neg_lt_neg_iff.2 h

theorem sg_le {x y : EReal} (h : x ≤ y) : sgOf x ≤ sgOf y := by
  rcases h.lt_or_eq with h | h
  · exact (sg_lt h).le
  · rw [h]

theorem sg_pos (x : EReal) : 0 ≤ sgOf x := by
  rw [(sgOf_inv x).2]
  exact EReal.inv_nonneg_of_nonneg (sgOf_inv x).1.le

/-- The score of an empty place. -/
theorem none_neg (x : EReal) : k2_pay239 (F := Ideal) (ln 0) < sgOf x := by
  refine lt_of_lt_of_le ?_ (sg_pos x)
  have h1 : Ideal.ofBits .f32 0x3F800000#32 = 1 := one_bits
  have h0 : Ideal.ofBits .f32 0x00000000#32 = 0 := by simp [Ideal.ofBits, Ideal.ieee, -EReal.coe_mul]
  show Ideal.ofBits .f32 0x00000000#32 - Ideal.ofBits .f32 0x3F800000#32 < 0
  rw [h1, h0, zero_sub]
  exact EReal.neg_lt_zero.2 zero_lt_one

/-! ### Lists kept from a range -/

theorem keep_card {β : Type} (f : ℕ → Option β) (n : ℕ) :
    (keep f n).length = ((Finset.range n).filter fun g => (f g).isSome = true).card := by
  induction n with
  | zero => rfl
  | succ n ih =>
    rw [keep_succ, List.length_append, ih, Finset.range_add_one, Finset.filter_insert]
    cases h : f n with
    | none => simp
    | some v => simp

theorem mem_keep {β : Type} {f : ℕ → Option β} {n : ℕ} {v : β} : Iff (v ∈ keep f n) (∃ g < n, f g = some v) := by
  unfold keep
  simp [List.mem_filterMap]

section
variable (mx : ℕ → EReal) (lg : ℕ → ℕ → EReal)

theorem hotL_mem {n l : ℕ} {v : BitVec 32} : Iff (v ∈ hotL (F := Ideal) mx n l) (∃ s < n, ge (F := Ideal) (mx (16 * s + l)) ∧ v = BitVec.ofNat 32 (16 * s + l)) := by
  unfold hotL
  simp only [List.mem_filterMap, List.mem_range]
  constructor
  · rintro ⟨s, hs, h⟩
    by_cases hg : ge (F := Ideal) (mx (16 * s + l))
    · rw [if_pos hg] at h
      exact ⟨s, hs, hg, (Option.some.inj h).symm⟩
    · rw [if_neg hg] at h
      cases h
  · rintro ⟨s, hs, hg, rfl⟩
    exact ⟨s, hs, if_pos hg⟩

theorem hotL_nodup {l : ℕ} (hl : l < 16) (n : ℕ) (hn : n ≤ 1280) : (hotL (F := Ideal) mx n l).Nodup := by
  induction n with
  | zero => exact List.nodup_nil
  | succ n ih =>
    rw [hotL_succ]
    split
    · refine List.Nodup.append (ih (by omega)) (List.nodup_singleton _) ?_
      intro v hv hv'
      obtain ⟨s, hs, -, rfl⟩ := (hotL_mem mx).1 hv
      have := congrArg BitVec.toNat (List.mem_singleton.1 hv')
      simp only [BitVec.toNat_ofNat] at this
      omega
    · exact ih (by omega)

/-- What is known of the logits of one image. -/
structure Few (b : ℕ) : Prop where
  hits : ∀ l < 16, ∀ T : Finset (ℕ × ℕ), (∀ p ∈ T, p.1 < 20000 ∧ p.2 < 80 ∧ p.2 % 16 = l ∧ ge (F := Ideal) (lg p.1 p.2)) → T.card ≤ 128
  rows : ∀ l < 16, ∀ T : Finset ℕ, (∀ s ∈ T, s < 1250 ∧ ∃ c < 80, ge (F := Ideal) (lg (16 * s + l) c)) → T.card ≤ 128
  ahead : b = 15 → ∃ (fl : EReal) (T : Finset (ℕ × ℕ)), 384 ≤ T.card ∧ ge (F := Ideal) fl ∧ (∀ p ∈ T, p.1 < 19997 ∧ p.2 < 80 ∧ fl ≤ lg p.1 p.2) ∧
    ∀ q c, 19997 ≤ q → q < 20000 → c < 80 → lg q c ≤ fl

theorem ge_iff (x : EReal) : Iff (ge (F := Ideal) x) (Ideal.ofBits .f32 0x4059999A#32 ≤ x) := by
  show Iff (Ideal.cmp .oge x _ = 1#1) _
  show Iff (BitVec.ofBool (decide (Ideal.ofBits .f32 0x4059999A#32 ≤ x)) = 1#1) _
  by_cases h : Ideal.ofBits .f32 0x4059999A#32 ≤ x <;> simp [h]

theorem ge_mono {x y : EReal} (h : ge (F := Ideal) x) (hxy : x ≤ y) : ge (F := Ideal) y := (ge_iff y).2 (((ge_iff x).1 h).trans hxy)

variable {mx lg} {b : ℕ}

/-- An occupied entry. -/
theorem occOf (hmx : ∀ k < 20480, Iff (ge (F := Ideal) (mx k)) (k < 20000 ∧ ∃ c < 80, ge (F := Ideal) (lg k c))) {e : ℕ} (h : isOcc (F := Ideal) mx e) :
    (hotL (F := Ideal) mx 1280 (e % 16))[e / 16]? = some (bidOf (F := Ideal) mx e) ∧ (bidOf (F := Ideal) mx e).toNat < 20000 ∧ (bidOf (F := Ideal) mx e).toNat % 16 = e % 16 := by
  have h1 : (hotL (F := Ideal) mx 1280 (e % 16))[e / 16]? = some (hotL (F := Ideal) mx 1280 (e % 16))[e / 16] := List.getElem?_eq_getElem h
  have h2 : bidOf (F := Ideal) mx e = (hotL (F := Ideal) mx 1280 (e % 16))[e / 16] := by
    unfold bidOf
    rw [h1]
    rfl
  refine ⟨h1.trans (congrArg some h2.symm), ?_⟩
  have hm : bidOf (F := Ideal) mx e ∈ hotL (F := Ideal) mx 1280 (e % 16) := h2 ▸ List.getElem_mem h
  obtain ⟨s, hs, hg, he⟩ := (hotL_mem mx).1 hm
  have := ((hmx _ (by omega)).1 hg).1
  rw [he, BitVec.toNat_ofNat]
  omega

theorem bid_lt (hmx : ∀ k < 20480, Iff (ge (F := Ideal) (mx k)) (k < 20000 ∧ ∃ c < 80, ge (F := Ideal) (lg k c))) (e : ℕ) :
    (bidOf (F := Ideal) mx e).toNat < 20000 := by
  by_cases h : isOcc (F := Ideal) mx e
  · exact (occOf hmx h).2.1
  · unfold bidOf
    rw [List.getElem?_eq_none (not_lt.1 h)]
    decide

theorem candF_some {l g : ℕ} {p : ℕ × ℕ} (h : candF (F := Ideal) mx lg l g = some p) :
    isOcc (F := Ideal) mx (g / 5) ∧ p = ((bidOf (F := Ideal) mx (g / 5)).toNat, 16 * (g % 5) + l) ∧ ge (F := Ideal) (lg p.1 p.2) := by
  unfold candF at h
  split at h
  · rename_i hc
    have := Option.some.inj h
    subst this
    exact ⟨hc.1, rfl, hc.2⟩
  · cases h

theorem mem_cand (hmx : ∀ k < 20480, Iff (ge (F := Ideal) (mx k)) (k < 20000 ∧ ∃ c < 80, ge (F := Ideal) (lg k c))) {N l : ℕ} (hl : l < 16) {p : ℕ × ℕ}
    (h : p ∈ candL (F := Ideal) mx lg N l) : p.1 < 20000 ∧ p.2 < 80 ∧ p.2 % 16 = l ∧ ge (F := Ideal) (lg p.1 p.2) := by
  obtain ⟨g, hg, h⟩ := mem_keep.1 h
  obtain ⟨ho, hp, hge⟩ := candF_some h
  have := (occOf hmx ho).2.1
  refine ⟨?_, ?_, ?_, hge⟩ <;> rw [hp] <;> simp only <;> omega

theorem occ_inj (hmx : ∀ k < 20480, Iff (ge (F := Ideal) (mx k)) (k < 20000 ∧ ∃ c < 80, ge (F := Ideal) (lg k c))) {e e' : ℕ} (h : isOcc (F := Ideal) mx e) (h' : isOcc (F := Ideal) mx e')
    (hb : (bidOf (F := Ideal) mx e).toNat = (bidOf (F := Ideal) mx e').toNat) : e = e' := by
  obtain ⟨a1, a2, a3⟩ := occOf hmx h
  obtain ⟨b1, b2, b3⟩ := occOf hmx h'
  have hl : e % 16 = e' % 16 := by omega
  rw [← BitVec.eq_of_toNat_eq hb, ← hl] at b1
  have := (List.getElem?_inj (i := e / 16) (j := e' / 16) h (hotL_nodup mx (l := e % 16) (by omega) 1280 le_rfl)).1 (a1.trans b1.symm)
  omega

theorem candF_inj (hmx : ∀ k < 20480, Iff (ge (F := Ideal) (mx k)) (k < 20000 ∧ ∃ c < 80, ge (F := Ideal) (lg k c))) {l g g' : ℕ} {p : ℕ × ℕ}
    (h : candF (F := Ideal) mx lg l g = some p) (h' : candF (F := Ideal) mx lg l g' = some p) : g = g' := by
  obtain ⟨a1, a2, -⟩ := candF_some h
  obtain ⟨b1, b2, -⟩ := candF_some h'
  have e := a2.symm.trans b2
  have e1 := congrArg Prod.fst e
  have e2 := congrArg Prod.snd e
  have := occ_inj hmx a1 b1 e1
  simp only at e2
  omega

theorem cand_nodup (hmx : ∀ k < 20480, Iff (ge (F := Ideal) (mx k)) (k < 20000 ∧ ∃ c < 80, ge (F := Ideal) (lg k c))) (N l : ℕ) :
    (candL (F := Ideal) mx lg N l).Nodup :=
  List.Nodup.filterMap (fun _ _ _ h h' => candF_inj hmx h h') List.nodup_range

theorem cand_len (hmx : ∀ k < 20480, Iff (ge (F := Ideal) (mx k)) (k < 20000 ∧ ∃ c < 80, ge (F := Ideal) (lg k c))) (hF : Few lg b) (N : ℕ) {l : ℕ} (hl : l < 16) :
    (candL (F := Ideal) mx lg N l).length ≤ 128 := by
  rw [← List.toFinset_card_of_nodup (cand_nodup hmx N l)]
  exact hF.hits l hl _ fun p hp => mem_cand hmx hl (List.mem_toFinset.1 hp)

/-- Every large logit is a candidate. -/
theorem cand_all (hmx : ∀ k < 20480, Iff (ge (F := Ideal) (mx k)) (k < 20000 ∧ ∃ c < 80, ge (F := Ideal) (lg k c))) {N : ℕ}
    (hN : ∀ l < 16, 80 * (hotL (F := Ideal) mx 1280 l).length ≤ N) {q c : ℕ} (hq : q < 20000) (hc : c < 80) (h : ge (F := Ideal) (lg q c)) :
    (q, c) ∈ candL (F := Ideal) mx lg N (c % 16) := by
  have hm : BitVec.ofNat 32 q ∈ hotL (F := Ideal) mx 1280 (q % 16) := by
    refine (hotL_mem mx).2 ⟨q / 16, by omega, ?_, ?_⟩ <;> rw [show 16 * (q / 16) + q % 16 = q by omega]
    exact (hmx q (by omega)).2 ⟨hq, c, hc, h⟩
  obtain ⟨i, hi, hv⟩ := List.getElem_of_mem hm
  have hl := hN (q % 16) (by omega)
  refine mem_keep.2 ⟨5 * (16 * i + q % 16) + c / 16, by omega, ?_⟩
  have e5 : (5 * (16 * i + q % 16) + c / 16) / 5 = 16 * i + q % 16 := by omega
  have m5 : (5 * (16 * i + q % 16) + c / 16) % 5 = c / 16 := by omega
  have e16 : (16 * i + q % 16) % 16 = q % 16 := by omega
  have d16 : (16 * i + q % 16) / 16 = i := by omega
  have ho : isOcc (F := Ideal) mx (16 * i + q % 16) := by
    unfold isOcc
    rw [e16, d16]
    exact hi
  have hb : bidOf (F := Ideal) mx (16 * i + q % 16) = BitVec.ofNat 32 q := by
    unfold bidOf
    rw [e16, d16, List.getElem?_eq_getElem hi, hv]
    rfl
  have hbn : (BitVec.ofNat 32 q).toNat = q := by rw [BitVec.toNat_ofNat]; omega
  have hc' : 16 * (c / 16) + c % 16 = c := by omega
  unfold candF
  rw [e5, m5, hb, hbn, hc', if_pos ⟨ho, h⟩]

theorem num_toNat {p : ℕ × ℕ} (h1 : p.1 < 20000) (h2 : p.2 < 80) : (num p).toNat = 80 * p.1 + p.2 := by
  rw [BitVec.toNat_ofNat]
  omega

/-- A place in the order holds a candidate or nothing. -/
theorem ent_cases (hmx : ∀ k < 20480, Iff (ge (F := Ideal) (mx k)) (k < 20000 ∧ ∃ c < 80, ge (F := Ideal) (lg k c))) (N e : ℕ) :
    (∃ p : ℕ × ℕ, p ∈ candL (F := Ideal) mx lg N (e % 16) ∧ ent mx lg sgOf N e = (sgOf (lg p.1 p.2), num p)) ∨
      ent mx lg sgOf N e = (k2_pay239 (F := Ideal) (ln 0), 2147483647#32) := by
  unfold ent
  rcases h : (candL (F := Ideal) mx lg N (e % 16))[e / 16]? with _ | p
  · exact .inr rfl
  · exact .inl ⟨p, List.mem_of_getElem? h, rfl⟩

/-- A candidate has a place in the order. -/
theorem place (hmx : ∀ k < 20480, Iff (ge (F := Ideal) (mx k)) (k < 20000 ∧ ∃ c < 80, ge (F := Ideal) (lg k c))) (hF : Few lg b) {N : ℕ} {s : ℕ → EReal} {X : ℕ → BitVec 32}
    (hN : ∀ l < 16, 80 * (hotL (F := Ideal) mx 1280 l).length ≤ N) (hO : Order mx lg sgOf N s X) {q c : ℕ} (hq : q < 20000) (hc : c < 80)
    (h : ge (F := Ideal) (lg q c)) : ∃ k < 2048, s k = sgOf (lg q c) ∧ X k = num (q, c) := by
  obtain ⟨π, hπ, -⟩ := hO
  obtain ⟨i, hi, hv⟩ := List.getElem_of_mem (cand_all hmx hN hq hc h)
  have hlen := cand_len hmx hF N (l := c % 16) (by omega)
  obtain ⟨k, hk⟩ := π.surjective ⟨16 * i + c % 16, by norm_num; omega⟩
  have hkl : k.val < 2048 := k.isLt
  have he := hπ k
  rw [hk] at he
  have e : ent mx lg sgOf N (16 * i + c % 16) = (sgOf (lg q c), num (q, c)) := by
    unfold ent
    rw [show (16 * i + c % 16) % 16 = c % 16 by omega, show (16 * i + c % 16) / 16 = i by omega, List.getElem?_eq_getElem hi, hv]
    rfl
  have he' := he.trans e
  exact ⟨k.val, hkl, congrArg Prod.fst he', congrArg Prod.snd he'⟩

theorem num_toInt {p : ℕ × ℕ} (h1 : p.1 < 20000) (h2 : p.2 < 80) : (num p).toInt = ((80 * p.1 + p.2 : ℕ) : ℤ) := by
  rw [BitVec.toInt_eq_toNat_of_lt (by rw [num_toNat h1 h2]; omega), num_toNat h1 h2]

/-- Among the first places every number is a number before the last three queries, if enough logits are large there. -/
theorem early (hmx : ∀ k < 20480, Iff (ge (F := Ideal) (mx k)) (k < 20000 ∧ ∃ c < 80, ge (F := Ideal) (lg k c))) (hF : Few lg 15) {N : ℕ} {s : ℕ → EReal} {X : ℕ → BitVec 32}
    (hN : ∀ l < 16, 80 * (hotL (F := Ideal) mx 1280 l).length ≤ N) (hO : Order mx lg sgOf N s X) {k : ℕ} (hk : k < 384) : nq (X k).toNat < 19997 := by
  by_contra hbad
  obtain ⟨fl, T, hT, hfl, hTm, hlate⟩ := hF.ahead rfl
  have hO' := hO
  obtain ⟨π, hπ, hanti⟩ := hO'
  have hmem : ∀ p ∈ T, ge (F := Ideal) (lg p.1 p.2) := fun p hp => ge_mono hfl (hTm p hp).2.2
  have hpl : ∀ p ∈ T, ∃ j < k, X j = num p := by
    intro p hp
    obtain ⟨hp1, hp2, hpf⟩ := hTm p hp
    obtain ⟨j, hj, hs, hX⟩ := place hmx hF hN hO (show p.1 < 20000 by omega) hp2 (hmem p hp)
    refine ⟨j, ?_, hX⟩
    by_contra hjk
    have ha := hanti (a := (⟨k, by norm_num; omega⟩ : Fin (2 ^ 11))) (b := ⟨j, by norm_num; omega⟩) (Fin.mk_le_mk.2 (not_lt.1 hjk))
    have hlt : key (s k) (X k) < key (s j) (X j) := by
      have hek := hπ ⟨k, by norm_num; omega⟩
      rw [key_lt]
      rcases ent_cases (lg := lg) hmx N (π ⟨k, by norm_num; omega⟩).val with ⟨p', hm', e'⟩ | e'
      · have h2 := hek.trans e'
        have h2s : s k = sgOf (lg p'.1 p'.2) := congrArg Prod.fst h2
        have h2X : X k = num p' := congrArg Prod.snd h2
        obtain ⟨c1, c2, -, -⟩ := mem_cand hmx (Nat.mod_lt _ (by decide)) hm'
        have hq' : 19997 ≤ p'.1 := by
          rw [h2X, num_toNat c1 c2] at hbad
          unfold nq at hbad
          omega
        have hle := sg_le ((hlate p'.1 p'.2 hq' c1 c2).trans hpf)
        rw [hs, hX, h2s, h2X]
        rcases hle.lt_or_eq with hh | hh
        · exact .inl hh
        · refine .inr ⟨hh.symm, ?_⟩
          rw [num_toInt c1 c2, num_toInt (show p.1 < 20000 by omega) hp2]
          omega
      · have h2 := hek.trans e'
        rw [hs, show s k = _ from congrArg Prod.fst h2]
        exact .inl (none_neg _)
    exact absurd ha (not_le.2 hlt)
  choose! f hf1 hf2 using hpl
  have : T.card ≤ (Finset.range k).card := Finset.card_le_card_of_injOn f (fun p hp => Finset.mem_coe.2 (Finset.mem_range.2 (hf1 p hp))) (by
    intro p hp p' hp' e
    have hn : num p = num p' := (hf2 p hp).symm.trans ((congrArg X e).trans (hf2 p' hp'))
    have := congrArg BitVec.toNat hn
    obtain ⟨h1, h2, -⟩ := hTm p hp
    obtain ⟨h1', h2', -⟩ := hTm p' hp'
    rw [num_toNat (show p.1 < 20000 by omega) h2, num_toNat (show p'.1 < 20000 by omega) h2'] at this
    exact Prod.ext (by omega) (by omega))
  rw [Finset.card_range] at this
  omega

theorem fits_of (hb : b < 16) (hmx : ∀ k < 20480, Iff (ge (F := Ideal) (mx k)) (k < 20000 ∧ ∃ c < 80, ge (F := Ideal) (lg k c))) (hF : Few lg b) : Fits b mx lg where
  hot l hl := by
    rw [show hotL (F := Ideal) mx 1280 l = keep (fun s => if ge (F := Ideal) (mx (16 * s + l)) then some (BitVec.ofNat 32 (16 * s + l)) else none) 1280 from rfl, keep_card]
    refine hF.rows l hl _ fun s hs => ?_
    obtain ⟨h1, h2⟩ := Finset.mem_filter.1 hs
    have h1 := Finset.mem_range.1 h1
    by_cases hg : ge (F := Ideal) (mx (16 * s + l))
    · have := (hmx _ (by omega)).1 hg
      exact ⟨by omega, this.2⟩
    · rw [if_neg hg] at h2
      cases h2
  cand N l hl := cand_len hmx hF N hl
  bid := bid_lt hmx
  first N s X hN hO k hk := by
    have hX : (X k).toNat < 2 ^ 31 := by
      obtain ⟨π, hπ, -⟩ := hO
      have hek := hπ ⟨k, by norm_num; omega⟩
      rcases ent_cases (lg := lg) hmx N (π ⟨k, by norm_num; omega⟩).val with ⟨p', hm', e'⟩ | e'
      · rw [show X k = _ from congrArg Prod.snd (hek.trans e')]
        obtain ⟨c1, c2, -, -⟩ := mem_cand hmx (Nat.mod_lt _ (by decide)) hm'
        rw [num_toNat c1 c2]
        omega
      · rw [show X k = _ from congrArg Prod.snd (hek.trans e')]
        decide
    refine ⟨hX, ?_⟩
    by_cases h15 : b = 15
    · subst h15
      have := early hmx hF hN hO hk
      unfold kb
      omega
    · have : nq (X k).toNat ≤ 19999 := by unfold nq; omega
      unfold kb
      omega

end

end Cert.Proof.Ker

end
-- ==== Proof.Count.lean ====
/-
  What the condition on the logits says.
-/
module

public import proofs.«01_k».proof.Proof.Fits
public import Idealize.ShloMosaic.Lib.Pipeline.ValueKit
public import Idealize.ShloMosaic.Lib.Pipeline.ArrRel
public import Idealize.ShloMosaic.Lib.IndicatorCount
public import Idealize.ShloMosaic.Lib.ReduceAll
public import proofs.«01_k».proof.Pre_fits
public import proofs.«01_k».proof.Proof.Reg

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SortNet
open Idealize.ShloMosaic.TcCoe Idealize.ShloMosaic.Tactic
open Idealize.ShloMosaic.Pipeline (Dat RDat Cfg Window)

/-! ### Sums and largest values of bits -/

section
variable {s t u : Shape} {axes : List (Fin s.rank)}

theorem idx_card (s : Shape) : Fintype.card s.Idx = s.numel := (Fintype.card_congr s.rowMajor).trans (Fintype.card_fin _)

/-- A sum of bits counts them. -/
theorem red_card (p : s.Idx → BitVec 1) (h : s.ReducesTo axes t) (hu : 0 < u.numel) (j : t.Idx)
    (hn : s.numel < 2 ^ 31) :
    (Host.reduce IntOp.addi (fun i => (p i).setWidth 32) (constantI u 32 0#32) h hu j).toInt = ((Finset.univ.filter fun i => h.drop i = j ∧ p i = 1#1).card : ℤ) := by
  rw [Host.reduce_eq_fold, show constantI u 32 0#32 (Shape.Idx.first hu) = 0#32 from rfl, IndicatorCount.fold_addi_setWidth_eq_card, Finset.filter_filter]
  have hc : (Finset.univ.filter fun i => h.drop i = j ∧ p i = 1#1).card < 2 ^ 31 :=
    lt_of_le_of_lt (Finset.card_le_univ _) (by rw [idx_card]; exact hn)
  have e : (BitVec.ofNat 32 (Finset.univ.filter fun i => h.drop i = j ∧ p i = 1#1).card).toNat = (Finset.univ.filter fun i => h.drop i = j ∧ p i = 1#1).card := by
    rw [BitVec.toNat_ofNat]
    exact Nat.mod_eq_of_lt (by omega)
  rw [BitVec.toInt_eq_toNat_of_lt (by rw [e]; omega), e]

theorem bit_cases (b : BitVec 1) : b = 0#1 ∨ b = 1#1 := by
  revert b
  decide

theorem max_list {ι : Type} (p : ι → BitVec 1) (l : List ι) (r : BitVec 32) (hr : r = 2147483648#32 ∨ r = 0#32 ∨ r = 1#32) :
    l.foldl (fun r i => IntOp.maxsi r ((p i).setWidth 32)) r = if r = 1#32 ∨ ∃ i ∈ l, p i = 1#1 then 1#32 else if l = [] then r else 0#32 := by
  classical
  induction l generalizing r with
  | nil =>
    by_cases h : r = 1#32 <;> simp [h]
  | cons a l ih =>
    rw [List.foldl_cons]
    rcases bit_cases (p a) with ha | ha <;> rcases hr with hr | hr | hr <;> subst hr <;> rw [ha]
    · rw [show IntOp.maxsi 2147483648#32 ((0#1).setWidth 32) = 0#32 by decide, ih _ (by decide)]
      by_cases hl : ∃ i ∈ l, p i = 1#1 <;> simp [hl, ha]
    · rw [show IntOp.maxsi 0#32 ((0#1).setWidth 32) = 0#32 by decide, ih _ (by decide)]
      by_cases hl : ∃ i ∈ l, p i = 1#1 <;> simp [hl, ha]
    · rw [show IntOp.maxsi 1#32 ((0#1).setWidth 32) = 1#32 by decide, ih _ (by decide)]
      simp
    · rw [show IntOp.maxsi 2147483648#32 ((1#1).setWidth 32) = 1#32 by decide, ih _ (by decide)]
      simp [ha]
    · rw [show IntOp.maxsi 0#32 ((1#1).setWidth 32) = 1#32 by decide, ih _ (by decide)]
      simp [ha]
    · rw [show IntOp.maxsi 1#32 ((1#1).setWidth 32) = 1#32 by decide, ih _ (by decide)]
      simp [ha]

open Classical in
/-- The largest of some bits is whether one is set. -/
theorem red_max (p : s.Idx → BitVec 1) (z : u.Idx → BitVec 32) (hz : ∀ i, z i = 2147483648#32) (h : s.ReducesTo axes t) (hu : 0 < u.numel) (j : t.Idx)
    (hne : ∃ i, h.drop i = j) :
    Host.reduce IntOp.maxsi (fun i => (p i).setWidth 32) z h hu j = (BitVec.ofBool (decide (∃ i, h.drop i = j ∧ p i = 1#1))).setWidth 32 := by
  rw [Host.reduce_eq_foldl, hz, max_list p _ _ (.inl rfl)]
  have hmem : ∀ i, h.drop i = j → i ∈ ((List.finRange s.numel).map s.rowMajor.symm).filter fun i => h.drop i = j := fun i hi => by
    rw [List.mem_filter]
    exact ⟨List.mem_map.2 ⟨s.rowMajor i, List.mem_finRange _, Equiv.symm_apply_apply _ _⟩, by simp [hi]⟩
  obtain ⟨i₀, hi₀⟩ := hne
  by_cases hl : ∃ i, h.drop i = j ∧ p i = 1#1
  · obtain ⟨i, h1, h2⟩ := hl
    rw [if_pos (.inr ⟨i, hmem i h1, h2⟩), decide_eq_true ⟨i, h1, h2⟩]
    rfl
  · rw [decide_eq_false hl, if_neg, if_neg (List.ne_nil_of_mem (hmem i₀ hi₀))]
    · rfl
    · rintro (h' | ⟨i, h1, h2⟩)
      · exact absurd h' (by decide)
      · exact hl ⟨i, by simpa using (List.mem_filter.1 h1).2, h2⟩

theorem andi_one (a b : BitVec 1) (h : IntOp.andi a b = 1#1) : a = 1#1 ∧ b = 1#1 := by
  revert a b
  decide

theorem ofBool_one (b : Bool) (h : BitVec.ofBool b = 1#1) : b = true := by
  cases b
  · exact absurd h (by decide)
  · rfl

theorem sle_int {a b : BitVec 32} (h : IntOp.cmpi .sle a b = 1#1) : a.toInt ≤ b.toInt := by
  have := ofBool_one _ h
  simpa [BitVec.sle_eq_decide] using this

theorem sge_int {a b : BitVec 32} (h : IntOp.cmpi .sge a b = 1#1) : b.toInt ≤ a.toInt := by
  have := ofBool_one _ h
  simpa [BitVec.sle_eq_decide] using this

end

/-! ### What the condition says -/

section

abbrev Sx : Shape := ⟨3, ![16, 20000, 80]⟩

theorem sub_ : Subsingleton (⟨0, ![]⟩ : Shape).Idx := ⟨fun _ _ => funext fun x => x.elim0⟩

/-- The logits the condition's first sum counts. -/
abbrev hitV (A : FVec Ideal Sx .f32) : IVec Sx 1 := fun i => FloatOps.cmpf .oge (A i) (Scalar.ofBits .f32 0x4059999A#32)

/-- The parts of the condition. -/
theorem parts [Cert.Pre_fits.Facts] (A : FVec Ideal Sx .f32) (B C) (h : Cert.Pre_fits.fn (F := Ideal) A B C = fun _ => 1#1) :
    (∀ j, (300 : ℤ) ≤ (Host.reduce IntOp.addi (fun i => (hitV A i).setWidth 32) (constantI Cert.Pre_fits.S_ 32 0#32) Cert.Pre_fits.Facts.reducesTo_S16x20000x80_S16_d1_2 Cert.Pre_fits.Facts.h_S_ j).toInt)
    ∧ (∀ j, (Host.reduce IntOp.addi (fun i => (shapeCast Cert.Pre_fits.S16x100000x16 (hitV A) Cert.Pre_fits.Facts.shapeCasts_S16x20000x80_S16x100000x16 i).setWidth 32) (constantI Cert.Pre_fits.S_ 32 0#32) Cert.Pre_fits.Facts.reducesTo_S16x100000x16_S16x16_d1 Cert.Pre_fits.Facts.h_S_ j).toInt ≤ 128)
    ∧ (∀ j, (Host.reduce IntOp.addi (shapeCast Cert.Pre_fits.S16x1250x16 (Host.reduce IntOp.maxsi (fun i => (hitV A i).setWidth 32) (constantI Cert.Pre_fits.S_ 32 2147483648#32) Cert.Pre_fits.Facts.reducesTo_S16x20000x80_S16x20000_d2 Cert.Pre_fits.Facts.h_S_) Cert.Pre_fits.Facts.shapeCasts_S16x20000_S16x1250x16) (constantI Cert.Pre_fits.S_ 32 0#32) Cert.Pre_fits.Facts.reducesTo_S16x1250x16_S16x16_d1 Cert.Pre_fits.Facts.h_S_ j).toInt ≤ 128)
    ∧ (∀ j, (384 : ℤ) ≤ (Host.reduce IntOp.addi (fun i => ((fun i => FloatOps.cmpf (F := Ideal) (φ := .f32) .oge (shapeCast Cert.Pre_fits.S19997x80 (extractStridedSlice Cert.Pre_fits.S1x19997x80 ![15, 0, 0] A Cert.Pre_fits.Facts.slices_S16x20000x80_S1x19997x80_15_0_0) Cert.Pre_fits.Facts.shapeCasts_S1x19997x80_S19997x80 i)
        (broadcastInDim Cert.Pre_fits.S19997x80 ![] Cert.Pre_fits.Facts.bcast_S_S19997x80 (maximumf (Host.reduce FloatOps.maximumf (shapeCast Cert.Pre_fits.S3x80 (extractStridedSlice Cert.Pre_fits.S1x3x80 ![15, 19997, 0] A Cert.Pre_fits.Facts.slices_S16x20000x80_S1x3x80_15_19997_0) Cert.Pre_fits.Facts.shapeCasts_S1x3x80_S3x80) (constant Cert.Pre_fits.S_ .f32 0xFF800000#32) Cert.Pre_fits.Facts.reducesTo_S3x80_S_d0_1 Cert.Pre_fits.Facts.h_S_) (constant Cert.Pre_fits.S_ .f32 0x4059999A#32)) i)) i).setWidth 32) (constantI Cert.Pre_fits.S_ 32 0#32) Cert.Pre_fits.Facts.reducesTo_S19997x80_S_d0_1 Cert.Pre_fits.Facts.h_S_ j).toInt) := by
  haveI := sub_
  have e := congrFun h (fun x => x.elim0)
  obtain ⟨e1, e4⟩ := andi_one _ _ e
  obtain ⟨e2, e3⟩ := andi_one _ _ e1
  obtain ⟨e1, e2⟩ := andi_one _ _ e2
  refine ⟨fun j => ?_, fun j => ?_, fun j => ?_, fun j => ?_⟩
  · exact le_of_eq_of_le (show (300 : ℤ) = (300#32).toInt by decide) (sge_int (b := 300#32) (Host.reduce_andi_all _ _ _ _ _ e1 j))
  · exact le_of_le_of_eq (sle_int (b := 128#32) (Host.reduce_andi_all _ _ _ _ _ e2 j)) (show (128#32).toInt = (128 : ℤ) by decide)
  · exact le_of_le_of_eq (sle_int (b := 128#32) (Host.reduce_andi_all _ _ _ _ _ e3 j)) (show (128#32).toInt = (128 : ℤ) by decide)
  · rw [Subsingleton.elim j (fun x => x.elim0)]
    exact le_of_eq_of_le (show (384 : ℤ) = (384#32).toInt by decide) (sge_int (b := 384#32) e4)

end

section
variable [Cert.Pre_fits.Facts] (A : FVec Ideal Sx .f32)

omit [Cert.Pre_fits.Facts] in
theorem at2 {n m : ℕ} [NeZero n] [NeZero m] (x : (⟨2, ![n, m]⟩ : Shape).Idx) {p q : ℕ} (h0 : (x (0 : Fin 2)).val = p) (h1 : (x (1 : Fin 2)).val = q) : x = ix2 n m p q := by
  subst h0 h1
  exact eq_ix2 x

omit [Cert.Pre_fits.Facts] in
theorem oge_iff (x y : EReal) : Iff (Ideal.cmp .oge x y = 1#1) (y ≤ x) := by
  show Iff (BitVec.ofBool (decide (y ≤ x)) = 1#1) _
  by_cases h : y ≤ x <;> simp [h]

omit [Cert.Pre_fits.Facts] in
theorem hit_iff (i : Sx.Idx) : Iff (hitV A i = 1#1) (ge (F := Ideal) (A i)) := Iff.rfl

/-- Not too many large logits in a lane. -/
theorem hits_of (b : ℕ) (hb : b < 16)
    (h : ∀ j, (Host.reduce IntOp.addi (fun i => (shapeCast Cert.Pre_fits.S16x100000x16 (hitV A) Cert.Pre_fits.Facts.shapeCasts_S16x20000x80_S16x100000x16 i).setWidth 32) (constantI Cert.Pre_fits.S_ 32 0#32) Cert.Pre_fits.Facts.reducesTo_S16x100000x16_S16x16_d1 Cert.Pre_fits.Facts.h_S_ j).toInt ≤ 128)
    (l : ℕ) (hl : l < 16) (T : Finset (ℕ × ℕ))
    (hT : ∀ p ∈ T, p.1 < 20000 ∧ p.2 < 80 ∧ p.2 % 16 = l ∧ ge (F := Ideal) (A (ix3 16 20000 80 b p.1 p.2))) : T.card ≤ 128 := by
  have h := h (ix2 16 16 b l)
  rw [red_card _ _ _ _ (by simp [Shape.numel, Fin.prod_univ_succ])] at h
  refine le_trans (Finset.card_le_card_of_injOn (fun p => ix3 16 100000 16 b ((80 * p.1 + p.2) / 16) l) (fun p hp => ?_) ?_) (Int.ofNat_le.1 h)
  · obtain ⟨h1, h2, h3, h4⟩ := hT p hp
    have ha : (80 * p.1 + p.2) / 16 < 100000 := by omega
    refine Finset.mem_coe.2 (Finset.mem_filter.2 ⟨Finset.mem_univ _, ?_, ?_⟩)
    · refine at2 _ ?_ ?_
      · exact (Shape.ReducesTo.drop_apply_val_of_eq _ _ 0 0).trans (ix3_0 hb)
      · exact (Shape.ReducesTo.drop_apply_val_of_eq _ _ 1 2).trans (ix3_2 hl)
    · rw [shapeCast_apply _ _ _ (ix3 16 20000 80 b p.1 p.2)]
      · exact h4
      · rw [Shape.rowMajor_val_three, Shape.rowMajor_val_three, ix3_0 hb, ix3_1 h1, ix3_2 h2, ix3_0 hb, ix3_1 ha, ix3_2 hl]
        simp
        omega
  · intro p hp p' hp' e
    obtain ⟨h1, h2, h3, h4⟩ := hT p hp
    obtain ⟨h1', h2', h3', h4'⟩ := hT p' hp'
    have ha : (80 * p.1 + p.2) / 16 < 100000 := by omega
    have ha' : (80 * p'.1 + p'.2) / 16 < 100000 := by omega
    have := congrArg (fun i : (⟨3, ![16, 100000, 16]⟩ : Shape).Idx => (i (1 : Fin 3)).val) e
    simp only [ix3_1 ha, ix3_1 ha'] at this
    exact Prod.ext (by omega) (by omega)

/-- Not too many rows with a large logit in a lane. -/
theorem rows_of (b : ℕ) (hb : b < 16)
    (h : ∀ j, (Host.reduce IntOp.addi (shapeCast Cert.Pre_fits.S16x1250x16 (Host.reduce IntOp.maxsi (fun i => (hitV A i).setWidth 32) (constantI Cert.Pre_fits.S_ 32 2147483648#32) Cert.Pre_fits.Facts.reducesTo_S16x20000x80_S16x20000_d2 Cert.Pre_fits.Facts.h_S_) Cert.Pre_fits.Facts.shapeCasts_S16x20000_S16x1250x16) (constantI Cert.Pre_fits.S_ 32 0#32) Cert.Pre_fits.Facts.reducesTo_S16x1250x16_S16x16_d1 Cert.Pre_fits.Facts.h_S_ j).toInt ≤ 128)
    (l : ℕ) (hl : l < 16) (T : Finset ℕ)
    (hT : ∀ s ∈ T, s < 1250 ∧ ∃ c < 80, ge (F := Ideal) (A (ix3 16 20000 80 b (16 * s + l) c))) : T.card ≤ 128 := by
  classical
  have h := h (ix2 16 16 b l)
  have hd : ∀ b q c, b < 16 → q < 20000 → c < 80 → Shape.ReducesTo.drop Cert.Pre_fits.Facts.reducesTo_S16x20000x80_S16x20000_d2 (ix3 16 20000 80 b q c) = ix2 16 20000 b q := by
    intro b q c hb hq hc
    refine at2 _ ?_ ?_
    · exact (Shape.ReducesTo.drop_apply_val_of_eq _ _ 0 0).trans (ix3_0 hb)
    · exact (Shape.ReducesTo.drop_apply_val_of_eq _ _ 1 1).trans (ix3_1 hq)
  have hm : (Host.reduce IntOp.maxsi (fun i => (hitV A i).setWidth 32) (constantI Cert.Pre_fits.S_ 32 2147483648#32) Cert.Pre_fits.Facts.reducesTo_S16x20000x80_S16x20000_d2 Cert.Pre_fits.Facts.h_S_)
      = fun j => (BitVec.ofBool (decide (∃ i, Shape.ReducesTo.drop Cert.Pre_fits.Facts.reducesTo_S16x20000x80_S16x20000_d2 i = j ∧ hitV A i = 1#1))).setWidth 32 := by
    funext j
    have h0 : (j (0 : Fin 2)).val < 16 := (j 0).isLt
    have h1 : (j (1 : Fin 2)).val < 20000 := (j 1).isLt
    exact red_max _ _ (fun _ => rfl) _ _ _ ⟨ix3 16 20000 80 (j (0 : Fin 2)).val (j (1 : Fin 2)).val 0, (hd _ _ _ h0 h1 (by decide)).trans (at2 j rfl rfl).symm⟩
  rw [hm] at h
  have h := le_of_eq_of_le (red_card (fun i => shapeCast Cert.Pre_fits.S16x1250x16 (fun j => BitVec.ofBool (decide (∃ i, Shape.ReducesTo.drop Cert.Pre_fits.Facts.reducesTo_S16x20000x80_S16x20000_d2 i = j ∧ hitV A i = 1#1))) Cert.Pre_fits.Facts.shapeCasts_S16x20000_S16x1250x16 i) _ _ _ (by simp [Shape.numel, Fin.prod_univ_succ])).symm h
  refine le_trans (Finset.card_le_card_of_injOn (fun s => ix3 16 1250 16 b s l) (fun s hs => ?_) ?_) (Int.ofNat_le.1 h)
  · obtain ⟨h1, c, hc, h4⟩ := hT s hs
    have hq : 16 * s + l < 20000 := by omega
    refine Finset.mem_coe.2 (Finset.mem_filter.2 ⟨Finset.mem_univ _, ?_, ?_⟩)
    · refine at2 _ ?_ ?_
      · exact (Shape.ReducesTo.drop_apply_val_of_eq _ _ 0 0).trans (ix3_0 hb)
      · exact (Shape.ReducesTo.drop_apply_val_of_eq _ _ 1 2).trans (ix3_2 hl)
    · rw [shapeCast_apply _ _ _ (ix2 16 20000 b (16 * s + l))]
      · rw [decide_eq_true ⟨ix3 16 20000 80 b (16 * s + l) c, hd _ _ _ hb hq hc, h4⟩]
        rfl
      · rw [Shape.rowMajor_val_two, Shape.rowMajor_val_three, ix2_val0 hb, ix2_val1 hq, ix3_0 hb, ix3_1 h1, ix3_2 hl]
        simp
        omega
  · intro s hs s' hs' e
    have := congrArg (fun i : (⟨3, ![16, 1250, 16]⟩ : Shape).Idx => (i (1 : Fin 3)).val) e
    simp only [ix3_1 (hT s hs).1, ix3_1 (hT s' hs').1] at this
    exact this

theorem max_bot : Ideal.ofBits .f32 0xFF800000#32 = ⊥ := by
  simp [Ideal.ofBits, Ideal.ieee, -EReal.coe_mul]

/-- Enough large logits before the last three queries of the last image. -/
theorem ahead_of
    (h : ∀ j, (384 : ℤ) ≤ (Host.reduce IntOp.addi (fun i => ((fun i => FloatOps.cmpf (F := Ideal) (φ := .f32) .oge (shapeCast Cert.Pre_fits.S19997x80 (extractStridedSlice Cert.Pre_fits.S1x19997x80 ![15, 0, 0] A Cert.Pre_fits.Facts.slices_S16x20000x80_S1x19997x80_15_0_0) Cert.Pre_fits.Facts.shapeCasts_S1x19997x80_S19997x80 i)
        (broadcastInDim Cert.Pre_fits.S19997x80 ![] Cert.Pre_fits.Facts.bcast_S_S19997x80 (maximumf (Host.reduce FloatOps.maximumf (shapeCast Cert.Pre_fits.S3x80 (extractStridedSlice Cert.Pre_fits.S1x3x80 ![15, 19997, 0] A Cert.Pre_fits.Facts.slices_S16x20000x80_S1x3x80_15_19997_0) Cert.Pre_fits.Facts.shapeCasts_S1x3x80_S3x80) (constant Cert.Pre_fits.S_ .f32 0xFF800000#32) Cert.Pre_fits.Facts.reducesTo_S3x80_S_d0_1 Cert.Pre_fits.Facts.h_S_) (constant Cert.Pre_fits.S_ .f32 0x4059999A#32)) i)) i).setWidth 32) (constantI Cert.Pre_fits.S_ 32 0#32) Cert.Pre_fits.Facts.reducesTo_S19997x80_S_d0_1 Cert.Pre_fits.Facts.h_S_ j).toInt) :
    ∃ (fl : EReal) (T : Finset (ℕ × ℕ)), 384 ≤ T.card ∧ ge (F := Ideal) fl ∧ (∀ p ∈ T, p.1 < 19997 ∧ p.2 < 80 ∧ fl ≤ A (ix3 16 20000 80 15 p.1 p.2)) ∧
      ∀ q c, 19997 ≤ q → q < 20000 → c < 80 → A (ix3 16 20000 80 15 q c) ≤ fl := by
  classical
  haveI := sub_
  let z : (⟨0, ![]⟩ : Shape).Idx := fun x => x.elim0
  obtain ⟨W, hW⟩ : ∃ W, W = Host.reduce (FloatOps.maximumf (F := Ideal) (φ := .f32)) (shapeCast Cert.Pre_fits.S3x80 (extractStridedSlice Cert.Pre_fits.S1x3x80 ![15, 19997, 0] A Cert.Pre_fits.Facts.slices_S16x20000x80_S1x3x80_15_19997_0) Cert.Pre_fits.Facts.shapeCasts_S1x3x80_S3x80) (constant Cert.Pre_fits.S_ .f32 0xFF800000#32) Cert.Pre_fits.Facts.reducesTo_S3x80_S_d0_1 Cert.Pre_fits.Facts.h_S_ := ⟨_, rfl⟩
  rw [← hW] at h
  obtain ⟨P, hP⟩ : ∃ P : IVec Cert.Pre_fits.S19997x80 1, P = fun i => Ideal.cmp .oge (shapeCast Cert.Pre_fits.S19997x80 (extractStridedSlice Cert.Pre_fits.S1x19997x80 ![15, 0, 0] A Cert.Pre_fits.Facts.slices_S16x20000x80_S1x19997x80_15_0_0) Cert.Pre_fits.Facts.shapeCasts_S1x19997x80_S19997x80 i)
      (broadcastInDim Cert.Pre_fits.S19997x80 ![] Cert.Pre_fits.Facts.bcast_S_S19997x80 (maximumf W (constant (F := Ideal) Cert.Pre_fits.S_ .f32 0x4059999A#32)) i) := ⟨_, rfl⟩
  have h : (384 : ℤ) ≤ (Host.reduce IntOp.addi (fun i => (P i).setWidth 32) (constantI Cert.Pre_fits.S_ 32 0#32) Cert.Pre_fits.Facts.reducesTo_S19997x80_S_d0_1 Cert.Pre_fits.Facts.h_S_ z).toInt := by
    rw [hP]
    exact h z
  rw [red_card _ _ _ _ (by simp [Shape.numel, Fin.prod_univ_succ])] at h
  refine ⟨max (W z) (Ideal.ofBits .f32 0x4059999A#32), (Finset.univ.filter fun i => Shape.ReducesTo.drop Cert.Pre_fits.Facts.reducesTo_S19997x80_S_d0_1 i = z ∧ P i = 1#1).image (fun i : (⟨2, ![19997, 80]⟩ : Shape).Idx => ((i (0 : Fin 2)).val, (i (1 : Fin 2)).val)), ?_, ?_, ?_, ?_⟩
  · rw [Finset.card_image_of_injective]
    · exact Int.ofNat_le.1 h
    · intro i i' e
      exact (at2 i (congrArg Prod.fst e) (congrArg Prod.snd e)).trans (at2 i' rfl rfl).symm
  · exact (ge_iff _).2 (le_max_right _ _)
  · intro p hp
    obtain ⟨i, hi, rfl⟩ := Finset.mem_image.1 hp
    have h0 : (i (0 : Fin 2)).val < 19997 := (i 0).isLt
    have h1 : (i (1 : Fin 2)).val < 80 := (i 1).isLt
    refine ⟨h0, h1, ?_⟩
    have hc := (Finset.mem_filter.1 hi).2.2
    rw [hP] at hc
    have hc := (oge_iff _ _).1 hc
    refine le_trans (le_of_eq ?_) (hc.trans (le_of_eq ?_))
    · show max (W z) _ = max (W _) _
      exact congrArg (fun v => max (W v) _) (Subsingleton.elim _ _)
    · rw [shapeCast_apply _ _ _ (ix3 1 19997 80 0 (i (0 : Fin 2)).val (i (1 : Fin 2)).val)]
      · refine extractStridedSlice_apply _ _ _ _ _ ?_
        intro a
        match a with
        | ⟨0, _⟩ => rfl
        | ⟨1, _⟩ => exact (ix3_1 (show (i (0 : Fin 2)).val < 20000 by omega)).trans ((Nat.zero_add _).symm.trans (congrArg (0 + ·) (ix3_1 h0).symm))
        | ⟨2, _⟩ => exact (ix3_2 h1).trans ((Nat.zero_add _).symm.trans (congrArg (0 + ·) (ix3_2 h1).symm))
      · rw [Shape.rowMajor_val_two, Shape.rowMajor_val_three, ix3_0 (by decide), ix3_1 h0, ix3_2 h1]
        simp
  · intro q c h1 h2 h3
    refine le_trans ?_ (le_max_left _ _)
    rw [hW]
    rw [show (FloatOps.maximumf (F := Ideal) (φ := .f32)) = (max : EReal → EReal → EReal) from rfl, Host.reduce_eq_fold]
    refine (Finset.le_fold_max _).2 (.inr ⟨ix2 3 80 (q - 19997) c, Finset.mem_filter.2 ⟨Finset.mem_univ _, Subsingleton.elim _ _⟩, le_of_eq ?_⟩)
    have hq : q - 19997 < 3 := by omega
    rw [shapeCast_apply _ _ _ (ix3 1 3 80 0 (q - 19997) c)]
    · refine (extractStridedSlice_apply _ _ _ _ (ix3 16 20000 80 15 q c) ?_).symm
      intro a
      match a with
      | ⟨0, _⟩ => rfl
      | ⟨1, _⟩ => exact (ix3_1 h2).trans ((show q = 19997 + (q - 19997) by omega).trans (congrArg (19997 + ·) (ix3_1 hq).symm))
      | ⟨2, _⟩ => exact (ix3_2 h3).trans ((show c = 0 + c by omega).trans (congrArg (0 + ·) (ix3_2 h3).symm))
    · rw [Shape.rowMajor_val_two, Shape.rowMajor_val_three, ix2_val0 hq, ix2_val1 h3, ix3_0 (by decide), ix3_1 hq, ix3_2 h3]
      simp

end

end Cert.Proof.Ker

end
-- ==== Proof.Good.lean ====
/-
  The condition gives what the call needs.
-/
module

public import proofs.«01_k».proof.Proof.Run
public import Idealize.ShloMosaic.Lib.Pipeline.ValueKit
public import Idealize.ShloMosaic.Lib.Pipeline.ArrRel
public import proofs.«01_k».proof.Proof.Count
public import proofs.«01_k».proof.Proof.Gen.Pre_fits

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SortNet
open Idealize.ShloMosaic.TcCoe Idealize.ShloMosaic.Tactic
open Idealize.ShloMosaic.Pipeline (Dat RDat Cfg Window)

/-! ### The maxima -/

/-- A place in a row. -/
def at1 (n k : ℕ) (h : k < n) : (⟨1, ![n]⟩ : Shape).Idx := fun a => match a with
  | ⟨0, _⟩ => (⟨k, h⟩ : Fin n)

theorem at1_0 {n k : ℕ} {h : k < n} : (at1 n k h (0 : Fin 1)).val = k := rfl

theorem fold_ge {ι : Type} (S : Finset ι) (f : ι → EReal) (z c : EReal) [Std.Commutative (FloatOps.maximumf (F := Ideal) (φ := .f32))] [Std.Associative (FloatOps.maximumf (F := Ideal) (φ := .f32))] :
    Iff (c ≤ S.fold (FloatOps.maximumf (F := Ideal) (φ := .f32)) z f) (c ≤ z ∨ ∃ i ∈ S, c ≤ f i) :=
  Finset.le_fold_max (s := S) (b := z) (f := f) c

theorem thr_pos : ((0 : ℝ) : EReal) < Ideal.ofBits .f32 0x4059999A#32 := by
  simp [Ideal.ofBits, Ideal.ieee, -EReal.coe_mul]

theorem low_pad : ¬ ge (F := Ideal) (Ideal.ofBits .f32 0xF149F2CA#32) := by
  rw [ge_iff, not_le]
  simp [Ideal.ofBits, Ideal.ieee, -EReal.coe_mul]
  norm_cast
  norm_num

/-- A row of the maxima is large when one of its logits is. -/
theorem max_row (A : S16x20000x80.Idx → Elt Ideal .f32) (b : ℕ) {k : ℕ} (hk : k < 20480) :
    Iff (ge (F := Ideal) (k0_pay3 (F := Ideal) (blkOf A b) (ix3 1 160 128 0 (k / 128 % 160) (k % 128))))
      (k < 20000 ∧ ∃ c < 80, ge (F := Ideal) (A (ix3 16 20000 80 b k c))) := by
  have hd : k / 128 % 160 < 160 := Nat.mod_lt _ (by decide)
  have hm : k % 128 < 128 := Nat.mod_lt _ (by decide)
  have e1 : k0_pay3 (F := Ideal) (blkOf A b) (ix3 1 160 128 0 (k / 128 % 160) (k % 128)) =
      concatenate S20480 0 [⟨S20000, multiReduction (F := Ideal) (φ := .f32) .maximumf [1] S20000 (k0_pay1 (blkOf A b)) 0xFF800000#32 reduces_S20000x80_S20000 (.inl rfl) rfl⟩, ⟨S480, broadcast S480 (Scalar.ofBits (F := Ideal) .f32 0xF149F2CA#32)⟩] concatenates_S20000_S480_S20480_d0
        (at1 20480 k hk) := by
    unfold k0_pay3
    refine (shapeCast_apply _ _ _ (ix2 160 128 (k / 128 % 160) (k % 128)) ?_).trans (shapeCast_apply _ _ _ _ ?_)
    · rw [Shape.rowMajor_val_two, Shape.rowMajor_val_three, ix2_val0 hd, ix2_val1 hm, ix3_0 (by decide), ix3_1 hd, ix3_2 hm]
      simp
    · rw [Shape.rowMajor_val_two, Shape.rowMajor_val_one, ix2_val0 hd, ix2_val1 hm]
      show k = k / 128 % 160 * 128 + k % 128
      omega
  refine (iff_of_eq (congrArg (ge (F := Ideal)) e1)).trans ?_
  by_cases h : k < 20000
  · refine (iff_of_eq (congrArg (ge (F := Ideal)) ((concatenate_pair_apply_left (t := S20480) (s₁ := S20000) (s₂ := S480) 0 _ _ _ (at1 20480 k hk) rfl (at1 20000 k h) (fun a => by rw [Subsingleton.elim a (0 : Fin 1)]; rfl)).trans (multiReduction_maximumf_eq_fold _ _ _ _ _ _)))).trans ?_
    rw [ge_iff]
    have hv : ∀ q c, q < 20000 → c < 80 → k0_pay1 (F := Ideal) (blkOf A b) (ix2 20000 80 q c) = A (ix3 16 20000 80 b q c) := fun q c hq hc => by
      refine (shapeCast_apply (blkOf A b) shapeCasts_S1x20000x80_S20000x80 (ix2 20000 80 q c) (ix3 1 20000 80 0 q c) ?_).trans ?_
      · rw [Shape.rowMajor_val_two, Shape.rowMajor_val_three, ix2_val0 hq, ix2_val1 hc, ix3_0 (by decide), ix3_1 hq, ix3_2 hc]
        simp
      · show A (ix3 16 20000 80 b _ _) = _
        rw [ix3_1 hq, ix3_2 hc]
    refine (fold_ge _ _ _ _).trans ⟨?_, ?_⟩
    · rintro (hbad | ⟨i, hi, hle⟩)
      · exact absurd (hbad.trans_eq max_bot) (not_le.2 (lt_of_lt_of_le (EReal.bot_lt_coe 0) (le_of_lt thr_pos)))
      · have hi := (Finset.mem_filter.1 hi).2
        have h0 : (i (0 : Fin 2)).val = k := (Shape.Reduces.drop_apply_val_of_eq reduces_S20000x80_S20000 _ (0 : Fin 1) (0 : Fin 2)).symm.trans (congrArg (fun j : S20000.Idx => (j (0 : Fin 1)).val) hi)
        have h1 : (i (1 : Fin 2)).val < 80 := (i 1).isLt
        refine ⟨h, _, h1, (ge_iff _).2 ?_⟩
        rw [← hv k _ h h1, ← at2 i h0 rfl]
        exact hle
    · rintro ⟨-, c, hc, hge⟩
      refine .inr ⟨ix2 20000 80 k c, Finset.mem_filter.2 ⟨Finset.mem_univ _, ?_⟩, ?_⟩
      · funext a
        rw [Subsingleton.elim a (0 : Fin 1)]
        exact Fin.ext ((Shape.Reduces.drop_apply_val_of_eq reduces_S20000x80_S20000 _ (0 : Fin 1) (0 : Fin 2)).trans (ix2_val0 h))
      · rw [hv k c h hc]
        exact (ge_iff _).1 hge
  · refine (iff_of_eq (congrArg (ge (F := Ideal)) (concatenate_pair_apply_right (t := S20480) (s₁ := S20000) (s₂ := S480) 0 _ _ _ (at1 20480 k hk) rfl rfl (at1 480 (k - 20000) (by omega)) (fun a ha => absurd (Subsingleton.elim _ _) ha) (show k - 20000 + 20000 = k by omega)))).trans ?_
    exact iff_of_false low_pad fun h' => h h'.1

/-- Where the maxima are large, a logit of the row is. -/
theorem mx_of (m : (ℓ : Loc nD τ sig) → Buf (Elt Ideal) ℓ) (d : Dev nD) {b : ℕ} {lg : ℕ → ℕ → EReal} (hlg : ∀ q < 20000, ∀ c < 80, lg q c = (gOf m d).xs b q c) :
    ∀ k < 20480, Iff (ge (F := Ideal) ((gOf m d).mx b k)) (k < 20000 ∧ ∃ c < 80, ge (F := Ideal) (lg k c)) := by
  have hlg : ∀ q < 20000, ∀ c < 80, lg q c = m ((d : Thread nD τ).loc main_arg0) (ix3 16 20000 80 b q c) := hlg
  refine fun k hk => (max_row (m ((d : Thread nD τ).loc main_arg0)) b hk).trans ?_
  refine and_congr_right fun hk => exists_congr fun c => and_congr_right fun hc => ?_
  rw [hlg k hk c hc]

/-- The condition bounds the large logits. -/
theorem few_of (m : (ℓ : Loc nD τ sig) → Buf (Elt Ideal) ℓ) (d : Dev nD)
    (h : Cert.Pre_fits.fn (F := Ideal) (m ((d : Thread nD τ).loc main_arg0)) (m ((d : Thread nD τ).loc main_arg1)) (m ((d : Thread nD τ).loc main_arg2)) = fun _ => 1#1)
    {b : ℕ} (hb : b < 16) {lg : ℕ → ℕ → EReal} (hlg : ∀ q < 20000, ∀ c < 80, lg q c = (gOf m d).xs b q c) : Few lg b := by
  obtain ⟨-, h2, h3, h4⟩ := parts _ _ _ h
  have hlg : ∀ q < 20000, ∀ c < 80, lg q c = m ((d : Thread nD τ).loc main_arg0) (ix3 16 20000 80 b q c) := hlg
  refine ⟨?_, ?_, ?_⟩
  · intro l hl T hT
    refine hits_of _ b hb h2 l hl T fun p hp => ?_
    obtain ⟨a1, a2, a3, a4⟩ := hT p hp
    exact ⟨a1, a2, a3, hlg _ a1 _ a2 ▸ a4⟩
  · intro l hl T hT
    refine rows_of _ b hb h3 l hl T fun s hs => ?_
    obtain ⟨a1, c, a2, a3⟩ := hT s hs
    exact ⟨a1, c, a2, hlg (16 * s + l) (by omega) _ a2 ▸ a3⟩
  · rintro rfl
    obtain ⟨fl, T, a1, a2, a3, a4⟩ := ahead_of _ h4
    refine ⟨fl, T, a1, a2, fun p hp => ?_, fun q c b1 b2 b3 => ?_⟩
    · obtain ⟨c1, c2, c3⟩ := a3 p hp
      exact ⟨c1, c2, (hlg p.1 (by omega) _ c2).symm ▸ c3⟩
    · exact (hlg q b2 _ b3).symm ▸ a4 q c b1 b2 b3

/-- The condition gives what the call needs. -/
theorem good_of (m : (ℓ : Loc nD τ sig) → Buf (Elt Ideal) ℓ) (d : Dev nD)
    (h : Cert.Pre_fits.fn (F := Ideal) (m ((d : Thread nD τ).loc main_arg0)) (m ((d : Thread nD τ).loc main_arg1)) (m ((d : Thread nD τ).loc main_arg2)) = fun _ => 1#1) :
    Good (gOf m d) := fun _ hb _ hlg =>
  fits_of hb (mx_of m d hlg) (few_of m d h hb hlg)

end Cert.Proof.Ker

end
-- ==== Proof.Frame.lean ====
/-
  The program ends with its arguments unchanged.
-/
module

public import proofs.«01_k».proof.Proof.Run
public import Idealize.ShloMosaic.Lib.Pipeline.ValueKit
public import Idealize.ShloMosaic.Lib.Pipeline.ArrRel
public import proofs.«01_k».proof.Defs
public import proofs.«01_k».proof.Proof.Gen.Pre_fits
public import proofs.«01_k».proof.Proof.Good

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SortNet
open Idealize.ShloMosaic.TcCoe Idealize.ShloMosaic.Tactic
open Idealize.ShloMosaic.Pipeline (Dat RDat Cfg Window)

theorem in_after (z : Ref sig .tc) (hz : z.isScoped = false) (h : dr z ∉ insD) : dr z ∈ afterD :=
  after_pair z z hz hz h h (Finset.mem_insert_self _ _)

/-- The program ends, its arguments unchanged. -/
theorem ker_frame : Cert.quiescent_KernelIdeal := by
  intro m ρ hpre
  refine (θ_run Cert.KernelIdeal.defs _ _).mono (fun r h => ⟨fun c => ?_, h.2⟩) (run_main m ρ fun d => good_of m d (hpre d))
  obtain ⟨B, hB, hm⟩ := h.1 c
  exact ⟨(hm main_arg0 (in_after main_arg0 (by decide) (by decide))).trans hB.a0, (hm main_arg1 (in_after main_arg1 (by decide) (by decide))).trans hB.a1,
    (hm main_arg2 (in_after main_arg2 (by decide) (by decide))).trans hB.a2⟩

end Cert.Proof.Ker

end
-- ==== Proof.RefEnd.lean ====
/-
  The reference, run to its end.
-/
module

public import proofs.«01_k».proof.Defs
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The reference ends, its arguments unchanged. -/
theorem ref_frame : Cert.quiescent_ReferenceIdeal := by
  intro m ρ _
  exact (θ_run Cert.ReferenceIdeal.defs _ _).mono (fun r h => ⟨fun c => ⟨(h c).2.2.2.2.1, (h c).2.2.2.2.2.1, (h c).2.2.2.2.2.2⟩,
      Idealize.ShloMosaic.sem_eq_zero_of_no_sems (by decide) r.2⟩)
    (Cert.ReferenceIdeal.Value.run (F := Ideal) m ρ)

/-- The same under the condition. -/
theorem ref_frame_fits [Cert.Pre_fits.Facts] : Cert.quiescent_ReferenceIdeal_pre_fits := fun m ρ _ => ref_frame m ρ trivial

end Cert.Proof

end
-- ==== Proof.Rank.lean ====
/-
  The first places hold the largest scores.
-/
module

public import proofs.«01_k».proof.Proof.Good
public import Idealize.ShloMosaic.Lib.Pipeline.ValueKit
public import Idealize.ShloMosaic.Lib.Pipeline.ArrRel
public import proofs.«01_k».proof.Proof.Count
public import proofs.«01_k».proof.Proof.Gen.Pre_fits

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SortNet
open Idealize.ShloMosaic.TcCoe Idealize.ShloMosaic.Tactic
open Idealize.ShloMosaic.Pipeline (Dat RDat Cfg Window)

/-! ### The first places -/

section
variable {mx : ℕ → EReal} {lg : ℕ → ℕ → EReal} {b : ℕ}

/-- The score of a number. -/
def scoOf (lg : ℕ → ℕ → EReal) (n : ℕ) : EReal := sgOf (lg (n / 80) (n % 80))

/-- A number by its score, then by itself. -/
def kn (lg : ℕ → ℕ → EReal) (n : ℕ) : EReal ×ₗ ℤᵒᵈ := key (scoOf lg n) (BitVec.ofNat 32 n)

theorem sco_num {q c : ℕ} (hc : c < 80) : scoOf lg (80 * q + c) = sgOf (lg q c) := by
  unfold scoOf
  rw [show (80 * q + c) / 80 = q by omega, show (80 * q + c) % 80 = c by omega]

/-- The first places hold numbers, and before each is every number of a larger score. -/
theorem firsts (hmx : ∀ k < 20480, Iff (ge (F := Ideal) (mx k)) (k < 20000 ∧ ∃ c < 80, ge (F := Ideal) (lg k c))) (hF : Few lg b) {N : ℕ} {s : ℕ → EReal} {X : ℕ → BitVec 32}
    (hN : ∀ l < 16, 80 * (hotL (F := Ideal) mx 1280 l).length ≤ N) (hO : Order mx lg sgOf N s X) (T : Finset (ℕ × ℕ)) (hTc : 300 ≤ T.card)
    (hT : ∀ p ∈ T, p.1 < 20000 ∧ p.2 < 80 ∧ ge (F := Ideal) (lg p.1 p.2)) :
    ∃ V : ℕ → ℕ, ∀ k < 300, (X k = BitVec.ofNat 32 (V k) ∧ s k = scoOf lg (V k)) ∧
      (V k < 1600000 ∧ (∀ n < 1600000, kn lg (V k) < kn lg n → ∃ j < k, V j = n) ∧ ∀ j < k, V j ≠ V k) := by
  obtain ⟨E, hE, hinj, hanti⟩ : ∃ E : ℕ → ℕ, (∀ k < 2048, (s k, X k) = ent mx lg sgOf N (E k)) ∧ (∀ j < 2048, ∀ k < 2048, E j = E k → j = k) ∧
      ∀ j k, j ≤ k → k < 2048 → key (s k) (X k) ≤ key (s j) (X j) := by
    obtain ⟨π, hπ, hanti⟩ := hO
    refine ⟨fun k => if h : k < 2048 then (π ⟨k, by norm_num; exact h⟩).val else 0, fun k hk => ?_, fun j hj k hk e => ?_, fun j k hjk hk => ?_⟩
    · simp only [dif_pos hk]
      exact hπ ⟨k, by norm_num; exact hk⟩
    · simp only [dif_pos hj, dif_pos hk] at e
      exact congrArg Fin.val (π.injective (Fin.ext e))
    · exact hanti (a := (⟨j, by norm_num; omega⟩ : Fin (2 ^ 11))) (b := ⟨k, by norm_num; omega⟩) (Fin.mk_le_mk.2 hjk)
  have real : ∀ k < 300, ∃ p, (candL (F := Ideal) mx lg N (E k % 16))[E k / 16]? = some p := by
    intro k hk
    by_contra hbad
    have hnone : (candL (F := Ideal) mx lg N (E k % 16))[E k / 16]? = none := Option.eq_none_iff_forall_ne_some.2 fun p hp => hbad ⟨p, hp⟩
    have e' : ent mx lg sgOf N (E k) = (k2_pay239 (F := Ideal) (ln 0), 2147483647#32) := by
      unfold ent
      rw [hnone]
      rfl
    have hs : s k = k2_pay239 (F := Ideal) (ln 0) := congrArg Prod.fst ((hE k (by omega)).trans e')
    have hpl : ∀ p ∈ T, ∃ j < k, X j = num p := by
      intro p hp
      obtain ⟨hp1, hp2, hpf⟩ := hT p hp
      obtain ⟨j, hj, hsj, hX⟩ := place hmx hF hN hO hp1 hp2 hpf
      refine ⟨j, ?_, hX⟩
      by_contra hjk
      refine absurd (hanti k j (not_lt.1 hjk) hj) (not_le.2 ((key_lt _ _ _ _).2 (.inl ?_)))
      rw [hs, hsj]
      exact none_neg _
    choose! f hf1 hf2 using hpl
    have : T.card ≤ (Finset.range k).card := Finset.card_le_card_of_injOn f (fun p hp => Finset.mem_coe.2 (Finset.mem_range.2 (hf1 p hp))) (by
      intro p hp p' hp' e
      have hn : num p = num p' := (hf2 p hp).symm.trans ((congrArg X e).trans (hf2 p' hp'))
      have := congrArg BitVec.toNat hn
      obtain ⟨h1, h2, -⟩ := hT p hp
      obtain ⟨h1', h2', -⟩ := hT p' hp'
      rw [num_toNat h1 h2, num_toNat h1' h2'] at this
      exact Prod.ext (by omega) (by omega))
    rw [Finset.card_range] at this
    omega
  choose! P hP using real
  have hm : ∀ k < 300, (P k).1 < 20000 ∧ (P k).2 < 80 ∧ (P k).2 % 16 = E k % 16 ∧ ge (F := Ideal) (lg (P k).1 (P k).2) := fun k hk =>
    mem_cand hmx (Nat.mod_lt _ (by decide)) (List.mem_of_getElem? (hP k hk))
  have he : ∀ k < 300, s k = sgOf (lg (P k).1 (P k).2) ∧ X k = num (P k) := by
    intro k hk
    have e : ent mx lg sgOf N (E k) = (sgOf (lg (P k).1 (P k).2), num (P k)) := by
      unfold ent
      rw [hP k hk]
      rfl
    have e' := (hE k (by omega)).trans e
    exact ⟨congrArg Prod.fst e', congrArg Prod.snd e'⟩
  refine ⟨fun k => 80 * (P k).1 + (P k).2, fun k hk => ?_⟩
  obtain ⟨c1, c2, c3, c4⟩ := hm k hk
  obtain ⟨hs, hX⟩ := he k hk
  refine ⟨⟨hX, hs.trans (sco_num c2).symm⟩, by show 80 * (P k).1 + (P k).2 < 1600000; omega, fun n hn hlt => ?_, fun j hj e => ?_⟩
  · have hkk : kn lg (80 * (P k).1 + (P k).2) = key (s k) (X k) := by
      unfold kn
      rw [sco_num c2, hs, hX]
    have hlt : kn lg (80 * (P k).1 + (P k).2) < kn lg n := hlt
    have hle : scoOf lg (80 * (P k).1 + (P k).2) ≤ scoOf lg n := by
      rcases (key_lt _ _ _ _).1 hlt with h | ⟨h, -⟩
      · exact h.le
      · exact h.ge
    have hge : ge (F := Ideal) (lg (n / 80) (n % 80)) := by
      by_contra hng
      rw [ge_iff, not_le] at hng
      have := sg_lt (hng.trans_le ((ge_iff _).1 c4))
      rw [sco_num c2] at hle
      exact absurd hle (not_le.2 this)
    obtain ⟨j, hj, hsj, hXj⟩ := place hmx hF hN hO (show n / 80 < 20000 by omega) (Nat.mod_lt _ (by decide)) hge
    have hnn : 80 * (n / 80) + n % 80 = n := by omega
    have hkj : kn lg n = key (s j) (X j) := by
      rw [hsj, hXj]
      show key (scoOf lg n) (BitVec.ofNat 32 n) = key (scoOf lg n) (BitVec.ofNat 32 (80 * (n / 80) + n % 80))
      rw [hnn]
    have hjk : j < k := by
      by_contra hjk
      rw [hkk, hkj] at hlt
      exact absurd (hanti k j (not_lt.1 hjk) hj) (not_le.2 hlt)
    refine ⟨j, hjk, ?_⟩
    have := congrArg BitVec.toNat ((he j (by omega)).2.symm.trans hXj)
    obtain ⟨d1, d2, -, -⟩ := hm j (by omega)
    rw [num_toNat d1 d2, num_toNat (show n / 80 < 20000 by omega) (Nat.mod_lt _ (by decide))] at this
    exact this.trans hnn
  · have e : 80 * (P j).1 + (P j).2 = 80 * (P k).1 + (P k).2 := e
    obtain ⟨d1, d2, d3, d4⟩ := hm j (by omega)
    have ep : P j = P k := Prod.ext (by omega) (by omega)
    have el : E j % 16 = E k % 16 := by rw [← d3, ← c3, ep]
    have h1 := hP j (by omega)
    have h2 := hP k hk
    rw [ep, el] at h1
    obtain ⟨hlt, -⟩ := List.getElem?_eq_some_iff.1 h1
    have := (List.getElem?_inj (i := E j / 16) (j := E k / 16) hlt (cand_nodup hmx N (E k % 16))).1 (h1.trans h2.symm)
    have := hinj j (by omega) k (by omega) (by omega)
    omega

/-- Two ways to list the largest agree. -/
theorem firsts_eq {α : Type} [Preorder α] {V U : ℕ → ℕ} {κ : ℕ → α} {M : ℕ} (hM : 300 ≤ M)
    (hV : ∀ k < 300, V k < M ∧ (∀ n < M, κ (V k) < κ n → ∃ j < k, V j = n) ∧ ∀ j < k, V j ≠ V k)
    (hU : ∀ k < M, U k < M) (hsur : ∀ n < M, ∃ k < M, U k = n) (hst : ∀ i j, i < j → j < M → κ (U j) < κ (U i)) : ∀ k < 300, V k = U k := by
  intro k
  induction k using Nat.strong_induction_on with
  | _ k ih =>
    intro hk
    obtain ⟨h1, h2, h3⟩ := hV k hk
    obtain ⟨i, hi, hUi⟩ := hsur _ h1
    rcases lt_trichotomy i k with h | h | h
    · exact absurd ((ih i h (by omega)).trans hUi) (h3 i h)
    · rw [← hUi, h]
    · obtain ⟨j, hj, e⟩ := h2 (U k) (hU k (by omega)) (by rw [← hUi]; exact hst k i h hi)
      have := hst j k hj (by omega)
      rw [← ih j hj (by omega), e] at this
      exact absurd this (lt_irrefl _)

end

/-- Enough large logits in every image. -/
theorem many_of [Cert.Pre_fits.Facts] (A : FVec Ideal Sx .f32) (b : ℕ) (hb : b < 16)
    (h : ∀ j, (300 : ℤ) ≤ (Host.reduce IntOp.addi (fun i => (hitV A i).setWidth 32) (constantI Cert.Pre_fits.S_ 32 0#32) Cert.Pre_fits.Facts.reducesTo_S16x20000x80_S16_d1_2 Cert.Pre_fits.Facts.h_S_ j).toInt) :
    ∃ T : Finset (ℕ × ℕ), 300 ≤ T.card ∧ ∀ p ∈ T, p.1 < 20000 ∧ p.2 < 80 ∧ ge (F := Ideal) (A (ix3 16 20000 80 b p.1 p.2)) := by
  classical
  have h := h (at1 16 b hb)
  rw [red_card _ _ _ _ (by simp [Shape.numel, Fin.prod_univ_succ])] at h
  have h0 : ∀ i : (⟨3, ![16, 20000, 80]⟩ : Shape).Idx, Shape.ReducesTo.drop Cert.Pre_fits.Facts.reducesTo_S16x20000x80_S16_d1_2 i = at1 16 b hb → (i (0 : Fin 3)).val = b := fun i hi =>
    (Shape.ReducesTo.drop_apply_val_of_eq Cert.Pre_fits.Facts.reducesTo_S16x20000x80_S16_d1_2 i (0 : Fin 1) (0 : Fin 3)).symm.trans (congrArg (fun j : (⟨1, ![16]⟩ : Shape).Idx => (j (0 : Fin 1)).val) hi)
  refine ⟨(Finset.univ.filter fun i => Shape.ReducesTo.drop Cert.Pre_fits.Facts.reducesTo_S16x20000x80_S16_d1_2 i = at1 16 b hb ∧ hitV A i = 1#1).image
    (fun i : (⟨3, ![16, 20000, 80]⟩ : Shape).Idx => ((i (1 : Fin 3)).val, (i (2 : Fin 3)).val)), ?_, ?_⟩
  · rw [Finset.card_image_of_injOn]
    · exact Int.ofNat_le.1 h
    · intro i hi i' hi' e
      have a0 := h0 i (Finset.mem_filter.1 (Finset.mem_coe.1 hi)).2.1
      have a0' := h0 i' (Finset.mem_filter.1 (Finset.mem_coe.1 hi')).2.1
      exact (eq_ix3 i a0 (congrArg Prod.fst e) (congrArg Prod.snd e)).trans (eq_ix3 i' a0' rfl rfl).symm
  · intro p hp
    obtain ⟨i, hi, rfl⟩ := Finset.mem_image.1 hp
    obtain ⟨-, a0, a1⟩ := Finset.mem_filter.1 hi
    refine ⟨(i 1).isLt, (i 2).isLt, ?_⟩
    rw [← eq_ix3 i (h0 i a0) rfl rfl]
    exact a1

end Cert.Proof.Ker

end
-- ==== Proof.Sort.lean ====
/-
  What the reference puts first.
-/
module

public import proofs.«01_k».proof.Proof.Good
public import Idealize.ShloMosaic.Lib.Pipeline.ValueKit
public import Idealize.ShloMosaic.Lib.Pipeline.ArrRel
public import Idealize.ShloMosaic.Lib.SortFacts
public import proofs.«01_k».proof.Proof.Gen.Pre_fits

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SortNet
open Idealize.ShloMosaic.TcCoe Idealize.ShloMosaic.Tactic
open Idealize.ShloMosaic.Pipeline (Dat RDat Cfg Window)

/-! ### A stable sort by score is a sort by score and place -/

theorem stable_eq {ι : Type} [LinearOrder ι] (R B : ι → ι → Bool) (l : List ι) (hl : l.Pairwise (· < ·)) (h : ∀ a b, a < b → R b a = B b a) :
    stableSort R l = stableSort B l := by
  induction l with
  | nil => rfl
  | cons a l ih =>
    rw [List.pairwise_cons] at hl
    show insertBefore R a (stableSort R l) = insertBefore B a (stableSort B l)
    rw [ih hl.2]
    exact insertBefore_congr R B a _ fun b hb => h a b (hl.1 b ((perm_stableSort B l).mem_iff.mp hb))

theorem sorted_eq {n : ℕ} (R B : Fin n → Fin n → Bool) (h : ∀ a b, a < b → R b a = B b a) : sortedFrom R = sortedFrom B := by
  have e : sortPositions n R = sortPositions n B := stable_eq R B _ (List.pairwise_lt_finRange n) h
  have g : ∀ (l l' : List (Fin n)) (_ : l = l') (i : ℕ) (h : i < l.length) (h' : i < l'.length), l.get ⟨i, h⟩ = l'.get ⟨i, h'⟩ := by
    rintro l _ rfl i _ _
    rfl
  funext k
  exact g _ _ e _ _ _

theorem gt_bit (x y : EReal) : (FloatOps.cmpfTotal (F := Ideal) (φ := .f32) .gt x y == 1#1) = decide (y < x) := by
  show (BitVec.ofBool (decide (y < x)) == 1#1) = _
  by_cases h : y < x <;> simp [h]

/-- The order of a stable sort of `n` scores. -/
theorem sorted_by {n : ℕ} (hn : n ≤ 2 ^ 31) (f : ℕ → EReal) :
    ∃ U : ℕ → ℕ, (∀ k < n, U k < n) ∧ (∀ i < n, ∃ k < n, U k = i) ∧ (∀ i j, i < j → j < n → key (f (U j)) (BitVec.ofNat 32 (U j)) < key (f (U i)) (BitVec.ofNat 32 (U i))) ∧
      ∀ k : Fin n, (sortedFrom (fun a b : Fin n => FloatOps.cmpfTotal (F := Ideal) (φ := .f32) .gt (f a.val) (f b.val) == 1#1) k).val = U k.val := by
  let κ : Fin n → EReal ×ₗ ℤᵒᵈ := fun a => key (f a.val) (BitVec.ofNat 32 a.val)
  have hi : ∀ a : Fin n, (BitVec.ofNat 32 a.val).toInt = (a.val : ℤ) := by
    intro a
    have := a.isLt
    have e : (BitVec.ofNat 32 a.val).toNat = a.val := by rw [BitVec.toNat_ofNat]; omega
    rw [BitVec.toInt_eq_toNat_of_lt (by rw [e]; omega), e]
  let B : Fin n → Fin n → Bool := fun a b => decide (κ b < κ a)
  have hR : sortedFrom (fun a b : Fin n => FloatOps.cmpfTotal (F := Ideal) (φ := .f32) .gt (f a.val) (f b.val) == 1#1) = sortedFrom B := by
    refine sorted_eq _ _ fun a b hab => ?_
    rw [gt_bit]
    show decide (f a.val < f b.val) = decide (κ a < κ b)
    refine decide_eq_decide.2 ?_
    have : a.val < b.val := hab
    rw [show Iff (κ a < κ b) _ from key_lt _ _ _ _, hi, hi]
    constructor
    · exact .inl
    · rintro (h | ⟨-, h⟩)
      · exact h
      · omega
  have hκ : ∀ a b : Fin n, κ a = κ b → a = b := by
    intro a b e
    have := congrArg BitVec.toInt (key_inj e).2
    rw [hi, hi] at this
    exact Fin.ext (by omega)
  have hB : ∀ i j : Fin n, i < j → κ (sortedFrom B j) < κ (sortedFrom B i) := by
    intro i j hij
    have h := sortedFrom_noInversion B B (fun a b h => ?_) (fun _ _ h => h) (fun a b c h h' => ?_) i j hij
    · have h : ¬ κ (sortedFrom B i) < κ (sortedFrom B j) := of_decide_eq_false h
      refine lt_of_le_of_ne (not_lt.1 h) fun e => ?_
      exact absurd (sortedFrom_injective B (hκ _ _ e)) (ne_of_gt hij)
    · have h : κ b < κ a := of_decide_eq_true h
      exact decide_eq_false (not_lt.2 h.le)
    · have h : ¬ κ b < κ a := of_decide_eq_false h
      have h' : ¬ κ c < κ b := of_decide_eq_false h'
      exact decide_eq_false (not_lt.2 ((not_lt.1 h).trans (not_lt.1 h')))
  refine ⟨fun k => if h : k < n then (sortedFrom B ⟨k, h⟩).val else 0, fun k hk => ?_, fun i hi => ?_, fun i j hij hj => ?_, fun k => ?_⟩
  · simp only [dif_pos hk]
    exact (sortedFrom B ⟨k, hk⟩).isLt
  · obtain ⟨k, hk⟩ := sortedFrom_surjective B ⟨i, hi⟩
    exact ⟨k.val, k.isLt, by simp only [dif_pos k.isLt]; exact congrArg Fin.val hk⟩
  · simp only [dif_pos hj, dif_pos (hij.trans hj)]
    exact hB ⟨i, hij.trans hj⟩ ⟨j, hj⟩ hij
  · simp only [dif_pos k.isLt]
    rw [hR]

theorem along2 {n m : ℕ} [NeZero n] [NeZero m] {b k : ℕ} (hb : b < n) (i : Fin m) : (ix2 n m b k).along (1 : Fin 2) i = ix2 n m b i.val := by
  refine at2 _ ?_ ?_
  · exact (congrArg Fin.val (Function.update_of_ne (show (0 : Fin 2) ≠ 1 by decide) _ _)).trans (ix2_val0 hb)
  · exact congrArg Fin.val (Function.update_self _ _ _)

theorem along_self {n m : ℕ} [NeZero n] [NeZero m] {b k : ℕ} (i : Fin m) : ((ix2 n m b k).along (1 : Fin 2) i (1 : Fin 2)).val = i.val :=
  congrArg Fin.val (Function.update_self _ _ _)

/-- The largest scores of every image, and their places. -/
theorem top_row {N : ℕ} [NeZero N] (hN : 300 ≤ N) (hN' : N ≤ 2 ^ 31) (x : (⟨2, ![16, N]⟩ : Shape).Idx → EReal) (h : (⟨2, ![16, N]⟩ : Shape).Slices (fun _ => 0) ⟨2, ![16, 300]⟩) (b : ℕ) (hb : b < 16) :
    ∃ U : ℕ → ℕ, (∀ k < N, U k < N) ∧ (∀ i < N, ∃ k < N, U k = i) ∧
      (∀ i j, i < j → j < N → key (x (ix2 16 N b (U j))) (BitVec.ofNat 32 (U j)) < key (x (ix2 16 N b (U i))) (BitVec.ofNat 32 (U i))) ∧
      ∀ k < 300, (Host.topK ⟨2, ![16, 300]⟩ 1 (FloatOps.cmpfTotal (F := Ideal) (φ := .f32) .gt) x h).1 (ix2 16 300 b k) = x (ix2 16 N b (U k)) ∧
        (Host.topK ⟨2, ![16, 300]⟩ 1 (FloatOps.cmpfTotal (F := Ideal) (φ := .f32) .gt) x h).2 (ix2 16 300 b k) = BitVec.ofNat 32 (U k) := by
  obtain ⟨U, h1, h2, h3, h4⟩ := sorted_by (n := N) hN' fun n => x (ix2 16 N b n)
  refine ⟨U, h1, h2, h3, fun k hk => ?_⟩
  have hk' : k < N := by omega
  have hcut : ∀ a : Fin 2, (ix2 16 N b k a).val = 0 + (ix2 16 300 b k a).val := fun a => match a with
    | ⟨0, _⟩ => (ix2_val0 hb).trans ((Nat.zero_add _).symm.trans (congrArg (0 + ·) (ix2_val0 hb).symm))
    | ⟨1, _⟩ => (ix2_val1 hk').trans ((Nat.zero_add _).symm.trans (congrArg (0 + ·) (ix2_val1 hk).symm))
  have hπ : (sortedFrom (fun a a' : Fin N => FloatOps.cmpfTotal (F := Ideal) (φ := .f32) .gt (x ((ix2 16 N b k).along (1 : Fin 2) a)) (x ((ix2 16 N b k).along (1 : Fin 2) a')) == 1#1)
      (ix2 16 N b k (1 : Fin 2))).val = U k := by
    have e : (fun a a' : Fin N => FloatOps.cmpfTotal (F := Ideal) (φ := .f32) .gt (x ((ix2 16 N b k).along (1 : Fin 2) a)) (x ((ix2 16 N b k).along (1 : Fin 2) a')) == 1#1)
        = fun a a' : Fin N => FloatOps.cmpfTotal (F := Ideal) (φ := .f32) .gt (x (ix2 16 N b a.val)) (x (ix2 16 N b a'.val)) == 1#1 := by
      funext a a'
      rw [along2 hb, along2 hb]
    rw [e]
    exact (h4 _).trans (congrArg U (ix2_val1 hk'))
  let I : IVec ⟨2, ![16, N]⟩ 32 := fun i => if hd : 1 < (⟨2, ![16, N]⟩ : Shape).rank then iotaInDim ⟨2, ![16, N]⟩ 32 ⟨1, hd⟩ i else 0#32
  let vi := Host.sort2 ⟨2, ![16, N]⟩ 1 (fun l r => FloatOps.cmpfTotal (F := Ideal) (φ := .f32) .gt l.1 r.1) x I
  constructor
  · show extractStridedSlice ⟨2, ![16, 300]⟩ (fun _ => 0) vi.1 h (ix2 16 300 b k) = _
    refine (extractStridedSlice_apply (fun _ => 0) vi.1 h (ix2 16 300 b k) (ix2 16 N b k) hcut).trans ?_
    show x ((ix2 16 N b k).along (1 : Fin 2) _) = _
    refine (congrArg x (along2 hb _)).trans ?_
    exact congrArg (fun v => x (ix2 16 N b v)) hπ
  · show extractStridedSlice ⟨2, ![16, 300]⟩ (fun _ => 0) vi.2 h (ix2 16 300 b k) = _
    refine (extractStridedSlice_apply (fun _ => 0) vi.2 h (ix2 16 300 b k) (ix2 16 N b k) hcut).trans ?_
    show BitVec.ofNat 32 ((ix2 16 N b k).along (1 : Fin 2) _ (1 : Fin 2)).val = _
    exact congrArg (BitVec.ofNat 32) ((along_self _).trans hπ)

end Cert.Proof.Ker

end
-- ==== Proof.RefVal.lean ====
/-
  What the reference computes, element by element.
-/
module

public import proofs.«01_k».proof.Proof.Good
public import proofs.«01_k».proof.Proof.Gen.ReferenceIdeal
public import proofs.«01_k».proof.Proof.Gen.ReferenceIdeal.Run
public import Idealize.ShloMosaic.Lib.Pipeline.ValueKit
public import Idealize.ShloMosaic.Lib.ReduceAll

@[expose] public section

noncomputable section

namespace Cert.Proof.Ref

open Cert.ReferenceIdeal Cert.ReferenceIdeal.Gen
open Cert.Proof.Ker (ix2 ix3 ix2_val0 ix2_val1 ix3_0 ix3_1 ix3_2 eq_ix3 at2 sgOf sgOf_eq one_bits half)
open Idealize.ShloMosaic Idealize.ShloMosaic.TcCoe Idealize.SL.Sem Idealize.ShloMosaic.StableHlo

/-- A rank-four index from its coordinates. -/
def ix4 (z a n m : ℕ) [NeZero z] [NeZero a] [NeZero n] [NeZero m] (c b p q : ℕ) : (⟨4, ![z, a, n, m]⟩ : Shape).Idx :=
  Fin.cons (⟨c % z, Nat.mod_lt _ (NeZero.pos z)⟩ : Fin z) (ix3 a n m b p q)

section
variable {z a n m : ℕ} [NeZero z] [NeZero a] [NeZero n] [NeZero m] {c b p q : ℕ}

theorem ix4_0 (h : c < z) : (ix4 z a n m c b p q (0 : Fin 4)).val = c := Nat.mod_eq_of_lt h
theorem ix4_1 (h : b < a) : (ix4 z a n m c b p q (1 : Fin 4)).val = b := Nat.mod_eq_of_lt h
theorem ix4_2 (h : p < n) : (ix4 z a n m c b p q (2 : Fin 4)).val = p := Nat.mod_eq_of_lt h
theorem ix4_3 (h : q < m) : (ix4 z a n m c b p q (3 : Fin 4)).val = q := Nat.mod_eq_of_lt h

theorem eq_ix4 (x : (⟨4, ![z, a, n, m]⟩ : Shape).Idx) : x = ix4 z a n m (x (0 : Fin 4)).val (x (1 : Fin 4)).val (x (2 : Fin 4)).val (x (3 : Fin 4)).val := by
  funext e
  match e with
  | ⟨0, _⟩ => exact Fin.ext (Nat.mod_eq_of_lt (x (0 : Fin 4)).isLt).symm
  | ⟨1, _⟩ => exact Fin.ext (Nat.mod_eq_of_lt (x (1 : Fin 4)).isLt).symm
  | ⟨2, _⟩ => exact Fin.ext (Nat.mod_eq_of_lt (x (2 : Fin 4)).isLt).symm
  | ⟨3, _⟩ => exact Fin.ext (Nat.mod_eq_of_lt (x (3 : Fin 4)).isLt).symm

end

/-! ### The terms -/

/-- The scores. -/
def refP (x0 : FVec Ideal S16x20000x80 .f32) : FVec Ideal S16x1600000 .f32 :=
  shapeCast _ (Host.divf (broadcastInDim S16x20000x80 ![] bcast_S_S16x20000x80 (constant S_ .f32 0x3F800000#32)) (addf (broadcastInDim S16x20000x80 ![] bcast_S_S16x20000x80 (constant S_ .f32 0x3F800000#32)) (Host.exp (Host.negf x0)))) shapeCasts_S16x20000x80_S16x1600000

/-- The largest scores and their places. -/
def refT (x0 : FVec Ideal S16x20000x80 .f32) : (FVec Ideal S16x300 .f32) × IVec S16x300 32 :=
  Host.topK S16x300 1 (FloatOps.cmpfTotal .gt) (refP x0) sliceFits_S16x1600000_S16x300

/-- The queries of the places. -/
def refQ (I : IVec S16x300 32) : IVec S16x300 32 :=
  select (andi (cmpi .ne (signi I) (broadcastInDim S16x300 ![] bcast_S_S16x300 (signi (id (constantI S_ 32 80#32))))) (cmpi .ne (Host.remsi I (broadcastInDim S16x300 ![] bcast_S_S16x300 (id (constantI S_ 32 80#32)))) (broadcastInDim S16x300 ![] bcast_S_S16x300 (constantI S_ 32 0#32)))) (subi (Host.divsi I (broadcastInDim S16x300 ![] bcast_S_S16x300 (id (constantI S_ 32 80#32)))) (broadcastInDim S16x300 ![] bcast_S_S16x300 (constantI S_ 32 1#32))) (Host.divsi I (broadcastInDim S16x300 ![] bcast_S_S16x300 (id (constantI S_ 32 80#32))))

/-- The labels of the places. -/
def refL (I : IVec S16x300 32) : IVec S16x300 32 :=
  subi I (muli (refQ I) (broadcastInDim S16x300 ![] bcast_S_S16x300 (constantI S_ 32 80#32)))

/-- The rows the boxes are taken from. -/
def refWb (Q : IVec S16x300 32) : IVec S16x300x1 32 :=
  select (cmpi .slt (broadcastInDim S16x300x1 ![0, 1] bcast_S16x300_S16x300x1_0_1 Q) (broadcastInDim S16x300x1 ![] bcast_S_S16x300x1 (constantI S_ 32 0#32))) (addi (broadcastInDim S16x300x1 ![0, 1] bcast_S16x300_S16x300x1_0_1 Q) (broadcastInDim S16x300x1 ![] bcast_S_S16x300x1 (constantI S_ 32 20000#32))) (broadcastInDim S16x300x1 ![0, 1] bcast_S16x300_S16x300x1_0_1 Q)

/-- The rows the keypoints are taken from. -/
def refWk (Q : IVec S16x300 32) : IVec S16x300x1 32 :=
  shapeCast _ (select (cmpi .slt (broadcastInDim S16x300x1x1 ![0, 1] bcast_S16x300_S16x300x1x1_0_1 Q) (broadcastInDim S16x300x1x1 ![] bcast_S_S16x300x1x1 (constantI S_ 32 0#32))) (addi (broadcastInDim S16x300x1x1 ![0, 1] bcast_S16x300_S16x300x1x1_0_1 Q) (broadcastInDim S16x300x1x1 ![] bcast_S_S16x300x1x1 (constantI S_ 32 20000#32))) (broadcastInDim S16x300x1x1 ![0, 1] bcast_S16x300_S16x300x1x1_0_1 Q)) shapeCasts_S16x300x1x1_S16x300x1

/-- Whether a row is in range. -/
def refM (W : IVec S16x300x1 32) : IVec S16x300 1 :=
  Host.reduce IntOp.andi (andi (cmpi .sge W (broadcastInDim S16x300x1 ![] bcast_S_S16x300x1 (constantI S_ 32 0#32))) (cmpi .sle W (broadcastInDim S16x300x1 ![0, 1, 2] bcast_S1x1x1_S16x300x1_0_1_2 (broadcastInDim S1x1x1 ![2] bcast_S1_S1x1x1_2 (constantI S1 32 19999#32))))) (constantI S_ 1 1#1) reducesTo_S16x300x1_S16x300_d2 h_S_

/-- The boxes' corners. -/
def refB (x1 : FVec Ideal S16x20000x4 .f32) : FVec Ideal S16x20000x4 .f32 :=
  concatenate S16x20000x4 2 [⟨S16x20000x2, (subf (extractStridedSlice S16x20000x2 ![0, 0, 0] x1 slices_S16x20000x4_S16x20000x2_0_0_0) (Host.divf (extractStridedSlice S16x20000x2 ![0, 0, 2] x1 slices_S16x20000x4_S16x20000x2_0_0_2) (broadcastInDim S16x20000x2 ![] bcast_S_S16x20000x2 (constant S_ .f32 0x40000000#32))))⟩, ⟨S16x20000x2, (addf (extractStridedSlice S16x20000x2 ![0, 0, 0] x1 slices_S16x20000x4_S16x20000x2_0_0_0) (Host.divf (extractStridedSlice S16x20000x2 ![0, 0, 2] x1 slices_S16x20000x4_S16x20000x2_0_0_2) (broadcastInDim S16x20000x2 ![] bcast_S_S16x20000x2 (constant S_ .f32 0x40000000#32))))⟩] concatenates_S16x20000x2_S16x20000x2_S16x20000x4_d2

/-- The boxes returned. -/
def refBox (x1 : FVec Ideal S16x20000x4 .f32) (I : IVec S16x300 32) : FVec Ideal S16x300x4 .f32 :=
  select (broadcastInDim S16x300x4 ![0, 1] bcast_S16x300_S16x300x4_0_1 (refM (refWb (refQ I)))) (Host.gather gather_S16x20000x4_S16x300x1_S16x300x4_2_1_0_0_1_2_114 (refB x1) (refWb (refQ I))) (broadcastInDim S16x300x4 ![] bcast_S_S16x300x4 (constant S_ .f32 0x7FC00000#32))

/-- The keypoints returned. -/
def refKpt (x2 : FVec Ideal S16x20000x17x2 .f32) (I : IVec S16x300 32) : FVec Ideal S16x300x17x2 .f32 :=
  select (broadcastInDim S16x300x17x2 ![0, 1] bcast_S16x300_S16x300x17x2_0_1 (refM (refWk (refQ I)))) (Host.gather gather_S16x20000x17x2_S16x300x1_S16x300x17x2_23_1_0_0_1_2_11172 x2 (refWk (refQ I))) (broadcastInDim S16x300x17x2 ![] bcast_S_S16x300x17x2 (constant S_ .f32 0x7FC00000#32))

section
variable (m : (ℓ : Loc nD τ sig) → Buf (Elt Ideal) ℓ) (c : Dev nD)

theorem box_term : Cert.ReferenceIdeal.Value.res_main_v22 (F := Ideal) m c
    = refBox (m ((c.tc : Thread nD τ).loc main_arg1)) (refT (m ((c.tc : Thread nD τ).loc main_arg0))).2 := by
  unfold Cert.ReferenceIdeal.Value.res_main_v22
  rfl

theorem kpt_term : Cert.ReferenceIdeal.Value.res_main_v24 (F := Ideal) m c
    = refKpt (m ((c.tc : Thread nD τ).loc main_arg2)) (refT (m ((c.tc : Thread nD τ).loc main_arg0))).2 := by
  unfold Cert.ReferenceIdeal.Value.res_main_v24
  rfl

/-- The reference's run, its results named. -/
theorem run_named (ρ : Dev nD → PrngReg) :
    θ_run (Cert.ReferenceIdeal.defs (F := Ideal)) (onTc (τ := τ) (main (F := Ideal))) ⟨m, fun _ => 0, ρ⟩ fun r => ∀ c : Dev nD,
      (r.2.mem ((c.tc : Thread nD τ).loc main_v19) = refL (refT (m ((c.tc : Thread nD τ).loc main_arg0))).2
      ∧ r.2.mem ((c.tc : Thread nD τ).loc main_v22) = refBox (m ((c.tc : Thread nD τ).loc main_arg1)) (refT (m ((c.tc : Thread nD τ).loc main_arg0))).2
      ∧ r.2.mem ((c.tc : Thread nD τ).loc main_values) = (refT (m ((c.tc : Thread nD τ).loc main_arg0))).1
      ∧ r.2.mem ((c.tc : Thread nD τ).loc main_v24) = refKpt (m ((c.tc : Thread nD τ).loc main_arg2)) (refT (m ((c.tc : Thread nD τ).loc main_arg0))).2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (Cert.ReferenceIdeal.defs (F := Ideal)) _ _).mono (fun _ h c => ⟨⟨(h c).1, (h c).2.1.trans (box_term m c), (h c).2.2.1, (h c).2.2.2.1.trans (kpt_term m c)⟩, (h c).2.2.2.2⟩)
    (Cert.ReferenceIdeal.Value.run (F := Ideal) m ρ)

end

/-! ### The values -/

theorem div_two (y : EReal) : Ideal.div y (Ideal.ofBits .f32 0x40000000#32) = y * half := by
  have h2 : Ideal.ofBits .f32 0x40000000#32 = ((2 : ℝ) : EReal) := by
    simp [Ideal.ofBits, Ideal.ieee, -EReal.coe_mul]
    norm_num
  have hh : half = ((2⁻¹ : ℝ) : EReal) := by
    show Ideal.ofBits .f32 0x3F000000#32 = _
    simp [Ideal.ofBits, Ideal.ieee, -EReal.coe_mul]
    norm_num
  have h0 : ((2 : ℝ) : EReal) ≠ 0 := by
    norm_num
  rw [h2, hh, Ideal.div, if_neg h0, EReal.coe_inv]

/-- The scores are the scores of the logits. -/
theorem P_val (x0 : FVec Ideal S16x20000x80 .f32) {b n : ℕ} (hb : b < 16) (hn : n < 1600000) :
    refP x0 (ix2 16 1600000 b n) = sgOf (x0 (ix3 16 20000 80 b (n / 80) (n % 80))) := by
  have h1 : n / 80 < 20000 := by omega
  have h2 : n % 80 < 80 := by omega
  refine (shapeCast_apply _ shapeCasts_S16x20000x80_S16x1600000 (ix2 16 1600000 b n) (ix3 16 20000 80 b (n / 80) (n % 80)) ?_).trans ?_
  · refine (Shape.rowMajor_val_three _).trans ((Eq.trans ?_ (Shape.rowMajor_val_two _).symm))
    rw [ix3_0 hb, ix3_1 h1, ix3_2 h2, ix2_val0 hb, ix2_val1 hn]
    show (b * 20000 + n / 80) * 80 + n % 80 = b * 1600000 + n
    omega
  · rw [sgOf_eq, zero_sub]
    show Ideal.div (Ideal.ofBits .f32 0x3F800000#32) (Ideal.ofBits .f32 0x3F800000#32 + Ideal.exp (- x0 (ix3 16 20000 80 b (n / 80) (n % 80)))) = _
    rw [one_bits]

theorem num_lt {n : ℕ} (hn : n < 1600000) : (BitVec.ofNat 32 n).toNat = n := by
  rw [BitVec.toNat_ofNat]
  omega

theorem msb_num {n : ℕ} (hn : n < 1600000) : (BitVec.ofNat 32 n).msb = false := by
  rw [BitVec.msb_eq_false_iff_two_mul_lt, num_lt hn]
  omega

theorem corner80 (x : BitVec 32) : ¬ IntOp.SDivCorner x 80#32 := by
  unfold IntOp.SDivCorner
  rintro (h | h)
  · exact absurd h (by decide)
  · exact absurd h.2 (by decide)

theorem div80 {n : ℕ} (hn : n < 1600000) : IntOp.divsi .host (BitVec.ofNat 32 n) 80#32 = BitVec.ofNat 32 (n / 80) := by
  rw [IntOp.divsi, if_neg (corner80 _), BitVec.sdiv_eq, msb_num hn]
  show BitVec.ofNat 32 n / 80#32 = _
  refine BitVec.eq_of_toNat_eq ?_
  rw [BitVec.toNat_udiv, num_lt hn, num_lt (n := n / 80) (by omega)]
  rfl

theorem rem80 {n : ℕ} (hn : n < 1600000) : IntOp.remsi .host (BitVec.ofNat 32 n) 80#32 = BitVec.ofNat 32 (n % 80) := by
  rw [IntOp.remsi, if_neg (corner80 _), BitVec.srem_eq, msb_num hn]
  show BitVec.ofNat 32 n % 80#32 = _
  refine BitVec.eq_of_toNat_eq ?_
  rw [BitVec.toNat_umod, num_lt hn, num_lt (n := n % 80) (by omega)]
  rfl

theorem fdiv {n : ℕ} (hn : n < 1600000) :
    Scalar.select (IntOp.andi (IntOp.cmpi (w := 32) .ne (if BitVec.ofNat 32 n = 0 then 0 else if (BitVec.ofNat 32 n).msb then -1 else 1) (if (80#32 : BitVec 32) = 0 then 0 else if (80#32 : BitVec 32).msb then -1 else 1))
        (IntOp.cmpi .ne (IntOp.remsi .host (BitVec.ofNat 32 n) 80#32) 0#32))
      (IntOp.subi (IntOp.divsi .host (BitVec.ofNat 32 n) 80#32) 1#32) (IntOp.divsi .host (BitVec.ofNat 32 n) 80#32) = BitVec.ofNat 32 (n / 80) := by
  have hz : IntOp.andi (IntOp.cmpi (w := 32) .ne (if BitVec.ofNat 32 n = 0 then 0 else if (BitVec.ofNat 32 n).msb then -1 else 1) (if (80#32 : BitVec 32) = 0 then 0 else if (80#32 : BitVec 32).msb then -1 else 1))
        (IntOp.cmpi .ne (IntOp.remsi .host (BitVec.ofNat 32 n) 80#32) 0#32) = 0#1 := by
    rw [rem80 hn, msb_num hn, show (if (80#32 : BitVec 32) = 0 then 0 else if (80#32 : BitVec 32).msb then -1 else 1) = (1#32 : BitVec 32) by decide]
    by_cases h : n = 0
    · subst h
      decide
    · have h' : BitVec.ofNat 32 n ≠ 0 := fun e => h ((num_lt hn).symm.trans (congrArg BitVec.toNat e))
      rw [if_neg h']
      show (0#1 : BitVec 1) &&& _ = _
      exact BitVec.zero_and
  rw [hz, div80 hn]
  rfl

theorem Q_val {I : IVec S16x300 32} {j : S16x300.Idx} {n : ℕ} (hn : n < 1600000) (h : I j = BitVec.ofNat 32 n) : refQ I j = BitVec.ofNat 32 (n / 80) := by
  have e := fdiv hn
  rw [← h] at e
  exact e

theorem L_val {I : IVec S16x300 32} {j : S16x300.Idx} {n : ℕ} (hn : n < 1600000) (h : I j = BitVec.ofNat 32 n) : refL I j = BitVec.ofNat 32 (n % 80) := by
  show I j - refQ I j * 80#32 = _
  rw [Q_val hn h, h]
  refine BitVec.eq_of_toNat_eq ?_
  simp only [BitVec.toNat_sub, BitVec.toNat_mul, BitVec.toNat_ofNat]
  omega

theorem wrap {q : ℕ} (hq : q < 20000) (a : BitVec 32) : Scalar.select (IntOp.cmpi .slt (BitVec.ofNat 32 q) 0#32) a (BitVec.ofNat 32 q) = BitVec.ofNat 32 q := by
  have hz : IntOp.cmpi .slt (BitVec.ofNat 32 q) 0#32 = 0#1 := by
    show BitVec.ofBool ((BitVec.ofNat 32 q).slt 0#32) = _
    have : (BitVec.ofNat 32 q).slt 0#32 = false := by
      rw [BitVec.slt_eq_decide]
      refine decide_eq_false (not_lt.2 ?_)
      rw [BitVec.toInt_eq_toNat_of_msb (msb_num (n := q) (by omega))]
      exact Int.natCast_nonneg _
    rw [this]
    rfl
  rw [hz]
  rfl

theorem inside {q : ℕ} (hq : q < 20000) : IntOp.andi (IntOp.cmpi .sge (BitVec.ofNat 32 q) 0#32) (IntOp.cmpi .sle (BitVec.ofNat 32 q) 19999#32) = 1#1 := by
  have hi : (BitVec.ofNat 32 q).toInt = (q : ℤ) := by
    rw [BitVec.toInt_eq_toNat_of_msb (msb_num (by omega)), num_lt (by omega)]
  have h1 : (0#32).sle (BitVec.ofNat 32 q) = true := by
    rw [BitVec.sle_eq_decide, hi]
    exact decide_eq_true (Int.natCast_nonneg _)
  have h2 : (BitVec.ofNat 32 q).sle 19999#32 = true := by
    rw [BitVec.sle_eq_decide, hi]
    refine decide_eq_true ?_
    show (q : ℤ) ≤ 19999
    omega
  show BitVec.ofBool ((0#32).sle (BitVec.ofNat 32 q)) &&& BitVec.ofBool ((BitVec.ofNat 32 q).sle 19999#32) = _
  rw [h1, h2]
  rfl

theorem Wb_val {Q : IVec S16x300 32} (i : S16x300x1.Idx) {q : ℕ} (hq : q < 20000)
    (h : Q (ix2 16 300 (i (0 : Fin 3)).val (i (1 : Fin 3)).val) = BitVec.ofNat 32 q) : refWb Q i = BitVec.ofNat 32 q := by
  have e : broadcastInDim S16x300x1 ![0, 1] bcast_S16x300_S16x300x1_0_1 Q i = BitVec.ofNat 32 q := by
    refine (broadcastInDim_apply _ _ Q i (ix2 16 300 (i (0 : Fin 3)).val (i (1 : Fin 3)).val) fun a => ?_).trans h
    match a with
    | ⟨0, _⟩ => exact ix2_val0 (i (0 : Fin 3)).isLt
    | ⟨1, _⟩ => exact ix2_val1 (i (1 : Fin 3)).isLt
  have w := wrap hq (IntOp.addi (BitVec.ofNat 32 q) 20000#32)
  rw [← e] at w
  exact w.trans e

theorem Wk_val {Q : IVec S16x300 32} (i : S16x300x1.Idx) {q : ℕ} (hq : q < 20000)
    (h : Q (ix2 16 300 (i (0 : Fin 3)).val (i (1 : Fin 3)).val) = BitVec.ofNat 32 q) : refWk Q i = BitVec.ofNat 32 q := by
  have h0 : (i (0 : Fin 3)).val < 16 := (i (0 : Fin 3)).isLt
  have h1 : (i (1 : Fin 3)).val < 300 := (i (1 : Fin 3)).isLt
  have h2 : (i (2 : Fin 3)).val < 1 := (i (2 : Fin 3)).isLt
  have e : broadcastInDim S16x300x1x1 ![0, 1] bcast_S16x300_S16x300x1x1_0_1 Q (ix4 16 300 1 1 (i (0 : Fin 3)).val (i (1 : Fin 3)).val 0 0) = BitVec.ofNat 32 q := by
    refine (broadcastInDim_apply _ _ Q _ (ix2 16 300 (i (0 : Fin 3)).val (i (1 : Fin 3)).val) fun a => ?_).trans h
    match a with
    | ⟨0, _⟩ => exact (ix2_val0 h0).trans (ix4_0 h0).symm
    | ⟨1, _⟩ => exact (ix2_val1 h1).trans (ix4_1 h1).symm
  have w := wrap hq (IntOp.addi (BitVec.ofNat 32 q) 20000#32)
  rw [← e] at w
  refine (shapeCast_apply _ shapeCasts_S16x300x1x1_S16x300x1 i (ix4 16 300 1 1 (i (0 : Fin 3)).val (i (1 : Fin 3)).val 0 0) ?_).trans (w.trans e)
  refine (Shape.rowMajor_val_four _).trans (Eq.trans ?_ (Shape.rowMajor_val_three _).symm)
  rw [ix4_0 h0, ix4_1 h1, ix4_2 Nat.one_pos, ix4_3 Nat.one_pos]
  show (((i (0 : Fin 3)).val * 300 + (i (1 : Fin 3)).val) * 1 + 0) * 1 + 0 = ((i (0 : Fin 3)).val * 300 + (i (1 : Fin 3)).val) * 1 + (i (2 : Fin 3)).val
  omega

theorem M_val {W : IVec S16x300x1 32} (h : ∀ i, ∃ q < 20000, W i = BitVec.ofNat 32 q) (j : S16x300.Idx) : refM W j = 1#1 := by
  refine Host.reduce_andi_one _ _ _ _ j rfl fun i => ?_
  obtain ⟨q, hq, e⟩ := h i
  have w := inside hq
  rw [← e] at w
  exact w

/-! ### The rows taken -/

theorem gather_box {α : Type} (x : S16x20000x4.Idx → α) (idx : IVec S16x300x1 32) (j : S16x300x4.Idx) (k : S16x20000x4.Idx) {q : ℕ} (hq : q < 20000)
    (hi : ∀ i : S16x300x1.Idx, (i (0 : Fin 3)).val = (j (0 : Fin 3)).val → (i (1 : Fin 3)).val = (j (1 : Fin 3)).val → idx i = BitVec.ofNat 32 q)
    (k0 : (k (0 : Fin 3)).val = (j (0 : Fin 3)).val) (k1 : (k (1 : Fin 3)).val = q) (k2 : (k (2 : Fin 3)).val = (j (2 : Fin 3)).val) :
    Host.gather gather_S16x20000x4_S16x300x1_S16x300x4_2_1_0_0_1_2_114 x idx j = x k := by
  let D : GatherDims S16x20000x4 S16x300x1 S16x300x4 := gather_S16x20000x4_S16x300x1_S16x300x4_2_1_0_0_1_2_114
  unfold Host.gather
  refine congrArg x (funext fun a => Fin.ext ?_)
  match a with
  | ⟨0, _⟩ =>
    show D.start j idx (0 : Fin 3) + D.batchCoord j (0 : Fin 3) + D.offCoord j (0 : Fin 3) = (k (0 : Fin 3)).val
    have s : D.start j idx (0 : Fin 3) = 0 := D.start_batching j idx _ (List.mem_singleton.mpr rfl)
    have o : D.offCoord j (0 : Fin 3) = 0 := D.offCoord_eq_zero j _ fun h => ((D.mem_sKept _).mp h).2 (List.mem_singleton.mpr rfl)
    have b : D.batchCoord j (0 : Fin 3) = (j (0 : Fin 3)).val := dif_pos (List.mem_singleton.mpr rfl)
    rw [s, o, b, k0, Nat.zero_add, Nat.add_zero]
  | ⟨1, _⟩ =>
    show D.start j idx (1 : Fin 3) + D.batchCoord j (1 : Fin 3) + D.offCoord j (1 : Fin 3) = (k (1 : Fin 3)).val
    have s : D.start j idx (1 : Fin 3) = min (BitVec.ofNat 32 q).toInt.toNat (20000 - 1) :=
      (dif_pos (List.mem_singleton.mpr rfl)).trans (congrArg (fun v : BitVec 32 => min v.toInt.toNat (20000 - 1)) (hi _ rfl rfl))
    have o : D.offCoord j (1 : Fin 3) = 0 := D.offCoord_eq_zero j _ fun h => ((D.mem_sKept _).mp h).1 (List.mem_singleton.mpr rfl)
    have b : D.batchCoord j (1 : Fin 3) = 0 := D.batchCoord_eq_zero j _ fun h => absurd (List.mem_singleton.mp h) (show (1 : Fin 3) ≠ 0 by decide)
    rw [s, o, b, k1, Nat.add_zero, BitVec.toInt_eq_toNat_of_msb (msb_num (by omega)), num_lt (by omega), Int.toNat_natCast]
    omega
  | ⟨2, _⟩ =>
    show D.start j idx (2 : Fin 3) + D.batchCoord j (2 : Fin 3) + D.offCoord j (2 : Fin 3) = (k (2 : Fin 3)).val
    have h1 : (2 : Fin 3) ∉ D.startIndexMap := fun h => absurd (List.mem_singleton.mp h) (show (2 : Fin 3) ≠ 1 by decide)
    have h0 : (2 : Fin 3) ∉ D.operandBatchingDims := fun h => absurd (List.mem_singleton.mp h) (show (2 : Fin 3) ≠ 0 by decide)
    have s : D.start j idx (2 : Fin 3) = 0 := dif_neg h1
    have b : D.batchCoord j (2 : Fin 3) = 0 := D.batchCoord_eq_zero j _ h0
    have o : D.offCoord j (2 : Fin 3) = (j (2 : Fin 3)).val := dif_pos ((D.mem_sKept _).mpr ⟨h1, h0⟩)
    rw [s, o, b, k2, Nat.zero_add]

theorem gather_kpt {α : Type} (x : S16x20000x17x2.Idx → α) (idx : IVec S16x300x1 32) (j : S16x300x17x2.Idx) (k : S16x20000x17x2.Idx) {q : ℕ} (hq : q < 20000)
    (hi : ∀ i : S16x300x1.Idx, (i (0 : Fin 3)).val = (j (0 : Fin 4)).val → (i (1 : Fin 3)).val = (j (1 : Fin 4)).val → idx i = BitVec.ofNat 32 q)
    (k0 : (k (0 : Fin 4)).val = (j (0 : Fin 4)).val) (k1 : (k (1 : Fin 4)).val = q) (k2 : (k (2 : Fin 4)).val = (j (2 : Fin 4)).val) (k3 : (k (3 : Fin 4)).val = (j (3 : Fin 4)).val) :
    Host.gather gather_S16x20000x17x2_S16x300x1_S16x300x17x2_23_1_0_0_1_2_11172 x idx j = x k := by
  let D : GatherDims S16x20000x17x2 S16x300x1 S16x300x17x2 := gather_S16x20000x17x2_S16x300x1_S16x300x17x2_23_1_0_0_1_2_11172
  unfold Host.gather
  refine congrArg x (funext fun a => Fin.ext ?_)
  match a with
  | ⟨0, _⟩ =>
    show D.start j idx (0 : Fin 4) + D.batchCoord j (0 : Fin 4) + D.offCoord j (0 : Fin 4) = (k (0 : Fin 4)).val
    have s : D.start j idx (0 : Fin 4) = 0 := D.start_batching j idx _ (List.mem_singleton.mpr rfl)
    have o : D.offCoord j (0 : Fin 4) = 0 := D.offCoord_eq_zero j _ fun h => ((D.mem_sKept _).mp h).2 (List.mem_singleton.mpr rfl)
    have b : D.batchCoord j (0 : Fin 4) = (j (0 : Fin 4)).val := dif_pos (List.mem_singleton.mpr rfl)
    rw [s, o, b, k0, Nat.zero_add, Nat.add_zero]
  | ⟨1, _⟩ =>
    show D.start j idx (1 : Fin 4) + D.batchCoord j (1 : Fin 4) + D.offCoord j (1 : Fin 4) = (k (1 : Fin 4)).val
    have s : D.start j idx (1 : Fin 4) = min (BitVec.ofNat 32 q).toInt.toNat (20000 - 1) :=
      (dif_pos (List.mem_singleton.mpr rfl)).trans (congrArg (fun v : BitVec 32 => min v.toInt.toNat (20000 - 1)) (hi _ rfl rfl))
    have o : D.offCoord j (1 : Fin 4) = 0 := D.offCoord_eq_zero j _ fun h => ((D.mem_sKept _).mp h).1 (List.mem_singleton.mpr rfl)
    have b : D.batchCoord j (1 : Fin 4) = 0 := D.batchCoord_eq_zero j _ fun h => absurd (List.mem_singleton.mp h) (show (1 : Fin 4) ≠ 0 by decide)
    rw [s, o, b, k1, Nat.add_zero, BitVec.toInt_eq_toNat_of_msb (msb_num (by omega)), num_lt (by omega), Int.toNat_natCast]
    omega
  | ⟨2, _⟩ =>
    show D.start j idx (2 : Fin 4) + D.batchCoord j (2 : Fin 4) + D.offCoord j (2 : Fin 4) = (k (2 : Fin 4)).val
    have h1 : (2 : Fin 4) ∉ D.startIndexMap := fun h => absurd (List.mem_singleton.mp h) (show (2 : Fin 4) ≠ 1 by decide)
    have h0 : (2 : Fin 4) ∉ D.operandBatchingDims := fun h => absurd (List.mem_singleton.mp h) (show (2 : Fin 4) ≠ 0 by decide)
    have s : D.start j idx (2 : Fin 4) = 0 := dif_neg h1
    have b : D.batchCoord j (2 : Fin 4) = 0 := D.batchCoord_eq_zero j _ h0
    have o : D.offCoord j (2 : Fin 4) = (j (2 : Fin 4)).val := dif_pos ((D.mem_sKept _).mpr ⟨h1, h0⟩)
    rw [s, o, b, k2, Nat.zero_add]
  | ⟨3, _⟩ =>
    show D.start j idx (3 : Fin 4) + D.batchCoord j (3 : Fin 4) + D.offCoord j (3 : Fin 4) = (k (3 : Fin 4)).val
    have h1 : (3 : Fin 4) ∉ D.startIndexMap := fun h => absurd (List.mem_singleton.mp h) (show (3 : Fin 4) ≠ 1 by decide)
    have h0 : (3 : Fin 4) ∉ D.operandBatchingDims := fun h => absurd (List.mem_singleton.mp h) (show (3 : Fin 4) ≠ 0 by decide)
    have s : D.start j idx (3 : Fin 4) = 0 := dif_neg h1
    have b : D.batchCoord j (3 : Fin 4) = 0 := D.batchCoord_eq_zero j _ h0
    have o : D.offCoord j (3 : Fin 4) = (j (3 : Fin 4)).val := dif_pos ((D.mem_sKept _).mpr ⟨h1, h0⟩)
    rw [s, o, b, k3, Nat.zero_add]

/-- The corners of a box. -/
theorem B_val (x1 : FVec Ideal S16x20000x4 .f32) {b q f : ℕ} (hb : b < 16) (hq : q < 20000) (hf : f < 4) :
    refB x1 (ix3 16 20000 4 b q f) = if f < 2 then x1 (ix3 16 20000 4 b q f) - x1 (ix3 16 20000 4 b q ((f + 2) % 4)) * half
      else x1 (ix3 16 20000 4 b q ((f + 2) % 4)) + x1 (ix3 16 20000 4 b q f) * half := by
  have cut0 : ∀ g < 2, extractStridedSlice S16x20000x2 ![0, 0, 0] x1 slices_S16x20000x4_S16x20000x2_0_0_0 (ix3 16 20000 2 b q g) = x1 (ix3 16 20000 4 b q g) := by
    intro g hg
    refine extractStridedSlice_apply _ x1 _ _ _ fun a => ?_
    match a with
    | ⟨0, _⟩ => exact (ix3_0 hb).trans ((Nat.zero_add _).symm.trans (congrArg (0 + ·) (ix3_0 hb).symm))
    | ⟨1, _⟩ => exact (ix3_1 hq).trans ((Nat.zero_add _).symm.trans (congrArg (0 + ·) (ix3_1 hq).symm))
    | ⟨2, _⟩ => exact (ix3_2 (show g < 4 by omega)).trans ((Nat.zero_add _).symm.trans (congrArg (0 + ·) (ix3_2 hg).symm))
  have cut2 : ∀ g < 2, extractStridedSlice S16x20000x2 ![0, 0, 2] x1 slices_S16x20000x4_S16x20000x2_0_0_2 (ix3 16 20000 2 b q g) = x1 (ix3 16 20000 4 b q (2 + g)) := by
    intro g hg
    refine extractStridedSlice_apply _ x1 _ _ _ fun a => ?_
    match a with
    | ⟨0, _⟩ => exact (ix3_0 hb).trans ((Nat.zero_add _).symm.trans (congrArg (0 + ·) (ix3_0 hb).symm))
    | ⟨1, _⟩ => exact (ix3_1 hq).trans ((Nat.zero_add _).symm.trans (congrArg (0 + ·) (ix3_1 hq).symm))
    | ⟨2, _⟩ => exact (ix3_2 (show 2 + g < 4 by omega)).trans (congrArg (2 + ·) (ix3_2 hg).symm)
  let H : FVec Ideal S16x20000x2 .f32 := Host.divf (extractStridedSlice S16x20000x2 ![0, 0, 2] x1 slices_S16x20000x4_S16x20000x2_0_0_2) (broadcastInDim S16x20000x2 ![] bcast_S_S16x20000x2 (constant S_ .f32 0x40000000#32))
  let L : FVec Ideal S16x20000x2 .f32 := subf (extractStridedSlice S16x20000x2 ![0, 0, 0] x1 slices_S16x20000x4_S16x20000x2_0_0_0) H
  let R : FVec Ideal S16x20000x2 .f32 := addf (extractStridedSlice S16x20000x2 ![0, 0, 0] x1 slices_S16x20000x4_S16x20000x2_0_0_0) H
  show concatenate S16x20000x4 2 [⟨S16x20000x2, L⟩, ⟨S16x20000x2, R⟩] concatenates_S16x20000x2_S16x20000x2_S16x20000x4_d2 (ix3 16 20000 4 b q f) = _
  by_cases h : f < 2
  · rw [if_pos h]
    refine (concatenate_pair_apply_left (t := S16x20000x4) (s₁ := S16x20000x2) (s₂ := S16x20000x2) 2 L R concatenates_S16x20000x2_S16x20000x2_S16x20000x4_d2 (ix3 16 20000 4 b q f) rfl (ix3 16 20000 2 b q f) fun a => ?_).trans ?_
    · match a with
      | ⟨0, _⟩ => exact (ix3_0 hb).trans (ix3_0 hb).symm
      | ⟨1, _⟩ => exact (ix3_1 hq).trans (ix3_1 hq).symm
      | ⟨2, _⟩ => exact (ix3_2 h).trans (ix3_2 hf).symm
    · refine (congrArg₂ (fun u v : EReal => u - Ideal.div v (Ideal.ofBits .f32 0x40000000#32)) (cut0 f h) (cut2 f h)).trans ?_
      show x1 (ix3 16 20000 4 b q f) - Ideal.div (x1 (ix3 16 20000 4 b q (2 + f))) (Ideal.ofBits .f32 0x40000000#32) = _
      rw [div_two, show (f + 2) % 4 = 2 + f by omega]
  · rw [if_neg h]
    have h2 : f - 2 < 2 := by omega
    refine (concatenate_pair_apply_right (t := S16x20000x4) (s₁ := S16x20000x2) (s₂ := S16x20000x2) 2 L R concatenates_S16x20000x2_S16x20000x2_S16x20000x4_d2 (ix3 16 20000 4 b q f) rfl rfl (ix3 16 20000 2 b q (f - 2)) (fun a ha => ?_) ?_).trans ?_
    · match a, ha with
      | ⟨0, _⟩, _ => exact (ix3_0 hb).trans (ix3_0 hb).symm
      | ⟨1, _⟩, _ => exact (ix3_1 hq).trans (ix3_1 hq).symm
      | ⟨2, _⟩, ha => exact absurd rfl ha
    · refine (congrArg (· + 2) (ix3_2 h2)).trans (Eq.trans ?_ (ix3_2 hf).symm)
      omega
    · refine (congrArg₂ (fun u v : EReal => u + Ideal.div v (Ideal.ofBits .f32 0x40000000#32)) (cut0 (f - 2) h2) (cut2 (f - 2) h2)).trans ?_
      show x1 (ix3 16 20000 4 b q (f - 2)) + Ideal.div (x1 (ix3 16 20000 4 b q (2 + (f - 2)))) (Ideal.ofBits .f32 0x40000000#32) = _
      rw [div_two, show (f + 2) % 4 = f - 2 by omega, show 2 + (f - 2) = f by omega]

/-- The places, as numbers. -/
def Places (I : IVec S16x300 32) (U : ℕ → ℕ → ℕ) : Prop :=
  ∀ b < 16, ∀ k < 300, U b k < 1600000 ∧ I (ix2 16 300 b k) = BitVec.ofNat 32 (U b k)

section
variable {I : IVec S16x300 32} {U : ℕ → ℕ → ℕ}

theorem row_of (h : Places I U) (b k : ℕ) (hb : b < 16) (hk : k < 300) : refQ I (ix2 16 300 b k) = BitVec.ofNat 32 (U b k / 80) :=
  Q_val (h b hb k hk).1 (h b hb k hk).2

theorem box_val (h : Places I U) (x1 : FVec Ideal S16x20000x4 .f32) {b k f : ℕ} (hb : b < 16) (hk : k < 300) (hf : f < 4) :
    refBox x1 I (ix3 16 300 4 b k f) = refB x1 (ix3 16 20000 4 b (U b k / 80) f) := by
  have hW : ∀ i : S16x300x1.Idx, refWb (refQ I) i = BitVec.ofNat 32 (U (i (0 : Fin 3)).val (i (1 : Fin 3)).val / 80) := fun i =>
    Wb_val i (by have := (h _ (i (0 : Fin 3)).isLt _ (i (1 : Fin 3)).isLt).1; omega) (row_of h _ _ (i (0 : Fin 3)).isLt (i (1 : Fin 3)).isLt)
  have hq : U b k / 80 < 20000 := by have := (h b hb k hk).1; omega
  have hM : ∀ j, refM (refWb (refQ I)) j = 1#1 :=
    M_val fun i => ⟨_, by have := (h _ (i (0 : Fin 3)).isLt _ (i (1 : Fin 3)).isLt).1; omega, hW i⟩
  refine (congrArg (fun c : BitVec 1 => Scalar.select c _ _) (hM _)).trans ?_
  show Host.gather gather_S16x20000x4_S16x300x1_S16x300x4_2_1_0_0_1_2_114 (refB x1) (refWb (refQ I)) (ix3 16 300 4 b k f) = _
  refine gather_box _ _ _ _ hq (fun i e0 e1 => ?_) ((ix3_0 hb).trans (ix3_0 hb).symm) (ix3_1 hq) ((ix3_2 hf).trans (ix3_2 hf).symm)
  rw [hW, e0, e1, ix3_0 hb, ix3_1 hk]

theorem kpt_val (h : Places I U) (x2 : FVec Ideal S16x20000x17x2 .f32) {b k r e : ℕ} (hb : b < 16) (hk : k < 300) (hr : r < 17) (he : e < 2) :
    refKpt x2 I (ix4 16 300 17 2 b k r e) = x2 (ix4 16 20000 17 2 b (U b k / 80) r e) := by
  have hW : ∀ i : S16x300x1.Idx, refWk (refQ I) i = BitVec.ofNat 32 (U (i (0 : Fin 3)).val (i (1 : Fin 3)).val / 80) := fun i =>
    Wk_val i (by have := (h _ (i (0 : Fin 3)).isLt _ (i (1 : Fin 3)).isLt).1; omega) (row_of h _ _ (i (0 : Fin 3)).isLt (i (1 : Fin 3)).isLt)
  have hq : U b k / 80 < 20000 := by have := (h b hb k hk).1; omega
  have hM : ∀ j, refM (refWk (refQ I)) j = 1#1 :=
    M_val fun i => ⟨_, by have := (h _ (i (0 : Fin 3)).isLt _ (i (1 : Fin 3)).isLt).1; omega, hW i⟩
  refine (congrArg (fun c : BitVec 1 => Scalar.select c _ _) (hM _)).trans ?_
  show Host.gather gather_S16x20000x17x2_S16x300x1_S16x300x17x2_23_1_0_0_1_2_11172 x2 (refWk (refQ I)) (ix4 16 300 17 2 b k r e) = _
  refine gather_kpt _ _ _ _ hq (fun i e0 e1 => ?_) ((ix4_0 hb).trans (ix4_0 hb).symm) (ix4_1 hq) ((ix4_2 hr).trans (ix4_2 hr).symm) ((ix4_3 he).trans (ix4_3 he).symm)
  rw [hW, e0, e1, ix4_0 hb, ix4_1 hk]

end

end Cert.Proof.Ref

end
-- ==== Proof.Same.lean ====
/-
  The kernel returns what the reference returns.
-/
module

public import proofs.«01_k».proof.Proof.Rank
public import Idealize.ShloMosaic.Lib.Pipeline.ValueKit
public import Idealize.ShloMosaic.Lib.Pipeline.ArrRel
public import proofs.«01_k».proof.Proof.Count
public import proofs.«01_k».proof.Proof.Sort
public import proofs.«01_k».proof.Proof.RefVal
public import proofs.«01_k».proof.Proof.Gen.Pre_fits

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SortNet
open Idealize.ShloMosaic.TcCoe Idealize.ShloMosaic.Tactic
open Idealize.ShloMosaic.Pipeline (Dat RDat Cfg Window)

/-! ### The places -/

/-- The places the reference takes, image by image. -/
def Sorted (x0 : FVec Ideal Cert.ReferenceIdeal.S16x20000x80 .f32) (b : ℕ) (U : ℕ → ℕ) : Prop :=
  (∀ k < 1600000, U k < 1600000) ∧ (∀ i < 1600000, ∃ k < 1600000, U k = i) ∧
    (∀ i j, i < j → j < 1600000 → key (Ref.refP x0 (ix2 16 1600000 b (U j))) (BitVec.ofNat 32 (U j)) < key (Ref.refP x0 (ix2 16 1600000 b (U i))) (BitVec.ofNat 32 (U i))) ∧
    ∀ k < 300, (Ref.refT x0).1 (ix2 16 300 b k) = Ref.refP x0 (ix2 16 1600000 b (U k)) ∧ (Ref.refT x0).2 (ix2 16 300 b k) = BitVec.ofNat 32 (U k)

theorem ref_places (x0 : FVec Ideal Cert.ReferenceIdeal.S16x20000x80 .f32) : ∃ U : ℕ → ℕ → ℕ, ∀ b < 16, Sorted x0 b (U b) := by
  classical
  have h : ∀ b, ∃ U : ℕ → ℕ, b < 16 → Sorted x0 b U := fun b => by
    by_cases hb : b < 16
    · obtain ⟨U, hU⟩ := top_row (N := 1600000) (by norm_num) (by norm_num) (Ref.refP x0) Cert.ReferenceIdeal.Gen.sliceFits_S16x1600000_S16x300 b hb
      exact ⟨U, fun _ => hU⟩
    · exact ⟨fun _ => 0, fun h => absurd h hb⟩
  choose U hU using h
  exact ⟨U, fun b hb => hU b hb⟩

section
variable (m : (ℓ : Loc nD τ sig) → Buf (Elt Ideal) ℓ) (d : Dev nD)

/-- The kernel's first places are the reference's. -/
theorem first_places
    (h : Cert.Pre_fits.fn (F := Ideal) (m ((d : Thread nD τ).loc main_arg0)) (m ((d : Thread nD τ).loc main_arg1)) (m ((d : Thread nD τ).loc main_arg2)) = fun _ => 1#1)
    {b : ℕ} (hb : b < 16) {X : ℕ → BitVec 32} {s : ℕ → EReal} {A : Mem d} (hR : Res (gOf m d) b X s A) {U : ℕ → ℕ} (hU : Sorted (m ((d : Thread nD τ).loc main_arg0)) b U) :
    ∀ k < 300, X k = BitVec.ofNat 32 (U k) ∧ s k = Ref.refP (m ((d : Thread nD τ).loc main_arg0)) (ix2 16 1600000 b (U k)) := by
  obtain ⟨N, lg, hlg, hN, hO⟩ := hR.ord
  obtain ⟨T, hT1, hT2⟩ := many_of (m ((d : Thread nD τ).loc main_arg0)) b hb (parts _ _ _ h).1
  have hlg' : ∀ q < 20000, ∀ c < 80, lg q c = m ((d : Thread nD τ).loc main_arg0) (ix3 16 20000 80 b q c) := hlg
  obtain ⟨V, hV⟩ := firsts (mx_of m d hlg) (few_of m d h hb hlg) hN hO T hT1 (fun p hp => by
    obtain ⟨a1, a2, a3⟩ := hT2 p hp
    exact ⟨a1, a2, (hlg' _ a1 _ a2).symm ▸ a3⟩)
  obtain ⟨u1, u2, u3, -⟩ := hU
  have hs : ∀ n < 1600000, scoOf lg n = Ref.refP (m ((d : Thread nD τ).loc main_arg0)) (ix2 16 1600000 b n) := fun n hn => by
    rw [Ref.P_val _ hb hn, ← hlg' (n / 80) (by omega) (n % 80) (by omega)]
    rfl
  have hk : ∀ n < 1600000, kn lg n = key (Ref.refP (m ((d : Thread nD τ).loc main_arg0)) (ix2 16 1600000 b n)) (BitVec.ofNat 32 n) := fun n hn =>
    congrArg (fun v => key v (BitVec.ofNat 32 n)) (hs n hn)
  have e := firsts_eq (α := _) (M := 1600000) (κ := kn lg) (by norm_num) (fun k hk => (hV k hk).2) u1 u2 (fun i j hij hj => by
    rw [hk _ (u1 _ hj), hk _ (u1 _ (hij.trans hj))]
    exact u3 i j hij hj)
  intro k hk'
  have hUk : U k < 1600000 := u1 k (by omega)
  refine ⟨?_, ?_⟩
  · rw [(hV k hk').1.1, e k hk']
  · rw [(hV k hk').1.2, e k hk', hs _ hUk]

/-! ### The tables -/

theorem bx_val {b q f : ℕ} (hb : b < 16) (hq : q < 20000) (hf : f < 4) :
    (gOf m d).bx (625 * b + q / 32) ((4 * q + f) % 128) = m ((d : Thread nD τ).loc main_arg1) (ix3 16 20000 4 b q f) := by
  have h1 : 625 * b + q / 32 < 10000 := by omega
  have h2 : (4 * q + f) % 128 < 128 := Nat.mod_lt _ (by norm_num)
  refine shapeCast_apply _ shapeCasts_S16x20000x4_S10000x128 (ix2 10000 128 (625 * b + q / 32) ((4 * q + f) % 128)) (ix3 16 20000 4 b q f) ?_
  refine (Shape.rowMajor_val_three _).trans (Eq.trans ?_ (Shape.rowMajor_val_two _).symm)
  rw [ix3_0 hb, ix3_1 hq, ix3_2 hf, ix2_val0 h1, ix2_val1 h2]
  show (b * 20000 + q) * 4 + f = (625 * b + q / 32) * 128 + (4 * q + f) % 128
  omega

theorem kx_val {b q o : ℕ} (hb : b < 16) (hq : q < 20000) (ho : o < 34) :
    (gOf m d).kx ((kb b q + o) / 128) ((kb b q + o) % 128) = m ((d : Thread nD τ).loc main_arg2) (Ref.ix4 16 20000 17 2 b q (o / 2) (o % 2)) := by
  have hk : kb b q = 680000 * b + 34 * q := rfl
  rw [hk]
  have h1 : (680000 * b + 34 * q + o) / 128 < 85000 := by omega
  have h2 : (680000 * b + 34 * q + o) % 128 < 128 := Nat.mod_lt _ (by norm_num)
  refine shapeCast_apply _ shapeCasts_S16x20000x17x2_S85000x128 (ix2 85000 128 ((680000 * b + 34 * q + o) / 128) ((680000 * b + 34 * q + o) % 128)) (Ref.ix4 16 20000 17 2 b q (o / 2) (o % 2)) ?_
  refine (Shape.rowMajor_val_four _).trans (Eq.trans ?_ (Shape.rowMajor_val_two _).symm)
  rw [Ref.ix4_0 hb, Ref.ix4_1 hq, Ref.ix4_2 (by omega), Ref.ix4_3 (by omega), ix2_val0 h1, ix2_val1 h2]
  show ((b * 20000 + q) * 17 + o / 2) * 2 + o % 2 = (680000 * b + 34 * q + o) / 128 * 128 + (680000 * b + 34 * q + o) % 128
  omega

/-- A box of the kernel is the reference's. -/
theorem box_same {b q f : ℕ} (hb : b < 16) (hq : q < 20000) (hf : f < 4) :
    boxOf (gOf m d).bx b q f = Ref.refB (m ((d : Thread nD τ).loc main_arg1)) (ix3 16 20000 4 b q f) := by
  rw [Ref.B_val _ hb hq hf]
  unfold boxOf
  rw [bx_val m d hb hq hf, bx_val m d hb hq (show (f + 2) % 4 < 4 by omega)]

/-! ### The results -/

theorem cut2 {n M K : ℕ} [NeZero n] [NeZero M] [NeZero K] {α : Type} (x : (⟨2, ![n, M]⟩ : Shape).Idx → α) (h : (⟨2, ![n, M]⟩ : Shape).Slices ![0, 0] ⟨2, ![n, K]⟩)
    {b k : ℕ} (hb : b < n) (hk : k < K) (hk' : k < M) : extractStridedSlice ⟨2, ![n, K]⟩ ![0, 0] x h (ix2 n K b k) = x (ix2 n M b k) := by
  refine extractStridedSlice_apply _ x h _ _ fun a => ?_
  match a with
  | ⟨0, _⟩ => exact (ix2_val0 hb).trans ((Nat.zero_add _).symm.trans (congrArg (0 + ·) (ix2_val0 hb).symm))
  | ⟨1, _⟩ => exact (ix2_val1 hk').trans ((Nat.zero_add _).symm.trans (congrArg (0 + ·) (ix2_val1 hk).symm))

theorem nq_num {n : ℕ} (hn : n < 1600000) : nq (BitVec.ofNat 32 n).toNat = n / 80 := by
  rw [Ref.num_lt hn]
  show min (n / 80) 19999 = n / 80
  omega

/-- The kernel's results are the reference's terms. -/
theorem same
    (h : Cert.Pre_fits.fn (F := Ideal) (m ((d : Thread nD τ).loc main_arg0)) (m ((d : Thread nD τ).loc main_arg1)) (m ((d : Thread nD τ).loc main_arg2)) = fun _ => 1#1)
    {B : Mem d} (hB : Ends m d B) :
    (B (dr main_v5) : S16x300.Idx → BitVec 32) = Ref.refL (Ref.refT (m ((d : Thread nD τ).loc main_arg0))).2
    ∧ (B (dr main_v7) : S16x300x4.Idx → EReal) = Ref.refBox (m ((d : Thread nD τ).loc main_arg1)) (Ref.refT (m ((d : Thread nD τ).loc main_arg0))).2
    ∧ (B (dr main_v8) : S16x300.Idx → EReal) = (Ref.refT (m ((d : Thread nD τ).loc main_arg0))).1
    ∧ (B (dr main_v10) : S16x300x17x2.Idx → EReal) = Ref.refKpt (m ((d : Thread nD τ).loc main_arg2)) (Ref.refT (m ((d : Thread nD τ).loc main_arg0))).2 := by
  obtain ⟨A, hA, e5, e7, e8, e10⟩ := hB.out
  obtain ⟨U, hU⟩ := ref_places (m ((d : Thread nD τ).loc main_arg0))
  have hP : Ref.Places (Ref.refT (m ((d : Thread nD τ).loc main_arg0))).2 U := fun b hb k hk => ⟨(hU b hb).1 k (by omega), ((hU b hb).2.2.2 k hk).2⟩
  refine ⟨?_, ?_, ?_, ?_⟩
  · refine e5.trans (funext fun j => ?_)
    obtain ⟨b, k, hb, hk, rfl⟩ : ∃ b k, b < 16 ∧ k < 300 ∧ j = ix2 16 300 b k := ⟨_, _, (j (0 : Fin 2)).isLt, (j (1 : Fin 2)).isLt, eq_ix2 j⟩
    obtain ⟨X, s, hR⟩ := hA b hb
    refine (cut2 _ slices_S16x384_S16x300_0_0 hb hk (by omega)).trans ((hR.lab k (by omega)).trans ?_)
    rw [(first_places m d h hb hR (hU b hb) k hk).1, Ref.L_val (hP b hb k hk).1 (hP b hb k hk).2, Ref.num_lt (hP b hb k hk).1]
  · refine e7.trans (funext fun j => ?_)
    obtain ⟨b, k, f, hb, hk, hf, rfl⟩ : ∃ b k f, b < 16 ∧ k < 300 ∧ f < 4 ∧ j = ix3 16 300 4 b k f :=
      ⟨_, _, _, (j (0 : Fin 3)).isLt, (j (1 : Fin 3)).isLt, (j (2 : Fin 3)).isLt, eq_ix3 j rfl rfl rfl⟩
    obtain ⟨X, s, hR⟩ := hA b hb
    have hq : U b k / 80 < 20000 := by have := (hP b hb k hk).1; omega
    refine (shapeCast_apply _ shapeCasts_S16x1200_S16x300x4 (ix3 16 300 4 b k f) (ix2 16 1200 b (4 * k + f)) ?_).trans ?_
    · refine (Shape.rowMajor_val_two _).trans (Eq.trans ?_ (Shape.rowMajor_val_three _).symm)
      rw [ix3_0 hb, ix3_1 hk, ix3_2 hf, ix2_val0 hb, ix2_val1 (show 4 * k + f < 1200 by omega)]
      show b * 1200 + (4 * k + f) = (b * 300 + k) * 4 + f
      omega
    refine (cut2 _ slices_S16x1536_S16x1200_0_0 hb (show 4 * k + f < 1200 by omega) (by omega)).trans ((hR.box (4 * k + f) (by omega)).trans ?_)
    rw [show (4 * k + f) / 4 = k by omega, show (4 * k + f) % 4 = f by omega, (first_places m d h hb hR (hU b hb) k hk).1, nq_num (hP b hb k hk).1,
      box_same m d hb hq hf]
    exact (Ref.box_val hP _ hb hk hf).symm
  · refine e8.trans (funext fun j => ?_)
    obtain ⟨b, k, hb, hk, rfl⟩ : ∃ b k, b < 16 ∧ k < 300 ∧ j = ix2 16 300 b k := ⟨_, _, (j (0 : Fin 2)).isLt, (j (1 : Fin 2)).isLt, eq_ix2 j⟩
    obtain ⟨X, s, hR⟩ := hA b hb
    refine (cut2 _ slices_S16x384_S16x300_0_0 hb hk (by omega)).trans ((hR.sco k (by omega)).trans ?_)
    rw [(first_places m d h hb hR (hU b hb) k hk).2]
    exact ((hU b hb).2.2.2 k hk).1.symm
  · refine e10.trans (funext fun j => ?_)
    obtain ⟨b, k, r, e, hb, hk, hr, he, rfl⟩ : ∃ b k r e, b < 16 ∧ k < 300 ∧ r < 17 ∧ e < 2 ∧ j = Ref.ix4 16 300 17 2 b k r e :=
      ⟨_, _, _, _, (j (0 : Fin 4)).isLt, (j (1 : Fin 4)).isLt, (j (2 : Fin 4)).isLt, (j (3 : Fin 4)).isLt, Ref.eq_ix4 j⟩
    obtain ⟨X, s, hR⟩ := hA b hb
    have hq : U b k / 80 < 20000 := by have := (hP b hb k hk).1; omega
    refine (shapeCast_apply _ shapeCasts_S16x10200_S16x300x17x2 (Ref.ix4 16 300 17 2 b k r e) (ix2 16 10200 b (34 * k + (2 * r + e))) ?_).trans ?_
    · refine (Shape.rowMajor_val_two _).trans (Eq.trans ?_ (Shape.rowMajor_val_four _).symm)
      rw [Ref.ix4_0 hb, Ref.ix4_1 hk, Ref.ix4_2 hr, Ref.ix4_3 he, ix2_val0 hb, ix2_val1 (show 34 * k + (2 * r + e) < 10200 by omega)]
      show b * 10200 + (34 * k + (2 * r + e)) = ((b * 300 + k) * 17 + r) * 2 + e
      omega
    refine (cut2 _ slices_S16x13056_S16x10200_0_0 hb (show 34 * k + (2 * r + e) < 10200 by omega) (by omega)).trans ((hR.kpt (34 * k + (2 * r + e)) (by omega)).trans ?_)
    rw [show (34 * k + (2 * r + e)) / 34 = k by omega, show (34 * k + (2 * r + e)) % 34 = 2 * r + e by omega, (first_places m d h hb hR (hU b hb) k hk).1, nq_num (hP b hb k hk).1]
    unfold kptOf
    rw [kx_val m d hb hq (show 2 * r + e < 34 by omega), show (2 * r + e) / 2 = r by omega, show (2 * r + e) % 2 = e by omega]
    exact (Ref.kpt_val hP _ hb hk hr he).symm

end

end Cert.Proof.Ker

end
-- ==== Proof.Algebra.lean ====
/-
  The kernel and the reference return the same, over the reals.
-/
module

public import proofs.«01_k».proof.Defs
public import proofs.«01_k».proof.Proof.Same
public import proofs.«01_k».proof.Proof.Frame

@[expose] public section

noncomputable section

namespace Cert.Proof

open Idealize.ShloMosaic Idealize.ShloMosaic.TcCoe Idealize.SL.Sem
open Cert.Proof.Ker (same run_main good_of in_after)

/-- Under the condition the two programs end with equal results. -/
theorem algebraic : Cert.algebraic_KernelIdeal_ReferenceIdeal := by
  intro m g m' g' hpre harg
  refine ⟨fun c => Ref.refL (Ref.refT (m ((c.tc : Thread Cert.KernelIdeal.nD Cert.KernelIdeal.τ).loc Cert.KernelIdeal.main_arg0))).2,
    fun c => Ref.refBox (m ((c.tc : Thread Cert.KernelIdeal.nD Cert.KernelIdeal.τ).loc Cert.KernelIdeal.main_arg1)) (Ref.refT (m ((c.tc : Thread Cert.KernelIdeal.nD Cert.KernelIdeal.τ).loc Cert.KernelIdeal.main_arg0))).2,
    fun c => (Ref.refT (m ((c.tc : Thread Cert.KernelIdeal.nD Cert.KernelIdeal.τ).loc Cert.KernelIdeal.main_arg0))).1,
    fun c => Ref.refKpt (m ((c.tc : Thread Cert.KernelIdeal.nD Cert.KernelIdeal.τ).loc Cert.KernelIdeal.main_arg2)) (Ref.refT (m ((c.tc : Thread Cert.KernelIdeal.nD Cert.KernelIdeal.τ).loc Cert.KernelIdeal.main_arg0))).2, ?_, ?_⟩
  · refine (θ_run (Cert.KernelIdeal.defs (F := Ideal)) _ _).mono (fun r h c => ?_) (run_main m g fun d => good_of m d (hpre d))
    obtain ⟨B, hB, hm⟩ := h.1 c
    obtain ⟨s5, s7, s8, s10⟩ := same m c (hpre c) hB
    exact ⟨(hm Cert.KernelIdeal.main_v5 (in_after _ (by decide) (by decide))).trans s5, (hm Cert.KernelIdeal.main_v7 (in_after _ (by decide) (by decide))).trans s7,
      (hm Cert.KernelIdeal.main_v8 (in_after _ (by decide) (by decide))).trans s8, (hm Cert.KernelIdeal.main_v10 (in_after _ (by decide) (by decide))).trans s10,
      (hm Cert.KernelIdeal.main_arg0 (in_after _ (by decide) (by decide))).trans hB.a0, (hm Cert.KernelIdeal.main_arg1 (in_after _ (by decide) (by decide))).trans hB.a1,
      (hm Cert.KernelIdeal.main_arg2 (in_after _ (by decide) (by decide))).trans hB.a2⟩
  · refine (θ_run (Cert.ReferenceIdeal.defs (F := Ideal)) _ _).mono (fun r h c => ?_) (Ref.run_named m' g')
    obtain ⟨⟨h0, h1, h2, h3⟩, ha⟩ := h c
    obtain ⟨a0, a1, a2⟩ := harg c
    rw [a0] at h0 h1 h2 h3
    rw [a1] at h1
    rw [a2] at h3
    exact ⟨h0, h1, h2, h3, ha⟩

end Cert.Proof

end
-- ==== Proof.lean ====
module

public import proofs.«01_k».proof.Defs
public import proofs.«01_k».proof.Proof.Gen.KernelIdeal
public import proofs.«01_k».proof.Proof.Gen.ReferenceIdeal
public import proofs.«01_k».proof.Proof.Gen.Pre_fits
public import proofs.«01_k».proof.Proof.Frame
public import proofs.«01_k».proof.Proof.RefEnd
public import proofs.«01_k».proof.Proof.Algebra

@[expose] public section

noncomputable section

namespace Cert.Proof

theorem claim : Cert.Claim :=
  ⟨Cert.KernelIdeal.Gen.facts, Cert.ReferenceIdeal.Gen.facts, Cert.Pre_fits.Gen.facts, Ker.ker_frame, ref_frame, ref_frame_fits, algebraic⟩

end Cert.Proof

end
